-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDwAttn (m : (ℓ : Loc Cert.OutDwAttn.nD Cert.OutDwAttn.τ Cert.OutDwAttn.sig) → Buf (Elt Bits) ℓ) : Prop :=
  True

def Pre_OutDwAttnIdeal (m : (ℓ : Loc Cert.OutDwAttnIdeal.nD Cert.OutDwAttnIdeal.τ Cert.OutDwAttnIdeal.sig) → Buf (Elt Ideal) ℓ) : Prop :=
  True

def Pre_OutDwAttnRefIdeal (m : (ℓ : Loc Cert.OutDwAttnRefIdeal.nD Cert.OutDwAttnRefIdeal.τ Cert.OutDwAttnRefIdeal.sig) → Buf (Elt Ideal) ℓ) : Prop :=
  True

def Pre_OutDwSsd (m : (ℓ : Loc Cert.OutDwSsd.nD Cert.OutDwSsd.τ Cert.OutDwSsd.sig) → Buf (Elt Bits) ℓ) : Prop :=
  True

def Pre_OutDwSsdIdeal (m : (ℓ : Loc Cert.OutDwSsdIdeal.nD Cert.OutDwSsdIdeal.τ Cert.OutDwSsdIdeal.sig) → Buf (Elt Ideal) ℓ) : Prop :=
  True

def Pre_OutDwSsdRefIdeal (m : (ℓ : Loc Cert.OutDwSsdRefIdeal.nD Cert.OutDwSsdRefIdeal.τ Cert.OutDwSsdRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDwQ (m : (ℓ : Loc Cert.InDwQ.nD Cert.InDwQ.τ Cert.InDwQ.sig) → Buf (Elt Bits) ℓ) : Prop :=
  True

def Pre_InDwQIdeal (m : (ℓ : Loc Cert.InDwQIdeal.nD Cert.InDwQIdeal.τ Cert.InDwQIdeal.sig) → Buf (Elt Ideal) ℓ) : Prop :=
  True

def Pre_InDwQRefIdeal (m : (ℓ : Loc Cert.InDwQRefIdeal.nD Cert.InDwQRefIdeal.τ Cert.InDwQRefIdeal.sig) → Buf (Elt Ideal) ℓ) : Prop :=
  True

def Pre_InDwZ (m : (ℓ : Loc Cert.InDwZ.nD Cert.InDwZ.τ Cert.InDwZ.sig) → Buf (Elt Bits) ℓ) : Prop :=
  True

def Pre_InDwZIdeal (m : (ℓ : Loc Cert.InDwZIdeal.nD Cert.InDwZIdeal.τ Cert.InDwZIdeal.sig) → Buf (Elt Ideal) ℓ) : Prop :=
  True

def Pre_InDwZRefIdeal (m : (ℓ : Loc Cert.InDwZRefIdeal.nD Cert.InDwZRefIdeal.τ Cert.InDwZRefIdeal.sig) → Buf (Elt Ideal) ℓ) : Prop :=
  True

def Pre_InDwXbc (m : (ℓ : Loc Cert.InDwXbc.nD Cert.InDwXbc.τ Cert.InDwXbc.sig) → Buf (Elt Bits) ℓ) : Prop :=
  True

def Pre_InDwXbcIdeal (m : (ℓ : Loc Cert.InDwXbcIdeal.nD Cert.InDwXbcIdeal.τ Cert.InDwXbcIdeal.sig) → Buf (Elt Ideal) ℓ) : Prop :=
  True

def Pre_InDwXbcRefIdeal (m : (ℓ : Loc Cert.InDwXbcRefIdeal.nD Cert.InDwXbcRefIdeal.τ Cert.InDwXbcRefIdeal.sig) → Buf (Elt Ideal) ℓ) : Prop :=
  True

def Pre_InDwKv (m : (ℓ : Loc Cert.InDwKv.nD Cert.InDwKv.τ Cert.InDwKv.sig) → Buf (Elt Bits) ℓ) : Prop :=
  True

def Pre_InDwKvIdeal (m : (ℓ : Loc Cert.InDwKvIdeal.nD Cert.InDwKvIdeal.τ Cert.InDwKvIdeal.sig) → Buf (Elt Ideal) ℓ) : Prop :=
  True

def Pre_InDwKvRefIdeal (m : (ℓ : Loc Cert.InDwKvRefIdeal.nD Cert.InDwKvRefIdeal.τ Cert.InDwKvRefIdeal.sig) → Buf (Elt Ideal) ℓ) : Prop :=
  True

def Pre_InDwDt (m : (ℓ : Loc Cert.InDwDt.nD Cert.InDwDt.τ Cert.InDwDt.sig) → Buf (Elt Bits) ℓ) : Prop :=
  True

def Pre_InDwDtIdeal (m : (ℓ : Loc Cert.InDwDtIdeal.nD Cert.InDwDtIdeal.τ Cert.InDwDtIdeal.sig) → Buf (Elt Ideal) ℓ) : Prop :=
  True

def Pre_InDwDtRefIdeal (m : (ℓ : Loc Cert.InDwDtRefIdeal.nD Cert.InDwDtRefIdeal.τ Cert.InDwDtRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_GnFwd (m : (ℓ : Loc Cert.GnFwd.nD Cert.GnFwd.τ Cert.GnFwd.sig) → Buf (Elt Bits) ℓ) : Prop :=
  True

def Pre_GnFwdIdeal (m : (ℓ : Loc Cert.GnFwdIdeal.nD Cert.GnFwdIdeal.τ Cert.GnFwdIdeal.sig) → Buf (Elt Ideal) ℓ) : Prop :=
  True

def Pre_GnFwdRefIdeal (m : (ℓ : Loc Cert.GnFwdRefIdeal.nD Cert.GnFwdRefIdeal.τ Cert.GnFwdRefIdeal.sig) → Buf (Elt Ideal) ℓ) : Prop :=
  True

def Pre_GnBwd (m : (ℓ : Loc Cert.GnBwd.nD Cert.GnBwd.τ Cert.GnBwd.sig) → Buf (Elt Bits) ℓ) : Prop :=
  True

def Pre_GnBwdIdeal (m : (ℓ : Loc Cert.GnBwdIdeal.nD Cert.GnBwdIdeal.τ Cert.GnBwdIdeal.sig) → Buf (Elt Ideal) ℓ) : Prop :=
  True

def Pre_GnBwdRefIdeal (m : (ℓ : Loc Cert.GnBwdRefIdeal.nD Cert.GnBwdRefIdeal.τ Cert.GnBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDwAttn [hOutDwAttn : Cert.OutDwAttn.Facts] : Prop :=
  ∀ (m : (ℓ : Loc Cert.OutDwAttn.nD Cert.OutDwAttn.τ Cert.OutDwAttn.sig) → Buf (Elt Bits) ℓ) (g : Dev Cert.OutDwAttn.nD → PrngReg), Pre_OutDwAttn m →
    θ_run (Cert.OutDwAttn.defs (F := Bits)) (onTc (τ := Cert.OutDwAttn.τ) (Cert.OutDwAttn.main (F := Bits))) ⟨m, fun _ => 0, g⟩ (fun r => (∀ c : Dev Cert.OutDwAttn.nD,
      r.2.mem ((c.tc : Thread Cert.OutDwAttn.nD Cert.OutDwAttn.τ).loc Cert.OutDwAttn.main_arg0) = m ((c.tc : Thread Cert.OutDwAttn.nD Cert.OutDwAttn.τ).loc Cert.OutDwAttn.main_arg0)
      ∧ r.2.mem ((c.tc : Thread Cert.OutDwAttn.nD Cert.OutDwAttn.τ).loc Cert.OutDwAttn.main_arg1) = m ((c.tc : Thread Cert.OutDwAttn.nD Cert.OutDwAttn.τ).loc Cert.OutDwAttn.main_arg1))
      ∧ r.2.sem = fun _ => 0)

def quiescent_OutDwAttnIdeal [hOutDwAttnIdeal : Cert.OutDwAttnIdeal.Facts] : Prop :=
  ∀ (m : (ℓ : Loc Cert.OutDwAttnIdeal.nD Cert.OutDwAttnIdeal.τ Cert.OutDwAttnIdeal.sig) → Buf (Elt Ideal) ℓ) (g : Dev Cert.OutDwAttnIdeal.nD → PrngReg), Pre_OutDwAttnIdeal m →
    θ_run (Cert.OutDwAttnIdeal.defs (F := Ideal)) (onTc (τ := Cert.OutDwAttnIdeal.τ) (Cert.OutDwAttnIdeal.main (F := Ideal))) ⟨m, fun _ => 0, g⟩ (fun r => (∀ c : Dev Cert.OutDwAttnIdeal.nD,
      r.2.mem ((c.tc : Thread Cert.OutDwAttnIdeal.nD Cert.OutDwAttnIdeal.τ).loc Cert.OutDwAttnIdeal.main_arg0) = m ((c.tc : Thread Cert.OutDwAttnIdeal.nD Cert.OutDwAttnIdeal.τ).loc Cert.OutDwAttnIdeal.main_arg0)
      ∧ r.2.mem ((c.tc : Thread Cert.OutDwAttnIdeal.nD Cert.OutDwAttnIdeal.τ).loc Cert.OutDwAttnIdeal.main_arg1) = m ((c.tc : Thread Cert.OutDwAttnIdeal.nD Cert.OutDwAttnIdeal.τ).loc Cert.OutDwAttnIdeal.main_arg1))
      ∧ r.2.sem = fun _ => 0)

def quiescent_OutDwAttnRefIdeal [hOutDwAttnRefIdeal : Cert.OutDwAttnRefIdeal.Facts] : Prop :=
  ∀ (m : (ℓ : Loc Cert.OutDwAttnRefIdeal.nD Cert.OutDwAttnRefIdeal.τ Cert.OutDwAttnRefIdeal.sig) → Buf (Elt Ideal) ℓ) (g : Dev Cert.OutDwAttnRefIdeal.nD → PrngReg), Pre_OutDwAttnRefIdeal m →
    θ_run (Cert.OutDwAttnRefIdeal.defs (F := Ideal)) (onTc (τ := Cert.OutDwAttnRefIdeal.τ) (Cert.OutDwAttnRefIdeal.main (F := Ideal))) ⟨m, fun _ => 0, g⟩ (fun r => (∀ c : Dev Cert.OutDwAttnRefIdeal.nD,
      r.2.mem ((c.tc : Thread Cert.OutDwAttnRefIdeal.nD Cert.OutDwAttnRefIdeal.τ).loc Cert.OutDwAttnRefIdeal.main_arg0) = m ((c.tc : Thread Cert.OutDwAttnRefIdeal.nD Cert.OutDwAttnRefIdeal.τ).loc Cert.OutDwAttnRefIdeal.main_arg0)
      ∧ r.2.mem ((c.tc : Thread Cert.OutDwAttnRefIdeal.nD Cert.OutDwAttnRefIdeal.τ).loc Cert.OutDwAttnRefIdeal.main_arg1) = m ((c.tc : Thread Cert.OutDwAttnRefIdeal.nD Cert.OutDwAttnRefIdeal.τ).loc Cert.OutDwAttnRefIdeal.main_arg1))
      ∧ r.2.sem = fun _ => 0)

def quiescent_OutDwSsd [hOutDwSsd : Cert.OutDwSsd.Facts] : Prop :=
  ∀ (m : (ℓ : Loc Cert.OutDwSsd.nD Cert.OutDwSsd.τ Cert.OutDwSsd.sig) → Buf (Elt Bits) ℓ) (g : Dev Cert.OutDwSsd.nD → PrngReg), Pre_OutDwSsd m →
    θ_run (Cert.OutDwSsd.defs (F := Bits)) (onTc (τ := Cert.OutDwSsd.τ) (Cert.OutDwSsd.main (F := Bits))) ⟨m, fun _ => 0, g⟩ (fun r => (∀ c : Dev Cert.OutDwSsd.nD,
      r.2.mem ((c.tc : Thread Cert.OutDwSsd.nD Cert.OutDwSsd.τ).loc Cert.OutDwSsd.main_arg0) = m ((c.tc : Thread Cert.OutDwSsd.nD Cert.OutDwSsd.τ).loc Cert.OutDwSsd.main_arg0)
      ∧ r.2.mem ((c.tc : Thread Cert.OutDwSsd.nD Cert.OutDwSsd.τ).loc Cert.OutDwSsd.main_arg1) = m ((c.tc : Thread Cert.OutDwSsd.nD Cert.OutDwSsd.τ).loc Cert.OutDwSsd.main_arg1))
      ∧ r.2.sem = fun _ => 0)

def quiescent_OutDwSsdIdeal [hOutDwSsdIdeal : Cert.OutDwSsdIdeal.Facts] : Prop :=
  ∀ (m : (ℓ : Loc Cert.OutDwSsdIdeal.nD Cert.OutDwSsdIdeal.τ Cert.OutDwSsdIdeal.sig) → Buf (Elt Ideal) ℓ) (g : Dev Cert.OutDwSsdIdeal.nD → PrngReg), Pre_OutDwSsdIdeal m →
    θ_run (Cert.OutDwSsdIdeal.defs (F := Ideal)) (onTc (τ := Cert.OutDwSsdIdeal.τ) (Cert.OutDwSsdIdeal.main (F := Ideal))) ⟨m, fun _ => 0, g⟩ (fun r => (∀ c : Dev Cert.OutDwSsdIdeal.nD,
      r.2.mem ((c.tc : Thread Cert.OutDwSsdIdeal.nD Cert.OutDwSsdIdeal.τ).loc Cert.OutDwSsdIdeal.main_arg0) = m ((c.tc : Thread Cert.OutDwSsdIdeal.nD Cert.OutDwSsdIdeal.τ).loc Cert.OutDwSsdIdeal.main_arg0)
      ∧ r.2.mem ((c.tc : Thread Cert.OutDwSsdIdeal.nD Cert.OutDwSsdIdeal.τ).loc Cert.OutDwSsdIdeal.main_arg1) = m ((c.tc : Thread Cert.OutDwSsdIdeal.nD Cert.OutDwSsdIdeal.τ).loc Cert.OutDwSsdIdeal.main_arg1))
      ∧ r.2.sem = fun _ => 0)

def quiescent_OutDwSsdRefIdeal [hOutDwSsdRefIdeal : Cert.OutDwSsdRefIdeal.Facts] : Prop :=
  ∀ (m : (ℓ : Loc Cert.OutDwSsdRefIdeal.nD Cert.OutDwSsdRefIdeal.τ Cert.OutDwSsdRefIdeal.sig) → Buf (Elt Ideal) ℓ) (g : Dev Cert.OutDwSsdRefIdeal.nD → PrngReg), Pre_OutDwSsdRefIdeal m →
    θ_run (Cert.OutDwSsdRefIdeal.defs (F := Ideal)) (onTc (τ := Cert.OutDwSsdRefIdeal.τ) (Cert.OutDwSsdRefIdeal.main (F := Ideal))) ⟨m, fun _ => 0, g⟩ (fun r => (∀ c : Dev Cert.OutDwSsdRefIdeal.nD,
      r.2.mem ((c.tc : Thread Cert.OutDwSsdRefIdeal.nD Cert.OutDwSsdRefIdeal.τ).loc Cert.OutDwSsdRefIdeal.main_arg0) = m ((c.tc : Thread Cert.OutDwSsdRefIdeal.nD Cert.OutDwSsdRefIdeal.τ).loc Cert.OutDwSsdRefIdeal.main_arg0)
      ∧ r.2.mem ((c.tc : Thread Cert.OutDwSsdRefIdeal.nD Cert.OutDwSsdRefIdeal.τ).loc Cert.OutDwSsdRefIdeal.main_arg1) = m ((c.tc : Thread Cert.OutDwSsdRefIdeal.nD Cert.OutDwSsdRefIdeal.τ).loc Cert.OutDwSsdRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5))
      ∧ r.2.sem = fun _ => 0)

def quiescent_InDwQ [hInDwQ : Cert.InDwQ.Facts] : Prop :=
  ∀ (m : (ℓ : Loc Cert.InDwQ.nD Cert.InDwQ.τ Cert.InDwQ.sig) → Buf (Elt Bits) ℓ) (g : Dev Cert.InDwQ.nD → PrngReg), Pre_InDwQ m →
    θ_run (Cert.InDwQ.defs (F := Bits)) (onTc (τ := Cert.InDwQ.τ) (Cert.InDwQ.main (F := Bits))) ⟨m, fun _ => 0, g⟩ (fun r => (∀ c : Dev Cert.InDwQ.nD,
      r.2.mem ((c.tc : Thread Cert.InDwQ.nD Cert.InDwQ.τ).loc Cert.InDwQ.main_arg0) = m ((c.tc : Thread Cert.InDwQ.nD Cert.InDwQ.τ).loc Cert.InDwQ.main_arg0)
      ∧ r.2.mem ((c.tc : Thread Cert.InDwQ.nD Cert.InDwQ.τ).loc Cert.InDwQ.main_arg1) = m ((c.tc : Thread Cert.InDwQ.nD Cert.InDwQ.τ).loc Cert.InDwQ.main_arg1))
      ∧ r.2.sem = fun _ => 0)

def quiescent_InDwQIdeal [hInDwQIdeal : Cert.InDwQIdeal.Facts] : Prop :=
  ∀ (m : (ℓ : Loc Cert.InDwQIdeal.nD Cert.InDwQIdeal.τ Cert.InDwQIdeal.sig) → Buf (Elt Ideal) ℓ) (g : Dev Cert.InDwQIdeal.nD → PrngReg), Pre_InDwQIdeal m →
    θ_run (Cert.InDwQIdeal.defs (F := Ideal)) (onTc (τ := Cert.InDwQIdeal.τ) (Cert.InDwQIdeal.main (F := Ideal))) ⟨m, fun _ => 0, g⟩ (fun r => (∀ c : Dev Cert.InDwQIdeal.nD,
      r.2.mem ((c.tc : Thread Cert.InDwQIdeal.nD Cert.InDwQIdeal.τ).loc Cert.InDwQIdeal.main_arg0) = m ((c.tc : Thread Cert.InDwQIdeal.nD Cert.InDwQIdeal.τ).loc Cert.InDwQIdeal.main_arg0)
      ∧ r.2.mem ((c.tc : Thread Cert.InDwQIdeal.nD Cert.InDwQIdeal.τ).loc Cert.InDwQIdeal.main_arg1) = m ((c.tc : Thread Cert.InDwQIdeal.nD Cert.InDwQIdeal.τ).loc Cert.InDwQIdeal.main_arg1))
      ∧ r.2.sem = fun _ => 0)

def quiescent_InDwQRefIdeal [hInDwQRefIdeal : Cert.InDwQRefIdeal.Facts] : Prop :=
  ∀ (m : (ℓ : Loc Cert.InDwQRefIdeal.nD Cert.InDwQRefIdeal.τ Cert.InDwQRefIdeal.sig) → Buf (Elt Ideal) ℓ) (g : Dev Cert.InDwQRefIdeal.nD → PrngReg), Pre_InDwQRefIdeal m →
    θ_run (Cert.InDwQRefIdeal.defs (F := Ideal)) (onTc (τ := Cert.InDwQRefIdeal.τ) (Cert.InDwQRefIdeal.main (F := Ideal))) ⟨m, fun _ => 0, g⟩ (fun r => (∀ c : Dev Cert.InDwQRefIdeal.nD,
      r.2.mem ((c.tc : Thread Cert.InDwQRefIdeal.nD Cert.InDwQRefIdeal.τ).loc Cert.InDwQRefIdeal.main_arg0) = m ((c.tc : Thread Cert.InDwQRefIdeal.nD Cert.InDwQRefIdeal.τ).loc Cert.InDwQRefIdeal.main_arg0)
      ∧ r.2.mem ((c.tc : Thread Cert.InDwQRefIdeal.nD Cert.InDwQRefIdeal.τ).loc Cert.InDwQRefIdeal.main_arg1) = m ((c.tc : Thread Cert.InDwQRefIdeal.nD Cert.InDwQRefIdeal.τ).loc Cert.InDwQRefIdeal.main_arg1))
      ∧ r.2.sem = fun _ => 0)

def quiescent_InDwZ [hInDwZ : Cert.InDwZ.Facts] : Prop :=
  ∀ (m : (ℓ : Loc Cert.InDwZ.nD Cert.InDwZ.τ Cert.InDwZ.sig) → Buf (Elt Bits) ℓ) (g : Dev Cert.InDwZ.nD → PrngReg), Pre_InDwZ m →
    θ_run (Cert.InDwZ.defs (F := Bits)) (onTc (τ := Cert.InDwZ.τ) (Cert.InDwZ.main (F := Bits))) ⟨m, fun _ => 0, g⟩ (fun r => (∀ c : Dev Cert.InDwZ.nD,
      r.2.mem ((c.tc : Thread Cert.InDwZ.nD Cert.InDwZ.τ).loc Cert.InDwZ.main_arg0) = m ((c.tc : Thread Cert.InDwZ.nD Cert.InDwZ.τ).loc Cert.InDwZ.main_arg0)
      ∧ r.2.mem ((c.tc : Thread Cert.InDwZ.nD Cert.InDwZ.τ).loc Cert.InDwZ.main_arg1) = m ((c.tc : Thread Cert.InDwZ.nD Cert.InDwZ.τ).loc Cert.InDwZ.main_arg1))
      ∧ r.2.sem = fun _ => 0)

def quiescent_InDwZIdeal [hInDwZIdeal : Cert.InDwZIdeal.Facts] : Prop :=
  ∀ (m : (ℓ : Loc Cert.InDwZIdeal.nD Cert.InDwZIdeal.τ Cert.InDwZIdeal.sig) → Buf (Elt Ideal) ℓ) (g : Dev Cert.InDwZIdeal.nD → PrngReg), Pre_InDwZIdeal m →
    θ_run (Cert.InDwZIdeal.defs (F := Ideal)) (onTc (τ := Cert.InDwZIdeal.τ) (Cert.InDwZIdeal.main (F := Ideal))) ⟨m, fun _ => 0, g⟩ (fun r => (∀ c : Dev Cert.InDwZIdeal.nD,
      r.2.mem ((c.tc : Thread Cert.InDwZIdeal.nD Cert.InDwZIdeal.τ).loc Cert.InDwZIdeal.main_arg0) = m ((c.tc : Thread Cert.InDwZIdeal.nD Cert.InDwZIdeal.τ).loc Cert.InDwZIdeal.main_arg0)
      ∧ r.2.mem ((c.tc : Thread Cert.InDwZIdeal.nD Cert.InDwZIdeal.τ).loc Cert.InDwZIdeal.main_arg1) = m ((c.tc : Thread Cert.InDwZIdeal.nD Cert.InDwZIdeal.τ).loc Cert.InDwZIdeal.main_arg1))
      ∧ r.2.sem = fun _ => 0)

def quiescent_InDwZRefIdeal [hInDwZRefIdeal : Cert.InDwZRefIdeal.Facts] : Prop :=
  ∀ (m : (ℓ : Loc Cert.InDwZRefIdeal.nD Cert.InDwZRefIdeal.τ Cert.InDwZRefIdeal.sig) → Buf (Elt Ideal) ℓ) (g : Dev Cert.InDwZRefIdeal.nD → PrngReg), Pre_InDwZRefIdeal m →
    θ_run (Cert.InDwZRefIdeal.defs (F := Ideal)) (onTc (τ := Cert.InDwZRefIdeal.τ) (Cert.InDwZRefIdeal.main (F := Ideal))) ⟨m, fun _ => 0, g⟩ (fun r => (∀ c : Dev Cert.InDwZRefIdeal.nD,
      r.2.mem ((c.tc : Thread Cert.InDwZRefIdeal.nD Cert.InDwZRefIdeal.τ).loc Cert.InDwZRefIdeal.main_arg0) = m ((c.tc : Thread Cert.InDwZRefIdeal.nD Cert.InDwZRefIdeal.τ).loc Cert.InDwZRefIdeal.main_arg0)
      ∧ r.2.mem ((c.tc : Thread Cert.InDwZRefIdeal.nD Cert.InDwZRefIdeal.τ).loc Cert.InDwZRefIdeal.main_arg1) = m ((c.tc : Thread Cert.InDwZRefIdeal.nD Cert.InDwZRefIdeal.τ).loc Cert.InDwZRefIdeal.main_arg1))
      ∧ r.2.sem = fun _ => 0)

def quiescent_InDwXbc [hInDwXbc : Cert.InDwXbc.Facts] : Prop :=
  ∀ (m : (ℓ : Loc Cert.InDwXbc.nD Cert.InDwXbc.τ Cert.InDwXbc.sig) → Buf (Elt Bits) ℓ) (g : Dev Cert.InDwXbc.nD → PrngReg), Pre_InDwXbc m →
    θ_run (Cert.InDwXbc.defs (F := Bits)) (onTc (τ := Cert.InDwXbc.τ) (Cert.InDwXbc.main (F := Bits))) ⟨m, fun _ => 0, g⟩ (fun r => (∀ c : Dev Cert.InDwXbc.nD,
      r.2.mem ((c.tc : Thread Cert.InDwXbc.nD Cert.InDwXbc.τ).loc Cert.InDwXbc.main_arg0) = m ((c.tc : Thread Cert.InDwXbc.nD Cert.InDwXbc.τ).loc Cert.InDwXbc.main_arg0)
      ∧ r.2.mem ((c.tc : Thread Cert.InDwXbc.nD Cert.InDwXbc.τ).loc Cert.InDwXbc.main_arg1) = m ((c.tc : Thread Cert.InDwXbc.nD Cert.InDwXbc.τ).loc Cert.InDwXbc.main_arg1))
      ∧ r.2.sem = fun _ => 0)

def quiescent_InDwXbcIdeal [hInDwXbcIdeal : Cert.InDwXbcIdeal.Facts] : Prop :=
  ∀ (m : (ℓ : Loc Cert.InDwXbcIdeal.nD Cert.InDwXbcIdeal.τ Cert.InDwXbcIdeal.sig) → Buf (Elt Ideal) ℓ) (g : Dev Cert.InDwXbcIdeal.nD → PrngReg), Pre_InDwXbcIdeal m →
    θ_run (Cert.InDwXbcIdeal.defs (F := Ideal)) (onTc (τ := Cert.InDwXbcIdeal.τ) (Cert.InDwXbcIdeal.main (F := Ideal))) ⟨m, fun _ => 0, g⟩ (fun r => (∀ c : Dev Cert.InDwXbcIdeal.nD,
      r.2.mem ((c.tc : Thread Cert.InDwXbcIdeal.nD Cert.InDwXbcIdeal.τ).loc Cert.InDwXbcIdeal.main_arg0) = m ((c.tc : Thread Cert.InDwXbcIdeal.nD Cert.InDwXbcIdeal.τ).loc Cert.InDwXbcIdeal.main_arg0)
      ∧ r.2.mem ((c.tc : Thread Cert.InDwXbcIdeal.nD Cert.InDwXbcIdeal.τ).loc Cert.InDwXbcIdeal.main_arg1) = m ((c.tc : Thread Cert.InDwXbcIdeal.nD Cert.InDwXbcIdeal.τ).loc Cert.InDwXbcIdeal.main_arg1))
      ∧ r.2.sem = fun _ => 0)

def quiescent_InDwXbcRefIdeal [hInDwXbcRefIdeal : Cert.InDwXbcRefIdeal.Facts] : Prop :=
  ∀ (m : (ℓ : Loc Cert.InDwXbcRefIdeal.nD Cert.InDwXbcRefIdeal.τ Cert.InDwXbcRefIdeal.sig) → Buf (Elt Ideal) ℓ) (g : Dev Cert.InDwXbcRefIdeal.nD → PrngReg), Pre_InDwXbcRefIdeal m →
    θ_run (Cert.InDwXbcRefIdeal.defs (F := Ideal)) (onTc (τ := Cert.InDwXbcRefIdeal.τ) (Cert.InDwXbcRefIdeal.main (F := Ideal))) ⟨m, fun _ => 0, g⟩ (fun r => (∀ c : Dev Cert.InDwXbcRefIdeal.nD,
      r.2.mem ((c.tc : Thread Cert.InDwXbcRefIdeal.nD Cert.InDwXbcRefIdeal.τ).loc Cert.InDwXbcRefIdeal.main_arg0) = m ((c.tc : Thread Cert.InDwXbcRefIdeal.nD Cert.InDwXbcRefIdeal.τ).loc Cert.InDwXbcRefIdeal.main_arg0)
      ∧ r.2.mem ((c.tc : Thread Cert.InDwXbcRefIdeal.nD Cert.InDwXbcRefIdeal.τ).loc Cert.InDwXbcRefIdeal.main_arg1) = m ((c.tc : Thread Cert.InDwXbcRefIdeal.nD Cert.InDwXbcRefIdeal.τ).loc Cert.InDwXbcRefIdeal.main_arg1))
      ∧ r.2.sem = fun _ => 0)

def quiescent_InDwKv [hInDwKv : Cert.InDwKv.Facts] : Prop :=
  ∀ (m : (ℓ : Loc Cert.InDwKv.nD Cert.InDwKv.τ Cert.InDwKv.sig) → Buf (Elt Bits) ℓ) (g : Dev Cert.InDwKv.nD → PrngReg), Pre_InDwKv m →
    θ_run (Cert.InDwKv.defs (F := Bits)) (onTc (τ := Cert.InDwKv.τ) (Cert.InDwKv.main (F := Bits))) ⟨m, fun _ => 0, g⟩ (fun r => (∀ c : Dev Cert.InDwKv.nD,
      r.2.mem ((c.tc : Thread Cert.InDwKv.nD Cert.InDwKv.τ).loc Cert.InDwKv.main_arg0) = m ((c.tc : Thread Cert.InDwKv.nD Cert.InDwKv.τ).loc Cert.InDwKv.main_arg0)
      ∧ r.2.mem ((c.tc : Thread Cert.InDwKv.nD Cert.InDwKv.τ).loc Cert.InDwKv.main_arg1) = m ((c.tc : Thread Cert.InDwKv.nD Cert.InDwKv.τ).loc Cert.InDwKv.main_arg1))
      ∧ r.2.sem = fun _ => 0)

def quiescent_InDwKvIdeal [hInDwKvIdeal : Cert.InDwKvIdeal.Facts] : Prop :=
  ∀ (m : (ℓ : Loc Cert.InDwKvIdeal.nD Cert.InDwKvIdeal.τ Cert.InDwKvIdeal.sig) → Buf (Elt Ideal) ℓ) (g : Dev Cert.InDwKvIdeal.nD → PrngReg), Pre_InDwKvIdeal m →
    θ_run (Cert.InDwKvIdeal.defs (F := Ideal)) (onTc (τ := Cert.InDwKvIdeal.τ) (Cert.InDwKvIdeal.main (F := Ideal))) ⟨m, fun _ => 0, g⟩ (fun r => (∀ c : Dev Cert.InDwKvIdeal.nD,
      r.2.mem ((c.tc : Thread Cert.InDwKvIdeal.nD Cert.InDwKvIdeal.τ).loc Cert.InDwKvIdeal.main_arg0) = m ((c.tc : Thread Cert.InDwKvIdeal.nD Cert.InDwKvIdeal.τ).loc Cert.InDwKvIdeal.main_arg0)
      ∧ r.2.mem ((c.tc : Thread Cert.InDwKvIdeal.nD Cert.InDwKvIdeal.τ).loc Cert.InDwKvIdeal.main_arg1) = m ((c.tc : Thread Cert.InDwKvIdeal.nD Cert.InDwKvIdeal.τ).loc Cert.InDwKvIdeal.main_arg1))
      ∧ r.2.sem = fun _ => 0)

def quiescent_InDwKvRefIdeal [hInDwKvRefIdeal : Cert.InDwKvRefIdeal.Facts] : Prop :=
  ∀ (m : (ℓ : Loc Cert.InDwKvRefIdeal.nD Cert.InDwKvRefIdeal.τ Cert.InDwKvRefIdeal.sig) → Buf (Elt Ideal) ℓ) (g : Dev Cert.InDwKvRefIdeal.nD → PrngReg), Pre_InDwKvRefIdeal m →
    θ_run (Cert.InDwKvRefIdeal.defs (F := Ideal)) (onTc (τ := Cert.InDwKvRefIdeal.τ) (Cert.InDwKvRefIdeal.main (F := Ideal))) ⟨m, fun _ => 0, g⟩ (fun r => (∀ c : Dev Cert.InDwKvRefIdeal.nD,
      r.2.mem ((c.tc : Thread Cert.InDwKvRefIdeal.nD Cert.InDwKvRefIdeal.τ).loc Cert.InDwKvRefIdeal.main_arg0) = m ((c.tc : Thread Cert.InDwKvRefIdeal.nD Cert.InDwKvRefIdeal.τ).loc Cert.InDwKvRefIdeal.main_arg0)
      ∧ r.2.mem ((c.tc : Thread Cert.InDwKvRefIdeal.nD Cert.InDwKvRefIdeal.τ).loc Cert.InDwKvRefIdeal.main_arg1) = m ((c.tc : Thread Cert.InDwKvRefIdeal.nD Cert.InDwKvRefIdeal.τ).loc Cert.InDwKvRefIdeal.main_arg1))
      ∧ r.2.sem = fun _ => 0)

def quiescent_InDwDt [hInDwDt : Cert.InDwDt.Facts] : Prop :=
  ∀ (m : (ℓ : Loc Cert.InDwDt.nD Cert.InDwDt.τ Cert.InDwDt.sig) → Buf (Elt Bits) ℓ) (g : Dev Cert.InDwDt.nD → PrngReg), Pre_InDwDt m →
    θ_run (Cert.InDwDt.defs (F := Bits)) (onTc (τ := Cert.InDwDt.τ) (Cert.InDwDt.main (F := Bits))) ⟨m, fun _ => 0, g⟩ (fun r => (∀ c : Dev Cert.InDwDt.nD,
      r.2.mem ((c.tc : Thread Cert.InDwDt.nD Cert.InDwDt.τ).loc Cert.InDwDt.main_arg0) = m ((c.tc : Thread Cert.InDwDt.nD Cert.InDwDt.τ).loc Cert.InDwDt.main_arg0)
      ∧ r.2.mem ((c.tc : Thread Cert.InDwDt.nD Cert.InDwDt.τ).loc Cert.InDwDt.main_arg1) = m ((c.tc : Thread Cert.InDwDt.nD Cert.InDwDt.τ).loc Cert.InDwDt.main_arg1))
      ∧ r.2.sem = fun _ => 0)

def quiescent_InDwDtIdeal [hInDwDtIdeal : Cert.InDwDtIdeal.Facts] : Prop :=
  ∀ (m : (ℓ : Loc Cert.InDwDtIdeal.nD Cert.InDwDtIdeal.τ Cert.InDwDtIdeal.sig) → Buf (Elt Ideal) ℓ) (g : Dev Cert.InDwDtIdeal.nD → PrngReg), Pre_InDwDtIdeal m →
    θ_run (Cert.InDwDtIdeal.defs (F := Ideal)) (onTc (τ := Cert.InDwDtIdeal.τ) (Cert.InDwDtIdeal.main (F := Ideal))) ⟨m, fun _ => 0, g⟩ (fun r => (∀ c : Dev Cert.InDwDtIdeal.nD,
      r.2.mem ((c.tc : Thread Cert.InDwDtIdeal.nD Cert.InDwDtIdeal.τ).loc Cert.InDwDtIdeal.main_arg0) = m ((c.tc : Thread Cert.InDwDtIdeal.nD Cert.InDwDtIdeal.τ).loc Cert.InDwDtIdeal.main_arg0)
      ∧ r.2.mem ((c.tc : Thread Cert.InDwDtIdeal.nD Cert.InDwDtIdeal.τ).loc Cert.InDwDtIdeal.main_arg1) = m ((c.tc : Thread Cert.InDwDtIdeal.nD Cert.InDwDtIdeal.τ).loc Cert.InDwDtIdeal.main_arg1))
      ∧ r.2.sem = fun _ => 0)

def quiescent_InDwDtRefIdeal [hInDwDtRefIdeal : Cert.InDwDtRefIdeal.Facts] : Prop :=
  ∀ (m : (ℓ : Loc Cert.InDwDtRefIdeal.nD Cert.InDwDtRefIdeal.τ Cert.InDwDtRefIdeal.sig) → Buf (Elt Ideal) ℓ) (g : Dev Cert.InDwDtRefIdeal.nD → PrngReg), Pre_InDwDtRefIdeal m →
    θ_run (Cert.InDwDtRefIdeal.defs (F := Ideal)) (onTc (τ := Cert.InDwDtRefIdeal.τ) (Cert.InDwDtRefIdeal.main (F := Ideal))) ⟨m, fun _ => 0, g⟩ (fun r => (∀ c : Dev Cert.InDwDtRefIdeal.nD,
      r.2.mem ((c.tc : Thread Cert.InDwDtRefIdeal.nD Cert.InDwDtRefIdeal.τ).loc Cert.InDwDtRefIdeal.main_arg0) = m ((c.tc : Thread Cert.InDwDtRefIdeal.nD Cert.InDwDtRefIdeal.τ).loc Cert.InDwDtRefIdeal.main_arg0)
      ∧ r.2.mem ((c.tc : Thread Cert.InDwDtRefIdeal.nD Cert.InDwDtRefIdeal.τ).loc Cert.InDwDtRefIdeal.main_arg1) = m ((c.tc : Thread Cert.InDwDtRefIdeal.nD Cert.InDwDtRefIdeal.τ).loc Cert.InDwDtRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2))
      ∧ r.2.sem = fun _ => 0)

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_GnFwd [hGnFwd : Cert.GnFwd.Facts] : Prop :=
  ∀ (m : (ℓ : Loc Cert.GnFwd.nD Cert.GnFwd.τ Cert.GnFwd.sig) → Buf (Elt Bits) ℓ) (g : Dev Cert.GnFwd.nD → PrngReg), Pre_GnFwd m →
    θ_run (Cert.GnFwd.defs (F := Bits)) (onTc (τ := Cert.GnFwd.τ) (Cert.GnFwd.main (F := Bits))) ⟨m, fun _ => 0, g⟩ (fun r => (∀ c : Dev Cert.GnFwd.nD,
      r.2.mem ((c.tc : Thread Cert.GnFwd.nD Cert.GnFwd.τ).loc Cert.GnFwd.main_arg0) = m ((c.tc : Thread Cert.GnFwd.nD Cert.GnFwd.τ).loc Cert.GnFwd.main_arg0)
      ∧ r.2.mem ((c.tc : Thread Cert.GnFwd.nD Cert.GnFwd.τ).loc Cert.GnFwd.main_arg1) = m ((c.tc : Thread Cert.GnFwd.nD Cert.GnFwd.τ).loc Cert.GnFwd.main_arg1)
      ∧ r.2.mem ((c.tc : Thread Cert.GnFwd.nD Cert.GnFwd.τ).loc Cert.GnFwd.main_arg2) = m ((c.tc : Thread Cert.GnFwd.nD Cert.GnFwd.τ).loc Cert.GnFwd.main_arg2))
      ∧ r.2.sem = fun _ => 0)

def quiescent_GnFwdIdeal [hGnFwdIdeal : Cert.GnFwdIdeal.Facts] : Prop :=
  ∀ (m : (ℓ : Loc Cert.GnFwdIdeal.nD Cert.GnFwdIdeal.τ Cert.GnFwdIdeal.sig) → Buf (Elt Ideal) ℓ) (g : Dev Cert.GnFwdIdeal.nD → PrngReg), Pre_GnFwdIdeal m →
    θ_run (Cert.GnFwdIdeal.defs (F := Ideal)) (onTc (τ := Cert.GnFwdIdeal.τ) (Cert.GnFwdIdeal.main (F := Ideal))) ⟨m, fun _ => 0, g⟩ (fun r => (∀ c : Dev Cert.GnFwdIdeal.nD,
      r.2.mem ((c.tc : Thread Cert.GnFwdIdeal.nD Cert.GnFwdIdeal.τ).loc Cert.GnFwdIdeal.main_arg0) = m ((c.tc : Thread Cert.GnFwdIdeal.nD Cert.GnFwdIdeal.τ).loc Cert.GnFwdIdeal.main_arg0)
      ∧ r.2.mem ((c.tc : Thread Cert.GnFwdIdeal.nD Cert.GnFwdIdeal.τ).loc Cert.GnFwdIdeal.main_arg1) = m ((c.tc : Thread Cert.GnFwdIdeal.nD Cert.GnFwdIdeal.τ).loc Cert.GnFwdIdeal.main_arg1)
      ∧ r.2.mem ((c.tc : Thread Cert.GnFwdIdeal.nD Cert.GnFwdIdeal.τ).loc Cert.GnFwdIdeal.main_arg2) = m ((c.tc : Thread Cert.GnFwdIdeal.nD Cert.GnFwdIdeal.τ).loc Cert.GnFwdIdeal.main_arg2))
      ∧ r.2.sem = fun _ => 0)

def quiescent_GnFwdRefIdeal [hGnFwdRefIdeal : Cert.GnFwdRefIdeal.Facts] : Prop :=
  ∀ (m : (ℓ : Loc Cert.GnFwdRefIdeal.nD Cert.GnFwdRefIdeal.τ Cert.GnFwdRefIdeal.sig) → Buf (Elt Ideal) ℓ) (g : Dev Cert.GnFwdRefIdeal.nD → PrngReg), Pre_GnFwdRefIdeal m →
    θ_run (Cert.GnFwdRefIdeal.defs (F := Ideal)) (onTc (τ := Cert.GnFwdRefIdeal.τ) (Cert.GnFwdRefIdeal.main (F := Ideal))) ⟨m, fun _ => 0, g⟩ (fun r => (∀ c : Dev Cert.GnFwdRefIdeal.nD,
      r.2.mem ((c.tc : Thread Cert.GnFwdRefIdeal.nD Cert.GnFwdRefIdeal.τ).loc Cert.GnFwdRefIdeal.main_arg0) = m ((c.tc : Thread Cert.GnFwdRefIdeal.nD Cert.GnFwdRefIdeal.τ).loc Cert.GnFwdRefIdeal.main_arg0)
      ∧ r.2.mem ((c.tc : Thread Cert.GnFwdRefIdeal.nD Cert.GnFwdRefIdeal.τ).loc Cert.GnFwdRefIdeal.main_arg1) = m ((c.tc : Thread Cert.GnFwdRefIdeal.nD Cert.GnFwdRefIdeal.τ).loc Cert.GnFwdRefIdeal.main_arg1)
      ∧ r.2.mem ((c.tc : Thread Cert.GnFwdRefIdeal.nD Cert.GnFwdRefIdeal.τ).loc Cert.GnFwdRefIdeal.main_arg2) = m ((c.tc : Thread Cert.GnFwdRefIdeal.nD Cert.GnFwdRefIdeal.τ).loc Cert.GnFwdRefIdeal.main_arg2))
      ∧ r.2.sem = fun _ => 0)

def quiescent_GnBwd [hGnBwd : Cert.GnBwd.Facts] : Prop :=
  ∀ (m : (ℓ : Loc Cert.GnBwd.nD Cert.GnBwd.τ Cert.GnBwd.sig) → Buf (Elt Bits) ℓ) (g : Dev Cert.GnBwd.nD → PrngReg), Pre_GnBwd m →
    θ_run (Cert.GnBwd.defs (F := Bits)) (onTc (τ := Cert.GnBwd.τ) (Cert.GnBwd.main (F := Bits))) ⟨m, fun _ => 0, g⟩ (fun r => (∀ c : Dev Cert.GnBwd.nD,
      r.2.mem ((c.tc : Thread Cert.GnBwd.nD Cert.GnBwd.τ).loc Cert.GnBwd.main_arg0) = m ((c.tc : Thread Cert.GnBwd.nD Cert.GnBwd.τ).loc Cert.GnBwd.main_arg0)
      ∧ r.2.mem ((c.tc : Thread Cert.GnBwd.nD Cert.GnBwd.τ).loc Cert.GnBwd.main_arg1) = m ((c.tc : Thread Cert.GnBwd.nD Cert.GnBwd.τ).loc Cert.GnBwd.main_arg1)
      ∧ r.2.mem ((c.tc : Thread Cert.GnBwd.nD Cert.GnBwd.τ).loc Cert.GnBwd.main_arg2) = m ((c.tc : Thread Cert.GnBwd.nD Cert.GnBwd.τ).loc Cert.GnBwd.main_arg2)
      ∧ r.2.mem ((c.tc : Thread Cert.GnBwd.nD Cert.GnBwd.τ).loc Cert.GnBwd.main_arg3) = m ((c.tc : Thread Cert.GnBwd.nD Cert.GnBwd.τ).loc Cert.GnBwd.main_arg3))
      ∧ r.2.sem = fun _ => 0)

def quiescent_GnBwdIdeal [hGnBwdIdeal : Cert.GnBwdIdeal.Facts] : Prop :=
  ∀ (m : (ℓ : Loc Cert.GnBwdIdeal.nD Cert.GnBwdIdeal.τ Cert.GnBwdIdeal.sig) → Buf (Elt Ideal) ℓ) (g : Dev Cert.GnBwdIdeal.nD → PrngReg), Pre_GnBwdIdeal m →
    θ_run (Cert.GnBwdIdeal.defs (F := Ideal)) (onTc (τ := Cert.GnBwdIdeal.τ) (Cert.GnBwdIdeal.main (F := Ideal))) ⟨m, fun _ => 0, g⟩ (fun r => (∀ c : Dev Cert.GnBwdIdeal.nD,
      r.2.mem ((c.tc : Thread Cert.GnBwdIdeal.nD Cert.GnBwdIdeal.τ).loc Cert.GnBwdIdeal.main_arg0) = m ((c.tc : Thread Cert.GnBwdIdeal.nD Cert.GnBwdIdeal.τ).loc Cert.GnBwdIdeal.main_arg0)
      ∧ r.2.mem ((c.tc : Thread Cert.GnBwdIdeal.nD Cert.GnBwdIdeal.τ).loc Cert.GnBwdIdeal.main_arg1) = m ((c.tc : Thread Cert.GnBwdIdeal.nD Cert.GnBwdIdeal.τ).loc Cert.GnBwdIdeal.main_arg1)
      ∧ r.2.mem ((c.tc : Thread Cert.GnBwdIdeal.nD Cert.GnBwdIdeal.τ).loc Cert.GnBwdIdeal.main_arg2) = m ((c.tc : Thread Cert.GnBwdIdeal.nD Cert.GnBwdIdeal.τ).loc Cert.GnBwdIdeal.main_arg2)
      ∧ r.2.mem ((c.tc : Thread Cert.GnBwdIdeal.nD Cert.GnBwdIdeal.τ).loc Cert.GnBwdIdeal.main_arg3) = m ((c.tc : Thread Cert.GnBwdIdeal.nD Cert.GnBwdIdeal.τ).loc Cert.GnBwdIdeal.main_arg3))
      ∧ r.2.sem = fun _ => 0)

def quiescent_GnBwdRefIdeal [hGnBwdRefIdeal : Cert.GnBwdRefIdeal.Facts] : Prop :=
  ∀ (m : (ℓ : Loc Cert.GnBwdRefIdeal.nD Cert.GnBwdRefIdeal.τ Cert.GnBwdRefIdeal.sig) → Buf (Elt Ideal) ℓ) (g : Dev Cert.GnBwdRefIdeal.nD → PrngReg), Pre_GnBwdRefIdeal m →
    θ_run (Cert.GnBwdRefIdeal.defs (F := Ideal)) (onTc (τ := Cert.GnBwdRefIdeal.τ) (Cert.GnBwdRefIdeal.main (F := Ideal))) ⟨m, fun _ => 0, g⟩ (fun r => (∀ c : Dev Cert.GnBwdRefIdeal.nD,
      r.2.mem ((c.tc : Thread Cert.GnBwdRefIdeal.nD Cert.GnBwdRefIdeal.τ).loc Cert.GnBwdRefIdeal.main_arg0) = m ((c.tc : Thread Cert.GnBwdRefIdeal.nD Cert.GnBwdRefIdeal.τ).loc Cert.GnBwdRefIdeal.main_arg0)
      ∧ r.2.mem ((c.tc : Thread Cert.GnBwdRefIdeal.nD Cert.GnBwdRefIdeal.τ).loc Cert.GnBwdRefIdeal.main_arg1) = m ((c.tc : Thread Cert.GnBwdRefIdeal.nD Cert.GnBwdRefIdeal.τ).loc Cert.GnBwdRefIdeal.main_arg1)
      ∧ r.2.mem ((c.tc : Thread Cert.GnBwdRefIdeal.nD Cert.GnBwdRefIdeal.τ).loc Cert.GnBwdRefIdeal.main_arg2) = m ((c.tc : Thread Cert.GnBwdRefIdeal.nD Cert.GnBwdRefIdeal.τ).loc Cert.GnBwdRefIdeal.main_arg2)
      ∧ r.2.mem ((c.tc : Thread Cert.GnBwdRefIdeal.nD Cert.GnBwdRefIdeal.τ).loc Cert.GnBwdRefIdeal.main_arg3) = m ((c.tc : Thread Cert.GnBwdRefIdeal.nD Cert.GnBwdRefIdeal.τ).loc Cert.GnBwdRefIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5)
      ∧ r.2.mem ((c.tc : Thread Cert.AdamInRefIdeal.nD Cert.AdamInRefIdeal.τ).loc Cert.AdamInRefIdeal.main_arg6) = m ((c.tc : Thread Cert.AdamInRefIdeal.nD Cert.AdamInRefIdeal.τ).loc Cert.AdamInRefIdeal.main_arg6))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5)
      ∧ r.2.mem ((c.tc : Thread Cert.AdamOut.nD Cert.AdamOut.τ).loc Cert.AdamOut.main_arg6) = m ((c.tc : Thread Cert.AdamOut.nD Cert.AdamOut.τ).loc Cert.AdamOut.main_arg6))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
      ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5)
      ∧ r.2.mem ((c.tc : Thread Cert.AdamOutRefIdeal.nD Cert.AdamOutRefIdeal.τ).loc Cert.AdamOutRefIdeal.main_arg6) = m ((c.tc : Thread Cert.AdamOutRefIdeal.nD Cert.AdamOutRefIdeal.τ).loc Cert.AdamOutRefIdeal.main_arg6))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5)
      ∧ r.2.mem ((c.tc : Thread Cert.AdamUp.nD Cert.AdamUp.τ).loc Cert.AdamUp.main_arg6) = m ((c.tc : Thread Cert.AdamUp.nD Cert.AdamUp.τ).loc Cert.AdamUp.main_arg6))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
      ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5)
      ∧ r.2.mem ((c.tc : Thread Cert.AdamUpRefIdeal.nD Cert.AdamUpRefIdeal.τ).loc Cert.AdamUpRefIdeal.main_arg6) = m ((c.tc : Thread Cert.AdamUpRefIdeal.nD Cert.AdamUpRefIdeal.τ).loc Cert.AdamUpRefIdeal.main_arg6))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5)
      ∧ r.2.mem ((c.tc : Thread Cert.AdamDown.nD Cert.AdamDown.τ).loc Cert.AdamDown.main_arg6) = m ((c.tc : Thread Cert.AdamDown.nD Cert.AdamDown.τ).loc Cert.AdamDown.main_arg6))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
      ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5)
      ∧ r.2.mem ((c.tc : Thread Cert.AdamDownRefIdeal.nD Cert.AdamDownRefIdeal.τ).loc Cert.AdamDownRefIdeal.main_arg6) = m ((c.tc : Thread Cert.AdamDownRefIdeal.nD Cert.AdamDownRefIdeal.τ).loc Cert.AdamDownRefIdeal.main_arg6))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v120_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v4) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDwAttn_OutDwAttnIdeal : Prop :=
  True

def algebraic_OutDwAttnIdeal_OutDwAttnRefIdeal [hOutDwAttnIdeal : Cert.OutDwAttnIdeal.Facts] [hOutDwAttnRefIdeal : Cert.OutDwAttnRefIdeal.Facts] : Prop :=
  ∀ (m : (ℓ : Loc Cert.OutDwAttnIdeal.nD Cert.OutDwAttnIdeal.τ Cert.OutDwAttnIdeal.sig) → Buf (Elt Ideal) ℓ) (g : Dev Cert.OutDwAttnIdeal.nD → PrngReg)
    (m' : (ℓ : Loc Cert.OutDwAttnRefIdeal.nD Cert.OutDwAttnRefIdeal.τ Cert.OutDwAttnRefIdeal.sig) → Buf (Elt Ideal) ℓ) (g' : Dev Cert.OutDwAttnRefIdeal.nD → PrngReg), Pre_OutDwAttnIdeal m →
    (∀ c : Dev Cert.OutDwAttnIdeal.nD,
      m' ((c.tc : Thread Cert.OutDwAttnRefIdeal.nD Cert.OutDwAttnRefIdeal.τ).loc Cert.OutDwAttnRefIdeal.main_arg0) = m ((c.tc : Thread Cert.OutDwAttnIdeal.nD Cert.OutDwAttnIdeal.τ).loc Cert.OutDwAttnIdeal.main_arg0)
      ∧ m' ((c.tc : Thread Cert.OutDwAttnRefIdeal.nD Cert.OutDwAttnRefIdeal.τ).loc Cert.OutDwAttnRefIdeal.main_arg1) = m ((c.tc : Thread Cert.OutDwAttnIdeal.nD Cert.OutDwAttnIdeal.τ).loc Cert.OutDwAttnIdeal.main_arg1)) →
    ∃ (v0 : (c : Dev Cert.OutDwAttnIdeal.nD) → Buf (Elt Ideal) ((c.tc : Thread Cert.OutDwAttnIdeal.nD Cert.OutDwAttnIdeal.τ).loc Cert.OutDwAttnIdeal.main_v0)),
      θ_run (Cert.OutDwAttnIdeal.defs (F := Ideal)) (onTc (τ := Cert.OutDwAttnIdeal.τ) (Cert.OutDwAttnIdeal.main (F := Ideal))) ⟨m, fun _ => 0, g⟩ (fun r => ∀ c : Dev Cert.OutDwAttnIdeal.nD,
          r.2.mem ((c.tc : Thread Cert.OutDwAttnIdeal.nD Cert.OutDwAttnIdeal.τ).loc Cert.OutDwAttnIdeal.main_v0) = v0 c
          ∧ r.2.mem ((c.tc : Thread Cert.OutDwAttnIdeal.nD Cert.OutDwAttnIdeal.τ).loc Cert.OutDwAttnIdeal.main_arg0) = m ((c.tc : Thread Cert.OutDwAttnIdeal.nD Cert.OutDwAttnIdeal.τ).loc Cert.OutDwAttnIdeal.main_arg0)
          ∧ r.2.mem ((c.tc : Thread Cert.OutDwAttnIdeal.nD Cert.OutDwAttnIdeal.τ).loc Cert.OutDwAttnIdeal.main_arg1) = m ((c.tc : Thread Cert.OutDwAttnIdeal.nD Cert.OutDwAttnIdeal.τ).loc Cert.OutDwAttnIdeal.main_arg1))
      ∧ θ_run (Cert.OutDwAttnRefIdeal.defs (F := Ideal)) (onTc (τ := Cert.OutDwAttnRefIdeal.τ) (Cert.OutDwAttnRefIdeal.main (F := Ideal))) ⟨m', fun _ => 0, g'⟩ (fun r => ∀ c : Dev Cert.OutDwAttnRefIdeal.nD,
          r.2.mem ((c.tc : Thread Cert.OutDwAttnRefIdeal.nD Cert.OutDwAttnRefIdeal.τ).loc Cert.OutDwAttnRefIdeal.main_v4) = v0 c
          ∧ r.2.mem ((c.tc : Thread Cert.OutDwAttnRefIdeal.nD Cert.OutDwAttnRefIdeal.τ).loc Cert.OutDwAttnRefIdeal.main_arg0) = m' ((c.tc : Thread Cert.OutDwAttnRefIdeal.nD Cert.OutDwAttnRefIdeal.τ).loc Cert.OutDwAttnRefIdeal.main_arg0)
          ∧ r.2.mem ((c.tc : Thread Cert.OutDwAttnRefIdeal.nD Cert.OutDwAttnRefIdeal.τ).loc Cert.OutDwAttnRefIdeal.main_arg1) = m' ((c.tc : Thread Cert.OutDwAttnRefIdeal.nD Cert.OutDwAttnRefIdeal.τ).loc Cert.OutDwAttnRefIdeal.main_arg1))

def preserves_OutDwSsd_OutDwSsdIdeal : Prop :=
  True

def algebraic_OutDwSsdIdeal_OutDwSsdRefIdeal [hOutDwSsdIdeal : Cert.OutDwSsdIdeal.Facts] [hOutDwSsdRefIdeal : Cert.OutDwSsdRefIdeal.Facts] : Prop :=
  ∀ (m : (ℓ : Loc Cert.OutDwSsdIdeal.nD Cert.OutDwSsdIdeal.τ Cert.OutDwSsdIdeal.sig) → Buf (Elt Ideal) ℓ) (g : Dev Cert.OutDwSsdIdeal.nD → PrngReg)
    (m' : (ℓ : Loc Cert.OutDwSsdRefIdeal.nD Cert.OutDwSsdRefIdeal.τ Cert.OutDwSsdRefIdeal.sig) → Buf (Elt Ideal) ℓ) (g' : Dev Cert.OutDwSsdRefIdeal.nD → PrngReg), Pre_OutDwSsdIdeal m →
    (∀ c : Dev Cert.OutDwSsdIdeal.nD,
      m' ((c.tc : Thread Cert.OutDwSsdRefIdeal.nD Cert.OutDwSsdRefIdeal.τ).loc Cert.OutDwSsdRefIdeal.main_arg0) = m ((c.tc : Thread Cert.OutDwSsdIdeal.nD Cert.OutDwSsdIdeal.τ).loc Cert.OutDwSsdIdeal.main_arg0)
      ∧ m' ((c.tc : Thread Cert.OutDwSsdRefIdeal.nD Cert.OutDwSsdRefIdeal.τ).loc Cert.OutDwSsdRefIdeal.main_arg1) = m ((c.tc : Thread Cert.OutDwSsdIdeal.nD Cert.OutDwSsdIdeal.τ).loc Cert.OutDwSsdIdeal.main_arg1)) →
    ∃ (v0 : (c : Dev Cert.OutDwSsdIdeal.nD) → Buf (Elt Ideal) ((c.tc : Thread Cert.OutDwSsdIdeal.nD Cert.OutDwSsdIdeal.τ).loc Cert.OutDwSsdIdeal.main_v0)),
      θ_run (Cert.OutDwSsdIdeal.defs (F := Ideal)) (onTc (τ := Cert.OutDwSsdIdeal.τ) (Cert.OutDwSsdIdeal.main (F := Ideal))) ⟨m, fun _ => 0, g⟩ (fun r => ∀ c : Dev Cert.OutDwSsdIdeal.nD,
          r.2.mem ((c.tc : Thread Cert.OutDwSsdIdeal.nD Cert.OutDwSsdIdeal.τ).loc Cert.OutDwSsdIdeal.main_v0) = v0 c
          ∧ r.2.mem ((c.tc : Thread Cert.OutDwSsdIdeal.nD Cert.OutDwSsdIdeal.τ).loc Cert.OutDwSsdIdeal.main_arg0) = m ((c.tc : Thread Cert.OutDwSsdIdeal.nD Cert.OutDwSsdIdeal.τ).loc Cert.OutDwSsdIdeal.main_arg0)
          ∧ r.2.mem ((c.tc : Thread Cert.OutDwSsdIdeal.nD Cert.OutDwSsdIdeal.τ).loc Cert.OutDwSsdIdeal.main_arg1) = m ((c.tc : Thread Cert.OutDwSsdIdeal.nD Cert.OutDwSsdIdeal.τ).loc Cert.OutDwSsdIdeal.main_arg1))
      ∧ θ_run (Cert.OutDwSsdRefIdeal.defs (F := Ideal)) (onTc (τ := Cert.OutDwSsdRefIdeal.τ) (Cert.OutDwSsdRefIdeal.main (F := Ideal))) ⟨m', fun _ => 0, g'⟩ (fun r => ∀ c : Dev Cert.OutDwSsdRefIdeal.nD,
          r.2.mem ((c.tc : Thread Cert.OutDwSsdRefIdeal.nD Cert.OutDwSsdRefIdeal.τ).loc Cert.OutDwSsdRefIdeal.main_v5) = v0 c
          ∧ r.2.mem ((c.tc : Thread Cert.OutDwSsdRefIdeal.nD Cert.OutDwSsdRefIdeal.τ).loc Cert.OutDwSsdRefIdeal.main_arg0) = m' ((c.tc : Thread Cert.OutDwSsdRefIdeal.nD Cert.OutDwSsdRefIdeal.τ).loc Cert.OutDwSsdRefIdeal.main_arg0)
          ∧ r.2.mem ((c.tc : Thread Cert.OutDwSsdRefIdeal.nD Cert.OutDwSsdRefIdeal.τ).loc Cert.OutDwSsdRefIdeal.main_arg1) = m' ((c.tc : Thread Cert.OutDwSsdRefIdeal.nD Cert.OutDwSsdRefIdeal.τ).loc Cert.OutDwSsdRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v8) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5))

def preserves_InDwQ_InDwQIdeal : Prop :=
  True

def algebraic_InDwQIdeal_InDwQRefIdeal [hInDwQIdeal : Cert.InDwQIdeal.Facts] [hInDwQRefIdeal : Cert.InDwQRefIdeal.Facts] : Prop :=
  ∀ (m : (ℓ : Loc Cert.InDwQIdeal.nD Cert.InDwQIdeal.τ Cert.InDwQIdeal.sig) → Buf (Elt Ideal) ℓ) (g : Dev Cert.InDwQIdeal.nD → PrngReg)
    (m' : (ℓ : Loc Cert.InDwQRefIdeal.nD Cert.InDwQRefIdeal.τ Cert.InDwQRefIdeal.sig) → Buf (Elt Ideal) ℓ) (g' : Dev Cert.InDwQRefIdeal.nD → PrngReg), Pre_InDwQIdeal m →
    (∀ c : Dev Cert.InDwQIdeal.nD,
      m' ((c.tc : Thread Cert.InDwQRefIdeal.nD Cert.InDwQRefIdeal.τ).loc Cert.InDwQRefIdeal.main_arg0) = m ((c.tc : Thread Cert.InDwQIdeal.nD Cert.InDwQIdeal.τ).loc Cert.InDwQIdeal.main_arg0)
      ∧ m' ((c.tc : Thread Cert.InDwQRefIdeal.nD Cert.InDwQRefIdeal.τ).loc Cert.InDwQRefIdeal.main_arg1) = m ((c.tc : Thread Cert.InDwQIdeal.nD Cert.InDwQIdeal.τ).loc Cert.InDwQIdeal.main_arg1)) →
    ∃ (v0 : (c : Dev Cert.InDwQIdeal.nD) → Buf (Elt Ideal) ((c.tc : Thread Cert.InDwQIdeal.nD Cert.InDwQIdeal.τ).loc Cert.InDwQIdeal.main_v0)),
      θ_run (Cert.InDwQIdeal.defs (F := Ideal)) (onTc (τ := Cert.InDwQIdeal.τ) (Cert.InDwQIdeal.main (F := Ideal))) ⟨m, fun _ => 0, g⟩ (fun r => ∀ c : Dev Cert.InDwQIdeal.nD,
          r.2.mem ((c.tc : Thread Cert.InDwQIdeal.nD Cert.InDwQIdeal.τ).loc Cert.InDwQIdeal.main_v0) = v0 c
          ∧ r.2.mem ((c.tc : Thread Cert.InDwQIdeal.nD Cert.InDwQIdeal.τ).loc Cert.InDwQIdeal.main_arg0) = m ((c.tc : Thread Cert.InDwQIdeal.nD Cert.InDwQIdeal.τ).loc Cert.InDwQIdeal.main_arg0)
          ∧ r.2.mem ((c.tc : Thread Cert.InDwQIdeal.nD Cert.InDwQIdeal.τ).loc Cert.InDwQIdeal.main_arg1) = m ((c.tc : Thread Cert.InDwQIdeal.nD Cert.InDwQIdeal.τ).loc Cert.InDwQIdeal.main_arg1))
      ∧ θ_run (Cert.InDwQRefIdeal.defs (F := Ideal)) (onTc (τ := Cert.InDwQRefIdeal.τ) (Cert.InDwQRefIdeal.main (F := Ideal))) ⟨m', fun _ => 0, g'⟩ (fun r => ∀ c : Dev Cert.InDwQRefIdeal.nD,
          r.2.mem ((c.tc : Thread Cert.InDwQRefIdeal.nD Cert.InDwQRefIdeal.τ).loc Cert.InDwQRefIdeal.main_v6) = v0 c
          ∧ r.2.mem ((c.tc : Thread Cert.InDwQRefIdeal.nD Cert.InDwQRefIdeal.τ).loc Cert.InDwQRefIdeal.main_arg0) = m' ((c.tc : Thread Cert.InDwQRefIdeal.nD Cert.InDwQRefIdeal.τ).loc Cert.InDwQRefIdeal.main_arg0)
          ∧ r.2.mem ((c.tc : Thread Cert.InDwQRefIdeal.nD Cert.InDwQRefIdeal.τ).loc Cert.InDwQRefIdeal.main_arg1) = m' ((c.tc : Thread Cert.InDwQRefIdeal.nD Cert.InDwQRefIdeal.τ).loc Cert.InDwQRefIdeal.main_arg1))

def preserves_InDwZ_InDwZIdeal : Prop :=
  True

def algebraic_InDwZIdeal_InDwZRefIdeal [hInDwZIdeal : Cert.InDwZIdeal.Facts] [hInDwZRefIdeal : Cert.InDwZRefIdeal.Facts] : Prop :=
  ∀ (m : (ℓ : Loc Cert.InDwZIdeal.nD Cert.InDwZIdeal.τ Cert.InDwZIdeal.sig) → Buf (Elt Ideal) ℓ) (g : Dev Cert.InDwZIdeal.nD → PrngReg)
    (m' : (ℓ : Loc Cert.InDwZRefIdeal.nD Cert.InDwZRefIdeal.τ Cert.InDwZRefIdeal.sig) → Buf (Elt Ideal) ℓ) (g' : Dev Cert.InDwZRefIdeal.nD → PrngReg), Pre_InDwZIdeal m →
    (∀ c : Dev Cert.InDwZIdeal.nD,
      m' ((c.tc : Thread Cert.InDwZRefIdeal.nD Cert.InDwZRefIdeal.τ).loc Cert.InDwZRefIdeal.main_arg0) = m ((c.tc : Thread Cert.InDwZIdeal.nD Cert.InDwZIdeal.τ).loc Cert.InDwZIdeal.main_arg0)
      ∧ m' ((c.tc : Thread Cert.InDwZRefIdeal.nD Cert.InDwZRefIdeal.τ).loc Cert.InDwZRefIdeal.main_arg1) = m ((c.tc : Thread Cert.InDwZIdeal.nD Cert.InDwZIdeal.τ).loc Cert.InDwZIdeal.main_arg1)) →
    ∃ (v0 : (c : Dev Cert.InDwZIdeal.nD) → Buf (Elt Ideal) ((c.tc : Thread Cert.InDwZIdeal.nD Cert.InDwZIdeal.τ).loc Cert.InDwZIdeal.main_v0)),
      θ_run (Cert.InDwZIdeal.defs (F := Ideal)) (onTc (τ := Cert.InDwZIdeal.τ) (Cert.InDwZIdeal.main (F := Ideal))) ⟨m, fun _ => 0, g⟩ (fun r => ∀ c : Dev Cert.InDwZIdeal.nD,
          r.2.mem ((c.tc : Thread Cert.InDwZIdeal.nD Cert.InDwZIdeal.τ).loc Cert.InDwZIdeal.main_v0) = v0 c
          ∧ r.2.mem ((c.tc : Thread Cert.InDwZIdeal.nD Cert.InDwZIdeal.τ).loc Cert.InDwZIdeal.main_arg0) = m ((c.tc : Thread Cert.InDwZIdeal.nD Cert.InDwZIdeal.τ).loc Cert.InDwZIdeal.main_arg0)
          ∧ r.2.mem ((c.tc : Thread Cert.InDwZIdeal.nD Cert.InDwZIdeal.τ).loc Cert.InDwZIdeal.main_arg1) = m ((c.tc : Thread Cert.InDwZIdeal.nD Cert.InDwZIdeal.τ).loc Cert.InDwZIdeal.main_arg1))
      ∧ θ_run (Cert.InDwZRefIdeal.defs (F := Ideal)) (onTc (τ := Cert.InDwZRefIdeal.τ) (Cert.InDwZRefIdeal.main (F := Ideal))) ⟨m', fun _ => 0, g'⟩ (fun r => ∀ c : Dev Cert.InDwZRefIdeal.nD,
          r.2.mem ((c.tc : Thread Cert.InDwZRefIdeal.nD Cert.InDwZRefIdeal.τ).loc Cert.InDwZRefIdeal.main_v6) = v0 c
          ∧ r.2.mem ((c.tc : Thread Cert.InDwZRefIdeal.nD Cert.InDwZRefIdeal.τ).loc Cert.InDwZRefIdeal.main_arg0) = m' ((c.tc : Thread Cert.InDwZRefIdeal.nD Cert.InDwZRefIdeal.τ).loc Cert.InDwZRefIdeal.main_arg0)
          ∧ r.2.mem ((c.tc : Thread Cert.InDwZRefIdeal.nD Cert.InDwZRefIdeal.τ).loc Cert.InDwZRefIdeal.main_arg1) = m' ((c.tc : Thread Cert.InDwZRefIdeal.nD Cert.InDwZRefIdeal.τ).loc Cert.InDwZRefIdeal.main_arg1))

def preserves_InDwXbc_InDwXbcIdeal : Prop :=
  True

def algebraic_InDwXbcIdeal_InDwXbcRefIdeal [hInDwXbcIdeal : Cert.InDwXbcIdeal.Facts] [hInDwXbcRefIdeal : Cert.InDwXbcRefIdeal.Facts] : Prop :=
  ∀ (m : (ℓ : Loc Cert.InDwXbcIdeal.nD Cert.InDwXbcIdeal.τ Cert.InDwXbcIdeal.sig) → Buf (Elt Ideal) ℓ) (g : Dev Cert.InDwXbcIdeal.nD → PrngReg)
    (m' : (ℓ : Loc Cert.InDwXbcRefIdeal.nD Cert.InDwXbcRefIdeal.τ Cert.InDwXbcRefIdeal.sig) → Buf (Elt Ideal) ℓ) (g' : Dev Cert.InDwXbcRefIdeal.nD → PrngReg), Pre_InDwXbcIdeal m →
    (∀ c : Dev Cert.InDwXbcIdeal.nD,
      m' ((c.tc : Thread Cert.InDwXbcRefIdeal.nD Cert.InDwXbcRefIdeal.τ).loc Cert.InDwXbcRefIdeal.main_arg0) = m ((c.tc : Thread Cert.InDwXbcIdeal.nD Cert.InDwXbcIdeal.τ).loc Cert.InDwXbcIdeal.main_arg0)
      ∧ m' ((c.tc : Thread Cert.InDwXbcRefIdeal.nD Cert.InDwXbcRefIdeal.τ).loc Cert.InDwXbcRefIdeal.main_arg1) = m ((c.tc : Thread Cert.InDwXbcIdeal.nD Cert.InDwXbcIdeal.τ).loc Cert.InDwXbcIdeal.main_arg1)) →
    ∃ (v0 : (c : Dev Cert.InDwXbcIdeal.nD) → Buf (Elt Ideal) ((c.tc : Thread Cert.InDwXbcIdeal.nD Cert.InDwXbcIdeal.τ).loc Cert.InDwXbcIdeal.main_v0)),
      θ_run (Cert.InDwXbcIdeal.defs (F := Ideal)) (onTc (τ := Cert.InDwXbcIdeal.τ) (Cert.InDwXbcIdeal.main (F := Ideal))) ⟨m, fun _ => 0, g⟩ (fun r => ∀ c : Dev Cert.InDwXbcIdeal.nD,
          r.2.mem ((c.tc : Thread Cert.InDwXbcIdeal.nD Cert.InDwXbcIdeal.τ).loc Cert.InDwXbcIdeal.main_v0) = v0 c
          ∧ r.2.mem ((c.tc : Thread Cert.InDwXbcIdeal.nD Cert.InDwXbcIdeal.τ).loc Cert.InDwXbcIdeal.main_arg0) = m ((c.tc : Thread Cert.InDwXbcIdeal.nD Cert.InDwXbcIdeal.τ).loc Cert.InDwXbcIdeal.main_arg0)
          ∧ r.2.mem ((c.tc : Thread Cert.InDwXbcIdeal.nD Cert.InDwXbcIdeal.τ).loc Cert.InDwXbcIdeal.main_arg1) = m ((c.tc : Thread Cert.InDwXbcIdeal.nD Cert.InDwXbcIdeal.τ).loc Cert.InDwXbcIdeal.main_arg1))
      ∧ θ_run (Cert.InDwXbcRefIdeal.defs (F := Ideal)) (onTc (τ := Cert.InDwXbcRefIdeal.τ) (Cert.InDwXbcRefIdeal.main (F := Ideal))) ⟨m', fun _ => 0, g'⟩ (fun r => ∀ c : Dev Cert.InDwXbcRefIdeal.nD,
          r.2.mem ((c.tc : Thread Cert.InDwXbcRefIdeal.nD Cert.InDwXbcRefIdeal.τ).loc Cert.InDwXbcRefIdeal.main_v6) = v0 c
          ∧ r.2.mem ((c.tc : Thread Cert.InDwXbcRefIdeal.nD Cert.InDwXbcRefIdeal.τ).loc Cert.InDwXbcRefIdeal.main_arg0) = m' ((c.tc : Thread Cert.InDwXbcRefIdeal.nD Cert.InDwXbcRefIdeal.τ).loc Cert.InDwXbcRefIdeal.main_arg0)
          ∧ r.2.mem ((c.tc : Thread Cert.InDwXbcRefIdeal.nD Cert.InDwXbcRefIdeal.τ).loc Cert.InDwXbcRefIdeal.main_arg1) = m' ((c.tc : Thread Cert.InDwXbcRefIdeal.nD Cert.InDwXbcRefIdeal.τ).loc Cert.InDwXbcRefIdeal.main_arg1))

def preserves_InDwKv_InDwKvIdeal : Prop :=
  True

def algebraic_InDwKvIdeal_InDwKvRefIdeal [hInDwKvIdeal : Cert.InDwKvIdeal.Facts] [hInDwKvRefIdeal : Cert.InDwKvRefIdeal.Facts] : Prop :=
  ∀ (m : (ℓ : Loc Cert.InDwKvIdeal.nD Cert.InDwKvIdeal.τ Cert.InDwKvIdeal.sig) → Buf (Elt Ideal) ℓ) (g : Dev Cert.InDwKvIdeal.nD → PrngReg)
    (m' : (ℓ : Loc Cert.InDwKvRefIdeal.nD Cert.InDwKvRefIdeal.τ Cert.InDwKvRefIdeal.sig) → Buf (Elt Ideal) ℓ) (g' : Dev Cert.InDwKvRefIdeal.nD → PrngReg), Pre_InDwKvIdeal m →
    (∀ c : Dev Cert.InDwKvIdeal.nD,
      m' ((c.tc : Thread Cert.InDwKvRefIdeal.nD Cert.InDwKvRefIdeal.τ).loc Cert.InDwKvRefIdeal.main_arg0) = m ((c.tc : Thread Cert.InDwKvIdeal.nD Cert.InDwKvIdeal.τ).loc Cert.InDwKvIdeal.main_arg0)
      ∧ m' ((c.tc : Thread Cert.InDwKvRefIdeal.nD Cert.InDwKvRefIdeal.τ).loc Cert.InDwKvRefIdeal.main_arg1) = m ((c.tc : Thread Cert.InDwKvIdeal.nD Cert.InDwKvIdeal.τ).loc Cert.InDwKvIdeal.main_arg1)) →
    ∃ (v0 : (c : Dev Cert.InDwKvIdeal.nD) → Buf (Elt Ideal) ((c.tc : Thread Cert.InDwKvIdeal.nD Cert.InDwKvIdeal.τ).loc Cert.InDwKvIdeal.main_v0)),
      θ_run (Cert.InDwKvIdeal.defs (F := Ideal)) (onTc (τ := Cert.InDwKvIdeal.τ) (Cert.InDwKvIdeal.main (F := Ideal))) ⟨m, fun _ => 0, g⟩ (fun r => ∀ c : Dev Cert.InDwKvIdeal.nD,
          r.2.mem ((c.tc : Thread Cert.InDwKvIdeal.nD Cert.InDwKvIdeal.τ).loc Cert.InDwKvIdeal.main_v0) = v0 c
          ∧ r.2.mem ((c.tc : Thread Cert.InDwKvIdeal.nD Cert.InDwKvIdeal.τ).loc Cert.InDwKvIdeal.main_arg0) = m ((c.tc : Thread Cert.InDwKvIdeal.nD Cert.InDwKvIdeal.τ).loc Cert.InDwKvIdeal.main_arg0)
          ∧ r.2.mem ((c.tc : Thread Cert.InDwKvIdeal.nD Cert.InDwKvIdeal.τ).loc Cert.InDwKvIdeal.main_arg1) = m ((c.tc : Thread Cert.InDwKvIdeal.nD Cert.InDwKvIdeal.τ).loc Cert.InDwKvIdeal.main_arg1))
      ∧ θ_run (Cert.InDwKvRefIdeal.defs (F := Ideal)) (onTc (τ := Cert.InDwKvRefIdeal.τ) (Cert.InDwKvRefIdeal.main (F := Ideal))) ⟨m', fun _ => 0, g'⟩ (fun r => ∀ c : Dev Cert.InDwKvRefIdeal.nD,
          r.2.mem ((c.tc : Thread Cert.InDwKvRefIdeal.nD Cert.InDwKvRefIdeal.τ).loc Cert.InDwKvRefIdeal.main_v6) = v0 c
          ∧ r.2.mem ((c.tc : Thread Cert.InDwKvRefIdeal.nD Cert.InDwKvRefIdeal.τ).loc Cert.InDwKvRefIdeal.main_arg0) = m' ((c.tc : Thread Cert.InDwKvRefIdeal.nD Cert.InDwKvRefIdeal.τ).loc Cert.InDwKvRefIdeal.main_arg0)
          ∧ r.2.mem ((c.tc : Thread Cert.InDwKvRefIdeal.nD Cert.InDwKvRefIdeal.τ).loc Cert.InDwKvRefIdeal.main_arg1) = m' ((c.tc : Thread Cert.InDwKvRefIdeal.nD Cert.InDwKvRefIdeal.τ).loc Cert.InDwKvRefIdeal.main_arg1))

def preserves_InDwDt_InDwDtIdeal : Prop :=
  True

def algebraic_InDwDtIdeal_InDwDtRefIdeal [hInDwDtIdeal : Cert.InDwDtIdeal.Facts] [hInDwDtRefIdeal : Cert.InDwDtRefIdeal.Facts] : Prop :=
  ∀ (m : (ℓ : Loc Cert.InDwDtIdeal.nD Cert.InDwDtIdeal.τ Cert.InDwDtIdeal.sig) → Buf (Elt Ideal) ℓ) (g : Dev Cert.InDwDtIdeal.nD → PrngReg)
    (m' : (ℓ : Loc Cert.InDwDtRefIdeal.nD Cert.InDwDtRefIdeal.τ Cert.InDwDtRefIdeal.sig) → Buf (Elt Ideal) ℓ) (g' : Dev Cert.InDwDtRefIdeal.nD → PrngReg), Pre_InDwDtIdeal m →
    (∀ c : Dev Cert.InDwDtIdeal.nD,
      m' ((c.tc : Thread Cert.InDwDtRefIdeal.nD Cert.InDwDtRefIdeal.τ).loc Cert.InDwDtRefIdeal.main_arg0) = m ((c.tc : Thread Cert.InDwDtIdeal.nD Cert.InDwDtIdeal.τ).loc Cert.InDwDtIdeal.main_arg0)
      ∧ m' ((c.tc : Thread Cert.InDwDtRefIdeal.nD Cert.InDwDtRefIdeal.τ).loc Cert.InDwDtRefIdeal.main_arg1) = m ((c.tc : Thread Cert.InDwDtIdeal.nD Cert.InDwDtIdeal.τ).loc Cert.InDwDtIdeal.main_arg1)) →
    ∃ (v0 : (c : Dev Cert.InDwDtIdeal.nD) → Buf (Elt Ideal) ((c.tc : Thread Cert.InDwDtIdeal.nD Cert.InDwDtIdeal.τ).loc Cert.InDwDtIdeal.main_v0)),
      θ_run (Cert.InDwDtIdeal.defs (F := Ideal)) (onTc (τ := Cert.InDwDtIdeal.τ) (Cert.InDwDtIdeal.main (F := Ideal))) ⟨m, fun _ => 0, g⟩ (fun r => ∀ c : Dev Cert.InDwDtIdeal.nD,
          r.2.mem ((c.tc : Thread Cert.InDwDtIdeal.nD Cert.InDwDtIdeal.τ).loc Cert.InDwDtIdeal.main_v0) = v0 c
          ∧ r.2.mem ((c.tc : Thread Cert.InDwDtIdeal.nD Cert.InDwDtIdeal.τ).loc Cert.InDwDtIdeal.main_arg0) = m ((c.tc : Thread Cert.InDwDtIdeal.nD Cert.InDwDtIdeal.τ).loc Cert.InDwDtIdeal.main_arg0)
          ∧ r.2.mem ((c.tc : Thread Cert.InDwDtIdeal.nD Cert.InDwDtIdeal.τ).loc Cert.InDwDtIdeal.main_arg1) = m ((c.tc : Thread Cert.InDwDtIdeal.nD Cert.InDwDtIdeal.τ).loc Cert.InDwDtIdeal.main_arg1))
      ∧ θ_run (Cert.InDwDtRefIdeal.defs (F := Ideal)) (onTc (τ := Cert.InDwDtRefIdeal.τ) (Cert.InDwDtRefIdeal.main (F := Ideal))) ⟨m', fun _ => 0, g'⟩ (fun r => ∀ c : Dev Cert.InDwDtRefIdeal.nD,
          r.2.mem ((c.tc : Thread Cert.InDwDtRefIdeal.nD Cert.InDwDtRefIdeal.τ).loc Cert.InDwDtRefIdeal.main_v5) = v0 c
          ∧ r.2.mem ((c.tc : Thread Cert.InDwDtRefIdeal.nD Cert.InDwDtRefIdeal.τ).loc Cert.InDwDtRefIdeal.main_arg0) = m' ((c.tc : Thread Cert.InDwDtRefIdeal.nD Cert.InDwDtRefIdeal.τ).loc Cert.InDwDtRefIdeal.main_arg0)
          ∧ r.2.mem ((c.tc : Thread Cert.InDwDtRefIdeal.nD Cert.InDwDtRefIdeal.τ).loc Cert.InDwDtRefIdeal.main_arg1) = m' ((c.tc : Thread Cert.InDwDtRefIdeal.nD Cert.InDwDtRefIdeal.τ).loc Cert.InDwDtRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v4) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v3) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)) →
    ∃ (v0 : (c : Dev Cert.DownFwdIdeal.nD) → Buf (Elt Ideal) ((c.tc : Thread Cert.DownFwdIdeal.nD Cert.DownFwdIdeal.τ).loc Cert.DownFwdIdeal.main_v0)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0) = v0 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2))

def preserves_SwigluBwd_SwigluBwdIdeal : Prop :=
  True

def algebraic_SwigluBwdIdeal_SwigluBwdRefIdeal [hSwigluBwdIdeal : Cert.SwigluBwdIdeal.Facts] [hSwigluBwdRefIdeal : Cert.SwigluBwdRefIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)) →
    ∃ (v0 : (c : Dev Cert.SwigluBwdIdeal.nD) → Buf (Elt Ideal) ((c.tc : Thread Cert.SwigluBwdIdeal.nD Cert.SwigluBwdIdeal.τ).loc Cert.SwigluBwdIdeal.main_v0_0)) (v1 : (c : Dev Cert.SwigluBwdIdeal.nD) → Buf (Elt Ideal) ((c.tc : Thread Cert.SwigluBwdIdeal.nD Cert.SwigluBwdIdeal.τ).loc Cert.SwigluBwdIdeal.main_v0_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v0_0) = v0 c
          ∧ r.2.mem ((c.tc : Thread Cert.SwigluBwdIdeal.nD Cert.SwigluBwdIdeal.τ).loc Cert.SwigluBwdIdeal.main_v0_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v8) = v0 c
          ∧ r.2.mem ((c.tc : Thread Cert.SwigluBwdRefIdeal.nD Cert.SwigluBwdRefIdeal.τ).loc Cert.SwigluBwdRefIdeal.main_v9) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v0)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v0) = v0 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v4) = v0 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v1_0)) (v1 : (c : Dev Cert.RmsBwdIdeal.nD) → Buf (Elt Ideal) ((c.tc : Thread Cert.RmsBwdIdeal.nD Cert.RmsBwdIdeal.τ).loc Cert.RmsBwdIdeal.main_v1_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v1_0) = v0 c
          ∧ r.2.mem ((c.tc : Thread Cert.RmsBwdIdeal.nD Cert.RmsBwdIdeal.τ).loc Cert.RmsBwdIdeal.main_v1_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v36) = v0 c
          ∧ r.2.mem ((c.tc : Thread Cert.RmsBwdRefIdeal.nD Cert.RmsBwdRefIdeal.τ).loc Cert.RmsBwdRefIdeal.main_v37) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_GnFwd_GnFwdIdeal : Prop :=
  True

def algebraic_GnFwdIdeal_GnFwdRefIdeal [hGnFwdIdeal : Cert.GnFwdIdeal.Facts] [hGnFwdRefIdeal : Cert.GnFwdRefIdeal.Facts] : Prop :=
  ∀ (m : (ℓ : Loc Cert.GnFwdIdeal.nD Cert.GnFwdIdeal.τ Cert.GnFwdIdeal.sig) → Buf (Elt Ideal) ℓ) (g : Dev Cert.GnFwdIdeal.nD → PrngReg)
    (m' : (ℓ : Loc Cert.GnFwdRefIdeal.nD Cert.GnFwdRefIdeal.τ Cert.GnFwdRefIdeal.sig) → Buf (Elt Ideal) ℓ) (g' : Dev Cert.GnFwdRefIdeal.nD → PrngReg), Pre_GnFwdIdeal m →
    (∀ c : Dev Cert.GnFwdIdeal.nD,
      m' ((c.tc : Thread Cert.GnFwdRefIdeal.nD Cert.GnFwdRefIdeal.τ).loc Cert.GnFwdRefIdeal.main_arg0) = m ((c.tc : Thread Cert.GnFwdIdeal.nD Cert.GnFwdIdeal.τ).loc Cert.GnFwdIdeal.main_arg0)
      ∧ m' ((c.tc : Thread Cert.GnFwdRefIdeal.nD Cert.GnFwdRefIdeal.τ).loc Cert.GnFwdRefIdeal.main_arg1) = m ((c.tc : Thread Cert.GnFwdIdeal.nD Cert.GnFwdIdeal.τ).loc Cert.GnFwdIdeal.main_arg1)
      ∧ m' ((c.tc : Thread Cert.GnFwdRefIdeal.nD Cert.GnFwdRefIdeal.τ).loc Cert.GnFwdRefIdeal.main_arg2) = m ((c.tc : Thread Cert.GnFwdIdeal.nD Cert.GnFwdIdeal.τ).loc Cert.GnFwdIdeal.main_arg2)) →
    ∃ (v0 : (c : Dev Cert.GnFwdIdeal.nD) → Buf (Elt Ideal) ((c.tc : Thread Cert.GnFwdIdeal.nD Cert.GnFwdIdeal.τ).loc Cert.GnFwdIdeal.main_v1)),
      θ_run (Cert.GnFwdIdeal.defs (F := Ideal)) (onTc (τ := Cert.GnFwdIdeal.τ) (Cert.GnFwdIdeal.main (F := Ideal))) ⟨m, fun _ => 0, g⟩ (fun r => ∀ c : Dev Cert.GnFwdIdeal.nD,
          r.2.mem ((c.tc : Thread Cert.GnFwdIdeal.nD Cert.GnFwdIdeal.τ).loc Cert.GnFwdIdeal.main_v1) = v0 c
          ∧ r.2.mem ((c.tc : Thread Cert.GnFwdIdeal.nD Cert.GnFwdIdeal.τ).loc Cert.GnFwdIdeal.main_arg0) = m ((c.tc : Thread Cert.GnFwdIdeal.nD Cert.GnFwdIdeal.τ).loc Cert.GnFwdIdeal.main_arg0)
          ∧ r.2.mem ((c.tc : Thread Cert.GnFwdIdeal.nD Cert.GnFwdIdeal.τ).loc Cert.GnFwdIdeal.main_arg1) = m ((c.tc : Thread Cert.GnFwdIdeal.nD Cert.GnFwdIdeal.τ).loc Cert.GnFwdIdeal.main_arg1)
          ∧ r.2.mem ((c.tc : Thread Cert.GnFwdIdeal.nD Cert.GnFwdIdeal.τ).loc Cert.GnFwdIdeal.main_arg2) = m ((c.tc : Thread Cert.GnFwdIdeal.nD Cert.GnFwdIdeal.τ).loc Cert.GnFwdIdeal.main_arg2))
      ∧ θ_run (Cert.GnFwdRefIdeal.defs (F := Ideal)) (onTc (τ := Cert.GnFwdRefIdeal.τ) (Cert.GnFwdRefIdeal.main (F := Ideal))) ⟨m', fun _ => 0, g'⟩ (fun r => ∀ c : Dev Cert.GnFwdRefIdeal.nD,
          r.2.mem ((c.tc : Thread Cert.GnFwdRefIdeal.nD Cert.GnFwdRefIdeal.τ).loc Cert.GnFwdRefIdeal.main_v19) = v0 c
          ∧ r.2.mem ((c.tc : Thread Cert.GnFwdRefIdeal.nD Cert.GnFwdRefIdeal.τ).loc Cert.GnFwdRefIdeal.main_arg0) = m' ((c.tc : Thread Cert.GnFwdRefIdeal.nD Cert.GnFwdRefIdeal.τ).loc Cert.GnFwdRefIdeal.main_arg0)
          ∧ r.2.mem ((c.tc : Thread Cert.GnFwdRefIdeal.nD Cert.GnFwdRefIdeal.τ).loc Cert.GnFwdRefIdeal.main_arg1) = m' ((c.tc : Thread Cert.GnFwdRefIdeal.nD Cert.GnFwdRefIdeal.τ).loc Cert.GnFwdRefIdeal.main_arg1)
          ∧ r.2.mem ((c.tc : Thread Cert.GnFwdRefIdeal.nD Cert.GnFwdRefIdeal.τ).loc Cert.GnFwdRefIdeal.main_arg2) = m' ((c.tc : Thread Cert.GnFwdRefIdeal.nD Cert.GnFwdRefIdeal.τ).loc Cert.GnFwdRefIdeal.main_arg2))

def preserves_GnBwd_GnBwdIdeal : Prop :=
  True

def algebraic_GnBwdIdeal_GnBwdRefIdeal [hGnBwdIdeal : Cert.GnBwdIdeal.Facts] [hGnBwdRefIdeal : Cert.GnBwdRefIdeal.Facts] : Prop :=
  ∀ (m : (ℓ : Loc Cert.GnBwdIdeal.nD Cert.GnBwdIdeal.τ Cert.GnBwdIdeal.sig) → Buf (Elt Ideal) ℓ) (g : Dev Cert.GnBwdIdeal.nD → PrngReg)
    (m' : (ℓ : Loc Cert.GnBwdRefIdeal.nD Cert.GnBwdRefIdeal.τ Cert.GnBwdRefIdeal.sig) → Buf (Elt Ideal) ℓ) (g' : Dev Cert.GnBwdRefIdeal.nD → PrngReg), Pre_GnBwdIdeal m →
    (∀ c : Dev Cert.GnBwdIdeal.nD,
      m' ((c.tc : Thread Cert.GnBwdRefIdeal.nD Cert.GnBwdRefIdeal.τ).loc Cert.GnBwdRefIdeal.main_arg0) = m ((c.tc : Thread Cert.GnBwdIdeal.nD Cert.GnBwdIdeal.τ).loc Cert.GnBwdIdeal.main_arg0)
      ∧ m' ((c.tc : Thread Cert.GnBwdRefIdeal.nD Cert.GnBwdRefIdeal.τ).loc Cert.GnBwdRefIdeal.main_arg1) = m ((c.tc : Thread Cert.GnBwdIdeal.nD Cert.GnBwdIdeal.τ).loc Cert.GnBwdIdeal.main_arg1)
      ∧ m' ((c.tc : Thread Cert.GnBwdRefIdeal.nD Cert.GnBwdRefIdeal.τ).loc Cert.GnBwdRefIdeal.main_arg2) = m ((c.tc : Thread Cert.GnBwdIdeal.nD Cert.GnBwdIdeal.τ).loc Cert.GnBwdIdeal.main_arg2)
      ∧ m' ((c.tc : Thread Cert.GnBwdRefIdeal.nD Cert.GnBwdRefIdeal.τ).loc Cert.GnBwdRefIdeal.main_arg3) = m ((c.tc : Thread Cert.GnBwdIdeal.nD Cert.GnBwdIdeal.τ).loc Cert.GnBwdIdeal.main_arg3)) →
    ∃ (v0 : (c : Dev Cert.GnBwdIdeal.nD) → Buf (Elt Ideal) ((c.tc : Thread Cert.GnBwdIdeal.nD Cert.GnBwdIdeal.τ).loc Cert.GnBwdIdeal.main_v1_0)) (v1 : (c : Dev Cert.GnBwdIdeal.nD) → Buf (Elt Ideal) ((c.tc : Thread Cert.GnBwdIdeal.nD Cert.GnBwdIdeal.τ).loc Cert.GnBwdIdeal.main_v1_1)) (v2 : (c : Dev Cert.GnBwdIdeal.nD) → Buf (Elt Ideal) ((c.tc : Thread Cert.GnBwdIdeal.nD Cert.GnBwdIdeal.τ).loc Cert.GnBwdIdeal.main_v1_2)),
      θ_run (Cert.GnBwdIdeal.defs (F := Ideal)) (onTc (τ := Cert.GnBwdIdeal.τ) (Cert.GnBwdIdeal.main (F := Ideal))) ⟨m, fun _ => 0, g⟩ (fun r => ∀ c : Dev Cert.GnBwdIdeal.nD,
          r.2.mem ((c.tc : Thread Cert.GnBwdIdeal.nD Cert.GnBwdIdeal.τ).loc Cert.GnBwdIdeal.main_v1_0) = v0 c
          ∧ r.2.mem ((c.tc : Thread Cert.GnBwdIdeal.nD Cert.GnBwdIdeal.τ).loc Cert.GnBwdIdeal.main_v1_1) = v1 c
          ∧ r.2.mem ((c.tc : Thread Cert.GnBwdIdeal.nD Cert.GnBwdIdeal.τ).loc Cert.GnBwdIdeal.main_v1_2) = v2 c
          ∧ r.2.mem ((c.tc : Thread Cert.GnBwdIdeal.nD Cert.GnBwdIdeal.τ).loc Cert.GnBwdIdeal.main_arg0) = m ((c.tc : Thread Cert.GnBwdIdeal.nD Cert.GnBwdIdeal.τ).loc Cert.GnBwdIdeal.main_arg0)
          ∧ r.2.mem ((c.tc : Thread Cert.GnBwdIdeal.nD Cert.GnBwdIdeal.τ).loc Cert.GnBwdIdeal.main_arg1) = m ((c.tc : Thread Cert.GnBwdIdeal.nD Cert.GnBwdIdeal.τ).loc Cert.GnBwdIdeal.main_arg1)
          ∧ r.2.mem ((c.tc : Thread Cert.GnBwdIdeal.nD Cert.GnBwdIdeal.τ).loc Cert.GnBwdIdeal.main_arg2) = m ((c.tc : Thread Cert.GnBwdIdeal.nD Cert.GnBwdIdeal.τ).loc Cert.GnBwdIdeal.main_arg2)
          ∧ r.2.mem ((c.tc : Thread Cert.GnBwdIdeal.nD Cert.GnBwdIdeal.τ).loc Cert.GnBwdIdeal.main_arg3) = m ((c.tc : Thread Cert.GnBwdIdeal.nD Cert.GnBwdIdeal.τ).loc Cert.GnBwdIdeal.main_arg3))
      ∧ θ_run (Cert.GnBwdRefIdeal.defs (F := Ideal)) (onTc (τ := Cert.GnBwdRefIdeal.τ) (Cert.GnBwdRefIdeal.main (F := Ideal))) ⟨m', fun _ => 0, g'⟩ (fun r => ∀ c : Dev Cert.GnBwdRefIdeal.nD,
          r.2.mem ((c.tc : Thread Cert.GnBwdRefIdeal.nD Cert.GnBwdRefIdeal.τ).loc Cert.GnBwdRefIdeal.main_v47) = v0 c
          ∧ r.2.mem ((c.tc : Thread Cert.GnBwdRefIdeal.nD Cert.GnBwdRefIdeal.τ).loc Cert.GnBwdRefIdeal.main_v49) = v1 c
          ∧ r.2.mem ((c.tc : Thread Cert.GnBwdRefIdeal.nD Cert.GnBwdRefIdeal.τ).loc Cert.GnBwdRefIdeal.main_v50) = v2 c
          ∧ r.2.mem ((c.tc : Thread Cert.GnBwdRefIdeal.nD Cert.GnBwdRefIdeal.τ).loc Cert.GnBwdRefIdeal.main_arg0) = m' ((c.tc : Thread Cert.GnBwdRefIdeal.nD Cert.GnBwdRefIdeal.τ).loc Cert.GnBwdRefIdeal.main_arg0)
          ∧ r.2.mem ((c.tc : Thread Cert.GnBwdRefIdeal.nD Cert.GnBwdRefIdeal.τ).loc Cert.GnBwdRefIdeal.main_arg1) = m' ((c.tc : Thread Cert.GnBwdRefIdeal.nD Cert.GnBwdRefIdeal.τ).loc Cert.GnBwdRefIdeal.main_arg1)
          ∧ r.2.mem ((c.tc : Thread Cert.GnBwdRefIdeal.nD Cert.GnBwdRefIdeal.τ).loc Cert.GnBwdRefIdeal.main_arg2) = m' ((c.tc : Thread Cert.GnBwdRefIdeal.nD Cert.GnBwdRefIdeal.τ).loc Cert.GnBwdRefIdeal.main_arg2)
          ∧ r.2.mem ((c.tc : Thread Cert.GnBwdRefIdeal.nD Cert.GnBwdRefIdeal.τ).loc Cert.GnBwdRefIdeal.main_arg3) = m' ((c.tc : Thread Cert.GnBwdRefIdeal.nD Cert.GnBwdRefIdeal.τ).loc Cert.GnBwdRefIdeal.main_arg3))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdamIn_AdamInIdeal : Prop :=
  IdealRules.named_const.Statement Cert.AdamInIdeal.κ "bc1" .f32 0x3FC48605#32 ((8388608 / 5463681 : ℝ) : EReal)
  ∧ IdealRules.named_const.Statement Cert.AdamInIdeal.κ "bc2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)
      ∧ m' ((c.tc : Thread Cert.AdamInRefIdeal.nD Cert.AdamInRefIdeal.τ).loc Cert.AdamInRefIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v4) = v0 c
          ∧ r.2.mem ((c.tc : Thread Cert.AdamInRefIdeal.nD Cert.AdamInRefIdeal.τ).loc Cert.AdamInRefIdeal.main_v28) = v1 c
          ∧ r.2.mem ((c.tc : Thread Cert.AdamInRefIdeal.nD Cert.AdamInRefIdeal.τ).loc Cert.AdamInRefIdeal.main_v9) = v2 c
          ∧ r.2.mem ((c.tc : Thread Cert.AdamInRefIdeal.nD Cert.AdamInRefIdeal.τ).loc Cert.AdamInRefIdeal.main_v15) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5)
          ∧ r.2.mem ((c.tc : Thread Cert.AdamInRefIdeal.nD Cert.AdamInRefIdeal.τ).loc Cert.AdamInRefIdeal.main_arg6) = m' ((c.tc : Thread Cert.AdamInRefIdeal.nD Cert.AdamInRefIdeal.τ).loc Cert.AdamInRefIdeal.main_arg6))

def preserves_AdamOut_AdamOutIdeal : Prop :=
  IdealRules.named_const.Statement Cert.AdamOutIdeal.κ "bc1" .f32 0x3FC48605#32 ((8388608 / 5463681 : ℝ) : EReal)
  ∧ IdealRules.named_const.Statement Cert.AdamOutIdeal.κ "bc2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)
      ∧ m' ((c.tc : Thread Cert.AdamOutRefIdeal.nD Cert.AdamOutRefIdeal.τ).loc Cert.AdamOutRefIdeal.main_arg6) = m ((c.tc : Thread Cert.AdamOutIdeal.nD Cert.AdamOutIdeal.τ).loc Cert.AdamOutIdeal.main_arg6)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5)
          ∧ r.2.mem ((c.tc : Thread Cert.AdamOutIdeal.nD Cert.AdamOutIdeal.τ).loc Cert.AdamOutIdeal.main_arg6) = m ((c.tc : Thread Cert.AdamOutIdeal.nD Cert.AdamOutIdeal.τ).loc Cert.AdamOutIdeal.main_arg6))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v4) = v0 c
          ∧ r.2.mem ((c.tc : Thread Cert.AdamOutRefIdeal.nD Cert.AdamOutRefIdeal.τ).loc Cert.AdamOutRefIdeal.main_v28) = v1 c
          ∧ r.2.mem ((c.tc : Thread Cert.AdamOutRefIdeal.nD Cert.AdamOutRefIdeal.τ).loc Cert.AdamOutRefIdeal.main_v9) = v2 c
          ∧ r.2.mem ((c.tc : Thread Cert.AdamOutRefIdeal.nD Cert.AdamOutRefIdeal.τ).loc Cert.AdamOutRefIdeal.main_v15) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5)
          ∧ r.2.mem ((c.tc : Thread Cert.AdamOutRefIdeal.nD Cert.AdamOutRefIdeal.τ).loc Cert.AdamOutRefIdeal.main_arg6) = m' ((c.tc : Thread Cert.AdamOutRefIdeal.nD Cert.AdamOutRefIdeal.τ).loc Cert.AdamOutRefIdeal.main_arg6))

def preserves_AdamUp_AdamUpIdeal : Prop :=
  IdealRules.named_const.Statement Cert.AdamUpIdeal.κ "bc1" .f32 0x3FC48605#32 ((8388608 / 5463681 : ℝ) : EReal)
  ∧ IdealRules.named_const.Statement Cert.AdamUpIdeal.κ "bc2" .f32 0x42C8E6D3#32 ((268435456 / 2672307 : ℝ) : EReal)

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)
      ∧ m' ((c.tc : Thread Cert.AdamUpRefIdeal.nD Cert.AdamUpRefIdeal.τ).loc Cert.AdamUpRefIdeal.main_arg6) = m ((c.tc : Thread Cert.AdamUpIdeal.nD Cert.AdamUpIdeal.τ).loc Cert.AdamUpIdeal.main_arg6)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5)
          ∧ r.2.mem ((c.tc : Thread Cert.AdamUpIdeal.nD Cert.AdamUpIdeal.τ).loc Cert.AdamUpIdeal.main_arg6) = m ((c.tc : Thread Cert.AdamUpIdeal.nD Cert.AdamUpIdeal.τ).loc Cert.AdamUpIdeal.main_arg6))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v4) = v0 c
          ∧ r.2.mem ((c.tc : Thread Cert.AdamUpRefIdeal.nD Cert.AdamUpRefIdeal.τ).loc Cert.AdamUpRefIdeal.main_v28) = v1 c
          ∧ r.2.mem ((c.tc : Thread Cert.AdamUpRefIdeal.nD Cert.AdamUpRefIdeal.τ).loc Cert.AdamUpRefIdeal.main_v9) = v2 c
          ∧ r.2.mem ((c.tc : Thread Cert.AdamUpRefIdeal.nD Cert.AdamUpRefIdeal.τ).loc Cert.AdamUpRefIdeal.main_v15) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5)
          ∧ r.2.mem ((c.tc : Thread Cert.AdamUpRefIdeal.nD Cert.AdamUpRefIdeal.τ).loc Cert.AdamUpRefIdeal.main_arg6) = m' ((c.tc : Thread Cert.AdamUpRefIdeal.nD Cert.AdamUpRefIdeal.τ).loc Cert.AdamUpRefIdeal.main_arg6))

def preserves_AdamDown_AdamDownIdeal : Prop :=
  IdealRules.named_const.Statement Cert.AdamDownIdeal.κ "bc1" .f32 0x3FC48605#32 ((8388608 / 5463681 : ℝ) : EReal)
  ∧ IdealRules.named_const.Statement Cert.AdamDownIdeal.κ "bc2" .f32 0x42C8E6D3#32 ((268435456 / 2672307 : ℝ) : EReal)

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)
      ∧ m' ((c.tc : Thread Cert.AdamDownRefIdeal.nD Cert.AdamDownRefIdeal.τ).loc Cert.AdamDownRefIdeal.main_arg6) = m ((c.tc : Thread Cert.AdamDownIdeal.nD Cert.AdamDownIdeal.τ).loc Cert.AdamDownIdeal.main_arg6)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5)
          ∧ r.2.mem ((c.tc : Thread Cert.AdamDownIdeal.nD Cert.AdamDownIdeal.τ).loc Cert.AdamDownIdeal.main_arg6) = m ((c.tc : Thread Cert.AdamDownIdeal.nD Cert.AdamDownIdeal.τ).loc Cert.AdamDownIdeal.main_arg6))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v4) = v0 c
          ∧ r.2.mem ((c.tc : Thread Cert.AdamDownRefIdeal.nD Cert.AdamDownRefIdeal.τ).loc Cert.AdamDownRefIdeal.main_v28) = v1 c
          ∧ r.2.mem ((c.tc : Thread Cert.AdamDownRefIdeal.nD Cert.AdamDownRefIdeal.τ).loc Cert.AdamDownRefIdeal.main_v9) = v2 c
          ∧ r.2.mem ((c.tc : Thread Cert.AdamDownRefIdeal.nD Cert.AdamDownRefIdeal.τ).loc Cert.AdamDownRefIdeal.main_v15) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5)
          ∧ r.2.mem ((c.tc : Thread Cert.AdamDownRefIdeal.nD Cert.AdamDownRefIdeal.τ).loc Cert.AdamDownRefIdeal.main_arg6) = m' ((c.tc : Thread Cert.AdamDownRefIdeal.nD Cert.AdamDownRefIdeal.τ).loc Cert.AdamDownRefIdeal.main_arg6))

def preserves_AdamSmall_AdamSmallIdeal : Prop :=
  IdealRules.named_const.Statement Cert.AdamSmallIdeal.κ "bc1" .f32 0x3FC48605#32 ((8388608 / 5463681 : ℝ) : EReal)
  ∧ IdealRules.named_const.Statement Cert.AdamSmallIdeal.κ "bc2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg0) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hGateDx : Cert.GateDx.Facts) (hGateDxIdeal : Cert.GateDxIdeal.Facts) (hGateDxRefIdeal : Cert.GateDxRefIdeal.Facts) (hUpDx : Cert.UpDx.Facts) (hUpDxIdeal : Cert.UpDxIdeal.Facts) (hUpDxRefIdeal : Cert.UpDxRefIdeal.Facts) (hOutDx : Cert.OutDx.Facts) (hOutDxIdeal : Cert.OutDxIdeal.Facts) (hOutDxRefIdeal : Cert.OutDxRefIdeal.Facts) (hOutDwAttn : Cert.OutDwAttn.Facts) (hOutDwAttnIdeal : Cert.OutDwAttnIdeal.Facts) (hOutDwAttnRefIdeal : Cert.OutDwAttnRefIdeal.Facts) (hOutDwSsd : Cert.OutDwSsd.Facts) (hOutDwSsdIdeal : Cert.OutDwSsdIdeal.Facts) (hOutDwSsdRefIdeal : Cert.OutDwSsdRefIdeal.Facts) (hInDx : Cert.InDx.Facts) (hInDxIdeal : Cert.InDxIdeal.Facts) (hInDxRefIdeal : Cert.InDxRefIdeal.Facts) (hInDwQ : Cert.InDwQ.Facts) (hInDwQIdeal : Cert.InDwQIdeal.Facts) (hInDwQRefIdeal : Cert.InDwQRefIdeal.Facts) (hInDwZ : Cert.InDwZ.Facts) (hInDwZIdeal : Cert.InDwZIdeal.Facts) (hInDwZRefIdeal : Cert.InDwZRefIdeal.Facts) (hInDwXbc : Cert.InDwXbc.Facts) (hInDwXbcIdeal : Cert.InDwXbcIdeal.Facts) (hInDwXbcRefIdeal : Cert.InDwXbcRefIdeal.Facts) (hInDwKv : Cert.InDwKv.Facts) (hInDwKvIdeal : Cert.InDwKvIdeal.Facts) (hInDwKvRefIdeal : Cert.InDwKvRefIdeal.Facts) (hInDwDt : Cert.InDwDt.Facts) (hInDwDtIdeal : Cert.InDwDtIdeal.Facts) (hInDwDtRefIdeal : Cert.InDwDtRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hGateFwd : Cert.GateFwd.Facts) (hGateFwdIdeal : Cert.GateFwdIdeal.Facts) (hGateFwdRefIdeal : Cert.GateFwdRefIdeal.Facts) (hDownFwd : Cert.DownFwd.Facts) (hDownFwdIdeal : Cert.DownFwdIdeal.Facts) (hDownFwdRefIdeal : Cert.DownFwdRefIdeal.Facts) (hSwigluBwd : Cert.SwigluBwd.Facts) (hSwigluBwdIdeal : Cert.SwigluBwdIdeal.Facts) (hSwigluBwdRefIdeal : Cert.SwigluBwdRefIdeal.Facts) (hSwigluFwd : Cert.SwigluFwd.Facts) (hSwigluFwdIdeal : Cert.SwigluFwdIdeal.Facts) (hSwigluFwdRefIdeal : Cert.SwigluFwdRefIdeal.Facts) (hRmsFwd : Cert.RmsFwd.Facts) (hRmsFwdIdeal : Cert.RmsFwdIdeal.Facts) (hRmsFwdRefIdeal : Cert.RmsFwdRefIdeal.Facts) (hRmsBwd : Cert.RmsBwd.Facts) (hRmsBwdIdeal : Cert.RmsBwdIdeal.Facts) (hRmsBwdRefIdeal : Cert.RmsBwdRefIdeal.Facts) (hGnFwd : Cert.GnFwd.Facts) (hGnFwdIdeal : Cert.GnFwdIdeal.Facts) (hGnFwdRefIdeal : Cert.GnFwdRefIdeal.Facts) (hGnBwd : Cert.GnBwd.Facts) (hGnBwdIdeal : Cert.GnBwdIdeal.Facts) (hGnBwdRefIdeal : Cert.GnBwdRefIdeal.Facts) (hLoss : Cert.Loss.Facts) (hLossIdeal : Cert.LossIdeal.Facts) (hLossRefIdeal : Cert.LossRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts),
    quiescent_Kernel (hKernel := hKernel)
    ∧ quiescent_KernelIdeal (hKernelIdeal := hKernelIdeal)
    ∧ quiescent_ReferenceIdeal (hReferenceIdeal := hReferenceIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDwAttn (hOutDwAttn := hOutDwAttn)
    ∧ quiescent_OutDwAttnIdeal (hOutDwAttnIdeal := hOutDwAttnIdeal)
    ∧ quiescent_OutDwAttnRefIdeal (hOutDwAttnRefIdeal := hOutDwAttnRefIdeal)
    ∧ quiescent_OutDwSsd (hOutDwSsd := hOutDwSsd)
    ∧ quiescent_OutDwSsdIdeal (hOutDwSsdIdeal := hOutDwSsdIdeal)
    ∧ quiescent_OutDwSsdRefIdeal (hOutDwSsdRefIdeal := hOutDwSsdRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDwQ (hInDwQ := hInDwQ)
    ∧ quiescent_InDwQIdeal (hInDwQIdeal := hInDwQIdeal)
    ∧ quiescent_InDwQRefIdeal (hInDwQRefIdeal := hInDwQRefIdeal)
    ∧ quiescent_InDwZ (hInDwZ := hInDwZ)
    ∧ quiescent_InDwZIdeal (hInDwZIdeal := hInDwZIdeal)
    ∧ quiescent_InDwZRefIdeal (hInDwZRefIdeal := hInDwZRefIdeal)
    ∧ quiescent_InDwXbc (hInDwXbc := hInDwXbc)
    ∧ quiescent_InDwXbcIdeal (hInDwXbcIdeal := hInDwXbcIdeal)
    ∧ quiescent_InDwXbcRefIdeal (hInDwXbcRefIdeal := hInDwXbcRefIdeal)
    ∧ quiescent_InDwKv (hInDwKv := hInDwKv)
    ∧ quiescent_InDwKvIdeal (hInDwKvIdeal := hInDwKvIdeal)
    ∧ quiescent_InDwKvRefIdeal (hInDwKvRefIdeal := hInDwKvRefIdeal)
    ∧ quiescent_InDwDt (hInDwDt := hInDwDt)
    ∧ quiescent_InDwDtIdeal (hInDwDtIdeal := hInDwDtIdeal)
    ∧ quiescent_InDwDtRefIdeal (hInDwDtRefIdeal := hInDwDtRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_SwigluBwd (hSwigluBwd := hSwigluBwd)
    ∧ quiescent_SwigluBwdIdeal (hSwigluBwdIdeal := hSwigluBwdIdeal)
    ∧ quiescent_SwigluBwdRefIdeal (hSwigluBwdRefIdeal := hSwigluBwdRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_GnFwd (hGnFwd := hGnFwd)
    ∧ quiescent_GnFwdIdeal (hGnFwdIdeal := hGnFwdIdeal)
    ∧ quiescent_GnFwdRefIdeal (hGnFwdRefIdeal := hGnFwdRefIdeal)
    ∧ quiescent_GnBwd (hGnBwd := hGnBwd)
    ∧ quiescent_GnBwdIdeal (hGnBwdIdeal := hGnBwdIdeal)
    ∧ quiescent_GnBwdRefIdeal (hGnBwdRefIdeal := hGnBwdRefIdeal)
    ∧ quiescent_Loss (hLoss := hLoss)
    ∧ quiescent_LossIdeal (hLossIdeal := hLossIdeal)
    ∧ quiescent_LossRefIdeal (hLossRefIdeal := hLossRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Kernel_KernelIdeal
    ∧ algebraic_KernelIdeal_ReferenceIdeal (hKernelIdeal := hKernelIdeal) (hReferenceIdeal := hReferenceIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_GateDx_GateDxIdeal
    ∧ algebraic_GateDxIdeal_GateDxRefIdeal (hGateDxIdeal := hGateDxIdeal) (hGateDxRefIdeal := hGateDxRefIdeal)
    ∧ preserves_UpDx_UpDxIdeal
    ∧ algebraic_UpDxIdeal_UpDxRefIdeal (hUpDxIdeal := hUpDxIdeal) (hUpDxRefIdeal := hUpDxRefIdeal)
    ∧ preserves_OutDx_OutDxIdeal
    ∧ algebraic_OutDxIdeal_OutDxRefIdeal (hOutDxIdeal := hOutDxIdeal) (hOutDxRefIdeal := hOutDxRefIdeal)
    ∧ preserves_OutDwAttn_OutDwAttnIdeal
    ∧ algebraic_OutDwAttnIdeal_OutDwAttnRefIdeal (hOutDwAttnIdeal := hOutDwAttnIdeal) (hOutDwAttnRefIdeal := hOutDwAttnRefIdeal)
    ∧ preserves_OutDwSsd_OutDwSsdIdeal
    ∧ algebraic_OutDwSsdIdeal_OutDwSsdRefIdeal (hOutDwSsdIdeal := hOutDwSsdIdeal) (hOutDwSsdRefIdeal := hOutDwSsdRefIdeal)
    ∧ preserves_InDx_InDxIdeal
    ∧ algebraic_InDxIdeal_InDxRefIdeal (hInDxIdeal := hInDxIdeal) (hInDxRefIdeal := hInDxRefIdeal)
    ∧ preserves_InDwQ_InDwQIdeal
    ∧ algebraic_InDwQIdeal_InDwQRefIdeal (hInDwQIdeal := hInDwQIdeal) (hInDwQRefIdeal := hInDwQRefIdeal)
    ∧ preserves_InDwZ_InDwZIdeal
    ∧ algebraic_InDwZIdeal_InDwZRefIdeal (hInDwZIdeal := hInDwZIdeal) (hInDwZRefIdeal := hInDwZRefIdeal)
    ∧ preserves_InDwXbc_InDwXbcIdeal
    ∧ algebraic_InDwXbcIdeal_InDwXbcRefIdeal (hInDwXbcIdeal := hInDwXbcIdeal) (hInDwXbcRefIdeal := hInDwXbcRefIdeal)
    ∧ preserves_InDwKv_InDwKvIdeal
    ∧ algebraic_InDwKvIdeal_InDwKvRefIdeal (hInDwKvIdeal := hInDwKvIdeal) (hInDwKvRefIdeal := hInDwKvRefIdeal)
    ∧ preserves_InDwDt_InDwDtIdeal
    ∧ algebraic_InDwDtIdeal_InDwDtRefIdeal (hInDwDtIdeal := hInDwDtIdeal) (hInDwDtRefIdeal := hInDwDtRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_SwigluBwd_SwigluBwdIdeal
    ∧ algebraic_SwigluBwdIdeal_SwigluBwdRefIdeal (hSwigluBwdIdeal := hSwigluBwdIdeal) (hSwigluBwdRefIdeal := hSwigluBwdRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_GnFwd_GnFwdIdeal
    ∧ algebraic_GnFwdIdeal_GnFwdRefIdeal (hGnFwdIdeal := hGnFwdIdeal) (hGnFwdRefIdeal := hGnFwdRefIdeal)
    ∧ preserves_GnBwd_GnBwdIdeal
    ∧ algebraic_GnBwdIdeal_GnBwdRefIdeal (hGnBwdIdeal := hGnBwdIdeal) (hGnBwdRefIdeal := hGnBwdRefIdeal)
    ∧ preserves_Loss_LossIdeal
    ∧ algebraic_LossIdeal_LossRefIdeal (hLossIdeal := hLossIdeal) (hLossRefIdeal := hLossRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Kernel.lean ====
abbrev S4x2048x1536 : Shape := ⟨3, ![4, 2048, 1536]⟩
abbrev S4x2048x3456 : Shape := ⟨3, ![4, 2048, 3456]⟩
abbrev S16 : Shape := ⟨1, ![16]⟩
abbrev S4x2048x1024 : Shape := ⟨3, ![4, 2048, 1024]⟩
abbrev S1x16 : Shape := ⟨2, ![1, 16]⟩
abbrev S_ : Shape := ⟨0, ![]⟩
abbrev S1x128 : Shape := ⟨2, ![1, 128]⟩
abbrev S4x2048x16 : Shape := ⟨3, ![4, 2048, 16]⟩
abbrev S4x2048x256 : Shape := ⟨3, ![4, 2048, 256]⟩
abbrev S1x1x16 : Shape := ⟨3, ![1, 1, 16]⟩
abbrev S64x128x16 : Shape := ⟨3, ![64, 128, 16]⟩
abbrev S64x16x128 : Shape := ⟨3, ![64, 16, 128]⟩
abbrev S64x16x1 : Shape := ⟨3, ![64, 16, 1]⟩
abbrev S64x16 : Shape := ⟨2, ![64, 16]⟩
abbrev S64x128x16x64 : Shape := ⟨4, ![64, 128, 16, 64]⟩
abbrev S64x16x128x64 : Shape := ⟨4, ![64, 16, 128, 64]⟩
abbrev S64x128x2x128 : Shape := ⟨4, ![64, 128, 2, 128]⟩
abbrev S64x2x128x128 : Shape := ⟨4, ![64, 2, 128, 128]⟩
abbrev S64x2x8x128x128 : Shape := ⟨5, ![64, 2, 8, 128, 128]⟩
abbrev S64x16x128x128 : Shape := ⟨4, ![64, 16, 128, 128]⟩
abbrev S64x16x64x128 : Shape := ⟨4, ![64, 16, 64, 128]⟩
abbrev S4x16x16 : Shape := ⟨3, ![4, 16, 16]⟩
abbrev S4x1x16 : Shape := ⟨3, ![4, 1, 16]⟩
abbrev S4x16x16x64x128 : Shape := ⟨5, ![4, 16, 16, 64, 128]⟩
abbrev S4x1x16x64x128 : Shape := ⟨5, ![4, 1, 16, 64, 128]⟩
abbrev S4x2048x128 : Shape := ⟨3, ![4, 2048, 128]⟩
abbrev S8x128 : Shape := ⟨2, ![8, 128]⟩
abbrev S1x128x1536 : Shape := ⟨3, ![1, 128, 1536]⟩
abbrev S1x128x128 : Shape := ⟨3, ![1, 128, 128]⟩
abbrev S1x16x1x64x128 : Shape := ⟨5, ![1, 16, 1, 64, 128]⟩
abbrev S1x128x1024 : Shape := ⟨3, ![1, 128, 1024]⟩
abbrev S16x64x128 : Shape := ⟨3, ![16, 64, 128]⟩
abbrev S128x128 : Shape := ⟨2, ![128, 128]⟩
abbrev S128x1 : Shape := ⟨2, ![128, 1]⟩
abbrev S1x128x64 : Shape := ⟨3, ![1, 128, 64]⟩
abbrev S128x64 : Shape := ⟨2, ![128, 64]⟩
abbrev S1x1x1x64x128 : Shape := ⟨5, ![1, 1, 1, 64, 128]⟩
abbrev S64x128 : Shape := ⟨2, ![64, 128]⟩
abbrev S1x64x128 : Shape := ⟨3, ![1, 64, 128]⟩
abbrev S1 : Shape := ⟨1, ![1]⟩
abbrev S1x1 : Shape := ⟨2, ![1, 1]⟩
abbrev S128 : Shape := ⟨1, ![128]⟩
abbrev S64 : Shape := ⟨1, ![64]⟩
abbrev S64x1 : Shape := ⟨2, ![64, 1]⟩

abbrev nBuf : Space → Nat
  | .hbm => 151
  | .vmem => 17
  | .smem => 0
  | _ => 0

abbrev hbmTy0_0 (i : Nat) : BufTy := match i % 128 with
  | 0 => ⟨S4x2048x1536, .f32⟩
  | 1 => ⟨S4x2048x3456, .f32⟩
  | 2 => ⟨S16, .f32⟩
  | 3 => ⟨S16, .f32⟩
  | 4 => ⟨S16, .f32⟩
  | 5 => ⟨S4x2048x1024, .f32⟩
  | 6 => ⟨S1x16, .f32⟩
  | 7 => ⟨S_, .i32⟩
  | 8 => ⟨S_, .f32⟩
  | 9 => ⟨S1x128, .f32⟩
  | 10 => ⟨S1x16, .f32⟩
  | 11 => ⟨S_, .i32⟩
  | 12 => ⟨S_, .f32⟩
  | 13 => ⟨S1x128, .f32⟩
  | 14 => ⟨S1x16, .f32⟩
  | 15 => ⟨S_, .i32⟩
  | 16 => ⟨S_, .f32⟩
  | 17 => ⟨S1x128, .f32⟩
  | 18 => ⟨S4x2048x16, .f32⟩
  | 19 => ⟨S4x2048x1024, .f32⟩
  | 20 => ⟨S4x2048x256, .f32⟩
  | 21 => ⟨S4x2048x256, .f32⟩
  | 22 => ⟨S1x1x16, .f32⟩
  | 23 => ⟨S4x2048x16, .f32⟩
  | 24 => ⟨S4x2048x16, .f32⟩
  | 25 => ⟨S_, .f32⟩
  | 26 => ⟨S4x2048x16, .f32⟩
  | 27 => ⟨S4x2048x16, .f32⟩
  | 28 => ⟨S4x2048x16, .f32⟩
  | 29 => ⟨S4x2048x16, .f32⟩
  | 30 => ⟨S4x2048x16, .i1⟩
  | 31 => ⟨S4x2048x16, .f32⟩
  | 32 => ⟨S4x2048x16, .f32⟩
  | 33 => ⟨S4x2048x16, .f32⟩
  | 34 => ⟨S4x2048x16, .f32⟩
  | 35 => ⟨S4x2048x16, .f32⟩
  | 36 => ⟨S4x2048x16, .f32⟩
  | 37 => ⟨S4x2048x16, .f32⟩
  | 38 => ⟨S4x2048x16, .f32⟩
  | 39 => ⟨S64x128x16, .f32⟩
  | 40 => ⟨S64x16x128, .f32⟩
  | 41 => ⟨S16, .f32⟩
  | 42 => ⟨S16, .f32⟩
  | 43 => ⟨S64x16x128, .f32⟩
  | 44 => ⟨S64x16x128, .f32⟩
  | 45 => ⟨S_, .f32⟩
  | 46 => ⟨S_, .f32⟩
  | 47 => ⟨S64x16x128, .f32⟩
  | 48 => ⟨S64x16x1, .f32⟩
  | 49 => ⟨S64x16, .f32⟩
  | 50 => ⟨S64x128x16x64, .f32⟩
  | 51 => ⟨S64x16x128x64, .f32⟩
  | 52 => ⟨S64x16x128x64, .f32⟩
  | 53 => ⟨S64x16x128x64, .f32⟩
  | 54 => ⟨S64x128x2x128, .f32⟩
  | 55 => ⟨S64x2x128x128, .f32⟩
  | 56 => ⟨S64x2x8x128x128, .f32⟩
  | 57 => ⟨S64x16x128x128, .f32⟩
  | 58 => ⟨S64x16x128, .f32⟩
  | 59 => ⟨S64x16x128, .f32⟩
  | 60 => ⟨S64x16x128, .f32⟩
  | 61 => ⟨S64x16x128x64, .f32⟩
  | 62 => ⟨S64x16x128x64, .f32⟩
  | 63 => ⟨S64x16x64x128, .f32⟩
  | 64 => ⟨S64x16, .f32⟩
  | 65 => ⟨S4x16x16, .f32⟩
  | 66 => ⟨S4x1x16, .f32⟩
  | 67 => ⟨S4x1x16, .f32⟩
  | 68 => ⟨S4x1x16, .f32⟩
  | 69 => ⟨S4x1x16, .f32⟩
  | 70 => ⟨S4x1x16, .f32⟩
  | 71 => ⟨S4x1x16, .f32⟩
  | 72 => ⟨S4x1x16, .f32⟩
  | 73 => ⟨S4x1x16, .f32⟩
  | 74 => ⟨S4x1x16, .f32⟩
  | 75 => ⟨S4x1x16, .f32⟩
  | 76 => ⟨S4x1x16, .f32⟩
  | 77 => ⟨S4x1x16, .f32⟩
  | 78 => ⟨S4x1x16, .f32⟩
  | 79 => ⟨S4x1x16, .f32⟩
  | 80 => ⟨S4x1x16, .f32⟩
  | 81 => ⟨S4x1x16, .f32⟩
  | 82 => ⟨S4x16x16x64x128, .f32⟩
  | 83 => ⟨S4x1x16x64x128, .f32⟩
  | 84 => ⟨S4x1x16x64x128, .f32⟩
  | 85 => ⟨S4x1x16x64x128, .f32⟩
  | 86 => ⟨S4x1x16x64x128, .f32⟩
  | 87 => ⟨S4x1x16x64x128, .f32⟩
  | 88 => ⟨S4x1x16x64x128, .f32⟩
  | 89 => ⟨S4x1x16x64x128, .f32⟩
  | 90 => ⟨S4x1x16x64x128, .f32⟩
  | 91 => ⟨S4x1x16x64x128, .f32⟩
  | 92 => ⟨S4x1x16x64x128, .f32⟩
  | 93 => ⟨S4x1x16x64x128, .f32⟩
  | 94 => ⟨S4x1x16x64x128, .f32⟩
  | 95 => ⟨S4x1x16x64x128, .f32⟩
  | 96 => ⟨S4x1x16x64x128, .f32⟩
  | 97 => ⟨S4x1x16x64x128, .f32⟩
  | 98 => ⟨S4x1x16x64x128, .f32⟩
  | 99 => ⟨S_, .f32⟩
  | 100 => ⟨S4x1x16x64x128, .f32⟩
  | 101 => ⟨S4x1x16x64x128, .f32⟩
  | 102 => ⟨S4x1x16x64x128, .f32⟩
  | 103 => ⟨S4x1x16x64x128, .f32⟩
  | 104 => ⟨S4x1x16x64x128, .f32⟩
  | 105 => ⟨S4x1x16x64x128, .f32⟩
  | 106 => ⟨S4x1x16x64x128, .f32⟩
  | 107 => ⟨S4x1x16x64x128, .f32⟩
  | 108 => ⟨S4x1x16x64x128, .f32⟩
  | 109 => ⟨S4x1x16x64x128, .f32⟩
  | 110 => ⟨S4x1x16x64x128, .f32⟩
  | 111 => ⟨S4x1x16x64x128, .f32⟩
  | 112 => ⟨S4x1x16x64x128, .f32⟩
  | 113 => ⟨S4x1x16x64x128, .f32⟩
  | 114 => ⟨S4x1x16x64x128, .f32⟩
  | 115 => ⟨S4x1x16x64x128, .f32⟩
  | 116 => ⟨S4x1x16x64x128, .f32⟩
  | 117 => ⟨S4x1x16x64x128, .f32⟩
  | 118 => ⟨S4x1x16x64x128, .f32⟩
  | 119 => ⟨S4x1x16x64x128, .f32⟩
  | 120 => ⟨S4x1x16x64x128, .f32⟩
  | 121 => ⟨S4x1x16x64x128, .f32⟩
  | 122 => ⟨S4x1x16x64x128, .f32⟩
  | 123 => ⟨S4x1x16x64x128, .f32⟩
  | 124 => ⟨S4x1x16x64x128, .f32⟩
  | 125 => ⟨S4x1x16x64x128, .f32⟩
  | 126 => ⟨S4x1x16x64x128, .f32⟩
  | 127 => ⟨S4x1x16x64x128, .f32⟩
  | _ => ⟨S4x2048x1536, .f32⟩

abbrev hbmTy0_1 (i : Nat) : BufTy := match i % 128 with
  | 0 => ⟨S4x1x16x64x128, .f32⟩
  | 1 => ⟨S4x1x16x64x128, .f32⟩
  | 2 => ⟨S4x1x16x64x128, .f32⟩
  | 3 => ⟨S4x1x16x64x128, .f32⟩
  | 4 => ⟨S4x1x16x64x128, .f32⟩
  | 5 => ⟨S4x1x16x64x128, .f32⟩
  | 6 => ⟨S4x1x16x64x128, .f32⟩
  | 7 => ⟨S4x1x16x64x128, .f32⟩
  | 8 => ⟨S4x1x16x64x128, .f32⟩
  | 9 => ⟨S4x1x16x64x128, .f32⟩
  | 10 => ⟨S4x1x16x64x128, .f32⟩
  | 11 => ⟨S4x1x16x64x128, .f32⟩
  | 12 => ⟨S4x1x16x64x128, .f32⟩
  | 13 => ⟨S4x1x16x64x128, .f32⟩
  | 14 => ⟨S4x1x16x64x128, .f32⟩
  | 15 => ⟨S4x1x16x64x128, .f32⟩
  | 16 => ⟨S4x1x16x64x128, .f32⟩
  | 17 => ⟨S4x1x16x64x128, .f32⟩
  | 18 => ⟨S4x16x16x64x128, .f32⟩
  | 19 => ⟨S4x16x16x64x128, .f32⟩
  | 20 => ⟨S4x2048x1536, .f32⟩
  | 21 => ⟨S4x2048x128, .f32⟩
  | 22 => ⟨S8x128, .f32⟩
  | _ => ⟨S4x2048x1536, .f32⟩

abbrev hbmTy (i : Nat) : BufTy := match i / 128 with
  | 0 => hbmTy0_0 i
  | 1 => hbmTy0_1 i
  | _ => ⟨S4x2048x1536, .f32⟩

abbrev bufTy : (tb : Table) → Fin (tcTables nBuf tb) → BufTy
  | .hbm, ⟨i, _⟩ => hbmTy i
  | .local _ .vmem, ⟨0, _⟩ => ⟨S1x128x1536, .f32⟩
  | .local _ .vmem, ⟨1, _⟩ => ⟨S1x128x1536, .f32⟩
  | .local _ .vmem, ⟨2, _⟩ => ⟨S1x128x128, .f32⟩
  | .local _ .vmem, ⟨3, _⟩ => ⟨S1x128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x16x1x64x128, .f32⟩
  | .local _ .vmem, ⟨8, _⟩ => ⟨S1x16x1x64x128, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1536, .f32⟩
  | .local _ .vmem, ⟨12, _⟩ => ⟨S1x128x1536, .f32⟩
  | .local _ .vmem, ⟨13, _⟩ => ⟨S1x128x128, .f32⟩
  | .local _ .vmem, ⟨14, _⟩ => ⟨S1x128x128, .f32⟩
  | .local _ .vmem, ⟨15, _⟩ => ⟨S8x128, .f32⟩
  | .local _ .vmem, ⟨16, _⟩ => ⟨S16x64x128, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call3_cst : Ref sig .tc := ⟨.hbm, 25, rfl⟩
abbrev main_call3_v0 : Ref sig .tc := ⟨.hbm, 26, rfl⟩
abbrev main_call3_v1 : Ref sig .tc := ⟨.hbm, 27, rfl⟩
abbrev main_call3_v2 : Ref sig .tc := ⟨.hbm, 28, rfl⟩
abbrev main_call3_v3 : Ref sig .tc := ⟨.hbm, 29, rfl⟩
abbrev main_call3_v4 : Ref sig .tc := ⟨.hbm, 30, rfl⟩
abbrev main_call3_v5 : Ref sig .tc := ⟨.hbm, 31, rfl⟩
abbrev main_call3_v6 : Ref sig .tc := ⟨.hbm, 32, rfl⟩
abbrev main_call3_v7 : Ref sig .tc := ⟨.hbm, 33, rfl⟩
abbrev main_call3_v8 : Ref sig .tc := ⟨.hbm, 34, rfl⟩
abbrev main_call3_v9 : Ref sig .tc := ⟨.hbm, 35, rfl⟩
abbrev main_call3_v10 : Ref sig .tc := ⟨.hbm, 36, rfl⟩
abbrev main_call3_v11 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call4_call0_cst : Ref sig .tc := ⟨.hbm, 45, rfl⟩
abbrev main_call4_call0_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120_0 : Ref sig .tc := ⟨.hbm, 148, rfl⟩
abbrev main_v120_1 : Ref sig .tc := ⟨.hbm, 149, rfl⟩
abbrev main_v120_2 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c26_i32 : BitVec 32 := 26#32
  let c0_i32 : BitVec 32 := 0#32
  ![arg0.toNat, v0.toNat, c26_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  let c0_i32_2 : BitVec 32 := 0#32
  ![arg0.toNat, c0_i32.toNat, v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x16x1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== ReferenceIdeal.lean ====
abbrev S4x2048x1536 : Shape := ⟨3, ![4, 2048, 1536]⟩
abbrev S4x2048x3456 : Shape := ⟨3, ![4, 2048, 3456]⟩
abbrev S16 : Shape := ⟨1, ![16]⟩
abbrev S4x2048x1024 : Shape := ⟨3, ![4, 2048, 1024]⟩
abbrev S4x2048x16 : Shape := ⟨3, ![4, 2048, 16]⟩
abbrev S4x2048x256 : Shape := ⟨3, ![4, 2048, 256]⟩
abbrev S64x128x16x64 : Shape := ⟨4, ![64, 128, 16, 64]⟩
abbrev S64x16x128x64 : Shape := ⟨4, ![64, 16, 128, 64]⟩
abbrev S64x128x2x128 : Shape := ⟨4, ![64, 128, 2, 128]⟩
abbrev S64x2x128x128 : Shape := ⟨4, ![64, 2, 128, 128]⟩
abbrev S64x2x8x128x128 : Shape := ⟨5, ![64, 2, 8, 128, 128]⟩
abbrev S64x16x128x128 : Shape := ⟨4, ![64, 16, 128, 128]⟩
abbrev S1x1x16 : Shape := ⟨3, ![1, 1, 16]⟩
abbrev S_ : Shape := ⟨0, ![]⟩
abbrev S64x128x16 : Shape := ⟨3, ![64, 128, 16]⟩
abbrev S64x16x128 : Shape := ⟨3, ![64, 16, 128]⟩
abbrev S64x16x1 : Shape := ⟨3, ![64, 16, 1]⟩
abbrev S64x16 : Shape := ⟨2, ![64, 16]⟩
abbrev S128x128 : Shape := ⟨2, ![128, 128]⟩
abbrev S64x16x64x128 : Shape := ⟨4, ![64, 16, 64, 128]⟩
abbrev S4x16x16 : Shape := ⟨3, ![4, 16, 16]⟩
abbrev S4x1x16 : Shape := ⟨3, ![4, 1, 16]⟩
abbrev S4x16x16x64x128 : Shape := ⟨5, ![4, 16, 16, 64, 128]⟩
abbrev S4x1x16x64x128 : Shape := ⟨5, ![4, 1, 16, 64, 128]⟩

abbrev nBuf : Space → Nat
  | .hbm => 264
  | .vmem => 0
  | .smem => 0
  | _ => 0

abbrev hbmTy0_0 (i : Nat) : BufTy := match i % 128 with
  | 0 => ⟨S4x2048x1536, .f32⟩
  | 1 => ⟨S4x2048x3456, .f32⟩
  | 2 => ⟨S16, .f32⟩
  | 3 => ⟨S16, .f32⟩
  | 4 => ⟨S16, .f32⟩
  | 5 => ⟨S4x2048x1024, .f32⟩
  | 6 => ⟨S4x2048x16, .f32⟩
  | 7 => ⟨S4x2048x1024, .f32⟩
  | 8 => ⟨S4x2048x256, .f32⟩
  | 9 => ⟨S4x2048x256, .f32⟩
  | 10 => ⟨S64x128x16x64, .f32⟩
  | 11 => ⟨S64x16x128x64, .f32⟩
  | 12 => ⟨S64x128x2x128, .f32⟩
  | 13 => ⟨S64x2x128x128, .f32⟩
  | 14 => ⟨S64x128x2x128, .f32⟩
  | 15 => ⟨S64x2x128x128, .f32⟩
  | 16 => ⟨S64x2x8x128x128, .f32⟩
  | 17 => ⟨S64x16x128x128, .f32⟩
  | 18 => ⟨S64x2x8x128x128, .f32⟩
  | 19 => ⟨S64x16x128x128, .f32⟩
  | 20 => ⟨S1x1x16, .f32⟩
  | 21 => ⟨S4x2048x16, .f32⟩
  | 22 => ⟨S4x2048x16, .f32⟩
  | 23 => ⟨S_, .f32⟩
  | 24 => ⟨S4x2048x16, .f32⟩
  | 25 => ⟨S4x2048x16, .f32⟩
  | 26 => ⟨S4x2048x16, .f32⟩
  | 27 => ⟨S4x2048x16, .f32⟩
  | 28 => ⟨S4x2048x16, .i1⟩
  | 29 => ⟨S4x2048x16, .f32⟩
  | 30 => ⟨S4x2048x16, .f32⟩
  | 31 => ⟨S4x2048x16, .f32⟩
  | 32 => ⟨S4x2048x16, .f32⟩
  | 33 => ⟨S4x2048x16, .f32⟩
  | 34 => ⟨S4x2048x16, .f32⟩
  | 35 => ⟨S4x2048x16, .f32⟩
  | 36 => ⟨S4x2048x16, .f32⟩
  | 37 => ⟨S64x128x16, .f32⟩
  | 38 => ⟨S64x16x128, .f32⟩
  | 39 => ⟨S16, .f32⟩
  | 40 => ⟨S16, .f32⟩
  | 41 => ⟨S64x16x128, .f32⟩
  | 42 => ⟨S64x16x128, .f32⟩
  | 43 => ⟨S_, .f32⟩
  | 44 => ⟨S_, .f32⟩
  | 45 => ⟨S64x16x128, .f32⟩
  | 46 => ⟨S64x16x1, .f32⟩
  | 47 => ⟨S64x16, .f32⟩
  | 48 => ⟨S64x16x128x64, .f32⟩
  | 49 => ⟨S64x16x128x64, .f32⟩
  | 50 => ⟨S_, .i1⟩
  | 51 => ⟨S128x128, .i1⟩
  | 52 => ⟨S128x128, .i32⟩
  | 53 => ⟨S_, .i32⟩
  | 54 => ⟨S128x128, .i32⟩
  | 55 => ⟨S128x128, .i32⟩
  | 56 => ⟨S128x128, .i32⟩
  | 57 => ⟨S128x128, .i1⟩
  | 58 => ⟨S_, .i1⟩
  | 59 => ⟨S128x128, .i1⟩
  | 60 => ⟨S128x128, .i1⟩
  | 61 => ⟨S64x16x128x128, .i1⟩
  | 62 => ⟨S64x16x128x128, .f32⟩
  | 63 => ⟨S64x16x128x128, .f32⟩
  | 64 => ⟨S64x16x128x128, .f32⟩
  | 65 => ⟨S_, .f32⟩
  | 66 => ⟨S_, .f32⟩
  | 67 => ⟨S64x16x128x128, .f32⟩
  | 68 => ⟨S64x16x128x128, .f32⟩
  | 69 => ⟨S64x16x128x128, .f32⟩
  | 70 => ⟨S64x2x128x128, .f32⟩
  | 71 => ⟨S64x2x8x128x128, .f32⟩
  | 72 => ⟨S64x16x128x128, .f32⟩
  | 73 => ⟨S64x16x128x128, .f32⟩
  | 74 => ⟨S64x16x128x64, .f32⟩
  | 75 => ⟨S64x16x128, .f32⟩
  | 76 => ⟨S64x16x128, .f32⟩
  | 77 => ⟨S64x16x128, .f32⟩
  | 78 => ⟨S64x16x128x64, .f32⟩
  | 79 => ⟨S64x16x128x64, .f32⟩
  | 80 => ⟨S64x16x64x128, .f32⟩
  | 81 => ⟨S64x16, .f32⟩
  | 82 => ⟨S4x16x16, .f32⟩
  | 83 => ⟨S4x1x16, .f32⟩
  | 84 => ⟨S4x1x16, .f32⟩
  | 85 => ⟨S4x1x16, .f32⟩
  | 86 => ⟨S4x1x16, .f32⟩
  | 87 => ⟨S4x1x16, .f32⟩
  | 88 => ⟨S4x1x16, .f32⟩
  | 89 => ⟨S4x1x16, .f32⟩
  | 90 => ⟨S4x1x16, .f32⟩
  | 91 => ⟨S4x1x16, .f32⟩
  | 92 => ⟨S4x1x16, .f32⟩
  | 93 => ⟨S4x1x16, .f32⟩
  | 94 => ⟨S4x1x16, .f32⟩
  | 95 => ⟨S4x1x16, .f32⟩
  | 96 => ⟨S4x1x16, .f32⟩
  | 97 => ⟨S4x1x16, .f32⟩
  | 98 => ⟨S4x1x16, .f32⟩
  | 99 => ⟨S4x16x16x64x128, .f32⟩
  | 100 => ⟨S4x1x16x64x128, .f32⟩
  | 101 => ⟨S4x1x16x64x128, .f32⟩
  | 102 => ⟨S4x1x16x64x128, .f32⟩
  | 103 => ⟨S4x1x16x64x128, .f32⟩
  | 104 => ⟨S4x1x16x64x128, .f32⟩
  | 105 => ⟨S4x1x16x64x128, .f32⟩
  | 106 => ⟨S4x1x16x64x128, .f32⟩
  | 107 => ⟨S4x1x16x64x128, .f32⟩
  | 108 => ⟨S4x1x16x64x128, .f32⟩
  | 109 => ⟨S4x1x16x64x128, .f32⟩
  | 110 => ⟨S4x1x16x64x128, .f32⟩
  | 111 => ⟨S4x1x16x64x128, .f32⟩
  | 112 => ⟨S4x1x16x64x128, .f32⟩
  | 113 => ⟨S4x1x16x64x128, .f32⟩
  | 114 => ⟨S4x1x16x64x128, .f32⟩
  | 115 => ⟨S4x1x16x64x128, .f32⟩
  | 116 => ⟨S_, .f32⟩
  | 117 => ⟨S4x1x16x64x128, .f32⟩
  | 118 => ⟨S4x1x16x64x128, .f32⟩
  | 119 => ⟨S4x1x16x64x128, .f32⟩
  | 120 => ⟨S4x1x16x64x128, .f32⟩
  | 121 => ⟨S4x1x16x64x128, .f32⟩
  | 122 => ⟨S4x1x16x64x128, .f32⟩
  | 123 => ⟨S4x1x16x64x128, .f32⟩
  | 124 => ⟨S4x1x16x64x128, .f32⟩
  | 125 => ⟨S4x1x16x64x128, .f32⟩
  | 126 => ⟨S4x1x16x64x128, .f32⟩
  | 127 => ⟨S4x1x16x64x128, .f32⟩
  | _ => ⟨S4x2048x1536, .f32⟩

abbrev hbmTy0_1 (i : Nat) : BufTy := match i % 128 with
  | 0 => ⟨S4x1x16x64x128, .f32⟩
  | 1 => ⟨S4x1x16x64x128, .f32⟩
  | 2 => ⟨S4x1x16x64x128, .f32⟩
  | 3 => ⟨S4x1x16x64x128, .f32⟩
  | 4 => ⟨S4x1x16x64x128, .f32⟩
  | 5 => ⟨S4x1x16x64x128, .f32⟩
  | 6 => ⟨S4x1x16x64x128, .f32⟩
  | 7 => ⟨S4x1x16x64x128, .f32⟩
  | 8 => ⟨S4x1x16x64x128, .f32⟩
  | 9 => ⟨S4x1x16x64x128, .f32⟩
  | 10 => ⟨S4x1x16x64x128, .f32⟩
  | 11 => ⟨S4x1x16x64x128, .f32⟩
  | 12 => ⟨S4x1x16x64x128, .f32⟩
  | 13 => ⟨S4x1x16x64x128, .f32⟩
  | 14 => ⟨S4x1x16x64x128, .f32⟩
  | 15 => ⟨S4x1x16x64x128, .f32⟩
  | 16 => ⟨S4x1x16x64x128, .f32⟩
  | 17 => ⟨S4x1x16x64x128, .f32⟩
  | 18 => ⟨S4x1x16x64x128, .f32⟩
  | 19 => ⟨S4x1x16x64x128, .f32⟩
  | 20 => ⟨S4x1x16x64x128, .f32⟩
  | 21 => ⟨S4x1x16x64x128, .f32⟩
  | 22 => ⟨S4x1x16x64x128, .f32⟩
  | 23 => ⟨S4x1x16x64x128, .f32⟩
  | 24 => ⟨S4x1x16x64x128, .f32⟩
  | 25 => ⟨S4x1x16x64x128, .f32⟩
  | 26 => ⟨S4x1x16x64x128, .f32⟩
  | 27 => ⟨S4x1x16x64x128, .f32⟩
  | 28 => ⟨S4x1x16x64x128, .f32⟩
  | 29 => ⟨S4x1x16x64x128, .f32⟩
  | 30 => ⟨S4x1x16x64x128, .f32⟩
  | 31 => ⟨S4x1x16x64x128, .f32⟩
  | 32 => ⟨S4x1x16x64x128, .f32⟩
  | 33 => ⟨S4x1x16x64x128, .f32⟩
  | 34 => ⟨S4x1x16x64x128, .f32⟩
  | 35 => ⟨S4x16x16x64x128, .f32⟩
  | 36 => ⟨S_, .f32⟩
  | 37 => ⟨S4x1x16x64x128, .f32⟩
  | 38 => ⟨S64x16x64x128, .f32⟩
  | 39 => ⟨S64x16x128x64, .f32⟩
  | 40 => ⟨S64x16x128, .f32⟩
  | 41 => ⟨S64x16x128x64, .f32⟩
  | 42 => ⟨S64x16x128x64, .f32⟩
  | 43 => ⟨S64x16x128x64, .f32⟩
  | 44 => ⟨S64x16x128x64, .f32⟩
  | 45 => ⟨S64x16x128x64, .f32⟩
  | 46 => ⟨S64x16x128x64, .f32⟩
  | 47 => ⟨S64x128x16x64, .f32⟩
  | 48 => ⟨S4x2048x1024, .f32⟩
  | 49 => ⟨S64x128x16x64, .f32⟩
  | 50 => ⟨S64x16x128x64, .f32⟩
  | 51 => ⟨S64x16x128x64, .f32⟩
  | 52 => ⟨S64x16x128x64, .f32⟩
  | 53 => ⟨S64x16x64x128, .f32⟩
  | 54 => ⟨S64x16x128x128, .f32⟩
  | 55 => ⟨S4x16x16x64x128, .f32⟩
  | 56 => ⟨S4x1x16x64x128, .f32⟩
  | 57 => ⟨S4x1x16x64x128, .f32⟩
  | 58 => ⟨S4x1x16x64x128, .f32⟩
  | 59 => ⟨S4x1x16x64x128, .f32⟩
  | 60 => ⟨S4x1x16x64x128, .f32⟩
  | 61 => ⟨S4x1x16x64x128, .f32⟩
  | 62 => ⟨S4x1x16x64x128, .f32⟩
  | 63 => ⟨S4x1x16x64x128, .f32⟩
  | 64 => ⟨S4x1x16x64x128, .f32⟩
  | 65 => ⟨S4x1x16x64x128, .f32⟩
  | 66 => ⟨S4x1x16x64x128, .f32⟩
  | 67 => ⟨S4x1x16x64x128, .f32⟩
  | 68 => ⟨S4x1x16x64x128, .f32⟩
  | 69 => ⟨S4x1x16x64x128, .f32⟩
  | 70 => ⟨S4x1x16x64x128, .f32⟩
  | 71 => ⟨S4x1x16x64x128, .f32⟩
  | 72 => ⟨S4x1x16x64x128, .f32⟩
  | 73 => ⟨S4x1x16x64x128, .f32⟩
  | 74 => ⟨S4x1x16x64x128, .f32⟩
  | 75 => ⟨S4x1x16x64x128, .f32⟩
  | 76 => ⟨S4x1x16x64x128, .f32⟩
  | 77 => ⟨S4x1x16x64x128, .f32⟩
  | 78 => ⟨S4x1x16x64x128, .f32⟩
  | 79 => ⟨S4x1x16x64x128, .f32⟩
  | 80 => ⟨S4x1x16x64x128, .f32⟩
  | 81 => ⟨S4x1x16x64x128, .f32⟩
  | 82 => ⟨S4x1x16x64x128, .f32⟩
  | 83 => ⟨S4x1x16x64x128, .f32⟩
  | 84 => ⟨S4x1x16x64x128, .f32⟩
  | 85 => ⟨S4x1x16x64x128, .f32⟩
  | 86 => ⟨S4x1x16x64x128, .f32⟩
  | 87 => ⟨S4x1x16x64x128, .f32⟩
  | 88 => ⟨S4x1x16x64x128, .f32⟩
  | 89 => ⟨S4x1x16x64x128, .f32⟩
  | 90 => ⟨S4x1x16x64x128, .f32⟩
  | 91 => ⟨S4x1x16x64x128, .f32⟩
  | 92 => ⟨S4x1x16x64x128, .f32⟩
  | 93 => ⟨S4x1x16x64x128, .f32⟩
  | 94 => ⟨S4x1x16x64x128, .f32⟩
  | 95 => ⟨S4x1x16x64x128, .f32⟩
  | 96 => ⟨S4x1x16x64x128, .f32⟩
  | 97 => ⟨S4x1x16x64x128, .f32⟩
  | 98 => ⟨S4x1x16x64x128, .f32⟩
  | 99 => ⟨S4x1x16x64x128, .f32⟩
  | 100 => ⟨S_, .f32⟩
  | 101 => ⟨S4x1x16x64x128, .f32⟩
  | 102 => ⟨S4x16x16x64x128, .f32⟩
  | 103 => ⟨S64x16x64x128, .f32⟩
  | 104 => ⟨S64x16x128x128, .f32⟩
  | 105 => ⟨S64x16x128x128, .f32⟩
  | 106 => ⟨S64x16x64x128, .f32⟩
  | 107 => ⟨S64x16x128x64, .f32⟩
  | 108 => ⟨S64x16x128x64, .f32⟩
  | 109 => ⟨S64x16x64x128, .f32⟩
  | 110 => ⟨S64x16x128x64, .f32⟩
  | 111 => ⟨S64x16x128x64, .f32⟩
  | 112 => ⟨S64x16x128x128, .f32⟩
  | 113 => ⟨S64x16x128x128, .f32⟩
  | 114 => ⟨S64x2x8x128x128, .f32⟩
  | 115 => ⟨S_, .f32⟩
  | 116 => ⟨S64x2x128x128, .f32⟩
  | 117 => ⟨S64x2x128x128, .f32⟩
  | 118 => ⟨S64x2x128x128, .f32⟩
  | 119 => ⟨S64x16x128x64, .f32⟩
  | 120 => ⟨S64x16x128x64, .f32⟩
  | 121 => ⟨S64x2x8x128x128, .f32⟩
  | 122 => ⟨S_, .f32⟩
  | 123 => ⟨S64x2x128x128, .f32⟩
  | 124 => ⟨S64x2x128x128, .f32⟩
  | 125 => ⟨S64x2x8x128x128, .f32⟩
  | 126 => ⟨S_, .f32⟩
  | 127 => ⟨S64x2x128x128, .f32⟩
  | _ => ⟨S4x2048x1536, .f32⟩

abbrev hbmTy0_2 (i : Nat) : BufTy := match i % 128 with
  | 0 => ⟨S64x2x128x128, .f32⟩
  | 1 => ⟨S64x128x2x128, .f32⟩
  | 2 => ⟨S4x2048x256, .f32⟩
  | 3 => ⟨S64x128x2x128, .f32⟩
  | 4 => ⟨S4x2048x256, .f32⟩
  | 5 => ⟨S64x128x16x64, .f32⟩
  | 6 => ⟨S4x2048x1024, .f32⟩
  | 7 => ⟨S4x2048x1536, .f32⟩
  | _ => ⟨S4x2048x1536, .f32⟩

abbrev hbmTy (i : Nat) : BufTy := match i / 128 with
  | 0 => hbmTy0_0 i
  | 1 => hbmTy0_1 i
  | 2 => hbmTy0_2 i
  | _ => ⟨S4x2048x1536, .f32⟩

abbrev bufTy : (tb : Table) → Fin (tcTables nBuf tb) → BufTy
  | .hbm, ⟨i, _⟩ => hbmTy i
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_call0_cst : Ref sig .tc := ⟨.hbm, 43, rfl⟩
abbrev main_call1_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst : Ref sig .tc := ⟨.hbm, 65, rfl⟩
abbrev main_call3_v0 : Ref sig .tc := ⟨.hbm, 66, rfl⟩
abbrev main_call3_v1 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_0 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_cst_1 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_cst_2 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_cst_3 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_cst_4 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_cst_5 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDxRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDw.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateDx.lean ====
abbrev S8192x2816 : Shape := ⟨2, ![8192, 2816]⟩
abbrev S1024x2816 : Shape := ⟨2, ![1024, 2816]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDxRefIdeal.lean ====
abbrev S8192x2816 : Shape := ⟨2, ![8192, 2816]⟩
abbrev S1024x2816 : Shape := ⟨2, ![1024, 2816]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S_, .f32⟩
  | .hbm, ⟨3, _⟩ => ⟨S8192x1024, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDx.lean ====
abbrev S8192x2816 : Shape := ⟨2, ![8192, 2816]⟩
abbrev S1024x2816 : Shape := ⟨2, ![1024, 2816]⟩
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpDxRefIdeal.lean ====
abbrev S8192x2816 : Shape := ⟨2, ![8192, 2816]⟩
abbrev S1024x2816 : Shape := ⟨2, ![1024, 2816]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1024x2816, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OutDx.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1536x1024, .bf16⟩
  | .hbm, ⟨2, _⟩ => ⟨S8192x1536, .f32⟩
  | .local _ .vmem, ⟨0, _⟩ => ⟨S1024x1024, .f32⟩
  | .local _ .vmem, ⟨1, _⟩ => ⟨S1024x1024, .f32⟩
  | .local _ .vmem, ⟨2, _⟩ => ⟨S1536x1024, .bf16⟩
  | .local _ .vmem, ⟨3, _⟩ => ⟨S1024x1536, .f32⟩
  | .local _ .vmem, ⟨4, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S8192x1024 : Shape := ⟨2, ![8192, 1024]⟩
abbrev S1536x1024 : Shape := ⟨2, ![1536, 1024]⟩
abbrev S_ : Shape := ⟨0, ![]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1536x1024, .bf16⟩
  | .hbm, ⟨2, _⟩ => ⟨S_, .f32⟩
  | .hbm, ⟨3, _⟩ => ⟨S8192x1536, .f32⟩
  | .hbm, ⟨4, _⟩ => ⟨S1536x1024, .f32⟩
  | .hbm, ⟨5, _⟩ => ⟨S8192x1024, .f32⟩
  | .hbm, ⟨6, _⟩ => ⟨S8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDwAttn.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwAttnIdeal.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwAttnRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDwSsd.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwSsdRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S8192x512 : Shape := ⟨2, ![8192, 512]⟩
abbrev S8192x1024 : Shape := ⟨2, ![8192, 1024]⟩
abbrev S8192x1536 : Shape := ⟨2, ![8192, 1536]⟩
abbrev S8192x256 : Shape := ⟨2, ![8192, 256]⟩
abbrev S8192x128 : Shape := ⟨2, ![8192, 128]⟩
abbrev S1024x3456 : Shape := ⟨2, ![1024, 3456]⟩
abbrev S1024x512 : Shape := ⟨2, ![1024, 512]⟩
abbrev S1024x1024 : Shape := ⟨2, ![1024, 1024]⟩
abbrev S1024x1536 : Shape := ⟨2, ![1024, 1536]⟩
abbrev S1024x256 : Shape := ⟨2, ![1024, 256]⟩
abbrev S1024x128 : Shape := ⟨2, ![1024, 128]⟩

abbrev nBuf : Space → Nat
  | .hbm => 7
  | .vmem => 13
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1536, .bf16⟩
  | .hbm, ⟨3, _⟩ => ⟨S8192x256, .bf16⟩
  | .hbm, ⟨4, _⟩ => ⟨S8192x128, .f32⟩
  | .hbm, ⟨5, _⟩ => ⟨S1024x3456, .bf16⟩
  | .hbm, ⟨6, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1024x128, .f32⟩
  | .local _ .vmem, ⟨10, _⟩ => ⟨S1024x3456, .bf16⟩
  | .local _ .vmem, ⟨11, _⟩ => ⟨S1024x1024, .f32⟩
  | .local _ .vmem, ⟨12, _⟩ => ⟨S1024x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x3456 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InDxRefIdeal.lean ====
abbrev S8192x512 : Shape := ⟨2, ![8192, 512]⟩
abbrev S8192x1024 : Shape := ⟨2, ![8192, 1024]⟩
abbrev S8192x1536 : Shape := ⟨2, ![8192, 1536]⟩
abbrev S8192x256 : Shape := ⟨2, ![8192, 256]⟩
abbrev S8192x128 : Shape := ⟨2, ![8192, 128]⟩
abbrev S1024x3456 : Shape := ⟨2, ![1024, 3456]⟩
abbrev S_ : Shape := ⟨0, ![]⟩
abbrev S8192x3456 : Shape := ⟨2, ![8192, 3456]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x1536, .bf16⟩
  | .hbm, ⟨3, _⟩ => ⟨S8192x256, .bf16⟩
  | .hbm, ⟨4, _⟩ => ⟨S8192x128, .f32⟩
  | .hbm, ⟨5, _⟩ => ⟨S1024x3456, .bf16⟩
  | .hbm, ⟨6, _⟩ => ⟨S_, .f32⟩
  | .hbm, ⟨7, _⟩ => ⟨S8192x1024, .f32⟩
  | .hbm, ⟨8, _⟩ => ⟨S8192x512, .f32⟩
  | .hbm, ⟨9, _⟩ => ⟨S8192x1024, .f32⟩
  | .hbm, ⟨10, _⟩ => ⟨S8192x1536, .f32⟩
  | .hbm, ⟨11, _⟩ => ⟨S8192x256, .f32⟩
  | .hbm, ⟨12, _⟩ => ⟨S8192x3456, .f32⟩
  | .hbm, ⟨13, _⟩ => ⟨S1024x3456, .f32⟩
  | .hbm, ⟨14, _⟩ => ⟨S8192x3456, .f32⟩
  | .hbm, ⟨15, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== InDwQ.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwQIdeal.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwQRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDwZ.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwZIdeal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwZRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDwXbc.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwXbcIdeal.lean ====
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwXbcRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDwKv.lean ====
abbrev S8192x1024 : Shape := ⟨2, ![8192, 1024]⟩
abbrev S8192x256 : Shape := ⟨2, ![8192, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwKvIdeal.lean ====
abbrev S8192x1024 : Shape := ⟨2, ![8192, 1024]⟩
abbrev S8192x256 : Shape := ⟨2, ![8192, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwKvRefIdeal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S_, .f32⟩
  | .hbm, ⟨3, _⟩ => ⟨S1024x256, .f32⟩
  | .hbm, ⟨4, _⟩ => ⟨S8192x1024, .f32⟩
  | .hbm, ⟨5, _⟩ => ⟨S8192x256, .f32⟩
  | .hbm, ⟨6, _⟩ => ⟨S8192x256, .f32⟩
  | .hbm, ⟨7, _⟩ => ⟨S256x1024, .f32⟩
  | .hbm, ⟨8, _⟩ => ⟨S1024x256, .f32⟩
  | .hbm, ⟨9, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDwDt.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .bf16⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDwDtRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S128x1024, .f32⟩
  | .hbm, ⟨7, _⟩ => ⟨S1024x128, .f32⟩
  | .hbm, ⟨8, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InFwd.lean ====
abbrev S8192x1024 : Shape := ⟨2, ![8192, 1024]⟩
abbrev S1024x3456 : Shape := ⟨2, ![1024, 3456]⟩
abbrev S8192x3456 : Shape := ⟨2, ![8192, 3456]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InFwdRefIdeal.lean ====
abbrev S8192x1024 : Shape := ⟨2, ![8192, 1024]⟩
abbrev S1024x3456 : Shape := ⟨2, ![1024, 3456]⟩
abbrev S8192x3456 : Shape := ⟨2, ![8192, 3456]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3456, .bf16⟩
  | .hbm, ⟨2, _⟩ => ⟨S8192x1024, .f32⟩
  | .hbm, ⟨3, _⟩ => ⟨S1024x3456, .f32⟩
  | .hbm, ⟨4, _⟩ => ⟨S8192x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutFwd.lean ====
abbrev S8192x512 : Shape := ⟨2, ![8192, 512]⟩
abbrev S8192x1024 : Shape := ⟨2, ![8192, 1024]⟩
abbrev S1536x1024 : Shape := ⟨2, ![1536, 1024]⟩
abbrev S1024x512 : Shape := ⟨2, ![1024, 512]⟩
abbrev S1024x1024 : Shape := ⟨2, ![1024, 1024]⟩
abbrev S1024x1536 : Shape := ⟨2, ![1024, 1536]⟩

abbrev nBuf : Space → Nat
  | .hbm => 5
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S1536x1024, .bf16⟩
  | .hbm, ⟨3, _⟩ => ⟨S8192x1024, .f32⟩
  | .hbm, ⟨4, _⟩ => ⟨S8192x1024, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutFwdRefIdeal.lean ====
abbrev S8192x512 : Shape := ⟨2, ![8192, 512]⟩
abbrev S8192x1024 : Shape := ⟨2, ![8192, 1024]⟩
abbrev S1536x1024 : Shape := ⟨2, ![1536, 1024]⟩
abbrev S8192x1536 : Shape := ⟨2, ![8192, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S1536x1024, .bf16⟩
  | .hbm, ⟨3, _⟩ => ⟨S8192x1024, .f32⟩
  | .hbm, ⟨4, _⟩ => ⟨S8192x1024, .f32⟩
  | .hbm, ⟨5, _⟩ => ⟨S8192x1536, .f32⟩
  | .hbm, ⟨6, _⟩ => ⟨S1536x1024, .f32⟩
  | .hbm, ⟨7, _⟩ => ⟨S8192x1024, .f32⟩
  | .hbm, ⟨8, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GateFwd.lean ====
abbrev S8192x1024 : Shape := ⟨2, ![8192, 1024]⟩
abbrev S1024x2816 : Shape := ⟨2, ![1024, 2816]⟩
abbrev S8192x2816 : Shape := ⟨2, ![8192, 2816]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateFwdRefIdeal.lean ====
abbrev S8192x1024 : Shape := ⟨2, ![8192, 1024]⟩
abbrev S1024x2816 : Shape := ⟨2, ![1024, 2816]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2816, .bf16⟩
  | .hbm, ⟨2, _⟩ => ⟨S8192x1024, .f32⟩
  | .hbm, ⟨3, _⟩ => ⟨S1024x2816, .f32⟩
  | .hbm, ⟨4, _⟩ => ⟨S8192x2816, .f32⟩
  | .hbm, ⟨5, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownFwd.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownFwdRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SwigluBwd.lean ====
abbrev S8192x2816 : Shape := ⟨2, ![8192, 2816]⟩
abbrev S256x2816 : Shape := ⟨2, ![256, 2816]⟩

abbrev nBuf : Space → Nat
  | .hbm => 5
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SwigluBwdRefIdeal.lean ====
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩

abbrev nD : Nat := 1
abbrev τ : Topo := Topo.v7x

variable {F : FTy → Type} [FloatOps F]
-- ==== SwigluFwd.lean ====
abbrev S8192x2816 : Shape := ⟨2, ![8192, 2816]⟩
abbrev S512x2816 : Shape := ⟨2, ![512, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SwigluFwdRefIdeal.lean ====
abbrev S8192x2816 : Shape := ⟨2, ![8192, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== RmsFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RmsFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RmsBwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== RmsBwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== GnFwd.lean ====
abbrev S8192x1024 : Shape := ⟨2, ![8192, 1024]⟩
abbrev S8192x3456 : Shape := ⟨2, ![8192, 3456]⟩
abbrev S1024 : Shape := ⟨1, ![1024]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x3456, .f32⟩
  | .hbm, ⟨2, _⟩ => ⟨S1024, .f32⟩
  | .hbm, ⟨3, _⟩ => ⟨S1x1024, .f32⟩
  | .hbm, ⟨4, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GnFwdRefIdeal.lean ====
abbrev S8192x1024 : Shape := ⟨2, ![8192, 1024]⟩
abbrev S8192x3456 : Shape := ⟨2, ![8192, 3456]⟩
abbrev S1024 : Shape := ⟨1, ![1024]⟩
abbrev S_ : Shape := ⟨0, ![]⟩
abbrev S8192x2x512 : Shape := ⟨3, ![8192, 2, 512]⟩
abbrev S2x512 : Shape := ⟨2, ![2, 512]⟩
abbrev S8192x2 : Shape := ⟨2, ![8192, 2]⟩
abbrev S8192x2x1 : Shape := ⟨3, ![8192, 2, 1]⟩
abbrev S1x2x512 : Shape := ⟨3, ![1, 2, 512]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3456, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x2x512, .f32⟩
  | .hbm, ⟨15, _⟩ => ⟨S2x512, .f32⟩
  | .hbm, ⟨16, _⟩ => ⟨S8192x2x512, .f32⟩
  | .hbm, ⟨17, _⟩ => ⟨S_, .f32⟩
  | .hbm, ⟨18, _⟩ => ⟨S8192x2, .f32⟩
  | .hbm, ⟨19, _⟩ => ⟨S8192x2x1, .f32⟩
  | .hbm, ⟨20, _⟩ => ⟨S_, .f32⟩
  | .hbm, ⟨21, _⟩ => ⟨S8192x2x1, .f32⟩
  | .hbm, ⟨22, _⟩ => ⟨S8192x2x1, .f32⟩
  | .hbm, ⟨23, _⟩ => ⟨S_, .f32⟩
  | .hbm, ⟨24, _⟩ => ⟨S8192x2x1, .f32⟩
  | .hbm, ⟨25, _⟩ => ⟨S8192x2x1, .f32⟩
  | .hbm, ⟨26, _⟩ => ⟨S8192x2x1, .f32⟩
  | .hbm, ⟨27, _⟩ => ⟨S8192x2x512, .f32⟩
  | .hbm, ⟨28, _⟩ => ⟨S8192x2x512, .f32⟩
  | .hbm, ⟨29, _⟩ => ⟨S1x2x512, .f32⟩
  | .hbm, ⟨30, _⟩ => ⟨S8192x2x512, .f32⟩
  | .hbm, ⟨31, _⟩ => ⟨S8192x2x512, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== GnBwd.lean ====
abbrev S8192x1024 : Shape := ⟨2, ![8192, 1024]⟩
abbrev S8192x3456 : Shape := ⟨2, ![8192, 3456]⟩
abbrev S1024 : Shape := ⟨1, ![1024]⟩
abbrev S8192x1536 : Shape := ⟨2, ![8192, 1536]⟩
abbrev S1x1024 : Shape := ⟨2, ![1, 1024]⟩
abbrev S512x512 : Shape := ⟨2, ![512, 512]⟩
abbrev S1x512 : Shape := ⟨2, ![1, 512]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x3456, .f32⟩
  | .hbm, ⟨2, _⟩ => ⟨S1024, .f32⟩
  | .hbm, ⟨3, _⟩ => ⟨S8192x1536, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GnBwdRefIdeal.lean ====
abbrev S8192x1024 : Shape := ⟨2, ![8192, 1024]⟩
abbrev S8192x3456 : Shape := ⟨2, ![8192, 3456]⟩
abbrev S1024 : Shape := ⟨1, ![1024]⟩
abbrev S8192x1536 : Shape := ⟨2, ![8192, 1536]⟩
abbrev S_ : Shape := ⟨0, ![]⟩
abbrev S8192x2x512 : Shape := ⟨3, ![8192, 2, 512]⟩
abbrev S2x512 : Shape := ⟨2, ![2, 512]⟩
abbrev S8192x2 : Shape := ⟨2, ![8192, 2]⟩
abbrev S8192x2x1 : Shape := ⟨3, ![8192, 2, 1]⟩
abbrev S1x2x512 : Shape := ⟨3, ![1, 2, 512]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3456, .f32⟩
  | .hbm, ⟨2, _⟩ => ⟨S1024, .f32⟩
  | .hbm, ⟨3, _⟩ => ⟨S8192x1536, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x2x512, .f32⟩
  | .hbm, ⟨20, _⟩ => ⟨S2x512, .f32⟩
  | .hbm, ⟨21, _⟩ => ⟨S8192x2x512, .f32⟩
  | .hbm, ⟨22, _⟩ => ⟨S_, .f32⟩
  | .hbm, ⟨23, _⟩ => ⟨S8192x2, .f32⟩
  | .hbm, ⟨24, _⟩ => ⟨S8192x2x1, .f32⟩
  | .hbm, ⟨25, _⟩ => ⟨S_, .f32⟩
  | .hbm, ⟨26, _⟩ => ⟨S8192x2x1, .f32⟩
  | .hbm, ⟨27, _⟩ => ⟨S8192x2x1, .f32⟩
  | .hbm, ⟨28, _⟩ => ⟨S_, .f32⟩
  | .hbm, ⟨29, _⟩ => ⟨S8192x2x1, .f32⟩
  | .hbm, ⟨30, _⟩ => ⟨S8192x2x1, .f32⟩
  | .hbm, ⟨31, _⟩ => ⟨S8192x2x1, .f32⟩
  | .hbm, ⟨32, _⟩ => ⟨S8192x2x1, .f32⟩
  | .hbm, ⟨33, _⟩ => ⟨S_, .f32⟩
  | .hbm, ⟨34, _⟩ => ⟨S8192x2x1, .f32⟩
  | .hbm, ⟨35, _⟩ => ⟨S8192x2x1, .f32⟩
  | .hbm, ⟨36, _⟩ => ⟨S8192x2x512, .f32⟩
  | .hbm, ⟨37, _⟩ => ⟨S8192x2x512, .f32⟩
  | .hbm, ⟨38, _⟩ => ⟨S1x2x512, .f32⟩
  | .hbm, ⟨39, _⟩ => ⟨S8192x2x512, .f32⟩
  | .hbm, ⟨40, _⟩ => ⟨S8192x2x512, .f32⟩
  | .hbm, ⟨41, _⟩ => ⟨S8192x1024, .f32⟩
  | .hbm, ⟨42, _⟩ => ⟨S8192x1024, .f32⟩
  | .hbm, ⟨43, _⟩ => ⟨S8192x2x512, .f32⟩
  | .hbm, ⟨44, _⟩ => ⟨S8192x2x512, .f32⟩
  | .hbm, ⟨45, _⟩ => ⟨S_, .f32⟩
  | .hbm, ⟨46, _⟩ => ⟨S2x512, .f32⟩
  | .hbm, ⟨47, _⟩ => ⟨S1x2x512, .f32⟩
  | .hbm, ⟨48, _⟩ => ⟨S8192x2x512, .f32⟩
  | .hbm, ⟨49, _⟩ => ⟨S8192x2x512, .f32⟩
  | .hbm, ⟨50, _⟩ => ⟨S_, .f32⟩
  | .hbm, ⟨51, _⟩ => ⟨S2x512, .f32⟩
  | .hbm, ⟨52, _⟩ => ⟨S8192x2x512, .f32⟩
  | .hbm, ⟨53, _⟩ => ⟨S_, .f32⟩
  | .hbm, ⟨54, _⟩ => ⟨S8192x2, .f32⟩
  | .hbm, ⟨55, _⟩ => ⟨S8192x2x1, .f32⟩
  | .hbm, ⟨56, _⟩ => ⟨S8192x2x512, .f32⟩
  | .hbm, ⟨57, _⟩ => ⟨S8192x2x512, .f32⟩
  | .hbm, ⟨58, _⟩ => ⟨S8192x2x1, .f32⟩
  | .hbm, ⟨59, _⟩ => ⟨S_, .f32⟩
  | .hbm, ⟨60, _⟩ => ⟨S8192x2x1, .f32⟩
  | .hbm, ⟨61, _⟩ => ⟨S8192x2x1, .f32⟩
  | .hbm, ⟨62, _⟩ => ⟨S_, .f32⟩
  | .hbm, ⟨63, _⟩ => ⟨S8192x2, .f32⟩
  | .hbm, ⟨64, _⟩ => ⟨S8192x2x512, .f32⟩
  | .hbm, ⟨65, _⟩ => ⟨S8192x2x512, .f32⟩
  | .hbm, ⟨66, _⟩ => ⟨S8192x2x512, .f32⟩
  | .hbm, ⟨67, _⟩ => ⟨S8192x2x512, .f32⟩
  | .hbm, ⟨68, _⟩ => ⟨S8192x2x512, .f32⟩
  | .hbm, ⟨69, _⟩ => ⟨S1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamIn.lean ====
abbrev S1024x836 : Shape := ⟨2, ![1024, 836]⟩
abbrev S2x1024x836 : Shape := ⟨3, ![2, 1024, 836]⟩
abbrev S256x836 : Shape := ⟨2, ![256, 836]⟩
abbrev S1x256x836 : Shape := ⟨3, ![1, 256, 836]⟩

abbrev nBuf : Space → Nat
  | .hbm => 11
  | .vmem => 22
  | .smem => 0
  | _ => 0

abbrev bufTy : (tb : Table) → Fin (tcTables nBuf tb) → BufTy
  | .hbm, ⟨0, _⟩ => ⟨S1024x836, .f32⟩
  | .hbm, ⟨1, _⟩ => ⟨S1024x836, .f32⟩
  | .hbm, ⟨2, _⟩ => ⟨S1024x836, .f32⟩
  | .hbm, ⟨3, _⟩ => ⟨S1024x836, .f32⟩
  | .hbm, ⟨4, _⟩ => ⟨S2x1024x836, .f32⟩
  | .hbm, ⟨5, _⟩ => ⟨S2x1024x836, .f32⟩
  | .hbm, ⟨6, _⟩ => ⟨S2x1024x836, .f32⟩
  | .hbm, ⟨7, _⟩ => ⟨S2x1024x836, .f32⟩
  | .hbm, ⟨8, _⟩ => ⟨S2x1024x836, .f32⟩
  | .hbm, ⟨9, _⟩ => ⟨S2x1024x836, .f32⟩
  | .hbm, ⟨10, _⟩ => ⟨S2x1024x836, .f32⟩
  | .local _ .vmem, ⟨0, _⟩ => ⟨S256x836, .f32⟩
  | .local _ .vmem, ⟨1, _⟩ => ⟨S256x836, .f32⟩
  | .local _ .vmem, ⟨2, _⟩ => ⟨S256x836, .f32⟩
  | .local _ .vmem, ⟨3, _⟩ => ⟨S256x836, .f32⟩
  | .local _ .vmem, ⟨4, _⟩ => ⟨S256x836, .f32⟩
  | .local _ .vmem, ⟨5, _⟩ => ⟨S256x836, .f32⟩
  | .local _ .vmem, ⟨6, _⟩ => ⟨S256x836, .f32⟩
  | .local _ .vmem, ⟨7, _⟩ => ⟨S256x836, .f32⟩
  | .local _ .vmem, ⟨8, _⟩ => ⟨S1x256x836, .f32⟩
  | .local _ .vmem, ⟨9, _⟩ => ⟨S1x256x836, .f32⟩
  | .local _ .vmem, ⟨10, _⟩ => ⟨S1x256x836, .f32⟩
  | .local _ .vmem, ⟨11, _⟩ => ⟨S1x256x836, .f32⟩
  | .local _ .vmem, ⟨12, _⟩ => ⟨S1x256x836, .f32⟩
  | .local _ .vmem, ⟨13, _⟩ => ⟨S1x256x836, .f32⟩
  | .local _ .vmem, ⟨14, _⟩ => ⟨S1x256x836, .f32⟩
  | .local _ .vmem, ⟨15, _⟩ => ⟨S1x256x836, .f32⟩
  | .local _ .vmem, ⟨16, _⟩ => ⟨S1x256x836, .f32⟩
  | .local _ .vmem, ⟨17, _⟩ => ⟨S1x256x836, .f32⟩
  | .local _ .vmem, ⟨18, _⟩ => ⟨S1x256x836, .f32⟩
  | .local _ .vmem, ⟨19, _⟩ => ⟨S1x256x836, .f32⟩
  | .local _ .vmem, ⟨20, _⟩ => ⟨S1x256x836, .f32⟩
  | .local _ .vmem, ⟨21, _⟩ => ⟨S1x256x836, .f32⟩
  | _, _ => ⟨S1024x836, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x836 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x836 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x836 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x836 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x836 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x836 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x836 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x836 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x836 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x836 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x836 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInIdeal.lean ====
abbrev S1024x836 : Shape := ⟨2, ![1024, 836]⟩
abbrev S2x1024x836 : Shape := ⟨3, ![2, 1024, 836]⟩
abbrev S256x836 : Shape := ⟨2, ![256, 836]⟩
abbrev S1x256x836 : Shape := ⟨3, ![1, 256, 836]⟩

abbrev nBuf : Space → Nat
  | .hbm => 11
  | .vmem => 22
  | .smem => 0
  | _ => 0

abbrev bufTy : (tb : Table) → Fin (tcTables nBuf tb) → BufTy
  | .hbm, ⟨0, _⟩ => ⟨S1024x836, .f32⟩
  | .hbm, ⟨1, _⟩ => ⟨S1024x836, .f32⟩
  | .hbm, ⟨2, _⟩ => ⟨S1024x836, .f32⟩
  | .hbm, ⟨3, _⟩ => ⟨S1024x836, .f32⟩
  | .hbm, ⟨4, _⟩ => ⟨S2x1024x836, .f32⟩
  | .hbm, ⟨5, _⟩ => ⟨S2x1024x836, .f32⟩
  | .hbm, ⟨6, _⟩ => ⟨S2x1024x836, .f32⟩
  | .hbm, ⟨7, _⟩ => ⟨S2x1024x836, .f32⟩
  | .hbm, ⟨8, _⟩ => ⟨S2x1024x836, .f32⟩
  | .hbm, ⟨9, _⟩ => ⟨S2x1024x836, .f32⟩
  | .hbm, ⟨10, _⟩ => ⟨S2x1024x836, .f32⟩
  | .local _ .vmem, ⟨0, _⟩ => ⟨S256x836, .f32⟩
  | .local _ .vmem, ⟨1, _⟩ => ⟨S256x836, .f32⟩
  | .local _ .vmem, ⟨2, _⟩ => ⟨S256x836, .f32⟩
  | .local _ .vmem, ⟨3, _⟩ => ⟨S256x836, .f32⟩
  | .local _ .vmem, ⟨4, _⟩ => ⟨S256x836, .f32⟩
  | .local _ .vmem, ⟨5, _⟩ => ⟨S256x836, .f32⟩
  | .local _ .vmem, ⟨6, _⟩ => ⟨S256x836, .f32⟩
  | .local _ .vmem, ⟨7, _⟩ => ⟨S256x836, .f32⟩
  | .local _ .vmem, ⟨8, _⟩ => ⟨S1x256x836, .f32⟩
  | .local _ .vmem, ⟨9, _⟩ => ⟨S1x256x836, .f32⟩
  | .local _ .vmem, ⟨10, _⟩ => ⟨S1x256x836, .f32⟩
  | .local _ .vmem, ⟨11, _⟩ => ⟨S1x256x836, .f32⟩
  | .local _ .vmem, ⟨12, _⟩ => ⟨S1x256x836, .f32⟩
  | .local _ .vmem, ⟨13, _⟩ => ⟨S1x256x836, .f32⟩
  | .local _ .vmem, ⟨14, _⟩ => ⟨S1x256x836, .f32⟩
  | .local _ .vmem, ⟨15, _⟩ => ⟨S1x256x836, .f32⟩
  | .local _ .vmem, ⟨16, _⟩ => ⟨S1x256x836, .f32⟩
  | .local _ .vmem, ⟨17, _⟩ => ⟨S1x256x836, .f32⟩
  | .local _ .vmem, ⟨18, _⟩ => ⟨S1x256x836, .f32⟩
  | .local _ .vmem, ⟨19, _⟩ => ⟨S1x256x836, .f32⟩
  | .local _ .vmem, ⟨20, _⟩ => ⟨S1x256x836, .f32⟩
  | .local _ .vmem, ⟨21, _⟩ => ⟨S1x256x836, .f32⟩
  | _, _ => ⟨S1024x836, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x836 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x836 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x836 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x836 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x836 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x836 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x836 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x836 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x836 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x836 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x836 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamInRefIdeal.lean ====
abbrev S1024x836 : Shape := ⟨2, ![1024, 836]⟩
abbrev S2x1024x836 : Shape := ⟨3, ![2, 1024, 836]⟩
abbrev S1x1024x836 : Shape := ⟨3, ![1, 1024, 836]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x836, .f32⟩
  | .hbm, ⟨1, _⟩ => ⟨S1024x836, .f32⟩
  | .hbm, ⟨2, _⟩ => ⟨S1024x836, .f32⟩
  | .hbm, ⟨3, _⟩ => ⟨S1024x836, .f32⟩
  | .hbm, ⟨4, _⟩ => ⟨S2x1024x836, .f32⟩
  | .hbm, ⟨5, _⟩ => ⟨S2x1024x836, .f32⟩
  | .hbm, ⟨6, _⟩ => ⟨S2x1024x836, .f32⟩
  | .hbm, ⟨7, _⟩ => ⟨S1024x836, .f32⟩
  | .hbm, ⟨8, _⟩ => ⟨S1024x836, .f32⟩
  | .hbm, ⟨9, _⟩ => ⟨S1x1024x836, .f32⟩
  | .hbm, ⟨10, _⟩ => ⟨S1x1024x836, .f32⟩
  | .hbm, ⟨11, _⟩ => ⟨S2x1024x836, .f32⟩
  | .hbm, ⟨12, _⟩ => ⟨S_, .f32⟩
  | .hbm, ⟨13, _⟩ => ⟨S2x1024x836, .f32⟩
  | .hbm, ⟨14, _⟩ => ⟨S2x1024x836, .f32⟩
  | .hbm, ⟨15, _⟩ => ⟨S_, .f32⟩
  | .hbm, ⟨16, _⟩ => ⟨S2x1024x836, .f32⟩
  | .hbm, ⟨17, _⟩ => ⟨S2x1024x836, .f32⟩
  | .hbm, ⟨18, _⟩ => ⟨S2x1024x836, .f32⟩
  | .hbm, ⟨19, _⟩ => ⟨S_, .f32⟩
  | .hbm, ⟨20, _⟩ => ⟨S2x1024x836, .f32⟩
  | .hbm, ⟨21, _⟩ => ⟨S2x1024x836, .f32⟩
  | .hbm, ⟨22, _⟩ => ⟨S2x1024x836, .f32⟩
  | .hbm, ⟨23, _⟩ => ⟨S_, .f32⟩
  | .hbm, ⟨24, _⟩ => ⟨S2x1024x836, .f32⟩
  | .hbm, ⟨25, _⟩ => ⟨S2x1024x836, .f32⟩
  | .hbm, ⟨26, _⟩ => ⟨S2x1024x836, .f32⟩
  | .hbm, ⟨27, _⟩ => ⟨S_, .f32⟩
  | .hbm, ⟨28, _⟩ => ⟨S2x1024x836, .f32⟩
  | .hbm, ⟨29, _⟩ => ⟨S2x1024x836, .f32⟩
  | .hbm, ⟨30, _⟩ => ⟨S_, .f32⟩
  | .hbm, ⟨31, _⟩ => ⟨S2x1024x836, .f32⟩
  | .hbm, ⟨32, _⟩ => ⟨S2x1024x836, .f32⟩
  | .hbm, ⟨33, _⟩ => ⟨S2x1024x836, .f32⟩
  | .hbm, ⟨34, _⟩ => ⟨S_, .f32⟩
  | .hbm, ⟨35, _⟩ => ⟨S2x1024x836, .f32⟩
  | .hbm, ⟨36, _⟩ => ⟨S2x1024x836, .f32⟩
  | .hbm, ⟨37, _⟩ => ⟨S2x1024x836, .f32⟩
  | .hbm, ⟨38, _⟩ => ⟨S_, .f32⟩
  | .hbm, ⟨39, _⟩ => ⟨S2x1024x836, .f32⟩
  | .hbm, ⟨40, _⟩ => ⟨S2x1024x836, .f32⟩
  | .hbm, ⟨41, _⟩ => ⟨S2x1024x836, .f32⟩
  | .hbm, ⟨42, _⟩ => ⟨S_, .f32⟩
  | .hbm, ⟨43, _⟩ => ⟨S2x1024x836, .f32⟩
  | .hbm, ⟨44, _⟩ => ⟨S2x1024x836, .f32⟩
  | _, _ => ⟨S1024x836, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamOut.lean ====
abbrev S384x1024 : Shape := ⟨2, ![384, 1024]⟩
abbrev S2x384x1024 : Shape := ⟨3, ![2, 384, 1024]⟩
abbrev S192x1024 : Shape := ⟨2, ![192, 1024]⟩
abbrev S1x192x1024 : Shape := ⟨3, ![1, 192, 1024]⟩

abbrev nBuf : Space → Nat
  | .hbm => 11
  | .vmem => 22
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S2x384x1024, .f32⟩
  | .hbm, ⟨5, _⟩ => ⟨S2x384x1024, .f32⟩
  | .hbm, ⟨6, _⟩ => ⟨S2x384x1024, .f32⟩
  | .hbm, ⟨7, _⟩ => ⟨S2x384x1024, .f32⟩
  | .hbm, ⟨8, _⟩ => ⟨S2x384x1024, .f32⟩
  | .hbm, ⟨9, _⟩ => ⟨S2x384x1024, .f32⟩
  | .hbm, ⟨10, _⟩ => ⟨S2x384x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | .local _ .vmem, ⟨14, _⟩ => ⟨S1x192x1024, .f32⟩
  | .local _ .vmem, ⟨15, _⟩ => ⟨S1x192x1024, .f32⟩
  | .local _ .vmem, ⟨16, _⟩ => ⟨S1x192x1024, .f32⟩
  | .local _ .vmem, ⟨17, _⟩ => ⟨S1x192x1024, .f32⟩
  | .local _ .vmem, ⟨18, _⟩ => ⟨S1x192x1024, .f32⟩
  | .local _ .vmem, ⟨19, _⟩ => ⟨S1x192x1024, .f32⟩
  | .local _ .vmem, ⟨20, _⟩ => ⟨S1x192x1024, .f32⟩
  | .local _ .vmem, ⟨21, _⟩ => ⟨S1x192x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x192x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x192x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutIdeal.lean ====
abbrev S384x1024 : Shape := ⟨2, ![384, 1024]⟩
abbrev S2x384x1024 : Shape := ⟨3, ![2, 384, 1024]⟩
abbrev S192x1024 : Shape := ⟨2, ![192, 1024]⟩
abbrev S1x192x1024 : Shape := ⟨3, ![1, 192, 1024]⟩

abbrev nBuf : Space → Nat
  | .hbm => 11
  | .vmem => 22
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S2x384x1024, .f32⟩
  | .hbm, ⟨5, _⟩ => ⟨S2x384x1024, .f32⟩
  | .hbm, ⟨6, _⟩ => ⟨S2x384x1024, .f32⟩
  | .hbm, ⟨7, _⟩ => ⟨S2x384x1024, .f32⟩
  | .hbm, ⟨8, _⟩ => ⟨S2x384x1024, .f32⟩
  | .hbm, ⟨9, _⟩ => ⟨S2x384x1024, .f32⟩
  | .hbm, ⟨10, _⟩ => ⟨S2x384x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | .local _ .vmem, ⟨14, _⟩ => ⟨S1x192x1024, .f32⟩
  | .local _ .vmem, ⟨15, _⟩ => ⟨S1x192x1024, .f32⟩
  | .local _ .vmem, ⟨16, _⟩ => ⟨S1x192x1024, .f32⟩
  | .local _ .vmem, ⟨17, _⟩ => ⟨S1x192x1024, .f32⟩
  | .local _ .vmem, ⟨18, _⟩ => ⟨S1x192x1024, .f32⟩
  | .local _ .vmem, ⟨19, _⟩ => ⟨S1x192x1024, .f32⟩
  | .local _ .vmem, ⟨20, _⟩ => ⟨S1x192x1024, .f32⟩
  | .local _ .vmem, ⟨21, _⟩ => ⟨S1x192x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x192x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x192x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamOutRefIdeal.lean ====
abbrev S384x1024 : Shape := ⟨2, ![384, 1024]⟩
abbrev S2x384x1024 : Shape := ⟨3, ![2, 384, 1024]⟩
abbrev S1x384x1024 : Shape := ⟨3, ![1, 384, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S2x384x1024, .f32⟩
  | .hbm, ⟨5, _⟩ => ⟨S2x384x1024, .f32⟩
  | .hbm, ⟨6, _⟩ => ⟨S2x384x1024, .f32⟩
  | .hbm, ⟨7, _⟩ => ⟨S384x1024, .f32⟩
  | .hbm, ⟨8, _⟩ => ⟨S384x1024, .f32⟩
  | .hbm, ⟨9, _⟩ => ⟨S1x384x1024, .f32⟩
  | .hbm, ⟨10, _⟩ => ⟨S1x384x1024, .f32⟩
  | .hbm, ⟨11, _⟩ => ⟨S2x384x1024, .f32⟩
  | .hbm, ⟨12, _⟩ => ⟨S_, .f32⟩
  | .hbm, ⟨13, _⟩ => ⟨S2x384x1024, .f32⟩
  | .hbm, ⟨14, _⟩ => ⟨S2x384x1024, .f32⟩
  | .hbm, ⟨15, _⟩ => ⟨S_, .f32⟩
  | .hbm, ⟨16, _⟩ => ⟨S2x384x1024, .f32⟩
  | .hbm, ⟨17, _⟩ => ⟨S2x384x1024, .f32⟩
  | .hbm, ⟨18, _⟩ => ⟨S2x384x1024, .f32⟩
  | .hbm, ⟨19, _⟩ => ⟨S_, .f32⟩
  | .hbm, ⟨20, _⟩ => ⟨S2x384x1024, .f32⟩
  | .hbm, ⟨21, _⟩ => ⟨S2x384x1024, .f32⟩
  | .hbm, ⟨22, _⟩ => ⟨S2x384x1024, .f32⟩
  | .hbm, ⟨23, _⟩ => ⟨S_, .f32⟩
  | .hbm, ⟨24, _⟩ => ⟨S2x384x1024, .f32⟩
  | .hbm, ⟨25, _⟩ => ⟨S2x384x1024, .f32⟩
  | .hbm, ⟨26, _⟩ => ⟨S2x384x1024, .f32⟩
  | .hbm, ⟨27, _⟩ => ⟨S_, .f32⟩
  | .hbm, ⟨28, _⟩ => ⟨S2x384x1024, .f32⟩
  | .hbm, ⟨29, _⟩ => ⟨S2x384x1024, .f32⟩
  | .hbm, ⟨30, _⟩ => ⟨S_, .f32⟩
  | .hbm, ⟨31, _⟩ => ⟨S2x384x1024, .f32⟩
  | .hbm, ⟨32, _⟩ => ⟨S2x384x1024, .f32⟩
  | .hbm, ⟨33, _⟩ => ⟨S2x384x1024, .f32⟩
  | .hbm, ⟨34, _⟩ => ⟨S_, .f32⟩
  | .hbm, ⟨35, _⟩ => ⟨S2x384x1024, .f32⟩
  | .hbm, ⟨36, _⟩ => ⟨S2x384x1024, .f32⟩
  | .hbm, ⟨37, _⟩ => ⟨S2x384x1024, .f32⟩
  | .hbm, ⟨38, _⟩ => ⟨S_, .f32⟩
  | .hbm, ⟨39, _⟩ => ⟨S2x384x1024, .f32⟩
  | .hbm, ⟨40, _⟩ => ⟨S2x384x1024, .f32⟩
  | .hbm, ⟨41, _⟩ => ⟨S2x384x1024, .f32⟩
  | .hbm, ⟨42, _⟩ => ⟨S_, .f32⟩
  | .hbm, ⟨43, _⟩ => ⟨S2x384x1024, .f32⟩
  | .hbm, ⟨44, _⟩ => ⟨S2x384x1024, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamUp.lean ====
abbrev S1024x704 : Shape := ⟨2, ![1024, 704]⟩
abbrev S2x1024x704 : Shape := ⟨3, ![2, 1024, 704]⟩
abbrev S256x704 : Shape := ⟨2, ![256, 704]⟩
abbrev S1x256x704 : Shape := ⟨3, ![1, 256, 704]⟩

abbrev nBuf : Space → Nat
  | .hbm => 11
  | .vmem => 22
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S1x256x704, .f32⟩
  | .local _ .vmem, ⟨19, _⟩ => ⟨S1x256x704, .f32⟩
  | .local _ .vmem, ⟨20, _⟩ => ⟨S1x256x704, .f32⟩
  | .local _ .vmem, ⟨21, _⟩ => ⟨S1x256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpIdeal.lean ====
abbrev S1024x704 : Shape := ⟨2, ![1024, 704]⟩
abbrev S2x1024x704 : Shape := ⟨3, ![2, 1024, 704]⟩
abbrev S256x704 : Shape := ⟨2, ![256, 704]⟩
abbrev S1x256x704 : Shape := ⟨3, ![1, 256, 704]⟩

abbrev nBuf : Space → Nat
  | .hbm => 11
  | .vmem => 22
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | .local _ .vmem, ⟨18, _⟩ => ⟨S1x256x704, .f32⟩
  | .local _ .vmem, ⟨19, _⟩ => ⟨S1x256x704, .f32⟩
  | .local _ .vmem, ⟨20, _⟩ => ⟨S1x256x704, .f32⟩
  | .local _ .vmem, ⟨21, _⟩ => ⟨S1x256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "bc1" => some ((8388608 / 5463681 : ℝ) : EReal)
  | "bc2" => some ((268435456 / 2672307 : ℝ) : EReal)
  | _ => none

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamUpRefIdeal.lean ====
abbrev S1024x704 : Shape := ⟨2, ![1024, 704]⟩
abbrev S2x1024x704 : Shape := ⟨3, ![2, 1024, 704]⟩
abbrev S1x1024x704 : Shape := ⟨3, ![1, 1024, 704]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S1024x704, .f32⟩
  | .hbm, ⟨8, _⟩ => ⟨S1024x704, .f32⟩
  | .hbm, ⟨9, _⟩ => ⟨S1x1024x704, .f32⟩
  | .hbm, ⟨10, _⟩ => ⟨S1x1024x704, .f32⟩
  | .hbm, ⟨11, _⟩ => ⟨S2x1024x704, .f32⟩
  | .hbm, ⟨12, _⟩ => ⟨S_, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S2x1024x704, .f32⟩
  | .hbm, ⟨23, _⟩ => ⟨S_, .f32⟩
  | .hbm, ⟨24, _⟩ => ⟨S2x1024x704, .f32⟩
  | .hbm, ⟨25, _⟩ => ⟨S2x1024x704, .f32⟩
  | .hbm, ⟨26, _⟩ => ⟨S2x1024x704, .f32⟩
  | .hbm, ⟨27, _⟩ => ⟨S_, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | .hbm, ⟨37, _⟩ => ⟨S2x1024x704, .f32⟩
  | .hbm, ⟨38, _⟩ => ⟨S_, .f32⟩
  | .hbm, ⟨39, _⟩ => ⟨S2x1024x704, .f32⟩
  | .hbm, ⟨40, _⟩ => ⟨S2x1024x704, .f32⟩
  | .hbm, ⟨41, _⟩ => ⟨S2x1024x704, .f32⟩
  | .hbm, ⟨42, _⟩ => ⟨S_, .f32⟩
  | .hbm, ⟨43, _⟩ => ⟨S2x1024x704, .f32⟩
  | .hbm, ⟨44, _⟩ => ⟨S2x1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamDown.lean ====
abbrev S704x1024 : Shape := ⟨2, ![704, 1024]⟩
abbrev S2x704x1024 : Shape := ⟨3, ![2, 704, 1024]⟩
abbrev S352x1024 : Shape := ⟨2, ![352, 1024]⟩
abbrev S1x352x1024 : Shape := ⟨3, ![1, 352, 1024]⟩

abbrev nBuf : Space → Nat
  | .hbm => 11
  | .vmem => 22
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .vmem, ⟨18, _⟩ => ⟨S1x352x1024, .f32⟩
  | .local _ .vmem, ⟨19, _⟩ => ⟨S1x352x1024, .f32⟩
  | .local _ .vmem, ⟨20, _⟩ => ⟨S1x352x1024, .f32⟩
  | .local _ .vmem, ⟨21, _⟩ => ⟨S1x352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamDownIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdamDownRefIdeal.lean ====
abbrev S704x1024 : Shape := ⟨2, ![704, 1024]⟩
abbrev S2x704x1024 : Shape := ⟨3, ![2, 704, 1024]⟩
abbrev S1x704x1024 : Shape := ⟨3, ![1, 704, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S704x1024, .f32⟩
  | .hbm, ⟨8, _⟩ => ⟨S704x1024, .f32⟩
  | .hbm, ⟨9, _⟩ => ⟨S1x704x1024, .f32⟩
  | .hbm, ⟨10, _⟩ => ⟨S1x704x1024, .f32⟩
  | .hbm, ⟨11, _⟩ => ⟨S2x704x1024, .f32⟩
  | .hbm, ⟨12, _⟩ => ⟨S_, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamSmall.lean ====
abbrev S112x128 : Shape := ⟨2, ![112, 128]⟩

abbrev nBuf : Space → Nat
  | .hbm => 8
  | .vmem => 8
  | .smem => 0
  | _ => 0

abbrev bufTy : (tb : Table) → Fin (tcTables nBuf tb) → BufTy
  | .hbm, ⟨0, _⟩ => ⟨S112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S112x128, .f32⟩
  | .hbm, ⟨5, _⟩ => ⟨S112x128, .f32⟩
  | .hbm, ⟨6, _⟩ => ⟨S112x128, .f32⟩
  | .hbm, ⟨7, _⟩ => ⟨S112x128, .f32⟩
  | .local _ .vmem, ⟨0, _⟩ => ⟨S112x128, .f32⟩
  | .local _ .vmem, ⟨1, _⟩ => ⟨S112x128, .f32⟩
  | .local _ .vmem, ⟨2, _⟩ => ⟨S112x128, .f32⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S112x128, .f32⟩
  | .local _ .vmem, ⟨7, _⟩ => ⟨S112x128, .f32⟩
  | _, _ => ⟨S112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S112x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
variable {F : FTy → Type} [FloatOps F] [Named F]
def κ : String → Option EReal := fun
  | "bc1" => some ((8388608 / 5463681 : ℝ) : EReal)
  | "bc2" => some ((268435456 / 2672307 : ℝ) : EReal)
  | _ => none
-- ==== AdamSmallRefIdeal.lean ====
abbrev S112x128 : Shape := ⟨2, ![112, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S112x128, .f32⟩
  | .hbm, ⟨1, _⟩ => ⟨S112x128, .f32⟩
  | .hbm, ⟨2, _⟩ => ⟨S112x128, .f32⟩
  | .hbm, ⟨3, _⟩ => ⟨S112x128, .f32⟩
  | .hbm, ⟨4, _⟩ => ⟨S_, .f32⟩
  | .hbm, ⟨5, _⟩ => ⟨S112x128, .f32⟩
  | .hbm, ⟨6, _⟩ => ⟨S112x128, .f32⟩
  | .hbm, ⟨7, _⟩ => ⟨S_, .f32⟩
  | .hbm, ⟨8, _⟩ => ⟨S112x128, .f32⟩
  | .hbm, ⟨9, _⟩ => ⟨S112x128, .f32⟩
  | .hbm, ⟨10, _⟩ => ⟨S112x128, .f32⟩
  | .hbm, ⟨11, _⟩ => ⟨S_, .f32⟩
  | .hbm, ⟨12, _⟩ => ⟨S112x128, .f32⟩
  | .hbm, ⟨13, _⟩ => ⟨S112x128, .f32⟩
  | .hbm, ⟨14, _⟩ => ⟨S112x128, .f32⟩
  | .hbm, ⟨15, _⟩ => ⟨S_, .f32⟩
  | .hbm, ⟨16, _⟩ => ⟨S112x128, .f32⟩
  | .hbm, ⟨17, _⟩ => ⟨S112x128, .f32⟩
  | .hbm, ⟨18, _⟩ => ⟨S112x128, .f32⟩
  | .hbm, ⟨19, _⟩ => ⟨S_, .f32⟩
  | .hbm, ⟨20, _⟩ => ⟨S112x128, .f32⟩
  | .hbm, ⟨21, _⟩ => ⟨S112x128, .f32⟩
  | .hbm, ⟨22, _⟩ => ⟨S_, .f32⟩
  | .hbm, ⟨23, _⟩ => ⟨S112x128, .f32⟩
  | .hbm, ⟨24, _⟩ => ⟨S112x128, .f32⟩
  | .hbm, ⟨25, _⟩ => ⟨S112x128, .f32⟩
  | .hbm, ⟨26, _⟩ => ⟨S_, .f32⟩
  | .hbm, ⟨27, _⟩ => ⟨S112x128, .f32⟩
  | .hbm, ⟨28, _⟩ => ⟨S112x128, .f32⟩
  | .hbm, ⟨29, _⟩ => ⟨S112x128, .f32⟩
  | .hbm, ⟨30, _⟩ => ⟨S_, .f32⟩
  | .hbm, ⟨31, _⟩ => ⟨S112x128, .f32⟩
  | .hbm, ⟨32, _⟩ => ⟨S112x128, .f32⟩
  | .hbm, ⟨33, _⟩ => ⟨S112x128, .f32⟩
  | .hbm, ⟨34, _⟩ => ⟨S_, .f32⟩
  | .hbm, ⟨35, _⟩ => ⟨S112x128, .f32⟩
  | .hbm, ⟨36, _⟩ => ⟨S112x128, .f32⟩
  | _, _ => ⟨S112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Num.lean ====
/- Facts about extended real numbers: the stable soft-plus, the sum of three rounded parts, a masked running sum. -/
module

public import Idealize.ShloMosaic.Lib.Pointwise

@[expose] public section

noncomputable section

namespace Cert.Num

open Idealize.ShloMosaic

/-- The soft-plus of an extended real: its positive part plus `log (1 + exp (-|z|))`. -/
def softplus (z : EReal) : EReal := max z 0 + Ideal.log1p (Ideal.exp (-(max z (-z))))

theorem log1p_of_le (w : EReal) (hw : w ≤ 0) :
    (if 1 + Ideal.exp w = 1 then Ideal.exp w
      else Ideal.div (Ideal.log (1 + Ideal.exp w) * Ideal.exp w) (if 1 + Ideal.exp w = 1 then 1 else 1 + Ideal.exp w - 1))
      = Ideal.log1p (Ideal.exp w) := by
  induction w using EReal.rec with
  | bot =>
    show (if (1 : EReal) + 0 = 1 then (0 : EReal) else _) = Ideal.log (1 + 0)
    rw [add_zero, if_pos rfl]
    show (0 : EReal) = if (1 : ℝ) ≤ 0 then ⊥ else ((Real.log 1 : ℝ) : EReal)
    rw [if_neg (by norm_num), Real.log_one]; rfl
  | top => exact absurd hw (by simp)
  | coe r =>
    have he : Ideal.exp (r : EReal) = ((Real.exp r : ℝ) : EReal) := rfl
    have hp : 0 < Real.exp r := Real.exp_pos r
    have h1 : (1 : EReal) + ((Real.exp r : ℝ) : EReal) = ((1 + Real.exp r : ℝ) : EReal) := by rw [EReal.coe_add]; rfl
    have hne : ¬ ((1 : EReal) + ((Real.exp r : ℝ) : EReal) = 1) := by
      rw [h1]; intro h; have : (1 + Real.exp r : ℝ) = 1 := by exact_mod_cast h
      linarith
    have hl : Ideal.log (((1 + Real.exp r : ℝ)) : EReal) = ((Real.log (1 + Real.exp r) : ℝ) : EReal) := by
      show (if (1 + Real.exp r : ℝ) ≤ 0 then ⊥ else _) = _
      rw [if_neg (by linarith)]
    unfold Ideal.log1p
    rw [he, if_neg hne, if_neg hne, h1, hl]
    have h2 : ((1 + Real.exp r : ℝ) : EReal) - 1 = ((Real.exp r : ℝ) : EReal) := by
      rw [show (1 : EReal) = ((1 : ℝ) : EReal) from rfl, ← EReal.coe_sub]; congr 1; ring
    rw [h2]; unfold Ideal.div
    rw [if_neg (by intro h; have : Real.exp r = 0 := by exact_mod_cast h
                   linarith), ← EReal.coe_mul, ← EReal.coe_inv, ← EReal.coe_mul]
    congr 1; field_simp

theorem neg_abs_le (z : EReal) : -(max z (-z)) ≤ 0 := by
  rw [EReal.neg_le, neg_zero]
  rcases le_total 0 z with h | h
  · exact le_max_of_le_left h
  · exact le_max_of_le_right (by rw [EReal.le_neg, neg_zero]; exact h)

theorem softplus_eq (z : EReal) :
    (max z 0 + if 1 + Ideal.exp (0 - max z (-z)) = 1 then Ideal.exp (0 - max z (-z))
      else Ideal.div (Ideal.log (1 + Ideal.exp (0 - max z (-z))) * Ideal.exp (0 - max z (-z)))
        (if 1 + Ideal.exp (0 - max z (-z)) = 1 then 1 else 1 + Ideal.exp (0 - max z (-z)) - 1)) = softplus z := by
  rw [zero_sub, log1p_of_le _ (neg_abs_le z)]; rfl

theorem exp_nonneg (w : EReal) : 0 ≤ Ideal.exp w := by
  induction w using EReal.rec with
  | bot => exact le_refl _
  | top => exact le_top
  | coe r => show (0 : EReal) ≤ ((Real.exp r : ℝ) : EReal); exact_mod_cast (Real.exp_pos r).le

theorem log1p_nonneg (w : EReal) (hw : 0 ≤ w) : 0 ≤ Ideal.log1p w := by
  induction w using EReal.rec with
  | bot => exact absurd hw (by simp)
  | top => show (0 : EReal) ≤ Ideal.log (1 + ⊤); rw [show (1 : EReal) + ⊤ = ⊤ from by rw [show (1 : EReal) = ((1 : ℝ) : EReal) from rfl]; exact EReal.coe_add_top 1]; exact le_top
  | coe r =>
    have h : (0 : ℝ) ≤ r := by exact_mod_cast hw
    have h1 : (1 : EReal) + ((r : ℝ) : EReal) = ((1 + r : ℝ) : EReal) := by rw [EReal.coe_add]; rfl
    unfold Ideal.log1p
    rw [h1]
    show (0 : EReal) ≤ if (1 + r : ℝ) ≤ 0 then ⊥ else ((Real.log (1 + r) : ℝ) : EReal)
    rw [if_neg (by linarith)]
    exact_mod_cast Real.log_nonneg (by linarith)

theorem softplus_nonneg (z : EReal) : 0 ≤ softplus z :=
  add_nonneg (le_max_right _ _) (log1p_nonneg _ (exp_nonneg _))

theorem step_ne_top (z a : EReal) : softplus z * -(Ideal.exp a) ≠ ⊤ := by
  have h : softplus z * Ideal.exp a ≥ 0 := mul_nonneg (softplus_nonneg z) (exp_nonneg a)
  rw [mul_neg]
  intro e
  rw [EReal.neg_eq_top_iff] at e
  rw [e] at h
  exact absurd h (by simp)

/-- The running sum of a row up to an index. -/
def cs (t : Fin 128 → EReal) (l : Fin 128) : EReal := ∑ s : Fin 128, if s ≤ l then t s else 0

theorem sum_eq_bot {ι : Type*} (S : Finset ι) (f : ι → EReal) (i : ι) (hi : i ∈ S) (h : f i = ⊥) : ∑ j ∈ S, f j = ⊥ := by
  classical
  rw [← Finset.add_sum_erase S f hi, h, EReal.bot_add]

theorem cs_split (t : Fin 128 → EReal) (ht : ∀ s, t s ≠ ⊤) (l : Fin 128) :
    ((∑ s : Fin 128, (if s ≤ l then (1 : EReal) else 0) * t s)
      + ∑ s : Fin 128, (if s ≤ l then (1 : EReal) else 0) * (t s - t s))
      + ∑ s : Fin 128, (if s ≤ l then (1 : EReal) else 0) * (t s - t s - (t s - t s)) = cs t l := by
  have h0 : (∑ s : Fin 128, (if s ≤ l then (1 : EReal) else 0) * t s) = cs t l :=
    Finset.sum_congr rfl fun s _ => by by_cases h : s ≤ l <;> simp [h]
  rw [h0]
  by_cases hb : ∃ s, s ≤ l ∧ t s = ⊥
  · obtain ⟨s, hs, hbt⟩ := hb
    have : cs t l = ⊥ := sum_eq_bot _ _ s (Finset.mem_univ _) (by rw [if_pos hs, hbt])
    rw [this, EReal.bot_add, EReal.bot_add]
  · have hr : ∀ s, s ≤ l → t s - t s = 0 := fun s hs => by
      have h1 : t s ≠ ⊥ := fun e => hb ⟨s, hs, e⟩
      exact EReal.sub_self (ht s) h1
    have h1 : (∑ s : Fin 128, (if s ≤ l then (1 : EReal) else 0) * (t s - t s)) = 0 :=
      Finset.sum_eq_zero fun s _ => by
        by_cases h : s ≤ l
        · rw [hr s h, mul_zero]
        · rw [if_neg h, zero_mul]
    have h2 : (∑ s : Fin 128, (if s ≤ l then (1 : EReal) else 0) * (t s - t s - (t s - t s))) = 0 :=
      Finset.sum_eq_zero fun s _ => by
        by_cases h : s ≤ l
        · rw [hr s h, sub_zero, mul_zero]
        · rw [if_neg h, zero_mul]
    rw [h1, h2, add_zero, add_zero]

end Cert.Num

end
-- ==== Proof.Head.lean ====
/- The backward pass of one chunk, head by head: the vector terms the kernel forms for one head, written once over the head's
   loaded blocks, and what each of them is at an index over the extended reals. -/
module

public import proofs.«01_k».proof.Proof.Gen.KernelIdeal.Value
public import Idealize.ShloMosaic.Lib.Pointwise
public import proofs.«01_k».proof.Proof.Num

@[expose] public section

set_option maxRecDepth 20000

noncomputable section

namespace Cert.KernelIdeal.Head

open Cert.KernelIdeal Cert.KernelIdeal.Gen Idealize.ShloMosaic Idealize.ShloMosaic.TcCoe Idealize.SL.Sem

section Terms

variable {F : FTy → Type} [FloatOps F]

/-- Column `h` of a matrix over rows and lanes. -/
def col (A : FVec F S128x128 .f32) (h : ℕ) (hs : S128x128.Slices ![0, h] S128x1) : FVec F S128x1 .f32 :=
  extractStridedSlice S128x1 ![0, h] A hs

/-- Row `h` of the transposed cumulative sums. -/
def rowT (A : FVec F S128x128 .f32) (h : ℕ) (hs : S128x128.Slices ![h, 0] S1x128) : FVec F S1x128 .f32 :=
  extractStridedSlice S1x128 ![h, 0] A hs

/-- The last entry of a column, as the sum of the column times the mask of the last row. -/
def last (ac : FVec F S128x1 .f32) : FVec F S1x1 .f32 :=
  shapeCast S1x1 (multiReduction .add [0] S1 (mulf ac k0_pay13) 0x00000000#32 reduces_S128x1_S1 (.inl rfl) rfl) shapeCasts_S1_S1x1

/-- The lower triangular matrix of decays between two rows of the chunk. -/
def lm (ac : FVec F S128x1 .f32) (ar : FVec F S1x128 .f32) : FVec F S128x128 .f32 :=
  select k0_pay12
    (exp (select k0_pay12
      (subf (broadcastTo S128x128 (shapeCast S128x1 ac shapeCasts_S128x1_S128x1) broadcasts_S128x1_S128x128)
        (broadcastTo S128x128 (shapeCast S1x128 ar shapeCasts_S1x128_S1x128) broadcasts_S1x128_S128x128))
      (broadcast S128x128 (Scalar.ofBits .f32 0x00000000#32))))
    (broadcast S128x128 (Scalar.ofBits .f32 0x00000000#32))

/-- The products of the rows of `C` with the rows of `B`. -/
def cb (b c : Vec F S1x128x128 .f32) : FVec F S128x128 .f32 := k0_pay20 (k0_pay18 b) c

/-- The decay from a row to the end of the chunk. -/
def dec (ac : FVec F S128x1 .f32) : FVec F S128x1 .f32 :=
  exp (subf (broadcastTo S128x1 (last ac) broadcasts_S1x1_S128x1) ac)

/-- The head's columns of a block of rows. -/
def hb (x : Vec F S1x128x64 .f32) : FVec F S128x64 .f32 := shapeCast S128x64 x shapeCasts_S1x128x64_S128x64

/-- The head's carried state gradient. -/
def gb (x : Vec F S1x64x128 .f32) : FVec F S64x128 .f32 := shapeCast S64x128 x shapeCasts_S1x64x128_S64x128

/-- The head's entering state. -/
def pb (x : Vec F S1x1x1x64x128 .f32) : FVec F S64x128 .f32 := shapeCast S64x128 x shapeCasts_S1x1x1x64x128_S64x128

/-- The head's inputs times their step sizes. -/
def xg (x : Vec F S1x128x64 .f32) (dt : FVec F S128x1 .f32) : FVec F S128x64 .f32 :=
  mulf (hb x) (broadcastTo S128x64 dt broadcasts_S128x1_S128x64)

/-- The head's output gradient times the decay from the start of the chunk. -/
def gt (gy : Vec F S1x128x64 .f32) (ac : FVec F S128x1 .f32) : FVec F S128x64 .bf16 :=
  truncf .bf16 (mulf (hb gy) (broadcastTo S128x64 (exp ac) broadcasts_S128x1_S128x64)) bitsLt_bf16_f32

/-- The gradient of the head's scaled inputs. -/
def dxg (b c : Vec F S1x128x128 .f32) (gy : Vec F S1x128x64 .f32) (gh : Vec F S1x64x128 .f32)
    (ac : FVec F S128x1 .f32) (ar : FVec F S1x128 .f32) : FVec F S128x64 .f32 :=
  addf
    (matmul dot_S128x128_S128x64_S128x64_0_0_1_1_n_n none (truncf .bf16 (mulf (cb b c) (lm ac ar)) bitsLt_bf16_f32)
      (truncf .bf16 (hb gy) bitsLt_bf16_f32) (constant S128x64 .f32 0x00000000#32))
    (mulf
      (matmul dot_S128x128_S64x128_S128x64_1_1_0_0_n_n none (k0_pay18 b) (truncf .bf16 (gb gh) bitsLt_bf16_f32)
        (constant S128x64 .f32 0x00000000#32))
      (broadcastTo S128x64 (dec ac) broadcasts_S128x1_S128x64))

/-- The gradient of the head's inputs, as stored. -/
def dx (b c : Vec F S1x128x128 .f32) (gy : Vec F S1x128x64 .f32) (gh : Vec F S1x64x128 .f32)
    (dt ac : FVec F S128x1 .f32) (ar : FVec F S1x128 .f32) (dk : Vec F S1x1 .f32) : FVec F S1x128x64 .f32 :=
  shapeCast S1x128x64
    (addf (mulf (broadcastTo S128x64 (shapeCast S1x1 dk shapeCasts_S1x1_S1x1) broadcasts_S1x1_S128x64) (hb gy))
      (mulf (dxg b c gy gh ac ar) (broadcastTo S128x64 dt broadcasts_S128x1_S128x64)))
    shapeCasts_S128x64_S1x128x64

/-- The state gradient handed to the chunk before, as stored. -/
def st (c : Vec F S1x128x128 .f32) (gy : Vec F S1x128x64 .f32) (gh : Vec F S1x64x128 .f32) (ac : FVec F S128x1 .f32) :
    FVec F S1x64x128 .f32 :=
  shapeCast S1x64x128
    (addf (matmul dot_S128x64_S128x128_S64x128_0_0_1_1_n_n none (gt gy ac) (k0_pay19 c) (constant S64x128 .f32 0x00000000#32))
      (mulf (gb gh) (broadcastTo S64x128 (exp (last ac)) broadcasts_S1x1_S64x128)))
    shapeCasts_S64x128_S1x64x128

/-- The gradient of the masked products, before the mask. -/
def dmm (x gy : Vec F S1x128x64 .f32) (dt : FVec F S128x1 .f32) : FVec F S128x128 .f32 :=
  matmul dot_S128x64_S128x64_S128x128_1_1_0_0_n_n none (truncf .bf16 (hb gy) bitsLt_bf16_f32)
    (truncf .bf16 (xg x dt) bitsLt_bf16_f32) (constant S128x128 .f32 0x00000000#32)

/-- What a head adds to the gradient of the products of `C` and `B`. -/
def aCB (acc : FVec F S128x128 .f32) (x gy : Vec F S1x128x64 .f32) (dt ac : FVec F S128x1 .f32) (ar : FVec F S1x128 .f32) :
    FVec F S128x128 .f32 :=
  addf acc (mulf (dmm x gy dt) (lm ac ar))

/-- What a head adds to the gradient of `C`. -/
def aC (acc : FVec F S128x128 .f32) (gy : Vec F S1x128x64 .f32) (hp : Vec F S1x1x1x64x128 .f32) (ac : FVec F S128x1 .f32) :
    FVec F S128x128 .f32 :=
  addf acc (matmul dot_S128x64_S64x128_S128x128_1_0_0_1_n_n none (gt gy ac) (truncf .bf16 (pb hp) bitsLt_bf16_f32)
    (constant S128x128 .f32 0x00000000#32))

/-- What a head adds to the gradient of `B`. -/
def aB (acc : FVec F S128x128 .f32) (x : Vec F S1x128x64 .f32) (gh : Vec F S1x64x128 .f32) (dt ac : FVec F S128x1 .f32) :
    FVec F S128x128 .f32 :=
  addf acc (matmul dot_S128x64_S64x128_S128x128_1_0_0_1_n_n none
    (truncf .bf16 (mulf (xg x dt) (broadcastTo S128x64 (dec ac) broadcasts_S128x1_S128x64)) bitsLt_bf16_f32)
    (truncf .bf16 (gb gh) bitsLt_bf16_f32) (constant S128x128 .f32 0x00000000#32))

/-- The zero matrix the accumulators start from. -/
def z0 : FVec F S128x128 .f32 := broadcast S128x128 (Scalar.ofBits .f32 0x00000000#32)

/-- The gradient of `C`, as stored, from the three sums over the heads of the group. -/
def oC (b : Vec F S1x128x128 .f32) (dcb dc : FVec F S128x128 .f32) : FVec F S1x128x128 .f32 :=
  shapeCast S1x128x128
    (addf dc (matmul dot_S128x128_S128x128_S128x128_1_0_0_1_n_n none (truncf .bf16 dcb bitsLt_bf16_f32) (k0_pay18 b)
      (constant S128x128 .f32 0x00000000#32)))
    shapeCasts_S128x128_S1x128x128

/-- The gradient of `B`, as stored. -/
def oB (c : Vec F S1x128x128 .f32) (dcb db : FVec F S128x128 .f32) : FVec F S1x128x128 .f32 :=
  shapeCast S1x128x128
    (addf db (matmul dot_S128x128_S128x128_S128x128_0_0_1_1_n_n none (truncf .bf16 dcb bitsLt_bf16_f32) (k0_pay19 c)
      (constant S128x128 .f32 0x00000000#32)))
    shapeCasts_S128x128_S1x128x128

end Terms

section Read

/-- The decay from row `s` to row `l`. -/
def sL (ac : Fin 128 → EReal) (l s : Fin 128) : EReal := if s ≤ l then Ideal.exp (ac l - ac s) else 0

/-- The product of row `l` of `C` with row `s` of `B`. -/
def sCB (B C : Fin 128 → Fin 128 → EReal) (l s : Fin 128) : EReal := ∑ n : Fin 128, C l n * B s n

/-- The gradient of the masked product of rows `l` and `s`. -/
def sDM (x gy : Fin 128 → Fin 64 → EReal) (dt : Fin 128 → EReal) (l s : Fin 128) : EReal :=
  ∑ p : Fin 64, gy l p * (x s p * dt s)

/-- The gradient of the scaled inputs. -/
def sDXG (B C : Fin 128 → Fin 128 → EReal) (gy : Fin 128 → Fin 64 → EReal) (gh : Fin 64 → Fin 128 → EReal)
    (ac : Fin 128 → EReal) (s : Fin 128) (p : Fin 64) : EReal :=
  (∑ l : Fin 128, sCB B C l s * sL ac l s * gy l p) + (∑ n : Fin 128, B s n * gh p n) * Ideal.exp (ac 127 - ac s)

/-- The gradient of the inputs. -/
def sDX (B C : Fin 128 → Fin 128 → EReal) (gy : Fin 128 → Fin 64 → EReal) (gh : Fin 64 → Fin 128 → EReal)
    (dt ac : Fin 128 → EReal) (dk : EReal) (s : Fin 128) (p : Fin 64) : EReal :=
  dk * gy s p + sDXG B C gy gh ac s p * dt s

/-- The state gradient handed to the chunk before. -/
def sST (C : Fin 128 → Fin 128 → EReal) (gy : Fin 128 → Fin 64 → EReal) (gh : Fin 64 → Fin 128 → EReal)
    (ac : Fin 128 → EReal) (p : Fin 64) (n : Fin 128) : EReal :=
  (∑ l : Fin 128, gy l p * Ideal.exp (ac l) * C l n) + gh p n * Ideal.exp (ac 127)

/-- What one head contributes to the gradient of `C` through its entering state. -/
def sC (gy : Fin 128 → Fin 64 → EReal) (hp : Fin 64 → Fin 128 → EReal) (ac : Fin 128 → EReal) (l n : Fin 128) : EReal :=
  ∑ p : Fin 64, gy l p * Ideal.exp (ac l) * hp p n

/-- What one head contributes to the gradient of `B` through its carried state gradient. -/
def sB (x : Fin 128 → Fin 64 → EReal) (gh : Fin 64 → Fin 128 → EReal) (dt ac : Fin 128 → EReal) (s n : Fin 128) : EReal :=
  ∑ p : Fin 64, x s p * dt s * Ideal.exp (ac 127 - ac s) * gh p n

theorem sge_eq (l s : Fin 128) : IntOp.cmpi .sge (BitVec.ofNat 32 l.val) (BitVec.ofNat 32 s.val) = BitVec.ofBool (decide (s ≤ l)) := by
  rw [WordCmp.cmpi_sge_ofNat (by have := l.isLt; norm_num; omega) (by have := s.isLt; norm_num; omega)]; rfl

theorem sitofp_bool (b : Bool) :
    (FloatOps.sitofp FTy.f32 (BitVec.setWidth 32 (BitVec.ofBool b)) : Ideal .f32) = if b = true then (1 : EReal) else 0 := by
  cases b
  · show (((BitVec.setWidth 32 (BitVec.ofBool false)).toInt : ℝ) : EReal) = _
    rw [show (BitVec.setWidth 32 (BitVec.ofBool false)).toInt = 0 from by decide, if_neg (by decide)]; simp
  · show (((BitVec.setWidth 32 (BitVec.ofBool true)).toInt : ℝ) : EReal) = _
    rw [show (BitVec.setWidth 32 (BitVec.ofBool true)).toInt = 1 from by decide, if_pos rfl]; simp

theorem mask_last (x : Fin 128) :
    (FloatOps.sitofp FTy.f32 (BitVec.setWidth 32 (IntOp.cmpi CmpIPredicate.eq (BitVec.ofNat 32 x.val) 127#32)) : Ideal .f32)
      = if x = 127 then (1 : EReal) else 0 := by
  rw [show (127#32) = BitVec.ofNat 32 127 from rfl, WordCmp.cmpi_eq_ofNat (by have := x.isLt; norm_num; omega) (by norm_num), sitofp_bool]
  simp only [decide_eq_true_eq, Fin.ext_iff]
  rfl

theorem last_apply (ac : FVec Ideal S128x1 .f32) (i j : Fin 1) : last ac (ix2 i j) = ac (ix2 127 0) := by
  unfold last k0_pay13
  pointwise
  simp only [mask_last]
  rw [Finset.sum_eq_single 127 (fun b _ hb => by rw [if_neg hb, mul_zero]) (fun h => absurd (Finset.mem_univ _) h), if_pos rfl, mul_one]

theorem lm_apply (ac : FVec Ideal S128x1 .f32) (ar : FVec Ideal S1x128 .f32) (a : Fin 128 → EReal)
    (h1 : ∀ l, ac (ix2 l 0) = a l) (h2 : ∀ s, ar (ix2 0 s) = a s) (l s : Fin 128) : lm ac ar (ix2 l s) = sL a l s := by
  unfold lm k0_pay12
  pointwise
  rw [sge_eq, h1, h2]
  unfold sL
  by_cases h : s ≤ l
  · rw [decide_eq_true h, if_pos h]; rfl
  · rw [decide_eq_false h, if_neg h]; rfl

theorem cb_apply (b c : Vec Ideal S1x128x128 .f32) (l s : Fin 128) :
    cb b c (ix2 l s) = sCB (fun s n => b (ix3 0 s n)) (fun l n => c (ix3 0 l n)) l s := by
  unfold cb sCB k0_pay20 k0_pay18 k0_pay19
  pointwise [dot_S128x128_S128x128_S128x128_1_1_0_0_n_n]

theorem col_apply (A : FVec Ideal S128x128 .f32) (h : ℕ) (hs) (hh : h < 128) (l : Fin 128) (j : Fin 1) : col A h hs (ix2 l j) = A (ix2 l ⟨h, hh⟩) := by
  unfold col
  refine extractStridedSlice_apply _ _ _ _ _ (fun a => ?_)
  have hj : j.val = 0 := by omega
  fin_cases a
  · exact (Nat.zero_add _).symm
  · show h = h + j.val; omega

theorem rowT_apply (A : FVec Ideal S128x128 .f32) (h : ℕ) (hs) (hh : h < 128) (i : Fin 1) (s : Fin 128) : rowT A h hs (ix2 i s) = A (ix2 ⟨h, hh⟩ s) := by
  unfold rowT
  refine extractStridedSlice_apply _ _ _ _ _ (fun a => ?_)
  have hj : i.val = 0 := by omega
  fin_cases a
  · show h = h + i.val; omega
  · exact (Nat.zero_add _).symm

theorem dec_apply (ac : FVec Ideal S128x1 .f32) (l : Fin 128) (j : Fin 1) :
    dec ac (ix2 l j) = Ideal.exp (ac (ix2 127 0) - ac (ix2 l 0)) := by
  have hj : j = 0 := Subsingleton.elim _ _
  subst hj
  unfold dec
  pointwise
  rw [last_apply]

theorem gt_apply (gy : Vec Ideal S1x128x64 .f32) (ac : FVec Ideal S128x1 .f32) (l : Fin 128) (p : Fin 64) :
    gt gy ac (ix2 l p) = gy (ix3 0 l p) * Ideal.exp (ac (ix2 l 0)) := by
  unfold gt hb
  pointwise

theorem xg_apply (x : Vec Ideal S1x128x64 .f32) (dt : FVec Ideal S128x1 .f32) (l : Fin 128) (p : Fin 64) :
    xg x dt (ix2 l p) = x (ix3 0 l p) * dt (ix2 l 0) := by
  unfold xg hb
  pointwise

theorem dxg_apply (b c : Vec Ideal S1x128x128 .f32) (gy : Vec Ideal S1x128x64 .f32) (gh : Vec Ideal S1x64x128 .f32)
    (ac : FVec Ideal S128x1 .f32) (ar : FVec Ideal S1x128 .f32) (a : Fin 128 → EReal)
    (h1 : ∀ l, ac (ix2 l 0) = a l) (h2 : ∀ s, ar (ix2 0 s) = a s) (s : Fin 128) (p : Fin 64) :
    dxg b c gy gh ac ar (ix2 s p) = sDXG (fun s n => b (ix3 0 s n)) (fun l n => c (ix3 0 l n)) (fun l p => gy (ix3 0 l p))
      (fun p n => gh (ix3 0 p n)) a s p := by
  unfold dxg hb gb k0_pay18 sDXG
  pointwise [dot_S128x128_S128x64_S128x64_0_0_1_1_n_n, dot_S128x128_S64x128_S128x64_1_1_0_0_n_n]
  simp only [cb_apply, lm_apply ac ar a h1 h2, dec_apply, h1]

theorem dx_apply (b c : Vec Ideal S1x128x128 .f32) (gy : Vec Ideal S1x128x64 .f32) (gh : Vec Ideal S1x64x128 .f32)
    (dt ac : FVec Ideal S128x1 .f32) (ar : FVec Ideal S1x128 .f32) (dk : Vec Ideal S1x1 .f32) (d a : Fin 128 → EReal)
    (h0 : ∀ l, dt (ix2 l 0) = d l) (h1 : ∀ l, ac (ix2 l 0) = a l) (h2 : ∀ s, ar (ix2 0 s) = a s) (i : Fin 1) (s : Fin 128) (p : Fin 64) :
    dx b c gy gh dt ac ar dk (ix3 i s p) = sDX (fun s n => b (ix3 0 s n)) (fun l n => c (ix3 0 l n)) (fun l p => gy (ix3 0 l p))
      (fun p n => gh (ix3 0 p n)) d a (dk (ix2 0 0)) s p := by
  unfold dx hb sDX
  pointwise
  rw [dxg_apply b c gy gh ac ar a h1 h2, h0]

theorem st_apply (c : Vec Ideal S1x128x128 .f32) (gy : Vec Ideal S1x128x64 .f32) (gh : Vec Ideal S1x64x128 .f32)
    (ac : FVec Ideal S128x1 .f32) (a : Fin 128 → EReal) (h1 : ∀ l, ac (ix2 l 0) = a l) (i : Fin 1) (p : Fin 64) (n : Fin 128) :
    st c gy gh ac (ix3 i p n) = sST (fun l n => c (ix3 0 l n)) (fun l p => gy (ix3 0 l p)) (fun p n => gh (ix3 0 p n)) a p n := by
  unfold st gb sST k0_pay19
  pointwise [dot_S128x64_S128x128_S64x128_0_0_1_1_n_n]
  simp only [gt_apply, last_apply, h1]

theorem aCB_apply (acc : FVec Ideal S128x128 .f32) (x gy : Vec Ideal S1x128x64 .f32) (dt ac : FVec Ideal S128x1 .f32) (ar : FVec Ideal S1x128 .f32)
    (d a : Fin 128 → EReal) (h0 : ∀ l, dt (ix2 l 0) = d l) (h1 : ∀ l, ac (ix2 l 0) = a l) (h2 : ∀ s, ar (ix2 0 s) = a s) (l s : Fin 128) :
    aCB acc x gy dt ac ar (ix2 l s) = acc (ix2 l s) + sDM (fun s p => x (ix3 0 s p)) (fun l p => gy (ix3 0 l p)) d l s * sL a l s := by
  unfold aCB dmm hb sDM
  pointwise [dot_S128x64_S128x64_S128x128_1_1_0_0_n_n]
  simp only [xg_apply, lm_apply ac ar a h1 h2, h0]

theorem aC_apply (acc : FVec Ideal S128x128 .f32) (gy : Vec Ideal S1x128x64 .f32) (hp : Vec Ideal S1x1x1x64x128 .f32)
    (ac : FVec Ideal S128x1 .f32) (a : Fin 128 → EReal) (h1 : ∀ l, ac (ix2 l 0) = a l) (l n : Fin 128) :
    aC acc gy hp ac (ix2 l n) = acc (ix2 l n) + sC (fun l p => gy (ix3 0 l p)) (fun p n => hp (ix5 0 0 0 p n)) a l n := by
  unfold aC pb sC
  pointwise [dot_S128x64_S64x128_S128x128_1_0_0_1_n_n]
  simp only [gt_apply, h1]

theorem aB_apply (acc : FVec Ideal S128x128 .f32) (x : Vec Ideal S1x128x64 .f32) (gh : Vec Ideal S1x64x128 .f32)
    (dt ac : FVec Ideal S128x1 .f32) (d a : Fin 128 → EReal) (h0 : ∀ l, dt (ix2 l 0) = d l) (h1 : ∀ l, ac (ix2 l 0) = a l) (s n : Fin 128) :
    aB acc x gh dt ac (ix2 s n) = acc (ix2 s n) + sB (fun s p => x (ix3 0 s p)) (fun p n => gh (ix3 0 p n)) d a s n := by
  unfold aB gb sB
  pointwise [dot_S128x64_S64x128_S128x128_1_0_0_1_n_n]
  simp only [xg_apply, dec_apply, h0, h1]

theorem z0_apply (l s : Fin 128) : (z0 : FVec Ideal S128x128 .f32) (ix2 l s) = 0 := by
  unfold z0
  pointwise

theorem oC_apply (b : Vec Ideal S1x128x128 .f32) (dcb dc : FVec Ideal S128x128 .f32) (i : Fin 1) (l n : Fin 128) :
    oC b dcb dc (ix3 i l n) = dc (ix2 l n) + ∑ s : Fin 128, dcb (ix2 l s) * b (ix3 0 s n) := by
  unfold oC k0_pay18
  pointwise [dot_S128x128_S128x128_S128x128_1_0_0_1_n_n]

theorem oB_apply (c : Vec Ideal S1x128x128 .f32) (dcb db : FVec Ideal S128x128 .f32) (i : Fin 1) (s n : Fin 128) :
    oB c dcb db (ix3 i s n) = db (ix2 s n) + ∑ l : Fin 128, dcb (ix2 l s) * c (ix3 0 l n) := by
  unfold oB k0_pay19
  pointwise [dot_S128x128_S128x128_S128x128_0_0_1_1_n_n]

/-- The step sizes: what the kernel computes from the raw ones. -/
theorem dtM_apply (r : Vec Ideal S1x128x128 .f32) (bias : Vec Ideal S1x128 .f32) (l h : Fin 128) :
    k0_pay7 r bias (ix2 l h) = Num.softplus (r (ix3 0 l h) + bias (ix2 0 h)) := by
  unfold k0_pay7 k0_pay6
  pointwise
  exact Num.softplus_eq _

theorem mask_sge (l x : Fin 128) :
    (FloatOps.sitofp FTy.f32 (BitVec.setWidth 32 (IntOp.cmpi CmpIPredicate.sge (BitVec.ofNat 32 l.val) (BitVec.ofNat 32 x.val))) : Ideal .f32)
      = if x ≤ l then (1 : EReal) else 0 := by
  rw [sge_eq, sitofp_bool]
  simp only [decide_eq_true_eq]

/-- The running sums of the decay exponents, for step sizes that are not infinite against a rate. -/
theorem acsM_apply (dt : FVec Ideal S128x128 .f32) (al : Vec Ideal S1x128 .f32) (l h : Fin 128)
    (ht : ∀ s : Fin 128, dt (ix2 s h) * -(Ideal.exp (al (ix2 0 h))) ≠ ⊤) :
    k0_pay10 dt (k0_pay8 al) (ix2 l h) = Num.cs (fun s => dt (ix2 s h) * -(Ideal.exp (al (ix2 0 h)))) l := by
  unfold k0_pay10 k0_pay9 k0_pay8
  pointwise [dot_S128x128_S128x128_S128x128_1_0_0_1_n_n]
  simp only [mask_sge, zero_sub]
  exact Num.cs_split (fun s => dt (ix2 s h) * -(Ideal.exp (al (ix2 0 h)))) ht l

theorem acsT_apply (dt : FVec Ideal S128x128 .f32) (al : FVec Ideal S1x128 .f32) (h s : Fin 128) :
    k0_pay11 dt al (ix2 h s) = k0_pay10 dt al (ix2 s h) := by
  unfold k0_pay11
  pointwise

end Read

end Cert.KernelIdeal.Head

end
-- ==== Proof.Pay.lean ====
/- What one grid step of the kernel stores, piece by piece, in the vocabulary of one head: the pieces of the gradient block and of
   the carried state gradient, each the head's term over the head's part of the loaded blocks. -/
module

public import proofs.«01_k».proof.Proof.Head

@[expose] public section

set_option maxRecDepth 20000

noncomputable section

namespace Cert.KernelIdeal.Pay

open Cert.KernelIdeal Cert.KernelIdeal.Gen Idealize.ShloMosaic Idealize.ShloMosaic.TcCoe Idealize.SL.Sem
open Cert.KernelIdeal.Head

theorem inb3 {a b c o p q x y z : ℕ} (h0 : o + x ≤ a) (h1 : p + y ≤ b) (h2 : q + z ≤ c) :
    ∀ i : Fin 3, (![o, p, q] : Fin 3 → ℕ) i + (![x, y, z] : Fin 3 → ℕ) i ≤ (![a, b, c] : Fin 3 → ℕ) i :=
  Fin.forall_fin_succ.2 ⟨h0, Fin.forall_fin_succ.2 ⟨h1, Fin.forall_fin_one.2 h2⟩⟩

theorem inbX (h : Fin 16) : ∀ a, (![0, 0, 64 * h.val] : Fin 3 → ℕ) a + S1x128x64.size a ≤ S1x128x1536.size a :=
  inb3 (by norm_num) (by norm_num) (by have := h.isLt; omega)

theorem inbY (h : Fin 16) : ∀ a, (![0, 0, 64 * h.val] : Fin 3 → ℕ) a + S1x128x64.size a ≤ S1x128x1024.size a :=
  inb3 (by norm_num) (by norm_num) (by have := h.isLt; omega)

theorem inbB (g : Fin 2) : ∀ a, (![0, 0, 1024 + 128 * g.val] : Fin 3 → ℕ) a + S1x128x128.size a ≤ S1x128x1536.size a :=
  inb3 (by norm_num) (by norm_num) (by have := g.isLt; omega)

theorem inbC (g : Fin 2) : ∀ a, (![0, 0, 1280 + 128 * g.val] : Fin 3 → ℕ) a + S1x128x128.size a ≤ S1x128x1536.size a :=
  inb3 (by norm_num) (by norm_num) (by have := g.isLt; omega)

theorem inbG (h : Fin 16) : ∀ a, (![h.val, 0, 0] : Fin 3 → ℕ) a + S1x64x128.size a ≤ S16x64x128.size a :=
  inb3 (by have := h.isLt; omega) (by norm_num) (by norm_num)

theorem inbK (h : Fin 16) : ∀ a, (![0, h.val] : Fin 2 → ℕ) a + S1x1.size a ≤ S1x128.size a :=
  Fin.forall_fin_succ.2 ⟨by show 0 + 1 ≤ 1; norm_num, Fin.forall_fin_one.2 (by show h.val + 1 ≤ 128; have := h.isLt; omega)⟩

theorem inbP (h : Fin 16) : ∀ a, (![0, h.val, 0, 0, 0] : Fin 5 → ℕ) a + S1x1x1x64x128.size a ≤ S1x16x1x64x128.size a :=
  Fin.forall_fin_succ.2 ⟨by show 0 + 1 ≤ 1; norm_num, Fin.forall_fin_succ.2 ⟨by show h.val + 1 ≤ 16; have := h.isLt; omega,
    Fin.forall_fin_succ.2 ⟨by show 0 + 1 ≤ 1; norm_num, Fin.forall_fin_succ.2 ⟨by show 0 + 64 ≤ 64; norm_num,
      Fin.forall_fin_one.2 (by show 0 + 128 ≤ 128; norm_num)⟩⟩⟩⟩

theorem slcC (h : Fin 16) : S128x128.Slices ![0, h.val] S128x1 :=
  ⟨rfl, Fin.forall_fin_succ.2 ⟨by show 0 + 128 ≤ 128; norm_num, Fin.forall_fin_one.2 (by show h.val + 1 ≤ 128; have := h.isLt; omega)⟩⟩

theorem slcR (h : Fin 16) : S128x128.Slices ![h.val, 0] S1x128 :=
  ⟨rfl, Fin.forall_fin_succ.2 ⟨by show h.val + 1 ≤ 128; have := h.isLt; omega, Fin.forall_fin_one.2 (by show 0 + 128 ≤ 128; norm_num)⟩⟩

/-- Head `k` of group `g`. -/
def hd (g : Fin 2) (k : ℕ) : Fin 16 := ⟨(8 * g.val + k) % 16, Nat.mod_lt _ (by norm_num)⟩

section Pieces

variable {F : FTy → Type} [FloatOps F]

abbrev rX (h : Fin 16) : Rect S1x128x1536 := Rect.unit (s := S1x128x1536) ![0, 0, 64 * h.val] S1x128x64.size (inbX h)
abbrev rB (g : Fin 2) : Rect S1x128x1536 := Rect.unit (s := S1x128x1536) ![0, 0, 1024 + 128 * g.val] S1x128x128.size (inbB g)
abbrev rC (g : Fin 2) : Rect S1x128x1536 := Rect.unit (s := S1x128x1536) ![0, 0, 1280 + 128 * g.val] S1x128x128.size (inbC g)
abbrev rG (h : Fin 16) : Rect S16x64x128 := Rect.unit (s := S16x64x128) ![h.val, 0, 0] S1x64x128.size (inbG h)

/-- The inputs of a head. -/
def lX (x0 : Vec F S1x128x1536 .f32) (h : Fin 16) : Vec F S1x128x64 .f32 :=
  View.ld x0 (Rect.unit (s := S1x128x1536) ![0, 0, 64 * h.val] S1x128x64.size (inbX h))
/-- The output gradient of a head. -/
def lY (x6 : Vec F S1x128x1024 .f32) (h : Fin 16) : Vec F S1x128x64 .f32 :=
  View.ld x6 (Rect.unit (s := S1x128x1024) ![0, 0, 64 * h.val] S1x128x64.size (inbY h))
/-- The matrix `B` of a group. -/
def lB (x0 : Vec F S1x128x1536 .f32) (g : Fin 2) : Vec F S1x128x128 .f32 :=
  View.ld x0 (Rect.unit (s := S1x128x1536) ![0, 0, 1024 + 128 * g.val] S1x128x128.size (inbB g))
/-- The matrix `C` of a group. -/
def lC (x0 : Vec F S1x128x1536 .f32) (g : Fin 2) : Vec F S1x128x128 .f32 :=
  View.ld x0 (Rect.unit (s := S1x128x1536) ![0, 0, 1280 + 128 * g.val] S1x128x128.size (inbC g))
/-- The carried state gradient of a head. -/
def lG (gs : Vec F S16x64x128 .f32) (h : Fin 16) : Vec F S1x64x128 .f32 :=
  View.ld gs (Rect.unit (s := S16x64x128) ![h.val, 0, 0] S1x64x128.size (inbG h))
/-- The entering state of a head. -/
def lP (x5 : Vec F S1x16x1x64x128 .f32) (h : Fin 16) : Vec F S1x1x1x64x128 .f32 :=
  View.ld x5 (Rect.unit (s := S1x16x1x64x128) ![0, h.val, 0, 0, 0] S1x1x1x64x128.size (inbP h))
/-- The skip weight of a head. -/
def lK (x4 : Vec F S1x128 .f32) (h : Fin 16) : Vec F S1x1 .f32 :=
  View.ld x4 (Rect.unit (s := S1x128) ![0, h.val] S1x1.size (inbK h))
/-- The step sizes of the chunk. -/
def DT (x1 : Vec F S1x128x128 .f32) (x2 : Vec F S1x128 .f32) : FVec F S128x128 .f32 :=
  k0_pay7 (View.ld x1 (Rect.unit (s := S1x128x128) ![0, 0, 0] S1x128x128.size inb_S1x128x128_S1x128x128_0_0_0))
    (View.ld x2 (Rect.unit (s := S1x128) ![0, 0] S1x128.size inb_S1x128_S1x128_0_0))
/-- The running sums of the decay exponents. -/
def AC (x1 : Vec F S1x128x128 .f32) (x2 x3 : Vec F S1x128 .f32) : FVec F S128x128 .f32 :=
  k0_pay10 (DT x1 x2) (k0_pay8 (View.ld x3 (Rect.unit (s := S1x128) ![0, 0] S1x128.size inb_S1x128_S1x128_0_0)))
/-- The same, transposed. -/
def AT (x1 : Vec F S1x128x128 .f32) (x2 x3 : Vec F S1x128 .f32) : FVec F S128x128 .f32 :=
  k0_pay11 (DT x1 x2) (k0_pay8 (View.ld x3 (Rect.unit (s := S1x128) ![0, 0] S1x128.size inb_S1x128_S1x128_0_0)))

/-- The state gradient of the last chunk: zero. -/
def z16 : Vec F S16x64x128 .f32 := broadcast S16x64x128 (Scalar.ofBits .f32 0x00000000#32)

variable (x0 : Vec F S1x128x1536 .f32) (x1 : Vec F S1x128x128 .f32) (x2 x3 x4 : Vec F S1x128 .f32) (x5 : Vec F S1x16x1x64x128 .f32)
  (x6 : Vec F S1x128x1024 .f32) (gh : Fin 16 → Vec F S1x64x128 .f32)

def cdt (h : Fin 16) : FVec F S128x1 .f32 := col (DT x1 x2) h.val (slcC h)
def cac (h : Fin 16) : FVec F S128x1 .f32 := col (AC x1 x2 x3) h.val (slcC h)
def rac (h : Fin 16) : FVec F S1x128 .f32 := rowT (AT x1 x2 x3) h.val (slcR h)

/-- The piece of a head's inputs' gradient. -/
def pX (g : Fin 2) (h : Fin 16) : FVec F S1x128x64 .f32 :=
  dx (lB x0 g) (lC x0 g) (lY x6 h) (gh h) (cdt x1 x2 h) (cac x1 x2 x3 h) (rac x1 x2 x3 h) (lK x4 h)
/-- The piece of a head's state gradient. -/
def pS (g : Fin 2) (h : Fin 16) : FVec F S1x64x128 .f32 := st (lC x0 g) (lY x6 h) (gh h) (cac x1 x2 x3 h)
/-- The gradient of the products of `C` and `B`, after the first `k` heads of a group. -/
def fCB (g : Fin 2) : ℕ → FVec F S128x128 .f32
  | 0 => z0
  | k + 1 => aCB (fCB g k) (lX x0 (hd g k)) (lY x6 (hd g k)) (cdt x1 x2 (hd g k)) (cac x1 x2 x3 (hd g k)) (rac x1 x2 x3 (hd g k))
/-- The direct gradient of `C`, after the first `k` heads of a group. -/
def fC (g : Fin 2) : ℕ → FVec F S128x128 .f32
  | 0 => z0
  | k + 1 => aC (fC g k) (lY x6 (hd g k)) (lP x5 (hd g k)) (cac x1 x2 x3 (hd g k))
/-- The direct gradient of `B`, after the first `k` heads of a group. -/
def fB (g : Fin 2) : ℕ → FVec F S128x128 .f32
  | 0 => z0
  | k + 1 => aB (fB g k) (lX x0 (hd g k)) (gh (hd g k)) (cdt x1 x2 (hd g k)) (cac x1 x2 x3 (hd g k))
def pB (g : Fin 2) : FVec F S1x128x128 .f32 := oB (lC x0 g) (fCB x0 x1 x2 x3 x6 g 8) (fB x0 x1 x2 x3 gh g 8)
def pC (g : Fin 2) : FVec F S1x128x128 .f32 := oC (lB x0 g) (fCB x0 x1 x2 x3 x6 g 8) (fC x1 x2 x3 x5 x6 g 8)

/-- The pieces of the gradient block, last store first. -/
def pcs : List (View.Piece (Elt F) S1x128x1536 .f32) :=
  [⟨rB ⟨1, by decide⟩, pB x0 x1 x2 x3 x6 gh ⟨1, by decide⟩⟩,
   ⟨rC ⟨1, by decide⟩, pC x0 x1 x2 x3 x5 x6 ⟨1, by decide⟩⟩,
   ⟨rX ⟨15, by decide⟩, pX x0 x1 x2 x3 x4 x6 gh ⟨1, by decide⟩ ⟨15, by decide⟩⟩,
   ⟨rX ⟨14, by decide⟩, pX x0 x1 x2 x3 x4 x6 gh ⟨1, by decide⟩ ⟨14, by decide⟩⟩,
   ⟨rX ⟨13, by decide⟩, pX x0 x1 x2 x3 x4 x6 gh ⟨1, by decide⟩ ⟨13, by decide⟩⟩,
   ⟨rX ⟨12, by decide⟩, pX x0 x1 x2 x3 x4 x6 gh ⟨1, by decide⟩ ⟨12, by decide⟩⟩,
   ⟨rX ⟨11, by decide⟩, pX x0 x1 x2 x3 x4 x6 gh ⟨1, by decide⟩ ⟨11, by decide⟩⟩,
   ⟨rX ⟨10, by decide⟩, pX x0 x1 x2 x3 x4 x6 gh ⟨1, by decide⟩ ⟨10, by decide⟩⟩,
   ⟨rX ⟨9, by decide⟩, pX x0 x1 x2 x3 x4 x6 gh ⟨1, by decide⟩ ⟨9, by decide⟩⟩,
   ⟨rX ⟨8, by decide⟩, pX x0 x1 x2 x3 x4 x6 gh ⟨1, by decide⟩ ⟨8, by decide⟩⟩,
   ⟨rB ⟨0, by decide⟩, pB x0 x1 x2 x3 x6 gh ⟨0, by decide⟩⟩,
   ⟨rC ⟨0, by decide⟩, pC x0 x1 x2 x3 x5 x6 ⟨0, by decide⟩⟩,
   ⟨rX ⟨7, by decide⟩, pX x0 x1 x2 x3 x4 x6 gh ⟨0, by decide⟩ ⟨7, by decide⟩⟩,
   ⟨rX ⟨6, by decide⟩, pX x0 x1 x2 x3 x4 x6 gh ⟨0, by decide⟩ ⟨6, by decide⟩⟩,
   ⟨rX ⟨5, by decide⟩, pX x0 x1 x2 x3 x4 x6 gh ⟨0, by decide⟩ ⟨5, by decide⟩⟩,
   ⟨rX ⟨4, by decide⟩, pX x0 x1 x2 x3 x4 x6 gh ⟨0, by decide⟩ ⟨4, by decide⟩⟩,
   ⟨rX ⟨3, by decide⟩, pX x0 x1 x2 x3 x4 x6 gh ⟨0, by decide⟩ ⟨3, by decide⟩⟩,
   ⟨rX ⟨2, by decide⟩, pX x0 x1 x2 x3 x4 x6 gh ⟨0, by decide⟩ ⟨2, by decide⟩⟩,
   ⟨rX ⟨1, by decide⟩, pX x0 x1 x2 x3 x4 x6 gh ⟨0, by decide⟩ ⟨1, by decide⟩⟩,
   ⟨rX ⟨0, by decide⟩, pX x0 x1 x2 x3 x4 x6 gh ⟨0, by decide⟩ ⟨0, by decide⟩⟩]

/-- The pieces of the carried state gradient, last store first. -/
def spcs : List (View.Piece (Elt F) S16x64x128 .f32) :=
  [⟨rG ⟨15, by decide⟩, pS x0 x1 x2 x3 x6 gh ⟨1, by decide⟩ ⟨15, by decide⟩⟩,
   ⟨rG ⟨14, by decide⟩, pS x0 x1 x2 x3 x6 gh ⟨1, by decide⟩ ⟨14, by decide⟩⟩,
   ⟨rG ⟨13, by decide⟩, pS x0 x1 x2 x3 x6 gh ⟨1, by decide⟩ ⟨13, by decide⟩⟩,
   ⟨rG ⟨12, by decide⟩, pS x0 x1 x2 x3 x6 gh ⟨1, by decide⟩ ⟨12, by decide⟩⟩,
   ⟨rG ⟨11, by decide⟩, pS x0 x1 x2 x3 x6 gh ⟨1, by decide⟩ ⟨11, by decide⟩⟩,
   ⟨rG ⟨10, by decide⟩, pS x0 x1 x2 x3 x6 gh ⟨1, by decide⟩ ⟨10, by decide⟩⟩,
   ⟨rG ⟨9, by decide⟩, pS x0 x1 x2 x3 x6 gh ⟨1, by decide⟩ ⟨9, by decide⟩⟩,
   ⟨rG ⟨8, by decide⟩, pS x0 x1 x2 x3 x6 gh ⟨1, by decide⟩ ⟨8, by decide⟩⟩,
   ⟨rG ⟨7, by decide⟩, pS x0 x1 x2 x3 x6 gh ⟨0, by decide⟩ ⟨7, by decide⟩⟩,
   ⟨rG ⟨6, by decide⟩, pS x0 x1 x2 x3 x6 gh ⟨0, by decide⟩ ⟨6, by decide⟩⟩,
   ⟨rG ⟨5, by decide⟩, pS x0 x1 x2 x3 x6 gh ⟨0, by decide⟩ ⟨5, by decide⟩⟩,
   ⟨rG ⟨4, by decide⟩, pS x0 x1 x2 x3 x6 gh ⟨0, by decide⟩ ⟨4, by decide⟩⟩,
   ⟨rG ⟨3, by decide⟩, pS x0 x1 x2 x3 x6 gh ⟨0, by decide⟩ ⟨3, by decide⟩⟩,
   ⟨rG ⟨2, by decide⟩, pS x0 x1 x2 x3 x6 gh ⟨0, by decide⟩ ⟨2, by decide⟩⟩,
   ⟨rG ⟨1, by decide⟩, pS x0 x1 x2 x3 x6 gh ⟨0, by decide⟩ ⟨1, by decide⟩⟩,
   ⟨rG ⟨0, by decide⟩, pS x0 x1 x2 x3 x6 gh ⟨0, by decide⟩ ⟨0, by decide⟩⟩]

end Pieces

end Cert.KernelIdeal.Pay

end
-- ==== Proof.PayA.lean ====
/- The stored pieces of a grid step of kind A are the head terms' pieces. -/
module

public import proofs.«01_k».proof.Proof.Pay
public import Idealize.ShloMosaic.Lib.Pipeline.ReadBack

@[expose] public section

set_option maxRecDepth 20000

noncomputable section

namespace Cert.KernelIdeal.Pay

open Cert.KernelIdeal Cert.KernelIdeal.Gen Idealize.ShloMosaic Idealize.ShloMosaic.TcCoe Idealize.SL.Sem
open Cert.KernelIdeal.Head

variable {F : FTy → Type} [FloatOps F]

theorem out0_A_7_eq (c : Dev nD) (i : grid0.Coords) (arg2 : Memref sig .tc .vmem S1x128x1536 .f32) (harg2 : arg2.IsWhole) (arg3 : Memref sig .tc .vmem S1x128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x16x1x64x128 .f32) (harg7 : arg7.IsWhole) (arg8 : Memref sig .tc .vmem S1x128x1024 .f32) (harg8 : arg8.IsWhole) (arg9 : Memref sig .tc .vmem S1x128x1536 .f32) (harg9 : arg9.IsWhole) (arg10 : Memref sig .tc .vmem S1x128x128 .f32) (harg10 : arg10.IsWhole) (arg11 : Memref sig .tc .vmem S8x128 .f32) (harg11 : arg11.IsWhole) (arg12 : Memref sig .tc .vmem S16x64x128 .f32) (harg12 : arg12.IsWhole) (hc0 : cond0_0 i) (hc1 : cond0_1 i)
    (x0 : Vec F S1x128x1536 .f32) (x1 : Vec F S1x128x128 .f32) (x2 : Vec F S1x128 .f32) (x3 : Vec F S1x128 .f32) (x4 : Vec F S1x128 .f32) (x5 : Vec F S1x16x1x64x128 .f32) (x6 : Vec F S1x128x1024 .f32) :
    out0_A_7 c i arg2 harg2 arg3 harg3 arg4 harg4 arg5 harg5 arg6 harg6 arg7 harg7 arg8 harg8 arg9 harg9 arg10 harg10 arg11 harg11 arg12 harg12 hc0 hc1 x0 x1 x2 x3 x4 x5 x6 = View.canon (pcs x0 x1 x2 x3 x4 x5 x6 (lG k0_pay4)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  simp (disch := first | decide | (intro a; fin_cases a <;> rfl)) only [↓View.readCov_skip, View.readCov_fill]
  rfl

theorem sout0_A_0_eq (c : Dev nD) (i : grid0.Coords) (arg2 : Memref sig .tc .vmem S1x128x1536 .f32) (harg2 : arg2.IsWhole) (arg3 : Memref sig .tc .vmem S1x128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x16x1x64x128 .f32) (harg7 : arg7.IsWhole) (arg8 : Memref sig .tc .vmem S1x128x1024 .f32) (harg8 : arg8.IsWhole) (arg9 : Memref sig .tc .vmem S1x128x1536 .f32) (harg9 : arg9.IsWhole) (arg10 : Memref sig .tc .vmem S1x128x128 .f32) (harg10 : arg10.IsWhole) (arg11 : Memref sig .tc .vmem S8x128 .f32) (harg11 : arg11.IsWhole) (arg12 : Memref sig .tc .vmem S16x64x128 .f32) (harg12 : arg12.IsWhole) (hc0 : cond0_0 i) (hc1 : cond0_1 i)
    (x0 : Vec F S1x128x1536 .f32) (x1 : Vec F S1x128x128 .f32) (x2 : Vec F S1x128 .f32) (x3 : Vec F S1x128 .f32) (x4 : Vec F S1x128 .f32) (x5 : Vec F S1x16x1x64x128 .f32) (x6 : Vec F S1x128x1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 = View.canon (spcs x0 x1 x2 x3 x6 (lG k0_pay4) ++ [⟨Rect.unit ![0, 0, 0] ![16, 64, 128] inb_S16x64x128_S16x64x128_0_0_0, k0_pay4⟩]) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  simp (disch := first | decide | (intro a; fin_cases a <;> rfl)) only [↓View.readCov_skip, View.readCov_fill]
  rfl

end Cert.KernelIdeal.Pay

end
-- ==== Proof.PayB.lean ====
/- The stored pieces of a grid step of kind B are the head terms' pieces. -/
module

public import proofs.«01_k».proof.Proof.Pay

@[expose] public section

set_option maxRecDepth 20000

noncomputable section

namespace Cert.KernelIdeal.Pay

open Cert.KernelIdeal Cert.KernelIdeal.Gen Idealize.ShloMosaic Idealize.ShloMosaic.TcCoe Idealize.SL.Sem
open Cert.KernelIdeal.Head

variable {F : FTy → Type} [FloatOps F]

theorem out0_B_7_eq (c : Dev nD) (i : grid0.Coords) (arg2 : Memref sig .tc .vmem S1x128x1536 .f32) (harg2 : arg2.IsWhole) (arg3 : Memref sig .tc .vmem S1x128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x16x1x64x128 .f32) (harg7 : arg7.IsWhole) (arg8 : Memref sig .tc .vmem S1x128x1024 .f32) (harg8 : arg8.IsWhole) (arg9 : Memref sig .tc .vmem S1x128x1536 .f32) (harg9 : arg9.IsWhole) (arg10 : Memref sig .tc .vmem S1x128x128 .f32) (harg10 : arg10.IsWhole) (arg11 : Memref sig .tc .vmem S8x128 .f32) (harg11 : arg11.IsWhole) (arg12 : Memref sig .tc .vmem S16x64x128 .f32) (harg12 : arg12.IsWhole) (hc0 : ¬cond0_0 i) (hc1 : ¬cond0_1 i)
    (x0 : Vec F S1x128x1536 .f32) (x1 : Vec F S1x128x128 .f32) (x2 : Vec F S1x128 .f32) (x3 : Vec F S1x128 .f32) (x4 : Vec F S1x128 .f32) (x5 : Vec F S1x16x1x64x128 .f32) (x6 : Vec F S1x128x1024 .f32) (xo9 : Vec F S8x128 .f32) (xs0 : Vec F S16x64x128 .f32) :
    out0_B_7 c i arg2 harg2 arg3 harg3 arg4 harg4 arg5 harg5 arg6 harg6 arg7 harg7 arg8 harg8 arg9 harg9 arg10 harg10 arg11 harg11 arg12 harg12 hc0 hc1 x0 x1 x2 x3 x4 x5 x6 xo9 xs0 = View.canon (pcs x0 x1 x2 x3 x4 x5 x6 (lG xs0)) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 hc1 x0 x1 x2 x3 x4 x5 x6 xo9 xs0)]
  unfold kernelRun0_B
  dsimp only
  sl_unfold_words
  simp only [View.readAt_eq_ld, harg2.read_unread, harg3.read_unread, harg4.read_unread, harg5.read_unread, harg6.read_unread, harg7.read_unread, harg8.read_unread, harg12.read_unread]
  rfl

theorem sout0_B_0_eq (c : Dev nD) (i : grid0.Coords) (arg2 : Memref sig .tc .vmem S1x128x1536 .f32) (harg2 : arg2.IsWhole) (arg3 : Memref sig .tc .vmem S1x128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x16x1x64x128 .f32) (harg7 : arg7.IsWhole) (arg8 : Memref sig .tc .vmem S1x128x1024 .f32) (harg8 : arg8.IsWhole) (arg9 : Memref sig .tc .vmem S1x128x1536 .f32) (harg9 : arg9.IsWhole) (arg10 : Memref sig .tc .vmem S1x128x128 .f32) (harg10 : arg10.IsWhole) (arg11 : Memref sig .tc .vmem S8x128 .f32) (harg11 : arg11.IsWhole) (arg12 : Memref sig .tc .vmem S16x64x128 .f32) (harg12 : arg12.IsWhole) (hc0 : ¬cond0_0 i) (hc1 : ¬cond0_1 i)
    (x0 : Vec F S1x128x1536 .f32) (x1 : Vec F S1x128x128 .f32) (x2 : Vec F S1x128 .f32) (x3 : Vec F S1x128 .f32) (x4 : Vec F S1x128 .f32) (x5 : Vec F S1x16x1x64x128 .f32) (x6 : Vec F S1x128x1024 .f32) (xo9 : Vec F S8x128 .f32) (xs0 : Vec F S16x64x128 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xo9 xs0 = View.canon (spcs x0 x1 x2 x3 x6 (lG xs0)) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xo9 xs0)]
  unfold kernelRun0_B
  dsimp only
  sl_unfold_words
  simp only [View.readAt_eq_ld, harg2.read_unread, harg3.read_unread, harg4.read_unread, harg5.read_unread, harg6.read_unread, harg7.read_unread, harg8.read_unread, harg12.read_unread]
  rfl

end Cert.KernelIdeal.Pay

end
-- ==== Proof.PayC.lean ====
/- The stored pieces of a grid step of kind C are the head terms' pieces. -/
module

public import proofs.«01_k».proof.Proof.Pay
public import Idealize.ShloMosaic.Lib.Pipeline.ReadBack

@[expose] public section

set_option maxRecDepth 20000

noncomputable section

namespace Cert.KernelIdeal.Pay

open Cert.KernelIdeal Cert.KernelIdeal.Gen Idealize.ShloMosaic Idealize.ShloMosaic.TcCoe Idealize.SL.Sem
open Cert.KernelIdeal.Head

variable {F : FTy → Type} [FloatOps F]

theorem out0_C_7_eq (c : Dev nD) (i : grid0.Coords) (arg2 : Memref sig .tc .vmem S1x128x1536 .f32) (harg2 : arg2.IsWhole) (arg3 : Memref sig .tc .vmem S1x128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x16x1x64x128 .f32) (harg7 : arg7.IsWhole) (arg8 : Memref sig .tc .vmem S1x128x1024 .f32) (harg8 : arg8.IsWhole) (arg9 : Memref sig .tc .vmem S1x128x1536 .f32) (harg9 : arg9.IsWhole) (arg10 : Memref sig .tc .vmem S1x128x128 .f32) (harg10 : arg10.IsWhole) (arg11 : Memref sig .tc .vmem S8x128 .f32) (harg11 : arg11.IsWhole) (arg12 : Memref sig .tc .vmem S16x64x128 .f32) (harg12 : arg12.IsWhole) (hc0 : cond0_0 i) (hc1 : ¬cond0_1 i)
    (x0 : Vec F S1x128x1536 .f32) (x1 : Vec F S1x128x128 .f32) (x2 : Vec F S1x128 .f32) (x3 : Vec F S1x128 .f32) (x4 : Vec F S1x128 .f32) (x5 : Vec F S1x16x1x64x128 .f32) (x6 : Vec F S1x128x1024 .f32) (xo9 : Vec F S8x128 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xo9 = View.canon (pcs x0 x1 x2 x3 x4 x5 x6 (lG k0_pay4)) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xo9)]
  unfold kernelRun0_C
  dsimp only
  sl_unfold_words
  simp only [View.readAt_eq_ld, harg2.read_unread, harg3.read_unread, harg4.read_unread, harg5.read_unread, harg6.read_unread, harg7.read_unread, harg8.read_unread]
  simp (disch := first | decide | (intro a; fin_cases a <;> rfl)) only [↓View.readCov_skip, View.readCov_fill]
  rfl

theorem sout0_C_0_eq (c : Dev nD) (i : grid0.Coords) (arg2 : Memref sig .tc .vmem S1x128x1536 .f32) (harg2 : arg2.IsWhole) (arg3 : Memref sig .tc .vmem S1x128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x16x1x64x128 .f32) (harg7 : arg7.IsWhole) (arg8 : Memref sig .tc .vmem S1x128x1024 .f32) (harg8 : arg8.IsWhole) (arg9 : Memref sig .tc .vmem S1x128x1536 .f32) (harg9 : arg9.IsWhole) (arg10 : Memref sig .tc .vmem S1x128x128 .f32) (harg10 : arg10.IsWhole) (arg11 : Memref sig .tc .vmem S8x128 .f32) (harg11 : arg11.IsWhole) (arg12 : Memref sig .tc .vmem S16x64x128 .f32) (harg12 : arg12.IsWhole) (hc0 : cond0_0 i) (hc1 : ¬cond0_1 i)
    (x0 : Vec F S1x128x1536 .f32) (x1 : Vec F S1x128x128 .f32) (x2 : Vec F S1x128 .f32) (x3 : Vec F S1x128 .f32) (x4 : Vec F S1x128 .f32) (x5 : Vec F S1x16x1x64x128 .f32) (x6 : Vec F S1x128x1024 .f32) (xo9 : Vec F S8x128 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xo9 = View.canon (spcs x0 x1 x2 x3 x6 (lG k0_pay4) ++ [⟨Rect.unit ![0, 0, 0] ![16, 64, 128] inb_S16x64x128_S16x64x128_0_0_0, k0_pay4⟩]) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xo9)]
  unfold kernelRun0_C
  dsimp only
  sl_unfold_words
  simp only [View.readAt_eq_ld, harg2.read_unread, harg3.read_unread, harg4.read_unread, harg5.read_unread, harg6.read_unread, harg7.read_unread, harg8.read_unread]
  simp (disch := first | decide | (intro a; fin_cases a <;> rfl)) only [↓View.readCov_skip, View.readCov_fill]
  rfl

end Cert.KernelIdeal.Pay

end
-- ==== Proof.Blk.lean ====
/- One chunk: what the kernel stores of it, element by element over the extended reals. -/
module

public import proofs.«01_k».proof.Proof.Pay
public import Idealize.ShloMosaic.Lib.Pipeline.CanonAppend
public import Idealize.ShloMosaic.Lib.Pipeline.ValueKit.Tiles

@[expose] public section

set_option maxRecDepth 20000

noncomputable section

namespace Cert

open Idealize.ShloMosaic Cert.KernelIdeal.Head

/-- Head `k` of group `g`. -/
abbrev hd := KernelIdeal.Pay.hd

/-- What one chunk of one sequence is computed from. -/
structure Blk where
  X : Fin 16 → Fin 128 → Fin 64 → EReal
  B : Fin 2 → Fin 128 → Fin 128 → EReal
  C : Fin 2 → Fin 128 → Fin 128 → EReal
  Y : Fin 16 → Fin 128 → Fin 64 → EReal
  P : Fin 16 → Fin 64 → Fin 128 → EReal
  d : Fin 16 → Fin 128 → EReal
  a : Fin 16 → Fin 128 → EReal
  k : Fin 16 → EReal

/-- The group of a head. -/
def gr (h : Fin 16) : Fin 2 := ⟨h.val / 8, by have := h.isLt; omega⟩

namespace Blk

variable (W : Blk) (T : Fin 16 → Fin 64 → Fin 128 → EReal)

/-- The gradient of the inputs. -/
def oX (h : Fin 16) : Fin 128 → Fin 64 → EReal := sDX (W.B (gr h)) (W.C (gr h)) (W.Y h) (T h) (W.d h) (W.a h) (W.k h)
/-- The gradient of the products of `C` and `B`. -/
def dcb (g : Fin 2) (l s : Fin 128) : EReal :=
  ∑ k ∈ Finset.range 8, sDM (W.X (hd g k)) (W.Y (hd g k)) (W.d (hd g k)) l s * sL (W.a (hd g k)) l s
/-- The gradient of `B`. -/
def oB (g : Fin 2) (s n : Fin 128) : EReal :=
  (∑ k ∈ Finset.range 8, sB (W.X (hd g k)) (T (hd g k)) (W.d (hd g k)) (W.a (hd g k)) s n) + ∑ l : Fin 128, W.dcb g l s * W.C g l n
/-- The gradient of `C`. -/
def oC (g : Fin 2) (l n : Fin 128) : EReal :=
  (∑ k ∈ Finset.range 8, sC (W.Y (hd g k)) (W.P (hd g k)) (W.a (hd g k)) l n) + ∑ s : Fin 128, W.dcb g l s * W.B g s n
/-- The gradient of the entering states. -/
def oS (h : Fin 16) : Fin 64 → Fin 128 → EReal := sST (W.C (gr h)) (W.Y h) (T h) (W.a h)

/-- The gradient of a row of inputs, `B` and `C`, by column. -/
def out (s : Fin 128) (j : Fin 1536) : EReal :=
  if j.val < 1024 then W.oX T ⟨j.val / 64 % 16, Nat.mod_lt _ (by norm_num)⟩ s ⟨j.val % 64, Nat.mod_lt _ (by norm_num)⟩
  else if j.val < 1280 then W.oB T ⟨j.val / 128 % 2, Nat.mod_lt _ (by norm_num)⟩ s ⟨j.val % 128, Nat.mod_lt _ (by norm_num)⟩
  else W.oC ⟨j.val / 128 % 2, Nat.mod_lt _ (by norm_num)⟩ s ⟨j.val % 128, Nat.mod_lt _ (by norm_num)⟩

end Blk

namespace KernelIdeal.Pay

open Cert.KernelIdeal.Gen Idealize.ShloMosaic.TcCoe Idealize.SL.Sem

theorem lX_apply (x0 : Vec Ideal S1x128x1536 .f32) (h : Fin 16) (i : Fin 1) (s : Fin 128) (p : Fin 64) :
    lX x0 h (ix3 i s p) = x0 (ix3 0 s ⟨64 * h.val + p.val, by have := h.isLt; have := p.isLt; omega⟩) := by
  refine View.ld_unit_apply_of _ _ _ _ _ _ fun a => ?_
  fin_cases a
  · show 0 = 0 + i.val; omega
  · exact (Nat.zero_add _).symm
  · rfl

theorem lY_apply (x0 : Vec Ideal S1x128x1024 .f32) (h : Fin 16) (i : Fin 1) (s : Fin 128) (p : Fin 64) :
    lY x0 h (ix3 i s p) = x0 (ix3 0 s ⟨64 * h.val + p.val, by have := h.isLt; have := p.isLt; omega⟩) := by
  refine View.ld_unit_apply_of _ _ _ _ _ _ fun a => ?_
  fin_cases a
  · show 0 = 0 + i.val; omega
  · exact (Nat.zero_add _).symm
  · rfl

theorem lB_apply (x0 : Vec Ideal S1x128x1536 .f32) (g : Fin 2) (i : Fin 1) (s n : Fin 128) :
    lB x0 g (ix3 i s n) = x0 (ix3 0 s ⟨1024 + 128 * g.val + n.val, by have := g.isLt; have := n.isLt; omega⟩) := by
  refine View.ld_unit_apply_of _ _ _ _ _ _ fun a => ?_
  fin_cases a
  · show 0 = 0 + i.val; omega
  · exact (Nat.zero_add _).symm
  · rfl

theorem lC_apply (x0 : Vec Ideal S1x128x1536 .f32) (g : Fin 2) (i : Fin 1) (s n : Fin 128) :
    lC x0 g (ix3 i s n) = x0 (ix3 0 s ⟨1280 + 128 * g.val + n.val, by have := g.isLt; have := n.isLt; omega⟩) := by
  refine View.ld_unit_apply_of _ _ _ _ _ _ fun a => ?_
  fin_cases a
  · show 0 = 0 + i.val; omega
  · exact (Nat.zero_add _).symm
  · rfl

theorem lG_apply (gs : Vec Ideal S16x64x128 .f32) (h : Fin 16) (i : Fin 1) (p : Fin 64) (n : Fin 128) :
    lG gs h (ix3 i p n) = gs (ix3 h p n) := by
  refine View.ld_unit_apply_of _ _ _ _ _ _ fun a => ?_
  fin_cases a
  · show h.val = h.val + i.val; omega
  · exact (Nat.zero_add _).symm
  · exact (Nat.zero_add _).symm

theorem lP_apply (x5 : Vec Ideal S1x16x1x64x128 .f32) (h : Fin 16) (p : Fin 64) (n : Fin 128) :
    lP x5 h (ix5 0 0 0 p n) = x5 (ix5 0 h 0 p n) := by
  refine View.ld_unit_apply_of _ _ _ _ _ _ fun a => ?_
  fin_cases a
  · rfl
  · rfl
  · rfl
  · exact (Nat.zero_add _).symm
  · exact (Nat.zero_add _).symm

/-- A head as a column of a row of 128. -/
abbrev lane (h : Fin 16) : Fin 128 := ⟨h.val, by have := h.isLt; omega⟩

theorem lK_apply (x4 : Vec Ideal S1x128 .f32) (h : Fin 16) : lK x4 h (ix2 0 0) = x4 (ix2 0 (lane h)) := by
  refine View.ld_unit_apply_of _ _ _ _ _ _ fun a => ?_
  fin_cases a <;> rfl

theorem ld1 (x1 : Vec Ideal S1x128x128 .f32) :
    View.ld x1 (Rect.unit (s := S1x128x128) ![0, 0, 0] S1x128x128.size inb_S1x128x128_S1x128x128_0_0_0) = x1 := by
  funext x
  refine View.ld_unit_apply_of _ _ _ _ _ _ fun a => ?_
  fin_cases a <;> exact (Nat.zero_add _).symm

theorem ld2 (x1 : Vec Ideal S1x128 .f32) :
    View.ld x1 (Rect.unit (s := S1x128) ![0, 0] S1x128.size inb_S1x128_S1x128_0_0) = x1 := by
  funext x
  refine View.ld_unit_apply_of _ _ _ _ _ _ fun a => ?_
  fin_cases a <;> exact (Nat.zero_add _).symm

/-- The step sizes of a chunk, from the raw ones and the bias. -/
def dtS (x1 : Vec Ideal S1x128x128 .f32) (x2 : Vec Ideal S1x128 .f32) (h : Fin 16) (l : Fin 128) : EReal :=
  Num.softplus (x1 (ix3 0 l (lane h)) + x2 (ix2 0 (lane h)))

/-- The running sums of the decay exponents. -/
def acS (x1 : Vec Ideal S1x128x128 .f32) (x2 x3 : Vec Ideal S1x128 .f32) (h : Fin 16) : Fin 128 → EReal :=
  Num.cs fun s => dtS x1 x2 h s * -(Ideal.exp (x3 (ix2 0 (lane h))))

variable (x0 : Vec Ideal S1x128x1536 .f32) (x1 : Vec Ideal S1x128x128 .f32) (x2 x3 x4 : Vec Ideal S1x128 .f32)
  (x5 : Vec Ideal S1x16x1x64x128 .f32) (x6 : Vec Ideal S1x128x1024 .f32) (gh : Fin 16 → Vec Ideal S1x64x128 .f32)

/-- A chunk's blocks, by head and group. -/
def blk : Blk where
  X h s p := x0 (ix3 0 s ⟨64 * h.val + p.val, by have := h.isLt; have := p.isLt; omega⟩)
  B g s n := x0 (ix3 0 s ⟨1024 + 128 * g.val + n.val, by have := g.isLt; have := n.isLt; omega⟩)
  C g s n := x0 (ix3 0 s ⟨1280 + 128 * g.val + n.val, by have := g.isLt; have := n.isLt; omega⟩)
  Y h s p := x6 (ix3 0 s ⟨64 * h.val + p.val, by have := h.isLt; have := p.isLt; omega⟩)
  P h p n := x5 (ix5 0 h 0 p n)
  d := dtS x1 x2
  a := acS x1 x2 x3
  k h := x4 (ix2 0 (lane h))

theorem cdt_apply (h : Fin 16) (l : Fin 128) : cdt x1 x2 h (ix2 l 0) = dtS x1 x2 h l := by
  unfold cdt DT dtS
  rw [col_apply _ _ _ (lane h).isLt, ld1, ld2, dtM_apply]

theorem AC_apply (h : Fin 16) (l : Fin 128) : AC x1 x2 x3 (ix2 l (lane h)) = acS x1 x2 x3 h l := by
  unfold AC DT acS dtS
  rw [ld1, ld2, ld2, acsM_apply _ _ _ _ (fun s => by rw [dtM_apply]; exact Num.step_ne_top _ _)]
  simp only [dtM_apply]

theorem cac_apply (h : Fin 16) (l : Fin 128) : cac x1 x2 x3 h (ix2 l 0) = acS x1 x2 x3 h l := by
  unfold cac
  rw [col_apply _ _ _ (lane h).isLt, AC_apply]

theorem rac_apply (h : Fin 16) (s : Fin 128) : rac x1 x2 x3 h (ix2 0 s) = acS x1 x2 x3 h s := by
  unfold rac AT
  rw [rowT_apply _ _ _ (lane h).isLt, acsT_apply]
  exact AC_apply x1 x2 x3 h s

theorem pX_apply (h : Fin 16) (i : Fin 1) (s : Fin 128) (p : Fin 64) :
    pX x0 x1 x2 x3 x4 x6 gh (gr h) h (ix3 i s p) = (blk x0 x1 x2 x3 x4 x5 x6).oX (fun h p n => gh h (ix3 0 p n)) h s p := by
  unfold pX
  rw [dx_apply _ _ _ _ _ _ _ _ (dtS x1 x2 h) (acS x1 x2 x3 h) (cdt_apply x1 x2 h) (cac_apply x1 x2 x3 h) (rac_apply x1 x2 x3 h), lK_apply]
  simp only [lB_apply, lC_apply, lY_apply]
  rfl

theorem pS_apply (h : Fin 16) (i : Fin 1) (p : Fin 64) (n : Fin 128) :
    pS x0 x1 x2 x3 x6 gh (gr h) h (ix3 i p n) = (blk x0 x1 x2 x3 x4 x5 x6).oS (fun h p n => gh h (ix3 0 p n)) h p n := by
  unfold pS
  rw [st_apply _ _ _ _ (acS x1 x2 x3 h) (cac_apply x1 x2 x3 h)]
  simp only [lC_apply, lY_apply]
  rfl

theorem fCB_apply (g : Fin 2) (k : ℕ) (l s : Fin 128) :
    fCB x0 x1 x2 x3 x6 g k (ix2 l s) = ∑ k ∈ Finset.range k, sDM ((blk x0 x1 x2 x3 x4 x5 x6).X (hd g k)) ((blk x0 x1 x2 x3 x4 x5 x6).Y (hd g k))
      (dtS x1 x2 (hd g k)) l s * sL (acS x1 x2 x3 (hd g k)) l s := by
  induction k with
  | zero => exact z0_apply l s
  | succ k ih =>
    rw [Finset.sum_range_succ, ← ih]
    refine (aCB_apply (fCB x0 x1 x2 x3 x6 g k) _ _ _ _ _ (dtS x1 x2 (hd g k)) (acS x1 x2 x3 (hd g k)) (cdt_apply x1 x2 _) (cac_apply x1 x2 x3 _)
      (rac_apply x1 x2 x3 _) l s).trans ?_
    simp only [lX_apply, lY_apply]
    rfl

theorem fC_apply (g : Fin 2) (k : ℕ) (l n : Fin 128) :
    fC x1 x2 x3 x5 x6 g k (ix2 l n) = ∑ k ∈ Finset.range k, sC ((blk x0 x1 x2 x3 x4 x5 x6).Y (hd g k)) ((blk x0 x1 x2 x3 x4 x5 x6).P (hd g k))
      (acS x1 x2 x3 (hd g k)) l n := by
  induction k with
  | zero => exact z0_apply l n
  | succ k ih =>
    rw [Finset.sum_range_succ, ← ih]
    refine (aC_apply (fC x1 x2 x3 x5 x6 g k) _ _ _ (acS x1 x2 x3 (hd g k)) (cac_apply x1 x2 x3 _) l n).trans ?_
    simp only [lY_apply, lP_apply]
    rfl

theorem fB_apply (g : Fin 2) (k : ℕ) (s n : Fin 128) :
    fB x0 x1 x2 x3 gh g k (ix2 s n) = ∑ k ∈ Finset.range k, sB ((blk x0 x1 x2 x3 x4 x5 x6).X (hd g k)) (fun p n => gh (hd g k) (ix3 0 p n))
      (dtS x1 x2 (hd g k)) (acS x1 x2 x3 (hd g k)) s n := by
  induction k with
  | zero => exact z0_apply s n
  | succ k ih =>
    rw [Finset.sum_range_succ, ← ih]
    refine (aB_apply (fB x0 x1 x2 x3 gh g k) _ _ _ _ (dtS x1 x2 (hd g k)) (acS x1 x2 x3 (hd g k)) (cdt_apply x1 x2 _) (cac_apply x1 x2 x3 _) s n).trans ?_
    simp only [lX_apply]
    rfl

theorem pB_apply (g : Fin 2) (i : Fin 1) (s n : Fin 128) :
    pB x0 x1 x2 x3 x6 gh g (ix3 i s n) = (blk x0 x1 x2 x3 x4 x5 x6).oB (fun h p n => gh h (ix3 0 p n)) g s n := by
  unfold pB
  rw [oB_apply, fB_apply x0 x1 x2 x3 x4 x5 x6]
  simp only [fCB_apply x0 x1 x2 x3 x4 x5 x6, lC_apply]
  rfl

theorem pC_apply (g : Fin 2) (i : Fin 1) (s n : Fin 128) :
    pC x0 x1 x2 x3 x5 x6 g (ix3 i s n) = (blk x0 x1 x2 x3 x4 x5 x6).oC g s n := by
  unfold pC
  rw [oC_apply, fC_apply x0 x1 x2 x3 x4 x5 x6]
  simp only [fCB_apply x0 x1 x2 x3 x4 x5 x6, lB_apply]
  rfl

/-- The block the chunk's stores leave. -/
def GO (W : Blk) (T : Fin 16 → Fin 64 → Fin 128 → EReal) (y : S1x128x1536.Idx) : EReal := W.out T (y 1) (y 2)

theorem GO_X (W : Blk) (T) (h : Fin 16) (x : S1x128x64.Idx) : GO W T ((rX h).emb x) = W.oX T h (x 1) (x 2) := by
  have hp : (x 2).val < 64 := (x 2).isLt
  have hh := h.isLt
  have e : ((rX h).emb x 2).val = 64 * h.val + (x 2).val := by
    show 64 * h.val + 1 * (x 2).val = _; omega
  have e1 : (rX h).emb x 1 = x 1 := Fin.ext (by show 0 + 1 * (x 1).val = _; omega)
  unfold GO Blk.out
  rw [if_pos (by rw [e]; omega), e1]
  exact congrArg₂ (fun a b => W.oX T a (x 1) b) (Fin.ext (by show ((rX h).emb x 2).val / 64 % 16 = _; rw [e]; omega))
    (Fin.ext (by show ((rX h).emb x 2).val % 64 = _; rw [e]; omega))

theorem GO_B (W : Blk) (T) (g : Fin 2) (x : S1x128x128.Idx) : GO W T ((rB g).emb x) = W.oB T g (x 1) (x 2) := by
  have hp : (x 2).val < 128 := (x 2).isLt
  have hh := g.isLt
  have e : ((rB g).emb x 2).val = 1024 + 128 * g.val + (x 2).val := by
    show 1024 + 128 * g.val + 1 * (x 2).val = _; omega
  have e1 : (rB g).emb x 1 = x 1 := Fin.ext (by show 0 + 1 * (x 1).val = _; omega)
  unfold GO Blk.out
  rw [if_neg (by rw [e]; omega), if_pos (by rw [e]; omega), e1]
  exact congrArg₂ (fun a b => W.oB T a (x 1) b) (Fin.ext (by show ((rB g).emb x 2).val / 128 % 2 = _; rw [e]; omega))
    (Fin.ext (by show ((rB g).emb x 2).val % 128 = _; rw [e]; omega))

theorem GO_C (W : Blk) (T) (g : Fin 2) (x : S1x128x128.Idx) : GO W T ((rC g).emb x) = W.oC g (x 1) (x 2) := by
  have hp : (x 2).val < 128 := (x 2).isLt
  have hh := g.isLt
  have e : ((rC g).emb x 2).val = 1280 + 128 * g.val + (x 2).val := by
    show 1280 + 128 * g.val + 1 * (x 2).val = _; omega
  have e1 : (rC g).emb x 1 = x 1 := Fin.ext (by show 0 + 1 * (x 1).val = _; omega)
  unfold GO Blk.out
  rw [if_neg (by rw [e]; omega), if_neg (by rw [e]; omega), e1]
  exact congrArg₂ (fun a b => W.oC a (x 1) b) (Fin.ext (by show ((rC g).emb x 2).val / 128 % 2 = _; rw [e]; omega))
    (Fin.ext (by show ((rC g).emb x 2).val % 128 = _; rw [e]; omega))

theorem GO_pX (g : Fin 2) (h : Fin 16) (hg : gr h = g) (x : S1x128x64.Idx) :
    pX x0 x1 x2 x3 x4 x6 gh g h x = GO (blk x0 x1 x2 x3 x4 x5 x6) (fun h p n => gh h (ix3 0 p n)) ((rX h).emb x) := by
  subst hg
  rw [GO_X, eq_ix3 x]; exact pX_apply x0 x1 x2 x3 x4 x5 x6 gh h _ _ _

theorem GO_pB (g : Fin 2) (x : S1x128x128.Idx) :
    pB x0 x1 x2 x3 x6 gh g x = GO (blk x0 x1 x2 x3 x4 x5 x6) (fun h p n => gh h (ix3 0 p n)) ((rB g).emb x) := by
  rw [GO_B, eq_ix3 x]; exact pB_apply x0 x1 x2 x3 x4 x5 x6 gh g _ _ _

theorem GO_pC (g : Fin 2) (x : S1x128x128.Idx) :
    pC x0 x1 x2 x3 x5 x6 g x = GO (blk x0 x1 x2 x3 x4 x5 x6) (fun h p n => gh h (ix3 0 p n)) ((rC g).emb x) := by
  rw [GO_C, eq_ix3 x]; exact pC_apply x0 x1 x2 x3 x4 x5 x6 g _ _ _

theorem mem_rX (y : S1x128x1536.Idx) (h : Fin 16) (h1 : 64 * h.val ≤ (y 2).val) (h2 : (y 2).val < 64 * h.val + 64) : y ∈ (rX h).set := by
  have h0 : (y 0).val < 1 := (y 0).isLt
  have e : (rX h).emb (ix3 (y 0) (y 1) ⟨(y 2).val - 64 * h.val, by omega⟩) = y := by
    funext a; refine Fin.ext ?_; fin_cases a
    · show 0 + 1 * (y 0).val = (y 0).val; omega
    · show 0 + 1 * (y 1).val = (y 1).val; omega
    · show 64 * h.val + 1 * ((y 2).val - 64 * h.val) = (y 2).val; omega
  rw [← e]; exact (rX h).idx_mem _

theorem mem_rB (y : S1x128x1536.Idx) (g : Fin 2) (h1 : 1024 + 128 * g.val ≤ (y 2).val) (h2 : (y 2).val < 1024 + 128 * g.val + 128) : y ∈ (rB g).set := by
  have e : (rB g).emb (ix3 (y 0) (y 1) ⟨(y 2).val - (1024 + 128 * g.val), by omega⟩) = y := by
    funext a; refine Fin.ext ?_; fin_cases a
    · show 0 + 1 * (y 0).val = (y 0).val; omega
    · show 0 + 1 * (y 1).val = (y 1).val; omega
    · show 1024 + 128 * g.val + 1 * ((y 2).val - (1024 + 128 * g.val)) = (y 2).val; omega
  rw [← e]; exact (rB g).idx_mem _

theorem mem_rC (y : S1x128x1536.Idx) (g : Fin 2) (h1 : 1280 + 128 * g.val ≤ (y 2).val) (h2 : (y 2).val < 1280 + 128 * g.val + 128) : y ∈ (rC g).set := by
  have e : (rC g).emb (ix3 (y 0) (y 1) ⟨(y 2).val - (1280 + 128 * g.val), by omega⟩) = y := by
    funext a; refine Fin.ext ?_; fin_cases a
    · show 0 + 1 * (y 0).val = (y 0).val; omega
    · show 0 + 1 * (y 1).val = (y 1).val; omega
    · show 1280 + 128 * g.val + 1 * ((y 2).val - (1280 + 128 * g.val)) = (y 2).val; omega
  rw [← e]; exact (rC g).idx_mem _

theorem mem_rG (y : S16x64x128.Idx) : y ∈ (rG (y 0)).set := by
  have e : (rG (y 0)).emb (ix3 0 (y 1) (y 2)) = y := by
    funext a; refine Fin.ext ?_; fin_cases a
    · show (y 0).val + 1 * 0 = (y 0).val; omega
    · show 0 + 1 * (y 1).val = (y 1).val; omega
    · show 0 + 1 * (y 2).val = (y 2).val; omega
  rw [← e]; exact (rG _).idx_mem _

/-- The stored pieces of the gradient block. -/
theorem canon_pcs (y : S1x128x1536.Idx) :
    View.canon (pcs x0 x1 x2 x3 x4 x5 x6 gh) y = GO (blk x0 x1 x2 x3 x4 x5 x6) (fun h p n => gh h (ix3 0 p n)) y := by
  refine View.canon_apply_of_pieces _ _ ?_ _ ?_
  · unfold pcs
    simp only [List.forall_mem_cons]
    refine ⟨fun x => GO_pB x0 x1 x2 x3 x4 x5 x6 gh ⟨1, by decide⟩ x, fun x => GO_pC x0 x1 x2 x3 x4 x5 x6 gh ⟨1, by decide⟩ x,
      fun x => GO_pX x0 x1 x2 x3 x4 x5 x6 gh ⟨1, by decide⟩ ⟨15, by decide⟩ rfl x, fun x => GO_pX x0 x1 x2 x3 x4 x5 x6 gh ⟨1, by decide⟩ ⟨14, by decide⟩ rfl x, fun x => GO_pX x0 x1 x2 x3 x4 x5 x6 gh ⟨1, by decide⟩ ⟨13, by decide⟩ rfl x,
      fun x => GO_pX x0 x1 x2 x3 x4 x5 x6 gh ⟨1, by decide⟩ ⟨12, by decide⟩ rfl x, fun x => GO_pX x0 x1 x2 x3 x4 x5 x6 gh ⟨1, by decide⟩ ⟨11, by decide⟩ rfl x, fun x => GO_pX x0 x1 x2 x3 x4 x5 x6 gh ⟨1, by decide⟩ ⟨10, by decide⟩ rfl x,
      fun x => GO_pX x0 x1 x2 x3 x4 x5 x6 gh ⟨1, by decide⟩ ⟨9, by decide⟩ rfl x, fun x => GO_pX x0 x1 x2 x3 x4 x5 x6 gh ⟨1, by decide⟩ ⟨8, by decide⟩ rfl x,
      fun x => GO_pB x0 x1 x2 x3 x4 x5 x6 gh ⟨0, by decide⟩ x, fun x => GO_pC x0 x1 x2 x3 x4 x5 x6 gh ⟨0, by decide⟩ x,
      fun x => GO_pX x0 x1 x2 x3 x4 x5 x6 gh ⟨0, by decide⟩ ⟨7, by decide⟩ rfl x, fun x => GO_pX x0 x1 x2 x3 x4 x5 x6 gh ⟨0, by decide⟩ ⟨6, by decide⟩ rfl x, fun x => GO_pX x0 x1 x2 x3 x4 x5 x6 gh ⟨0, by decide⟩ ⟨5, by decide⟩ rfl x,
      fun x => GO_pX x0 x1 x2 x3 x4 x5 x6 gh ⟨0, by decide⟩ ⟨4, by decide⟩ rfl x, fun x => GO_pX x0 x1 x2 x3 x4 x5 x6 gh ⟨0, by decide⟩ ⟨3, by decide⟩ rfl x, fun x => GO_pX x0 x1 x2 x3 x4 x5 x6 gh ⟨0, by decide⟩ ⟨2, by decide⟩ rfl x,
      fun x => GO_pX x0 x1 x2 x3 x4 x5 x6 gh ⟨0, by decide⟩ ⟨1, by decide⟩ rfl x, fun x => GO_pX x0 x1 x2 x3 x4 x5 x6 gh ⟨0, by decide⟩ ⟨0, by decide⟩ rfl x, ?_⟩
    exact fun p hp => absurd hp List.not_mem_nil
  · have hy : (y 2).val < 1536 := (y 2).isLt
    unfold pcs
    simp only [List.exists_mem_cons_iff]
    by_cases h0 : (y 2).val < 1024
    · obtain ⟨h, e1, e2⟩ : ∃ h : Fin 16, 64 * h.val ≤ (y 2).val ∧ (y 2).val < 64 * h.val + 64 :=
        ⟨⟨(y 2).val / 64, by omega⟩, by show 64 * ((y 2).val / 64) ≤ _; omega, by show _ < 64 * ((y 2).val / 64) + 64; omega⟩
      have := mem_rX y h e1 e2
      fin_cases h
      · exact .inr (.inr (.inr (.inr (.inr (.inr (.inr (.inr (.inr (.inr (.inr (.inr (.inr (.inr (.inr (.inr (.inr (.inr (.inr (.inl this)))))))))))))))))))
      · exact .inr (.inr (.inr (.inr (.inr (.inr (.inr (.inr (.inr (.inr (.inr (.inr (.inr (.inr (.inr (.inr (.inr (.inr (.inl this))))))))))))))))))
      · exact .inr (.inr (.inr (.inr (.inr (.inr (.inr (.inr (.inr (.inr (.inr (.inr (.inr (.inr (.inr (.inr (.inr (.inl this)))))))))))))))))
      · exact .inr (.inr (.inr (.inr (.inr (.inr (.inr (.inr (.inr (.inr (.inr (.inr (.inr (.inr (.inr (.inr (.inl this))))))))))))))))
      · exact .inr (.inr (.inr (.inr (.inr (.inr (.inr (.inr (.inr (.inr (.inr (.inr (.inr (.inr (.inr (.inl this)))))))))))))))
      · exact .inr (.inr (.inr (.inr (.inr (.inr (.inr (.inr (.inr (.inr (.inr (.inr (.inr (.inr (.inl this))))))))))))))
      · exact .inr (.inr (.inr (.inr (.inr (.inr (.inr (.inr (.inr (.inr (.inr (.inr (.inr (.inl this)))))))))))))
      · exact .inr (.inr (.inr (.inr (.inr (.inr (.inr (.inr (.inr (.inr (.inr (.inr (.inl this))))))))))))
      · exact .inr (.inr (.inr (.inr (.inr (.inr (.inr (.inr (.inr (.inl this)))))))))
      · exact .inr (.inr (.inr (.inr (.inr (.inr (.inr (.inr (.inl this))))))))
      · exact .inr (.inr (.inr (.inr (.inr (.inr (.inr (.inl this)))))))
      · exact .inr (.inr (.inr (.inr (.inr (.inr (.inl this))))))
      · exact .inr (.inr (.inr (.inr (.inr (.inl this)))))
      · exact .inr (.inr (.inr (.inr (.inl this))))
      · exact .inr (.inr (.inr (.inl this)))
      · exact .inr (.inr (.inl this))
    · by_cases h1 : (y 2).val < 1280
      · obtain ⟨g, e1, e2⟩ : ∃ g : Fin 2, 1024 + 128 * g.val ≤ (y 2).val ∧ (y 2).val < 1024 + 128 * g.val + 128 :=
          ⟨⟨((y 2).val - 1024) / 128, by omega⟩, by show 1024 + 128 * (((y 2).val - 1024) / 128) ≤ _; omega, by show _ < 1024 + 128 * (((y 2).val - 1024) / 128) + 128; omega⟩
        have := mem_rB y g e1 e2
        fin_cases g
        · exact .inr (.inr (.inr (.inr (.inr (.inr (.inr (.inr (.inr (.inr (.inl this))))))))))
        · exact .inl this
      · obtain ⟨g, e1, e2⟩ : ∃ g : Fin 2, 1280 + 128 * g.val ≤ (y 2).val ∧ (y 2).val < 1280 + 128 * g.val + 128 :=
          ⟨⟨((y 2).val - 1280) / 128, by omega⟩, by show 1280 + 128 * (((y 2).val - 1280) / 128) ≤ _; omega, by show _ < 1280 + 128 * (((y 2).val - 1280) / 128) + 128; omega⟩
        have := mem_rC y g e1 e2
        fin_cases g
        · exact .inr (.inr (.inr (.inr (.inr (.inr (.inr (.inr (.inr (.inr (.inr (.inl this)))))))))))
        · exact .inr (.inl this)

/-- The state gradients the chunk's stores leave. -/
def GS (W : Blk) (T : Fin 16 → Fin 64 → Fin 128 → EReal) (y : S16x64x128.Idx) : EReal := W.oS T (y 0) (y 1) (y 2)

theorem GS_pS (g : Fin 2) (h : Fin 16) (hg : gr h = g) (x : S1x64x128.Idx) :
    pS x0 x1 x2 x3 x6 gh g h x = GS (blk x0 x1 x2 x3 x4 x5 x6) (fun h p n => gh h (ix3 0 p n)) ((rG h).emb x) := by
  subst hg
  have hx : (x 0).val < 1 := (x 0).isLt
  have e0 : (rG h).emb x 0 = h := Fin.ext (by show h.val + 1 * (x 0).val = _; omega)
  have e1 : (rG h).emb x 1 = x 1 := Fin.ext (by show 0 + 1 * (x 1).val = _; omega)
  have e2 : (rG h).emb x 2 = x 2 := Fin.ext (by show 0 + 1 * (x 2).val = _; omega)
  unfold GS
  rw [e0, e1, e2, eq_ix3 x]; exact pS_apply x0 x1 x2 x3 x4 x5 x6 gh h _ _ _

theorem pcs_spcs (L : List (View.Piece (Elt Ideal) S16x64x128 .f32)) (y : S16x64x128.Idx) :
    View.canon (spcs x0 x1 x2 x3 x6 gh ++ L) y = GS (blk x0 x1 x2 x3 x4 x5 x6) (fun h p n => gh h (ix3 0 p n)) y := by
  refine View.canon_append_of_pieces _ _ _ ?_ _ ?_
  · unfold spcs
    simp only [List.forall_mem_cons]
    refine ⟨fun x => GS_pS x0 x1 x2 x3 x4 x5 x6 gh ⟨1, by decide⟩ ⟨15, by decide⟩ rfl x, fun x => GS_pS x0 x1 x2 x3 x4 x5 x6 gh ⟨1, by decide⟩ ⟨14, by decide⟩ rfl x, fun x => GS_pS x0 x1 x2 x3 x4 x5 x6 gh ⟨1, by decide⟩ ⟨13, by decide⟩ rfl x,
      fun x => GS_pS x0 x1 x2 x3 x4 x5 x6 gh ⟨1, by decide⟩ ⟨12, by decide⟩ rfl x, fun x => GS_pS x0 x1 x2 x3 x4 x5 x6 gh ⟨1, by decide⟩ ⟨11, by decide⟩ rfl x, fun x => GS_pS x0 x1 x2 x3 x4 x5 x6 gh ⟨1, by decide⟩ ⟨10, by decide⟩ rfl x,
      fun x => GS_pS x0 x1 x2 x3 x4 x5 x6 gh ⟨1, by decide⟩ ⟨9, by decide⟩ rfl x, fun x => GS_pS x0 x1 x2 x3 x4 x5 x6 gh ⟨1, by decide⟩ ⟨8, by decide⟩ rfl x,
      fun x => GS_pS x0 x1 x2 x3 x4 x5 x6 gh ⟨0, by decide⟩ ⟨7, by decide⟩ rfl x, fun x => GS_pS x0 x1 x2 x3 x4 x5 x6 gh ⟨0, by decide⟩ ⟨6, by decide⟩ rfl x, fun x => GS_pS x0 x1 x2 x3 x4 x5 x6 gh ⟨0, by decide⟩ ⟨5, by decide⟩ rfl x,
      fun x => GS_pS x0 x1 x2 x3 x4 x5 x6 gh ⟨0, by decide⟩ ⟨4, by decide⟩ rfl x, fun x => GS_pS x0 x1 x2 x3 x4 x5 x6 gh ⟨0, by decide⟩ ⟨3, by decide⟩ rfl x, fun x => GS_pS x0 x1 x2 x3 x4 x5 x6 gh ⟨0, by decide⟩ ⟨2, by decide⟩ rfl x,
      fun x => GS_pS x0 x1 x2 x3 x4 x5 x6 gh ⟨0, by decide⟩ ⟨1, by decide⟩ rfl x, fun x => GS_pS x0 x1 x2 x3 x4 x5 x6 gh ⟨0, by decide⟩ ⟨0, by decide⟩ rfl x, ?_⟩
    exact fun p hp => absurd hp List.not_mem_nil
  · have := mem_rG y
    unfold spcs
    simp only [List.exists_mem_cons_iff]
    generalize y 0 = h at this
    fin_cases h
    · exact .inr (.inr (.inr (.inr (.inr (.inr (.inr (.inr (.inr (.inr (.inr (.inr (.inr (.inr (.inr (.inl this)))))))))))))))
    · exact .inr (.inr (.inr (.inr (.inr (.inr (.inr (.inr (.inr (.inr (.inr (.inr (.inr (.inr (.inl this))))))))))))))
    · exact .inr (.inr (.inr (.inr (.inr (.inr (.inr (.inr (.inr (.inr (.inr (.inr (.inr (.inl this)))))))))))))
    · exact .inr (.inr (.inr (.inr (.inr (.inr (.inr (.inr (.inr (.inr (.inr (.inr (.inl this))))))))))))
    · exact .inr (.inr (.inr (.inr (.inr (.inr (.inr (.inr (.inr (.inr (.inr (.inl this)))))))))))
    · exact .inr (.inr (.inr (.inr (.inr (.inr (.inr (.inr (.inr (.inr (.inl this))))))))))
    · exact .inr (.inr (.inr (.inr (.inr (.inr (.inr (.inr (.inr (.inl this)))))))))
    · exact .inr (.inr (.inr (.inr (.inr (.inr (.inr (.inr (.inl this))))))))
    · exact .inr (.inr (.inr (.inr (.inr (.inr (.inr (.inl this)))))))
    · exact .inr (.inr (.inr (.inr (.inr (.inr (.inl this))))))
    · exact .inr (.inr (.inr (.inr (.inr (.inl this)))))
    · exact .inr (.inr (.inr (.inr (.inl this))))
    · exact .inr (.inr (.inr (.inl this)))
    · exact .inr (.inr (.inl this))
    · exact .inr (.inl this)
    · exact .inl this

end KernelIdeal.Pay

end Cert

end
-- ==== Proof.Fold.lean ====
/- What each grid step leaves in the result block and in the carried state, as a recursion over the steps of one
   sequence: the state is reset at the last chunk and handed from each chunk to the one before it. -/
module

public import proofs.«01_k».proof.Proof.PayA
public import proofs.«01_k».proof.Proof.PayB
public import proofs.«01_k».proof.Proof.PayC
public import proofs.«01_k».proof.Proof.Blk
public import proofs.«01_k».proof.Proof.Gen.KernelIdeal.Value
public import Idealize.ShloMosaic.Lib.Pointwise

@[expose] public section

set_option maxRecDepth 20000

noncomputable section

namespace Cert.KernelIdeal.Fold

open Cert Cert.KernelIdeal Cert.KernelIdeal.Gen Cert.KernelIdeal.Pay Idealize.ShloMosaic Idealize.ShloMosaic.TcCoe Idealize.SL.Sem
open Cert.KernelIdeal.Head

theorem pay4_zero (h : Fin 16) (p : Fin 64) (n : Fin 128) : (k0_pay4 (F := Ideal)) (ix3 h p n) = 0 := by
  unfold k0_pay4
  pointwise

variable (m : (ℓ : Loc nD τ sig) → Buf (Elt Ideal) ℓ)

/-- The data of grid step `t`. -/
def Wn (c : Dev nD) (t : Fin cfg0.N) : Blk :=
  blk (iblk m c 0 t) (iblk m c 1 t) (iblk m c 2 t) (iblk m c 3 t) (iblk m c 4 t) (iblk m c 5 t) (iblk m c 6 t)

/-- The state before grid step `n`. -/
def st (c : Dev nD) : ℕ → Fin 16 → Fin 64 → Fin 128 → EReal
  | 0 => fun _ _ _ => 0
  | n + 1 => if h : ¬ (n + 1) % 16 = 0 ∧ n < cfg0.N then (Wn m c ⟨n, h.2⟩).oS (st c n) else fun _ _ _ => 0

theorem st_reset (c : Dev nD) (n : ℕ) (h : n % 16 = 0) : st m c n = fun _ _ _ => 0 := by
  cases n with
  | zero => rfl
  | succ n => exact dif_neg (fun e => e.1 h)

theorem st_succ (c : Dev nD) (n : ℕ) (h : ¬ (n + 1) % 16 = 0) (hn : n < cfg0.N) :
    st m c (n + 1) = (Wn m c ⟨n, hn⟩).oS (st m c n) := dif_pos ⟨h, hn⟩

theorem lG0 (z : Vec Ideal S16x64x128 .f32) (hz : ∀ h p n, z (ix3 h p n) = 0) :
    (fun (h : Fin 16) (p : Fin 64) (n : Fin 128) => lG z h (ix3 0 p n)) = fun _ _ _ => 0 := by
  funext h p n
  rw [lG_apply, hz]

/-- After step `t` the result block and the state are the specified functions of the step's data and of the state before. -/
theorem outs (c : Dev nD) (n : ℕ) (hn : n < cfg0.N) :
    (∀ y, (outsAt0 m c n hn).1 y = GO (Wn m c ⟨n, hn⟩) (st m c n) y) ∧
      (∀ y, (outsAt0 m c n hn).2.2.2 y = GS (Wn m c ⟨n, hn⟩) (st m c n) y) := by
  induction n with
  | zero =>
    have hs := st_reset m c 0 rfl
    rw [outsAt0_A m c ⟨0, hn⟩ rfl rfl]
    dsimp only
    rw [out0_A_7_eq, sout0_A_0_eq, hs]
    constructor <;> intro y
    · rw [canon_pcs, lG0 _ pay4_zero]; rfl
    · rw [pcs_spcs _ _ _ _ (iblk m c 4 ⟨0, hn⟩) (iblk m c 5 ⟨0, hn⟩), lG0 _ pay4_zero]; rfl
  | succ n ih =>
    have ihn := (ih (Nat.lt_of_succ_lt hn)).2
    by_cases h0 : (n + 1) % 16 = 0
    · have hs := st_reset m c (n + 1) h0
      by_cases h1 : (n + 1) % 64 = 0
      · rw [outsAt0_A m c ⟨n + 1, hn⟩ h0 h1]
        dsimp only
        rw [out0_A_7_eq, sout0_A_0_eq, hs]
        constructor <;> intro y
        · rw [canon_pcs, lG0 _ pay4_zero]; rfl
        · rw [pcs_spcs _ _ _ _ (iblk m c 4 ⟨n + 1, hn⟩) (iblk m c 5 ⟨n + 1, hn⟩), lG0 _ pay4_zero]; rfl
      · rw [outsAt0_C m c ⟨n + 1, hn⟩ h0 h1]
        dsimp only
        rw [out0_C_7_eq, sout0_C_0_eq, hs]
        constructor <;> intro y
        · rw [canon_pcs, lG0 _ pay4_zero]; rfl
        · rw [pcs_spcs _ _ _ _ (iblk m c 4 ⟨n + 1, hn⟩) (iblk m c 5 ⟨n + 1, hn⟩), lG0 _ pay4_zero]; rfl
    · have h1 : ¬ (n + 1) % 64 = 0 := by omega
      have hs := st_succ m c n h0 (Nat.lt_of_succ_lt hn)
      have e : (fun (h : Fin 16) (p : Fin 64) (k : Fin 128) => lG (outsAt0 m c n (Nat.lt_of_succ_lt hn)).2.2.2 h (ix3 0 p k)) =
          st m c (n + 1) := by
        funext h p k
        rw [lG_apply, ihn, hs]; rfl
      rw [outsAt0_B m c ⟨n + 1, hn⟩ h0 h1]
      dsimp only
      rw [out0_B_7_eq, sout0_B_0_eq]
      constructor <;> intro y
      · rw [canon_pcs, ← e]; rfl
      · have := pcs_spcs (iblk m c 0 ⟨n + 1, hn⟩) (iblk m c 1 ⟨n + 1, hn⟩) (iblk m c 2 ⟨n + 1, hn⟩) (iblk m c 3 ⟨n + 1, hn⟩)
          (iblk m c 4 ⟨n + 1, hn⟩) (iblk m c 5 ⟨n + 1, hn⟩) (iblk m c 6 ⟨n + 1, hn⟩)
          (lG (outsAt0 m c n (Nat.lt_of_succ_lt hn)).2.2.2) [] y
        rw [List.append_nil] at this
        rw [← e]
        exact this

end Cert.KernelIdeal.Fold

end
-- ==== Proof.Host.lean ====
/- The kernel's host preparation read stage by stage: the padded lane vectors, and the states saved before each chunk,
   which are the values the reference computes for the same quantities. -/
module

public import proofs.«01_k».proof.Proof.Gen.KernelIdeal.Value
public import proofs.«01_k».proof.Proof.Gen.ReferenceIdeal.Read
public import Idealize.ShloMosaic.Lib.StableHlo.Run
public import Idealize.ShloMosaic.Lib.Pipeline.Frame

@[expose] public section

set_option Elab.async false

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- A vector of 16 lanes written into the first lanes of a row of 128, zero behind. -/
def lanePad (v : (⟨S16, .f32⟩ : BufTy).Contents (Elt F)) : (⟨S1x128, .f32⟩ : BufTy).Contents (Elt F) :=
  pad S1x128 ![0, 0] ![0, 112] ![0, 0] (shapeCast S1x16 v shapeCasts_S16_S1x16 : (⟨S1x16, .f32⟩ : BufTy).Contents (Elt F)) (sitofp .f32 (constantI S_ 32 0#32)) pads_S1x16_S1x128_000_01120 h_S_

/-- Argument 0. -/
def a0 (V0 : Valuation τ sig (Elt F)) : (⟨S4x2048x1536, .f32⟩ : BufTy).Contents (Elt F) := V0 (Proc.devRef .tc main_arg0)
/-- Argument 1. -/
def a1 (V0 : Valuation τ sig (Elt F)) : (⟨S4x2048x3456, .f32⟩ : BufTy).Contents (Elt F) := V0 (Proc.devRef .tc main_arg1)
/-- Argument 2. -/
def a2 (V0 : Valuation τ sig (Elt F)) : (⟨S16, .f32⟩ : BufTy).Contents (Elt F) := V0 (Proc.devRef .tc main_arg2)
/-- Argument 3. -/
def a3 (V0 : Valuation τ sig (Elt F)) : (⟨S16, .f32⟩ : BufTy).Contents (Elt F) := V0 (Proc.devRef .tc main_arg3)
/-- Argument 4. -/
def a4 (V0 : Valuation τ sig (Elt F)) : (⟨S16, .f32⟩ : BufTy).Contents (Elt F) := V0 (Proc.devRef .tc main_arg4)
/-- The concatenation of the sixteen saved states. -/
def fn118 : (main_v72 : Ref sig .tc).ty.Contents (Elt F) → (main_v75 : Ref sig .tc).ty.Contents (Elt F) → (main_v78 : Ref sig .tc).ty.Contents (Elt F) → (main_v81 : Ref sig .tc).ty.Contents (Elt F) → (main_v84 : Ref sig .tc).ty.Contents (Elt F) → (main_v87 : Ref sig .tc).ty.Contents (Elt F) → (main_v90 : Ref sig .tc).ty.Contents (Elt F) → (main_v93 : Ref sig .tc).ty.Contents (Elt F) → (main_v96 : Ref sig .tc).ty.Contents (Elt F) → (main_v99 : Ref sig .tc).ty.Contents (Elt F) → (main_v102 : Ref sig .tc).ty.Contents (Elt F) → (main_v105 : Ref sig .tc).ty.Contents (Elt F) → (main_v108 : Ref sig .tc).ty.Contents (Elt F) → (main_v111 : Ref sig .tc).ty.Contents (Elt F) → (main_v114 : Ref sig .tc).ty.Contents (Elt F) → (main_v117 : Ref sig .tc).ty.Contents (Elt F) → (main_v118 : Ref sig .tc).ty.Contents (Elt F) :=
  fun u0 u1 u2 u3 u4 u5 u6 u7 u8 u9 u10 u11 u12 u13 u14 u15 => (concatenate S4x16x16x64x128 1 [⟨S4x1x16x64x128, (u0 : (⟨S4x1x16x64x128, .f32⟩ : BufTy).Contents (Elt F))⟩, ⟨S4x1x16x64x128, (u1 : (⟨S4x1x16x64x128, .f32⟩ : BufTy).Contents (Elt F))⟩, ⟨S4x1x16x64x128, (u2 : (⟨S4x1x16x64x128, .f32⟩ : BufTy).Contents (Elt F))⟩, ⟨S4x1x16x64x128, (u3 : (⟨S4x1x16x64x128, .f32⟩ : BufTy).Contents (Elt F))⟩, ⟨S4x1x16x64x128, (u4 : (⟨S4x1x16x64x128, .f32⟩ : BufTy).Contents (Elt F))⟩, ⟨S4x1x16x64x128, (u5 : (⟨S4x1x16x64x128, .f32⟩ : BufTy).Contents (Elt F))⟩, ⟨S4x1x16x64x128, (u6 : (⟨S4x1x16x64x128, .f32⟩ : BufTy).Contents (Elt F))⟩, ⟨S4x1x16x64x128, (u7 : (⟨S4x1x16x64x128, .f32⟩ : BufTy).Contents (Elt F))⟩, ⟨S4x1x16x64x128, (u8 : (⟨S4x1x16x64x128, .f32⟩ : BufTy).Contents (Elt F))⟩, ⟨S4x1x16x64x128, (u9 : (⟨S4x1x16x64x128, .f32⟩ : BufTy).Contents (Elt F))⟩, ⟨S4x1x16x64x128, (u10 : (⟨S4x1x16x64x128, .f32⟩ : BufTy).Contents (Elt F))⟩, ⟨S4x1x16x64x128, (u11 : (⟨S4x1x16x64x128, .f32⟩ : BufTy).Contents (Elt F))⟩, ⟨S4x1x16x64x128, (u12 : (⟨S4x1x16x64x128, .f32⟩ : BufTy).Contents (Elt F))⟩, ⟨S4x1x16x64x128, (u13 : (⟨S4x1x16x64x128, .f32⟩ : BufTy).Contents (Elt F))⟩, ⟨S4x1x16x64x128, (u14 : (⟨S4x1x16x64x128, .f32⟩ : BufTy).Contents (Elt F))⟩, ⟨S4x1x16x64x128, (u15 : (⟨S4x1x16x64x128, .f32⟩ : BufTy).Contents (Elt F))⟩] concatenates_S4x1x16x64x128_S4x1x16x64x128_S4x1x16x64x128_S4x1x16x64x128_S4x1x16x64x128_S4x1x16x64x128_S4x1x16x64x128_S4x1x16x64x128_S4x1x16x64x128_S4x1x16x64x128_S4x1x16x64x128_S4x1x16x64x128_S4x1x16x64x128_S4x1x16x64x128_S4x1x16x64x128_S4x1x16x64x128_S4x16x16x64x128_d1 : (⟨S4x16x16x64x128, .f32⟩ : BufTy).Contents (Elt F))

set_option maxRecDepth 8192 in
/-- Window 0 of the host operations. -/
abbrev ops0 : List (HloOp τ sig (Elt F)) :=
  [ StableHlo.reshape main_arg2 main_v0 (rfl : (.f32 : EltTy) = .f32) shapeCasts_S16_S1x16,
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_v0 : StableHlo.TRef sig ⟨S1x16, .f32⟩) (.of main_call0_v0 : StableHlo.TRef sig ⟨S_, .f32⟩) (.of main_v1 : StableHlo.TRef sig ⟨S1x128, .f32⟩) (fun x v => pad S1x128 ![0, 0] ![0, 112] ![0, 0] x v pads_S1x16_S1x128_000_01120 h_S_),
    StableHlo.reshape main_arg3 main_v2 (rfl : (.f32 : EltTy) = .f32) shapeCasts_S16_S1x16,
    StableHlo.nullary main_c_0 (constantI S_ 32 0#32),
    StableHlo.TRef.unary (.of main_c_0 : StableHlo.TRef sig ⟨S_, .i32⟩) (.of main_call1_v0 : StableHlo.TRef sig ⟨S_, .f32⟩) (sitofp .f32),
    StableHlo.TRef.binary (.of main_v2 : StableHlo.TRef sig ⟨S1x16, .f32⟩) (.of main_call1_v0 : StableHlo.TRef sig ⟨S_, .f32⟩) (.of main_v3 : StableHlo.TRef sig ⟨S1x128, .f32⟩) (fun x v => pad S1x128 ![0, 0] ![0, 112] ![0, 0] x v pads_S1x16_S1x128_000_01120 h_S_),
    StableHlo.reshape main_arg4 main_v4 (rfl : (.f32 : EltTy) = .f32) shapeCasts_S16_S1x16,
    StableHlo.nullary main_c_1 (constantI S_ 32 0#32),
    StableHlo.TRef.unary (.of main_c_1 : StableHlo.TRef sig ⟨S_, .i32⟩) (.of main_call2_v0 : StableHlo.TRef sig ⟨S_, .f32⟩) (sitofp .f32),
    StableHlo.TRef.binary (.of main_v4 : StableHlo.TRef sig ⟨S1x16, .f32⟩) (.of main_call2_v0 : StableHlo.TRef sig ⟨S_, .f32⟩) (.of main_v5 : StableHlo.TRef sig ⟨S1x128, .f32⟩) (fun x v => pad S1x128 ![0, 0] ![0, 112] ![0, 0] x v pads_S1x16_S1x128_000_01120 h_S_) ]
abbrev W0 : List (Ref sig .tc) := [main_v0, main_c, main_call0_v0, main_v1, main_v2, main_c_0, main_call1_v0, main_v3, main_v4, main_c_1, main_call2_v0, main_v5]
set_option maxRecDepth 8192 in
theorem writes0 : (ops0 : List (HloOp τ sig (Elt F))).Forall fun op => op.writes ⊆ (W0.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 0. -/
def s0 (V0 : Valuation τ sig (Elt F)) : Valuation τ sig (Elt F) := after ops0 V0
theorem keep0 (V0 : Valuation τ sig (Elt F)) (r : Ref sig .tc) (h : r ∉ W0) : s0 V0 (Proc.devRef .tc r) = V0 (Proc.devRef .tc r) :=
  after_of_writes_sub ops0 _ writes0 h
theorem s0_main_arg0 (V0 : Valuation τ sig (Elt F)) : s0 V0 (no_index (Proc.devRef .tc main_arg0)) = a0 V0 :=
  (keep0 V0 main_arg0 (by decide)).trans rfl
theorem s0_main_arg1 (V0 : Valuation τ sig (Elt F)) : s0 V0 (no_index (Proc.devRef .tc main_arg1)) = a1 V0 :=
  (keep0 V0 main_arg1 (by decide)).trans rfl
theorem s0_main_arg2 (V0 : Valuation τ sig (Elt F)) : s0 V0 (no_index (Proc.devRef .tc main_arg2)) = a2 V0 :=
  (keep0 V0 main_arg2 (by decide)).trans rfl
theorem s0_main_arg3 (V0 : Valuation τ sig (Elt F)) : s0 V0 (no_index (Proc.devRef .tc main_arg3)) = a3 V0 :=
  (keep0 V0 main_arg3 (by decide)).trans rfl
set_option maxRecDepth 8192 in
set_option maxHeartbeats 2000000 in
theorem s0_main_v1 (V0 : Valuation τ sig (Elt F)) : s0 V0 (no_index (Proc.devRef .tc main_v1)) = lanePad (a2 V0) := by
  unfold s0
  simp only [ops0, TRef.ternary, TRef.binary, TRef.nullary, TRef.unary, TRef.toBuf, TRef.ofBuf, cast_eq]
  after_results_simp
  rfl
set_option maxRecDepth 8192 in
set_option maxHeartbeats 2000000 in
theorem s0_main_v3 (V0 : Valuation τ sig (Elt F)) : s0 V0 (no_index (Proc.devRef .tc main_v3)) = lanePad (a3 V0) := by
  unfold s0
  simp only [ops0, TRef.ternary, TRef.binary, TRef.nullary, TRef.unary, TRef.toBuf, TRef.ofBuf, cast_eq]
  after_results_simp
  rfl
set_option maxRecDepth 8192 in
set_option maxHeartbeats 2000000 in
theorem s0_main_v5 (V0 : Valuation τ sig (Elt F)) : s0 V0 (no_index (Proc.devRef .tc main_v5)) = lanePad (a4 V0) := by
  unfold s0
  simp only [ops0, TRef.ternary, TRef.binary, TRef.nullary, TRef.unary, TRef.toBuf, TRef.ofBuf, cast_eq]
  after_results_simp
  rfl

set_option maxRecDepth 8192 in
/-- Window 1 of the host operations. -/
abbrev ops1 : List (HloOp τ sig (Elt F)) :=
  [ StableHlo.unary main_arg1 main_v6 ((extractStridedSlice S4x2048x16 ![0, 0, 3328] · slices_S4x2048x3456_S4x2048x16_0_0_3328) : (⟨S4x2048x3456, .f32⟩ : BufTy).Contents (Elt F) → (⟨S4x2048x16, .f32⟩ : BufTy).Contents (Elt F)),
    StableHlo.unary main_arg0 main_v7 ((extractStridedSlice S4x2048x1024 ![0, 0, 0] · slices_S4x2048x1536_S4x2048x1024_0_0_0) : (⟨S4x2048x1536, .f32⟩ : BufTy).Contents (Elt F) → (⟨S4x2048x1024, .f32⟩ : BufTy).Contents (Elt F)),
    StableHlo.unary main_arg0 main_v8 ((extractStridedSlice S4x2048x256 ![0, 0, 1024] · slices_S4x2048x1536_S4x2048x256_0_0_1024) : (⟨S4x2048x1536, .f32⟩ : BufTy).Contents (Elt F) → (⟨S4x2048x256, .f32⟩ : BufTy).Contents (Elt F)),
    StableHlo.unary main_arg0 main_v9 ((extractStridedSlice S4x2048x256 ![0, 0, 1280] · slices_S4x2048x1536_S4x2048x256_0_0_1280) : (⟨S4x2048x1536, .f32⟩ : BufTy).Contents (Elt F) → (⟨S4x2048x256, .f32⟩ : BufTy).Contents (Elt F)),
    StableHlo.unary main_arg2 main_v10 (broadcastInDim S1x1x16 ![2] bcast_S16_S1x1x16_2 : (⟨S16, .f32⟩ : BufTy).Contents (Elt F) → (⟨S1x1x16, .f32⟩ : BufTy).Contents (Elt F)),
    StableHlo.unary main_v10 main_v11 (broadcastInDim S4x2048x16 ![0, 1, 2] bcast_S1x1x16_S4x2048x16_0_1_2 : (⟨S1x1x16, .f32⟩ : BufTy).Contents (Elt F) → (⟨S4x2048x16, .f32⟩ : BufTy).Contents (Elt F)),
    StableHlo.binary main_v6 main_v11 main_v12 (addf : (⟨S4x2048x16, .f32⟩ : BufTy).Contents (Elt F) → (⟨S4x2048x16, .f32⟩ : BufTy).Contents (Elt F) → (⟨S4x2048x16, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S4x2048x16, .f32⟩) (broadcastInDim S4x2048x16 ![] bcast_S_S4x2048x16) ]
abbrev W1 : List (Ref sig .tc) := [main_v6, main_v7, main_v8, main_v9, main_v10, main_v11, main_v12, main_call3_cst, main_call3_v0]
set_option maxRecDepth 8192 in
theorem writes1 : (ops1 : List (HloOp τ sig (Elt F))).Forall fun op => op.writes ⊆ (W1.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 1. -/
def s1 (V0 : Valuation τ sig (Elt F)) : Valuation τ sig (Elt F) := after ops1 (s0 V0)
theorem keep1 (V0 : Valuation τ sig (Elt F)) (r : Ref sig .tc) (h : r ∉ W1) : s1 V0 (Proc.devRef .tc r) = (s0 V0) (Proc.devRef .tc r) :=
  after_of_writes_sub ops1 _ writes1 h
theorem s1_main_arg3 (V0 : Valuation τ sig (Elt F)) : s1 V0 (no_index (Proc.devRef .tc main_arg3)) = a3 V0 :=
  (keep1 V0 main_arg3 (by decide)).trans (s0_main_arg3 V0)
theorem s1_main_v1 (V0 : Valuation τ sig (Elt F)) : s1 V0 (no_index (Proc.devRef .tc main_v1)) = lanePad (a2 V0) :=
  (keep1 V0 main_v1 (by decide)).trans (s0_main_v1 V0)
theorem s1_main_v3 (V0 : Valuation τ sig (Elt F)) : s1 V0 (no_index (Proc.devRef .tc main_v3)) = lanePad (a3 V0) :=
  (keep1 V0 main_v3 (by decide)).trans (s0_main_v3 V0)
theorem s1_main_v5 (V0 : Valuation τ sig (Elt F)) : s1 V0 (no_index (Proc.devRef .tc main_v5)) = lanePad (a4 V0) :=
  (keep1 V0 main_v5 (by decide)).trans (s0_main_v5 V0)
set_option maxRecDepth 8192 in
set_option maxHeartbeats 2000000 in
theorem s1_main_v7 (V0 : Valuation τ sig (Elt F)) : s1 V0 (no_index (Proc.devRef .tc main_v7)) = (Cert.ReferenceIdeal.Read.val_main_v1 (F := F) (a0 V0)) := by
  unfold s1
  simp only [ops1, TRef.ternary, TRef.binary, TRef.nullary, TRef.unary, TRef.toBuf, TRef.ofBuf, cast_eq]
  after_results_simp
  try dsimp only [Matrix.cons_val]
  try after_results_simp
  first | (simp only [s0_main_arg0, s0_main_arg1, s0_main_arg2]; rfl) | simp only [s0_main_arg0, s0_main_arg1, s0_main_arg2] | rfl
set_option maxRecDepth 8192 in
set_option maxHeartbeats 2000000 in
theorem s1_main_v8 (V0 : Valuation τ sig (Elt F)) : s1 V0 (no_index (Proc.devRef .tc main_v8)) = (Cert.ReferenceIdeal.Read.val_main_v2 (F := F) (a0 V0)) := by
  unfold s1
  simp only [ops1, TRef.ternary, TRef.binary, TRef.nullary, TRef.unary, TRef.toBuf, TRef.ofBuf, cast_eq]
  after_results_simp
  try dsimp only [Matrix.cons_val]
  try after_results_simp
  first | (simp only [s0_main_arg0, s0_main_arg1, s0_main_arg2]; rfl) | simp only [s0_main_arg0, s0_main_arg1, s0_main_arg2] | rfl
set_option maxRecDepth 8192 in
set_option maxHeartbeats 2000000 in
theorem s1_main_v12 (V0 : Valuation τ sig (Elt F)) : s1 V0 (no_index (Proc.devRef .tc main_v12)) = (Cert.ReferenceIdeal.Read.val_main_v16 (F := F) (a1 V0) (a2 V0)) := by
  unfold s1
  simp only [ops1, TRef.ternary, TRef.binary, TRef.nullary, TRef.unary, TRef.toBuf, TRef.ofBuf, cast_eq]
  after_results_simp
  try dsimp only [Matrix.cons_val]
  try after_results_simp
  first | (simp only [s0_main_arg0, s0_main_arg1, s0_main_arg2]; rfl) | simp only [s0_main_arg0, s0_main_arg1, s0_main_arg2] | rfl
set_option maxRecDepth 8192 in
set_option maxHeartbeats 2000000 in
theorem s1_main_call3_cst (V0 : Valuation τ sig (Elt F)) : s1 V0 (no_index (Proc.devRef .tc main_call3_cst)) = (Cert.ReferenceIdeal.Read.val_main_call0_cst (F := F)) := by
  unfold s1
  simp only [ops1, TRef.ternary, TRef.binary, TRef.nullary, TRef.unary, TRef.toBuf, TRef.ofBuf, cast_eq]
  after_results_simp
  try dsimp only [Matrix.cons_val]
  try after_results_simp
  first | (simp only [s0_main_arg0, s0_main_arg1, s0_main_arg2]; rfl) | simp only [s0_main_arg0, s0_main_arg1, s0_main_arg2] | rfl
set_option maxRecDepth 8192 in
set_option maxHeartbeats 2000000 in
theorem s1_main_call3_v0 (V0 : Valuation τ sig (Elt F)) : s1 V0 (no_index (Proc.devRef .tc main_call3_v0)) = (Cert.ReferenceIdeal.Read.val_main_call0_v0 (F := F)) := by
  unfold s1
  simp only [ops1, TRef.ternary, TRef.binary, TRef.nullary, TRef.unary, TRef.toBuf, TRef.ofBuf, cast_eq]
  after_results_simp
  try dsimp only [Matrix.cons_val]
  try after_results_simp
  first | (simp only [s0_main_arg0, s0_main_arg1, s0_main_arg2]; rfl) | simp only [s0_main_arg0, s0_main_arg1, s0_main_arg2] | rfl

set_option maxRecDepth 8192 in
/-- Window 2 of the host operations. -/
abbrev ops2 : List (HloOp τ sig (Elt F)) :=
  [ StableHlo.TRef.binary (.of main_v12 : StableHlo.TRef sig ⟨S4x2048x16, .f32⟩) (.of main_call3_v0 : StableHlo.TRef sig ⟨S4x2048x16, .f32⟩) (.of main_call3_v1 : StableHlo.TRef sig ⟨S4x2048x16, .f32⟩) maximumf,
    StableHlo.TRef.unary (.of main_call3_cst : StableHlo.TRef sig ⟨S_, .f32⟩) (.of main_call3_v2 : StableHlo.TRef sig ⟨S4x2048x16, .f32⟩) (broadcastInDim S4x2048x16 ![] bcast_S_S4x2048x16),
    StableHlo.TRef.binary (.of main_v12 : StableHlo.TRef sig ⟨S4x2048x16, .f32⟩) (.of main_call3_v2 : StableHlo.TRef sig ⟨S4x2048x16, .f32⟩) (.of main_call3_v3 : StableHlo.TRef sig ⟨S4x2048x16, .f32⟩) subf,
    StableHlo.TRef.binary (.of main_call3_v3 : StableHlo.TRef sig ⟨S4x2048x16, .f32⟩) (.of main_call3_v3 : StableHlo.TRef sig ⟨S4x2048x16, .f32⟩) (.of main_call3_v4 : StableHlo.TRef sig ⟨S4x2048x16, .i1⟩) (cmpf .une),
    StableHlo.TRef.unary (.of main_call3_cst : StableHlo.TRef sig ⟨S_, .f32⟩) (.of main_call3_v5 : StableHlo.TRef sig ⟨S4x2048x16, .f32⟩) (broadcastInDim S4x2048x16 ![] bcast_S_S4x2048x16),
    StableHlo.TRef.binary (.of main_v12 : StableHlo.TRef sig ⟨S4x2048x16, .f32⟩) (.of main_call3_v5 : StableHlo.TRef sig ⟨S4x2048x16, .f32⟩) (.of main_call3_v6 : StableHlo.TRef sig ⟨S4x2048x16, .f32⟩) addf,
    StableHlo.TRef.unary (.of main_call3_v3 : StableHlo.TRef sig ⟨S4x2048x16, .f32⟩) (.of main_call3_v7 : StableHlo.TRef sig ⟨S4x2048x16, .f32⟩) Host.absf,
    StableHlo.TRef.unary (.of main_call3_v7 : StableHlo.TRef sig ⟨S4x2048x16, .f32⟩) (.of main_call3_v8 : StableHlo.TRef sig ⟨S4x2048x16, .f32⟩) Host.negf,
    StableHlo.TRef.unary (.of main_call3_v8 : StableHlo.TRef sig ⟨S4x2048x16, .f32⟩) (.of main_call3_v9 : StableHlo.TRef sig ⟨S4x2048x16, .f32⟩) Host.exp ]
abbrev W2 : List (Ref sig .tc) := [main_call3_v1, main_call3_v2, main_call3_v3, main_call3_v4, main_call3_v5, main_call3_v6, main_call3_v7, main_call3_v8, main_call3_v9]
set_option maxRecDepth 8192 in
theorem writes2 : (ops2 : List (HloOp τ sig (Elt F))).Forall fun op => op.writes ⊆ (W2.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 2. -/
def s2 (V0 : Valuation τ sig (Elt F)) : Valuation τ sig (Elt F) := after ops2 (s1 V0)
theorem keep2 (V0 : Valuation τ sig (Elt F)) (r : Ref sig .tc) (h : r ∉ W2) : s2 V0 (Proc.devRef .tc r) = (s1 V0) (Proc.devRef .tc r) :=
  after_of_writes_sub ops2 _ writes2 h
theorem s2_main_arg3 (V0 : Valuation τ sig (Elt F)) : s2 V0 (no_index (Proc.devRef .tc main_arg3)) = a3 V0 :=
  (keep2 V0 main_arg3 (by decide)).trans (s1_main_arg3 V0)
theorem s2_main_v1 (V0 : Valuation τ sig (Elt F)) : s2 V0 (no_index (Proc.devRef .tc main_v1)) = lanePad (a2 V0) :=
  (keep2 V0 main_v1 (by decide)).trans (s1_main_v1 V0)
theorem s2_main_v3 (V0 : Valuation τ sig (Elt F)) : s2 V0 (no_index (Proc.devRef .tc main_v3)) = lanePad (a3 V0) :=
  (keep2 V0 main_v3 (by decide)).trans (s1_main_v3 V0)
theorem s2_main_v5 (V0 : Valuation τ sig (Elt F)) : s2 V0 (no_index (Proc.devRef .tc main_v5)) = lanePad (a4 V0) :=
  (keep2 V0 main_v5 (by decide)).trans (s1_main_v5 V0)
theorem s2_main_v7 (V0 : Valuation τ sig (Elt F)) : s2 V0 (no_index (Proc.devRef .tc main_v7)) = (Cert.ReferenceIdeal.Read.val_main_v1 (F := F) (a0 V0)) :=
  (keep2 V0 main_v7 (by decide)).trans (s1_main_v7 V0)
theorem s2_main_v8 (V0 : Valuation τ sig (Elt F)) : s2 V0 (no_index (Proc.devRef .tc main_v8)) = (Cert.ReferenceIdeal.Read.val_main_v2 (F := F) (a0 V0)) :=
  (keep2 V0 main_v8 (by decide)).trans (s1_main_v8 V0)
set_option maxRecDepth 8192 in
set_option maxHeartbeats 2000000 in
theorem s2_main_call3_v1 (V0 : Valuation τ sig (Elt F)) : s2 V0 (no_index (Proc.devRef .tc main_call3_v1)) = (Cert.ReferenceIdeal.Read.val_main_call0_v1 (F := F) (a1 V0) (a2 V0)) := by
  unfold s2
  simp only [ops2, TRef.ternary, TRef.binary, TRef.nullary, TRef.unary, TRef.toBuf, TRef.ofBuf, cast_eq]
  after_results_simp
  try dsimp only [Matrix.cons_val]
  try after_results_simp
  first | (simp only [s1_main_call3_cst, s1_main_call3_v0, s1_main_v12]; rfl) | simp only [s1_main_call3_cst, s1_main_call3_v0, s1_main_v12] | rfl
set_option maxRecDepth 8192 in
set_option maxHeartbeats 2000000 in
theorem s2_main_call3_v4 (V0 : Valuation τ sig (Elt F)) : s2 V0 (no_index (Proc.devRef .tc main_call3_v4)) = (Cert.ReferenceIdeal.Read.val_main_call0_v4 (F := F) (a1 V0) (a2 V0)) := by
  unfold s2
  simp only [ops2, TRef.ternary, TRef.binary, TRef.nullary, TRef.unary, TRef.toBuf, TRef.ofBuf, cast_eq]
  after_results_simp
  try dsimp only [Matrix.cons_val]
  try after_results_simp
  first | (simp only [s1_main_call3_cst, s1_main_call3_v0, s1_main_v12]; rfl) | simp only [s1_main_call3_cst, s1_main_call3_v0, s1_main_v12] | rfl
set_option maxRecDepth 8192 in
set_option maxHeartbeats 2000000 in
theorem s2_main_call3_v6 (V0 : Valuation τ sig (Elt F)) : s2 V0 (no_index (Proc.devRef .tc main_call3_v6)) = (Cert.ReferenceIdeal.Read.val_main_call0_v6 (F := F) (a1 V0) (a2 V0)) := by
  unfold s2
  simp only [ops2, TRef.ternary, TRef.binary, TRef.nullary, TRef.unary, TRef.toBuf, TRef.ofBuf, cast_eq]
  after_results_simp
  try dsimp only [Matrix.cons_val]
  try after_results_simp
  first | (simp only [s1_main_call3_cst, s1_main_call3_v0, s1_main_v12]; rfl) | simp only [s1_main_call3_cst, s1_main_call3_v0, s1_main_v12] | rfl
set_option maxRecDepth 8192 in
set_option maxHeartbeats 2000000 in
theorem s2_main_call3_v9 (V0 : Valuation τ sig (Elt F)) : s2 V0 (no_index (Proc.devRef .tc main_call3_v9)) = (Cert.ReferenceIdeal.Read.val_main_call0_v9 (F := F) (a1 V0) (a2 V0)) := by
  unfold s2
  simp only [ops2, TRef.ternary, TRef.binary, TRef.nullary, TRef.unary, TRef.toBuf, TRef.ofBuf, cast_eq]
  after_results_simp
  try dsimp only [Matrix.cons_val]
  try after_results_simp
  first | (simp only [s1_main_call3_cst, s1_main_call3_v0, s1_main_v12]; rfl) | simp only [s1_main_call3_cst, s1_main_call3_v0, s1_main_v12] | rfl

set_option maxRecDepth 8192 in
/-- Window 3 of the host operations. -/
abbrev ops3 : List (HloOp τ sig (Elt F)) :=
  [ StableHlo.TRef.unary (.of main_call3_v9 : StableHlo.TRef sig ⟨S4x2048x16, .f32⟩) (.of main_call3_v10 : StableHlo.TRef sig ⟨S4x2048x16, .f32⟩) Host.log1p,
    StableHlo.TRef.binary (.of main_call3_v1 : StableHlo.TRef sig ⟨S4x2048x16, .f32⟩) (.of main_call3_v10 : StableHlo.TRef sig ⟨S4x2048x16, .f32⟩) (.of main_call3_v11 : StableHlo.TRef sig ⟨S4x2048x16, .f32⟩) addf,
    StableHlo.TRef.ternary (.of main_call3_v4 : StableHlo.TRef sig ⟨S4x2048x16, .i1⟩) (.of main_call3_v6 : StableHlo.TRef sig ⟨S4x2048x16, .f32⟩) (.of main_call3_v11 : StableHlo.TRef sig ⟨S4x2048x16, .f32⟩) (.of main_v13 : StableHlo.TRef sig ⟨S4x2048x16, .f32⟩) select,
    StableHlo.reshape main_v13 main_v14 (rfl : (.f32 : EltTy) = .f32) shapeCasts_S4x2048x16_S64x128x16,
    StableHlo.unary main_v14 main_v15 ((transpose S64x16x128 [0, 2, 1] · transposes_S64x128x16_S64x16x128_0_2_1) : (⟨S64x128x16, .f32⟩ : BufTy).Contents (Elt F) → (⟨S64x16x128, .f32⟩ : BufTy).Contents (Elt F)),
    StableHlo.unary main_arg3 main_v16 (Host.exp : (⟨S16, .f32⟩ : BufTy).Contents (Elt F) → (⟨S16, .f32⟩ : BufTy).Contents (Elt F)),
    StableHlo.unary main_v16 main_v17 (Host.negf : (⟨S16, .f32⟩ : BufTy).Contents (Elt F) → (⟨S16, .f32⟩ : BufTy).Contents (Elt F)),
    StableHlo.unary main_v17 main_v18 (broadcastInDim S64x16x128 ![1] bcast_S16_S64x16x128_1 : (⟨S16, .f32⟩ : BufTy).Contents (Elt F) → (⟨S64x16x128, .f32⟩ : BufTy).Contents (Elt F)),
    StableHlo.binary main_v15 main_v18 main_v19 (mulf : (⟨S64x16x128, .f32⟩ : BufTy).Contents (Elt F) → (⟨S64x16x128, .f32⟩ : BufTy).Contents (Elt F) → (⟨S64x16x128, .f32⟩ : BufTy).Contents (Elt F)) ]
abbrev W3 : List (Ref sig .tc) := [main_call3_v10, main_call3_v11, main_v13, main_v14, main_v15, main_v16, main_v17, main_v18, main_v19]
set_option maxRecDepth 8192 in
theorem writes3 : (ops3 : List (HloOp τ sig (Elt F))).Forall fun op => op.writes ⊆ (W3.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 3. -/
def s3 (V0 : Valuation τ sig (Elt F)) : Valuation τ sig (Elt F) := after ops3 (s2 V0)
theorem keep3 (V0 : Valuation τ sig (Elt F)) (r : Ref sig .tc) (h : r ∉ W3) : s3 V0 (Proc.devRef .tc r) = (s2 V0) (Proc.devRef .tc r) :=
  after_of_writes_sub ops3 _ writes3 h
theorem s3_main_v1 (V0 : Valuation τ sig (Elt F)) : s3 V0 (no_index (Proc.devRef .tc main_v1)) = lanePad (a2 V0) :=
  (keep3 V0 main_v1 (by decide)).trans (s2_main_v1 V0)
theorem s3_main_v3 (V0 : Valuation τ sig (Elt F)) : s3 V0 (no_index (Proc.devRef .tc main_v3)) = lanePad (a3 V0) :=
  (keep3 V0 main_v3 (by decide)).trans (s2_main_v3 V0)
theorem s3_main_v5 (V0 : Valuation τ sig (Elt F)) : s3 V0 (no_index (Proc.devRef .tc main_v5)) = lanePad (a4 V0) :=
  (keep3 V0 main_v5 (by decide)).trans (s2_main_v5 V0)
theorem s3_main_v7 (V0 : Valuation τ sig (Elt F)) : s3 V0 (no_index (Proc.devRef .tc main_v7)) = (Cert.ReferenceIdeal.Read.val_main_v1 (F := F) (a0 V0)) :=
  (keep3 V0 main_v7 (by decide)).trans (s2_main_v7 V0)
theorem s3_main_v8 (V0 : Valuation τ sig (Elt F)) : s3 V0 (no_index (Proc.devRef .tc main_v8)) = (Cert.ReferenceIdeal.Read.val_main_v2 (F := F) (a0 V0)) :=
  (keep3 V0 main_v8 (by decide)).trans (s2_main_v8 V0)
set_option maxRecDepth 8192 in
set_option maxHeartbeats 2000000 in
theorem s3_main_v15 (V0 : Valuation τ sig (Elt F)) : s3 V0 (no_index (Proc.devRef .tc main_v15)) = (Cert.ReferenceIdeal.Read.val_main_v19 (F := F) (a1 V0) (a2 V0)) := by
  unfold s3
  simp only [ops3, TRef.ternary, TRef.binary, TRef.nullary, TRef.unary, TRef.toBuf, TRef.ofBuf, cast_eq]
  after_results_simp
  try dsimp only [Matrix.cons_val]
  try after_results_simp
  first | (simp only [s2_main_arg3, s2_main_call3_v1, s2_main_call3_v4, s2_main_call3_v6, s2_main_call3_v9]; rfl) | simp only [s2_main_arg3, s2_main_call3_v1, s2_main_call3_v4, s2_main_call3_v6, s2_main_call3_v9] | rfl
set_option maxRecDepth 8192 in
set_option maxHeartbeats 2000000 in
theorem s3_main_v19 (V0 : Valuation τ sig (Elt F)) : s3 V0 (no_index (Proc.devRef .tc main_v19)) = (Cert.ReferenceIdeal.Read.val_main_v23 (F := F) (a1 V0) (a2 V0) (a3 V0)) := by
  unfold s3
  simp only [ops3, TRef.ternary, TRef.binary, TRef.nullary, TRef.unary, TRef.toBuf, TRef.ofBuf, cast_eq]
  after_results_simp
  try dsimp only [Matrix.cons_val]
  try after_results_simp
  first | (simp only [s2_main_arg3, s2_main_call3_v1, s2_main_call3_v4, s2_main_call3_v6, s2_main_call3_v9]; rfl) | simp only [s2_main_arg3, s2_main_call3_v1, s2_main_call3_v4, s2_main_call3_v6, s2_main_call3_v9] | rfl

set_option maxRecDepth 8192 in
/-- Window 4 of the host operations. -/
abbrev ops4 : List (HloOp τ sig (Elt F)) :=
  [ StableHlo.TRef.nullary (.of main_call4_call0_cst : StableHlo.TRef sig ⟨S_, .f32⟩) (constant S_ .f32 0x00000000#32),
    StableHlo.TRef.unary (.of main_call4_call0_cst : StableHlo.TRef sig ⟨S_, .f32⟩) (.of main_call4_call0_v0 : StableHlo.TRef sig ⟨S_, .f32⟩) (broadcastInDim S_ ![] bcast_S_S_),
    StableHlo.TRef.binary (.of main_v19 : StableHlo.TRef sig ⟨S64x16x128, .f32⟩) (.of main_call4_call0_v0 : StableHlo.TRef sig ⟨S_, .f32⟩) (.of main_v20 : StableHlo.TRef sig ⟨S64x16x128, .f32⟩) (fun x v => Host.reduceWindowAdd ![1, 1, 128] ![1, 1, 1] ![0, 0, 127] ![0, 0, 0] x v reduceWindows_S64x16x128_S64x16x128_w1s1p0_0_w1s1p0_0_w128s1p127_0 h_S_),
    StableHlo.unary main_v20 main_v21 ((extractStridedSlice S64x16x1 ![0, 0, 127] · slices_S64x16x128_S64x16x1_0_0_127) : (⟨S64x16x128, .f32⟩ : BufTy).Contents (Elt F) → (⟨S64x16x1, .f32⟩ : BufTy).Contents (Elt F)),
    StableHlo.reshape main_v21 main_v22 (rfl : (.f32 : EltTy) = .f32) shapeCasts_S64x16x1_S64x16,
    StableHlo.reshape main_v7 main_v23 (rfl : (.f32 : EltTy) = .f32) shapeCasts_S4x2048x1024_S64x128x16x64,
    StableHlo.unary main_v23 main_v24 ((transpose S64x16x128x64 [0, 2, 1, 3] · transposes_S64x128x16x64_S64x16x128x64_0_2_1_3) : (⟨S64x128x16x64, .f32⟩ : BufTy).Contents (Elt F) → (⟨S64x16x128x64, .f32⟩ : BufTy).Contents (Elt F)),
    StableHlo.unary main_v15 main_v25 (broadcastInDim S64x16x128x64 ![0, 1, 2] bcast_S64x16x128_S64x16x128x64_0_1_2 : (⟨S64x16x128, .f32⟩ : BufTy).Contents (Elt F) → (⟨S64x16x128x64, .f32⟩ : BufTy).Contents (Elt F)),
    StableHlo.binary main_v24 main_v25 main_v26 (mulf : (⟨S64x16x128x64, .f32⟩ : BufTy).Contents (Elt F) → (⟨S64x16x128x64, .f32⟩ : BufTy).Contents (Elt F) → (⟨S64x16x128x64, .f32⟩ : BufTy).Contents (Elt F)) ]
abbrev W4 : List (Ref sig .tc) := [main_call4_call0_cst, main_call4_call0_v0, main_v20, main_v21, main_v22, main_v23, main_v24, main_v25, main_v26]
set_option maxRecDepth 8192 in
theorem writes4 : (ops4 : List (HloOp τ sig (Elt F))).Forall fun op => op.writes ⊆ (W4.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 4. -/
def s4 (V0 : Valuation τ sig (Elt F)) : Valuation τ sig (Elt F) := after ops4 (s3 V0)
theorem keep4 (V0 : Valuation τ sig (Elt F)) (r : Ref sig .tc) (h : r ∉ W4) : s4 V0 (Proc.devRef .tc r) = (s3 V0) (Proc.devRef .tc r) :=
  after_of_writes_sub ops4 _ writes4 h
theorem s4_main_v1 (V0 : Valuation τ sig (Elt F)) : s4 V0 (no_index (Proc.devRef .tc main_v1)) = lanePad (a2 V0) :=
  (keep4 V0 main_v1 (by decide)).trans (s3_main_v1 V0)
theorem s4_main_v3 (V0 : Valuation τ sig (Elt F)) : s4 V0 (no_index (Proc.devRef .tc main_v3)) = lanePad (a3 V0) :=
  (keep4 V0 main_v3 (by decide)).trans (s3_main_v3 V0)
theorem s4_main_v5 (V0 : Valuation τ sig (Elt F)) : s4 V0 (no_index (Proc.devRef .tc main_v5)) = lanePad (a4 V0) :=
  (keep4 V0 main_v5 (by decide)).trans (s3_main_v5 V0)
theorem s4_main_v8 (V0 : Valuation τ sig (Elt F)) : s4 V0 (no_index (Proc.devRef .tc main_v8)) = (Cert.ReferenceIdeal.Read.val_main_v2 (F := F) (a0 V0)) :=
  (keep4 V0 main_v8 (by decide)).trans (s3_main_v8 V0)
set_option maxRecDepth 8192 in
set_option maxHeartbeats 2000000 in
theorem s4_main_v20 (V0 : Valuation τ sig (Elt F)) : s4 V0 (no_index (Proc.devRef .tc main_v20)) = (Cert.ReferenceIdeal.Read.val_main_v24 (F := F) (a1 V0) (a2 V0) (a3 V0)) := by
  unfold s4
  simp only [ops4, TRef.ternary, TRef.binary, TRef.nullary, TRef.unary, TRef.toBuf, TRef.ofBuf, cast_eq]
  after_results_simp
  try dsimp only [Matrix.cons_val]
  try after_results_simp
  first | (simp only [s3_main_v15, s3_main_v19, s3_main_v7]; rfl) | simp only [s3_main_v15, s3_main_v19, s3_main_v7] | rfl
set_option maxRecDepth 8192 in
set_option maxHeartbeats 2000000 in
theorem s4_main_v22 (V0 : Valuation τ sig (Elt F)) : s4 V0 (no_index (Proc.devRef .tc main_v22)) = (Cert.ReferenceIdeal.Read.val_main_v26 (F := F) (a1 V0) (a2 V0) (a3 V0)) := by
  unfold s4
  simp only [ops4, TRef.ternary, TRef.binary, TRef.nullary, TRef.unary, TRef.toBuf, TRef.ofBuf, cast_eq]
  after_results_simp
  try dsimp only [Matrix.cons_val]
  try after_results_simp
  first | (simp only [s3_main_v15, s3_main_v19, s3_main_v7]; rfl) | simp only [s3_main_v15, s3_main_v19, s3_main_v7] | rfl
set_option maxRecDepth 8192 in
set_option maxHeartbeats 2000000 in
theorem s4_main_v26 (V0 : Valuation τ sig (Elt F)) : s4 V0 (no_index (Proc.devRef .tc main_v26)) = (Cert.ReferenceIdeal.Read.val_main_v28 (F := F) (a0 V0) (a1 V0) (a2 V0)) := by
  unfold s4
  simp only [ops4, TRef.ternary, TRef.binary, TRef.nullary, TRef.unary, TRef.toBuf, TRef.ofBuf, cast_eq]
  after_results_simp
  try dsimp only [Matrix.cons_val]
  try after_results_simp
  first | (simp only [s3_main_v15, s3_main_v19, s3_main_v7]; rfl) | simp only [s3_main_v15, s3_main_v19, s3_main_v7] | rfl

set_option maxRecDepth 8192 in
/-- Window 5 of the host operations. -/
abbrev ops5 : List (HloOp τ sig (Elt F)) :=
  [ StableHlo.reshape main_v8 main_v27 (rfl : (.f32 : EltTy) = .f32) shapeCasts_S4x2048x256_S64x128x2x128,
    StableHlo.unary main_v27 main_v28 ((transpose S64x2x128x128 [0, 2, 1, 3] · transposes_S64x128x2x128_S64x2x128x128_0_2_1_3) : (⟨S64x128x2x128, .f32⟩ : BufTy).Contents (Elt F) → (⟨S64x2x128x128, .f32⟩ : BufTy).Contents (Elt F)),
    StableHlo.unary main_v28 main_v29 (broadcastInDim S64x2x8x128x128 ![0, 1, 3, 4] bcast_S64x2x128x128_S64x2x8x128x128_0_1_3_4 : (⟨S64x2x128x128, .f32⟩ : BufTy).Contents (Elt F) → (⟨S64x2x8x128x128, .f32⟩ : BufTy).Contents (Elt F)),
    StableHlo.reshape main_v29 main_v30 (rfl : (.f32 : EltTy) = .f32) shapeCasts_S64x2x8x128x128_S64x16x128x128,
    StableHlo.unary main_v22 main_v31 (broadcastInDim S64x16x128 ![0, 1] bcast_S64x16_S64x16x128_0_1 : (⟨S64x16, .f32⟩ : BufTy).Contents (Elt F) → (⟨S64x16x128, .f32⟩ : BufTy).Contents (Elt F)),
    StableHlo.binary main_v31 main_v20 main_v32 (subf : (⟨S64x16x128, .f32⟩ : BufTy).Contents (Elt F) → (⟨S64x16x128, .f32⟩ : BufTy).Contents (Elt F) → (⟨S64x16x128, .f32⟩ : BufTy).Contents (Elt F)),
    StableHlo.unary main_v32 main_v33 (Host.exp : (⟨S64x16x128, .f32⟩ : BufTy).Contents (Elt F) → (⟨S64x16x128, .f32⟩ : BufTy).Contents (Elt F)),
    StableHlo.unary main_v33 main_v34 (broadcastInDim S64x16x128x64 ![0, 1, 2] bcast_S64x16x128_S64x16x128x64_0_1_2 : (⟨S64x16x128, .f32⟩ : BufTy).Contents (Elt F) → (⟨S64x16x128x64, .f32⟩ : BufTy).Contents (Elt F)),
    StableHlo.binary main_v34 main_v26 main_v35 (mulf : (⟨S64x16x128x64, .f32⟩ : BufTy).Contents (Elt F) → (⟨S64x16x128x64, .f32⟩ : BufTy).Contents (Elt F) → (⟨S64x16x128x64, .f32⟩ : BufTy).Contents (Elt F)) ]
abbrev W5 : List (Ref sig .tc) := [main_v27, main_v28, main_v29, main_v30, main_v31, main_v32, main_v33, main_v34, main_v35]
set_option maxRecDepth 8192 in
theorem writes5 : (ops5 : List (HloOp τ sig (Elt F))).Forall fun op => op.writes ⊆ (W5.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 5. -/
def s5 (V0 : Valuation τ sig (Elt F)) : Valuation τ sig (Elt F) := after ops5 (s4 V0)
theorem keep5 (V0 : Valuation τ sig (Elt F)) (r : Ref sig .tc) (h : r ∉ W5) : s5 V0 (Proc.devRef .tc r) = (s4 V0) (Proc.devRef .tc r) :=
  after_of_writes_sub ops5 _ writes5 h
theorem s5_main_v1 (V0 : Valuation τ sig (Elt F)) : s5 V0 (no_index (Proc.devRef .tc main_v1)) = lanePad (a2 V0) :=
  (keep5 V0 main_v1 (by decide)).trans (s4_main_v1 V0)
theorem s5_main_v3 (V0 : Valuation τ sig (Elt F)) : s5 V0 (no_index (Proc.devRef .tc main_v3)) = lanePad (a3 V0) :=
  (keep5 V0 main_v3 (by decide)).trans (s4_main_v3 V0)
theorem s5_main_v5 (V0 : Valuation τ sig (Elt F)) : s5 V0 (no_index (Proc.devRef .tc main_v5)) = lanePad (a4 V0) :=
  (keep5 V0 main_v5 (by decide)).trans (s4_main_v5 V0)
theorem s5_main_v22 (V0 : Valuation τ sig (Elt F)) : s5 V0 (no_index (Proc.devRef .tc main_v22)) = (Cert.ReferenceIdeal.Read.val_main_v26 (F := F) (a1 V0) (a2 V0) (a3 V0)) :=
  (keep5 V0 main_v22 (by decide)).trans (s4_main_v22 V0)
set_option maxRecDepth 8192 in
set_option maxHeartbeats 2000000 in
theorem s5_main_v30 (V0 : Valuation τ sig (Elt F)) : s5 V0 (no_index (Proc.devRef .tc main_v30)) = (Cert.ReferenceIdeal.Read.val_main_v11 (F := F) (a0 V0)) := by
  unfold s5
  simp only [ops5, TRef.ternary, TRef.binary, TRef.nullary, TRef.unary, TRef.toBuf, TRef.ofBuf, cast_eq]
  after_results_simp
  try dsimp only [Matrix.cons_val]
  try after_results_simp
  first | (simp only [s4_main_v20, s4_main_v22, s4_main_v26, s4_main_v8]; rfl) | simp only [s4_main_v20, s4_main_v22, s4_main_v26, s4_main_v8] | rfl
set_option maxRecDepth 8192 in
set_option maxHeartbeats 2000000 in
theorem s5_main_v35 (V0 : Valuation τ sig (Elt F)) : s5 V0 (no_index (Proc.devRef .tc main_v35)) = (Cert.ReferenceIdeal.Read.val_main_v46 (F := F) (a0 V0) (a1 V0) (a2 V0) (a3 V0)) := by
  unfold s5
  simp only [ops5, TRef.ternary, TRef.binary, TRef.nullary, TRef.unary, TRef.toBuf, TRef.ofBuf, cast_eq]
  after_results_simp
  try dsimp only [Matrix.cons_val]
  try after_results_simp
  first | (simp only [s4_main_v20, s4_main_v22, s4_main_v26, s4_main_v8]; rfl) | simp only [s4_main_v20, s4_main_v22, s4_main_v26, s4_main_v8] | rfl

set_option maxRecDepth 8192 in
/-- Window 6 of the host operations. -/
abbrev ops6 : List (HloOp τ sig (Elt F)) :=
  [ StableHlo.binary main_v35 main_v30 main_v36 ((fun l r => Host.dotGeneral dot_S64x16x128x64_S64x16x128x128_S64x16x64x128_2_2_3_3_01_01 none l r) : (⟨S64x16x128x64, .f32⟩ : BufTy).Contents (Elt F) → (⟨S64x16x128x128, .f32⟩ : BufTy).Contents (Elt F) → (⟨S64x16x64x128, .f32⟩ : BufTy).Contents (Elt F)),
    StableHlo.unary main_v22 main_v37 (Host.exp : (⟨S64x16, .f32⟩ : BufTy).Contents (Elt F) → (⟨S64x16, .f32⟩ : BufTy).Contents (Elt F)),
    StableHlo.reshape main_v37 main_v38 (rfl : (.f32 : EltTy) = .f32) shapeCasts_S64x16_S4x16x16,
    StableHlo.unary main_v38 main_v39 ((extractStridedSlice S4x1x16 ![0, 0, 0] · slices_S4x16x16_S4x1x16_0_0_0) : (⟨S4x16x16, .f32⟩ : BufTy).Contents (Elt F) → (⟨S4x1x16, .f32⟩ : BufTy).Contents (Elt F)),
    StableHlo.unary main_v38 main_v40 ((extractStridedSlice S4x1x16 ![0, 1, 0] · slices_S4x16x16_S4x1x16_0_1_0) : (⟨S4x16x16, .f32⟩ : BufTy).Contents (Elt F) → (⟨S4x1x16, .f32⟩ : BufTy).Contents (Elt F)),
    StableHlo.unary main_v38 main_v41 ((extractStridedSlice S4x1x16 ![0, 2, 0] · slices_S4x16x16_S4x1x16_0_2_0) : (⟨S4x16x16, .f32⟩ : BufTy).Contents (Elt F) → (⟨S4x1x16, .f32⟩ : BufTy).Contents (Elt F)),
    StableHlo.unary main_v38 main_v42 ((extractStridedSlice S4x1x16 ![0, 3, 0] · slices_S4x16x16_S4x1x16_0_3_0) : (⟨S4x16x16, .f32⟩ : BufTy).Contents (Elt F) → (⟨S4x1x16, .f32⟩ : BufTy).Contents (Elt F)),
    StableHlo.unary main_v38 main_v43 ((extractStridedSlice S4x1x16 ![0, 4, 0] · slices_S4x16x16_S4x1x16_0_4_0) : (⟨S4x16x16, .f32⟩ : BufTy).Contents (Elt F) → (⟨S4x1x16, .f32⟩ : BufTy).Contents (Elt F)),
    StableHlo.unary main_v38 main_v44 ((extractStridedSlice S4x1x16 ![0, 5, 0] · slices_S4x16x16_S4x1x16_0_5_0) : (⟨S4x16x16, .f32⟩ : BufTy).Contents (Elt F) → (⟨S4x1x16, .f32⟩ : BufTy).Contents (Elt F)) ]
abbrev W6 : List (Ref sig .tc) := [main_v36, main_v37, main_v38, main_v39, main_v40, main_v41, main_v42, main_v43, main_v44]
set_option maxRecDepth 8192 in
theorem writes6 : (ops6 : List (HloOp τ sig (Elt F))).Forall fun op => op.writes ⊆ (W6.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 6. -/
def s6 (V0 : Valuation τ sig (Elt F)) : Valuation τ sig (Elt F) := after ops6 (s5 V0)
theorem keep6 (V0 : Valuation τ sig (Elt F)) (r : Ref sig .tc) (h : r ∉ W6) : s6 V0 (Proc.devRef .tc r) = (s5 V0) (Proc.devRef .tc r) :=
  after_of_writes_sub ops6 _ writes6 h
theorem s6_main_v1 (V0 : Valuation τ sig (Elt F)) : s6 V0 (no_index (Proc.devRef .tc main_v1)) = lanePad (a2 V0) :=
  (keep6 V0 main_v1 (by decide)).trans (s5_main_v1 V0)
theorem s6_main_v3 (V0 : Valuation τ sig (Elt F)) : s6 V0 (no_index (Proc.devRef .tc main_v3)) = lanePad (a3 V0) :=
  (keep6 V0 main_v3 (by decide)).trans (s5_main_v3 V0)
theorem s6_main_v5 (V0 : Valuation τ sig (Elt F)) : s6 V0 (no_index (Proc.devRef .tc main_v5)) = lanePad (a4 V0) :=
  (keep6 V0 main_v5 (by decide)).trans (s5_main_v5 V0)
set_option maxRecDepth 8192 in
set_option maxHeartbeats 2000000 in
theorem s6_main_v36 (V0 : Valuation τ sig (Elt F)) : s6 V0 (no_index (Proc.devRef .tc main_v36)) = (Cert.ReferenceIdeal.Read.val_main_v47 (F := F) (a0 V0) (a1 V0) (a2 V0) (a3 V0)) := by
  unfold s6
  simp only [ops6, TRef.ternary, TRef.binary, TRef.nullary, TRef.unary, TRef.toBuf, TRef.ofBuf, cast_eq]
  after_results_simp
  try dsimp only [Matrix.cons_val]
  try after_results_simp
  first | (simp only [s5_main_v22, s5_main_v30, s5_main_v35]; rfl) | simp only [s5_main_v22, s5_main_v30, s5_main_v35] | rfl
set_option maxRecDepth 8192 in
set_option maxHeartbeats 2000000 in
theorem s6_main_v38 (V0 : Valuation τ sig (Elt F)) : s6 V0 (no_index (Proc.devRef .tc main_v38)) = (Cert.ReferenceIdeal.Read.val_main_v49 (F := F) (a1 V0) (a2 V0) (a3 V0)) := by
  unfold s6
  simp only [ops6, TRef.ternary, TRef.binary, TRef.nullary, TRef.unary, TRef.toBuf, TRef.ofBuf, cast_eq]
  after_results_simp
  try dsimp only [Matrix.cons_val]
  try after_results_simp
  first | (simp only [s5_main_v22, s5_main_v30, s5_main_v35]; rfl) | simp only [s5_main_v22, s5_main_v30, s5_main_v35] | rfl
set_option maxRecDepth 8192 in
set_option maxHeartbeats 2000000 in
theorem s6_main_v39 (V0 : Valuation τ sig (Elt F)) : s6 V0 (no_index (Proc.devRef .tc main_v39)) = (Cert.ReferenceIdeal.Read.val_main_v50 (F := F) (a1 V0) (a2 V0) (a3 V0)) := by
  unfold s6
  simp only [ops6, TRef.ternary, TRef.binary, TRef.nullary, TRef.unary, TRef.toBuf, TRef.ofBuf, cast_eq]
  after_results_simp
  try dsimp only [Matrix.cons_val]
  try after_results_simp
  first | (simp only [s5_main_v22, s5_main_v30, s5_main_v35]; rfl) | simp only [s5_main_v22, s5_main_v30, s5_main_v35] | rfl
set_option maxRecDepth 8192 in
set_option maxHeartbeats 2000000 in
theorem s6_main_v40 (V0 : Valuation τ sig (Elt F)) : s6 V0 (no_index (Proc.devRef .tc main_v40)) = (Cert.ReferenceIdeal.Read.val_main_v51 (F := F) (a1 V0) (a2 V0) (a3 V0)) := by
  unfold s6
  simp only [ops6, TRef.ternary, TRef.binary, TRef.nullary, TRef.unary, TRef.toBuf, TRef.ofBuf, cast_eq]
  after_results_simp
  try dsimp only [Matrix.cons_val]
  try after_results_simp
  first | (simp only [s5_main_v22, s5_main_v30, s5_main_v35]; rfl) | simp only [s5_main_v22, s5_main_v30, s5_main_v35] | rfl
set_option maxRecDepth 8192 in
set_option maxHeartbeats 2000000 in
theorem s6_main_v41 (V0 : Valuation τ sig (Elt F)) : s6 V0 (no_index (Proc.devRef .tc main_v41)) = (Cert.ReferenceIdeal.Read.val_main_v52 (F := F) (a1 V0) (a2 V0) (a3 V0)) := by
  unfold s6
  simp only [ops6, TRef.ternary, TRef.binary, TRef.nullary, TRef.unary, TRef.toBuf, TRef.ofBuf, cast_eq]
  after_results_simp
  try dsimp only [Matrix.cons_val]
  try after_results_simp
  first | (simp only [s5_main_v22, s5_main_v30, s5_main_v35]; rfl) | simp only [s5_main_v22, s5_main_v30, s5_main_v35] | rfl
set_option maxRecDepth 8192 in
set_option maxHeartbeats 2000000 in
theorem s6_main_v42 (V0 : Valuation τ sig (Elt F)) : s6 V0 (no_index (Proc.devRef .tc main_v42)) = (Cert.ReferenceIdeal.Read.val_main_v53 (F := F) (a1 V0) (a2 V0) (a3 V0)) := by
  unfold s6
  simp only [ops6, TRef.ternary, TRef.binary, TRef.nullary, TRef.unary, TRef.toBuf, TRef.ofBuf, cast_eq]
  after_results_simp
  try dsimp only [Matrix.cons_val]
  try after_results_simp
  first | (simp only [s5_main_v22, s5_main_v30, s5_main_v35]; rfl) | simp only [s5_main_v22, s5_main_v30, s5_main_v35] | rfl
set_option maxRecDepth 8192 in
set_option maxHeartbeats 2000000 in
theorem s6_main_v43 (V0 : Valuation τ sig (Elt F)) : s6 V0 (no_index (Proc.devRef .tc main_v43)) = (Cert.ReferenceIdeal.Read.val_main_v54 (F := F) (a1 V0) (a2 V0) (a3 V0)) := by
  unfold s6
  simp only [ops6, TRef.ternary, TRef.binary, TRef.nullary, TRef.unary, TRef.toBuf, TRef.ofBuf, cast_eq]
  after_results_simp
  try dsimp only [Matrix.cons_val]
  try after_results_simp
  first | (simp only [s5_main_v22, s5_main_v30, s5_main_v35]; rfl) | simp only [s5_main_v22, s5_main_v30, s5_main_v35] | rfl
set_option maxRecDepth 8192 in
set_option maxHeartbeats 2000000 in
theorem s6_main_v44 (V0 : Valuation τ sig (Elt F)) : s6 V0 (no_index (Proc.devRef .tc main_v44)) = (Cert.ReferenceIdeal.Read.val_main_v55 (F := F) (a1 V0) (a2 V0) (a3 V0)) := by
  unfold s6
  simp only [ops6, TRef.ternary, TRef.binary, TRef.nullary, TRef.unary, TRef.toBuf, TRef.ofBuf, cast_eq]
  after_results_simp
  try dsimp only [Matrix.cons_val]
  try after_results_simp
  first | (simp only [s5_main_v22, s5_main_v30, s5_main_v35]; rfl) | simp only [s5_main_v22, s5_main_v30, s5_main_v35] | rfl

set_option maxRecDepth 8192 in
/-- Window 7 of the host operations. -/
abbrev ops7 : List (HloOp τ sig (Elt F)) :=
  [ StableHlo.unary main_v38 main_v45 ((extractStridedSlice S4x1x16 ![0, 6, 0] · slices_S4x16x16_S4x1x16_0_6_0) : (⟨S4x16x16, .f32⟩ : BufTy).Contents (Elt F) → (⟨S4x1x16, .f32⟩ : BufTy).Contents (Elt F)),
    StableHlo.unary main_v38 main_v46 ((extractStridedSlice S4x1x16 ![0, 7, 0] · slices_S4x16x16_S4x1x16_0_7_0) : (⟨S4x16x16, .f32⟩ : BufTy).Contents (Elt F) → (⟨S4x1x16, .f32⟩ : BufTy).Contents (Elt F)),
    StableHlo.unary main_v38 main_v47 ((extractStridedSlice S4x1x16 ![0, 8, 0] · slices_S4x16x16_S4x1x16_0_8_0) : (⟨S4x16x16, .f32⟩ : BufTy).Contents (Elt F) → (⟨S4x1x16, .f32⟩ : BufTy).Contents (Elt F)),
    StableHlo.unary main_v38 main_v48 ((extractStridedSlice S4x1x16 ![0, 9, 0] · slices_S4x16x16_S4x1x16_0_9_0) : (⟨S4x16x16, .f32⟩ : BufTy).Contents (Elt F) → (⟨S4x1x16, .f32⟩ : BufTy).Contents (Elt F)),
    StableHlo.unary main_v38 main_v49 ((extractStridedSlice S4x1x16 ![0, 10, 0] · slices_S4x16x16_S4x1x16_0_10_0) : (⟨S4x16x16, .f32⟩ : BufTy).Contents (Elt F) → (⟨S4x1x16, .f32⟩ : BufTy).Contents (Elt F)),
    StableHlo.unary main_v38 main_v50 ((extractStridedSlice S4x1x16 ![0, 11, 0] · slices_S4x16x16_S4x1x16_0_11_0) : (⟨S4x16x16, .f32⟩ : BufTy).Contents (Elt F) → (⟨S4x1x16, .f32⟩ : BufTy).Contents (Elt F)),
    StableHlo.unary main_v38 main_v51 ((extractStridedSlice S4x1x16 ![0, 12, 0] · slices_S4x16x16_S4x1x16_0_12_0) : (⟨S4x16x16, .f32⟩ : BufTy).Contents (Elt F) → (⟨S4x1x16, .f32⟩ : BufTy).Contents (Elt F)),
    StableHlo.unary main_v38 main_v52 ((extractStridedSlice S4x1x16 ![0, 13, 0] · slices_S4x16x16_S4x1x16_0_13_0) : (⟨S4x16x16, .f32⟩ : BufTy).Contents (Elt F) → (⟨S4x1x16, .f32⟩ : BufTy).Contents (Elt F)),
    StableHlo.unary main_v38 main_v53 ((extractStridedSlice S4x1x16 ![0, 14, 0] · slices_S4x16x16_S4x1x16_0_14_0) : (⟨S4x16x16, .f32⟩ : BufTy).Contents (Elt F) → (⟨S4x1x16, .f32⟩ : BufTy).Contents (Elt F)) ]
abbrev W7 : List (Ref sig .tc) := [main_v45, main_v46, main_v47, main_v48, main_v49, main_v50, main_v51, main_v52, main_v53]
set_option maxRecDepth 8192 in
theorem writes7 : (ops7 : List (HloOp τ sig (Elt F))).Forall fun op => op.writes ⊆ (W7.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 7. -/
def s7 (V0 : Valuation τ sig (Elt F)) : Valuation τ sig (Elt F) := after ops7 (s6 V0)
theorem keep7 (V0 : Valuation τ sig (Elt F)) (r : Ref sig .tc) (h : r ∉ W7) : s7 V0 (Proc.devRef .tc r) = (s6 V0) (Proc.devRef .tc r) :=
  after_of_writes_sub ops7 _ writes7 h
theorem s7_main_v1 (V0 : Valuation τ sig (Elt F)) : s7 V0 (no_index (Proc.devRef .tc main_v1)) = lanePad (a2 V0) :=
  (keep7 V0 main_v1 (by decide)).trans (s6_main_v1 V0)
theorem s7_main_v3 (V0 : Valuation τ sig (Elt F)) : s7 V0 (no_index (Proc.devRef .tc main_v3)) = lanePad (a3 V0) :=
  (keep7 V0 main_v3 (by decide)).trans (s6_main_v3 V0)
theorem s7_main_v5 (V0 : Valuation τ sig (Elt F)) : s7 V0 (no_index (Proc.devRef .tc main_v5)) = lanePad (a4 V0) :=
  (keep7 V0 main_v5 (by decide)).trans (s6_main_v5 V0)
theorem s7_main_v36 (V0 : Valuation τ sig (Elt F)) : s7 V0 (no_index (Proc.devRef .tc main_v36)) = (Cert.ReferenceIdeal.Read.val_main_v47 (F := F) (a0 V0) (a1 V0) (a2 V0) (a3 V0)) :=
  (keep7 V0 main_v36 (by decide)).trans (s6_main_v36 V0)
theorem s7_main_v38 (V0 : Valuation τ sig (Elt F)) : s7 V0 (no_index (Proc.devRef .tc main_v38)) = (Cert.ReferenceIdeal.Read.val_main_v49 (F := F) (a1 V0) (a2 V0) (a3 V0)) :=
  (keep7 V0 main_v38 (by decide)).trans (s6_main_v38 V0)
theorem s7_main_v39 (V0 : Valuation τ sig (Elt F)) : s7 V0 (no_index (Proc.devRef .tc main_v39)) = (Cert.ReferenceIdeal.Read.val_main_v50 (F := F) (a1 V0) (a2 V0) (a3 V0)) :=
  (keep7 V0 main_v39 (by decide)).trans (s6_main_v39 V0)
theorem s7_main_v40 (V0 : Valuation τ sig (Elt F)) : s7 V0 (no_index (Proc.devRef .tc main_v40)) = (Cert.ReferenceIdeal.Read.val_main_v51 (F := F) (a1 V0) (a2 V0) (a3 V0)) :=
  (keep7 V0 main_v40 (by decide)).trans (s6_main_v40 V0)
theorem s7_main_v41 (V0 : Valuation τ sig (Elt F)) : s7 V0 (no_index (Proc.devRef .tc main_v41)) = (Cert.ReferenceIdeal.Read.val_main_v52 (F := F) (a1 V0) (a2 V0) (a3 V0)) :=
  (keep7 V0 main_v41 (by decide)).trans (s6_main_v41 V0)
theorem s7_main_v42 (V0 : Valuation τ sig (Elt F)) : s7 V0 (no_index (Proc.devRef .tc main_v42)) = (Cert.ReferenceIdeal.Read.val_main_v53 (F := F) (a1 V0) (a2 V0) (a3 V0)) :=
  (keep7 V0 main_v42 (by decide)).trans (s6_main_v42 V0)
theorem s7_main_v43 (V0 : Valuation τ sig (Elt F)) : s7 V0 (no_index (Proc.devRef .tc main_v43)) = (Cert.ReferenceIdeal.Read.val_main_v54 (F := F) (a1 V0) (a2 V0) (a3 V0)) :=
  (keep7 V0 main_v43 (by decide)).trans (s6_main_v43 V0)
theorem s7_main_v44 (V0 : Valuation τ sig (Elt F)) : s7 V0 (no_index (Proc.devRef .tc main_v44)) = (Cert.ReferenceIdeal.Read.val_main_v55 (F := F) (a1 V0) (a2 V0) (a3 V0)) :=
  (keep7 V0 main_v44 (by decide)).trans (s6_main_v44 V0)
set_option maxRecDepth 8192 in
set_option maxHeartbeats 2000000 in
theorem s7_main_v45 (V0 : Valuation τ sig (Elt F)) : s7 V0 (no_index (Proc.devRef .tc main_v45)) = (Cert.ReferenceIdeal.Read.val_main_v56 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl
set_option maxRecDepth 8192 in
set_option maxHeartbeats 2000000 in
theorem s7_main_v46 (V0 : Valuation τ sig (Elt F)) : s7 V0 (no_index (Proc.devRef .tc main_v46)) = (Cert.ReferenceIdeal.Read.val_main_v57 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl
set_option maxRecDepth 8192 in
set_option maxHeartbeats 2000000 in
theorem s7_main_v47 (V0 : Valuation τ sig (Elt F)) : s7 V0 (no_index (Proc.devRef .tc main_v47)) = (Cert.ReferenceIdeal.Read.val_main_v58 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl
set_option maxRecDepth 8192 in
set_option maxHeartbeats 2000000 in
theorem s7_main_v48 (V0 : Valuation τ sig (Elt F)) : s7 V0 (no_index (Proc.devRef .tc main_v48)) = (Cert.ReferenceIdeal.Read.val_main_v59 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl
set_option maxRecDepth 8192 in
set_option maxHeartbeats 2000000 in
theorem s7_main_v49 (V0 : Valuation τ sig (Elt F)) : s7 V0 (no_index (Proc.devRef .tc main_v49)) = (Cert.ReferenceIdeal.Read.val_main_v60 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl
set_option maxRecDepth 8192 in
set_option maxHeartbeats 2000000 in
theorem s7_main_v50 (V0 : Valuation τ sig (Elt F)) : s7 V0 (no_index (Proc.devRef .tc main_v50)) = (Cert.ReferenceIdeal.Read.val_main_v61 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl
set_option maxRecDepth 8192 in
set_option maxHeartbeats 2000000 in
theorem s7_main_v51 (V0 : Valuation τ sig (Elt F)) : s7 V0 (no_index (Proc.devRef .tc main_v51)) = (Cert.ReferenceIdeal.Read.val_main_v62 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl
set_option maxRecDepth 8192 in
set_option maxHeartbeats 2000000 in
theorem s7_main_v52 (V0 : Valuation τ sig (Elt F)) : s7 V0 (no_index (Proc.devRef .tc main_v52)) = (Cert.ReferenceIdeal.Read.val_main_v63 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl
set_option maxRecDepth 8192 in
set_option maxHeartbeats 2000000 in
theorem s7_main_v53 (V0 : Valuation τ sig (Elt F)) : s7 V0 (no_index (Proc.devRef .tc main_v53)) = (Cert.ReferenceIdeal.Read.val_main_v64 (F := F) (a1 V0) (a2 V0) (a3 V0)) := by
  unfold s7
  simp only [ops7, TRef.ternary, TRef.binary, TRef.nullary, TRef.unary, TRef.toBuf, TRef.ofBuf, cast_eq]
  after_results_simp
  try dsimp only [Matrix.cons_val]
  try after_results_simp
  first | (simp only [s6_main_v38]; rfl) | simp only [s6_main_v38] | rfl

set_option maxRecDepth 8192 in
/-- Window 8 of the host operations. -/
abbrev ops8 : List (HloOp τ sig (Elt F)) :=
  [ StableHlo.unary main_v38 main_v54 ((extractStridedSlice S4x1x16 ![0, 15, 0] · slices_S4x16x16_S4x1x16_0_15_0) : (⟨S4x16x16, .f32⟩ : BufTy).Contents (Elt F) → (⟨S4x1x16, .f32⟩ : BufTy).Contents (Elt F)),
    StableHlo.reshape main_v36 main_v55 (rfl : (.f32 : EltTy) = .f32) shapeCasts_S64x16x64x128_S4x16x16x64x128,
    StableHlo.unary main_v55 main_v56 ((extractStridedSlice S4x1x16x64x128 ![0, 0, 0, 0, 0] · slices_S4x16x16x64x128_S4x1x16x64x128_0_0_0_0_0) : (⟨S4x16x16x64x128, .f32⟩ : BufTy).Contents (Elt F) → (⟨S4x1x16x64x128, .f32⟩ : BufTy).Contents (Elt F)),
    StableHlo.unary main_v55 main_v57 ((extractStridedSlice S4x1x16x64x128 ![0, 1, 0, 0, 0] · slices_S4x16x16x64x128_S4x1x16x64x128_0_1_0_0_0) : (⟨S4x16x16x64x128, .f32⟩ : BufTy).Contents (Elt F) → (⟨S4x1x16x64x128, .f32⟩ : BufTy).Contents (Elt F)),
    StableHlo.unary main_v55 main_v58 ((extractStridedSlice S4x1x16x64x128 ![0, 2, 0, 0, 0] · slices_S4x16x16x64x128_S4x1x16x64x128_0_2_0_0_0) : (⟨S4x16x16x64x128, .f32⟩ : BufTy).Contents (Elt F) → (⟨S4x1x16x64x128, .f32⟩ : BufTy).Contents (Elt F)),
    StableHlo.unary main_v55 main_v59 ((extractStridedSlice S4x1x16x64x128 ![0, 3, 0, 0, 0] · slices_S4x16x16x64x128_S4x1x16x64x128_0_3_0_0_0) : (⟨S4x16x16x64x128, .f32⟩ : BufTy).Contents (Elt F) → (⟨S4x1x16x64x128, .f32⟩ : BufTy).Contents (Elt F)),
    StableHlo.unary main_v55 main_v60 ((extractStridedSlice S4x1x16x64x128 ![0, 4, 0, 0, 0] · slices_S4x16x16x64x128_S4x1x16x64x128_0_4_0_0_0) : (⟨S4x16x16x64x128, .f32⟩ : BufTy).Contents (Elt F) → (⟨S4x1x16x64x128, .f32⟩ : BufTy).Contents (Elt F)),
    StableHlo.unary main_v55 main_v61 ((extractStridedSlice S4x1x16x64x128 ![0, 5, 0, 0, 0] · slices_S4x16x16x64x128_S4x1x16x64x128_0_5_0_0_0) : (⟨S4x16x16x64x128, .f32⟩ : BufTy).Contents (Elt F) → (⟨S4x1x16x64x128, .f32⟩ : BufTy).Contents (Elt F)),
    StableHlo.unary main_v55 main_v62 ((extractStridedSlice S4x1x16x64x128 ![0, 6, 0, 0, 0] · slices_S4x16x16x64x128_S4x1x16x64x128_0_6_0_0_0) : (⟨S4x16x16x64x128, .f32⟩ : BufTy).Contents (Elt F) → (⟨S4x1x16x64x128, .f32⟩ : BufTy).Contents (Elt F)) ]
abbrev W8 : List (Ref sig .tc) := [main_v54, main_v55, main_v56, main_v57, main_v58, main_v59, main_v60, main_v61, main_v62]
set_option maxRecDepth 8192 in
theorem writes8 : (ops8 : List (HloOp τ sig (Elt F))).Forall fun op => op.writes ⊆ (W8.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 8. -/
def s8 (V0 : Valuation τ sig (Elt F)) : Valuation τ sig (Elt F) := after ops8 (s7 V0)
theorem keep8 (V0 : Valuation τ sig (Elt F)) (r : Ref sig .tc) (h : r ∉ W8) : s8 V0 (Proc.devRef .tc r) = (s7 V0) (Proc.devRef .tc r) :=
  after_of_writes_sub ops8 _ writes8 h
theorem s8_main_v1 (V0 : Valuation τ sig (Elt F)) : s8 V0 (no_index (Proc.devRef .tc main_v1)) = lanePad (a2 V0) :=
  (keep8 V0 main_v1 (by decide)).trans (s7_main_v1 V0)
theorem s8_main_v3 (V0 : Valuation τ sig (Elt F)) : s8 V0 (no_index (Proc.devRef .tc main_v3)) = lanePad (a3 V0) :=
  (keep8 V0 main_v3 (by decide)).trans (s7_main_v3 V0)
theorem s8_main_v5 (V0 : Valuation τ sig (Elt F)) : s8 V0 (no_index (Proc.devRef .tc main_v5)) = lanePad (a4 V0) :=
  (keep8 V0 main_v5 (by decide)).trans (s7_main_v5 V0)
theorem s8_main_v39 (V0 : Valuation τ sig (Elt F)) : s8 V0 (no_index (Proc.devRef .tc main_v39)) = (Cert.ReferenceIdeal.Read.val_main_v50 (F := F) (a1 V0) (a2 V0) (a3 V0)) :=
  (keep8 V0 main_v39 (by decide)).trans (s7_main_v39 V0)
theorem s8_main_v40 (V0 : Valuation τ sig (Elt F)) : s8 V0 (no_index (Proc.devRef .tc main_v40)) = (Cert.ReferenceIdeal.Read.val_main_v51 (F := F) (a1 V0) (a2 V0) (a3 V0)) :=
  (keep8 V0 main_v40 (by decide)).trans (s7_main_v40 V0)
theorem s8_main_v41 (V0 : Valuation τ sig (Elt F)) : s8 V0 (no_index (Proc.devRef .tc main_v41)) = (Cert.ReferenceIdeal.Read.val_main_v52 (F := F) (a1 V0) (a2 V0) (a3 V0)) :=
  (keep8 V0 main_v41 (by decide)).trans (s7_main_v41 V0)
theorem s8_main_v42 (V0 : Valuation τ sig (Elt F)) : s8 V0 (no_index (Proc.devRef .tc main_v42)) = (Cert.ReferenceIdeal.Read.val_main_v53 (F := F) (a1 V0) (a2 V0) (a3 V0)) :=
  (keep8 V0 main_v42 (by decide)).trans (s7_main_v42 V0)
theorem s8_main_v43 (V0 : Valuation τ sig (Elt F)) : s8 V0 (no_index (Proc.devRef .tc main_v43)) = (Cert.ReferenceIdeal.Read.val_main_v54 (F := F) (a1 V0) (a2 V0) (a3 V0)) :=
  (keep8 V0 main_v43 (by decide)).trans (s7_main_v43 V0)
theorem s8_main_v44 (V0 : Valuation τ sig (Elt F)) : s8 V0 (no_index (Proc.devRef .tc main_v44)) = (Cert.ReferenceIdeal.Read.val_main_v55 (F := F) (a1 V0) (a2 V0) (a3 V0)) :=
  (keep8 V0 main_v44 (by decide)).trans (s7_main_v44 V0)
theorem s8_main_v45 (V0 : Valuation τ sig (Elt F)) : s8 V0 (no_index (Proc.devRef .tc main_v45)) = (Cert.ReferenceIdeal.Read.val_main_v56 (F := F) (a1 V0) (a2 V0) (a3 V0)) :=
  (keep8 V0 main_v45 (by decide)).trans (s7_main_v45 V0)
theorem s8_main_v46 (V0 : Valuation τ sig (Elt F)) : s8 V0 (no_index (Proc.devRef .tc main_v46)) = (Cert.ReferenceIdeal.Read.val_main_v57 (F := F) (a1 V0) (a2 V0) (a3 V0)) :=
  (keep8 V0 main_v46 (by decide)).trans (s7_main_v46 V0)
theorem s8_main_v47 (V0 : Valuation τ sig (Elt F)) : s8 V0 (no_index (Proc.devRef .tc main_v47)) = (Cert.ReferenceIdeal.Read.val_main_v58 (F := F) (a1 V0) (a2 V0) (a3 V0)) :=
  (keep8 V0 main_v47 (by decide)).trans (s7_main_v47 V0)
theorem s8_main_v48 (V0 : Valuation τ sig (Elt F)) : s8 V0 (no_index (Proc.devRef .tc main_v48)) = (Cert.ReferenceIdeal.Read.val_main_v59 (F := F) (a1 V0) (a2 V0) (a3 V0)) :=
  (keep8 V0 main_v48 (by decide)).trans (s7_main_v48 V0)
theorem s8_main_v49 (V0 : Valuation τ sig (Elt F)) : s8 V0 (no_index (Proc.devRef .tc main_v49)) = (Cert.ReferenceIdeal.Read.val_main_v60 (F := F) (a1 V0) (a2 V0) (a3 V0)) :=
  (keep8 V0 main_v49 (by decide)).trans (s7_main_v49 V0)
theorem s8_main_v50 (V0 : Valuation τ sig (Elt F)) : s8 V0 (no_index (Proc.devRef .tc main_v50)) = (Cert.ReferenceIdeal.Read.val_main_v61 (F := F) (a1 V0) (a2 V0) (a3 V0)) :=
  (keep8 V0 main_v50 (by decide)).trans (s7_main_v50 V0)
theorem s8_main_v51 (V0 : Valuation τ sig (Elt F)) : s8 V0 (no_index (Proc.devRef .tc main_v51)) = (Cert.ReferenceIdeal.Read.val_main_v62 (F := F) (a1 V0) (a2 V0) (a3 V0)) :=
  (keep8 V0 main_v51 (by decide)).trans (s7_main_v51 V0)
theorem s8_main_v52 (V0 : Valuation τ sig (Elt F)) : s8 V0 (no_index (Proc.devRef .tc main_v52)) = (Cert.ReferenceIdeal.Read.val_main_v63 (F := F) (a1 V0) (a2 V0) (a3 V0)) :=
  (keep8 V0 main_v52 (by decide)).trans (s7_main_v52 V0)
theorem s8_main_v53 (V0 : Valuation τ sig (Elt F)) : s8 V0 (no_index (Proc.devRef .tc main_v53)) = (Cert.ReferenceIdeal.Read.val_main_v64 (F := F) (a1 V0) (a2 V0) (a3 V0)) :=
  (keep8 V0 main_v53 (by decide)).trans (s7_main_v53 V0)
set_option maxRecDepth 8192 in
set_option maxHeartbeats 2000000 in
theorem s8_main_v55 (V0 : Valuation τ sig (Elt F)) : s8 V0 (no_index (Proc.devRef .tc main_v55)) = (Cert.ReferenceIdeal.Read.val_main_v66 (F := F) (a0 V0) (a1 V0) (a2 V0) (a3 V0)) := by
  unfold s8
  simp only [ops8, TRef.ternary, TRef.binary, TRef.nullary, TRef.unary, TRef.toBuf, TRef.ofBuf, cast_eq]
  after_results_simp
  try dsimp only [Matrix.cons_val]
  try after_results_simp
  first | (simp only [s7_main_v36, s7_main_v38]; rfl) | simp only [s7_main_v36, s7_main_v38] | rfl
set_option maxRecDepth 8192 in
set_option maxHeartbeats 2000000 in
theorem s8_main_v56 (V0 : Valuation τ sig (Elt F)) : s8 V0 (no_index (Proc.devRef .tc main_v56)) = (Cert.ReferenceIdeal.Read.val_main_v67 (F := F) (a0 V0) (a1 V0) (a2 V0) (a3 V0)) := by
  unfold s8
  simp only [ops8, TRef.ternary, TRef.binary, TRef.nullary, TRef.unary, TRef.toBuf, TRef.ofBuf, cast_eq]
  after_results_simp
  try dsimp only [Matrix.cons_val]
  try after_results_simp
  first | (simp only [s7_main_v36, s7_main_v38]; rfl) | simp only [s7_main_v36, s7_main_v38] | rfl
set_option maxRecDepth 8192 in
set_option maxHeartbeats 2000000 in
theorem s8_main_v57 (V0 : Valuation τ sig (Elt F)) : s8 V0 (no_index (Proc.devRef .tc main_v57)) = (Cert.ReferenceIdeal.Read.val_main_v68 (F := F) (a0 V0) (a1 V0) (a2 V0) (a3 V0)) := by
  unfold s8
  simp only [ops8, TRef.ternary, TRef.binary, TRef.nullary, TRef.unary, TRef.toBuf, TRef.ofBuf, cast_eq]
  after_results_simp
  try dsimp only [Matrix.cons_val]
  try after_results_simp
  first | (simp only [s7_main_v36, s7_main_v38]; rfl) | simp only [s7_main_v36, s7_main_v38] | rfl
set_option maxRecDepth 8192 in
set_option maxHeartbeats 2000000 in
theorem s8_main_v58 (V0 : Valuation τ sig (Elt F)) : s8 V0 (no_index (Proc.devRef .tc main_v58)) = (Cert.ReferenceIdeal.Read.val_main_v69 (F := F) (a0 V0) (a1 V0) (a2 V0) (a3 V0)) := by
  unfold s8
  simp only [ops8, TRef.ternary, TRef.binary, TRef.nullary, TRef.unary, TRef.toBuf, TRef.ofBuf, cast_eq]
  after_results_simp
  try dsimp only [Matrix.cons_val]
  try after_results_simp
  first | (simp only [s7_main_v36, s7_main_v38]; rfl) | simp only [s7_main_v36, s7_main_v38] | rfl
set_option maxRecDepth 8192 in
set_option maxHeartbeats 2000000 in
theorem s8_main_v59 (V0 : Valuation τ sig (Elt F)) : s8 V0 (no_index (Proc.devRef .tc main_v59)) = (Cert.ReferenceIdeal.Read.val_main_v70 (F := F) (a0 V0) (a1 V0) (a2 V0) (a3 V0)) := by
  unfold s8
  simp only [ops8, TRef.ternary, TRef.binary, TRef.nullary, TRef.unary, TRef.toBuf, TRef.ofBuf, cast_eq]
  after_results_simp
  try dsimp only [Matrix.cons_val]
  try after_results_simp
  first | (simp only [s7_main_v36, s7_main_v38]; rfl) | simp only [s7_main_v36, s7_main_v38] | rfl
set_option maxRecDepth 8192 in
set_option maxHeartbeats 2000000 in
theorem s8_main_v60 (V0 : Valuation τ sig (Elt F)) : s8 V0 (no_index (Proc.devRef .tc main_v60)) = (Cert.ReferenceIdeal.Read.val_main_v71 (F := F) (a0 V0) (a1 V0) (a2 V0) (a3 V0)) := by
  unfold s8
  simp only [ops8, TRef.ternary, TRef.binary, TRef.nullary, TRef.unary, TRef.toBuf, TRef.ofBuf, cast_eq]
  after_results_simp
  try dsimp only [Matrix.cons_val]
  try after_results_simp
  first | (simp only [s7_main_v36, s7_main_v38]; rfl) | simp only [s7_main_v36, s7_main_v38] | rfl
set_option maxRecDepth 8192 in
set_option maxHeartbeats 2000000 in
theorem s8_main_v61 (V0 : Valuation τ sig (Elt F)) : s8 V0 (no_index (Proc.devRef .tc main_v61)) = (Cert.ReferenceIdeal.Read.val_main_v72 (F := F) (a0 V0) (a1 V0) (a2 V0) (a3 V0)) := by
  unfold s8
  simp only [ops8, TRef.ternary, TRef.binary, TRef.nullary, TRef.unary, TRef.toBuf, TRef.ofBuf, cast_eq]
  after_results_simp
  try dsimp only [Matrix.cons_val]
  try after_results_simp
  first | (simp only [s7_main_v36, s7_main_v38]; rfl) | simp only [s7_main_v36, s7_main_v38] | rfl
set_option maxRecDepth 8192 in
set_option maxHeartbeats 2000000 in
theorem s8_main_v62 (V0 : Valuation τ sig (Elt F)) : s8 V0 (no_index (Proc.devRef .tc main_v62)) = (Cert.ReferenceIdeal.Read.val_main_v73 (F := F) (a0 V0) (a1 V0) (a2 V0) (a3 V0)) := by
  unfold s8
  simp only [ops8, TRef.ternary, TRef.binary, TRef.nullary, TRef.unary, TRef.toBuf, TRef.ofBuf, cast_eq]
  after_results_simp
  try dsimp only [Matrix.cons_val]
  try after_results_simp
  first | (simp only [s7_main_v36, s7_main_v38]; rfl) | simp only [s7_main_v36, s7_main_v38] | rfl

set_option maxRecDepth 8192 in
/-- Window 9 of the host operations. -/
abbrev ops9 : List (HloOp τ sig (Elt F)) :=
  [ StableHlo.unary main_v55 main_v63 ((extractStridedSlice S4x1x16x64x128 ![0, 7, 0, 0, 0] · slices_S4x16x16x64x128_S4x1x16x64x128_0_7_0_0_0) : (⟨S4x16x16x64x128, .f32⟩ : BufTy).Contents (Elt F) → (⟨S4x1x16x64x128, .f32⟩ : BufTy).Contents (Elt F)),
    StableHlo.unary main_v55 main_v64 ((extractStridedSlice S4x1x16x64x128 ![0, 8, 0, 0, 0] · slices_S4x16x16x64x128_S4x1x16x64x128_0_8_0_0_0) : (⟨S4x16x16x64x128, .f32⟩ : BufTy).Contents (Elt F) → (⟨S4x1x16x64x128, .f32⟩ : BufTy).Contents (Elt F)),
    StableHlo.unary main_v55 main_v65 ((extractStridedSlice S4x1x16x64x128 ![0, 9, 0, 0, 0] · slices_S4x16x16x64x128_S4x1x16x64x128_0_9_0_0_0) : (⟨S4x16x16x64x128, .f32⟩ : BufTy).Contents (Elt F) → (⟨S4x1x16x64x128, .f32⟩ : BufTy).Contents (Elt F)),
    StableHlo.unary main_v55 main_v66 ((extractStridedSlice S4x1x16x64x128 ![0, 10, 0, 0, 0] · slices_S4x16x16x64x128_S4x1x16x64x128_0_10_0_0_0) : (⟨S4x16x16x64x128, .f32⟩ : BufTy).Contents (Elt F) → (⟨S4x1x16x64x128, .f32⟩ : BufTy).Contents (Elt F)),
    StableHlo.unary main_v55 main_v67 ((extractStridedSlice S4x1x16x64x128 ![0, 11, 0, 0, 0] · slices_S4x16x16x64x128_S4x1x16x64x128_0_11_0_0_0) : (⟨S4x16x16x64x128, .f32⟩ : BufTy).Contents (Elt F) → (⟨S4x1x16x64x128, .f32⟩ : BufTy).Contents (Elt F)),
    StableHlo.unary main_v55 main_v68 ((extractStridedSlice S4x1x16x64x128 ![0, 12, 0, 0, 0] · slices_S4x16x16x64x128_S4x1x16x64x128_0_12_0_0_0) : (⟨S4x16x16x64x128, .f32⟩ : BufTy).Contents (Elt F) → (⟨S4x1x16x64x128, .f32⟩ : BufTy).Contents (Elt F)),
    StableHlo.unary main_v55 main_v69 ((extractStridedSlice S4x1x16x64x128 ![0, 13, 0, 0, 0] · slices_S4x16x16x64x128_S4x1x16x64x128_0_13_0_0_0) : (⟨S4x16x16x64x128, .f32⟩ : BufTy).Contents (Elt F) → (⟨S4x1x16x64x128, .f32⟩ : BufTy).Contents (Elt F)),
    StableHlo.unary main_v55 main_v70 ((extractStridedSlice S4x1x16x64x128 ![0, 14, 0, 0, 0] · slices_S4x16x16x64x128_S4x1x16x64x128_0_14_0_0_0) : (⟨S4x16x16x64x128, .f32⟩ : BufTy).Contents (Elt F) → (⟨S4x1x16x64x128, .f32⟩ : BufTy).Contents (Elt F)),
    StableHlo.unary main_v55 main_v71 ((extractStridedSlice S4x1x16x64x128 ![0, 15, 0, 0, 0] · slices_S4x16x16x64x128_S4x1x16x64x128_0_15_0_0_0) : (⟨S4x16x16x64x128, .f32⟩ : BufTy).Contents (Elt F) → (⟨S4x1x16x64x128, .f32⟩ : BufTy).Contents (Elt F)) ]
abbrev W9 : List (Ref sig .tc) := [main_v63, main_v64, main_v65, main_v66, main_v67, main_v68, main_v69, main_v70, main_v71]
set_option maxRecDepth 8192 in
theorem writes9 : (ops9 : List (HloOp τ sig (Elt F))).Forall fun op => op.writes ⊆ (W9.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 9. -/
def s9 (V0 : Valuation τ sig (Elt F)) : Valuation τ sig (Elt F) := after ops9 (s8 V0)
theorem keep9 (V0 : Valuation τ sig (Elt F)) (r : Ref sig .tc) (h : r ∉ W9) : s9 V0 (Proc.devRef .tc r) = (s8 V0) (Proc.devRef .tc r) :=
  after_of_writes_sub ops9 _ writes9 h
theorem s9_main_v1 (V0 : Valuation τ sig (Elt F)) : s9 V0 (no_index (Proc.devRef .tc main_v1)) = lanePad (a2 V0) :=
  (keep9 V0 main_v1 (by decide)).trans (s8_main_v1 V0)
theorem s9_main_v3 (V0 : Valuation τ sig (Elt F)) : s9 V0 (no_index (Proc.devRef .tc main_v3)) = lanePad (a3 V0) :=
  (keep9 V0 main_v3 (by decide)).trans (s8_main_v3 V0)
theorem s9_main_v5 (V0 : Valuation τ sig (Elt F)) : s9 V0 (no_index (Proc.devRef .tc main_v5)) = lanePad (a4 V0) :=
  (keep9 V0 main_v5 (by decide)).trans (s8_main_v5 V0)
theorem s9_main_v39 (V0 : Valuation τ sig (Elt F)) : s9 V0 (no_index (Proc.devRef .tc main_v39)) = (Cert.ReferenceIdeal.Read.val_main_v50 (F := F) (a1 V0) (a2 V0) (a3 V0)) :=
  (keep9 V0 main_v39 (by decide)).trans (s8_main_v39 V0)
theorem s9_main_v40 (V0 : Valuation τ sig (Elt F)) : s9 V0 (no_index (Proc.devRef .tc main_v40)) = (Cert.ReferenceIdeal.Read.val_main_v51 (F := F) (a1 V0) (a2 V0) (a3 V0)) :=
  (keep9 V0 main_v40 (by decide)).trans (s8_main_v40 V0)
theorem s9_main_v41 (V0 : Valuation τ sig (Elt F)) : s9 V0 (no_index (Proc.devRef .tc main_v41)) = (Cert.ReferenceIdeal.Read.val_main_v52 (F := F) (a1 V0) (a2 V0) (a3 V0)) :=
  (keep9 V0 main_v41 (by decide)).trans (s8_main_v41 V0)
theorem s9_main_v42 (V0 : Valuation τ sig (Elt F)) : s9 V0 (no_index (Proc.devRef .tc main_v42)) = (Cert.ReferenceIdeal.Read.val_main_v53 (F := F) (a1 V0) (a2 V0) (a3 V0)) :=
  (keep9 V0 main_v42 (by decide)).trans (s8_main_v42 V0)
theorem s9_main_v43 (V0 : Valuation τ sig (Elt F)) : s9 V0 (no_index (Proc.devRef .tc main_v43)) = (Cert.ReferenceIdeal.Read.val_main_v54 (F := F) (a1 V0) (a2 V0) (a3 V0)) :=
  (keep9 V0 main_v43 (by decide)).trans (s8_main_v43 V0)
theorem s9_main_v44 (V0 : Valuation τ sig (Elt F)) : s9 V0 (no_index (Proc.devRef .tc main_v44)) = (Cert.ReferenceIdeal.Read.val_main_v55 (F := F) (a1 V0) (a2 V0) (a3 V0)) :=
  (keep9 V0 main_v44 (by decide)).trans (s8_main_v44 V0)
theorem s9_main_v45 (V0 : Valuation τ sig (Elt F)) : s9 V0 (no_index (Proc.devRef .tc main_v45)) = (Cert.ReferenceIdeal.Read.val_main_v56 (F := F) (a1 V0) (a2 V0) (a3 V0)) :=
  (keep9 V0 main_v45 (by decide)).trans (s8_main_v45 V0)
theorem s9_main_v46 (V0 : Valuation τ sig (Elt F)) : s9 V0 (no_index (Proc.devRef .tc main_v46)) = (Cert.ReferenceIdeal.Read.val_main_v57 (F := F) (a1 V0) (a2 V0) (a3 V0)) :=
  (keep9 V0 main_v46 (by decide)).trans (s8_main_v46 V0)
theorem s9_main_v47 (V0 : Valuation τ sig (Elt F)) : s9 V0 (no_index (Proc.devRef .tc main_v47)) = (Cert.ReferenceIdeal.Read.val_main_v58 (F := F) (a1 V0) (a2 V0) (a3 V0)) :=
  (keep9 V0 main_v47 (by decide)).trans (s8_main_v47 V0)
theorem s9_main_v48 (V0 : Valuation τ sig (Elt F)) : s9 V0 (no_index (Proc.devRef .tc main_v48)) = (Cert.ReferenceIdeal.Read.val_main_v59 (F := F) (a1 V0) (a2 V0) (a3 V0)) :=
  (keep9 V0 main_v48 (by decide)).trans (s8_main_v48 V0)
theorem s9_main_v49 (V0 : Valuation τ sig (Elt F)) : s9 V0 (no_index (Proc.devRef .tc main_v49)) = (Cert.ReferenceIdeal.Read.val_main_v60 (F := F) (a1 V0) (a2 V0) (a3 V0)) :=
  (keep9 V0 main_v49 (by decide)).trans (s8_main_v49 V0)
theorem s9_main_v50 (V0 : Valuation τ sig (Elt F)) : s9 V0 (no_index (Proc.devRef .tc main_v50)) = (Cert.ReferenceIdeal.Read.val_main_v61 (F := F) (a1 V0) (a2 V0) (a3 V0)) :=
  (keep9 V0 main_v50 (by decide)).trans (s8_main_v50 V0)
theorem s9_main_v51 (V0 : Valuation τ sig (Elt F)) : s9 V0 (no_index (Proc.devRef .tc main_v51)) = (Cert.ReferenceIdeal.Read.val_main_v62 (F := F) (a1 V0) (a2 V0) (a3 V0)) :=
  (keep9 V0 main_v51 (by decide)).trans (s8_main_v51 V0)
theorem s9_main_v52 (V0 : Valuation τ sig (Elt F)) : s9 V0 (no_index (Proc.devRef .tc main_v52)) = (Cert.ReferenceIdeal.Read.val_main_v63 (F := F) (a1 V0) (a2 V0) (a3 V0)) :=
  (keep9 V0 main_v52 (by decide)).trans (s8_main_v52 V0)
theorem s9_main_v53 (V0 : Valuation τ sig (Elt F)) : s9 V0 (no_index (Proc.devRef .tc main_v53)) = (Cert.ReferenceIdeal.Read.val_main_v64 (F := F) (a1 V0) (a2 V0) (a3 V0)) :=
  (keep9 V0 main_v53 (by decide)).trans (s8_main_v53 V0)
theorem s9_main_v56 (V0 : Valuation τ sig (Elt F)) : s9 V0 (no_index (Proc.devRef .tc main_v56)) = (Cert.ReferenceIdeal.Read.val_main_v67 (F := F) (a0 V0) (a1 V0) (a2 V0) (a3 V0)) :=
  (keep9 V0 main_v56 (by decide)).trans (s8_main_v56 V0)
theorem s9_main_v57 (V0 : Valuation τ sig (Elt F)) : s9 V0 (no_index (Proc.devRef .tc main_v57)) = (Cert.ReferenceIdeal.Read.val_main_v68 (F := F) (a0 V0) (a1 V0) (a2 V0) (a3 V0)) :=
  (keep9 V0 main_v57 (by decide)).trans (s8_main_v57 V0)
theorem s9_main_v58 (V0 : Valuation τ sig (Elt F)) : s9 V0 (no_index (Proc.devRef .tc main_v58)) = (Cert.ReferenceIdeal.Read.val_main_v69 (F := F) (a0 V0) (a1 V0) (a2 V0) (a3 V0)) :=
  (keep9 V0 main_v58 (by decide)).trans (s8_main_v58 V0)
theorem s9_main_v59 (V0 : Valuation τ sig (Elt F)) : s9 V0 (no_index (Proc.devRef .tc main_v59)) = (Cert.ReferenceIdeal.Read.val_main_v70 (F := F) (a0 V0) (a1 V0) (a2 V0) (a3 V0)) :=
  (keep9 V0 main_v59 (by decide)).trans (s8_main_v59 V0)
theorem s9_main_v60 (V0 : Valuation τ sig (Elt F)) : s9 V0 (no_index (Proc.devRef .tc main_v60)) = (Cert.ReferenceIdeal.Read.val_main_v71 (F := F) (a0 V0) (a1 V0) (a2 V0) (a3 V0)) :=
  (keep9 V0 main_v60 (by decide)).trans (s8_main_v60 V0)
theorem s9_main_v61 (V0 : Valuation τ sig (Elt F)) : s9 V0 (no_index (Proc.devRef .tc main_v61)) = (Cert.ReferenceIdeal.Read.val_main_v72 (F := F) (a0 V0) (a1 V0) (a2 V0) (a3 V0)) :=
  (keep9 V0 main_v61 (by decide)).trans (s8_main_v61 V0)
theorem s9_main_v62 (V0 : Valuation τ sig (Elt F)) : s9 V0 (no_index (Proc.devRef .tc main_v62)) = (Cert.ReferenceIdeal.Read.val_main_v73 (F := F) (a0 V0) (a1 V0) (a2 V0) (a3 V0)) :=
  (keep9 V0 main_v62 (by decide)).trans (s8_main_v62 V0)
set_option maxRecDepth 8192 in
set_option maxHeartbeats 2000000 in
theorem s9_main_v63 (V0 : Valuation τ sig (Elt F)) : s9 V0 (no_index (Proc.devRef .tc main_v63)) = (Cert.ReferenceIdeal.Read.val_main_v74 (F := F) (a0 V0) (a1 V0) (a2 V0) (a3 V0)) := by
  unfold s9
  simp only [ops9, TRef.ternary, TRef.binary, TRef.nullary, TRef.unary, TRef.toBuf, TRef.ofBuf, cast_eq]
  after_results_simp
  try dsimp only [Matrix.cons_val]
  try after_results_simp
  first | (simp only [s8_main_v55]; rfl) | simp only [s8_main_v55] | rfl
set_option maxRecDepth 8192 in
set_option maxHeartbeats 2000000 in
theorem s9_main_v64 (V0 : Valuation τ sig (Elt F)) : s9 V0 (no_index (Proc.devRef .tc main_v64)) = (Cert.ReferenceIdeal.Read.val_main_v75 (F := F) (a0 V0) (a1 V0) (a2 V0) (a3 V0)) := by
  unfold s9
  simp only [ops9, TRef.ternary, TRef.binary, TRef.nullary, TRef.unary, TRef.toBuf, TRef.ofBuf, cast_eq]
  after_results_simp
  try dsimp only [Matrix.cons_val]
  try after_results_simp
  first | (simp only [s8_main_v55]; rfl) | simp only [s8_main_v55] | rfl
set_option maxRecDepth 8192 in
set_option maxHeartbeats 2000000 in
theorem s9_main_v65 (V0 : Valuation τ sig (Elt F)) : s9 V0 (no_index (Proc.devRef .tc main_v65)) = (Cert.ReferenceIdeal.Read.val_main_v76 (F := F) (a0 V0) (a1 V0) (a2 V0) (a3 V0)) := by
  unfold s9
  simp only [ops9, TRef.ternary, TRef.binary, TRef.nullary, TRef.unary, TRef.toBuf, TRef.ofBuf, cast_eq]
  after_results_simp
  try dsimp only [Matrix.cons_val]
  try after_results_simp
  first | (simp only [s8_main_v55]; rfl) | simp only [s8_main_v55] | rfl
set_option maxRecDepth 8192 in
set_option maxHeartbeats 2000000 in
theorem s9_main_v66 (V0 : Valuation τ sig (Elt F)) : s9 V0 (no_index (Proc.devRef .tc main_v66)) = (Cert.ReferenceIdeal.Read.val_main_v77 (F := F) (a0 V0) (a1 V0) (a2 V0) (a3 V0)) := by
  unfold s9
  simp only [ops9, TRef.ternary, TRef.binary, TRef.nullary, TRef.unary, TRef.toBuf, TRef.ofBuf, cast_eq]
  after_results_simp
  try dsimp only [Matrix.cons_val]
  try after_results_simp
  first | (simp only [s8_main_v55]; rfl) | simp only [s8_main_v55] | rfl
set_option maxRecDepth 8192 in
set_option maxHeartbeats 2000000 in
theorem s9_main_v67 (V0 : Valuation τ sig (Elt F)) : s9 V0 (no_index (Proc.devRef .tc main_v67)) = (Cert.ReferenceIdeal.Read.val_main_v78 (F := F) (a0 V0) (a1 V0) (a2 V0) (a3 V0)) := by
  unfold s9
  simp only [ops9, TRef.ternary, TRef.binary, TRef.nullary, TRef.unary, TRef.toBuf, TRef.ofBuf, cast_eq]
  after_results_simp
  try dsimp only [Matrix.cons_val]
  try after_results_simp
  first | (simp only [s8_main_v55]; rfl) | simp only [s8_main_v55] | rfl
set_option maxRecDepth 8192 in
set_option maxHeartbeats 2000000 in
theorem s9_main_v68 (V0 : Valuation τ sig (Elt F)) : s9 V0 (no_index (Proc.devRef .tc main_v68)) = (Cert.ReferenceIdeal.Read.val_main_v79 (F := F) (a0 V0) (a1 V0) (a2 V0) (a3 V0)) := by
  unfold s9
  simp only [ops9, TRef.ternary, TRef.binary, TRef.nullary, TRef.unary, TRef.toBuf, TRef.ofBuf, cast_eq]
  after_results_simp
  try dsimp only [Matrix.cons_val]
  try after_results_simp
  first | (simp only [s8_main_v55]; rfl) | simp only [s8_main_v55] | rfl
set_option maxRecDepth 8192 in
set_option maxHeartbeats 2000000 in
theorem s9_main_v69 (V0 : Valuation τ sig (Elt F)) : s9 V0 (no_index (Proc.devRef .tc main_v69)) = (Cert.ReferenceIdeal.Read.val_main_v80 (F := F) (a0 V0) (a1 V0) (a2 V0) (a3 V0)) := by
  unfold s9
  simp only [ops9, TRef.ternary, TRef.binary, TRef.nullary, TRef.unary, TRef.toBuf, TRef.ofBuf, cast_eq]
  after_results_simp
  try dsimp only [Matrix.cons_val]
  try after_results_simp
  first | (simp only [s8_main_v55]; rfl) | simp only [s8_main_v55] | rfl
set_option maxRecDepth 8192 in
set_option maxHeartbeats 2000000 in
theorem s9_main_v70 (V0 : Valuation τ sig (Elt F)) : s9 V0 (no_index (Proc.devRef .tc main_v70)) = (Cert.ReferenceIdeal.Read.val_main_v81 (F := F) (a0 V0) (a1 V0) (a2 V0) (a3 V0)) := by
  unfold s9
  simp only [ops9, TRef.ternary, TRef.binary, TRef.nullary, TRef.unary, TRef.toBuf, TRef.ofBuf, cast_eq]
  after_results_simp
  try dsimp only [Matrix.cons_val]
  try after_results_simp
  first | (simp only [s8_main_v55]; rfl) | simp only [s8_main_v55] | rfl

set_option maxRecDepth 8192 in
/-- Window 10 of the host operations. -/
abbrev ops10 : List (HloOp τ sig (Elt F)) :=
  [ StableHlo.nullary main_cst (constant S_ .f32 0x00000000#32),
    StableHlo.unary main_cst main_v72 (broadcastInDim S4x1x16x64x128 ![] bcast_S_S4x1x16x64x128 : (⟨S_, .f32⟩ : BufTy).Contents (Elt F) → (⟨S4x1x16x64x128, .f32⟩ : BufTy).Contents (Elt F)),
    StableHlo.unary main_v39 main_v73 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v72 main_v73 main_v74 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v74 main_v56 main_v75 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v40 main_v76 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v75 main_v76 main_v77 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v77 main_v57 main_v78 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v41 main_v79 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)) ]
abbrev W10 : List (Ref sig .tc) := [main_cst, main_v72, main_v73, main_v74, main_v75, main_v76, main_v77, main_v78, main_v79]
set_option maxRecDepth 8192 in
theorem writes10 : (ops10 : List (HloOp τ sig (Elt F))).Forall fun op => op.writes ⊆ (W10.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 10. -/
def s10 (V0 : Valuation τ sig (Elt F)) : Valuation τ sig (Elt F) := after ops10 (s9 V0)
theorem keep10 (V0 : Valuation τ sig (Elt F)) (r : Ref sig .tc) (h : r ∉ W10) : s10 V0 (Proc.devRef .tc r) = (s9 V0) (Proc.devRef .tc r) :=
  after_of_writes_sub ops10 _ writes10 h
theorem s10_main_v1 (V0 : Valuation τ sig (Elt F)) : s10 V0 (no_index (Proc.devRef .tc main_v1)) = lanePad (a2 V0) :=
  (keep10 V0 main_v1 (by decide)).trans (s9_main_v1 V0)
theorem s10_main_v3 (V0 : Valuation τ sig (Elt F)) : s10 V0 (no_index (Proc.devRef .tc main_v3)) = lanePad (a3 V0) :=
  (keep10 V0 main_v3 (by decide)).trans (s9_main_v3 V0)
theorem s10_main_v5 (V0 : Valuation τ sig (Elt F)) : s10 V0 (no_index (Proc.devRef .tc main_v5)) = lanePad (a4 V0) :=
  (keep10 V0 main_v5 (by decide)).trans (s9_main_v5 V0)
theorem s10_main_v42 (V0 : Valuation τ sig (Elt F)) : s10 V0 (no_index (Proc.devRef .tc main_v42)) = (Cert.ReferenceIdeal.Read.val_main_v53 (F := F) (a1 V0) (a2 V0) (a3 V0)) :=
  (keep10 V0 main_v42 (by decide)).trans (s9_main_v42 V0)
theorem s10_main_v43 (V0 : Valuation τ sig (Elt F)) : s10 V0 (no_index (Proc.devRef .tc main_v43)) = (Cert.ReferenceIdeal.Read.val_main_v54 (F := F) (a1 V0) (a2 V0) (a3 V0)) :=
  (keep10 V0 main_v43 (by decide)).trans (s9_main_v43 V0)
theorem s10_main_v44 (V0 : Valuation τ sig (Elt F)) : s10 V0 (no_index (Proc.devRef .tc main_v44)) = (Cert.ReferenceIdeal.Read.val_main_v55 (F := F) (a1 V0) (a2 V0) (a3 V0)) :=
  (keep10 V0 main_v44 (by decide)).trans (s9_main_v44 V0)
theorem s10_main_v45 (V0 : Valuation τ sig (Elt F)) : s10 V0 (no_index (Proc.devRef .tc main_v45)) = (Cert.ReferenceIdeal.Read.val_main_v56 (F := F) (a1 V0) (a2 V0) (a3 V0)) :=
  (keep10 V0 main_v45 (by decide)).trans (s9_main_v45 V0)
theorem s10_main_v46 (V0 : Valuation τ sig (Elt F)) : s10 V0 (no_index (Proc.devRef .tc main_v46)) = (Cert.ReferenceIdeal.Read.val_main_v57 (F := F) (a1 V0) (a2 V0) (a3 V0)) :=
  (keep10 V0 main_v46 (by decide)).trans (s9_main_v46 V0)
theorem s10_main_v47 (V0 : Valuation τ sig (Elt F)) : s10 V0 (no_index (Proc.devRef .tc main_v47)) = (Cert.ReferenceIdeal.Read.val_main_v58 (F := F) (a1 V0) (a2 V0) (a3 V0)) :=
  (keep10 V0 main_v47 (by decide)).trans (s9_main_v47 V0)
theorem s10_main_v48 (V0 : Valuation τ sig (Elt F)) : s10 V0 (no_index (Proc.devRef .tc main_v48)) = (Cert.ReferenceIdeal.Read.val_main_v59 (F := F) (a1 V0) (a2 V0) (a3 V0)) :=
  (keep10 V0 main_v48 (by decide)).trans (s9_main_v48 V0)
theorem s10_main_v49 (V0 : Valuation τ sig (Elt F)) : s10 V0 (no_index (Proc.devRef .tc main_v49)) = (Cert.ReferenceIdeal.Read.val_main_v60 (F := F) (a1 V0) (a2 V0) (a3 V0)) :=
  (keep10 V0 main_v49 (by decide)).trans (s9_main_v49 V0)
theorem s10_main_v50 (V0 : Valuation τ sig (Elt F)) : s10 V0 (no_index (Proc.devRef .tc main_v50)) = (Cert.ReferenceIdeal.Read.val_main_v61 (F := F) (a1 V0) (a2 V0) (a3 V0)) :=
  (keep10 V0 main_v50 (by decide)).trans (s9_main_v50 V0)
theorem s10_main_v51 (V0 : Valuation τ sig (Elt F)) : s10 V0 (no_index (Proc.devRef .tc main_v51)) = (Cert.ReferenceIdeal.Read.val_main_v62 (F := F) (a1 V0) (a2 V0) (a3 V0)) :=
  (keep10 V0 main_v51 (by decide)).trans (s9_main_v51 V0)
theorem s10_main_v52 (V0 : Valuation τ sig (Elt F)) : s10 V0 (no_index (Proc.devRef .tc main_v52)) = (Cert.ReferenceIdeal.Read.val_main_v63 (F := F) (a1 V0) (a2 V0) (a3 V0)) :=
  (keep10 V0 main_v52 (by decide)).trans (s9_main_v52 V0)
theorem s10_main_v53 (V0 : Valuation τ sig (Elt F)) : s10 V0 (no_index (Proc.devRef .tc main_v53)) = (Cert.ReferenceIdeal.Read.val_main_v64 (F := F) (a1 V0) (a2 V0) (a3 V0)) :=
  (keep10 V0 main_v53 (by decide)).trans (s9_main_v53 V0)
theorem s10_main_v58 (V0 : Valuation τ sig (Elt F)) : s10 V0 (no_index (Proc.devRef .tc main_v58)) = (Cert.ReferenceIdeal.Read.val_main_v69 (F := F) (a0 V0) (a1 V0) (a2 V0) (a3 V0)) :=
  (keep10 V0 main_v58 (by decide)).trans (s9_main_v58 V0)
theorem s10_main_v59 (V0 : Valuation τ sig (Elt F)) : s10 V0 (no_index (Proc.devRef .tc main_v59)) = (Cert.ReferenceIdeal.Read.val_main_v70 (F := F) (a0 V0) (a1 V0) (a2 V0) (a3 V0)) :=
  (keep10 V0 main_v59 (by decide)).trans (s9_main_v59 V0)
theorem s10_main_v60 (V0 : Valuation τ sig (Elt F)) : s10 V0 (no_index (Proc.devRef .tc main_v60)) = (Cert.ReferenceIdeal.Read.val_main_v71 (F := F) (a0 V0) (a1 V0) (a2 V0) (a3 V0)) :=
  (keep10 V0 main_v60 (by decide)).trans (s9_main_v60 V0)
theorem s10_main_v61 (V0 : Valuation τ sig (Elt F)) : s10 V0 (no_index (Proc.devRef .tc main_v61)) = (Cert.ReferenceIdeal.Read.val_main_v72 (F := F) (a0 V0) (a1 V0) (a2 V0) (a3 V0)) :=
  (keep10 V0 main_v61 (by decide)).trans (s9_main_v61 V0)
theorem s10_main_v62 (V0 : Valuation τ sig (Elt F)) : s10 V0 (no_index (Proc.devRef .tc main_v62)) = (Cert.ReferenceIdeal.Read.val_main_v73 (F := F) (a0 V0) (a1 V0) (a2 V0) (a3 V0)) :=
  (keep10 V0 main_v62 (by decide)).trans (s9_main_v62 V0)
theorem s10_main_v63 (V0 : Valuation τ sig (Elt F)) : s10 V0 (no_index (Proc.devRef .tc main_v63)) = (Cert.ReferenceIdeal.Read.val_main_v74 (F := F) (a0 V0) (a1 V0) (a2 V0) (a3 V0)) :=
  (keep10 V0 main_v63 (by decide)).trans (s9_main_v63 V0)
theorem s10_main_v64 (V0 : Valuation τ sig (Elt F)) : s10 V0 (no_index (Proc.devRef .tc main_v64)) = (Cert.ReferenceIdeal.Read.val_main_v75 (F := F) (a0 V0) (a1 V0) (a2 V0) (a3 V0)) :=
  (keep10 V0 main_v64 (by decide)).trans (s9_main_v64 V0)
theorem s10_main_v65 (V0 : Valuation τ sig (Elt F)) : s10 V0 (no_index (Proc.devRef .tc main_v65)) = (Cert.ReferenceIdeal.Read.val_main_v76 (F := F) (a0 V0) (a1 V0) (a2 V0) (a3 V0)) :=
  (keep10 V0 main_v65 (by decide)).trans (s9_main_v65 V0)
theorem s10_main_v66 (V0 : Valuation τ sig (Elt F)) : s10 V0 (no_index (Proc.devRef .tc main_v66)) = (Cert.ReferenceIdeal.Read.val_main_v77 (F := F) (a0 V0) (a1 V0) (a2 V0) (a3 V0)) :=
  (keep10 V0 main_v66 (by decide)).trans (s9_main_v66 V0)
theorem s10_main_v67 (V0 : Valuation τ sig (Elt F)) : s10 V0 (no_index (Proc.devRef .tc main_v67)) = (Cert.ReferenceIdeal.Read.val_main_v78 (F := F) (a0 V0) (a1 V0) (a2 V0) (a3 V0)) :=
  (keep10 V0 main_v67 (by decide)).trans (s9_main_v67 V0)
theorem s10_main_v68 (V0 : Valuation τ sig (Elt F)) : s10 V0 (no_index (Proc.devRef .tc main_v68)) = (Cert.ReferenceIdeal.Read.val_main_v79 (F := F) (a0 V0) (a1 V0) (a2 V0) (a3 V0)) :=
  (keep10 V0 main_v68 (by decide)).trans (s9_main_v68 V0)
theorem s10_main_v69 (V0 : Valuation τ sig (Elt F)) : s10 V0 (no_index (Proc.devRef .tc main_v69)) = (Cert.ReferenceIdeal.Read.val_main_v80 (F := F) (a0 V0) (a1 V0) (a2 V0) (a3 V0)) :=
  (keep10 V0 main_v69 (by decide)).trans (s9_main_v69 V0)
theorem s10_main_v70 (V0 : Valuation τ sig (Elt F)) : s10 V0 (no_index (Proc.devRef .tc main_v70)) = (Cert.ReferenceIdeal.Read.val_main_v81 (F := F) (a0 V0) (a1 V0) (a2 V0) (a3 V0)) :=
  (keep10 V0 main_v70 (by decide)).trans (s9_main_v70 V0)
set_option maxRecDepth 8192 in
set_option maxHeartbeats 2000000 in
theorem s10_main_v72 (V0 : Valuation τ sig (Elt F)) : s10 V0 (no_index (Proc.devRef .tc main_v72)) = (Cert.ReferenceIdeal.Read.val_main_v83 (F := F)) := by
  unfold s10
  simp only [ops10, TRef.ternary, TRef.binary, TRef.nullary, TRef.unary, TRef.toBuf, TRef.ofBuf, cast_eq]
  after_results_simp
  try dsimp only [Matrix.cons_val]
  try after_results_simp
  first | (simp only [s9_main_v39, s9_main_v40, s9_main_v41, s9_main_v56, s9_main_v57]; rfl) | simp only [s9_main_v39, s9_main_v40, s9_main_v41, s9_main_v56, s9_main_v57] | rfl
set_option maxRecDepth 8192 in
set_option maxHeartbeats 2000000 in
theorem s10_main_v75 (V0 : Valuation τ sig (Elt F)) : s10 V0 (no_index (Proc.devRef .tc main_v75)) = (Cert.ReferenceIdeal.Read.val_main_v86 (F := F) (a0 V0) (a1 V0) (a2 V0) (a3 V0)) := by
  unfold s10
  simp only [ops10, TRef.ternary, TRef.binary, TRef.nullary, TRef.unary, TRef.toBuf, TRef.ofBuf, cast_eq]
  after_results_simp
  try dsimp only [Matrix.cons_val]
  try after_results_simp
  first | (simp only [s9_main_v39, s9_main_v40, s9_main_v41, s9_main_v56, s9_main_v57]; rfl) | simp only [s9_main_v39, s9_main_v40, s9_main_v41, s9_main_v56, s9_main_v57] | rfl
set_option maxRecDepth 8192 in
set_option maxHeartbeats 2000000 in
theorem s10_main_v78 (V0 : Valuation τ sig (Elt F)) : s10 V0 (no_index (Proc.devRef .tc main_v78)) = (Cert.ReferenceIdeal.Read.val_main_v89 (F := F) (a0 V0) (a1 V0) (a2 V0) (a3 V0)) := by
  unfold s10
  simp only [ops10, TRef.ternary, TRef.binary, TRef.nullary, TRef.unary, TRef.toBuf, TRef.ofBuf, cast_eq]
  after_results_simp
  try dsimp only [Matrix.cons_val]
  try after_results_simp
  first | (simp only [s9_main_v39, s9_main_v40, s9_main_v41, s9_main_v56, s9_main_v57]; rfl) | simp only [s9_main_v39, s9_main_v40, s9_main_v41, s9_main_v56, s9_main_v57] | rfl
set_option maxRecDepth 8192 in
set_option maxHeartbeats 2000000 in
theorem s10_main_v79 (V0 : Valuation τ sig (Elt F)) : s10 V0 (no_index (Proc.devRef .tc main_v79)) = (Cert.ReferenceIdeal.Read.val_main_v90 (F := F) (a1 V0) (a2 V0) (a3 V0)) := by
  unfold s10
  simp only [ops10, TRef.ternary, TRef.binary, TRef.nullary, TRef.unary, TRef.toBuf, TRef.ofBuf, cast_eq]
  after_results_simp
  try dsimp only [Matrix.cons_val]
  try after_results_simp
  first | (simp only [s9_main_v39, s9_main_v40, s9_main_v41, s9_main_v56, s9_main_v57]; rfl) | simp only [s9_main_v39, s9_main_v40, s9_main_v41, s9_main_v56, s9_main_v57] | rfl

set_option maxRecDepth 8192 in
/-- Window 11 of the host operations. -/
abbrev ops11 : List (HloOp τ sig (Elt F)) :=
  [ StableHlo.binary main_v78 main_v79 main_v80 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v80 main_v58 main_v81 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v42 main_v82 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v81 main_v82 main_v83 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v83 main_v59 main_v84 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v43 main_v85 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v84 main_v85 main_v86 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v86 main_v60 main_v87 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v44 main_v88 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)) ]
abbrev W11 : List (Ref sig .tc) := [main_v80, main_v81, main_v82, main_v83, main_v84, main_v85, main_v86, main_v87, main_v88]
set_option maxRecDepth 8192 in
theorem writes11 : (ops11 : List (HloOp τ sig (Elt F))).Forall fun op => op.writes ⊆ (W11.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 11. -/
def s11 (V0 : Valuation τ sig (Elt F)) : Valuation τ sig (Elt F) := after ops11 (s10 V0)
theorem keep11 (V0 : Valuation τ sig (Elt F)) (r : Ref sig .tc) (h : r ∉ W11) : s11 V0 (Proc.devRef .tc r) = (s10 V0) (Proc.devRef .tc r) :=
  after_of_writes_sub ops11 _ writes11 h
theorem s11_main_v1 (V0 : Valuation τ sig (Elt F)) : s11 V0 (no_index (Proc.devRef .tc main_v1)) = lanePad (a2 V0) :=
  (keep11 V0 main_v1 (by decide)).trans (s10_main_v1 V0)
theorem s11_main_v3 (V0 : Valuation τ sig (Elt F)) : s11 V0 (no_index (Proc.devRef .tc main_v3)) = lanePad (a3 V0) :=
  (keep11 V0 main_v3 (by decide)).trans (s10_main_v3 V0)
theorem s11_main_v5 (V0 : Valuation τ sig (Elt F)) : s11 V0 (no_index (Proc.devRef .tc main_v5)) = lanePad (a4 V0) :=
  (keep11 V0 main_v5 (by decide)).trans (s10_main_v5 V0)
theorem s11_main_v45 (V0 : Valuation τ sig (Elt F)) : s11 V0 (no_index (Proc.devRef .tc main_v45)) = (Cert.ReferenceIdeal.Read.val_main_v56 (F := F) (a1 V0) (a2 V0) (a3 V0)) :=
  (keep11 V0 main_v45 (by decide)).trans (s10_main_v45 V0)
theorem s11_main_v46 (V0 : Valuation τ sig (Elt F)) : s11 V0 (no_index (Proc.devRef .tc main_v46)) = (Cert.ReferenceIdeal.Read.val_main_v57 (F := F) (a1 V0) (a2 V0) (a3 V0)) :=
  (keep11 V0 main_v46 (by decide)).trans (s10_main_v46 V0)
theorem s11_main_v47 (V0 : Valuation τ sig (Elt F)) : s11 V0 (no_index (Proc.devRef .tc main_v47)) = (Cert.ReferenceIdeal.Read.val_main_v58 (F := F) (a1 V0) (a2 V0) (a3 V0)) :=
  (keep11 V0 main_v47 (by decide)).trans (s10_main_v47 V0)
theorem s11_main_v48 (V0 : Valuation τ sig (Elt F)) : s11 V0 (no_index (Proc.devRef .tc main_v48)) = (Cert.ReferenceIdeal.Read.val_main_v59 (F := F) (a1 V0) (a2 V0) (a3 V0)) :=
  (keep11 V0 main_v48 (by decide)).trans (s10_main_v48 V0)
theorem s11_main_v49 (V0 : Valuation τ sig (Elt F)) : s11 V0 (no_index (Proc.devRef .tc main_v49)) = (Cert.ReferenceIdeal.Read.val_main_v60 (F := F) (a1 V0) (a2 V0) (a3 V0)) :=
  (keep11 V0 main_v49 (by decide)).trans (s10_main_v49 V0)
theorem s11_main_v50 (V0 : Valuation τ sig (Elt F)) : s11 V0 (no_index (Proc.devRef .tc main_v50)) = (Cert.ReferenceIdeal.Read.val_main_v61 (F := F) (a1 V0) (a2 V0) (a3 V0)) :=
  (keep11 V0 main_v50 (by decide)).trans (s10_main_v50 V0)
theorem s11_main_v51 (V0 : Valuation τ sig (Elt F)) : s11 V0 (no_index (Proc.devRef .tc main_v51)) = (Cert.ReferenceIdeal.Read.val_main_v62 (F := F) (a1 V0) (a2 V0) (a3 V0)) :=
  (keep11 V0 main_v51 (by decide)).trans (s10_main_v51 V0)
theorem s11_main_v52 (V0 : Valuation τ sig (Elt F)) : s11 V0 (no_index (Proc.devRef .tc main_v52)) = (Cert.ReferenceIdeal.Read.val_main_v63 (F := F) (a1 V0) (a2 V0) (a3 V0)) :=
  (keep11 V0 main_v52 (by decide)).trans (s10_main_v52 V0)
theorem s11_main_v53 (V0 : Valuation τ sig (Elt F)) : s11 V0 (no_index (Proc.devRef .tc main_v53)) = (Cert.ReferenceIdeal.Read.val_main_v64 (F := F) (a1 V0) (a2 V0) (a3 V0)) :=
  (keep11 V0 main_v53 (by decide)).trans (s10_main_v53 V0)
theorem s11_main_v61 (V0 : Valuation τ sig (Elt F)) : s11 V0 (no_index (Proc.devRef .tc main_v61)) = (Cert.ReferenceIdeal.Read.val_main_v72 (F := F) (a0 V0) (a1 V0) (a2 V0) (a3 V0)) :=
  (keep11 V0 main_v61 (by decide)).trans (s10_main_v61 V0)
theorem s11_main_v62 (V0 : Valuation τ sig (Elt F)) : s11 V0 (no_index (Proc.devRef .tc main_v62)) = (Cert.ReferenceIdeal.Read.val_main_v73 (F := F) (a0 V0) (a1 V0) (a2 V0) (a3 V0)) :=
  (keep11 V0 main_v62 (by decide)).trans (s10_main_v62 V0)
theorem s11_main_v63 (V0 : Valuation τ sig (Elt F)) : s11 V0 (no_index (Proc.devRef .tc main_v63)) = (Cert.ReferenceIdeal.Read.val_main_v74 (F := F) (a0 V0) (a1 V0) (a2 V0) (a3 V0)) :=
  (keep11 V0 main_v63 (by decide)).trans (s10_main_v63 V0)
theorem s11_main_v64 (V0 : Valuation τ sig (Elt F)) : s11 V0 (no_index (Proc.devRef .tc main_v64)) = (Cert.ReferenceIdeal.Read.val_main_v75 (F := F) (a0 V0) (a1 V0) (a2 V0) (a3 V0)) :=
  (keep11 V0 main_v64 (by decide)).trans (s10_main_v64 V0)
theorem s11_main_v65 (V0 : Valuation τ sig (Elt F)) : s11 V0 (no_index (Proc.devRef .tc main_v65)) = (Cert.ReferenceIdeal.Read.val_main_v76 (F := F) (a0 V0) (a1 V0) (a2 V0) (a3 V0)) :=
  (keep11 V0 main_v65 (by decide)).trans (s10_main_v65 V0)
theorem s11_main_v66 (V0 : Valuation τ sig (Elt F)) : s11 V0 (no_index (Proc.devRef .tc main_v66)) = (Cert.ReferenceIdeal.Read.val_main_v77 (F := F) (a0 V0) (a1 V0) (a2 V0) (a3 V0)) :=
  (keep11 V0 main_v66 (by decide)).trans (s10_main_v66 V0)
theorem s11_main_v67 (V0 : Valuation τ sig (Elt F)) : s11 V0 (no_index (Proc.devRef .tc main_v67)) = (Cert.ReferenceIdeal.Read.val_main_v78 (F := F) (a0 V0) (a1 V0) (a2 V0) (a3 V0)) :=
  (keep11 V0 main_v67 (by decide)).trans (s10_main_v67 V0)
theorem s11_main_v68 (V0 : Valuation τ sig (Elt F)) : s11 V0 (no_index (Proc.devRef .tc main_v68)) = (Cert.ReferenceIdeal.Read.val_main_v79 (F := F) (a0 V0) (a1 V0) (a2 V0) (a3 V0)) :=
  (keep11 V0 main_v68 (by decide)).trans (s10_main_v68 V0)
theorem s11_main_v69 (V0 : Valuation τ sig (Elt F)) : s11 V0 (no_index (Proc.devRef .tc main_v69)) = (Cert.ReferenceIdeal.Read.val_main_v80 (F := F) (a0 V0) (a1 V0) (a2 V0) (a3 V0)) :=
  (keep11 V0 main_v69 (by decide)).trans (s10_main_v69 V0)
theorem s11_main_v70 (V0 : Valuation τ sig (Elt F)) : s11 V0 (no_index (Proc.devRef .tc main_v70)) = (Cert.ReferenceIdeal.Read.val_main_v81 (F := F) (a0 V0) (a1 V0) (a2 V0) (a3 V0)) :=
  (keep11 V0 main_v70 (by decide)).trans (s10_main_v70 V0)
theorem s11_main_v72 (V0 : Valuation τ sig (Elt F)) : s11 V0 (no_index (Proc.devRef .tc main_v72)) = (Cert.ReferenceIdeal.Read.val_main_v83 (F := F)) :=
  (keep11 V0 main_v72 (by decide)).trans (s10_main_v72 V0)
theorem s11_main_v75 (V0 : Valuation τ sig (Elt F)) : s11 V0 (no_index (Proc.devRef .tc main_v75)) = (Cert.ReferenceIdeal.Read.val_main_v86 (F := F) (a0 V0) (a1 V0) (a2 V0) (a3 V0)) :=
  (keep11 V0 main_v75 (by decide)).trans (s10_main_v75 V0)
theorem s11_main_v78 (V0 : Valuation τ sig (Elt F)) : s11 V0 (no_index (Proc.devRef .tc main_v78)) = (Cert.ReferenceIdeal.Read.val_main_v89 (F := F) (a0 V0) (a1 V0) (a2 V0) (a3 V0)) :=
  (keep11 V0 main_v78 (by decide)).trans (s10_main_v78 V0)
set_option maxRecDepth 8192 in
set_option maxHeartbeats 2000000 in
theorem s11_main_v81 (V0 : Valuation τ sig (Elt F)) : s11 V0 (no_index (Proc.devRef .tc main_v81)) = (Cert.ReferenceIdeal.Read.val_main_v92 (F := F) (a0 V0) (a1 V0) (a2 V0) (a3 V0)) := by
  unfold s11
  simp only [ops11, TRef.ternary, TRef.binary, TRef.nullary, TRef.unary, TRef.toBuf, TRef.ofBuf, cast_eq]
  after_results_simp
  try dsimp only [Matrix.cons_val]
  try after_results_simp
  first | (simp only [s10_main_v42, s10_main_v43, s10_main_v44, s10_main_v58, s10_main_v59, s10_main_v60, s10_main_v78, s10_main_v79]; rfl) | simp only [s10_main_v42, s10_main_v43, s10_main_v44, s10_main_v58, s10_main_v59, s10_main_v60, s10_main_v78, s10_main_v79] | rfl
set_option maxRecDepth 8192 in
set_option maxHeartbeats 2000000 in
theorem s11_main_v84 (V0 : Valuation τ sig (Elt F)) : s11 V0 (no_index (Proc.devRef .tc main_v84)) = (Cert.ReferenceIdeal.Read.val_main_v95 (F := F) (a0 V0) (a1 V0) (a2 V0) (a3 V0)) := by
  unfold s11
  simp only [ops11, TRef.ternary, TRef.binary, TRef.nullary, TRef.unary, TRef.toBuf, TRef.ofBuf, cast_eq]
  after_results_simp
  try dsimp only [Matrix.cons_val]
  try after_results_simp
  first | (simp only [s10_main_v42, s10_main_v43, s10_main_v44, s10_main_v58, s10_main_v59, s10_main_v60, s10_main_v78, s10_main_v79]; rfl) | simp only [s10_main_v42, s10_main_v43, s10_main_v44, s10_main_v58, s10_main_v59, s10_main_v60, s10_main_v78, s10_main_v79] | rfl
set_option maxRecDepth 8192 in
set_option maxHeartbeats 2000000 in
theorem s11_main_v87 (V0 : Valuation τ sig (Elt F)) : s11 V0 (no_index (Proc.devRef .tc main_v87)) = (Cert.ReferenceIdeal.Read.val_main_v98 (F := F) (a0 V0) (a1 V0) (a2 V0) (a3 V0)) := by
  unfold s11
  simp only [ops11, TRef.ternary, TRef.binary, TRef.nullary, TRef.unary, TRef.toBuf, TRef.ofBuf, cast_eq]
  after_results_simp
  try dsimp only [Matrix.cons_val]
  try after_results_simp
  first | (simp only [s10_main_v42, s10_main_v43, s10_main_v44, s10_main_v58, s10_main_v59, s10_main_v60, s10_main_v78, s10_main_v79]; rfl) | simp only [s10_main_v42, s10_main_v43, s10_main_v44, s10_main_v58, s10_main_v59, s10_main_v60, s10_main_v78, s10_main_v79] | rfl
set_option maxRecDepth 8192 in
set_option maxHeartbeats 2000000 in
theorem s11_main_v88 (V0 : Valuation τ sig (Elt F)) : s11 V0 (no_index (Proc.devRef .tc main_v88)) = (Cert.ReferenceIdeal.Read.val_main_v99 (F := F) (a1 V0) (a2 V0) (a3 V0)) := by
  unfold s11
  simp only [ops11, TRef.ternary, TRef.binary, TRef.nullary, TRef.unary, TRef.toBuf, TRef.ofBuf, cast_eq]
  after_results_simp
  try dsimp only [Matrix.cons_val]
  try after_results_simp
  first | (simp only [s10_main_v42, s10_main_v43, s10_main_v44, s10_main_v58, s10_main_v59, s10_main_v60, s10_main_v78, s10_main_v79]; rfl) | simp only [s10_main_v42, s10_main_v43, s10_main_v44, s10_main_v58, s10_main_v59, s10_main_v60, s10_main_v78, s10_main_v79] | rfl

set_option maxRecDepth 8192 in
/-- Window 12 of the host operations. -/
abbrev ops12 : List (HloOp τ sig (Elt F)) :=
  [ StableHlo.binary main_v87 main_v88 main_v89 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v89 main_v61 main_v90 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v45 main_v91 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v90 main_v91 main_v92 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v92 main_v62 main_v93 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v46 main_v94 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v93 main_v94 main_v95 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v95 main_v63 main_v96 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v47 main_v97 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)) ]
abbrev W12 : List (Ref sig .tc) := [main_v89, main_v90, main_v91, main_v92, main_v93, main_v94, main_v95, main_v96, main_v97]
set_option maxRecDepth 8192 in
theorem writes12 : (ops12 : List (HloOp τ sig (Elt F))).Forall fun op => op.writes ⊆ (W12.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 12. -/
def s12 (V0 : Valuation τ sig (Elt F)) : Valuation τ sig (Elt F) := after ops12 (s11 V0)
theorem keep12 (V0 : Valuation τ sig (Elt F)) (r : Ref sig .tc) (h : r ∉ W12) : s12 V0 (Proc.devRef .tc r) = (s11 V0) (Proc.devRef .tc r) :=
  after_of_writes_sub ops12 _ writes12 h
theorem s12_main_v1 (V0 : Valuation τ sig (Elt F)) : s12 V0 (no_index (Proc.devRef .tc main_v1)) = lanePad (a2 V0) :=
  (keep12 V0 main_v1 (by decide)).trans (s11_main_v1 V0)
theorem s12_main_v3 (V0 : Valuation τ sig (Elt F)) : s12 V0 (no_index (Proc.devRef .tc main_v3)) = lanePad (a3 V0) :=
  (keep12 V0 main_v3 (by decide)).trans (s11_main_v3 V0)
theorem s12_main_v5 (V0 : Valuation τ sig (Elt F)) : s12 V0 (no_index (Proc.devRef .tc main_v5)) = lanePad (a4 V0) :=
  (keep12 V0 main_v5 (by decide)).trans (s11_main_v5 V0)
theorem s12_main_v48 (V0 : Valuation τ sig (Elt F)) : s12 V0 (no_index (Proc.devRef .tc main_v48)) = (Cert.ReferenceIdeal.Read.val_main_v59 (F := F) (a1 V0) (a2 V0) (a3 V0)) :=
  (keep12 V0 main_v48 (by decide)).trans (s11_main_v48 V0)
theorem s12_main_v49 (V0 : Valuation τ sig (Elt F)) : s12 V0 (no_index (Proc.devRef .tc main_v49)) = (Cert.ReferenceIdeal.Read.val_main_v60 (F := F) (a1 V0) (a2 V0) (a3 V0)) :=
  (keep12 V0 main_v49 (by decide)).trans (s11_main_v49 V0)
theorem s12_main_v50 (V0 : Valuation τ sig (Elt F)) : s12 V0 (no_index (Proc.devRef .tc main_v50)) = (Cert.ReferenceIdeal.Read.val_main_v61 (F := F) (a1 V0) (a2 V0) (a3 V0)) :=
  (keep12 V0 main_v50 (by decide)).trans (s11_main_v50 V0)
theorem s12_main_v51 (V0 : Valuation τ sig (Elt F)) : s12 V0 (no_index (Proc.devRef .tc main_v51)) = (Cert.ReferenceIdeal.Read.val_main_v62 (F := F) (a1 V0) (a2 V0) (a3 V0)) :=
  (keep12 V0 main_v51 (by decide)).trans (s11_main_v51 V0)
theorem s12_main_v52 (V0 : Valuation τ sig (Elt F)) : s12 V0 (no_index (Proc.devRef .tc main_v52)) = (Cert.ReferenceIdeal.Read.val_main_v63 (F := F) (a1 V0) (a2 V0) (a3 V0)) :=
  (keep12 V0 main_v52 (by decide)).trans (s11_main_v52 V0)
theorem s12_main_v53 (V0 : Valuation τ sig (Elt F)) : s12 V0 (no_index (Proc.devRef .tc main_v53)) = (Cert.ReferenceIdeal.Read.val_main_v64 (F := F) (a1 V0) (a2 V0) (a3 V0)) :=
  (keep12 V0 main_v53 (by decide)).trans (s11_main_v53 V0)
theorem s12_main_v64 (V0 : Valuation τ sig (Elt F)) : s12 V0 (no_index (Proc.devRef .tc main_v64)) = (Cert.ReferenceIdeal.Read.val_main_v75 (F := F) (a0 V0) (a1 V0) (a2 V0) (a3 V0)) :=
  (keep12 V0 main_v64 (by decide)).trans (s11_main_v64 V0)
theorem s12_main_v65 (V0 : Valuation τ sig (Elt F)) : s12 V0 (no_index (Proc.devRef .tc main_v65)) = (Cert.ReferenceIdeal.Read.val_main_v76 (F := F) (a0 V0) (a1 V0) (a2 V0) (a3 V0)) :=
  (keep12 V0 main_v65 (by decide)).trans (s11_main_v65 V0)
theorem s12_main_v66 (V0 : Valuation τ sig (Elt F)) : s12 V0 (no_index (Proc.devRef .tc main_v66)) = (Cert.ReferenceIdeal.Read.val_main_v77 (F := F) (a0 V0) (a1 V0) (a2 V0) (a3 V0)) :=
  (keep12 V0 main_v66 (by decide)).trans (s11_main_v66 V0)
theorem s12_main_v67 (V0 : Valuation τ sig (Elt F)) : s12 V0 (no_index (Proc.devRef .tc main_v67)) = (Cert.ReferenceIdeal.Read.val_main_v78 (F := F) (a0 V0) (a1 V0) (a2 V0) (a3 V0)) :=
  (keep12 V0 main_v67 (by decide)).trans (s11_main_v67 V0)
theorem s12_main_v68 (V0 : Valuation τ sig (Elt F)) : s12 V0 (no_index (Proc.devRef .tc main_v68)) = (Cert.ReferenceIdeal.Read.val_main_v79 (F := F) (a0 V0) (a1 V0) (a2 V0) (a3 V0)) :=
  (keep12 V0 main_v68 (by decide)).trans (s11_main_v68 V0)
theorem s12_main_v69 (V0 : Valuation τ sig (Elt F)) : s12 V0 (no_index (Proc.devRef .tc main_v69)) = (Cert.ReferenceIdeal.Read.val_main_v80 (F := F) (a0 V0) (a1 V0) (a2 V0) (a3 V0)) :=
  (keep12 V0 main_v69 (by decide)).trans (s11_main_v69 V0)
theorem s12_main_v70 (V0 : Valuation τ sig (Elt F)) : s12 V0 (no_index (Proc.devRef .tc main_v70)) = (Cert.ReferenceIdeal.Read.val_main_v81 (F := F) (a0 V0) (a1 V0) (a2 V0) (a3 V0)) :=
  (keep12 V0 main_v70 (by decide)).trans (s11_main_v70 V0)
theorem s12_main_v72 (V0 : Valuation τ sig (Elt F)) : s12 V0 (no_index (Proc.devRef .tc main_v72)) = (Cert.ReferenceIdeal.Read.val_main_v83 (F := F)) :=
  (keep12 V0 main_v72 (by decide)).trans (s11_main_v72 V0)
theorem s12_main_v75 (V0 : Valuation τ sig (Elt F)) : s12 V0 (no_index (Proc.devRef .tc main_v75)) = (Cert.ReferenceIdeal.Read.val_main_v86 (F := F) (a0 V0) (a1 V0) (a2 V0) (a3 V0)) :=
  (keep12 V0 main_v75 (by decide)).trans (s11_main_v75 V0)
theorem s12_main_v78 (V0 : Valuation τ sig (Elt F)) : s12 V0 (no_index (Proc.devRef .tc main_v78)) = (Cert.ReferenceIdeal.Read.val_main_v89 (F := F) (a0 V0) (a1 V0) (a2 V0) (a3 V0)) :=
  (keep12 V0 main_v78 (by decide)).trans (s11_main_v78 V0)
theorem s12_main_v81 (V0 : Valuation τ sig (Elt F)) : s12 V0 (no_index (Proc.devRef .tc main_v81)) = (Cert.ReferenceIdeal.Read.val_main_v92 (F := F) (a0 V0) (a1 V0) (a2 V0) (a3 V0)) :=
  (keep12 V0 main_v81 (by decide)).trans (s11_main_v81 V0)
theorem s12_main_v84 (V0 : Valuation τ sig (Elt F)) : s12 V0 (no_index (Proc.devRef .tc main_v84)) = (Cert.ReferenceIdeal.Read.val_main_v95 (F := F) (a0 V0) (a1 V0) (a2 V0) (a3 V0)) :=
  (keep12 V0 main_v84 (by decide)).trans (s11_main_v84 V0)
theorem s12_main_v87 (V0 : Valuation τ sig (Elt F)) : s12 V0 (no_index (Proc.devRef .tc main_v87)) = (Cert.ReferenceIdeal.Read.val_main_v98 (F := F) (a0 V0) (a1 V0) (a2 V0) (a3 V0)) :=
  (keep12 V0 main_v87 (by decide)).trans (s11_main_v87 V0)
set_option maxRecDepth 8192 in
set_option maxHeartbeats 2000000 in
theorem s12_main_v90 (V0 : Valuation τ sig (Elt F)) : s12 V0 (no_index (Proc.devRef .tc main_v90)) = (Cert.ReferenceIdeal.Read.val_main_v101 (F := F) (a0 V0) (a1 V0) (a2 V0) (a3 V0)) := by
  unfold s12
  simp only [ops12, TRef.ternary, TRef.binary, TRef.nullary, TRef.unary, TRef.toBuf, TRef.ofBuf, cast_eq]
  after_results_simp
  try dsimp only [Matrix.cons_val]
  try after_results_simp
  first | (simp only [s11_main_v45, s11_main_v46, s11_main_v47, s11_main_v61, s11_main_v62, s11_main_v63, s11_main_v87, s11_main_v88]; rfl) | simp only [s11_main_v45, s11_main_v46, s11_main_v47, s11_main_v61, s11_main_v62, s11_main_v63, s11_main_v87, s11_main_v88] | rfl
set_option maxRecDepth 8192 in
set_option maxHeartbeats 2000000 in
theorem s12_main_v93 (V0 : Valuation τ sig (Elt F)) : s12 V0 (no_index (Proc.devRef .tc main_v93)) = (Cert.ReferenceIdeal.Read.val_main_v104 (F := F) (a0 V0) (a1 V0) (a2 V0) (a3 V0)) := by
  unfold s12
  simp only [ops12, TRef.ternary, TRef.binary, TRef.nullary, TRef.unary, TRef.toBuf, TRef.ofBuf, cast_eq]
  after_results_simp
  try dsimp only [Matrix.cons_val]
  try after_results_simp
  first | (simp only [s11_main_v45, s11_main_v46, s11_main_v47, s11_main_v61, s11_main_v62, s11_main_v63, s11_main_v87, s11_main_v88]; rfl) | simp only [s11_main_v45, s11_main_v46, s11_main_v47, s11_main_v61, s11_main_v62, s11_main_v63, s11_main_v87, s11_main_v88] | rfl
set_option maxRecDepth 8192 in
set_option maxHeartbeats 2000000 in
theorem s12_main_v96 (V0 : Valuation τ sig (Elt F)) : s12 V0 (no_index (Proc.devRef .tc main_v96)) = (Cert.ReferenceIdeal.Read.val_main_v107 (F := F) (a0 V0) (a1 V0) (a2 V0) (a3 V0)) := by
  unfold s12
  simp only [ops12, TRef.ternary, TRef.binary, TRef.nullary, TRef.unary, TRef.toBuf, TRef.ofBuf, cast_eq]
  after_results_simp
  try dsimp only [Matrix.cons_val]
  try after_results_simp
  first | (simp only [s11_main_v45, s11_main_v46, s11_main_v47, s11_main_v61, s11_main_v62, s11_main_v63, s11_main_v87, s11_main_v88]; rfl) | simp only [s11_main_v45, s11_main_v46, s11_main_v47, s11_main_v61, s11_main_v62, s11_main_v63, s11_main_v87, s11_main_v88] | rfl
set_option maxRecDepth 8192 in
set_option maxHeartbeats 2000000 in
theorem s12_main_v97 (V0 : Valuation τ sig (Elt F)) : s12 V0 (no_index (Proc.devRef .tc main_v97)) = (Cert.ReferenceIdeal.Read.val_main_v108 (F := F) (a1 V0) (a2 V0) (a3 V0)) := by
  unfold s12
  simp only [ops12, TRef.ternary, TRef.binary, TRef.nullary, TRef.unary, TRef.toBuf, TRef.ofBuf, cast_eq]
  after_results_simp
  try dsimp only [Matrix.cons_val]
  try after_results_simp
  first | (simp only [s11_main_v45, s11_main_v46, s11_main_v47, s11_main_v61, s11_main_v62, s11_main_v63, s11_main_v87, s11_main_v88]; rfl) | simp only [s11_main_v45, s11_main_v46, s11_main_v47, s11_main_v61, s11_main_v62, s11_main_v63, s11_main_v87, s11_main_v88] | rfl

set_option maxRecDepth 8192 in
/-- Window 13 of the host operations. -/
abbrev ops13 : List (HloOp τ sig (Elt F)) :=
  [ StableHlo.binary main_v96 main_v97 main_v98 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v98 main_v64 main_v99 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v48 main_v100 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v99 main_v100 main_v101 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v101 main_v65 main_v102 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v49 main_v103 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v102 main_v103 main_v104 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v104 main_v66 main_v105 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v50 main_v106 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)) ]
abbrev W13 : List (Ref sig .tc) := [main_v98, main_v99, main_v100, main_v101, main_v102, main_v103, main_v104, main_v105, main_v106]
set_option maxRecDepth 8192 in
theorem writes13 : (ops13 : List (HloOp τ sig (Elt F))).Forall fun op => op.writes ⊆ (W13.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 13. -/
def s13 (V0 : Valuation τ sig (Elt F)) : Valuation τ sig (Elt F) := after ops13 (s12 V0)
theorem keep13 (V0 : Valuation τ sig (Elt F)) (r : Ref sig .tc) (h : r ∉ W13) : s13 V0 (Proc.devRef .tc r) = (s12 V0) (Proc.devRef .tc r) :=
  after_of_writes_sub ops13 _ writes13 h
theorem s13_main_v1 (V0 : Valuation τ sig (Elt F)) : s13 V0 (no_index (Proc.devRef .tc main_v1)) = lanePad (a2 V0) :=
  (keep13 V0 main_v1 (by decide)).trans (s12_main_v1 V0)
theorem s13_main_v3 (V0 : Valuation τ sig (Elt F)) : s13 V0 (no_index (Proc.devRef .tc main_v3)) = lanePad (a3 V0) :=
  (keep13 V0 main_v3 (by decide)).trans (s12_main_v3 V0)
theorem s13_main_v5 (V0 : Valuation τ sig (Elt F)) : s13 V0 (no_index (Proc.devRef .tc main_v5)) = lanePad (a4 V0) :=
  (keep13 V0 main_v5 (by decide)).trans (s12_main_v5 V0)
theorem s13_main_v51 (V0 : Valuation τ sig (Elt F)) : s13 V0 (no_index (Proc.devRef .tc main_v51)) = (Cert.ReferenceIdeal.Read.val_main_v62 (F := F) (a1 V0) (a2 V0) (a3 V0)) :=
  (keep13 V0 main_v51 (by decide)).trans (s12_main_v51 V0)
theorem s13_main_v52 (V0 : Valuation τ sig (Elt F)) : s13 V0 (no_index (Proc.devRef .tc main_v52)) = (Cert.ReferenceIdeal.Read.val_main_v63 (F := F) (a1 V0) (a2 V0) (a3 V0)) :=
  (keep13 V0 main_v52 (by decide)).trans (s12_main_v52 V0)
theorem s13_main_v53 (V0 : Valuation τ sig (Elt F)) : s13 V0 (no_index (Proc.devRef .tc main_v53)) = (Cert.ReferenceIdeal.Read.val_main_v64 (F := F) (a1 V0) (a2 V0) (a3 V0)) :=
  (keep13 V0 main_v53 (by decide)).trans (s12_main_v53 V0)
theorem s13_main_v67 (V0 : Valuation τ sig (Elt F)) : s13 V0 (no_index (Proc.devRef .tc main_v67)) = (Cert.ReferenceIdeal.Read.val_main_v78 (F := F) (a0 V0) (a1 V0) (a2 V0) (a3 V0)) :=
  (keep13 V0 main_v67 (by decide)).trans (s12_main_v67 V0)
theorem s13_main_v68 (V0 : Valuation τ sig (Elt F)) : s13 V0 (no_index (Proc.devRef .tc main_v68)) = (Cert.ReferenceIdeal.Read.val_main_v79 (F := F) (a0 V0) (a1 V0) (a2 V0) (a3 V0)) :=
  (keep13 V0 main_v68 (by decide)).trans (s12_main_v68 V0)
theorem s13_main_v69 (V0 : Valuation τ sig (Elt F)) : s13 V0 (no_index (Proc.devRef .tc main_v69)) = (Cert.ReferenceIdeal.Read.val_main_v80 (F := F) (a0 V0) (a1 V0) (a2 V0) (a3 V0)) :=
  (keep13 V0 main_v69 (by decide)).trans (s12_main_v69 V0)
theorem s13_main_v70 (V0 : Valuation τ sig (Elt F)) : s13 V0 (no_index (Proc.devRef .tc main_v70)) = (Cert.ReferenceIdeal.Read.val_main_v81 (F := F) (a0 V0) (a1 V0) (a2 V0) (a3 V0)) :=
  (keep13 V0 main_v70 (by decide)).trans (s12_main_v70 V0)
theorem s13_main_v72 (V0 : Valuation τ sig (Elt F)) : s13 V0 (no_index (Proc.devRef .tc main_v72)) = (Cert.ReferenceIdeal.Read.val_main_v83 (F := F)) :=
  (keep13 V0 main_v72 (by decide)).trans (s12_main_v72 V0)
theorem s13_main_v75 (V0 : Valuation τ sig (Elt F)) : s13 V0 (no_index (Proc.devRef .tc main_v75)) = (Cert.ReferenceIdeal.Read.val_main_v86 (F := F) (a0 V0) (a1 V0) (a2 V0) (a3 V0)) :=
  (keep13 V0 main_v75 (by decide)).trans (s12_main_v75 V0)
theorem s13_main_v78 (V0 : Valuation τ sig (Elt F)) : s13 V0 (no_index (Proc.devRef .tc main_v78)) = (Cert.ReferenceIdeal.Read.val_main_v89 (F := F) (a0 V0) (a1 V0) (a2 V0) (a3 V0)) :=
  (keep13 V0 main_v78 (by decide)).trans (s12_main_v78 V0)
theorem s13_main_v81 (V0 : Valuation τ sig (Elt F)) : s13 V0 (no_index (Proc.devRef .tc main_v81)) = (Cert.ReferenceIdeal.Read.val_main_v92 (F := F) (a0 V0) (a1 V0) (a2 V0) (a3 V0)) :=
  (keep13 V0 main_v81 (by decide)).trans (s12_main_v81 V0)
theorem s13_main_v84 (V0 : Valuation τ sig (Elt F)) : s13 V0 (no_index (Proc.devRef .tc main_v84)) = (Cert.ReferenceIdeal.Read.val_main_v95 (F := F) (a0 V0) (a1 V0) (a2 V0) (a3 V0)) :=
  (keep13 V0 main_v84 (by decide)).trans (s12_main_v84 V0)
theorem s13_main_v87 (V0 : Valuation τ sig (Elt F)) : s13 V0 (no_index (Proc.devRef .tc main_v87)) = (Cert.ReferenceIdeal.Read.val_main_v98 (F := F) (a0 V0) (a1 V0) (a2 V0) (a3 V0)) :=
  (keep13 V0 main_v87 (by decide)).trans (s12_main_v87 V0)
theorem s13_main_v90 (V0 : Valuation τ sig (Elt F)) : s13 V0 (no_index (Proc.devRef .tc main_v90)) = (Cert.ReferenceIdeal.Read.val_main_v101 (F := F) (a0 V0) (a1 V0) (a2 V0) (a3 V0)) :=
  (keep13 V0 main_v90 (by decide)).trans (s12_main_v90 V0)
theorem s13_main_v93 (V0 : Valuation τ sig (Elt F)) : s13 V0 (no_index (Proc.devRef .tc main_v93)) = (Cert.ReferenceIdeal.Read.val_main_v104 (F := F) (a0 V0) (a1 V0) (a2 V0) (a3 V0)) :=
  (keep13 V0 main_v93 (by decide)).trans (s12_main_v93 V0)
theorem s13_main_v96 (V0 : Valuation τ sig (Elt F)) : s13 V0 (no_index (Proc.devRef .tc main_v96)) = (Cert.ReferenceIdeal.Read.val_main_v107 (F := F) (a0 V0) (a1 V0) (a2 V0) (a3 V0)) :=
  (keep13 V0 main_v96 (by decide)).trans (s12_main_v96 V0)
set_option maxRecDepth 8192 in
set_option maxHeartbeats 2000000 in
theorem s13_main_v99 (V0 : Valuation τ sig (Elt F)) : s13 V0 (no_index (Proc.devRef .tc main_v99)) = (Cert.ReferenceIdeal.Read.val_main_v110 (F := F) (a0 V0) (a1 V0) (a2 V0) (a3 V0)) := by
  unfold s13
  simp only [ops13, TRef.ternary, TRef.binary, TRef.nullary, TRef.unary, TRef.toBuf, TRef.ofBuf, cast_eq]
  after_results_simp
  try dsimp only [Matrix.cons_val]
  try after_results_simp
  first | (simp only [s12_main_v48, s12_main_v49, s12_main_v50, s12_main_v64, s12_main_v65, s12_main_v66, s12_main_v96, s12_main_v97]; rfl) | simp only [s12_main_v48, s12_main_v49, s12_main_v50, s12_main_v64, s12_main_v65, s12_main_v66, s12_main_v96, s12_main_v97] | rfl
set_option maxRecDepth 8192 in
set_option maxHeartbeats 2000000 in
theorem s13_main_v102 (V0 : Valuation τ sig (Elt F)) : s13 V0 (no_index (Proc.devRef .tc main_v102)) = (Cert.ReferenceIdeal.Read.val_main_v113 (F := F) (a0 V0) (a1 V0) (a2 V0) (a3 V0)) := by
  unfold s13
  simp only [ops13, TRef.ternary, TRef.binary, TRef.nullary, TRef.unary, TRef.toBuf, TRef.ofBuf, cast_eq]
  after_results_simp
  try dsimp only [Matrix.cons_val]
  try after_results_simp
  first | (simp only [s12_main_v48, s12_main_v49, s12_main_v50, s12_main_v64, s12_main_v65, s12_main_v66, s12_main_v96, s12_main_v97]; rfl) | simp only [s12_main_v48, s12_main_v49, s12_main_v50, s12_main_v64, s12_main_v65, s12_main_v66, s12_main_v96, s12_main_v97] | rfl
set_option maxRecDepth 8192 in
set_option maxHeartbeats 2000000 in
theorem s13_main_v105 (V0 : Valuation τ sig (Elt F)) : s13 V0 (no_index (Proc.devRef .tc main_v105)) = (Cert.ReferenceIdeal.Read.val_main_v116 (F := F) (a0 V0) (a1 V0) (a2 V0) (a3 V0)) := by
  unfold s13
  simp only [ops13, TRef.ternary, TRef.binary, TRef.nullary, TRef.unary, TRef.toBuf, TRef.ofBuf, cast_eq]
  after_results_simp
  try dsimp only [Matrix.cons_val]
  try after_results_simp
  first | (simp only [s12_main_v48, s12_main_v49, s12_main_v50, s12_main_v64, s12_main_v65, s12_main_v66, s12_main_v96, s12_main_v97]; rfl) | simp only [s12_main_v48, s12_main_v49, s12_main_v50, s12_main_v64, s12_main_v65, s12_main_v66, s12_main_v96, s12_main_v97] | rfl
set_option maxRecDepth 8192 in
set_option maxHeartbeats 2000000 in
theorem s13_main_v106 (V0 : Valuation τ sig (Elt F)) : s13 V0 (no_index (Proc.devRef .tc main_v106)) = (Cert.ReferenceIdeal.Read.val_main_v117 (F := F) (a1 V0) (a2 V0) (a3 V0)) := by
  unfold s13
  simp only [ops13, TRef.ternary, TRef.binary, TRef.nullary, TRef.unary, TRef.toBuf, TRef.ofBuf, cast_eq]
  after_results_simp
  try dsimp only [Matrix.cons_val]
  try after_results_simp
  first | (simp only [s12_main_v48, s12_main_v49, s12_main_v50, s12_main_v64, s12_main_v65, s12_main_v66, s12_main_v96, s12_main_v97]; rfl) | simp only [s12_main_v48, s12_main_v49, s12_main_v50, s12_main_v64, s12_main_v65, s12_main_v66, s12_main_v96, s12_main_v97] | rfl

set_option maxRecDepth 8192 in
/-- Window 14 of the host operations. -/
abbrev ops14 : List (HloOp τ sig (Elt F)) :=
  [ StableHlo.binary main_v105 main_v106 main_v107 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v107 main_v67 main_v108 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v51 main_v109 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v108 main_v109 main_v110 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v110 main_v68 main_v111 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v52 main_v112 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)),
    StableHlo.binary main_v111 main_v112 main_v113 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v113 main_v69 main_v114 (addf : (⟨S4x1x16x64x128, .f32⟩ : BufTy).Contents (Elt F) → (⟨S4x1x16x64x128, .f32⟩ : BufTy).Contents (Elt F) → (⟨S4x1x16x64x128, .f32⟩ : BufTy).Contents (Elt F)),
    StableHlo.unary main_v53 main_v115 (broadcastInDim S4x1x16x64x128 ![0, 1, 2] bcast_S4x1x16_S4x1x16x64x128_0_1_2 : (⟨S4x1x16, .f32⟩ : BufTy).Contents (Elt F) → (⟨S4x1x16x64x128, .f32⟩ : BufTy).Contents (Elt F)) ]
abbrev W14 : List (Ref sig .tc) := [main_v107, main_v108, main_v109, main_v110, main_v111, main_v112, main_v113, main_v114, main_v115]
set_option maxRecDepth 8192 in
theorem writes14 : (ops14 : List (HloOp τ sig (Elt F))).Forall fun op => op.writes ⊆ (W14.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 14. -/
def s14 (V0 : Valuation τ sig (Elt F)) : Valuation τ sig (Elt F) := after ops14 (s13 V0)
theorem keep14 (V0 : Valuation τ sig (Elt F)) (r : Ref sig .tc) (h : r ∉ W14) : s14 V0 (Proc.devRef .tc r) = (s13 V0) (Proc.devRef .tc r) :=
  after_of_writes_sub ops14 _ writes14 h
theorem s14_main_v1 (V0 : Valuation τ sig (Elt F)) : s14 V0 (no_index (Proc.devRef .tc main_v1)) = lanePad (a2 V0) :=
  (keep14 V0 main_v1 (by decide)).trans (s13_main_v1 V0)
theorem s14_main_v3 (V0 : Valuation τ sig (Elt F)) : s14 V0 (no_index (Proc.devRef .tc main_v3)) = lanePad (a3 V0) :=
  (keep14 V0 main_v3 (by decide)).trans (s13_main_v3 V0)
theorem s14_main_v5 (V0 : Valuation τ sig (Elt F)) : s14 V0 (no_index (Proc.devRef .tc main_v5)) = lanePad (a4 V0) :=
  (keep14 V0 main_v5 (by decide)).trans (s13_main_v5 V0)
theorem s14_main_v70 (V0 : Valuation τ sig (Elt F)) : s14 V0 (no_index (Proc.devRef .tc main_v70)) = (Cert.ReferenceIdeal.Read.val_main_v81 (F := F) (a0 V0) (a1 V0) (a2 V0) (a3 V0)) :=
  (keep14 V0 main_v70 (by decide)).trans (s13_main_v70 V0)
theorem s14_main_v72 (V0 : Valuation τ sig (Elt F)) : s14 V0 (no_index (Proc.devRef .tc main_v72)) = (Cert.ReferenceIdeal.Read.val_main_v83 (F := F)) :=
  (keep14 V0 main_v72 (by decide)).trans (s13_main_v72 V0)
theorem s14_main_v75 (V0 : Valuation τ sig (Elt F)) : s14 V0 (no_index (Proc.devRef .tc main_v75)) = (Cert.ReferenceIdeal.Read.val_main_v86 (F := F) (a0 V0) (a1 V0) (a2 V0) (a3 V0)) :=
  (keep14 V0 main_v75 (by decide)).trans (s13_main_v75 V0)
theorem s14_main_v78 (V0 : Valuation τ sig (Elt F)) : s14 V0 (no_index (Proc.devRef .tc main_v78)) = (Cert.ReferenceIdeal.Read.val_main_v89 (F := F) (a0 V0) (a1 V0) (a2 V0) (a3 V0)) :=
  (keep14 V0 main_v78 (by decide)).trans (s13_main_v78 V0)
theorem s14_main_v81 (V0 : Valuation τ sig (Elt F)) : s14 V0 (no_index (Proc.devRef .tc main_v81)) = (Cert.ReferenceIdeal.Read.val_main_v92 (F := F) (a0 V0) (a1 V0) (a2 V0) (a3 V0)) :=
  (keep14 V0 main_v81 (by decide)).trans (s13_main_v81 V0)
theorem s14_main_v84 (V0 : Valuation τ sig (Elt F)) : s14 V0 (no_index (Proc.devRef .tc main_v84)) = (Cert.ReferenceIdeal.Read.val_main_v95 (F := F) (a0 V0) (a1 V0) (a2 V0) (a3 V0)) :=
  (keep14 V0 main_v84 (by decide)).trans (s13_main_v84 V0)
theorem s14_main_v87 (V0 : Valuation τ sig (Elt F)) : s14 V0 (no_index (Proc.devRef .tc main_v87)) = (Cert.ReferenceIdeal.Read.val_main_v98 (F := F) (a0 V0) (a1 V0) (a2 V0) (a3 V0)) :=
  (keep14 V0 main_v87 (by decide)).trans (s13_main_v87 V0)
theorem s14_main_v90 (V0 : Valuation τ sig (Elt F)) : s14 V0 (no_index (Proc.devRef .tc main_v90)) = (Cert.ReferenceIdeal.Read.val_main_v101 (F := F) (a0 V0) (a1 V0) (a2 V0) (a3 V0)) :=
  (keep14 V0 main_v90 (by decide)).trans (s13_main_v90 V0)
theorem s14_main_v93 (V0 : Valuation τ sig (Elt F)) : s14 V0 (no_index (Proc.devRef .tc main_v93)) = (Cert.ReferenceIdeal.Read.val_main_v104 (F := F) (a0 V0) (a1 V0) (a2 V0) (a3 V0)) :=
  (keep14 V0 main_v93 (by decide)).trans (s13_main_v93 V0)
theorem s14_main_v96 (V0 : Valuation τ sig (Elt F)) : s14 V0 (no_index (Proc.devRef .tc main_v96)) = (Cert.ReferenceIdeal.Read.val_main_v107 (F := F) (a0 V0) (a1 V0) (a2 V0) (a3 V0)) :=
  (keep14 V0 main_v96 (by decide)).trans (s13_main_v96 V0)
theorem s14_main_v99 (V0 : Valuation τ sig (Elt F)) : s14 V0 (no_index (Proc.devRef .tc main_v99)) = (Cert.ReferenceIdeal.Read.val_main_v110 (F := F) (a0 V0) (a1 V0) (a2 V0) (a3 V0)) :=
  (keep14 V0 main_v99 (by decide)).trans (s13_main_v99 V0)
theorem s14_main_v102 (V0 : Valuation τ sig (Elt F)) : s14 V0 (no_index (Proc.devRef .tc main_v102)) = (Cert.ReferenceIdeal.Read.val_main_v113 (F := F) (a0 V0) (a1 V0) (a2 V0) (a3 V0)) :=
  (keep14 V0 main_v102 (by decide)).trans (s13_main_v102 V0)
theorem s14_main_v105 (V0 : Valuation τ sig (Elt F)) : s14 V0 (no_index (Proc.devRef .tc main_v105)) = (Cert.ReferenceIdeal.Read.val_main_v116 (F := F) (a0 V0) (a1 V0) (a2 V0) (a3 V0)) :=
  (keep14 V0 main_v105 (by decide)).trans (s13_main_v105 V0)
set_option maxRecDepth 8192 in
set_option maxHeartbeats 2000000 in
theorem s14_main_v108 (V0 : Valuation τ sig (Elt F)) : s14 V0 (no_index (Proc.devRef .tc main_v108)) = (Cert.ReferenceIdeal.Read.val_main_v119 (F := F) (a0 V0) (a1 V0) (a2 V0) (a3 V0)) := by
  unfold s14
  simp only [ops14, TRef.ternary, TRef.binary, TRef.nullary, TRef.unary, TRef.toBuf, TRef.ofBuf, cast_eq]
  after_results_simp
  try dsimp only [Matrix.cons_val]
  try after_results_simp
  first | (simp only [s13_main_v105, s13_main_v106, s13_main_v51, s13_main_v52, s13_main_v53, s13_main_v67, s13_main_v68, s13_main_v69]; rfl) | simp only [s13_main_v105, s13_main_v106, s13_main_v51, s13_main_v52, s13_main_v53, s13_main_v67, s13_main_v68, s13_main_v69] | rfl
set_option maxRecDepth 8192 in
set_option maxHeartbeats 2000000 in
theorem s14_main_v111 (V0 : Valuation τ sig (Elt F)) : s14 V0 (no_index (Proc.devRef .tc main_v111)) = (Cert.ReferenceIdeal.Read.val_main_v122 (F := F) (a0 V0) (a1 V0) (a2 V0) (a3 V0)) := by
  unfold s14
  simp only [ops14, TRef.ternary, TRef.binary, TRef.nullary, TRef.unary, TRef.toBuf, TRef.ofBuf, cast_eq]
  after_results_simp
  try dsimp only [Matrix.cons_val]
  try after_results_simp
  first | (simp only [s13_main_v105, s13_main_v106, s13_main_v51, s13_main_v52, s13_main_v53, s13_main_v67, s13_main_v68, s13_main_v69]; rfl) | simp only [s13_main_v105, s13_main_v106, s13_main_v51, s13_main_v52, s13_main_v53, s13_main_v67, s13_main_v68, s13_main_v69] | rfl
set_option maxRecDepth 8192 in
set_option maxHeartbeats 2000000 in
theorem s14_main_v114 (V0 : Valuation τ sig (Elt F)) : s14 V0 (no_index (Proc.devRef .tc main_v114)) = (Cert.ReferenceIdeal.Read.val_main_v125 (F := F) (a0 V0) (a1 V0) (a2 V0) (a3 V0)) := by
  unfold s14
  simp only [ops14, TRef.ternary, TRef.binary, TRef.nullary, TRef.unary, TRef.toBuf, TRef.ofBuf, cast_eq]
  after_results_simp
  try dsimp only [Matrix.cons_val]
  try after_results_simp
  first | (simp only [s13_main_v105, s13_main_v106, s13_main_v51, s13_main_v52, s13_main_v53, s13_main_v67, s13_main_v68, s13_main_v69]; rfl) | simp only [s13_main_v105, s13_main_v106, s13_main_v51, s13_main_v52, s13_main_v53, s13_main_v67, s13_main_v68, s13_main_v69] | rfl
set_option maxRecDepth 8192 in
set_option maxHeartbeats 2000000 in
theorem s14_main_v115 (V0 : Valuation τ sig (Elt F)) : s14 V0 (no_index (Proc.devRef .tc main_v115)) = (Cert.ReferenceIdeal.Read.val_main_v126 (F := F) (a1 V0) (a2 V0) (a3 V0)) := by
  unfold s14
  simp only [ops14, TRef.ternary, TRef.binary, TRef.nullary, TRef.unary, TRef.toBuf, TRef.ofBuf, cast_eq]
  after_results_simp
  try dsimp only [Matrix.cons_val]
  try after_results_simp
  first | (simp only [s13_main_v105, s13_main_v106, s13_main_v51, s13_main_v52, s13_main_v53, s13_main_v67, s13_main_v68, s13_main_v69]; rfl) | simp only [s13_main_v105, s13_main_v106, s13_main_v51, s13_main_v52, s13_main_v53, s13_main_v67, s13_main_v68, s13_main_v69] | rfl

set_option maxRecDepth 8192 in
/-- Window 15 of the host operations. -/
abbrev ops15 : List (HloOp τ sig (Elt F)) :=
  [ StableHlo.binary main_v114 main_v115 main_v116 (mulf : (⟨S4x1x16x64x128, .f32⟩ : BufTy).Contents (Elt F) → (⟨S4x1x16x64x128, .f32⟩ : BufTy).Contents (Elt F) → (⟨S4x1x16x64x128, .f32⟩ : BufTy).Contents (Elt F)),
    StableHlo.binary main_v116 main_v70 main_v117 (addf : (⟨S4x1x16x64x128, .f32⟩ : BufTy).Contents (Elt F) → (⟨S4x1x16x64x128, .f32⟩ : BufTy).Contents (Elt F) → (⟨S4x1x16x64x128, .f32⟩ : BufTy).Contents (Elt F)) ]
abbrev W15 : List (Ref sig .tc) := [main_v116, main_v117]
set_option maxRecDepth 8192 in
theorem writes15 : (ops15 : List (HloOp τ sig (Elt F))).Forall fun op => op.writes ⊆ (W15.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 15. -/
def s15 (V0 : Valuation τ sig (Elt F)) : Valuation τ sig (Elt F) := after ops15 (s14 V0)
theorem keep15 (V0 : Valuation τ sig (Elt F)) (r : Ref sig .tc) (h : r ∉ W15) : s15 V0 (Proc.devRef .tc r) = (s14 V0) (Proc.devRef .tc r) :=
  after_of_writes_sub ops15 _ writes15 h
theorem s15_main_v1 (V0 : Valuation τ sig (Elt F)) : s15 V0 (no_index (Proc.devRef .tc main_v1)) = lanePad (a2 V0) :=
  (keep15 V0 main_v1 (by decide)).trans (s14_main_v1 V0)
theorem s15_main_v3 (V0 : Valuation τ sig (Elt F)) : s15 V0 (no_index (Proc.devRef .tc main_v3)) = lanePad (a3 V0) :=
  (keep15 V0 main_v3 (by decide)).trans (s14_main_v3 V0)
theorem s15_main_v5 (V0 : Valuation τ sig (Elt F)) : s15 V0 (no_index (Proc.devRef .tc main_v5)) = lanePad (a4 V0) :=
  (keep15 V0 main_v5 (by decide)).trans (s14_main_v5 V0)
theorem s15_main_v72 (V0 : Valuation τ sig (Elt F)) : s15 V0 (no_index (Proc.devRef .tc main_v72)) = (Cert.ReferenceIdeal.Read.val_main_v83 (F := F)) :=
  (keep15 V0 main_v72 (by decide)).trans (s14_main_v72 V0)
theorem s15_main_v75 (V0 : Valuation τ sig (Elt F)) : s15 V0 (no_index (Proc.devRef .tc main_v75)) = (Cert.ReferenceIdeal.Read.val_main_v86 (F := F) (a0 V0) (a1 V0) (a2 V0) (a3 V0)) :=
  (keep15 V0 main_v75 (by decide)).trans (s14_main_v75 V0)
theorem s15_main_v78 (V0 : Valuation τ sig (Elt F)) : s15 V0 (no_index (Proc.devRef .tc main_v78)) = (Cert.ReferenceIdeal.Read.val_main_v89 (F := F) (a0 V0) (a1 V0) (a2 V0) (a3 V0)) :=
  (keep15 V0 main_v78 (by decide)).trans (s14_main_v78 V0)
theorem s15_main_v81 (V0 : Valuation τ sig (Elt F)) : s15 V0 (no_index (Proc.devRef .tc main_v81)) = (Cert.ReferenceIdeal.Read.val_main_v92 (F := F) (a0 V0) (a1 V0) (a2 V0) (a3 V0)) :=
  (keep15 V0 main_v81 (by decide)).trans (s14_main_v81 V0)
theorem s15_main_v84 (V0 : Valuation τ sig (Elt F)) : s15 V0 (no_index (Proc.devRef .tc main_v84)) = (Cert.ReferenceIdeal.Read.val_main_v95 (F := F) (a0 V0) (a1 V0) (a2 V0) (a3 V0)) :=
  (keep15 V0 main_v84 (by decide)).trans (s14_main_v84 V0)
theorem s15_main_v87 (V0 : Valuation τ sig (Elt F)) : s15 V0 (no_index (Proc.devRef .tc main_v87)) = (Cert.ReferenceIdeal.Read.val_main_v98 (F := F) (a0 V0) (a1 V0) (a2 V0) (a3 V0)) :=
  (keep15 V0 main_v87 (by decide)).trans (s14_main_v87 V0)
theorem s15_main_v90 (V0 : Valuation τ sig (Elt F)) : s15 V0 (no_index (Proc.devRef .tc main_v90)) = (Cert.ReferenceIdeal.Read.val_main_v101 (F := F) (a0 V0) (a1 V0) (a2 V0) (a3 V0)) :=
  (keep15 V0 main_v90 (by decide)).trans (s14_main_v90 V0)
theorem s15_main_v93 (V0 : Valuation τ sig (Elt F)) : s15 V0 (no_index (Proc.devRef .tc main_v93)) = (Cert.ReferenceIdeal.Read.val_main_v104 (F := F) (a0 V0) (a1 V0) (a2 V0) (a3 V0)) :=
  (keep15 V0 main_v93 (by decide)).trans (s14_main_v93 V0)
theorem s15_main_v96 (V0 : Valuation τ sig (Elt F)) : s15 V0 (no_index (Proc.devRef .tc main_v96)) = (Cert.ReferenceIdeal.Read.val_main_v107 (F := F) (a0 V0) (a1 V0) (a2 V0) (a3 V0)) :=
  (keep15 V0 main_v96 (by decide)).trans (s14_main_v96 V0)
theorem s15_main_v99 (V0 : Valuation τ sig (Elt F)) : s15 V0 (no_index (Proc.devRef .tc main_v99)) = (Cert.ReferenceIdeal.Read.val_main_v110 (F := F) (a0 V0) (a1 V0) (a2 V0) (a3 V0)) :=
  (keep15 V0 main_v99 (by decide)).trans (s14_main_v99 V0)
theorem s15_main_v102 (V0 : Valuation τ sig (Elt F)) : s15 V0 (no_index (Proc.devRef .tc main_v102)) = (Cert.ReferenceIdeal.Read.val_main_v113 (F := F) (a0 V0) (a1 V0) (a2 V0) (a3 V0)) :=
  (keep15 V0 main_v102 (by decide)).trans (s14_main_v102 V0)
theorem s15_main_v105 (V0 : Valuation τ sig (Elt F)) : s15 V0 (no_index (Proc.devRef .tc main_v105)) = (Cert.ReferenceIdeal.Read.val_main_v116 (F := F) (a0 V0) (a1 V0) (a2 V0) (a3 V0)) :=
  (keep15 V0 main_v105 (by decide)).trans (s14_main_v105 V0)
theorem s15_main_v108 (V0 : Valuation τ sig (Elt F)) : s15 V0 (no_index (Proc.devRef .tc main_v108)) = (Cert.ReferenceIdeal.Read.val_main_v119 (F := F) (a0 V0) (a1 V0) (a2 V0) (a3 V0)) :=
  (keep15 V0 main_v108 (by decide)).trans (s14_main_v108 V0)
theorem s15_main_v111 (V0 : Valuation τ sig (Elt F)) : s15 V0 (no_index (Proc.devRef .tc main_v111)) = (Cert.ReferenceIdeal.Read.val_main_v122 (F := F) (a0 V0) (a1 V0) (a2 V0) (a3 V0)) :=
  (keep15 V0 main_v111 (by decide)).trans (s14_main_v111 V0)
theorem s15_main_v114 (V0 : Valuation τ sig (Elt F)) : s15 V0 (no_index (Proc.devRef .tc main_v114)) = (Cert.ReferenceIdeal.Read.val_main_v125 (F := F) (a0 V0) (a1 V0) (a2 V0) (a3 V0)) :=
  (keep15 V0 main_v114 (by decide)).trans (s14_main_v114 V0)
set_option maxRecDepth 8192 in
set_option maxHeartbeats 2000000 in
theorem s15_main_v117 (V0 : Valuation τ sig (Elt F)) : s15 V0 (no_index (Proc.devRef .tc main_v117)) = (Cert.ReferenceIdeal.Read.val_main_v128 (F := F) (a0 V0) (a1 V0) (a2 V0) (a3 V0)) := by
  unfold s15
  simp only [ops15, TRef.ternary, TRef.binary, TRef.nullary, TRef.unary, TRef.toBuf, TRef.ofBuf, cast_eq]
  after_results_simp
  try dsimp only [Matrix.cons_val]
  try after_results_simp
  first | (simp only [s14_main_v114, s14_main_v115, s14_main_v70]; rfl) | simp only [s14_main_v114, s14_main_v115, s14_main_v70] | rfl

set_option maxRecDepth 8192 in
/-- Window 16 of the host operations. -/
abbrev ops16 : List (HloOp τ sig (Elt F)) :=
  [ StableHlo.nary ![main_v72, main_v75, main_v78, main_v81, main_v84, main_v87, main_v90, main_v93, main_v96, main_v99, main_v102, main_v105, main_v108, main_v111, main_v114, main_v117] main_v118 (fun u => fn118 (F := F) (u 0) (u 1) (u 2) (u 3) (u 4) (u 5) (u 6) (u 7) (u 8) (u 9) (u 10) (u 11) (u 12) (u 13) (u 14) (u 15)),
    StableHlo.unary main_v118 main_v119 ((transpose S4x16x16x64x128 [0, 2, 1, 3, 4] · transposes_S4x16x16x64x128_S4x16x16x64x128_0_2_1_3_4) : (⟨S4x16x16x64x128, .f32⟩ : BufTy).Contents (Elt F) → (⟨S4x16x16x64x128, .f32⟩ : BufTy).Contents (Elt F)) ]
abbrev W16 : List (Ref sig .tc) := [main_v118, main_v119]
set_option maxRecDepth 8192 in
theorem writes16 : (ops16 : List (HloOp τ sig (Elt F))).Forall fun op => op.writes ⊆ (W16.map (Proc.devRef (τ := τ) .tc)).toFinset := by
  simp only [List.Forall]
  (repeat' apply And.intro) <;> (simp only [nullary_writes, unary_writes, binary_writes, ternary_writes, reshape_writes, nary_writes, Finset.singleton_subset_iff, List.mem_toFinset]; exact List.mem_map_of_mem (by decide))
/-- The contents after window 16. -/
def s16 (V0 : Valuation τ sig (Elt F)) : Valuation τ sig (Elt F) := after ops16 (s15 V0)
theorem keep16 (V0 : Valuation τ sig (Elt F)) (r : Ref sig .tc) (h : r ∉ W16) : s16 V0 (Proc.devRef .tc r) = (s15 V0) (Proc.devRef .tc r) :=
  after_of_writes_sub ops16 _ writes16 h
theorem s16_main_v1 (V0 : Valuation τ sig (Elt F)) : s16 V0 (no_index (Proc.devRef .tc main_v1)) = lanePad (a2 V0) :=
  (keep16 V0 main_v1 (by decide)).trans (s15_main_v1 V0)
theorem s16_main_v3 (V0 : Valuation τ sig (Elt F)) : s16 V0 (no_index (Proc.devRef .tc main_v3)) = lanePad (a3 V0) :=
  (keep16 V0 main_v3 (by decide)).trans (s15_main_v3 V0)
theorem s16_main_v5 (V0 : Valuation τ sig (Elt F)) : s16 V0 (no_index (Proc.devRef .tc main_v5)) = lanePad (a4 V0) :=
  (keep16 V0 main_v5 (by decide)).trans (s15_main_v5 V0)
set_option maxRecDepth 8192 in
set_option maxHeartbeats 2000000 in
theorem s16_main_v119 (V0 : Valuation τ sig (Elt F)) : s16 V0 (no_index (Proc.devRef .tc main_v119)) = (transpose S4x16x16x64x128 [0, 2, 1, 3, 4] ((Cert.ReferenceIdeal.Read.val_main_v129 (F := F) (a0 V0) (a1 V0) (a2 V0) (a3 V0)) : (⟨S4x16x16x64x128, .f32⟩ : BufTy).Contents (Elt F)) transposes_S4x16x16x64x128_S4x16x16x64x128_0_2_1_3_4 : (⟨S4x16x16x64x128, .f32⟩ : BufTy).Contents (Elt F)) := by
  unfold s16
  simp only [ops16, TRef.ternary, TRef.binary, TRef.nullary, TRef.unary, TRef.toBuf, TRef.ofBuf, cast_eq]
  after_results_simp
  try dsimp only [Matrix.cons_val]
  try after_results_simp
  first | (simp only [s15_main_v102, s15_main_v105, s15_main_v108, s15_main_v111, s15_main_v114, s15_main_v117, s15_main_v72, s15_main_v75, s15_main_v78, s15_main_v81, s15_main_v84, s15_main_v87, s15_main_v90, s15_main_v93, s15_main_v96, s15_main_v99]; rfl) | simp only [s15_main_v102, s15_main_v105, s15_main_v108, s15_main_v111, s15_main_v114, s15_main_v117, s15_main_v72, s15_main_v75, s15_main_v78, s15_main_v81, s15_main_v84, s15_main_v87, s15_main_v90, s15_main_v93, s15_main_v96, s15_main_v99] | rfl

set_option maxRecDepth 16384 in
theorem flat : (List.flatten [hostOps0, hostOps0_1, hostOps0_2, hostOps0_3, hostOps0_4, hostOps0_5, hostOps0_6, hostOps0_7, hostOps0_8, hostOps0_9, hostOps0_10] : List (HloOp τ sig (Elt F))) =
    ops0 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16)))))))))))))))) := rfl

theorem after_flat (V0 : Valuation τ sig (Elt F)) :
    after (List.flatten [hostOps0, hostOps0_1, hostOps0_2, hostOps0_3, hostOps0_4, hostOps0_5, hostOps0_6, hostOps0_7, hostOps0_8, hostOps0_9, hostOps0_10]) V0 = s16 V0 := by
  rw [flat]
  simp only [after_append]
  rfl

end Cert.KernelIdeal.Host

end
-- ==== Proof.Arr.lean ====
/- The data of a grid step in terms of the arrays: step `t` works on sequence `t / 16`, chunk `15 - t % 16`. And the
   result array as one function of the steps' data and states. -/
module

public import proofs.«01_k».proof.Proof.Fold
public import proofs.«01_k».proof.Proof.Host
public import Idealize.ShloMosaic.Lib.Pipeline.ValueKit
public import Idealize.ShloMosaic.Lib.Pointwise

@[expose] public section

set_option maxRecDepth 20000

noncomputable section

namespace Cert

open Idealize.ShloMosaic Cert.KernelIdeal

/-- Row `s` of chunk `c`. -/
def row (c : Fin 16) (s : Fin 128) : Fin 2048 := ⟨128 * c.val + s.val, by have := c.isLt; have := s.isLt; omega⟩

/-- Chunk `c` of sequence `b`, cut out of the arrays. -/
def chunk (x0 : Vec Ideal S4x2048x1536 .f32) (x1 : Vec Ideal S4x2048x3456 .f32) (x2 x3 x4 : Vec Ideal S16 .f32)
    (x5 : Vec Ideal S4x2048x1024 .f32) (P : Fin 4 → Fin 16 → Fin 16 → Fin 64 → Fin 128 → EReal) (b : Fin 4) (c : Fin 16) : Blk where
  X h s p := x0 (ix3 b (row c s) ⟨64 * h.val + p.val, by have := h.isLt; have := p.isLt; omega⟩)
  B g s n := x0 (ix3 b (row c s) ⟨1024 + 128 * g.val + n.val, by have := g.isLt; have := n.isLt; omega⟩)
  C g s n := x0 (ix3 b (row c s) ⟨1280 + 128 * g.val + n.val, by have := g.isLt; have := n.isLt; omega⟩)
  Y h s p := x5 (ix3 b (row c s) ⟨64 * h.val + p.val, by have := h.isLt; have := p.isLt; omega⟩)
  P h p n := P b c h p n
  d h s := Num.softplus (x1 (ix3 b (row c s) ⟨3328 + h.val, by have := h.isLt; omega⟩) + x2 (ix1 h))
  a h := Num.cs fun s => Num.softplus (x1 (ix3 b (row c s) ⟨3328 + h.val, by have := h.isLt; omega⟩) + x2 (ix1 h)) * -(Ideal.exp (x3 (ix1 h)))
  k h := x4 (ix1 h)

/-- The gradient of the states leaving the chunks, from the last chunk backwards: `dst K q` leaves chunk `15 - q`. -/
def dst (K : Fin 16 → Blk) : ℕ → Fin 16 → Fin 64 → Fin 128 → EReal
  | 0 => fun _ _ _ => 0
  | q + 1 => (K ⟨15 - q, by omega⟩).oS (dst K q)

/-- The chunk of a row. -/
def rc (i : Fin 2048) : Fin 16 := ⟨i.val / 128, by have := i.isLt; omega⟩
/-- The row in its chunk. -/
def rs (i : Fin 2048) : Fin 128 := ⟨i.val % 128, Nat.mod_lt _ (by norm_num)⟩

/-- The gradient of the whole array, from the chunks of each sequence. -/
def full (K : Fin 4 → Fin 16 → Blk) (i : S4x2048x1536.Idx) : EReal :=
  (K (i 0) (rc (i 1))).out (dst (K (i 0)) (15 - (rc (i 1)).val)) (rs (i 1)) (i 2)

end Cert

namespace Cert.KernelIdeal.Arr

open Cert Cert.KernelIdeal Cert.KernelIdeal.Gen Cert.KernelIdeal.Pay Cert.KernelIdeal.Fold Idealize.ShloMosaic Idealize.ShloMosaic.TcCoe Idealize.SL.Sem
open Cert.KernelIdeal.Head

variable (m : (ℓ : Loc nD τ sig) → Buf (Elt Ideal) ℓ)

theorem e0 : ∀ t : Fin cfg0.N, win0_0.index t = ![t.val / 16, 15 - t.val % 16, 0] := (by decide +kernel : ∀ t : Fin grid0.N, _)
theorem e1 : ∀ t : Fin cfg0.N, win0_1.index t = ![t.val / 16, 15 - t.val % 16, 26] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 16, 0, 15 - t.val % 16, 0, 0] := (by decide +kernel : ∀ t : Fin grid0.N, _)
theorem e6 : ∀ t : Fin cfg0.N, win0_6.index t = ![t.val / 16, 15 - t.val % 16, 0] := (by decide +kernel : ∀ t : Fin grid0.N, _)
theorem e7 : ∀ t : Fin cfg0.N, win0_7.index t = ![t.val / 16, 15 - t.val % 16, 0] := (by decide +kernel : ∀ t : Fin grid0.N, _)

theorem t_lt (t : Fin cfg0.N) : t.val < 64 := lt_of_lt_of_eq t.isLt N_0

/-- The sequence of a step. -/
def bt (t : Fin cfg0.N) : Fin 4 := ⟨t.val / 16, by have := t_lt t; omega⟩
/-- The chunk of a step. -/
def ct (t : Fin cfg0.N) : Fin 16 := ⟨15 - t.val % 16, by omega⟩

theorem i0 (c : Dev nD) (t : Fin cfg0.N) (s : Fin 128) (j : Fin 1536) :
    iblk m c 0 t (ix3 0 s j) = V m c main_arg0 (ix3 (bt t) (row (ct t) s) j) := by
  blk_ext [iblk, e0, bt, ct, row]
theorem i1 (c : Dev nD) (t : Fin cfg0.N) (s : Fin 128) (j : Fin 128) :
    iblk m c 1 t (ix3 0 s j) = V m c main_arg1 (ix3 (bt t) (row (ct t) s) ⟨3328 + j.val, by have := j.isLt; omega⟩) := by
  blk_ext [iblk, e1, bt, ct, row]
theorem i2 (c : Dev nD) (t : Fin cfg0.N) (j : Fin 128) : iblk m c 2 t (ix2 0 j) = V m c main_v1 (ix2 0 j) := by
  blk_ext [iblk, e2]
theorem i3 (c : Dev nD) (t : Fin cfg0.N) (j : Fin 128) : iblk m c 3 t (ix2 0 j) = V m c main_v3 (ix2 0 j) := by
  blk_ext [iblk, e3]
theorem i4 (c : Dev nD) (t : Fin cfg0.N) (j : Fin 128) : iblk m c 4 t (ix2 0 j) = V m c main_v5 (ix2 0 j) := by
  blk_ext [iblk, e4]
theorem i5 (c : Dev nD) (t : Fin cfg0.N) (h : Fin 16) (p : Fin 64) (n : Fin 128) :
    iblk m c 5 t (ix5 0 h 0 p n) = V m c main_v119 (ix5 (bt t) h (ct t) p n) := by
  blk_ext [iblk, e5, bt, ct]
theorem i6 (c : Dev nD) (t : Fin cfg0.N) (s : Fin 128) (j : Fin 1024) :
    iblk m c 6 t (ix3 0 s j) = V m c main_arg5 (ix3 (bt t) (row (ct t) s) j) := by
  blk_ext [iblk, e6, bt, ct, row]

/-- The contents at launch. -/
abbrev L (c : Dev nD) : Valuation τ sig (Elt Ideal) := fun b => m (c, b)

theorem lanePad_apply (v : Vec Ideal S16 .f32) (h : Fin 16) : Host.lanePad (F := Ideal) v (ix2 0 (lane h)) = v (ix1 h) := by
  have hh := h.isLt
  unfold Host.lanePad
  pointwise

theorem V1 (c : Dev nD) : V m c main_v1 = Host.lanePad (F := Ideal) (Host.a2 (L m c)) :=
  (congrFun (Host.after_flat (L m c)) (Proc.devRef .tc main_v1)).trans (Host.s16_main_v1 _)
theorem V3 (c : Dev nD) : V m c main_v3 = Host.lanePad (F := Ideal) (Host.a3 (L m c)) :=
  (congrFun (Host.after_flat (L m c)) (Proc.devRef .tc main_v3)).trans (Host.s16_main_v3 _)
theorem V5 (c : Dev nD) : V m c main_v5 = Host.lanePad (F := Ideal) (Host.a4 (L m c)) :=
  (congrFun (Host.after_flat (L m c)) (Proc.devRef .tc main_v5)).trans (Host.s16_main_v5 _)

/-- The saved states, by sequence, chunk, head. -/
def PV (x0 : Vec Ideal ReferenceIdeal.S4x2048x1536 .f32) (x1 : Vec Ideal ReferenceIdeal.S4x2048x3456 .f32) (x2 x3 : Vec Ideal ReferenceIdeal.S16 .f32)
    (b : Fin 4) (c h : Fin 16) (p : Fin 64) (n : Fin 128) : EReal :=
  Cert.ReferenceIdeal.Read.val_main_v129 (F := Ideal) x0 x1 x2 x3 (ix5 b c h p n)

theorem transpose_hp (v : Vec Ideal S4x16x16x64x128 .f32) (b : Fin 4) (c h : Fin 16) (p : Fin 64) (n : Fin 128) :
    transpose S4x16x16x64x128 [0, 2, 1, 3, 4] v transposes_S4x16x16x64x128_S4x16x16x64x128_0_2_1_3_4 (ix5 b h c p n) = v (ix5 b c h p n) := by
  pointwise

theorem V119 (c : Dev nD) (b : Fin 4) (k h : Fin 16) (p : Fin 64) (n : Fin 128) :
    V m c main_v119 (ix5 b h k p n) = PV (Host.a0 (L m c)) (Host.a1 (L m c)) (Host.a2 (L m c)) (Host.a3 (L m c)) b k h p n :=
  (congrFun ((congrFun (Host.after_flat (L m c)) (Proc.devRef .tc main_v119)).trans (Host.s16_main_v119 _)) (ix5 b h k p n)).trans
    (transpose_hp _ b k h p n)

/-- The chunks of a device's arrays. -/
def K (c : Dev nD) : Fin 4 → Fin 16 → Blk :=
  chunk (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (PV (m ((c : Thread nD τ).loc main_arg0)) (m ((c : Thread nD τ).loc main_arg1)) (m ((c : Thread nD τ).loc main_arg2))
      (m ((c : Thread nD τ).loc main_arg3)))

theorem bias_at (c : Dev nD) (t : Fin cfg0.N) (h : Fin 16) :
    iblk m c 2 t (ix2 0 (lane h)) = m ((c : Thread nD τ).loc main_arg2) (ix1 h) := by
  rw [i2, V1]; exact lanePad_apply _ h
theorem alog_at (c : Dev nD) (t : Fin cfg0.N) (h : Fin 16) :
    iblk m c 3 t (ix2 0 (lane h)) = m ((c : Thread nD τ).loc main_arg3) (ix1 h) := by
  rw [i3, V3]; exact lanePad_apply _ h
theorem dskip_at (c : Dev nD) (t : Fin cfg0.N) (h : Fin 16) :
    iblk m c 4 t (ix2 0 (lane h)) = m ((c : Thread nD τ).loc main_arg4) (ix1 h) := by
  rw [i4, V5]; exact lanePad_apply _ h

/-- Blocks that are cut out of the arrays give the chunk's data. -/
theorem blk_chunk (x0 : Vec Ideal S1x128x1536 .f32) (x1 : Vec Ideal S1x128x128 .f32) (x2 x3 x4 : Vec Ideal S1x128 .f32)
    (x5 : Vec Ideal S1x16x1x64x128 .f32) (x6 : Vec Ideal S1x128x1024 .f32)
    (A0 : Vec Ideal S4x2048x1536 .f32) (A1 : Vec Ideal S4x2048x3456 .f32) (A2 A3 A4 : Vec Ideal S16 .f32)
    (A5 : Vec Ideal S4x2048x1024 .f32) (P : Fin 4 → Fin 16 → Fin 16 → Fin 64 → Fin 128 → EReal) (b : Fin 4) (c : Fin 16)
    (h0 : ∀ s j, x0 (ix3 0 s j) = A0 (ix3 b (row c s) j))
    (h1 : ∀ s (j : Fin 128), x1 (ix3 0 s j) = A1 (ix3 b (row c s) ⟨3328 + j.val, by have := j.isLt; omega⟩))
    (h2 : ∀ h, x2 (ix2 0 (lane h)) = A2 (ix1 h)) (h3 : ∀ h, x3 (ix2 0 (lane h)) = A3 (ix1 h))
    (h4 : ∀ h, x4 (ix2 0 (lane h)) = A4 (ix1 h)) (h5 : ∀ h p n, x5 (ix5 0 h 0 p n) = P b c h p n)
    (h6 : ∀ s j, x6 (ix3 0 s j) = A5 (ix3 b (row c s) j)) :
    blk x0 x1 x2 x3 x4 x5 x6 = chunk A0 A1 A2 A3 A4 A5 P b c := by
  unfold blk chunk acS dtS
  simp only [h0, h1, h2, h3, h4, h5, h6]

theorem Wn_eq (c : Dev nD) (t : Fin cfg0.N) : Wn m c t = K m c (bt t) (ct t) := by
  refine blk_chunk _ _ _ _ _ _ _ _ _ _ _ _ _ _ _ _ (fun s j => ?_) (fun s j => ?_) (bias_at m c t) (alog_at m c t) (dskip_at m c t)
    (fun h p n => ?_) (fun s j => ?_)
  · exact (i0 m c t s j).trans (congrFun (V_main_arg0 m c) _)
  · exact (i1 m c t s j).trans (congrFun (V_main_arg1 m c) _)
  · exact (i5 m c t h p n).trans (V119 m c _ _ h p n)
  · exact (i6 m c t s j).trans (congrFun (V_main_arg5 m c) _)

theorem st_eq (c : Dev nD) (t : Fin cfg0.N) : st m c t.val = dst (K m c (bt t)) (15 - (ct t).val) := by
  have key : ∀ q : ℕ, ∀ t : Fin cfg0.N, t.val % 16 = q → st m c t.val = dst (K m c (bt t)) q := by
    intro q
    induction q with
    | zero => intro t h; exact st_reset m c _ h
    | succ q ih =>
      intro t h
      have hl := t_lt t
      obtain ⟨n, hn⟩ := t
      cases n with
      | zero => simp at h
      | succ n =>
        have hn' : n < cfg0.N := Nat.lt_of_succ_lt hn
        have h0 : n % 16 = q := by simp only at h hl; omega
        have hb : bt ⟨n, hn'⟩ = bt ⟨n + 1, hn⟩ := Fin.ext (by show n / 16 = (n + 1) / 16; simp only at h hl; omega)
        have hc : ct ⟨n, hn'⟩ = ⟨15 - q, by omega⟩ := Fin.ext (by show 15 - n % 16 = _; rw [h0])
        show st m c (n + 1) = _
        rw [st_succ m c n (by simp only at h; omega) hn', Wn_eq, hb, hc]
        have := ih ⟨n, hn'⟩ h0
        rw [hb] at this
        rw [show st m c n = _ from this]
        rfl
  refine key _ t ?_
  show t.val % 16 = 15 - (15 - t.val % 16)
  omega

/-- The result array after the run. -/
theorem final (c : Dev nD) : (dats m 0 c).arrAt 7 cfg0.N = full (K m c) := by
  refine (dats m 0 c).arrAt_eq_of_covers 7 _ (by decide +kernel) fun t hf y => ?_
  blk_simp
  rw [after0_7]
  have hy0 : (y 0).val < 1 := (y 0).isLt
  have hy1 : (y 1).val < 128 := (y 1).isLt
  have ht := t_lt t
  refine ((outs m c t.val t.isLt).1 y).trans ?_
  unfold GO full
  have k0 : ((win0_7.blk t).view.emb y) 0 = bt t := Fin.ext (by blk_simp [e7]; rfl)
  have v1 : (((win0_7.blk t).view.emb y) 1).val = 128 * (ct t).val + (y 1).val := by
    blk_simp [e7]; show (15 - t.val % 16) * 128 + (y 1).val = 128 * (15 - t.val % 16) + (y 1).val; omega
  have k2 : ((win0_7.blk t).view.emb y) 2 = y 2 := Fin.ext (by blk_simp [e7]; try omega)
  have k1 : rc (((win0_7.blk t).view.emb y) 1) = ct t := Fin.ext (by
    show (((win0_7.blk t).view.emb y) 1).val / 128 = _
    rw [v1]; omega)
  have k1' : rs (((win0_7.blk t).view.emb y) 1) = y 1 := Fin.ext (by
    show (((win0_7.blk t).view.emb y) 1).val % 128 = _
    rw [v1]; omega)
  rw [k0, k1, k1', k2, st_eq, ← Wn_eq]

end Cert.KernelIdeal.Arr

end
-- ==== Proof.Ref.lean ====
/- The reference's values, chunk by chunk, up to the gradient of the states leaving every chunk. -/
module

public import proofs.«01_k».proof.Proof.Arr
public import Idealize.ShloMosaic.Lib.Pointwise

@[expose] public section

set_option maxRecDepth 20000

noncomputable section

namespace Cert.Ref

open Cert Cert.ReferenceIdeal Cert.ReferenceIdeal.Gen Cert.ReferenceIdeal.Read Idealize.ShloMosaic Idealize.ShloMosaic.TcCoe Idealize.SL.Sem
open Cert.KernelIdeal.Head Cert.KernelIdeal.Arr

/-- The merged index of chunk `c` of sequence `b`. -/
def zc (b : Fin 4) (c : Fin 16) : Fin 64 := ⟨16 * b.val + c.val, by have := b.isLt; have := c.isLt; omega⟩

theorem at3 {n0 n1 n2 : ℕ} {α : Type} (v : ((a : Fin 3) → Fin ((![n0, n1, n2] : Fin 3 → ℕ) a)) → α) {a a' : Fin n0} {b b' : Fin n1} {c c' : Fin n2}
    (ha : a.val = a'.val) (hb : b.val = b'.val) (hc : c.val = c'.val) : v (ix3 a b c) = v (ix3 a' b' c') := by
  rw [Fin.ext ha, Fin.ext hb, Fin.ext hc]
theorem at4 {n0 n1 n2 n3 : ℕ} {α : Type} (v : ((a : Fin 4) → Fin ((![n0, n1, n2, n3] : Fin 4 → ℕ) a)) → α) {a a' : Fin n0} {b b' : Fin n1} {c c' : Fin n2} {d d' : Fin n3}
    (ha : a.val = a'.val) (hb : b.val = b'.val) (hc : c.val = c'.val) (hd : d.val = d'.val) : v (ix4 a b c d) = v (ix4 a' b' c' d') := by
  rw [Fin.ext ha, Fin.ext hb, Fin.ext hc, Fin.ext hd]
theorem at5 {n0 n1 n2 n3 n4 : ℕ} {α : Type} (v : ((a : Fin 5) → Fin ((![n0, n1, n2, n3, n4] : Fin 5 → ℕ) a)) → α) {a a' : Fin n0} {b b' : Fin n1} {c c' : Fin n2} {d d' : Fin n3} {e e' : Fin n4}
    (ha : a.val = a'.val) (hb : b.val = b'.val) (hc : c.val = c'.val) (hd : d.val = d'.val) (he : e.val = e'.val) : v (ix5 a b c d e) = v (ix5 a' b' c' d' e') := by
  rw [Fin.ext ha, Fin.ext hb, Fin.ext hc, Fin.ext hd, Fin.ext he]

variable (x0 : Vec Ideal S4x2048x1536 .f32) (x1 : Vec Ideal S4x2048x3456 .f32) (x2 x3 x4 : Vec Ideal S16 .f32) (x5 : Vec Ideal S4x2048x1024 .f32)

/-- The chunk's data with the reference's saved states. -/
def kk : Fin 4 → Fin 16 → Blk := chunk x0 x1 x2 x3 x4 x5 (PV x0 x1 x2 x3)

def cX (b : Fin 4) (c h : Fin 16) (s : Fin 128) (p : Fin 64) : EReal := x0 (ix3 b (row c s) ⟨64 * h.val + p.val, by have := h.isLt; have := p.isLt; omega⟩)
def cB (b : Fin 4) (c : Fin 16) (g : Fin 2) (s n : Fin 128) : EReal := x0 (ix3 b (row c s) ⟨1024 + 128 * g.val + n.val, by have := g.isLt; have := n.isLt; omega⟩)
def cC (b : Fin 4) (c : Fin 16) (g : Fin 2) (s n : Fin 128) : EReal := x0 (ix3 b (row c s) ⟨1280 + 128 * g.val + n.val, by have := g.isLt; have := n.isLt; omega⟩)
def cY (b : Fin 4) (c h : Fin 16) (s : Fin 128) (p : Fin 64) : EReal := x5 (ix3 b (row c s) ⟨64 * h.val + p.val, by have := h.isLt; have := p.isLt; omega⟩)
def cd (b : Fin 4) (c h : Fin 16) (s : Fin 128) : EReal := Num.softplus (x1 (ix3 b (row c s) ⟨3328 + h.val, by have := h.isLt; omega⟩) + x2 (ix1 h))
def ca (b : Fin 4) (c h : Fin 16) : Fin 128 → EReal := Num.cs fun s => cd x1 x2 b c h s * -(Ideal.exp (x3 (ix1 h)))

theorem r5 (b : Fin 4) (c h : Fin 16) (l : Fin 128) (p : Fin 64) : val_main_v5 (F := Ideal) x0 (ix4 (zc b c) h l p) = cX x0 b c h l p := by
  have hb := b.isLt; have hc := c.isLt; have hh := h.isLt; have hl := l.isLt; have hp := p.isLt
  unfold val_main_v5 val_main_v4 val_main_v1 zc
  pointwise
  exact at3 x0 rfl (by show (16 * b.val + c.val) % 16 * 128 + l.val = 128 * c.val + l.val; omega) (by show h.val * 64 + p.val = 64 * h.val + p.val; omega)

theorem r143 (b : Fin 4) (c h : Fin 16) (l : Fin 128) (p : Fin 64) : val_main_v143 (F := Ideal) x5 (ix4 (zc b c) h l p) = cY x5 b c h l p := by
  have hb := b.isLt; have hc := c.isLt; have hh := h.isLt; have hl := l.isLt; have hp := p.isLt
  unfold val_main_v143 val_main_v142 zc
  pointwise
  exact at3 x5 rfl (by show (16 * b.val + c.val) % 16 * 128 + l.val = 128 * c.val + l.val; omega) (by show h.val * 64 + p.val = 64 * h.val + p.val; omega)

theorem r7 (b : Fin 4) (c : Fin 16) (g : Fin 2) (l n : Fin 128) : val_main_v7 (F := Ideal) x0 (ix4 (zc b c) g l n) = cB x0 b c g l n := by
  have hb := b.isLt; have hc := c.isLt; have hh := g.isLt; have hl := l.isLt; have hp := n.isLt
  unfold val_main_v7 val_main_v6 val_main_v2 zc
  pointwise
  refine at3 x0 rfl ?_ ?_ <;> simp only [row] <;> omega

theorem r9 (b : Fin 4) (c : Fin 16) (g : Fin 2) (l n : Fin 128) : val_main_v9 (F := Ideal) x0 (ix4 (zc b c) g l n) = cC x0 b c g l n := by
  have hb := b.isLt; have hc := c.isLt; have hh := g.isLt; have hl := l.isLt; have hp := n.isLt
  unfold val_main_v9 val_main_v8 val_main_v3 zc
  pointwise
  refine at3 x0 rfl ?_ ?_ <;> simp only [row] <;> omega

theorem r11 (b : Fin 4) (c h : Fin 16) (l n : Fin 128) : val_main_v11 (F := Ideal) x0 (ix4 (zc b c) h l n) = cB x0 b c (gr h) l n := by
  rw [← r7]
  unfold val_main_v11 val_main_v10
  pointwise
  rfl

theorem r13 (b : Fin 4) (c h : Fin 16) (l n : Fin 128) : val_main_v13 (F := Ideal) x0 (ix4 (zc b c) h l n) = cC x0 b c (gr h) l n := by
  rw [← r9]
  unfold val_main_v13 val_main_v12
  pointwise
  rfl

theorem r16 (b : Fin 4) (r : Fin 2048) (h : Fin 16) : val_main_v16 (F := Ideal) x1 x2 (ix3 b r h) = x1 (ix3 b r ⟨3328 + h.val, by have := h.isLt; omega⟩) + x2 (ix1 h) := by
  unfold val_main_v16 val_main_v15 val_main_v14 val_main_v0
  pointwise

theorem r17 (b : Fin 4) (r : Fin 2048) (h : Fin 16) :
    val_main_v17 (F := Ideal) x1 x2 (ix3 b r h) = Num.softplus (x1 (ix3 b r ⟨3328 + h.val, by have := h.isLt; omega⟩) + x2 (ix1 h)) := by
  rw [← r16]
  unfold val_main_v17 val_main_call0_v4 val_main_call0_v6 val_main_call0_v11 val_main_call0_v10 val_main_call0_v9 val_main_call0_v8 val_main_call0_v7 val_main_call0_v5 val_main_call0_v3 val_main_call0_v2 val_main_call0_v1 val_main_call0_v0 val_main_call0_cst
  generalize val_main_v16 (F := Ideal) x1 x2 = v
  pointwise
  rw [if_neg (by simp)]
  rfl

theorem r19 (b : Fin 4) (c h : Fin 16) (l : Fin 128) : val_main_v19 (F := Ideal) x1 x2 (ix3 (zc b c) h l) = cd x1 x2 b c h l := by
  have hb := b.isLt; have hc := c.isLt; have hh := h.isLt; have hl := l.isLt
  unfold cd
  rw [← r17]
  unfold val_main_v19 val_main_v18 zc
  pointwise
  refine at3 (val_main_v17 (F := Ideal) x1 x2) rfl ?_ ?_ <;> simp only [row] <;> omega

theorem r23 (b : Fin 4) (c h : Fin 16) (l : Fin 128) : val_main_v23 (F := Ideal) x1 x2 x3 (ix3 (zc b c) h l) = cd x1 x2 b c h l * -(Ideal.exp (x3 (ix1 h))) := by
  rw [← r19]
  unfold val_main_v23 val_main_v22 val_main_v21 val_main_v20
  pointwise

/-- A running sum is the sum up to the index. -/
theorem foldl_sum {ι : Type} (g : ι → EReal) (L : List ι) (v : EReal) : L.foldl (fun r n => r + g n) v = v + (L.map g).sum := by
  induction L generalizing v with
  | nil => simp
  | cons a L ih => rw [List.foldl_cons, ih, List.map_cons, List.sum_cons, add_assoc]

theorem cumsum (v : FVec Ideal S64x16x128 .f32) (init : FVec Ideal S_ .f32) (hi : init (Shape.Idx.first h_S_) = 0) (z : Fin 64) (h : Fin 16) (l : Fin 128) :
    Host.reduceWindowAdd ![1, 1, 128] ![1, 1, 1] ![0, 0, 127] ![0, 0, 0] v init reduceWindows_S64x16x128_S64x16x128_w1s1p0_0_w1s1p0_0_w128s1p127_0 h_S_ (ix3 z h l)
      = Num.cs (fun s => v (ix3 z h s)) l := by
  unfold Host.reduceWindowAdd
  rw [Ideal.hostReduceWindowAdd_def, hi]
  unfold Ideal.hostReduceWindowAdd Host.reduceWindow
  dsimp only
  rw [foldl_sum, zero_add, ← Fin.sum_univ_def]
  unfold Num.cs
  let e1 : Fin 128 ≃ ((⟨3, ![1, 1, 128]⟩ : Shape).Idx) :=
    { toFun := fun k => ix3 0 0 k, invFun := fun i => i 2, left_inv := fun k => rfl,
      right_inv := fun i => by
        funext a
        fin_cases a
        · exact (Subsingleton.elim (α := Fin 1) _ _)
        · exact (Subsingleton.elim (α := Fin 1) _ _)
        · rfl }
  rw [← Equiv.sum_comp (e1.trans (Shape.rowMajor (⟨3, ![1, 1, 128]⟩ : Shape)))]
  rw [← Equiv.sum_comp (Equiv.addRight (l + 1)) (fun s : Fin 128 => if s ≤ l then v (ix3 z h s) else 0)]
  refine Finset.sum_congr rfl fun k _ => ?_
  have hk := k.isLt
  have hl := l.isLt
  have hs : (Equiv.addRight (l + 1) k).val = (k.val + (l.val + 1)) % 128 := by
    show (k + (l + 1) : Fin 128).val = _
    rw [Fin.val_add, Fin.val_add]
    show (k.val + (l.val + 1) % 128) % 128 = _
    omega
  simp only [Equiv.trans_apply, Equiv.symm_apply_apply]
  by_cases hc : 127 ≤ l.val + k.val
  · have hle : Equiv.addRight (l + 1) k ≤ l := by rw [Fin.le_def, hs]; omega
    rw [if_pos hle, dif_pos]
    · refine congrArg v (funext fun a => Fin.ext ?_)
      fin_cases a
      · show z.val * 1 + 0 - 0 = z.val; omega
      · show h.val * 1 + 0 - 0 = h.val; omega
      · show l.val * 1 + k.val - 127 = (Equiv.addRight (l + 1) k).val; rw [hs]; omega
    · intro a
      have hz := z.isLt; have hh := h.isLt
      fin_cases a
      · show 0 ≤ z.val * 1 + 0 ∧ z.val * 1 + 0 - 0 < 64; omega
      · show 0 ≤ h.val * 1 + 0 ∧ h.val * 1 + 0 - 0 < 16; omega
      · show 127 ≤ l.val * 1 + k.val ∧ l.val * 1 + k.val - 127 < 128; omega
  · have hle : ¬ Equiv.addRight (l + 1) k ≤ l := by rw [Fin.le_def, hs]; omega
    rw [if_neg hle, dif_neg]
    intro hin
    have h2 := (hin 2).1
    change 127 ≤ l.val * 1 + k.val at h2
    omega

theorem r24 (b : Fin 4) (c h : Fin 16) (l : Fin 128) : val_main_v24 (F := Ideal) x1 x2 x3 (ix3 (zc b c) h l) = ca x1 x2 x3 b c h l := by
  unfold val_main_v24
  rw [cumsum _ _ (by unfold val_main_call1_call0_v0 val_main_call1_call0_cst; pointwise)]
  unfold ca
  congr 1
  funext s
  exact r23 x1 x2 x3 b c h s

theorem r26 (b : Fin 4) (c h : Fin 16) : val_main_v26 (F := Ideal) x1 x2 x3 (ix2 (zc b c) h) = ca x1 x2 x3 b c h 127 := by
  rw [← r24]
  unfold val_main_v26 val_main_v25
  pointwise

theorem r28 (b : Fin 4) (c h : Fin 16) (l : Fin 128) (p : Fin 64) :
    val_main_v28 (F := Ideal) x0 x1 x2 (ix4 (zc b c) h l p) = cX x0 b c h l p * cd x1 x2 b c h l := by
  rw [← r5, ← r19]
  unfold val_main_v28 val_main_v27
  pointwise

theorem r31 (z : Fin 64) (h : Fin 16) (l s : Fin 128) : val_main_v31 (F := Ideal) (ix4 z h l s) = BitVec.ofBool (decide (s ≤ l)) := by
  unfold val_main_v31 val_main_v30 val_main_v29 val_main_c val_main_call2_v5 val_main_call2_c_0 val_main_call2_v4 val_main_call2_v3 val_main_call2_v2 val_main_call2_v1 val_main_call2_c val_main_call2_v0
  pointwise
  rw [show IntOp.addi (BitVec.ofNat 32 l.val) 0#32 = BitVec.ofNat 32 l.val from BitVec.add_zero _, sge_eq]
  cases decide (s ≤ l) <;> rfl

theorem r36 (b : Fin 4) (c h : Fin 16) (l s : Fin 128) : val_main_v36 (F := Ideal) x1 x2 x3 (ix4 (zc b c) h l s) = sL (ca x1 x2 x3 b c h) l s := by
  unfold sL
  rw [← r24, ← r24]
  unfold val_main_v36 val_main_v35 val_main_v34 val_main_v33 val_main_v32 val_main_call3_v1 val_main_call3_v0
  pointwise
  rw [r31]
  by_cases hs : s ≤ l
  · rw [decide_eq_true hs, if_pos hs]; rfl
  · rw [decide_eq_false hs, if_neg hs]
    show Ideal.exp (FloatOps.ofBits .f32 0xFF800000#32 : Ideal .f32) = 0
    rw [show (FloatOps.ofBits .f32 0xFF800000#32 : Ideal .f32) = (⊥ : EReal) from by first | rfl | simp | exact Ideal.ofBits_neg_inf]
    rfl

theorem r37 (b : Fin 4) (c : Fin 16) (g : Fin 2) (l s : Fin 128) : val_main_v37 (F := Ideal) x0 (ix4 (zc b c) g l s) = sCB (cB x0 b c g) (cC x0 b c g) l s := by
  unfold val_main_v37 sCB
  pointwise
  exact Finset.sum_congr rfl fun n _ => by rw [r9, r7]

theorem r40 (b : Fin 4) (c h : Fin 16) (l s : Fin 128) : val_main_v40 (F := Ideal) x0 x1 x2 x3 (ix4 (zc b c) h l s)
    = sCB (cB x0 b c (gr h)) (cC x0 b c (gr h)) l s * sL (ca x1 x2 x3 b c h) l s := by
  rw [← r37, ← r36]
  unfold val_main_v40 val_main_v39 val_main_v38
  pointwise
  rfl

theorem r45 (b : Fin 4) (c h : Fin 16) (l : Fin 128) (p : Fin 64) :
    val_main_v45 (F := Ideal) x1 x2 x3 (ix4 (zc b c) h l p) = Ideal.exp (ca x1 x2 x3 b c h 127 - ca x1 x2 x3 b c h l) := by
  rw [← r26, ← r24]
  unfold val_main_v45 val_main_v44 val_main_v43 val_main_v42
  pointwise

theorem r46 (b : Fin 4) (c h : Fin 16) (l : Fin 128) (p : Fin 64) :
    val_main_v46 (F := Ideal) x0 x1 x2 x3 (ix4 (zc b c) h l p) = Ideal.exp (ca x1 x2 x3 b c h 127 - ca x1 x2 x3 b c h l) * (cX x0 b c h l p * cd x1 x2 b c h l) := by
  rw [← r28, ← r45 x1 x2 x3 b c h l p]
  unfold val_main_v46
  pointwise

theorem r131 (b : Fin 4) (c h : Fin 16) (p : Fin 64) (n : Fin 128) :
    val_main_v131 (F := Ideal) x0 x1 x2 x3 (ix4 (zc b c) h p n) = PV x0 x1 x2 x3 b c h p n := by
  have hb := b.isLt; have hc := c.isLt
  unfold val_main_v131 PV zc
  generalize val_main_v129 (F := Ideal) x0 x1 x2 x3 = v
  pointwise

theorem r145 (b : Fin 4) (c h : Fin 16) (l : Fin 128) (p : Fin 64) :
    val_main_v145 (F := Ideal) x1 x2 x3 x5 (ix4 (zc b c) h l p) = cY x5 b c h l p * Ideal.exp (ca x1 x2 x3 b c h l) := by
  rw [← r143, ← r24]
  unfold val_main_v145 val_main_v134 val_main_v133
  pointwise

/-- The part of the gradient of a state that comes from its own chunk. -/
def cS (b : Fin 4) (c h : Fin 16) (p : Fin 64) (n : Fin 128) : EReal :=
  ∑ l : Fin 128, cY x5 b c h l p * Ideal.exp (ca x1 x2 x3 b c h l) * cC x0 b c (gr h) l n

theorem r146 (b : Fin 4) (c h : Fin 16) (p : Fin 64) (n : Fin 128) :
    val_main_v146 (F := Ideal) x0 x1 x2 x3 x5 (ix4 (zc b c) h p n) = cS x0 x1 x2 x3 x5 b c h p n := by
  unfold val_main_v146 cS
  pointwise
  exact Finset.sum_congr rfl fun l _ => by rw [r145, r13]

theorem r147 (b : Fin 4) (c h : Fin 16) (l n : Fin 128) :
    val_main_v147 (F := Ideal) x0 x1 x2 x3 x5 (ix4 (zc b c) h l n) = sC (cY x5 b c h) (PV x0 x1 x2 x3 b c h) (ca x1 x2 x3 b c h) l n := by
  unfold val_main_v147 sC
  pointwise
  exact Finset.sum_congr rfl fun p _ => by rw [r145, r131]

theorem r49 (b : Fin 4) (c h : Fin 16) : val_main_v49 (F := Ideal) x1 x2 x3 (ix3 b c h) = Ideal.exp (ca x1 x2 x3 b c h 127) := by
  have hb := b.isLt; have hc := c.isLt
  rw [← r26]
  unfold val_main_v49 val_main_v48 zc
  pointwise
  refine congrArg Ideal.exp (congrArg (val_main_v26 (F := Ideal) x1 x2 x3) ?_)
  congr 1
  refine Fin.ext ?_
  show b.val * 16 + c.val = 16 * b.val + c.val
  omega

theorem r148 (b : Fin 4) (c h : Fin 16) (p : Fin 64) (n : Fin 128) :
    val_main_v148 (F := Ideal) x0 x1 x2 x3 x5 (ix5 b c h p n) = cS x0 x1 x2 x3 x5 b c h p n := by
  have hb := b.isLt; have hc := c.isLt
  rw [← r146]
  unfold val_main_v148 zc
  generalize val_main_v146 (F := Ideal) x0 x1 x2 x3 x5 = v
  pointwise
  refine at4 v ?_ rfl rfl rfl
  (try dsimp only) <;> omega

theorem kk_oS (b : Fin 4) (c : Fin 16) (T : Fin 16 → Fin 64 → Fin 128 → EReal) (h : Fin 16) (p : Fin 64) (n : Fin 128) :
    (kk x0 x1 x2 x3 x4 x5 b c).oS T h p n = cS x0 x1 x2 x3 x5 b c h p n + T h p n * Ideal.exp (ca x1 x2 x3 b c h 127) := rfl

theorem dst_succ (K : Fin 16 → Blk) (q : ℕ) (k : Fin 16) (hk : k.val = 15 - q) : dst K (q + 1) = (K k).oS (dst K q) := by
  rw [Fin.ext (b := ⟨15 - q, by omega⟩) hk]
  rfl

theorem d1 (b : Fin 4) (h : Fin 16) (p : Fin 64) (n : Fin 128) :
    val_main_v164 (F := Ideal) x0 x1 x2 x3 x5 (ix5 b 0 h p n) = dst (kk x0 x1 x2 x3 x4 x5 b) 1 h p n := by
  rw [dst_succ _ 0 15 rfl, kk_oS]
  show _ = _ + (0 : EReal) * _
  rw [zero_mul, add_zero, ← r148]
  unfold val_main_v164
  pointwise

theorem d2 (b : Fin 4) (h : Fin 16) (p : Fin 64) (n : Fin 128) :
    val_main_v166 (F := Ideal) x0 x1 x2 x3 x5 (ix5 b 0 h p n) = dst (kk x0 x1 x2 x3 x4 x5 b) 2 h p n := by
  rw [dst_succ _ 1 14 rfl, kk_oS, ← d1, ← r148, ← r49]
  unfold val_main_v166 val_main_v165 val_main_v163 val_main_v126 val_main_v64
  pointwise

theorem d3 (b : Fin 4) (h : Fin 16) (p : Fin 64) (n : Fin 128) :
    val_main_v168 (F := Ideal) x0 x1 x2 x3 x5 (ix5 b 0 h p n) = dst (kk x0 x1 x2 x3 x4 x5 b) 3 h p n := by
  rw [dst_succ _ 2 13 rfl, kk_oS, ← d2, ← r148, ← r49]
  unfold val_main_v168 val_main_v167 val_main_v162 val_main_v123 val_main_v63
  pointwise

theorem d4 (b : Fin 4) (h : Fin 16) (p : Fin 64) (n : Fin 128) :
    val_main_v170 (F := Ideal) x0 x1 x2 x3 x5 (ix5 b 0 h p n) = dst (kk x0 x1 x2 x3 x4 x5 b) 4 h p n := by
  rw [dst_succ _ 3 12 rfl, kk_oS, ← d3, ← r148, ← r49]
  unfold val_main_v170 val_main_v169 val_main_v161 val_main_v120 val_main_v62
  pointwise

theorem d5 (b : Fin 4) (h : Fin 16) (p : Fin 64) (n : Fin 128) :
    val_main_v172 (F := Ideal) x0 x1 x2 x3 x5 (ix5 b 0 h p n) = dst (kk x0 x1 x2 x3 x4 x5 b) 5 h p n := by
  rw [dst_succ _ 4 11 rfl, kk_oS, ← d4, ← r148, ← r49]
  unfold val_main_v172 val_main_v171 val_main_v160 val_main_v117 val_main_v61
  pointwise

theorem d6 (b : Fin 4) (h : Fin 16) (p : Fin 64) (n : Fin 128) :
    val_main_v174 (F := Ideal) x0 x1 x2 x3 x5 (ix5 b 0 h p n) = dst (kk x0 x1 x2 x3 x4 x5 b) 6 h p n := by
  rw [dst_succ _ 5 10 rfl, kk_oS, ← d5, ← r148, ← r49]
  unfold val_main_v174 val_main_v173 val_main_v159 val_main_v114 val_main_v60
  pointwise

theorem d7 (b : Fin 4) (h : Fin 16) (p : Fin 64) (n : Fin 128) :
    val_main_v176 (F := Ideal) x0 x1 x2 x3 x5 (ix5 b 0 h p n) = dst (kk x0 x1 x2 x3 x4 x5 b) 7 h p n := by
  rw [dst_succ _ 6 9 rfl, kk_oS, ← d6, ← r148, ← r49]
  unfold val_main_v176 val_main_v175 val_main_v158 val_main_v111 val_main_v59
  pointwise

theorem d8 (b : Fin 4) (h : Fin 16) (p : Fin 64) (n : Fin 128) :
    val_main_v178 (F := Ideal) x0 x1 x2 x3 x5 (ix5 b 0 h p n) = dst (kk x0 x1 x2 x3 x4 x5 b) 8 h p n := by
  rw [dst_succ _ 7 8 rfl, kk_oS, ← d7, ← r148, ← r49]
  unfold val_main_v178 val_main_v177 val_main_v157 val_main_v108 val_main_v58
  pointwise

theorem d9 (b : Fin 4) (h : Fin 16) (p : Fin 64) (n : Fin 128) :
    val_main_v180 (F := Ideal) x0 x1 x2 x3 x5 (ix5 b 0 h p n) = dst (kk x0 x1 x2 x3 x4 x5 b) 9 h p n := by
  rw [dst_succ _ 8 7 rfl, kk_oS, ← d8, ← r148, ← r49]
  unfold val_main_v180 val_main_v179 val_main_v156 val_main_v105 val_main_v57
  pointwise

theorem d10 (b : Fin 4) (h : Fin 16) (p : Fin 64) (n : Fin 128) :
    val_main_v182 (F := Ideal) x0 x1 x2 x3 x5 (ix5 b 0 h p n) = dst (kk x0 x1 x2 x3 x4 x5 b) 10 h p n := by
  rw [dst_succ _ 9 6 rfl, kk_oS, ← d9, ← r148, ← r49]
  unfold val_main_v182 val_main_v181 val_main_v155 val_main_v102 val_main_v56
  pointwise

theorem d11 (b : Fin 4) (h : Fin 16) (p : Fin 64) (n : Fin 128) :
    val_main_v184 (F := Ideal) x0 x1 x2 x3 x5 (ix5 b 0 h p n) = dst (kk x0 x1 x2 x3 x4 x5 b) 11 h p n := by
  rw [dst_succ _ 10 5 rfl, kk_oS, ← d10, ← r148, ← r49]
  unfold val_main_v184 val_main_v183 val_main_v154 val_main_v99 val_main_v55
  pointwise

theorem d12 (b : Fin 4) (h : Fin 16) (p : Fin 64) (n : Fin 128) :
    val_main_v186 (F := Ideal) x0 x1 x2 x3 x5 (ix5 b 0 h p n) = dst (kk x0 x1 x2 x3 x4 x5 b) 12 h p n := by
  rw [dst_succ _ 11 4 rfl, kk_oS, ← d11, ← r148, ← r49]
  unfold val_main_v186 val_main_v185 val_main_v153 val_main_v96 val_main_v54
  pointwise

theorem d13 (b : Fin 4) (h : Fin 16) (p : Fin 64) (n : Fin 128) :
    val_main_v188 (F := Ideal) x0 x1 x2 x3 x5 (ix5 b 0 h p n) = dst (kk x0 x1 x2 x3 x4 x5 b) 13 h p n := by
  rw [dst_succ _ 12 3 rfl, kk_oS, ← d12, ← r148, ← r49]
  unfold val_main_v188 val_main_v187 val_main_v152 val_main_v93 val_main_v53
  pointwise

theorem d14 (b : Fin 4) (h : Fin 16) (p : Fin 64) (n : Fin 128) :
    val_main_v190 (F := Ideal) x0 x1 x2 x3 x5 (ix5 b 0 h p n) = dst (kk x0 x1 x2 x3 x4 x5 b) 14 h p n := by
  rw [dst_succ _ 13 2 rfl, kk_oS, ← d13, ← r148, ← r49]
  unfold val_main_v190 val_main_v189 val_main_v151 val_main_v90 val_main_v52
  pointwise

theorem d15 (b : Fin 4) (h : Fin 16) (p : Fin 64) (n : Fin 128) :
    val_main_v192 (F := Ideal) x0 x1 x2 x3 x5 (ix5 b 0 h p n) = dst (kk x0 x1 x2 x3 x4 x5 b) 15 h p n := by
  rw [dst_succ _ 14 1 rfl, kk_oS, ← d14, ← r148, ← r49]
  unfold val_main_v192 val_main_v191 val_main_v150 val_main_v87 val_main_v51
  pointwise

end Cert.Ref

end
-- ==== Proof.Ref2.lean ====
/- The gradient of the step's inputs as the reference computes it, chunk by chunk, is the one assembled from the blocks. -/
module

public import proofs.«01_k».proof.Proof.Ref

@[expose] public section

set_option maxRecDepth 20000
set_option maxHeartbeats 2000000

noncomputable section

namespace Cert.Ref

open Cert Cert.ReferenceIdeal Cert.ReferenceIdeal.Gen Cert.ReferenceIdeal.Read Idealize.ShloMosaic Idealize.ShloMosaic.TcCoe Idealize.SL.Sem
open Cert.KernelIdeal.Head Cert.KernelIdeal.Arr

variable (x0 : Vec Ideal S4x2048x1536 .f32) (x1 : Vec Ideal S4x2048x3456 .f32) (x2 x3 x4 : Vec Ideal S16 .f32) (x5 : Vec Ideal S4x2048x1024 .f32)

/-- The gradient of the state leaving chunk `c`. -/
def cT (b : Fin 4) (c : Fin 16) : Fin 16 → Fin 64 → Fin 128 → EReal := dst (kk x0 x1 x2 x3 x4 x5 b) (15 - c.val)

theorem p0 (b : Fin 4) (h : Fin 16) (p : Fin 64) (n : Fin 128) :
    val_main_v194 (F := Ideal) x0 x1 x2 x3 x5 (ix5 b 0 h p n) = cT x0 x1 x2 x3 x4 x5 b 0 h p n := by
  unfold val_main_v194
  refine Eq.trans (concatenate_apply_piece (t := S4x16x16x64x128) 1 _ _ _ 0 (by simp) S4x1x16x64x128 _ rfl rfl 0 rfl (ix5 b 0 h p n) ?_ rfl) ?_
  · intro x hx
    fin_cases x
    · rfl
    · exact absurd rfl hx
    · rfl
    · rfl
    · rfl
  · exact d15 x0 x1 x2 x3 x4 x5 b h p n

theorem p1 (b : Fin 4) (h : Fin 16) (p : Fin 64) (n : Fin 128) :
    val_main_v194 (F := Ideal) x0 x1 x2 x3 x5 (ix5 b 1 h p n) = cT x0 x1 x2 x3 x4 x5 b 1 h p n := by
  unfold val_main_v194
  refine Eq.trans (concatenate_apply_piece (t := S4x16x16x64x128) 1 _ _ _ 1 (by simp) S4x1x16x64x128 _ rfl rfl 1 rfl (ix5 b 0 h p n) ?_ rfl) ?_
  · intro x hx
    fin_cases x
    · rfl
    · exact absurd rfl hx
    · rfl
    · rfl
    · rfl
  · exact d14 x0 x1 x2 x3 x4 x5 b h p n

theorem p2 (b : Fin 4) (h : Fin 16) (p : Fin 64) (n : Fin 128) :
    val_main_v194 (F := Ideal) x0 x1 x2 x3 x5 (ix5 b 2 h p n) = cT x0 x1 x2 x3 x4 x5 b 2 h p n := by
  unfold val_main_v194
  refine Eq.trans (concatenate_apply_piece (t := S4x16x16x64x128) 1 _ _ _ 2 (by simp) S4x1x16x64x128 _ rfl rfl 2 rfl (ix5 b 0 h p n) ?_ rfl) ?_
  · intro x hx
    fin_cases x
    · rfl
    · exact absurd rfl hx
    · rfl
    · rfl
    · rfl
  · exact d13 x0 x1 x2 x3 x4 x5 b h p n

theorem p3 (b : Fin 4) (h : Fin 16) (p : Fin 64) (n : Fin 128) :
    val_main_v194 (F := Ideal) x0 x1 x2 x3 x5 (ix5 b 3 h p n) = cT x0 x1 x2 x3 x4 x5 b 3 h p n := by
  unfold val_main_v194
  refine Eq.trans (concatenate_apply_piece (t := S4x16x16x64x128) 1 _ _ _ 3 (by simp) S4x1x16x64x128 _ rfl rfl 3 rfl (ix5 b 0 h p n) ?_ rfl) ?_
  · intro x hx
    fin_cases x
    · rfl
    · exact absurd rfl hx
    · rfl
    · rfl
    · rfl
  · exact d12 x0 x1 x2 x3 x4 x5 b h p n

theorem p4 (b : Fin 4) (h : Fin 16) (p : Fin 64) (n : Fin 128) :
    val_main_v194 (F := Ideal) x0 x1 x2 x3 x5 (ix5 b 4 h p n) = cT x0 x1 x2 x3 x4 x5 b 4 h p n := by
  unfold val_main_v194
  refine Eq.trans (concatenate_apply_piece (t := S4x16x16x64x128) 1 _ _ _ 4 (by simp) S4x1x16x64x128 _ rfl rfl 4 rfl (ix5 b 0 h p n) ?_ rfl) ?_
  · intro x hx
    fin_cases x
    · rfl
    · exact absurd rfl hx
    · rfl
    · rfl
    · rfl
  · exact d11 x0 x1 x2 x3 x4 x5 b h p n

theorem p5 (b : Fin 4) (h : Fin 16) (p : Fin 64) (n : Fin 128) :
    val_main_v194 (F := Ideal) x0 x1 x2 x3 x5 (ix5 b 5 h p n) = cT x0 x1 x2 x3 x4 x5 b 5 h p n := by
  unfold val_main_v194
  refine Eq.trans (concatenate_apply_piece (t := S4x16x16x64x128) 1 _ _ _ 5 (by simp) S4x1x16x64x128 _ rfl rfl 5 rfl (ix5 b 0 h p n) ?_ rfl) ?_
  · intro x hx
    fin_cases x
    · rfl
    · exact absurd rfl hx
    · rfl
    · rfl
    · rfl
  · exact d10 x0 x1 x2 x3 x4 x5 b h p n

theorem p6 (b : Fin 4) (h : Fin 16) (p : Fin 64) (n : Fin 128) :
    val_main_v194 (F := Ideal) x0 x1 x2 x3 x5 (ix5 b 6 h p n) = cT x0 x1 x2 x3 x4 x5 b 6 h p n := by
  unfold val_main_v194
  refine Eq.trans (concatenate_apply_piece (t := S4x16x16x64x128) 1 _ _ _ 6 (by simp) S4x1x16x64x128 _ rfl rfl 6 rfl (ix5 b 0 h p n) ?_ rfl) ?_
  · intro x hx
    fin_cases x
    · rfl
    · exact absurd rfl hx
    · rfl
    · rfl
    · rfl
  · exact d9 x0 x1 x2 x3 x4 x5 b h p n

theorem p7 (b : Fin 4) (h : Fin 16) (p : Fin 64) (n : Fin 128) :
    val_main_v194 (F := Ideal) x0 x1 x2 x3 x5 (ix5 b 7 h p n) = cT x0 x1 x2 x3 x4 x5 b 7 h p n := by
  unfold val_main_v194
  refine Eq.trans (concatenate_apply_piece (t := S4x16x16x64x128) 1 _ _ _ 7 (by simp) S4x1x16x64x128 _ rfl rfl 7 rfl (ix5 b 0 h p n) ?_ rfl) ?_
  · intro x hx
    fin_cases x
    · rfl
    · exact absurd rfl hx
    · rfl
    · rfl
    · rfl
  · exact d8 x0 x1 x2 x3 x4 x5 b h p n

theorem p8 (b : Fin 4) (h : Fin 16) (p : Fin 64) (n : Fin 128) :
    val_main_v194 (F := Ideal) x0 x1 x2 x3 x5 (ix5 b 8 h p n) = cT x0 x1 x2 x3 x4 x5 b 8 h p n := by
  unfold val_main_v194
  refine Eq.trans (concatenate_apply_piece (t := S4x16x16x64x128) 1 _ _ _ 8 (by simp) S4x1x16x64x128 _ rfl rfl 8 rfl (ix5 b 0 h p n) ?_ rfl) ?_
  · intro x hx
    fin_cases x
    · rfl
    · exact absurd rfl hx
    · rfl
    · rfl
    · rfl
  · exact d7 x0 x1 x2 x3 x4 x5 b h p n

theorem p9 (b : Fin 4) (h : Fin 16) (p : Fin 64) (n : Fin 128) :
    val_main_v194 (F := Ideal) x0 x1 x2 x3 x5 (ix5 b 9 h p n) = cT x0 x1 x2 x3 x4 x5 b 9 h p n := by
  unfold val_main_v194
  refine Eq.trans (concatenate_apply_piece (t := S4x16x16x64x128) 1 _ _ _ 9 (by simp) S4x1x16x64x128 _ rfl rfl 9 rfl (ix5 b 0 h p n) ?_ rfl) ?_
  · intro x hx
    fin_cases x
    · rfl
    · exact absurd rfl hx
    · rfl
    · rfl
    · rfl
  · exact d6 x0 x1 x2 x3 x4 x5 b h p n

theorem p10 (b : Fin 4) (h : Fin 16) (p : Fin 64) (n : Fin 128) :
    val_main_v194 (F := Ideal) x0 x1 x2 x3 x5 (ix5 b 10 h p n) = cT x0 x1 x2 x3 x4 x5 b 10 h p n := by
  unfold val_main_v194
  refine Eq.trans (concatenate_apply_piece (t := S4x16x16x64x128) 1 _ _ _ 10 (by simp) S4x1x16x64x128 _ rfl rfl 10 rfl (ix5 b 0 h p n) ?_ rfl) ?_
  · intro x hx
    fin_cases x
    · rfl
    · exact absurd rfl hx
    · rfl
    · rfl
    · rfl
  · exact d5 x0 x1 x2 x3 x4 x5 b h p n

theorem p11 (b : Fin 4) (h : Fin 16) (p : Fin 64) (n : Fin 128) :
    val_main_v194 (F := Ideal) x0 x1 x2 x3 x5 (ix5 b 11 h p n) = cT x0 x1 x2 x3 x4 x5 b 11 h p n := by
  unfold val_main_v194
  refine Eq.trans (concatenate_apply_piece (t := S4x16x16x64x128) 1 _ _ _ 11 (by simp) S4x1x16x64x128 _ rfl rfl 11 rfl (ix5 b 0 h p n) ?_ rfl) ?_
  · intro x hx
    fin_cases x
    · rfl
    · exact absurd rfl hx
    · rfl
    · rfl
    · rfl
  · exact d4 x0 x1 x2 x3 x4 x5 b h p n

theorem p12 (b : Fin 4) (h : Fin 16) (p : Fin 64) (n : Fin 128) :
    val_main_v194 (F := Ideal) x0 x1 x2 x3 x5 (ix5 b 12 h p n) = cT x0 x1 x2 x3 x4 x5 b 12 h p n := by
  unfold val_main_v194
  refine Eq.trans (concatenate_apply_piece (t := S4x16x16x64x128) 1 _ _ _ 12 (by simp) S4x1x16x64x128 _ rfl rfl 12 rfl (ix5 b 0 h p n) ?_ rfl) ?_
  · intro x hx
    fin_cases x
    · rfl
    · exact absurd rfl hx
    · rfl
    · rfl
    · rfl
  · exact d3 x0 x1 x2 x3 x4 x5 b h p n

theorem p13 (b : Fin 4) (h : Fin 16) (p : Fin 64) (n : Fin 128) :
    val_main_v194 (F := Ideal) x0 x1 x2 x3 x5 (ix5 b 13 h p n) = cT x0 x1 x2 x3 x4 x5 b 13 h p n := by
  unfold val_main_v194
  refine Eq.trans (concatenate_apply_piece (t := S4x16x16x64x128) 1 _ _ _ 13 (by simp) S4x1x16x64x128 _ rfl rfl 13 rfl (ix5 b 0 h p n) ?_ rfl) ?_
  · intro x hx
    fin_cases x
    · rfl
    · exact absurd rfl hx
    · rfl
    · rfl
    · rfl
  · exact d2 x0 x1 x2 x3 x4 x5 b h p n

theorem p14 (b : Fin 4) (h : Fin 16) (p : Fin 64) (n : Fin 128) :
    val_main_v194 (F := Ideal) x0 x1 x2 x3 x5 (ix5 b 14 h p n) = cT x0 x1 x2 x3 x4 x5 b 14 h p n := by
  unfold val_main_v194
  refine Eq.trans (concatenate_apply_piece (t := S4x16x16x64x128) 1 _ _ _ 14 (by simp) S4x1x16x64x128 _ rfl rfl 14 rfl (ix5 b 0 h p n) ?_ rfl) ?_
  · intro x hx
    fin_cases x
    · rfl
    · exact absurd rfl hx
    · rfl
    · rfl
    · rfl
  · exact d1 x0 x1 x2 x3 x4 x5 b h p n

theorem p15 (b : Fin 4) (h : Fin 16) (p : Fin 64) (n : Fin 128) :
    val_main_v194 (F := Ideal) x0 x1 x2 x3 x5 (ix5 b 15 h p n) = cT x0 x1 x2 x3 x4 x5 b 15 h p n := by
  unfold val_main_v194
  refine Eq.trans (concatenate_apply_piece (t := S4x16x16x64x128) 1 _ _ _ 15 (by simp) S4x1x16x64x128 _ rfl rfl 15 rfl (ix5 b 0 h p n) ?_ rfl) ?_
  · intro x hx
    fin_cases x
    · rfl
    · exact absurd rfl hx
    · rfl
    · rfl
    · rfl
  · unfold val_main_v193 val_main_cst_2
    pointwise
    rfl

theorem r195 (b : Fin 4) (c h : Fin 16) (p : Fin 64) (n : Fin 128) :
    val_main_v195 (F := Ideal) x0 x1 x2 x3 x5 (ix4 (zc b c) h p n) = cT x0 x1 x2 x3 x4 x5 b c h p n := by
  have e : val_main_v195 (F := Ideal) x0 x1 x2 x3 x5 (ix4 (zc b c) h p n) = val_main_v194 (F := Ideal) x0 x1 x2 x3 x5 (ix5 b c h p n) := by
    unfold val_main_v195 zc
    generalize val_main_v194 (F := Ideal) x0 x1 x2 x3 x5 = v
    pointwise
  rw [e]
  fin_cases c
  · exact p0 x0 x1 x2 x3 x4 x5 b h p n
  · exact p1 x0 x1 x2 x3 x4 x5 b h p n
  · exact p2 x0 x1 x2 x3 x4 x5 b h p n
  · exact p3 x0 x1 x2 x3 x4 x5 b h p n
  · exact p4 x0 x1 x2 x3 x4 x5 b h p n
  · exact p5 x0 x1 x2 x3 x4 x5 b h p n
  · exact p6 x0 x1 x2 x3 x4 x5 b h p n
  · exact p7 x0 x1 x2 x3 x4 x5 b h p n
  · exact p8 x0 x1 x2 x3 x4 x5 b h p n
  · exact p9 x0 x1 x2 x3 x4 x5 b h p n
  · exact p10 x0 x1 x2 x3 x4 x5 b h p n
  · exact p11 x0 x1 x2 x3 x4 x5 b h p n
  · exact p12 x0 x1 x2 x3 x4 x5 b h p n
  · exact p13 x0 x1 x2 x3 x4 x5 b h p n
  · exact p14 x0 x1 x2 x3 x4 x5 b h p n
  · exact p15 x0 x1 x2 x3 x4 x5 b h p n

theorem r197 (b : Fin 4) (c h : Fin 16) (s n : Fin 128) : val_main_v197 (F := Ideal) x0 x1 x2 x3 x5 (ix4 (zc b c) h s n)
    = sB (cX x0 b c h) (cT x0 x1 x2 x3 x4 x5 b c h) (cd x1 x2 b c h) (ca x1 x2 x3 b c h) s n := by
  unfold val_main_v197 val_main_v196 sB
  pointwise
  refine Finset.sum_congr rfl fun p _ => ?_
  rw [r195 x0 x1 x2 x3 x4 x5, r46, mul_comm, mul_comm (Ideal.exp _)]

theorem r203 (b : Fin 4) (c h : Fin 16) (s : Fin 128) (p : Fin 64) : val_main_v203 (F := Ideal) x0 x1 x2 x3 x5 (ix4 (zc b c) h s p)
    = sDXG (cB x0 b c (gr h)) (cC x0 b c (gr h)) (cY x5 b c h) (cT x0 x1 x2 x3 x4 x5 b c h) (ca x1 x2 x3 b c h) s p := by
  unfold val_main_v203 val_main_v202 val_main_v201 val_main_v200 val_main_v199 val_main_v198 sDXG
  pointwise
  rw [add_comm]
  congr 1
  · refine Finset.sum_congr rfl fun l _ => ?_
    rw [r143, r40, mul_comm]
  · rw [r45, mul_comm]
    congr 1
    refine Finset.sum_congr rfl fun n _ => ?_
    rw [r195 x0 x1 x2 x3 x4 x5, r11, mul_comm]

theorem r211 (b : Fin 4) (c h : Fin 16) (s : Fin 128) (p : Fin 64) :
    val_main_v211 (F := Ideal) x0 x1 x2 x3 x4 x5 (ix4 (zc b c) h s p) = (kk x0 x1 x2 x3 x4 x5 b c).oX (cT x0 x1 x2 x3 x4 x5 b c) h s p := by
  show _ = x4 (ix1 h) * cY x5 b c h s p + sDXG (cB x0 b c (gr h)) (cC x0 b c (gr h)) (cY x5 b c h) (cT x0 x1 x2 x3 x4 x5 b c h) (ca x1 x2 x3 b c h) s p * cd x1 x2 b c h s
  rw [← r203, ← r143, ← r19]
  unfold val_main_v211 val_main_v210 val_main_v144 val_main_v137 val_main_v27
  pointwise

theorem r205 (b : Fin 4) (c h : Fin 16) (l s : Fin 128) : val_main_v205 (F := Ideal) x0 x1 x2 x3 x5 (ix4 (zc b c) h l s)
    = sDM (cX x0 b c h) (cY x5 b c h) (cd x1 x2 b c h) l s * sL (ca x1 x2 x3 b c h) l s := by
  unfold val_main_v205 val_main_v204 sDM
  pointwise
  rw [r36]
  congr 1
  exact Finset.sum_congr rfl fun p _ => by rw [r143, r28]

theorem r207 (b : Fin 4) (c : Fin 16) (g : Fin 2) (l s : Fin 128) :
    val_main_v207 (F := Ideal) x0 x1 x2 x3 x5 (ix4 (zc b c) g l s) = (kk x0 x1 x2 x3 x4 x5 b c).dcb g l s := by
  show _ = ∑ k ∈ Finset.range 8, sDM (cX x0 b c (hd g k)) (cY x5 b c (hd g k)) (cd x1 x2 b c (hd g k)) l s * sL (ca x1 x2 x3 b c (hd g k)) l s
  rw [Finset.sum_range, val_main_v207_apply]
  rw [show val_main_cst_3 (F := Ideal) (Shape.Idx.first h_S_) = (0 : EReal) from by unfold val_main_cst_3; pointwise]
  rw [zero_add]
  refine Finset.sum_congr rfl fun k _ => ?_
  rw [← r205]
  have hk := k.isLt; have hg := g.isLt; have hb := b.isLt; have hc := c.isLt
  have hh : (hd g k.val).val = 8 * g.val + k.val := by show (8 * g.val + k.val) % 16 = _; omega
  rw [show idx_main_v207 (ix4 (zc b c) g l s) k = ix5 (zc b c) g k l s from by funext a; fin_cases a <;> rfl]
  unfold val_main_v206
  generalize val_main_v205 (F := Ideal) x0 x1 x2 x3 x5 = v
  pointwise
  refine at4 v ?_ ?_ ?_ ?_ <;> simp only [zc] <;> omega

theorem r212 (b : Fin 4) (c : Fin 16) (g : Fin 2) (l n : Fin 128) :
    val_main_v213 (F := Ideal) x0 x1 x2 x3 x5 (ix4 (zc b c) g l n)
      = ∑ k ∈ Finset.range 8, sC (cY x5 b c (hd g k)) (PV x0 x1 x2 x3 b c (hd g k)) (ca x1 x2 x3 b c (hd g k)) l n := by
  rw [Finset.sum_range, val_main_v213_apply]
  rw [show val_main_cst_4 (F := Ideal) (Shape.Idx.first h_S_) = (0 : EReal) from by unfold val_main_cst_4; pointwise]
  rw [zero_add]
  refine Finset.sum_congr rfl fun k _ => ?_
  rw [← r147]
  have hk := k.isLt; have hg := g.isLt; have hb := b.isLt; have hc := c.isLt
  have hh : (hd g k.val).val = 8 * g.val + k.val := by show (8 * g.val + k.val) % 16 = _; omega
  rw [show idx_main_v213 (ix4 (zc b c) g l n) k = ix5 (zc b c) g k l n from by funext a; fin_cases a <;> rfl]
  unfold val_main_v212
  generalize val_main_v147 (F := Ideal) x0 x1 x2 x3 x5 = v
  pointwise
  refine at4 v ?_ ?_ ?_ ?_ <;> simp only [zc] <;> omega

theorem r216 (b : Fin 4) (c : Fin 16) (g : Fin 2) (s n : Fin 128) :
    val_main_v216 (F := Ideal) x0 x1 x2 x3 x5 (ix4 (zc b c) g s n)
      = ∑ k ∈ Finset.range 8, sB (cX x0 b c (hd g k)) (cT x0 x1 x2 x3 x4 x5 b c (hd g k)) (cd x1 x2 b c (hd g k)) (ca x1 x2 x3 b c (hd g k)) s n := by
  rw [Finset.sum_range, val_main_v216_apply]
  rw [show val_main_cst_5 (F := Ideal) (Shape.Idx.first h_S_) = (0 : EReal) from by unfold val_main_cst_5; pointwise]
  rw [zero_add]
  refine Finset.sum_congr rfl fun k _ => ?_
  rw [← r197 x0 x1 x2 x3 x4 x5]
  have hk := k.isLt; have hg := g.isLt; have hb := b.isLt; have hc := c.isLt
  have hh : (hd g k.val).val = 8 * g.val + k.val := by show (8 * g.val + k.val) % 16 = _; omega
  rw [show idx_main_v216 (ix4 (zc b c) g s n) k = ix5 (zc b c) g k s n from by funext a; fin_cases a <;> rfl]
  unfold val_main_v215
  generalize val_main_v197 (F := Ideal) x0 x1 x2 x3 x5 = v
  pointwise
  refine at4 v ?_ ?_ ?_ ?_ <;> simp only [zc] <;> omega

theorem r214 (b : Fin 4) (c : Fin 16) (g : Fin 2) (l n : Fin 128) :
    val_main_v214 (F := Ideal) x0 x1 x2 x3 x5 (ix4 (zc b c) g l n) = (kk x0 x1 x2 x3 x4 x5 b c).oC g l n := by
  show _ = (∑ k ∈ Finset.range 8, sC (cY x5 b c (hd g k)) (PV x0 x1 x2 x3 b c (hd g k)) (ca x1 x2 x3 b c (hd g k)) l n)
    + ∑ s : Fin 128, (kk x0 x1 x2 x3 x4 x5 b c).dcb g l s * cB x0 b c g s n
  rw [← r212, add_comm]
  unfold val_main_v214 val_main_v209
  pointwise
  congr 1
  exact Finset.sum_congr rfl fun s _ => by rw [r207 x0 x1 x2 x3 x4 x5, r7]

theorem r217 (b : Fin 4) (c : Fin 16) (g : Fin 2) (s n : Fin 128) :
    val_main_v217 (F := Ideal) x0 x1 x2 x3 x5 (ix4 (zc b c) g s n) = (kk x0 x1 x2 x3 x4 x5 b c).oB (cT x0 x1 x2 x3 x4 x5 b c) g s n := by
  show _ = (∑ k ∈ Finset.range 8, sB (cX x0 b c (hd g k)) (cT x0 x1 x2 x3 x4 x5 b c (hd g k)) (cd x1 x2 b c (hd g k)) (ca x1 x2 x3 b c (hd g k)) s n)
    + ∑ l : Fin 128, (kk x0 x1 x2 x3 x4 x5 b c).dcb g l s * cC x0 b c g l n
  rw [← r216, add_comm]
  unfold val_main_v217 val_main_v208
  pointwise
  congr 1
  exact Finset.sum_congr rfl fun l _ => by rw [r207 x0 x1 x2 x3 x4 x5, r9]

theorem r223 (b : Fin 4) (r : Fin 2048) (j : Fin 1024) (h : Fin 16) (p : Fin 64) (hj : j.val = 64 * h.val + p.val) :
    val_main_v223 (F := Ideal) x0 x1 x2 x3 x4 x5 (ix3 b r j) = (kk x0 x1 x2 x3 x4 x5 b (rc r)).oX (cT x0 x1 x2 x3 x4 x5 b (rc r)) h (rs r) p := by
  have hb := b.isLt; have hr := r.isLt; have hh := h.isLt; have hp := p.isLt
  rw [← r211]
  unfold val_main_v223 val_main_v222
  generalize val_main_v211 (F := Ideal) x0 x1 x2 x3 x4 x5 = v
  pointwise
  refine at4 v ?_ ?_ ?_ ?_ <;> simp only [zc, rc, rs] <;> omega

theorem r221 (b : Fin 4) (r : Fin 2048) (j : Fin 256) (g : Fin 2) (n : Fin 128) (hj : j.val = 128 * g.val + n.val) :
    val_main_v221 (F := Ideal) x0 x1 x2 x3 x5 (ix3 b r j) = (kk x0 x1 x2 x3 x4 x5 b (rc r)).oB (cT x0 x1 x2 x3 x4 x5 b (rc r)) g (rs r) n := by
  have hb := b.isLt; have hr := r.isLt; have hh := g.isLt; have hp := n.isLt
  rw [← r217]
  unfold val_main_v221 val_main_v220
  generalize val_main_v217 (F := Ideal) x0 x1 x2 x3 x5 = v
  pointwise
  refine at4 v ?_ ?_ ?_ ?_ <;> simp only [zc, rc, rs] <;> omega

theorem r219 (b : Fin 4) (r : Fin 2048) (j : Fin 256) (g : Fin 2) (n : Fin 128) (hj : j.val = 128 * g.val + n.val) :
    val_main_v219 (F := Ideal) x0 x1 x2 x3 x5 (ix3 b r j) = (kk x0 x1 x2 x3 x4 x5 b (rc r)).oC g (rs r) n := by
  have hb := b.isLt; have hr := r.isLt; have hh := g.isLt; have hp := n.isLt
  rw [← r214]
  unfold val_main_v219 val_main_v218
  generalize val_main_v214 (F := Ideal) x0 x1 x2 x3 x5 = v
  pointwise
  refine at4 v ?_ ?_ ?_ ?_ <;> simp only [zc, rc, rs] <;> omega

/-- The reference's result is the array assembled from the chunks. -/
theorem ref_eq : val_main_v224 (F := Ideal) x0 x1 x2 x3 x4 x5 = full (kk x0 x1 x2 x3 x4 x5) := by
  funext i
  obtain ⟨b, r, j, rfl⟩ : ∃ (b : Fin 4) (r : Fin 2048) (j : Fin 1536), i = ix3 b r j :=
    ⟨i 0, i 1, i 2, by funext a; fin_cases a <;> rfl⟩
  have hj := j.isLt
  show _ = (kk x0 x1 x2 x3 x4 x5 b (rc r)).out (cT x0 x1 x2 x3 x4 x5 b (rc r)) (rs r) j
  unfold Blk.out
  unfold val_main_v224
  split_ifs with h1 h2
  · refine Eq.trans (concatenate_apply_piece (t := S4x2048x1536) 2 _ _ _ 0 (by simp) S4x2048x1024 _ rfl rfl 0 rfl (ix3 b r ⟨j.val, h1⟩) ?_ (Nat.zero_add _)) ?_
    · intro x hx
      fin_cases x
      · rfl
      · rfl
      · exact absurd rfl hx
    · exact r223 x0 x1 x2 x3 x4 x5 b r _ _ _ (by show j.val = 64 * (j.val / 64 % 16) + j.val % 64; omega)
  · refine Eq.trans (concatenate_apply_piece (t := S4x2048x1536) 2 _ _ _ 1 (by simp) S4x2048x256 _ rfl rfl 1024 rfl (ix3 b r ⟨j.val - 1024, by omega⟩) ?_ (Nat.add_sub_cancel' (by omega))) ?_
    · intro x hx
      fin_cases x
      · rfl
      · rfl
      · exact absurd rfl hx
    · exact r221 x0 x1 x2 x3 x4 x5 b r _ _ _ (by show j.val - 1024 = 128 * (j.val / 128 % 2) + j.val % 128; omega)
  · refine Eq.trans (concatenate_apply_piece (t := S4x2048x1536) 2 _ _ _ 2 (by simp) S4x2048x256 _ rfl rfl 1280 rfl (ix3 b r ⟨j.val - 1280, by omega⟩) ?_ (Nat.add_sub_cancel' (by omega))) ?_
    · intro x hx
      fin_cases x
      · rfl
      · rfl
      · exact absurd rfl hx
    · exact r219 x0 x1 x2 x3 x4 x5 b r _ _ _ (by show j.val - 1280 = 128 * (j.val / 128 % 2) + j.val % 128; omega)

end Cert.Ref

end
-- ==== Proof.DownDx.lean ====
/- The gradient of the activation: the product of the incoming gradient with the transposed down projection. -/
module

public import proofs.«01_k».proof.Proof.Gen.DownDxIdeal.Value
public import proofs.«01_k».proof.Proof.Gen.DownDxRefIdeal.Read
public import proofs.«01_k».proof.Proof.Gen.DownDxRefIdeal.Run
public import proofs.«01_k».proof.Defs
public import Idealize.ShloMosaic.Lib.Pipeline.ValueKit
public import Idealize.ShloMosaic.Lib.Pointwise

@[expose] public section

set_option maxRecDepth 20000

noncomputable section

namespace Cert.DownDxIdeal.Mm

open Cert.DownDxIdeal Cert.DownDxIdeal.Gen Idealize.ShloMosaic Idealize.ShloMosaic.TcCoe Idealize.SL.Sem

/-- Entry `(i, j)` is the product of row `i` with row `j`. -/
def prod (x0 : Vec Ideal S8192x1024 .f32) (x1 : Vec Ideal S2816x1024 .bf16) : Vec Ideal S8192x2816 .bf16 :=
  fun i => ∑ k : Fin 1024, (x0 (ix2 (i 0) k) : EReal) * x1 (ix2 (i 1) k)

theorem pay (x0 : Vec Ideal S1024x1024 .f32) (x1 : Vec Ideal S1408x1024 .bf16) (i : Fin 1024) (j : Fin 1408) :
    k0_pay1 (F := Ideal) x0 x1 (ix2 i j) = ∑ k : Fin 1024, (x0 (ix2 i k) : EReal) * x1 (ix2 j k) := by
  unfold k0_pay1
  pointwise [dot_S1024x1024_S1408x1024_S1024x1408_1_1_0_0_n_n]

variable (m : (ℓ : Loc nD τ sig) → Buf (Elt Ideal) ℓ)

theorem e0 : ∀ t : Fin cfg0.N, win0_0.index t = ![t.val / 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, t.val % 2] := (by decide +kernel : ∀ t : Fin grid0.N, _)

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  have hy : y = ix2 (y 0) (y 1) := by blk_ext
  refine (congrArg _ hy).trans ((pay _ _ _ _).trans ?_)
  unfold prod
  refine Finset.sum_congr rfl fun k _ => ?_
  rw [← V_main_arg0 m c, ← V_main_arg1 m c]
  congr 1 <;> blk_ext [iblk, e0, e1, e2]

theorem ref (x0 : Vec Ideal S8192x1024 .f32) (x1 : Vec Ideal S2816x1024 .bf16) :
    DownDxRefIdeal.Read.val_main_v4 (F := Ideal) x0 x1 = prod x0 x1 := by
  funext i
  refine (DownDxRefIdeal.Read.val_main_v4_apply x0 x1 i).trans ((DownDxRefIdeal.Read.val_main_v3_apply x0 x1 i).trans ?_)
  unfold prod
  refine Finset.sum_congr rfl fun k _ => ?_
  congr 1
  · exact congrArg x0 (by blk_ext)
  · exact congrArg x1 (by blk_ext)

theorem args_eq (x0 y0 : Vec Ideal S8192x1024 .f32) (x1 y1 : Vec Ideal S2816x1024 .bf16) (h0 : x0 = y0) (h1 : x1 = y1) :
    prod x0 x1 = prod y0 y1 := by
  subst h0 h1; rfl

/-- The kernel's result is the reference's, from equal arguments. -/
theorem algebraic : Cert.algebraic_DownDxIdeal_DownDxRefIdeal (hDownDxIdeal := Cert.DownDxIdeal.Gen.facts)
    (hDownDxRefIdeal := Cert.DownDxRefIdeal.Gen.facts) := by
  intro m g m' g' _ hargs
  refine ⟨fun c => prod (m ((c : Thread nD τ).loc main_arg0)) (m ((c : Thread nD τ).loc main_arg1)), ?_, ?_⟩
  · refine (θ_run (Cert.DownDxIdeal.defs (F := Ideal)) _ _).mono (fun r h c => ?_) (Cert.DownDxIdeal.Value.run_blocks (F := Ideal) m g)
    obtain ⟨h2, h0, h1⟩ := h c
    exact ⟨h2.trans (final m c), h0, h1⟩
  · refine (θ_run (Cert.DownDxRefIdeal.defs (F := Ideal)) _ _).mono (fun r h c => ?_) (Cert.DownDxRefIdeal.Value.run (F := Ideal) m' g')
    obtain ⟨hv, hk⟩ := h c
    refine ⟨hv.trans ((Cert.DownDxRefIdeal.Read.val_main_v4_eq _ _).trans ?_), hk⟩
    obtain ⟨h0, h1⟩ := hargs c
    exact (ref _ _).trans (args_eq _ _ _ _ h0 h1)

end Cert.DownDxIdeal.Mm

end
-- ==== Proof.DownDw.lean ====
/- The gradient of the down projection's weights: the activation, transposed, times the incoming gradient, accumulated
   over the rows four parts at a time. -/
module

public import proofs.«01_k».proof.Proof.Gen.DownDwIdeal.Value
public import proofs.«01_k».proof.Proof.Gen.DownDwRefIdeal.Read
public import proofs.«01_k».proof.Proof.Gen.DownDwRefIdeal.Run
public import proofs.«01_k».proof.Defs
public import Idealize.ShloMosaic.Lib.Pipeline.ValueKit
public import Idealize.ShloMosaic.Lib.Pointwise

@[expose] public section

set_option maxRecDepth 20000

noncomputable section

namespace Cert.DownDwIdeal.Mm

open Cert.DownDwIdeal Cert.DownDwIdeal.Gen Idealize.ShloMosaic Idealize.ShloMosaic.TcCoe Idealize.SL.Sem

/-- Entry `(i, j)` is the product of column `i` with column `j`. -/
def prod (x0 : Vec Ideal S8192x2816 .bf16) (x1 : Vec Ideal S8192x1024 .f32) : Vec Ideal S2816x1024 .bf16 :=
  fun i => ∑ k : Fin 8192, (x0 (ix2 k (i 0)) : EReal) * x1 (ix2 k (i 1))

/-- A part's product. -/
def part (x0 : Vec Ideal S2048x1408 .bf16) (x1 : Vec Ideal S2048x1024 .f32) (y : S1408x1024.Idx) : EReal :=
  ∑ k : Fin 2048, (x0 (ix2 k (y 0)) : EReal) * x1 (ix2 k (y 1))

theorem pay1 (x0 : Vec Ideal S2048x1408 .bf16) (x1 : Vec Ideal S2048x1024 .f32) (i : Fin 1408) (j : Fin 1024) :
    k0_pay1 (F := Ideal) x0 x1 (ix2 i j) = part x0 x1 (ix2 i j) := by
  unfold k0_pay1 part
  pointwise [dot_S2048x1408_S2048x1024_S1408x1024_0_0_1_1_n_n]

theorem pay2 (x0 : Vec Ideal S2048x1408 .bf16) (x1 : Vec Ideal S2048x1024 .f32) (y : S1408x1024.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x1408 .bf16) (x1 : Vec Ideal S2048x1024 .f32) (a : Vec Ideal S1408x1024 .f32) (y : S1408x1024.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S1408x1024 .f32) (y : S1408x1024.Idx) : k0_pay4 (F := Ideal) a y = a y := rfl

variable (m : (ℓ : Loc nD τ sig) → Buf (Elt Ideal) ℓ)

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)

/-- The accumulator after a step that writes back. -/
theorem acc_eq (c : Dev nD) (t : Fin cfg0.N) (ht : t.val % 4 = 3) (y : S1408x1024.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S1408x1024.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x2816 .bf16) (x1 : Vec Ideal S8192x1024 .f32) :
    DownDwRefIdeal.Read.val_main_v5 (F := Ideal) x0 x1 = prod x0 x1 := by
  funext i
  have hi : i = ix2 (i 0) (i 1) := by blk_ext
  rw [hi]
  unfold DownDwRefIdeal.Read.val_main_v5 DownDwRefIdeal.Read.val_main_v4 DownDwRefIdeal.Read.val_main_v3 DownDwRefIdeal.Read.val_main_v1 prod
  pointwise [DownDwRefIdeal.dot_S8192x1024_S8192x2816_S1024x2816_0_0_1_1_n_n]
  exact Finset.sum_congr rfl fun k _ => mul_comm _ _

theorem args_eq (x0 y0 : Vec Ideal S8192x2816 .bf16) (x1 y1 : Vec Ideal S8192x1024 .f32) (h0 : x0 = y0) (h1 : x1 = y1) :
    prod x0 x1 = prod y0 y1 := by
  subst h0 h1; rfl

/-- The kernel's result is the reference's, from equal arguments. -/
theorem algebraic : Cert.algebraic_DownDwIdeal_DownDwRefIdeal (hDownDwIdeal := Cert.DownDwIdeal.Gen.facts)
    (hDownDwRefIdeal := Cert.DownDwRefIdeal.Gen.facts) := by
  intro m g m' g' _ hargs
  refine ⟨fun c => prod (m ((c : Thread nD τ).loc main_arg0)) (m ((c : Thread nD τ).loc main_arg1)), ?_, ?_⟩
  · refine (θ_run (Cert.DownDwIdeal.defs (F := Ideal)) _ _).mono (fun r h c => ?_) (Cert.DownDwIdeal.Value.run_blocks (F := Ideal) m g)
    obtain ⟨h2, h0, h1⟩ := h c
    exact ⟨h2.trans (final m c), h0, h1⟩
  · refine (θ_run (Cert.DownDwRefIdeal.defs (F := Ideal)) _ _).mono (fun r h c => ?_) (Cert.DownDwRefIdeal.Value.run (F := Ideal) m' g')
    obtain ⟨hv, hk⟩ := h c
    refine ⟨hv.trans ((Cert.DownDwRefIdeal.Read.val_main_v5_eq _ _).trans ?_), hk⟩
    obtain ⟨h0, h1⟩ := hargs c
    exact (ref _ _).trans (args_eq _ _ _ _ h0 h1)

end Cert.DownDwIdeal.Mm

end
-- ==== Proof.UpDw.lean ====
/- The gradient of the gate's and of the up projection's weights: the normalised input, transposed, times the gradient,
   accumulated over the rows four parts at a time. -/
module

public import proofs.«01_k».proof.Proof.Gen.UpDwIdeal.Value
public import proofs.«01_k».proof.Proof.Gen.UpDwRefIdeal.Read
public import proofs.«01_k».proof.Proof.Gen.UpDwRefIdeal.Run
public import proofs.«01_k».proof.Defs
public import Idealize.ShloMosaic.Lib.Pipeline.ValueKit
public import Idealize.ShloMosaic.Lib.Pointwise

@[expose] public section

set_option maxRecDepth 20000

noncomputable section

namespace Cert.UpDwIdeal.Mm

open Cert.UpDwIdeal Cert.UpDwIdeal.Gen Idealize.ShloMosaic Idealize.ShloMosaic.TcCoe Idealize.SL.Sem

/-- Entry `(i, j)` is the product of column `i` with column `j`. -/
def prod (x0 : Vec Ideal S8192x1024 .bf16) (x1 : Vec Ideal S8192x2816 .bf16) : Vec Ideal S1024x2816 .bf16 :=
  fun i => ∑ k : Fin 8192, (x0 (ix2 k (i 0)) : EReal) * x1 (ix2 k (i 1))

/-- A part's product. -/
def part (x0 : Vec Ideal S2048x1024 .bf16) (x1 : Vec Ideal S2048x1408 .bf16) (y : S1024x1408.Idx) : EReal :=
  ∑ k : Fin 2048, (x0 (ix2 k (y 0)) : EReal) * x1 (ix2 k (y 1))

theorem pay1 (x0 : Vec Ideal S2048x1024 .bf16) (x1 : Vec Ideal S2048x1408 .bf16) (i : Fin 1024) (j : Fin 1408) :
    k0_pay1 (F := Ideal) x0 x1 (ix2 i j) = part x0 x1 (ix2 i j) := by
  unfold k0_pay1 part
  pointwise [dot_S2048x1024_S2048x1408_S1024x1408_0_0_1_1_n_n]

theorem pay2 (x0 : Vec Ideal S2048x1024 .bf16) (x1 : Vec Ideal S2048x1408 .bf16) (y : S1024x1408.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x1024 .bf16) (x1 : Vec Ideal S2048x1408 .bf16) (a : Vec Ideal S1024x1408 .f32) (y : S1024x1408.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S1024x1408 .f32) (y : S1024x1408.Idx) : k0_pay4 (F := Ideal) a y = a y := rfl

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![0, t.val / 4] := (by decide +kernel : ∀ t : Fin grid0.N, _)

/-- The accumulator after a step that writes back. -/
theorem acc_eq (c : Dev nD) (t : Fin cfg0.N) (ht : t.val % 4 = 3) (y : S1024x1408.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S1024x1408.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x1024 .bf16) (x1 : Vec Ideal S8192x2816 .bf16) :
    UpDwRefIdeal.Read.val_main_v6 (F := Ideal) x0 x1 = prod x0 x1 := by
  funext i
  have hi : i = ix2 (i 0) (i 1) := by blk_ext
  rw [hi]
  unfold UpDwRefIdeal.Read.val_main_v6 UpDwRefIdeal.Read.val_main_v5 UpDwRefIdeal.Read.val_main_v4 UpDwRefIdeal.Read.val_main_v3 UpDwRefIdeal.Read.val_main_v1 prod
  pointwise [UpDwRefIdeal.dot_S8192x2816_S8192x1024_S2816x1024_0_0_1_1_n_n]
  exact Finset.sum_congr rfl fun k _ => mul_comm _ _

theorem args_eq (x0 y0 : Vec Ideal S8192x1024 .bf16) (x1 y1 : Vec Ideal S8192x2816 .bf16) (h0 : x0 = y0) (h1 : x1 = y1) :
    prod x0 x1 = prod y0 y1 := by
  subst h0 h1; rfl

/-- The kernel's result is the reference's, from equal arguments. -/
theorem algebraic : Cert.algebraic_UpDwIdeal_UpDwRefIdeal (hUpDwIdeal := Cert.UpDwIdeal.Gen.facts)
    (hUpDwRefIdeal := Cert.UpDwRefIdeal.Gen.facts) := by
  intro m g m' g' _ hargs
  refine ⟨fun c => prod (m ((c : Thread nD τ).loc main_arg0)) (m ((c : Thread nD τ).loc main_arg1)), ?_, ?_⟩
  · refine (θ_run (Cert.UpDwIdeal.defs (F := Ideal)) _ _).mono (fun r h c => ?_) (Cert.UpDwIdeal.Value.run_blocks (F := Ideal) m g)
    obtain ⟨h2, h0, h1⟩ := h c
    exact ⟨h2.trans (final m c), h0, h1⟩
  · refine (θ_run (Cert.UpDwRefIdeal.defs (F := Ideal)) _ _).mono (fun r h c => ?_) (Cert.UpDwRefIdeal.Value.run (F := Ideal) m' g')
    obtain ⟨hv, hk⟩ := h c
    refine ⟨hv.trans ((Cert.UpDwRefIdeal.Read.val_main_v6_eq _ _).trans ?_), hk⟩
    obtain ⟨h0, h1⟩ := hargs c
    exact (ref _ _).trans (args_eq _ _ _ _ h0 h1)

end Cert.UpDwIdeal.Mm

end
-- ==== Proof.GateDx.lean ====
/- The gradient of the normalised input through the gate: the product of the gate's gradient with its transposed weights. -/
module

public import proofs.«01_k».proof.Proof.Gen.GateDxIdeal.Value
public import proofs.«01_k».proof.Proof.Gen.GateDxRefIdeal.Read
public import proofs.«01_k».proof.Proof.Gen.GateDxRefIdeal.Run
public import proofs.«01_k».proof.Defs
public import Idealize.ShloMosaic.Lib.Pipeline.ValueKit
public import Idealize.ShloMosaic.Lib.Pointwise

@[expose] public section

set_option maxRecDepth 20000

noncomputable section

namespace Cert.GateDxIdeal.Mm

open Cert.GateDxIdeal Cert.GateDxIdeal.Gen Idealize.ShloMosaic Idealize.ShloMosaic.TcCoe Idealize.SL.Sem

/-- Entry `(i, j)` is the product of row `i` with row `j`. -/
def prod (x0 : Vec Ideal S8192x2816 .bf16) (x1 : Vec Ideal S1024x2816 .bf16) : Vec Ideal S8192x1024 .f32 :=
  fun i => ∑ k : Fin 2816, (x0 (ix2 (i 0) k) : EReal) * x1 (ix2 (i 1) k)

theorem pay (x0 : Vec Ideal S1024x2816 .bf16) (x1 : Vec Ideal S1024x2816 .bf16) (i : Fin 1024) (j : Fin 1024) :
    k0_pay1 (F := Ideal) x0 x1 (ix2 i j) = ∑ k : Fin 2816, (x0 (ix2 i k) : EReal) * x1 (ix2 j k) := by
  unfold k0_pay1
  pointwise [dot_S1024x2816_S1024x2816_S1024x1024_1_1_0_0_n_n]

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  have hy : y = ix2 (y 0) (y 1) := by blk_ext
  refine (congrArg _ hy).trans ((pay _ _ _ _).trans ?_)
  unfold prod
  refine Finset.sum_congr rfl fun k _ => ?_
  rw [← V_main_arg0 m c, ← V_main_arg1 m c]
  congr 1 <;> blk_ext [iblk, e0, e1, e2]

theorem ref (x0 : Vec Ideal S8192x2816 .bf16) (x1 : Vec Ideal S1024x2816 .bf16) :
    GateDxRefIdeal.Read.val_main_v4 (F := Ideal) x0 x1 = prod x0 x1 := by
  funext i
  refine (GateDxRefIdeal.Read.val_main_v4_apply x0 x1 i).trans ?_
  unfold prod
  refine Finset.sum_congr rfl fun k _ => ?_
  congr 1
  · exact congrArg x0 (by blk_ext)
  · exact congrArg x1 (by blk_ext)

theorem args_eq (x0 y0 : Vec Ideal S8192x2816 .bf16) (x1 y1 : Vec Ideal S1024x2816 .bf16) (h0 : x0 = y0) (h1 : x1 = y1) :
    prod x0 x1 = prod y0 y1 := by
  subst h0 h1; rfl

/-- The kernel's result is the reference's, from equal arguments. -/
theorem algebraic : Cert.algebraic_GateDxIdeal_GateDxRefIdeal (hGateDxIdeal := Cert.GateDxIdeal.Gen.facts)
    (hGateDxRefIdeal := Cert.GateDxRefIdeal.Gen.facts) := by
  intro m g m' g' _ hargs
  refine ⟨fun c => prod (m ((c : Thread nD τ).loc main_arg0)) (m ((c : Thread nD τ).loc main_arg1)), ?_, ?_⟩
  · refine (θ_run (Cert.GateDxIdeal.defs (F := Ideal)) _ _).mono (fun r h c => ?_) (Cert.GateDxIdeal.Value.run_blocks (F := Ideal) m g)
    obtain ⟨h2, h0, h1⟩ := h c
    exact ⟨h2.trans (final m c), h0, h1⟩
  · refine (θ_run (Cert.GateDxRefIdeal.defs (F := Ideal)) _ _).mono (fun r h c => ?_) (Cert.GateDxRefIdeal.Value.run (F := Ideal) m' g')
    obtain ⟨hv, hk⟩ := h c
    refine ⟨hv.trans ((Cert.GateDxRefIdeal.Read.val_main_v4_eq _ _).trans ?_), hk⟩
    obtain ⟨h0, h1⟩ := hargs c
    exact (ref _ _).trans (args_eq _ _ _ _ h0 h1)

end Cert.GateDxIdeal.Mm

end
-- ==== Proof.UpDx.lean ====
/- The gradient of the normalised input through the up projection: the product of the gradient with the transposed
   weights, added to what came through the gate. -/
module

public import proofs.«01_k».proof.Proof.Gen.UpDxIdeal.Value
public import proofs.«01_k».proof.Proof.Gen.UpDxRefIdeal.Read
public import proofs.«01_k».proof.Proof.Gen.UpDxRefIdeal.Run
public import proofs.«01_k».proof.Defs
public import Idealize.ShloMosaic.Lib.Pipeline.ValueKit
public import Idealize.ShloMosaic.Lib.Pointwise

@[expose] public section

set_option maxRecDepth 20000

noncomputable section

namespace Cert.UpDxIdeal.Mm

open Cert.UpDxIdeal Cert.UpDxIdeal.Gen Idealize.ShloMosaic Idealize.ShloMosaic.TcCoe Idealize.SL.Sem

/-- Entry `(i, j)` is the product of row `i` with row `j`, added to the entry of the third array. -/
def prod (x0 : Vec Ideal S8192x2816 .bf16) (x1 : Vec Ideal S1024x2816 .bf16) (x2 : Vec Ideal S8192x1024 .f32) : Vec Ideal S8192x1024 .f32 :=
  fun i => (∑ k : Fin 2816, (x0 (ix2 (i 0) k) : EReal) * x1 (ix2 (i 1) k)) + x2 i

theorem pay (x0 : Vec Ideal S1024x2816 .bf16) (x1 : Vec Ideal S1024x2816 .bf16) (x2 : Vec Ideal S1024x1024 .f32) (i : Fin 1024) (j : Fin 1024) :
    k0_pay1 (F := Ideal) x0 x1 x2 (ix2 i j) = (∑ k : Fin 2816, (x0 (ix2 i k) : EReal) * x1 (ix2 j k)) + x2 (ix2 i j) := by
  unfold k0_pay1
  pointwise [dot_S1024x2816_S1024x2816_S1024x1024_1_1_0_0_n_n]

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  have hy : y = ix2 (y 0) (y 1) := by blk_ext
  refine (congrArg _ hy).trans ((pay _ _ _ _ _).trans ?_)
  unfold prod
  rw [← V_main_arg0 m c, ← V_main_arg1 m c, ← V_main_arg2 m c]
  congr 1
  · refine Finset.sum_congr rfl fun k _ => ?_
    congr 1 <;> blk_ext [iblk, e0, e1, e3]
  · blk_ext [iblk, e2, e3]

theorem ref (x0 : Vec Ideal S8192x2816 .bf16) (x1 : Vec Ideal S1024x2816 .bf16) (x2 : Vec Ideal S8192x1024 .f32) :
    UpDxRefIdeal.Read.val_main_v5 (F := Ideal) x0 x1 x2 = prod x0 x1 x2 := by
  funext i
  refine (UpDxRefIdeal.Read.val_main_v5_apply x0 x1 x2 i).trans (congrArg (fun z : EReal => z + x2 i) ((UpDxRefIdeal.Read.val_main_v4_apply x0 x1 i).trans ?_))
  refine Finset.sum_congr rfl fun k _ => ?_
  congr 1
  · exact congrArg x0 (by blk_ext)
  · exact congrArg x1 (by blk_ext)

theorem args_eq (x0 y0 : Vec Ideal S8192x2816 .bf16) (x1 y1 : Vec Ideal S1024x2816 .bf16) (x2 y2 : Vec Ideal S8192x1024 .f32)
    (h0 : x0 = y0) (h1 : x1 = y1) (h2 : x2 = y2) : prod x0 x1 x2 = prod y0 y1 y2 := by
  subst h0 h1 h2; rfl

/-- The kernel's result is the reference's, from equal arguments. -/
theorem algebraic : Cert.algebraic_UpDxIdeal_UpDxRefIdeal (hUpDxIdeal := Cert.UpDxIdeal.Gen.facts)
    (hUpDxRefIdeal := Cert.UpDxRefIdeal.Gen.facts) := by
  intro m g m' g' _ hargs
  refine ⟨fun c => prod (m ((c : Thread nD τ).loc main_arg0)) (m ((c : Thread nD τ).loc main_arg1)) (m ((c : Thread nD τ).loc main_arg2)), ?_, ?_⟩
  · refine (θ_run (Cert.UpDxIdeal.defs (F := Ideal)) _ _).mono (fun r h c => ?_) (Cert.UpDxIdeal.Value.run_blocks (F := Ideal) m g)
    obtain ⟨h3, h0, h1, h2⟩ := h c
    exact ⟨h3.trans (final m c), h0, h1, h2⟩
  · refine (θ_run (Cert.UpDxRefIdeal.defs (F := Ideal)) _ _).mono (fun r h c => ?_) (Cert.UpDxRefIdeal.Value.run (F := Ideal) m' g')
    obtain ⟨hv, hk⟩ := h c
    refine ⟨hv.trans ((Cert.UpDxRefIdeal.Read.val_main_v5_eq _ _ _).trans ?_), hk⟩
    obtain ⟨h0, h1, h2⟩ := hargs c
    exact (ref _ _ _).trans (args_eq _ _ _ _ _ _ h0 h1 h2)

end Cert.UpDxIdeal.Mm

end
-- ==== Proof.OutDx.lean ====
/- The gradient of the output projection's input: the incoming gradient times the transposed weights. -/
module

public import proofs.«01_k».proof.Proof.Gen.OutDxIdeal.Value
public import proofs.«01_k».proof.Proof.Gen.OutDxRefIdeal.Read
public import proofs.«01_k».proof.Proof.Gen.OutDxRefIdeal.Run
public import proofs.«01_k».proof.Defs
public import Idealize.ShloMosaic.Lib.Pipeline.ValueKit
public import Idealize.ShloMosaic.Lib.Pointwise

@[expose] public section

set_option maxRecDepth 20000

noncomputable section

namespace Cert.OutDxIdeal.Mm

open Cert.OutDxIdeal Cert.OutDxIdeal.Gen Idealize.ShloMosaic Idealize.ShloMosaic.TcCoe Idealize.SL.Sem

/-- Entry `(i, j)` is the product of row `i` with row `j`. -/
def prod (x0 : Vec Ideal S8192x1024 .f32) (x1 : Vec Ideal S1536x1024 .bf16) : Vec Ideal S8192x1536 .f32 :=
  fun i => ∑ k : Fin 1024, (x0 (ix2 (i 0) k) : EReal) * x1 (ix2 (i 1) k)

/-- What a step stores: the product of its row and column tiles. -/
theorem pay (x0 : Vec Ideal S1024x1024 .f32) (x1 : Vec Ideal S1536x1024 .bf16) (i : Fin 1024) (j : Fin 1536) :
    k0_pay1 (F := Ideal) x0 x1 (ix2 i j) = ∑ k : Fin 1024, (x0 (ix2 i k) : EReal) * x1 (ix2 j k) := by
  unfold k0_pay1
  pointwise [dot_S1024x1024_S1536x1024_S1024x1536_1_1_0_0_n_n]

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

/-- The result array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  have hy : y = ix2 (y 0) (y 1) := by blk_ext
  refine (congrArg _ hy).trans ((pay _ _ _ _).trans ?_)
  unfold prod
  rw [← V_main_arg0 m c, ← V_main_arg1 m c]
  refine Finset.sum_congr rfl fun k _ => ?_
  congr 1 <;> blk_ext [iblk, e0, e1, e2]

/-- The reference's result is the same product. -/
theorem ref (x0 : Vec Ideal S8192x1024 .f32) (x1 : Vec Ideal S1536x1024 .bf16) :
    OutDxRefIdeal.Read.val_main_v3 (F := Ideal) x0 x1 = prod x0 x1 := by
  funext i
  have hi : i = ix2 (i 0) (i 1) := by blk_ext
  rw [hi]
  unfold OutDxRefIdeal.Read.val_main_v3 OutDxRefIdeal.Read.val_main_v1 prod
  pointwise [OutDxRefIdeal.dot_S8192x1024_S1536x1024_S8192x1536_1_1_0_0_n_n]

theorem args_eq (x0 y0 : Vec Ideal S8192x1024 .f32) (x1 y1 : Vec Ideal S1536x1024 .bf16) (h0 : x0 = y0) (h1 : x1 = y1) :
    prod x0 x1 = prod y0 y1 := by
  subst h0 h1; rfl

/-- The kernel's result is the reference's, from equal arguments. -/
theorem algebraic : Cert.algebraic_OutDxIdeal_OutDxRefIdeal (hOutDxIdeal := Cert.OutDxIdeal.Gen.facts)
    (hOutDxRefIdeal := Cert.OutDxRefIdeal.Gen.facts) := by
  intro m g m' g' _ hargs
  refine ⟨fun c => prod (m ((c : Thread nD τ).loc main_arg0)) (m ((c : Thread nD τ).loc main_arg1)), ?_, ?_⟩
  · refine (θ_run (Cert.OutDxIdeal.defs (F := Ideal)) _ _).mono (fun r h c => ?_) (Cert.OutDxIdeal.Value.run_blocks (F := Ideal) m g)
    obtain ⟨hv, hk⟩ := h c
    exact ⟨hv.trans (final m c), hk⟩
  · refine (θ_run (Cert.OutDxRefIdeal.defs (F := Ideal)) _ _).mono (fun r h c => ?_) (Cert.OutDxRefIdeal.Value.run (F := Ideal) m' g')
    obtain ⟨hv, hk⟩ := h c
    refine ⟨hv.trans ((Cert.OutDxRefIdeal.Read.val_main_v3_eq _ _).trans ?_), hk⟩
    obtain ⟨h0, h1⟩ := hargs c
    exact (ref _ _).trans (args_eq _ _ _ _ h0 h1)

end Cert.OutDxIdeal.Mm

end
-- ==== Proof.OutDwAttn.lean ====
/- The gradient of the output projection's weights, the rows of the attention: its result, transposed, times the incoming gradient,
   accumulated over the rows four parts at a time. -/
module

public import proofs.«01_k».proof.Proof.Gen.OutDwAttnIdeal.Value
public import proofs.«01_k».proof.Proof.Gen.OutDwAttnRefIdeal.Read
public import proofs.«01_k».proof.Proof.Gen.OutDwAttnRefIdeal.Run
public import proofs.«01_k».proof.Defs
public import Idealize.ShloMosaic.Lib.Pipeline.ValueKit
public import Idealize.ShloMosaic.Lib.Pointwise

@[expose] public section

set_option maxRecDepth 20000

noncomputable section

namespace Cert.OutDwAttnIdeal.Mm

open Cert.OutDwAttnIdeal Cert.OutDwAttnIdeal.Gen Idealize.ShloMosaic Idealize.ShloMosaic.TcCoe Idealize.SL.Sem

/-- Entry `(i, j)` is the product of column `i` with column `j`. -/
def prod (x0 : Vec Ideal S8192x512 .f32) (x1 : Vec Ideal S8192x1024 .f32) : Vec Ideal S512x1024 .bf16 :=
  fun i => ∑ k : Fin 8192, (x0 (ix2 k (i 0)) : EReal) * x1 (ix2 k (i 1))

/-- A part's product. -/
def part (x0 : Vec Ideal S2048x512 .f32) (x1 : Vec Ideal S2048x1024 .f32) (y : S512x1024.Idx) : EReal :=
  ∑ k : Fin 2048, (x0 (ix2 k (y 0)) : EReal) * x1 (ix2 k (y 1))

theorem pay1 (x0 : Vec Ideal S2048x512 .f32) (x1 : Vec Ideal S2048x1024 .f32) (i : Fin 512) (j : Fin 1024) :
    k0_pay1 (F := Ideal) x0 x1 (ix2 i j) = part x0 x1 (ix2 i j) := by
  unfold k0_pay1 part
  pointwise [dot_S2048x512_S2048x1024_S512x1024_0_0_1_1_n_n]

theorem pay2 (x0 : Vec Ideal S2048x512 .f32) (x1 : Vec Ideal S2048x1024 .f32) (y : S512x1024.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x512 .f32) (x1 : Vec Ideal S2048x1024 .f32) (a : Vec Ideal S512x1024 .f32) (y : S512x1024.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S512x1024 .f32) (y : S512x1024.Idx) : k0_pay4 (F := Ideal) a y = a y := rfl

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

/-- The accumulator after a step that writes back. -/
theorem acc_eq (c : Dev nD) (t : Fin cfg0.N) (ht : t.val % 4 = 3) (y : S512x1024.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by have := lt_of_lt_of_eq t.isLt (show cfg0.N = 4 from N_0); omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S512x1024.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x512 .f32) (x1 : Vec Ideal S8192x1024 .f32) :
    OutDwAttnRefIdeal.Read.val_main_v4 (F := Ideal) x0 x1 = prod x0 x1 := by
  funext i
  have hi : i = ix2 (i 0) (i 1) := by blk_ext
  rw [hi]
  unfold OutDwAttnRefIdeal.Read.val_main_v4 OutDwAttnRefIdeal.Read.val_main_v3 OutDwAttnRefIdeal.Read.val_main_v2 prod
  pointwise [OutDwAttnRefIdeal.dot_S8192x1024_S8192x512_S1024x512_0_0_1_1_n_n]
  exact Finset.sum_congr rfl fun k _ => mul_comm _ _

theorem args_eq (x0 y0 : Vec Ideal S8192x512 .f32) (x1 y1 : Vec Ideal S8192x1024 .f32) (h0 : x0 = y0) (h1 : x1 = y1) :
    prod x0 x1 = prod y0 y1 := by
  subst h0 h1; rfl

/-- The kernel's result is the reference's, from equal arguments. -/
theorem algebraic : Cert.algebraic_OutDwAttnIdeal_OutDwAttnRefIdeal (hOutDwAttnIdeal := Cert.OutDwAttnIdeal.Gen.facts)
    (hOutDwAttnRefIdeal := Cert.OutDwAttnRefIdeal.Gen.facts) := by
  intro m g m' g' _ hargs
  refine ⟨fun c => prod (m ((c : Thread nD τ).loc main_arg0)) (m ((c : Thread nD τ).loc main_arg1)), ?_, ?_⟩
  · refine (θ_run (Cert.OutDwAttnIdeal.defs (F := Ideal)) _ _).mono (fun r h c => ?_) (Cert.OutDwAttnIdeal.Value.run_blocks (F := Ideal) m g)
    obtain ⟨h2, h0, h1⟩ := h c
    exact ⟨h2.trans (final m c), h0, h1⟩
  · refine (θ_run (Cert.OutDwAttnRefIdeal.defs (F := Ideal)) _ _).mono (fun r h c => ?_) (Cert.OutDwAttnRefIdeal.Value.run (F := Ideal) m' g')
    obtain ⟨hv, hk⟩ := h c
    refine ⟨hv.trans ((Cert.OutDwAttnRefIdeal.Read.val_main_v4_eq _ _).trans ?_), hk⟩
    obtain ⟨h0, h1⟩ := hargs c
    exact (ref _ _).trans (args_eq _ _ _ _ h0 h1)

end Cert.OutDwAttnIdeal.Mm

end
-- ==== Proof.OutDwSsd.lean ====
/- The gradient of the output projection's weights, the rows of the state space part: its gated and normalised
   result, transposed, times the incoming gradient,
   accumulated over the rows four parts at a time. -/
module

public import proofs.«01_k».proof.Proof.Gen.OutDwSsdIdeal.Value
public import proofs.«01_k».proof.Proof.Gen.OutDwSsdRefIdeal.Read
public import proofs.«01_k».proof.Proof.Gen.OutDwSsdRefIdeal.Run
public import proofs.«01_k».proof.Defs
public import Idealize.ShloMosaic.Lib.Pipeline.ValueKit
public import Idealize.ShloMosaic.Lib.Pointwise

@[expose] public section

set_option maxRecDepth 20000

noncomputable section

namespace Cert.OutDwSsdIdeal.Mm

open Cert.OutDwSsdIdeal Cert.OutDwSsdIdeal.Gen Idealize.ShloMosaic Idealize.ShloMosaic.TcCoe Idealize.SL.Sem

/-- Entry `(i, j)` is the product of column `i` with column `j`. -/
def prod (x0 : Vec Ideal S8192x1024 .bf16) (x1 : Vec Ideal S8192x1024 .f32) : Vec Ideal S1024x1024 .bf16 :=
  fun i => ∑ k : Fin 8192, (x0 (ix2 k (i 0)) : EReal) * x1 (ix2 k (i 1))

/-- A part's product. -/
def part (x0 : Vec Ideal S2048x1024 .bf16) (x1 : Vec Ideal S2048x1024 .f32) (y : S1024x1024.Idx) : EReal :=
  ∑ k : Fin 2048, (x0 (ix2 k (y 0)) : EReal) * x1 (ix2 k (y 1))

theorem pay1 (x0 : Vec Ideal S2048x1024 .bf16) (x1 : Vec Ideal S2048x1024 .f32) (i : Fin 1024) (j : Fin 1024) :
    k0_pay1 (F := Ideal) x0 x1 (ix2 i j) = part x0 x1 (ix2 i j) := by
  unfold k0_pay1 part
  pointwise [dot_S2048x1024_S2048x1024_S1024x1024_0_0_1_1_n_n]

theorem pay2 (x0 : Vec Ideal S2048x1024 .bf16) (x1 : Vec Ideal S2048x1024 .f32) (y : S1024x1024.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x1024 .bf16) (x1 : Vec Ideal S2048x1024 .f32) (a : Vec Ideal S1024x1024 .f32) (y : S1024x1024.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S1024x1024 .f32) (y : S1024x1024.Idx) : k0_pay4 (F := Ideal) a y = a y := rfl

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

/-- The accumulator after a step that writes back. -/
theorem acc_eq (c : Dev nD) (t : Fin cfg0.N) (ht : t.val % 4 = 3) (y : S1024x1024.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by have := lt_of_lt_of_eq t.isLt (show cfg0.N = 4 from N_0); omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S1024x1024.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x1024 .bf16) (x1 : Vec Ideal S8192x1024 .f32) :
    OutDwSsdRefIdeal.Read.val_main_v5 (F := Ideal) x0 x1 = prod x0 x1 := by
  funext i
  have hi : i = ix2 (i 0) (i 1) := by blk_ext
  rw [hi]
  unfold OutDwSsdRefIdeal.Read.val_main_v5 OutDwSsdRefIdeal.Read.val_main_v4 OutDwSsdRefIdeal.Read.val_main_v3 OutDwSsdRefIdeal.Read.val_main_v1 prod
  pointwise [OutDwSsdRefIdeal.dot_S8192x1024_S8192x1024_S1024x1024_0_0_1_1_n_n]
  exact Finset.sum_congr rfl fun k _ => mul_comm _ _

theorem args_eq (x0 y0 : Vec Ideal S8192x1024 .bf16) (x1 y1 : Vec Ideal S8192x1024 .f32) (h0 : x0 = y0) (h1 : x1 = y1) :
    prod x0 x1 = prod y0 y1 := by
  subst h0 h1; rfl

/-- The kernel's result is the reference's, from equal arguments. -/
theorem algebraic : Cert.algebraic_OutDwSsdIdeal_OutDwSsdRefIdeal (hOutDwSsdIdeal := Cert.OutDwSsdIdeal.Gen.facts)
    (hOutDwSsdRefIdeal := Cert.OutDwSsdRefIdeal.Gen.facts) := by
  intro m g m' g' _ hargs
  refine ⟨fun c => prod (m ((c : Thread nD τ).loc main_arg0)) (m ((c : Thread nD τ).loc main_arg1)), ?_, ?_⟩
  · refine (θ_run (Cert.OutDwSsdIdeal.defs (F := Ideal)) _ _).mono (fun r h c => ?_) (Cert.OutDwSsdIdeal.Value.run_blocks (F := Ideal) m g)
    obtain ⟨h2, h0, h1⟩ := h c
    exact ⟨h2.trans (final m c), h0, h1⟩
  · refine (θ_run (Cert.OutDwSsdRefIdeal.defs (F := Ideal)) _ _).mono (fun r h c => ?_) (Cert.OutDwSsdRefIdeal.Value.run (F := Ideal) m' g')
    obtain ⟨hv, hk⟩ := h c
    refine ⟨hv.trans ((Cert.OutDwSsdRefIdeal.Read.val_main_v5_eq _ _).trans ?_), hk⟩
    obtain ⟨h0, h1⟩ := hargs c
    exact (ref _ _).trans (args_eq _ _ _ _ h0 h1)

end Cert.OutDwSsdIdeal.Mm

end
-- ==== Proof.InDx.lean ====
/- The gradient of the normalised input through the input projection: the gradients of the projection's five parts, side
   by side, times the transposed weights. -/
module

public import proofs.«01_k».proof.Proof.Gen.InDxIdeal.Value
public import proofs.«01_k».proof.Proof.Gen.InDxRefIdeal.Read
public import proofs.«01_k».proof.Proof.Gen.InDxRefIdeal.Run
public import proofs.«01_k».proof.Defs
public import Idealize.ShloMosaic.Lib.Pipeline.ValueKit
public import Idealize.ShloMosaic.Lib.Pointwise

@[expose] public section

set_option maxRecDepth 20000

noncomputable section

namespace Cert.InDxIdeal.Mm

open Cert.InDxIdeal Cert.InDxIdeal.Gen Idealize.ShloMosaic Idealize.ShloMosaic.TcCoe Idealize.SL.Sem

variable (m : (ℓ : Loc nD τ sig) → Buf (Elt Ideal) ℓ)

/-- Five rows joined, read at one column. -/
def cat (f0 : Fin 512 → EReal) (f1 : Fin 1024 → EReal) (f2 : Fin 1536 → EReal) (f3 : Fin 256 → EReal) (f4 : Fin 128 → EReal)
    (k : Fin 3456) : EReal :=
  if h : k.val < 512 then f0 ⟨k.val, h⟩
  else if h : k.val - 512 < 1024 then f1 ⟨k.val - 512, h⟩
  else if h : k.val - 512 - 1024 < 1536 then f2 ⟨k.val - 512 - 1024, h⟩
  else if h : k.val - 512 - 1024 - 1536 < 256 then f3 ⟨k.val - 512 - 1024 - 1536, h⟩
  else f4 ⟨k.val - 512 - 1024 - 1536 - 256, by omega⟩

/-- Entry `(i, j)` is the product of row `i` of the five parts, joined, with row `j`. -/
def prod (x0 : Vec Ideal S8192x512 .bf16) (x1 : Vec Ideal S8192x1024 .bf16) (x2 : Vec Ideal S8192x1536 .bf16) (x3 : Vec Ideal S8192x256 .bf16) (x4 : Vec Ideal S8192x128 .f32) (x5 : Vec Ideal S1024x3456 .bf16) : Vec Ideal S8192x1024 .f32 :=
  fun i => ∑ k : Fin 3456, (cat (fun k => (x0 (ix2 (i 0) k) : EReal)) (fun k => (x1 (ix2 (i 0) k) : EReal)) (fun k => (x2 (ix2 (i 0) k) : EReal)) (fun k => (x3 (ix2 (i 0) k) : EReal)) (fun k => (x4 (ix2 (i 0) k) : EReal)) k : EReal) * x5 (ix2 (i 1) k)

/-- What a step stores: the product of its row tile with the weights. -/
theorem pay (x0 : Vec Ideal S1024x512 .bf16) (x1 : Vec Ideal S1024x1024 .bf16) (x2 : Vec Ideal S1024x1536 .bf16) (x3 : Vec Ideal S1024x256 .bf16) (x4 : Vec Ideal S1024x128 .f32) (x5 : Vec Ideal S1024x3456 .bf16) (i : Fin 1024) (j : Fin 1024) :
    k0_pay1 (F := Ideal) x0 x1 x2 x3 x4 x5 (ix2 i j) = ∑ k : Fin 3456, (cat (fun k => (x0 (ix2 i k) : EReal)) (fun k => (x1 (ix2 i k) : EReal)) (fun k => (x2 (ix2 i k) : EReal)) (fun k => (x3 (ix2 i k) : EReal)) (fun k => (x4 (ix2 i k) : EReal)) k : EReal) * x5 (ix2 j k) := by
  unfold k0_pay1
  pointwise [dot_S1024x3456_S1024x3456_S1024x1024_1_1_0_0_n_n]
  rfl

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)

/-- The result array after the run. -/
theorem final (c : Dev nD) : (dats m 0 c).arrAt 6 cfg0.N = prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]; frame_out
  have hy : y = ix2 (y 0) (y 1) := by blk_ext
  refine (congrArg _ hy).trans ((pay _ _ _ _ _ _ _ _).trans ?_)
  unfold prod
  rw [← V_main_arg0 m c, ← V_main_arg1 m c, ← V_main_arg2 m c, ← V_main_arg3 m c, ← V_main_arg4 m c, ← V_main_arg5 m c]
  refine Finset.sum_congr rfl fun k _ => congrArg₂ (fun y z : EReal => y * z) ?_ ?_
  · congr 1 <;> funext k
    · blk_ext [iblk, e0, e6]
    · blk_ext [iblk, e1, e6]
    · blk_ext [iblk, e2, e6]
    · blk_ext [iblk, e3, e6]
    · blk_ext [iblk, e4, e6]
  · blk_ext [iblk, e5, e6]

/-- The reference's result is the same product. -/
theorem ref (x0 : Vec Ideal S8192x512 .bf16) (x1 : Vec Ideal S8192x1024 .bf16) (x2 : Vec Ideal S8192x1536 .bf16) (x3 : Vec Ideal S8192x256 .bf16) (x4 : Vec Ideal S8192x128 .f32) (x5 : Vec Ideal S1024x3456 .bf16) :
    InDxRefIdeal.Read.val_main_v8 (F := Ideal) x0 x1 x2 x3 x4 x5 = prod x0 x1 x2 x3 x4 x5 := by
  funext i
  have hi : i = ix2 (i 0) (i 1) := by blk_ext
  rw [hi]
  unfold InDxRefIdeal.Read.val_main_v8 InDxRefIdeal.Read.val_main_v6 InDxRefIdeal.Read.val_main_v5 InDxRefIdeal.Read.val_main_v4 InDxRefIdeal.Read.val_main_v3
    InDxRefIdeal.Read.val_main_v2 InDxRefIdeal.Read.val_main_v1 prod
  pointwise [InDxRefIdeal.dot_S8192x3456_S1024x3456_S8192x1024_1_1_0_0_n_n]
  rfl

theorem args_eq (x0 : Vec Ideal S8192x512 .bf16) (x1 : Vec Ideal S8192x1024 .bf16) (x2 : Vec Ideal S8192x1536 .bf16) (x3 : Vec Ideal S8192x256 .bf16) (x4 : Vec Ideal S8192x128 .f32) (x5 : Vec Ideal S1024x3456 .bf16) (y0 : Vec Ideal S8192x512 .bf16) (y1 : Vec Ideal S8192x1024 .bf16) (y2 : Vec Ideal S8192x1536 .bf16) (y3 : Vec Ideal S8192x256 .bf16) (y4 : Vec Ideal S8192x128 .f32) (y5 : Vec Ideal S1024x3456 .bf16)
    (h0 : x0 = y0) (h1 : x1 = y1) (h2 : x2 = y2) (h3 : x3 = y3) (h4 : x4 = y4) (h5 : x5 = y5) : prod x0 x1 x2 x3 x4 x5 = prod y0 y1 y2 y3 y4 y5 := by
  subst h0 h1 h2 h3 h4 h5; rfl

/-- The kernel's result is the reference's, from equal arguments. -/
theorem algebraic : Cert.algebraic_InDxIdeal_InDxRefIdeal (hInDxIdeal := Cert.InDxIdeal.Gen.facts)
    (hInDxRefIdeal := Cert.InDxRefIdeal.Gen.facts) := by
  intro m g m' g' _ hargs
  refine ⟨fun c => prod (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · refine (θ_run (Cert.InDxIdeal.defs (F := Ideal)) _ _).mono (fun r h c => ?_) (Cert.InDxIdeal.Value.run_blocks (F := Ideal) m g)
    obtain ⟨hv, hk⟩ := h c
    exact ⟨hv.trans (final m c), hk⟩
  · refine (θ_run (Cert.InDxRefIdeal.defs (F := Ideal)) _ _).mono (fun r h c => ?_) (Cert.InDxRefIdeal.Value.run (F := Ideal) m' g')
    obtain ⟨hv, hk⟩ := h c
    refine ⟨hv.trans ((Cert.InDxRefIdeal.Read.val_main_v8_eq _ _ _ _ _ _).trans ?_), hk⟩
    obtain ⟨h0, h1, h2, h3, h4, h5⟩ := hargs c
    exact (ref _ _ _ _ _ _).trans (args_eq _ _ _ _ _ _ _ _ _ _ _ _ h0 h1 h2 h3 h4 h5)

end Cert.InDxIdeal.Mm

end
-- ==== Proof.InDwQ.lean ====
/- The gradient of the input projection's weights, the columns of the queries: the normalised input, transposed,
   times their gradient, accumulated over the rows four parts at a time. -/
module

public import proofs.«01_k».proof.Proof.Gen.InDwQIdeal.Value
public import proofs.«01_k».proof.Proof.Gen.InDwQRefIdeal.Read
public import proofs.«01_k».proof.Proof.Gen.InDwQRefIdeal.Run
public import proofs.«01_k».proof.Defs
public import Idealize.ShloMosaic.Lib.Pipeline.ValueKit
public import Idealize.ShloMosaic.Lib.Pointwise

@[expose] public section

set_option maxRecDepth 20000

noncomputable section

namespace Cert.InDwQIdeal.Mm

open Cert.InDwQIdeal Cert.InDwQIdeal.Gen Idealize.ShloMosaic Idealize.ShloMosaic.TcCoe Idealize.SL.Sem

/-- Entry `(i, j)` is the product of column `i` with column `j`. -/
def prod (x0 : Vec Ideal S8192x1024 .bf16) (x1 : Vec Ideal S8192x512 .bf16) : Vec Ideal S1024x512 .bf16 :=
  fun i => ∑ k : Fin 8192, (x0 (ix2 k (i 0)) : EReal) * x1 (ix2 k (i 1))

/-- A part's product. -/
def part (x0 : Vec Ideal S2048x1024 .bf16) (x1 : Vec Ideal S2048x512 .bf16) (y : S1024x512.Idx) : EReal :=
  ∑ k : Fin 2048, (x0 (ix2 k (y 0)) : EReal) * x1 (ix2 k (y 1))

theorem pay1 (x0 : Vec Ideal S2048x1024 .bf16) (x1 : Vec Ideal S2048x512 .bf16) (i : Fin 1024) (j : Fin 512) :
    k0_pay1 (F := Ideal) x0 x1 (ix2 i j) = part x0 x1 (ix2 i j) := by
  unfold k0_pay1 part
  pointwise [dot_S2048x1024_S2048x512_S1024x512_0_0_1_1_n_n]

theorem pay2 (x0 : Vec Ideal S2048x1024 .bf16) (x1 : Vec Ideal S2048x512 .bf16) (y : S1024x512.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x1024 .bf16) (x1 : Vec Ideal S2048x512 .bf16) (a : Vec Ideal S1024x512 .f32) (y : S1024x512.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S1024x512 .f32) (y : S1024x512.Idx) : k0_pay4 (F := Ideal) a y = a y := rfl

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

/-- The accumulator after a step that writes back. -/
theorem acc_eq (c : Dev nD) (t : Fin cfg0.N) (ht : t.val % 4 = 3) (y : S1024x512.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by have := lt_of_lt_of_eq t.isLt (show cfg0.N = 4 from N_0); omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S1024x512.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x1024 .bf16) (x1 : Vec Ideal S8192x512 .bf16) :
    InDwQRefIdeal.Read.val_main_v6 (F := Ideal) x0 x1 = prod x0 x1 := by
  funext i
  have hi : i = ix2 (i 0) (i 1) := by blk_ext
  rw [hi]
  unfold InDwQRefIdeal.Read.val_main_v6 InDwQRefIdeal.Read.val_main_v5 InDwQRefIdeal.Read.val_main_v4 InDwQRefIdeal.Read.val_main_v3 InDwQRefIdeal.Read.val_main_v1 prod
  pointwise [InDwQRefIdeal.dot_S8192x512_S8192x1024_S512x1024_0_0_1_1_n_n]
  exact Finset.sum_congr rfl fun k _ => mul_comm _ _

theorem args_eq (x0 y0 : Vec Ideal S8192x1024 .bf16) (x1 y1 : Vec Ideal S8192x512 .bf16) (h0 : x0 = y0) (h1 : x1 = y1) :
    prod x0 x1 = prod y0 y1 := by
  subst h0 h1; rfl

/-- The kernel's result is the reference's, from equal arguments. -/
theorem algebraic : Cert.algebraic_InDwQIdeal_InDwQRefIdeal (hInDwQIdeal := Cert.InDwQIdeal.Gen.facts)
    (hInDwQRefIdeal := Cert.InDwQRefIdeal.Gen.facts) := by
  intro m g m' g' _ hargs
  refine ⟨fun c => prod (m ((c : Thread nD τ).loc main_arg0)) (m ((c : Thread nD τ).loc main_arg1)), ?_, ?_⟩
  · refine (θ_run (Cert.InDwQIdeal.defs (F := Ideal)) _ _).mono (fun r h c => ?_) (Cert.InDwQIdeal.Value.run_blocks (F := Ideal) m g)
    obtain ⟨h2, h0, h1⟩ := h c
    exact ⟨h2.trans (final m c), h0, h1⟩
  · refine (θ_run (Cert.InDwQRefIdeal.defs (F := Ideal)) _ _).mono (fun r h c => ?_) (Cert.InDwQRefIdeal.Value.run (F := Ideal) m' g')
    obtain ⟨hv, hk⟩ := h c
    refine ⟨hv.trans ((Cert.InDwQRefIdeal.Read.val_main_v6_eq _ _).trans ?_), hk⟩
    obtain ⟨h0, h1⟩ := hargs c
    exact (ref _ _).trans (args_eq _ _ _ _ h0 h1)

end Cert.InDwQIdeal.Mm

end
-- ==== Proof.InDwZ.lean ====
/- The gradient of the input projection's weights, the columns of the gate: the normalised input, transposed,
   times their gradient, accumulated over the rows four parts at a time. -/
module

public import proofs.«01_k».proof.Proof.Gen.InDwZIdeal.Value
public import proofs.«01_k».proof.Proof.Gen.InDwZRefIdeal.Read
public import proofs.«01_k».proof.Proof.Gen.InDwZRefIdeal.Run
public import proofs.«01_k».proof.Defs
public import Idealize.ShloMosaic.Lib.Pipeline.ValueKit
public import Idealize.ShloMosaic.Lib.Pointwise

@[expose] public section

set_option maxRecDepth 20000

noncomputable section

namespace Cert.InDwZIdeal.Mm

open Cert.InDwZIdeal Cert.InDwZIdeal.Gen Idealize.ShloMosaic Idealize.ShloMosaic.TcCoe Idealize.SL.Sem

/-- Entry `(i, j)` is the product of column `i` with column `j`. -/
def prod (x0 : Vec Ideal S8192x1024 .bf16) (x1 : Vec Ideal S8192x1024 .bf16) : Vec Ideal S1024x1024 .bf16 :=
  fun i => ∑ k : Fin 8192, (x0 (ix2 k (i 0)) : EReal) * x1 (ix2 k (i 1))

/-- A part's product. -/
def part (x0 : Vec Ideal S2048x1024 .bf16) (x1 : Vec Ideal S2048x1024 .bf16) (y : S1024x1024.Idx) : EReal :=
  ∑ k : Fin 2048, (x0 (ix2 k (y 0)) : EReal) * x1 (ix2 k (y 1))

theorem pay1 (x0 : Vec Ideal S2048x1024 .bf16) (x1 : Vec Ideal S2048x1024 .bf16) (i : Fin 1024) (j : Fin 1024) :
    k0_pay1 (F := Ideal) x0 x1 (ix2 i j) = part x0 x1 (ix2 i j) := by
  unfold k0_pay1 part
  pointwise [dot_S2048x1024_S2048x1024_S1024x1024_0_0_1_1_n_n]

theorem pay2 (x0 : Vec Ideal S2048x1024 .bf16) (x1 : Vec Ideal S2048x1024 .bf16) (y : S1024x1024.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x1024 .bf16) (x1 : Vec Ideal S2048x1024 .bf16) (a : Vec Ideal S1024x1024 .f32) (y : S1024x1024.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S1024x1024 .f32) (y : S1024x1024.Idx) : k0_pay4 (F := Ideal) a y = a y := rfl

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

/-- The accumulator after a step that writes back. -/
theorem acc_eq (c : Dev nD) (t : Fin cfg0.N) (ht : t.val % 4 = 3) (y : S1024x1024.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by have := lt_of_lt_of_eq t.isLt (show cfg0.N = 4 from N_0); omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S1024x1024.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x1024 .bf16) (x1 : Vec Ideal S8192x1024 .bf16) :
    InDwZRefIdeal.Read.val_main_v6 (F := Ideal) x0 x1 = prod x0 x1 := by
  funext i
  have hi : i = ix2 (i 0) (i 1) := by blk_ext
  rw [hi]
  unfold InDwZRefIdeal.Read.val_main_v6 InDwZRefIdeal.Read.val_main_v5 InDwZRefIdeal.Read.val_main_v4 InDwZRefIdeal.Read.val_main_v3 InDwZRefIdeal.Read.val_main_v1 prod
  pointwise [InDwZRefIdeal.dot_S8192x1024_S8192x1024_S1024x1024_0_0_1_1_n_n]
  exact Finset.sum_congr rfl fun k _ => mul_comm _ _

theorem args_eq (x0 y0 : Vec Ideal S8192x1024 .bf16) (x1 y1 : Vec Ideal S8192x1024 .bf16) (h0 : x0 = y0) (h1 : x1 = y1) :
    prod x0 x1 = prod y0 y1 := by
  subst h0 h1; rfl

/-- The kernel's result is the reference's, from equal arguments. -/
theorem algebraic : Cert.algebraic_InDwZIdeal_InDwZRefIdeal (hInDwZIdeal := Cert.InDwZIdeal.Gen.facts)
    (hInDwZRefIdeal := Cert.InDwZRefIdeal.Gen.facts) := by
  intro m g m' g' _ hargs
  refine ⟨fun c => prod (m ((c : Thread nD τ).loc main_arg0)) (m ((c : Thread nD τ).loc main_arg1)), ?_, ?_⟩
  · refine (θ_run (Cert.InDwZIdeal.defs (F := Ideal)) _ _).mono (fun r h c => ?_) (Cert.InDwZIdeal.Value.run_blocks (F := Ideal) m g)
    obtain ⟨h2, h0, h1⟩ := h c
    exact ⟨h2.trans (final m c), h0, h1⟩
  · refine (θ_run (Cert.InDwZRefIdeal.defs (F := Ideal)) _ _).mono (fun r h c => ?_) (Cert.InDwZRefIdeal.Value.run (F := Ideal) m' g')
    obtain ⟨hv, hk⟩ := h c
    refine ⟨hv.trans ((Cert.InDwZRefIdeal.Read.val_main_v6_eq _ _).trans ?_), hk⟩
    obtain ⟨h0, h1⟩ := hargs c
    exact (ref _ _).trans (args_eq _ _ _ _ h0 h1)

end Cert.InDwZIdeal.Mm

end
-- ==== Proof.InDwXbc.lean ====
/- The gradient of the input projection's weights, the columns of the convolution's input: the normalised input, transposed,
   times their gradient, accumulated over the rows four parts at a time. -/
module

public import proofs.«01_k».proof.Proof.Gen.InDwXbcIdeal.Value
public import proofs.«01_k».proof.Proof.Gen.InDwXbcRefIdeal.Read
public import proofs.«01_k».proof.Proof.Gen.InDwXbcRefIdeal.Run
public import proofs.«01_k».proof.Defs
public import Idealize.ShloMosaic.Lib.Pipeline.ValueKit
public import Idealize.ShloMosaic.Lib.Pointwise

@[expose] public section

set_option maxRecDepth 20000

noncomputable section

namespace Cert.InDwXbcIdeal.Mm

open Cert.InDwXbcIdeal Cert.InDwXbcIdeal.Gen Idealize.ShloMosaic Idealize.ShloMosaic.TcCoe Idealize.SL.Sem

/-- Entry `(i, j)` is the product of column `i` with column `j`. -/
def prod (x0 : Vec Ideal S8192x1024 .bf16) (x1 : Vec Ideal S8192x1536 .bf16) : Vec Ideal S1024x1536 .bf16 :=
  fun i => ∑ k : Fin 8192, (x0 (ix2 k (i 0)) : EReal) * x1 (ix2 k (i 1))

/-- A part's product. -/
def part (x0 : Vec Ideal S2048x1024 .bf16) (x1 : Vec Ideal S2048x768 .bf16) (y : S1024x768.Idx) : EReal :=
  ∑ k : Fin 2048, (x0 (ix2 k (y 0)) : EReal) * x1 (ix2 k (y 1))

theorem pay1 (x0 : Vec Ideal S2048x1024 .bf16) (x1 : Vec Ideal S2048x768 .bf16) (i : Fin 1024) (j : Fin 768) :
    k0_pay1 (F := Ideal) x0 x1 (ix2 i j) = part x0 x1 (ix2 i j) := by
  unfold k0_pay1 part
  pointwise [dot_S2048x1024_S2048x768_S1024x768_0_0_1_1_n_n]

theorem pay2 (x0 : Vec Ideal S2048x1024 .bf16) (x1 : Vec Ideal S2048x768 .bf16) (y : S1024x768.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x1024 .bf16) (x1 : Vec Ideal S2048x768 .bf16) (a : Vec Ideal S1024x768 .f32) (y : S1024x768.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S1024x768 .f32) (y : S1024x768.Idx) : k0_pay4 (F := Ideal) a y = a y := rfl

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![0, t.val / 4] := (by decide +kernel : ∀ t : Fin grid0.N, _)

/-- The accumulator after a step that writes back. -/
theorem acc_eq (c : Dev nD) (t : Fin cfg0.N) (ht : t.val % 4 = 3) (y : S1024x768.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S1024x768.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x1024 .bf16) (x1 : Vec Ideal S8192x1536 .bf16) :
    InDwXbcRefIdeal.Read.val_main_v6 (F := Ideal) x0 x1 = prod x0 x1 := by
  funext i
  have hi : i = ix2 (i 0) (i 1) := by blk_ext
  rw [hi]
  unfold InDwXbcRefIdeal.Read.val_main_v6 InDwXbcRefIdeal.Read.val_main_v5 InDwXbcRefIdeal.Read.val_main_v4 InDwXbcRefIdeal.Read.val_main_v3 InDwXbcRefIdeal.Read.val_main_v1 prod
  pointwise [InDwXbcRefIdeal.dot_S8192x1536_S8192x1024_S1536x1024_0_0_1_1_n_n]
  exact Finset.sum_congr rfl fun k _ => mul_comm _ _

theorem args_eq (x0 y0 : Vec Ideal S8192x1024 .bf16) (x1 y1 : Vec Ideal S8192x1536 .bf16) (h0 : x0 = y0) (h1 : x1 = y1) :
    prod x0 x1 = prod y0 y1 := by
  subst h0 h1; rfl

/-- The kernel's result is the reference's, from equal arguments. -/
theorem algebraic : Cert.algebraic_InDwXbcIdeal_InDwXbcRefIdeal (hInDwXbcIdeal := Cert.InDwXbcIdeal.Gen.facts)
    (hInDwXbcRefIdeal := Cert.InDwXbcRefIdeal.Gen.facts) := by
  intro m g m' g' _ hargs
  refine ⟨fun c => prod (m ((c : Thread nD τ).loc main_arg0)) (m ((c : Thread nD τ).loc main_arg1)), ?_, ?_⟩
  · refine (θ_run (Cert.InDwXbcIdeal.defs (F := Ideal)) _ _).mono (fun r h c => ?_) (Cert.InDwXbcIdeal.Value.run_blocks (F := Ideal) m g)
    obtain ⟨h2, h0, h1⟩ := h c
    exact ⟨h2.trans (final m c), h0, h1⟩
  · refine (θ_run (Cert.InDwXbcRefIdeal.defs (F := Ideal)) _ _).mono (fun r h c => ?_) (Cert.InDwXbcRefIdeal.Value.run (F := Ideal) m' g')
    obtain ⟨hv, hk⟩ := h c
    refine ⟨hv.trans ((Cert.InDwXbcRefIdeal.Read.val_main_v6_eq _ _).trans ?_), hk⟩
    obtain ⟨h0, h1⟩ := hargs c
    exact (ref _ _).trans (args_eq _ _ _ _ h0 h1)

end Cert.InDwXbcIdeal.Mm

end
-- ==== Proof.InDwKv.lean ====
/- The gradient of the input projection's weights, the columns of the keys and values: the normalised input, transposed,
   times their gradient, accumulated over the rows four parts at a time. -/
module

public import proofs.«01_k».proof.Proof.Gen.InDwKvIdeal.Value
public import proofs.«01_k».proof.Proof.Gen.InDwKvRefIdeal.Read
public import proofs.«01_k».proof.Proof.Gen.InDwKvRefIdeal.Run
public import proofs.«01_k».proof.Defs
public import Idealize.ShloMosaic.Lib.Pipeline.ValueKit
public import Idealize.ShloMosaic.Lib.Pointwise

@[expose] public section

set_option maxRecDepth 20000

noncomputable section

namespace Cert.InDwKvIdeal.Mm

open Cert.InDwKvIdeal Cert.InDwKvIdeal.Gen Idealize.ShloMosaic Idealize.ShloMosaic.TcCoe Idealize.SL.Sem

/-- Entry `(i, j)` is the product of column `i` with column `j`. -/
def prod (x0 : Vec Ideal S8192x1024 .bf16) (x1 : Vec Ideal S8192x256 .bf16) : Vec Ideal S1024x256 .bf16 :=
  fun i => ∑ k : Fin 8192, (x0 (ix2 k (i 0)) : EReal) * x1 (ix2 k (i 1))

/-- A part's product. -/
def part (x0 : Vec Ideal S2048x1024 .bf16) (x1 : Vec Ideal S2048x256 .bf16) (y : S1024x256.Idx) : EReal :=
  ∑ k : Fin 2048, (x0 (ix2 k (y 0)) : EReal) * x1 (ix2 k (y 1))

theorem pay1 (x0 : Vec Ideal S2048x1024 .bf16) (x1 : Vec Ideal S2048x256 .bf16) (i : Fin 1024) (j : Fin 256) :
    k0_pay1 (F := Ideal) x0 x1 (ix2 i j) = part x0 x1 (ix2 i j) := by
  unfold k0_pay1 part
  pointwise [dot_S2048x1024_S2048x256_S1024x256_0_0_1_1_n_n]

theorem pay2 (x0 : Vec Ideal S2048x1024 .bf16) (x1 : Vec Ideal S2048x256 .bf16) (y : S1024x256.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x1024 .bf16) (x1 : Vec Ideal S2048x256 .bf16) (a : Vec Ideal S1024x256 .f32) (y : S1024x256.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S1024x256 .f32) (y : S1024x256.Idx) : k0_pay4 (F := Ideal) a y = a y := rfl

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

/-- The accumulator after a step that writes back. -/
theorem acc_eq (c : Dev nD) (t : Fin cfg0.N) (ht : t.val % 4 = 3) (y : S1024x256.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by have := lt_of_lt_of_eq t.isLt (show cfg0.N = 4 from N_0); omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S1024x256.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x1024 .bf16) (x1 : Vec Ideal S8192x256 .bf16) :
    InDwKvRefIdeal.Read.val_main_v6 (F := Ideal) x0 x1 = prod x0 x1 := by
  funext i
  have hi : i = ix2 (i 0) (i 1) := by blk_ext
  rw [hi]
  unfold InDwKvRefIdeal.Read.val_main_v6 InDwKvRefIdeal.Read.val_main_v5 InDwKvRefIdeal.Read.val_main_v4 InDwKvRefIdeal.Read.val_main_v3 InDwKvRefIdeal.Read.val_main_v1 prod
  pointwise [InDwKvRefIdeal.dot_S8192x256_S8192x1024_S256x1024_0_0_1_1_n_n]
  exact Finset.sum_congr rfl fun k _ => mul_comm _ _

theorem args_eq (x0 y0 : Vec Ideal S8192x1024 .bf16) (x1 y1 : Vec Ideal S8192x256 .bf16) (h0 : x0 = y0) (h1 : x1 = y1) :
    prod x0 x1 = prod y0 y1 := by
  subst h0 h1; rfl

/-- The kernel's result is the reference's, from equal arguments. -/
theorem algebraic : Cert.algebraic_InDwKvIdeal_InDwKvRefIdeal (hInDwKvIdeal := Cert.InDwKvIdeal.Gen.facts)
    (hInDwKvRefIdeal := Cert.InDwKvRefIdeal.Gen.facts) := by
  intro m g m' g' _ hargs
  refine ⟨fun c => prod (m ((c : Thread nD τ).loc main_arg0)) (m ((c : Thread nD τ).loc main_arg1)), ?_, ?_⟩
  · refine (θ_run (Cert.InDwKvIdeal.defs (F := Ideal)) _ _).mono (fun r h c => ?_) (Cert.InDwKvIdeal.Value.run_blocks (F := Ideal) m g)
    obtain ⟨h2, h0, h1⟩ := h c
    exact ⟨h2.trans (final m c), h0, h1⟩
  · refine (θ_run (Cert.InDwKvRefIdeal.defs (F := Ideal)) _ _).mono (fun r h c => ?_) (Cert.InDwKvRefIdeal.Value.run (F := Ideal) m' g')
    obtain ⟨hv, hk⟩ := h c
    refine ⟨hv.trans ((Cert.InDwKvRefIdeal.Read.val_main_v6_eq _ _).trans ?_), hk⟩
    obtain ⟨h0, h1⟩ := hargs c
    exact (ref _ _).trans (args_eq _ _ _ _ h0 h1)

end Cert.InDwKvIdeal.Mm

end
-- ==== Proof.InDwDt.lean ====
/- The gradient of the input projection's weights, the columns of the step sizes: the normalised input, transposed,
   times their gradient, accumulated over the rows four parts at a time. -/
module

public import proofs.«01_k».proof.Proof.Gen.InDwDtIdeal.Value
public import proofs.«01_k».proof.Proof.Gen.InDwDtRefIdeal.Read
public import proofs.«01_k».proof.Proof.Gen.InDwDtRefIdeal.Run
public import proofs.«01_k».proof.Defs
public import Idealize.ShloMosaic.Lib.Pipeline.ValueKit
public import Idealize.ShloMosaic.Lib.Pointwise

@[expose] public section

set_option maxRecDepth 20000

noncomputable section

namespace Cert.InDwDtIdeal.Mm

open Cert.InDwDtIdeal Cert.InDwDtIdeal.Gen Idealize.ShloMosaic Idealize.ShloMosaic.TcCoe Idealize.SL.Sem

/-- Entry `(i, j)` is the product of column `i` with column `j`. -/
def prod (x0 : Vec Ideal S8192x1024 .bf16) (x1 : Vec Ideal S8192x128 .f32) : Vec Ideal S1024x128 .bf16 :=
  fun i => ∑ k : Fin 8192, (x0 (ix2 k (i 0)) : EReal) * x1 (ix2 k (i 1))

/-- A part's product. -/
def part (x0 : Vec Ideal S2048x1024 .bf16) (x1 : Vec Ideal S2048x128 .f32) (y : S1024x128.Idx) : EReal :=
  ∑ k : Fin 2048, (x0 (ix2 k (y 0)) : EReal) * x1 (ix2 k (y 1))

theorem pay1 (x0 : Vec Ideal S2048x1024 .bf16) (x1 : Vec Ideal S2048x128 .f32) (i : Fin 1024) (j : Fin 128) :
    k0_pay1 (F := Ideal) x0 x1 (ix2 i j) = part x0 x1 (ix2 i j) := by
  unfold k0_pay1 part
  pointwise [dot_S2048x1024_S2048x128_S1024x128_0_0_1_1_n_n]

theorem pay2 (x0 : Vec Ideal S2048x1024 .bf16) (x1 : Vec Ideal S2048x128 .f32) (y : S1024x128.Idx) :
    k0_pay2 (F := Ideal) x0 x1 y = part x0 x1 y := by
  have hy : y = ix2 (y 0) (y 1) := by blk_ext
  unfold k0_pay2
  rw [shapeCast_self, hy]
  exact pay1 _ _ _ _

theorem pay3 (x0 : Vec Ideal S2048x1024 .bf16) (x1 : Vec Ideal S2048x128 .f32) (a : Vec Ideal S1024x128 .f32) (y : S1024x128.Idx) :
    k0_pay3 (F := Ideal) x0 x1 a y = (a y : EReal) + part x0 x1 y := by
  have hy : y = ix2 (y 0) (y 1) := by blk_ext
  unfold k0_pay3
  rw [shapeCast_self, hy]
  exact congrArg (fun z : EReal => a (ix2 (y 0) (y 1)) + z) (pay1 _ _ _ _)

theorem pay4 (a : Vec Ideal S1024x128 .f32) (y : S1024x128.Idx) : k0_pay4 (F := Ideal) a y = a y := rfl

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![0, 0] := (by decide +kernel : ∀ t : Fin grid0.N, _)

/-- The accumulator after a step that writes back. -/
theorem acc_eq (c : Dev nD) (t : Fin cfg0.N) (ht : t.val % 4 = 3) (y : S1024x128.Idx) :
    (outsAt0 m c t.val t.isLt).2 y = ∑ s : Fin 4, part (iblk m c 0 ⟨4 * (t.val / 4) + s.val, Idealize.ShloMosaic.Pipeline.run_point_lt_of_flush t ht s⟩)
      (iblk m c 1 ⟨4 * (t.val / 4) + s.val, Idealize.ShloMosaic.Pipeline.run_point_lt_of_flush t ht s⟩) y := by
  rw [Idealize.ShloMosaic.Pipeline.eq_sum_fin_of_reset_step_apply_of_flush (fun n h => (outsAt0 m c n h).2) 4 (fun _ => (0 : EReal))
    (fun t y => part (iblk m c 0 t) (iblk m c 1 t) y)
    (fun t h j => by
      rw [outsAt0_A m c t h (by have := lt_of_lt_of_eq t.isLt (show cfg0.N = 4 from N_0); omega) (by omega)]; frame_out; rw [pay2]; exact (zero_add _).symm)
    (fun t h j => by
      by_cases h3 : t.val % 4 = 3
      · rw [outsAt0_C m c t h (by omega) h3]; frame_out; rw [pay3]; exact congrArg (fun z : EReal => z + _) (congrFun ((Memref.isWhole_whole cc0_scratch0).read_unread (outsAt0 m c (t.val - 1) (by omega)).2) j)
      · rw [outsAt0_B m c t h (by omega) h3]; frame_out; rw [pay3]; exact congrArg (fun z : EReal => z + _) (congrFun ((Memref.isWhole_whole cc0_scratch0).read_unread (outsAt0 m c (t.val - 1) (by omega)).2) j)) t ht y, zero_add]

theorem out_eq (c : Dev nD) (t : Fin cfg0.N) (ht : t.val % 4 = 3) (y : S1024x128.Idx) :
    (outsAt0 m c t.val t.isLt).1 y = (outsAt0 m c t.val t.isLt).2 y := by
  rw [outsAt0_C m c t (by omega) (by omega) ht]; frame_out; rw [pay4]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 4 = 3 := (flush0_2 t).mp hf
  refine (out_eq m c t ht y).trans ((acc_eq m c t ht y).trans ?_)
  unfold prod part
  refine Fin.sum_mul_add_congr (S := 4) (n := 2048) (L := 8192) fun s k hk => ?_
  rw [← V_main_arg0 m c, ← V_main_arg1 m c]
  congr 1 <;> blk_ext [iblk, e0, e1, e2]

theorem ref (x0 : Vec Ideal S8192x1024 .bf16) (x1 : Vec Ideal S8192x128 .f32) :
    InDwDtRefIdeal.Read.val_main_v5 (F := Ideal) x0 x1 = prod x0 x1 := by
  funext i
  have hi : i = ix2 (i 0) (i 1) := by blk_ext
  rw [hi]
  unfold InDwDtRefIdeal.Read.val_main_v5 InDwDtRefIdeal.Read.val_main_v4 InDwDtRefIdeal.Read.val_main_v3 InDwDtRefIdeal.Read.val_main_v1 prod
  pointwise [InDwDtRefIdeal.dot_S8192x128_S8192x1024_S128x1024_0_0_1_1_n_n]
  exact Finset.sum_congr rfl fun k _ => mul_comm _ _

theorem args_eq (x0 y0 : Vec Ideal S8192x1024 .bf16) (x1 y1 : Vec Ideal S8192x128 .f32) (h0 : x0 = y0) (h1 : x1 = y1) :
    prod x0 x1 = prod y0 y1 := by
  subst h0 h1; rfl

/-- The kernel's result is the reference's, from equal arguments. -/
theorem algebraic : Cert.algebraic_InDwDtIdeal_InDwDtRefIdeal (hInDwDtIdeal := Cert.InDwDtIdeal.Gen.facts)
    (hInDwDtRefIdeal := Cert.InDwDtRefIdeal.Gen.facts) := by
  intro m g m' g' _ hargs
  refine ⟨fun c => prod (m ((c : Thread nD τ).loc main_arg0)) (m ((c : Thread nD τ).loc main_arg1)), ?_, ?_⟩
  · refine (θ_run (Cert.InDwDtIdeal.defs (F := Ideal)) _ _).mono (fun r h c => ?_) (Cert.InDwDtIdeal.Value.run_blocks (F := Ideal) m g)
    obtain ⟨h2, h0, h1⟩ := h c
    exact ⟨h2.trans (final m c), h0, h1⟩
  · refine (θ_run (Cert.InDwDtRefIdeal.defs (F := Ideal)) _ _).mono (fun r h c => ?_) (Cert.InDwDtRefIdeal.Value.run (F := Ideal) m' g')
    obtain ⟨hv, hk⟩ := h c
    refine ⟨hv.trans ((Cert.InDwDtRefIdeal.Read.val_main_v5_eq _ _).trans ?_), hk⟩
    obtain ⟨h0, h1⟩ := hargs c
    exact (ref _ _).trans (args_eq _ _ _ _ h0 h1)

end Cert.InDwDtIdeal.Mm

end
-- ==== Proof.InFwd.lean ====
/- The input projection: the normalised input times the weights. -/
module

public import proofs.«01_k».proof.Proof.Gen.InFwdIdeal.Value
public import proofs.«01_k».proof.Proof.Gen.InFwdRefIdeal.Read
public import proofs.«01_k».proof.Proof.Gen.InFwdRefIdeal.Run
public import proofs.«01_k».proof.Defs
public import Idealize.ShloMosaic.Lib.Pipeline.ValueKit
public import Idealize.ShloMosaic.Lib.Pointwise

@[expose] public section

set_option maxRecDepth 20000

noncomputable section

namespace Cert.InFwdIdeal.Mm

open Cert.InFwdIdeal Cert.InFwdIdeal.Gen Idealize.ShloMosaic Idealize.ShloMosaic.TcCoe Idealize.SL.Sem

/-- Entry `(i, j)` is the product of row `i` with column `j`. -/
def prod (x0 : Vec Ideal S8192x1024 .bf16) (x1 : Vec Ideal S1024x3456 .bf16) : Vec Ideal S8192x3456 .f32 :=
  fun i => ∑ k : Fin 1024, (x0 (ix2 (i 0) k) : EReal) * x1 (ix2 k (i 1))

/-- What a step stores: the product of its row and column tiles. -/
theorem pay (x0 : Vec Ideal S1024x1024 .bf16) (x1 : Vec Ideal S1024x1152 .bf16) (i : Fin 1024) (j : Fin 1152) :
    k0_pay1 (F := Ideal) x0 x1 (ix2 i j) = ∑ k : Fin 1024, (x0 (ix2 i k) : EReal) * x1 (ix2 k j) := by
  unfold k0_pay1
  pointwise [dot_S1024x1024_S1024x1152_S1024x1152_1_0_0_1_n_n]

variable (m : (ℓ : Loc nD τ sig) → Buf (Elt Ideal) ℓ)

theorem e0 : ∀ t : Fin cfg0.N, win0_0.index t = ![t.val / 3, 0] := (by decide +kernel : ∀ t : Fin grid0.N, _)
theorem e1 : ∀ t : Fin cfg0.N, win0_1.index t = ![0, t.val % 3] := (by decide +kernel : ∀ t : Fin grid0.N, _)
theorem e2 : ∀ t : Fin cfg0.N, win0_2.index t = ![t.val / 3, t.val % 3] := (by decide +kernel : ∀ t : Fin grid0.N, _)

/-- The result array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  have hy : y = ix2 (y 0) (y 1) := by blk_ext
  refine (congrArg _ hy).trans ((pay _ _ _ _).trans ?_)
  unfold prod
  rw [← V_main_arg0 m c, ← V_main_arg1 m c]
  refine Finset.sum_congr rfl fun k _ => ?_
  congr 1 <;> blk_ext [iblk, e0, e1, e2]

/-- The reference's result is the same product. -/
theorem ref (x0 : Vec Ideal S8192x1024 .bf16) (x1 : Vec Ideal S1024x3456 .bf16) :
    InFwdRefIdeal.Read.val_main_v2 (F := Ideal) x0 x1 = prod x0 x1 := by
  funext i
  have hi : i = ix2 (i 0) (i 1) := by blk_ext
  rw [hi]
  unfold InFwdRefIdeal.Read.val_main_v2 InFwdRefIdeal.Read.val_main_v1 InFwdRefIdeal.Read.val_main_v0 prod
  pointwise [InFwdRefIdeal.dot_S8192x1024_S1024x3456_S8192x3456_1_0_0_1_n_n]

theorem args_eq (x0 y0 : Vec Ideal S8192x1024 .bf16) (x1 y1 : Vec Ideal S1024x3456 .bf16) (h0 : x0 = y0) (h1 : x1 = y1) :
    prod x0 x1 = prod y0 y1 := by
  subst h0 h1; rfl

/-- The kernel's result is the reference's, from equal arguments. -/
theorem algebraic : Cert.algebraic_InFwdIdeal_InFwdRefIdeal (hInFwdIdeal := Cert.InFwdIdeal.Gen.facts)
    (hInFwdRefIdeal := Cert.InFwdRefIdeal.Gen.facts) := by
  intro m g m' g' _ hargs
  refine ⟨fun c => prod (m ((c : Thread nD τ).loc main_arg0)) (m ((c : Thread nD τ).loc main_arg1)), ?_, ?_⟩
  · refine (θ_run (Cert.InFwdIdeal.defs (F := Ideal)) _ _).mono (fun r h c => ?_) (Cert.InFwdIdeal.Value.run_blocks (F := Ideal) m g)
    obtain ⟨hv, hk⟩ := h c
    exact ⟨hv.trans (final m c), hk⟩
  · refine (θ_run (Cert.InFwdRefIdeal.defs (F := Ideal)) _ _).mono (fun r h c => ?_) (Cert.InFwdRefIdeal.Value.run (F := Ideal) m' g')
    obtain ⟨hv, hk⟩ := h c
    refine ⟨hv.trans ((Cert.InFwdRefIdeal.Read.val_main_v2_eq _ _).trans ?_), hk⟩
    obtain ⟨h0, h1⟩ := hargs c
    exact (ref _ _).trans (args_eq _ _ _ _ h0 h1)

end Cert.InFwdIdeal.Mm

end
-- ==== Proof.OutFwd.lean ====
/- The output projection: the attention's and the state space part's results, side by side, times the weights, added to
   the residual. -/
module

public import proofs.«01_k».proof.Proof.Gen.OutFwdIdeal.Value
public import proofs.«01_k».proof.Proof.Gen.OutFwdRefIdeal.Read
public import proofs.«01_k».proof.Proof.Gen.OutFwdRefIdeal.Run
public import proofs.«01_k».proof.Defs
public import Idealize.ShloMosaic.Lib.Pipeline.ValueKit
public import Idealize.ShloMosaic.Lib.Pointwise

@[expose] public section

set_option maxRecDepth 20000

noncomputable section

namespace Cert.OutFwdIdeal.Mm

open Cert.OutFwdIdeal Cert.OutFwdIdeal.Gen Idealize.ShloMosaic Idealize.ShloMosaic.TcCoe Idealize.SL.Sem

variable (m : (ℓ : Loc nD τ sig) → Buf (Elt Ideal) ℓ)

/-- Entry `(i, j)` is the product of row `i` of the two parts, side by side, with column `j`, added to the entry of the last
    array: the first part meets the first 512 rows of the weights, the second part the rest. -/
def prod (x0 : Vec Ideal S8192x512 .f32) (x1 : Vec Ideal S8192x1024 .bf16) (x2 : Vec Ideal S1536x1024 .bf16) (x3 : Vec Ideal S8192x1024 .f32) : Vec Ideal S8192x1024 .f32 :=
  fun i => ((∑ k : Fin 512, (x0 (ix2 (i 0) k) : EReal) * x2 (ix2 (⟨k.val, by omega⟩ : Fin 1536) (i 1))) + ∑ k : Fin 1024, (x1 (ix2 (i 0) k) : EReal) * x2 (ix2 (⟨512 + k.val, by omega⟩ : Fin 1536) (i 1))) + x3 i

/-- What a step stores. -/
theorem pay (x0 : Vec Ideal S1024x512 .f32) (x1 : Vec Ideal S1024x1024 .bf16) (x2 : Vec Ideal S1536x1024 .bf16) (x3 : Vec Ideal S1024x1024 .f32) (i : Fin 1024) (j : Fin 1024) :
    k0_pay1 (F := Ideal) x0 x1 x2 x3 (ix2 i j) = ((∑ k : Fin 512, (x0 (ix2 i k) : EReal) * x2 (ix2 (⟨k.val, by omega⟩ : Fin 1536) j)) + ∑ k : Fin 1024, (x1 (ix2 i k) : EReal) * x2 (ix2 (⟨512 + k.val, by omega⟩ : Fin 1536) j)) + x3 (ix2 i j) := by
  unfold k0_pay1
  pointwise [dot_S1024x1536_S1536x1024_S1024x1024_1_0_0_1_n_n]

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)

/-- The result array after the run. -/
theorem final (c : Dev nD) : (dats m 0 c).arrAt 4 cfg0.N = prod (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]; frame_out
  have hy : y = ix2 (y 0) (y 1) := by blk_ext
  refine (congrArg _ hy).trans ((pay _ _ _ _ _ _).trans ?_)
  unfold prod
  rw [← V_main_arg0 m c, ← V_main_arg1 m c, ← V_main_arg2 m c, ← V_main_arg3 m c]
  refine congrArg₂ (fun y z : EReal => y + z) (congrArg₂ (fun y z : EReal => y + z)
    (Finset.sum_congr rfl fun k _ => congrArg₂ (fun y z : EReal => y * z) ?_ ?_)
    (Finset.sum_congr rfl fun k _ => congrArg₂ (fun y z : EReal => y * z) ?_ ?_)) ?_
  · blk_ext [iblk, e0, e4]
  · blk_ext [iblk, e2, e4]
  · blk_ext [iblk, e1, e4]
  · blk_ext [iblk, e2, e4]
  · blk_ext [iblk, e3, e4]

/-- The reference's result is the same. -/
theorem ref (x0 : Vec Ideal S8192x512 .f32) (x1 : Vec Ideal S8192x1024 .bf16) (x2 : Vec Ideal S1536x1024 .bf16) (x3 : Vec Ideal S8192x1024 .f32) :
    OutFwdRefIdeal.Read.val_main_v4 (F := Ideal) x0 x1 x2 x3 = prod x0 x1 x2 x3 := by
  funext i
  have hi : i = ix2 (i 0) (i 1) := by blk_ext
  rw [hi]
  unfold OutFwdRefIdeal.Read.val_main_v4 OutFwdRefIdeal.Read.val_main_v3 OutFwdRefIdeal.Read.val_main_v2 OutFwdRefIdeal.Read.val_main_v1
    OutFwdRefIdeal.Read.val_main_v0 prod
  pointwise [OutFwdRefIdeal.dot_S8192x1536_S1536x1024_S8192x1024_1_0_0_1_n_n]
  exact add_comm _ _

theorem args_eq (x0 : Vec Ideal S8192x512 .f32) (x1 : Vec Ideal S8192x1024 .bf16) (x2 : Vec Ideal S1536x1024 .bf16) (x3 : Vec Ideal S8192x1024 .f32) (y0 : Vec Ideal S8192x512 .f32) (y1 : Vec Ideal S8192x1024 .bf16) (y2 : Vec Ideal S1536x1024 .bf16) (y3 : Vec Ideal S8192x1024 .f32)
    (h0 : x0 = y0) (h1 : x1 = y1) (h2 : x2 = y2) (h3 : x3 = y3) : prod x0 x1 x2 x3 = prod y0 y1 y2 y3 := by
  subst h0 h1 h2 h3; rfl

/-- The kernel's result is the reference's, from equal arguments. -/
theorem algebraic : Cert.algebraic_OutFwdIdeal_OutFwdRefIdeal (hOutFwdIdeal := Cert.OutFwdIdeal.Gen.facts)
    (hOutFwdRefIdeal := Cert.OutFwdRefIdeal.Gen.facts) := by
  intro m g m' g' _ hargs
  refine ⟨fun c => prod (m ((c : Thread nD τ).loc main_arg0)) (m ((c : Thread nD τ).loc main_arg1)) (m ((c : Thread nD τ).loc main_arg2)) (m ((c : Thread nD τ).loc main_arg3)), ?_, ?_⟩
  · refine (θ_run (Cert.OutFwdIdeal.defs (F := Ideal)) _ _).mono (fun r h c => ?_) (Cert.OutFwdIdeal.Value.run_blocks (F := Ideal) m g)
    obtain ⟨hv, hk⟩ := h c
    exact ⟨hv.trans (final m c), hk⟩
  · refine (θ_run (Cert.OutFwdRefIdeal.defs (F := Ideal)) _ _).mono (fun r h c => ?_) (Cert.OutFwdRefIdeal.Value.run (F := Ideal) m' g')
    obtain ⟨hv, hk⟩ := h c
    refine ⟨hv.trans ((Cert.OutFwdRefIdeal.Read.val_main_v4_eq _ _ _ _).trans ?_), hk⟩
    obtain ⟨h0, h1, h2, h3⟩ := hargs c
    exact (ref _ _ _ _).trans (args_eq _ _ _ _ _ _ _ _ h0 h1 h2 h3)

end Cert.OutFwdIdeal.Mm

end
-- ==== Proof.GateFwd.lean ====
/- The feed-forward network's gate and up projections: the normalised input times the weights. -/
module

public import proofs.«01_k».proof.Proof.Gen.GateFwdIdeal.Value
public import proofs.«01_k».proof.Proof.Gen.GateFwdRefIdeal.Read
public import proofs.«01_k».proof.Proof.Gen.GateFwdRefIdeal.Run
public import proofs.«01_k».proof.Defs
public import Idealize.ShloMosaic.Lib.Pipeline.ValueKit
public import Idealize.ShloMosaic.Lib.Pointwise

@[expose] public section

set_option maxRecDepth 20000

noncomputable section

namespace Cert.GateFwdIdeal.Mm

open Cert.GateFwdIdeal Cert.GateFwdIdeal.Gen Idealize.ShloMosaic Idealize.ShloMosaic.TcCoe Idealize.SL.Sem

/-- Entry `(i, j)` is the product of row `i` with column `j`. -/
def prod (x0 : Vec Ideal S8192x1024 .bf16) (x1 : Vec Ideal S1024x2816 .bf16) : Vec Ideal S8192x2816 .bf16 :=
  fun i => ∑ k : Fin 1024, (x0 (ix2 (i 0) k) : EReal) * x1 (ix2 k (i 1))

/-- What a step stores: the product of its row and column tiles. -/
theorem pay (x0 : Vec Ideal S1024x1024 .bf16) (x1 : Vec Ideal S1024x1408 .bf16) (i : Fin 1024) (j : Fin 1408) :
    k0_pay1 (F := Ideal) x0 x1 (ix2 i j) = ∑ k : Fin 1024, (x0 (ix2 i k) : EReal) * x1 (ix2 k j) := by
  unfold k0_pay1
  pointwise [dot_S1024x1024_S1024x1408_S1024x1408_1_0_0_1_n_n]

variable (m : (ℓ : Loc nD τ sig) → Buf (Elt Ideal) ℓ)

theorem e0 : ∀ t : Fin cfg0.N, win0_0.index t = ![t.val / 2, 0] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, t.val % 2] := (by decide +kernel : ∀ t : Fin grid0.N, _)

/-- The result array after the run. -/
theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]; frame_out
  have hy : y = ix2 (y 0) (y 1) := by blk_ext
  refine (congrArg _ hy).trans ((pay _ _ _ _).trans ?_)
  unfold prod
  rw [← V_main_arg0 m c, ← V_main_arg1 m c]
  refine Finset.sum_congr rfl fun k _ => ?_
  congr 1 <;> blk_ext [iblk, e0, e1, e2]

/-- The reference's result is the same product. -/
theorem ref (x0 : Vec Ideal S8192x1024 .bf16) (x1 : Vec Ideal S1024x2816 .bf16) :
    GateFwdRefIdeal.Read.val_main_v3 (F := Ideal) x0 x1 = prod x0 x1 := by
  funext i
  have hi : i = ix2 (i 0) (i 1) := by blk_ext
  rw [hi]
  unfold GateFwdRefIdeal.Read.val_main_v3 GateFwdRefIdeal.Read.val_main_v2 GateFwdRefIdeal.Read.val_main_v1 GateFwdRefIdeal.Read.val_main_v0 prod
  pointwise [GateFwdRefIdeal.dot_S8192x1024_S1024x2816_S8192x2816_1_0_0_1_n_n]

theorem args_eq (x0 y0 : Vec Ideal S8192x1024 .bf16) (x1 y1 : Vec Ideal S1024x2816 .bf16) (h0 : x0 = y0) (h1 : x1 = y1) :
    prod x0 x1 = prod y0 y1 := by
  subst h0 h1; rfl

/-- The kernel's result is the reference's, from equal arguments. -/
theorem algebraic : Cert.algebraic_GateFwdIdeal_GateFwdRefIdeal (hGateFwdIdeal := Cert.GateFwdIdeal.Gen.facts)
    (hGateFwdRefIdeal := Cert.GateFwdRefIdeal.Gen.facts) := by
  intro m g m' g' _ hargs
  refine ⟨fun c => prod (m ((c : Thread nD τ).loc main_arg0)) (m ((c : Thread nD τ).loc main_arg1)), ?_, ?_⟩
  · refine (θ_run (Cert.GateFwdIdeal.defs (F := Ideal)) _ _).mono (fun r h c => ?_) (Cert.GateFwdIdeal.Value.run_blocks (F := Ideal) m g)
    obtain ⟨hv, hk⟩ := h c
    exact ⟨hv.trans (final m c), hk⟩
  · refine (θ_run (Cert.GateFwdRefIdeal.defs (F := Ideal)) _ _).mono (fun r h c => ?_) (Cert.GateFwdRefIdeal.Value.run (F := Ideal) m' g')
    obtain ⟨hv, hk⟩ := h c
    refine ⟨hv.trans ((Cert.GateFwdRefIdeal.Read.val_main_v3_eq _ _).trans ?_), hk⟩
    obtain ⟨h0, h1⟩ := hargs c
    exact (ref _ _).trans (args_eq _ _ _ _ h0 h1)

end Cert.GateFwdIdeal.Mm

end
-- ==== Proof.DownFwd.lean ====
/- The feed-forward network's down projection: the activation times the weights, added to the residual. -/
module

public import proofs.«01_k».proof.Proof.Gen.DownFwdIdeal.Value
public import proofs.«01_k».proof.Proof.Gen.DownFwdRefIdeal.Read
public import proofs.«01_k».proof.Proof.Gen.DownFwdRefIdeal.Run
public import proofs.«01_k».proof.Defs
public import Idealize.ShloMosaic.Lib.Pipeline.ValueKit
public import Idealize.ShloMosaic.Lib.Pointwise

@[expose] public section

set_option maxRecDepth 20000

noncomputable section

namespace Cert.DownFwdIdeal.Mm

open Cert.DownFwdIdeal Cert.DownFwdIdeal.Gen Idealize.ShloMosaic Idealize.ShloMosaic.TcCoe Idealize.SL.Sem

/-- Entry `(i, j)` is the product of row `i` with column `j`, added to the entry of the third array. -/
def prod (x0 : Vec Ideal S8192x2816 .bf16) (x1 : Vec Ideal S2816x1024 .bf16) (x2 : Vec Ideal S8192x1024 .f32) : Vec Ideal S8192x1024 .f32 :=
  fun i => (∑ k : Fin 2816, (x0 (ix2 (i 0) k) : EReal) * x1 (ix2 k (i 1))) + x2 i

/-- What a step stores: the product of its row and column tiles. -/
theorem pay (x0 : Vec Ideal S1024x2816 .bf16) (x1 : Vec Ideal S2816x1024 .bf16) (x2 : Vec Ideal S1024x1024 .f32) (i : Fin 1024) (j : Fin 1024) :
    k0_pay1 (F := Ideal) x0 x1 x2 (ix2 i j) = (∑ k : Fin 2816, (x0 (ix2 i k) : EReal) * x1 (ix2 k j)) + x2 (ix2 i j) := by
  unfold k0_pay1
  pointwise [dot_S1024x2816_S2816x1024_S1024x1024_1_0_0_1_n_n]

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

/-- The result array after the run. -/
theorem final (c : Dev nD) : (dats m 0 c).arrAt 3 cfg0.N = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  have hy : y = ix2 (y 0) (y 1) := by blk_ext
  refine (congrArg _ hy).trans ((pay _ _ _ _ _).trans ?_)
  unfold prod
  rw [← V_main_arg0 m c, ← V_main_arg1 m c, ← V_main_arg2 m c]
  refine congrArg₂ (fun y z : EReal => y + z) (Finset.sum_congr rfl fun k _ => ?_) ?_
  · congr 1 <;> blk_ext [iblk, e0, e1, e3]
  · blk_ext [iblk, e2, e3]

/-- The reference's result is the same product. -/
theorem ref (x0 : Vec Ideal S8192x2816 .bf16) (x1 : Vec Ideal S2816x1024 .bf16) (x2 : Vec Ideal S8192x1024 .f32) :
    DownFwdRefIdeal.Read.val_main_v3 (F := Ideal) x0 x1 x2 = prod x0 x1 x2 := by
  funext i
  have hi : i = ix2 (i 0) (i 1) := by blk_ext
  rw [hi]
  unfold DownFwdRefIdeal.Read.val_main_v3 DownFwdRefIdeal.Read.val_main_v2 DownFwdRefIdeal.Read.val_main_v1 DownFwdRefIdeal.Read.val_main_v0 prod
  pointwise [DownFwdRefIdeal.dot_S8192x2816_S2816x1024_S8192x1024_1_0_0_1_n_n]
  exact add_comm _ _

theorem args_eq (x0 y0 : Vec Ideal S8192x2816 .bf16) (x1 y1 : Vec Ideal S2816x1024 .bf16) (x2 y2 : Vec Ideal S8192x1024 .f32) (h0 : x0 = y0) (h1 : x1 = y1) (h2 : x2 = y2) :
    prod x0 x1 x2 = prod y0 y1 y2 := by
  subst h0 h1 h2; rfl

/-- The kernel's result is the reference's, from equal arguments. -/
theorem algebraic : Cert.algebraic_DownFwdIdeal_DownFwdRefIdeal (hDownFwdIdeal := Cert.DownFwdIdeal.Gen.facts)
    (hDownFwdRefIdeal := Cert.DownFwdRefIdeal.Gen.facts) := by
  intro m g m' g' _ hargs
  refine ⟨fun c => prod (m ((c : Thread nD τ).loc main_arg0)) (m ((c : Thread nD τ).loc main_arg1)) (m ((c : Thread nD τ).loc main_arg2)), ?_, ?_⟩
  · refine (θ_run (Cert.DownFwdIdeal.defs (F := Ideal)) _ _).mono (fun r h c => ?_) (Cert.DownFwdIdeal.Value.run_blocks (F := Ideal) m g)
    obtain ⟨hv, hk⟩ := h c
    exact ⟨hv.trans (final m c), hk⟩
  · refine (θ_run (Cert.DownFwdRefIdeal.defs (F := Ideal)) _ _).mono (fun r h c => ?_) (Cert.DownFwdRefIdeal.Value.run (F := Ideal) m' g')
    obtain ⟨hv, hk⟩ := h c
    refine ⟨hv.trans ((Cert.DownFwdRefIdeal.Read.val_main_v3_eq _ _ _).trans ?_), hk⟩
    obtain ⟨h0, h1, h2⟩ := hargs c
    exact (ref _ _ _).trans (args_eq _ _ _ _ _ _ h0 h1 h2)

end Cert.DownFwdIdeal.Mm

end
-- ==== Proof.SwigluBwd.lean ====
/- The gradients of the SwiGLU gate: entry by entry, what reaches the gate's input and what reaches the up projection's. -/
module

public import proofs.«01_k».proof.Proof.Gen.SwigluBwdIdeal.Value
public import proofs.«01_k».proof.Proof.Gen.SwigluBwdRefIdeal.Read
public import proofs.«01_k».proof.Proof.Gen.SwigluBwdRefIdeal.Run
public import proofs.«01_k».proof.Defs
public import Idealize.ShloMosaic.Lib.Pipeline.ValueKit
public import Idealize.ShloMosaic.Lib.Pointwise

@[expose] public section

set_option maxRecDepth 20000

noncomputable section

namespace Cert.SwigluBwdIdeal.Mm

open Cert.SwigluBwdIdeal Cert.SwigluBwdIdeal.Gen Idealize.ShloMosaic Idealize.ShloMosaic.TcCoe Idealize.SL.Sem

/-- The gradient at the gate's input: `d · u · (σ(g) + g · σ(g) · (1 - σ(g)))`, as the two products it is formed from. -/
def dgate (g u d : Vec Ideal S8192x2816 .bf16) : Vec Ideal S8192x2816 .bf16 :=
  fun i => ((d i : EReal) * u i) * Ideal.logistic (g i)
    + ((g i : EReal) * ((d i : EReal) * u i)) * (Ideal.logistic (g i) * (1 - Ideal.logistic (g i)))

/-- The gradient at the other factor: `g · σ(g) · d`. -/
def dup (g d : Vec Ideal S8192x2816 .bf16) : Vec Ideal S8192x2816 .bf16 :=
  fun i => ((g i : EReal) * Ideal.logistic (g i)) * d i

theorem g3 (g u d : Vec Ideal S8192x2816 .bf16) : Value.G3 (F := Ideal) g u d = dgate g u d := by
  funext i
  unfold Value.G3 dgate
  pointwise

theorem g4 (g d : Vec Ideal S8192x2816 .bf16) : Value.G4 (F := Ideal) g d = dup g d := rfl

theorem ref_sig (g : Vec Ideal S8192x2816 .bf16) (i : S8192x2816.Idx) :
    SwigluBwdRefIdeal.Read.val_main_v2_2 (F := Ideal) g i = Ideal.logistic (g i) := by
  unfold SwigluBwdRefIdeal.Read.val_main_v2_2 SwigluBwdRefIdeal.Read.val_main_call0_v4 SwigluBwdRefIdeal.Read.val_main_call0_cst_0
    SwigluBwdRefIdeal.Read.val_main_call0_v3 SwigluBwdRefIdeal.Read.val_main_call0_v2 SwigluBwdRefIdeal.Read.val_main_call0_cst
    SwigluBwdRefIdeal.Read.val_main_call0_v1 SwigluBwdRefIdeal.Read.val_main_call0_v0 SwigluBwdRefIdeal.Read.val_main_v0 Ideal.logistic
  pointwise

theorem ref_one (i : S8192x2816.Idx) : SwigluBwdRefIdeal.Read.val_main_call0_v6 (F := Ideal) i = (1 : EReal) := by
  unfold SwigluBwdRefIdeal.Read.val_main_call0_v6 SwigluBwdRefIdeal.Read.val_main_call0_cst_1
  pointwise

theorem ref8 (g u d : Vec Ideal S8192x2816 .bf16) : SwigluBwdRefIdeal.Read.val_main_v8 (F := Ideal) g u d = dgate g u d := by
  funext i
  show ((d i : EReal) * u i) * SwigluBwdRefIdeal.Read.val_main_v2_2 (F := Ideal) g i
    + ((g i : EReal) * ((d i : EReal) * u i)) * (SwigluBwdRefIdeal.Read.val_main_v2_2 (F := Ideal) g i
      * (SwigluBwdRefIdeal.Read.val_main_call0_v6 (F := Ideal) i - SwigluBwdRefIdeal.Read.val_main_v2_2 (F := Ideal) g i)) = _
  rw [ref_sig, ref_one]
  rfl

theorem ref9 (g d : Vec Ideal S8192x2816 .bf16) : SwigluBwdRefIdeal.Read.val_main_v9 (F := Ideal) g d = dup g d := by
  funext i
  show ((g i : EReal) * SwigluBwdRefIdeal.Read.val_main_v2_2 (F := Ideal) g i) * d i = _
  rw [ref_sig]
  rfl

theorem args3 (g u d g' u' d' : Vec Ideal S8192x2816 .bf16) (hg : g = g') (hu : u = u') (hd : d = d') :
    dgate g u d = dgate g' u' d' := by
  subst hg hu hd; rfl

theorem args4 (g d g' d' : Vec Ideal S8192x2816 .bf16) (hg : g = g') (hd : d = d') : dup g d = dup g' d' := by
  subst hg hd; rfl

/-- The kernel's results are the reference's, from equal arguments. -/
theorem algebraic : Cert.algebraic_SwigluBwdIdeal_SwigluBwdRefIdeal (hSwigluBwdIdeal := Cert.SwigluBwdIdeal.Gen.facts)
    (hSwigluBwdRefIdeal := Cert.SwigluBwdRefIdeal.Gen.facts) := by
  intro m g m' g' _ hargs
  refine ⟨fun c => dgate (m ((c : Thread nD τ).loc main_arg0)) (m ((c : Thread nD τ).loc main_arg1)) (m ((c : Thread nD τ).loc main_arg2)),
    fun c => dup (m ((c : Thread nD τ).loc main_arg0)) (m ((c : Thread nD τ).loc main_arg2)), ?_, ?_⟩
  · refine (θ_run (Cert.SwigluBwdIdeal.defs (F := Ideal)) _ _).mono (fun r h c => ?_) (Cert.SwigluBwdIdeal.Value.run (F := Ideal) m g)
    obtain ⟨h3, h4, hk⟩ := h c
    exact ⟨h3.trans (g3 _ _ _), h4.trans (g4 _ _), hk⟩
  · refine (θ_run (Cert.SwigluBwdRefIdeal.defs (F := Ideal)) _ _).mono (fun r h c => ?_) (Cert.SwigluBwdRefIdeal.Value.run (F := Ideal) m' g')
    obtain ⟨h8, h9, hk⟩ := h c
    obtain ⟨h0, h1, h2⟩ := hargs c
    exact ⟨h8.trans ((Cert.SwigluBwdRefIdeal.Read.val_main_v8_eq _ _ _).trans ((ref8 _ _ _).trans (args3 _ _ _ _ _ _ h0 h1 h2))),
      h9.trans ((Cert.SwigluBwdRefIdeal.Read.val_main_v9_eq _ _).trans ((ref9 _ _).trans (args4 _ _ _ _ h0 h2))), hk⟩

end Cert.SwigluBwdIdeal.Mm

end
-- ==== Proof.SwigluFwd.lean ====
/- The SwiGLU gate: entry by entry, `g · σ(g) · u`. -/
module

public import proofs.«01_k».proof.Proof.Gen.SwigluFwdIdeal.Value
public import proofs.«01_k».proof.Proof.Gen.SwigluFwdRefIdeal.Read
public import proofs.«01_k».proof.Proof.Gen.SwigluFwdRefIdeal.Run
public import proofs.«01_k».proof.Defs
public import Idealize.ShloMosaic.Lib.Pipeline.ValueKit
public import Idealize.ShloMosaic.Lib.Pointwise

@[expose] public section

set_option maxRecDepth 20000

noncomputable section

namespace Cert.SwigluFwdIdeal.Mm

open Cert.SwigluFwdIdeal Cert.SwigluFwdIdeal.Gen Idealize.ShloMosaic Idealize.ShloMosaic.TcCoe Idealize.SL.Sem

/-- Entry `i` is `g · σ(g) · u`. -/
def act (g u : Vec Ideal S8192x2816 .bf16) : Vec Ideal S8192x2816 .bf16 :=
  fun i => ((g i : EReal) * Ideal.logistic (g i)) * u i

theorem g2 (g u : Vec Ideal S8192x2816 .bf16) : Value.G2 (F := Ideal) g u = act g u := rfl

theorem ref_sig (g : Vec Ideal S8192x2816 .bf16) (i : S8192x2816.Idx) :
    SwigluFwdRefIdeal.Read.val_main_call0_v5 (F := Ideal) g i = Ideal.logistic (g i) := by
  unfold SwigluFwdRefIdeal.Read.val_main_call0_v5 SwigluFwdRefIdeal.Read.val_main_call0_v4 SwigluFwdRefIdeal.Read.val_main_call0_cst_0
    SwigluFwdRefIdeal.Read.val_main_call0_v3 SwigluFwdRefIdeal.Read.val_main_call0_v2 SwigluFwdRefIdeal.Read.val_main_call0_cst
    SwigluFwdRefIdeal.Read.val_main_call0_v1 SwigluFwdRefIdeal.Read.val_main_call0_v0 SwigluFwdRefIdeal.Read.val_main_v0 Ideal.logistic
  pointwise

theorem ref (g u : Vec Ideal S8192x2816 .bf16) : SwigluFwdRefIdeal.Read.val_main_v4 (F := Ideal) g u = act g u := by
  funext i
  show ((g i : EReal) * SwigluFwdRefIdeal.Read.val_main_call0_v5 (F := Ideal) g i) * u i = _
  rw [ref_sig]
  rfl

theorem args_eq (g u g' u' : Vec Ideal S8192x2816 .bf16) (hg : g = g') (hu : u = u') : act g u = act g' u' := by
  subst hg hu; rfl

/-- The kernel's result is the reference's, from equal arguments. -/
theorem algebraic : Cert.algebraic_SwigluFwdIdeal_SwigluFwdRefIdeal (hSwigluFwdIdeal := Cert.SwigluFwdIdeal.Gen.facts)
    (hSwigluFwdRefIdeal := Cert.SwigluFwdRefIdeal.Gen.facts) := by
  intro m g m' g' _ hargs
  refine ⟨fun c => act (m ((c : Thread nD τ).loc main_arg0)) (m ((c : Thread nD τ).loc main_arg1)), ?_, ?_⟩
  · refine (θ_run (Cert.SwigluFwdIdeal.defs (F := Ideal)) _ _).mono (fun r h c => ?_) (Cert.SwigluFwdIdeal.Value.run (F := Ideal) m g)
    obtain ⟨h2, hk⟩ := h c
    exact ⟨h2.trans (g2 _ _), hk⟩
  · refine (θ_run (Cert.SwigluFwdRefIdeal.defs (F := Ideal)) _ _).mono (fun r h c => ?_) (Cert.SwigluFwdRefIdeal.Value.run (F := Ideal) m' g')
    obtain ⟨hv, hk⟩ := h c
    obtain ⟨h0, h1⟩ := hargs c
    exact ⟨hv.trans ((Cert.SwigluFwdRefIdeal.Read.val_main_v4_eq _ _).trans ((ref _ _).trans (args_eq _ _ _ _ h0 h1))), hk⟩

end Cert.SwigluFwdIdeal.Mm

end
-- ==== Proof.Norm.lean ====
/- The root-mean-square norm of one row, and its gradient, over any row length: what the norm calls and the gated norm
   calls have in common. -/
module

public import Idealize.ShloMosaic.Lib.Pointwise

@[expose] public section

noncomputable section

namespace Cert.Norm

open Idealize.ShloMosaic

variable {n : ℕ}

/-- A row's mean square plus the small constant; `c` is the row's length. -/
def ms (c : EReal) (x : Fin n → EReal) : EReal :=
  Ideal.div (∑ k, x k * x k) c + Ideal.ofBits .f32 0x3727C5AC#32

/-- Its inverse root. -/
def inv (c : EReal) (x : Fin n → EReal) : EReal := Ideal.rsqrt (ms c x)

/-- What the gradient `g` of the scaled row sends back through the inverse root, per entry of the row. -/
def slope (c : EReal) (x g : Fin n → EReal) : EReal :=
  Ideal.div ((∑ k, x k * g k) * (Ideal.ofBits .f32 0xBF000000#32 * Ideal.div (inv c x) (ms c x))) c

/-- The gradient at entry `j` of the row. -/
def grad (c : EReal) (x g : Fin n → EReal) (j : Fin n) : EReal :=
  (g j * inv c x + x j * slope c x g) + slope c x g * x j

/-! The gated norm's columns: two groups of 512, found 512 to the right in the projection and in the joined gradient. -/

/-- Column `k` of group `g`. -/
def col (g : Fin 2) (k : Fin 512) : Fin 1024 := ⟨g.val * 512 + k.val, by have := g.isLt; have := k.isLt; omega⟩
/-- A column's group. -/
def grp (j : Fin 1024) : Fin 2 := ⟨j.val / 512, by have := j.isLt; omega⟩
/-- A column's place in its group. -/
def plc (j : Fin 1024) : Fin 512 := ⟨j.val % 512, Nat.mod_lt _ (by decide)⟩
/-- A column's place in the projection. -/
def colp (j : Fin 1024) : Fin 3456 := ⟨512 + j.val, by have := j.isLt; omega⟩
/-- A column's place in the joined gradient. -/
def cold (j : Fin 1024) : Fin 1536 := ⟨512 + j.val, by have := j.isLt; omega⟩

theorem grp_col (g : Fin 2) (k : Fin 512) : grp (col g k) = g :=
  Fin.ext (by have := k.isLt; show (g.val * 512 + k.val) / 512 = g.val; omega)

theorem plc_col (g : Fin 2) (k : Fin 512) : plc (col g k) = k :=
  Fin.ext (by have := k.isLt; show (g.val * 512 + k.val) % 512 = k.val; omega)

/-- Every index of an array of rows is some group's column. -/
theorem ix_col (i : Shape.Idx ⟨2, ![8192, 1024]⟩) : ∃ (r : Fin 8192) (g : Fin 2) (k : Fin 512), i = ix2 r (col g k) := by
  refine ⟨i 0, grp (i 1), ⟨(i 1).val % 512, Nat.mod_lt _ (by decide)⟩, funext fun a => ?_⟩
  match a with
  | ⟨0, _⟩ => rfl
  | ⟨1, _⟩ => exact Fin.ext (by show (i 1).val = (i 1).val / 512 * 512 + (i 1).val % 512; omega)

end Cert.Norm

end
-- ==== Proof.RmsFwd.lean ====
/- The root-mean-square norm over rows: each row times the inverse root of its mean square, times the weight. -/
module

public import proofs.«01_k».proof.Proof.Gen.RmsFwdIdeal.Value
public import proofs.«01_k».proof.Proof.Gen.RmsFwdRefIdeal.Read
public import proofs.«01_k».proof.Proof.Gen.RmsFwdRefIdeal.Run
public import proofs.«01_k».proof.Proof.Norm
public import proofs.«01_k».proof.Defs
public import Idealize.ShloMosaic.Lib.Pipeline.ValueKit
public import Idealize.ShloMosaic.Lib.Pointwise

@[expose] public section

set_option maxRecDepth 20000

noncomputable section

namespace Cert.RmsFwdIdeal.Mm

open Cert.RmsFwdIdeal Cert.RmsFwdIdeal.Gen Idealize.ShloMosaic Idealize.ShloMosaic.TcCoe Idealize.SL.Sem

/-- The row's length, as the constant both programs divide by. -/
abbrev len : EReal := Ideal.ofBits .f32 0x44800000#32

/-- Entry `(i, j)` of the normalised rows. -/
def norm (x : Vec Ideal S8192x1024 .f32) (w : Vec Ideal S1024 .f32) : Vec Ideal S8192x1024 .bf16 :=
  fun i => ((x i : EReal) * Norm.inv len fun k => x (ix2 (i 0) k)) * w (ix1 (i 1))

theorem pay (x : Vec Ideal S512x1024 .f32) (w : Vec Ideal S1x1024 .f32) (i : Fin 512) (j : Fin 1024) :
    k0_pay1 (F := Ideal) x w (ix2 i j) = ((x (ix2 i j) : EReal) * Norm.inv len fun k => x (ix2 i k)) * w (ix2 0 j) := by
  unfold k0_pay1 Norm.inv Norm.ms
  pointwise

variable (m : (ℓ : Loc nD τ sig) → Buf (Elt Ideal) ℓ)

theorem V_w (c : Dev nD) (j : Fin 1024) : V m c main_v0 (ix2 0 j) = m ((c : Thread nD τ).loc main_arg1) (ix1 j) := by
  have h : V m c main_v0 = shapeCast S1x1024 (m ((c : Thread nD τ).loc main_arg1)) shapeCasts_S1024_S1x1024 := rfl
  rw [h]
  pointwise

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem w_blk (c : Dev nD) (t : Fin cfg0.N) (j : Fin 1024) : iblk m c 1 t (ix2 0 j) = m ((c : Thread nD τ).loc main_arg1) (ix1 j) :=
  (show iblk m c 1 t (ix2 0 j) = V m c main_v0 (ix2 0 j) by blk_ext [iblk, e1]).trans (V_w m c j)

theorem final (c : Dev nD) : (dats m 0 c).arrAt 2 cfg0.N = norm (m ((c : Thread nD τ).loc main_arg0)) (m ((c : Thread nD τ).loc main_arg1)) := by
  refine (dats m 0 c).arrAt_eq_of_covers 2 _ (by decide +kernel) fun t hf y => ?_
  blk_simp
  rw [after0_2]; frame_out
  have hy : y = ix2 (y 0) (y 1) := by blk_ext
  refine (congrArg _ hy).trans ((pay _ _ _ _).trans ((congrArg (fun z : EReal => _ * z) (w_blk m c t (y 1))).trans ?_))
  unfold norm
  rw [← V_main_arg0 m c]
  congr 1
  · congr 1
    · blk_ext [iblk, e0, e2]
    · refine congrArg _ (funext fun k => ?_)
      blk_ext [iblk, e0, e2]
  · blk_ext [e2]

theorem ref (x : Vec Ideal S8192x1024 .f32) (w : Vec Ideal S1024 .f32) :
    RmsFwdRefIdeal.Read.val_main_v13 (F := Ideal) x w = norm x w := by
  funext i
  have hi : i = ix2 (i 0) (i 1) := by blk_ext
  rw [hi]
  unfold RmsFwdRefIdeal.Read.val_main_v13 RmsFwdRefIdeal.Read.val_main_v12 RmsFwdRefIdeal.Read.val_main_v11 RmsFwdRefIdeal.Read.val_main_v10
    RmsFwdRefIdeal.Read.val_main_v9 RmsFwdRefIdeal.Read.val_main_v8 RmsFwdRefIdeal.Read.val_main_v7 RmsFwdRefIdeal.Read.val_main_v6
    RmsFwdRefIdeal.Read.val_main_v5 RmsFwdRefIdeal.Read.val_main_cst_1 RmsFwdRefIdeal.Read.val_main_v4 RmsFwdRefIdeal.Read.val_main_v3
    RmsFwdRefIdeal.Read.val_main_cst_0 RmsFwdRefIdeal.Read.val_main_v2 RmsFwdRefIdeal.Read.val_main_v1 RmsFwdRefIdeal.Read.val_main_cst
    RmsFwdRefIdeal.Read.val_main_v0 norm Norm.inv Norm.ms
  pointwise

theorem args_eq (x x' : Vec Ideal S8192x1024 .f32) (w w' : Vec Ideal S1024 .f32) (hx : x = x') (hw : w = w') : norm x w = norm x' w' := by
  subst hx hw; rfl

/-- The kernel's result is the reference's, from equal arguments. -/
theorem algebraic : Cert.algebraic_RmsFwdIdeal_RmsFwdRefIdeal (hRmsFwdIdeal := Cert.RmsFwdIdeal.Gen.facts)
    (hRmsFwdRefIdeal := Cert.RmsFwdRefIdeal.Gen.facts) := by
  intro m g m' g' _ hargs
  refine ⟨fun c => norm (m ((c : Thread nD τ).loc main_arg0)) (m ((c : Thread nD τ).loc main_arg1)), ?_, ?_⟩
  · refine (θ_run (Cert.RmsFwdIdeal.defs (F := Ideal)) _ _).mono (fun r h c => ?_) (Cert.RmsFwdIdeal.Value.run_blocks (F := Ideal) m g)
    obtain ⟨h2, hk⟩ := h c
    exact ⟨h2.trans (final m c), hk⟩
  · refine (θ_run (Cert.RmsFwdRefIdeal.defs (F := Ideal)) _ _).mono (fun r h c => ?_) (Cert.RmsFwdRefIdeal.Value.run (F := Ideal) m' g')
    obtain ⟨hv, hk⟩ := h c
    obtain ⟨h0, h1⟩ := hargs c
    exact ⟨hv.trans ((Cert.RmsFwdRefIdeal.Read.val_main_v13_eq _ _).trans ((ref _ _).trans (args_eq _ _ _ _ h0 h1))), hk⟩

end Cert.RmsFwdIdeal.Mm

end
-- ==== Proof.RmsBwd.lean ====
/- The gradients of the root-mean-square norm: a row's from the row, the weight and the incoming gradient, added to what
   came past the norm; the weight's accumulated over the rows sixteen parts at a time. -/
module

public import proofs.«01_k».proof.Proof.Gen.RmsBwdIdeal.Value
public import proofs.«01_k».proof.Proof.Gen.RmsBwdRefIdeal.Read
public import proofs.«01_k».proof.Proof.Gen.RmsBwdRefIdeal.Run
public import proofs.«01_k».proof.Proof.Norm
public import proofs.«01_k».proof.Defs
public import Idealize.ShloMosaic.Lib.Pipeline.ValueKit
public import Idealize.ShloMosaic.Lib.Pointwise

@[expose] public section

set_option maxRecDepth 20000

noncomputable section

namespace Cert.RmsBwdIdeal.Mm

open Cert.RmsBwdIdeal Cert.RmsBwdIdeal.Gen Idealize.ShloMosaic Idealize.ShloMosaic.TcCoe Idealize.SL.Sem

/-- The row's length, as the constant both programs divide by. -/
abbrev len : EReal := Ideal.ofBits .f32 0x44800000#32

/-- Entry `(i, j)` of the rows' gradient, added to `a`. -/
def dx (x : Vec Ideal S8192x1024 .f32) (w : Vec Ideal S1024 .f32) (d a : Vec Ideal S8192x1024 .f32) : Vec Ideal S8192x1024 .f32 :=
  fun i => Norm.grad len (fun k => x (ix2 (i 0) k)) (fun k => (d (ix2 (i 0) k) : EReal) * w (ix1 k)) (i 1) + a i

/-- One row's part of the weight's gradient at entry `j`. -/
def term (x d : Fin 1024 → EReal) (j : Fin 1024) : EReal := (x j * Norm.inv len x) * d j

/-- The weight's gradient. -/
def dw (x d : Vec Ideal S8192x1024 .f32) : Vec Ideal S1x1024 .f32 :=
  fun i => ∑ r : Fin 8192, term (fun k => x (ix2 r k)) (fun k => d (ix2 r k)) (i 1)

/-- A part's rows' sum. -/
def part (x d : Vec Ideal S512x1024 .f32) (j : Fin 1024) : EReal :=
  ∑ r : Fin 512, term (fun k => x (ix2 r k)) (fun k => d (ix2 r k)) j

theorem pay3 (x : Vec Ideal S512x1024 .f32) (i : Fin 512) (z : Fin 1) : k0_pay3 (F := Ideal) x (ix2 i z) = Norm.ms len fun k => x (ix2 i k) := by
  unfold k0_pay3 Norm.ms
  pointwise

theorem pay4 (x : Vec Ideal S512x1024 .f32) (i : Fin 512) (z : Fin 1) : k0_pay4 (F := Ideal) x (ix2 i z) = Norm.inv len fun k => x (ix2 i k) :=
  congrArg Ideal.rsqrt (pay3 x i z)

theorem pay6 (x : Vec Ideal S512x1024 .f32) (w : Vec Ideal S1x1024 .f32) (d a : Vec Ideal S512x1024 .f32) (i : Fin 512) (j : Fin 1024) :
    k0_pay6 (F := Ideal) x w d a (ix2 i j)
      = Norm.grad len (fun k => x (ix2 i k)) (fun k => (d (ix2 i k) : EReal) * w (ix2 0 k)) j + a (ix2 i j) := by
  unfold k0_pay6 Norm.grad Norm.slope
  pointwise [pay3, pay4]
  simp only [Finset.univ_unique, Finset.sum_singleton, pay3, pay4]

theorem pay5 (x d : Vec Ideal S512x1024 .f32) (j : Fin 1024) : k0_pay5 (F := Ideal) x d (ix2 0 j) = part x d j := by
  unfold k0_pay5 part term
  pointwise [pay4]

theorem pay2 (v a : Vec Ideal S1x1024 .f32) (y : S1x1024.Idx) : k0_pay2 (F := Ideal) v a y = (a y : EReal) + v y := by
  unfold k0_pay2
  rw [shapeCast_self]
  rfl

theorem pay1 (y : S1x1024.Idx) : k0_pay1 (F := Ideal) y = (0 : EReal) := by
  unfold k0_pay1
  pointwise

variable (m : (ℓ : Loc nD τ sig) → Buf (Elt Ideal) ℓ)

theorem V_w (c : Dev nD) (j : Fin 1024) : V m c main_v0 (ix2 0 j) = m ((c : Thread nD τ).loc main_arg1) (ix1 j) := by
  have h : V m c main_v0 = shapeCast S1x1024 (m ((c : Thread nD τ).loc main_arg1)) shapeCasts_S1024_S1x1024 := rfl
  rw [h]
  pointwise

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)

theorem w_blk (c : Dev nD) (t : Fin cfg0.N) (j : Fin 1024) : iblk m c 1 t (ix2 0 j) = m ((c : Thread nD τ).loc main_arg1) (ix1 j) :=
  (show iblk m c 1 t (ix2 0 j) = V m c main_v0 (ix2 0 j) by blk_ext [iblk, e1]).trans (V_w m c j)

/-- The row block after a step. -/
theorem out4 (c : Dev nD) (t : Fin cfg0.N) (y : S512x1024.Idx) :
    (outsAt0 m c t.val t.isLt).1 y = k0_pay6 (F := Ideal) (iblk m c 0 t) (iblk m c 1 t) (iblk m c 2 t) (iblk m c 3 t) y := by
  by_cases h : t.val % 16 = 0
  · rw [outsAt0_A m c t h]; frame_out
  · rw [outsAt0_B m c t h]; frame_out

theorem final4 (c : Dev nD) : (dats m 0 c).arrAt 4 cfg0.N = dx (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  have hy : y = ix2 (y 0) (y 1) := by blk_ext
  refine (out4 m c t y).trans ((congrArg _ hy).trans ((pay6 _ _ _ _ _ _).trans ?_))
  simp only [w_blk]
  unfold dx
  rw [← V_main_arg0 m c, ← V_main_arg2 m c, ← V_main_arg3 m c]
  congr 1
  · congr 1
    · funext k; blk_ext [iblk, e0, e4]
    · funext k
      refine congrArg (fun z : EReal => z * _) ?_
      blk_ext [iblk, e2, e4]
    · exact congrFun (show (ix1 (y 1) : S1024.Idx) = ix1 _ by blk_ext [e4]) 0
  · blk_ext [iblk, e3, e4]

/-- The weight block after the last step. -/
theorem acc_eq (c : Dev nD) (t : Fin cfg0.N) (ht : t.val % 16 = 15) (y : S1x1024.Idx) :
    (outsAt0 m c t.val t.isLt).2 y = ∑ s : Fin 16, part (iblk m c 0 ⟨16 * (t.val / 16) + s.val, Idealize.ShloMosaic.Pipeline.run_point_lt_of_flush t ht s⟩)
      (iblk m c 2 ⟨16 * (t.val / 16) + s.val, Idealize.ShloMosaic.Pipeline.run_point_lt_of_flush t ht s⟩) (y 1) := by
  have hy : ∀ y : S1x1024.Idx, y = ix2 0 (y 1) := fun y => by blk_ext
  rw [Idealize.ShloMosaic.Pipeline.eq_sum_fin_of_reset_step_apply_of_flush (fun n h => (outsAt0 m c n h).2) 16 (fun _ => (0 : EReal))
    (fun t y => part (iblk m c 0 t) (iblk m c 2 t) (y 1))
    (fun t h j => by
      rw [outsAt0_A m c t h]; frame_out; rw [pay2]
      exact congrArg₂ (fun a b : EReal => a + b) (pay1 j) ((congrArg _ (hy j)).trans (pay5 _ _ _)))
    (fun t h j => by
      rw [outsAt0_B m c t h]; frame_out; rw [pay2]
      exact congrArg (fun b : EReal => _ + b) ((congrArg _ (hy j)).trans (pay5 _ _ _))) t ht y, zero_add]

theorem final5 (c : Dev nD) : (dats m 0 c).arrAt 5 cfg0.N = dw (m ((c : Thread nD τ).loc main_arg0)) (m ((c : Thread nD τ).loc main_arg2)) := by
  refine (dats m 0 c).arrAt_eq_of_covers 5 _ (by decide +kernel) fun t hf y => ?_
  blk_simp
  rw [after0_5]
  have ht : t.val % 16 = 15 := (flush0_5 t).mp hf
  have hN : t.val < 16 := lt_of_lt_of_eq t.isLt (show cfg0.N = 16 from N_0)
  refine (acc_eq m c t ht y).trans ?_
  unfold dw part
  refine Fin.sum_mul_add_congr (S := 16) (n := 512) (L := 8192) fun s k hk => ?_
  rw [← V_main_arg0 m c, ← V_main_arg2 m c]
  congr 1
  · funext j; blk_ext [iblk, e0, e5]
  · funext j; blk_ext [iblk, e2, e5]
  · exact congrFun (show (ix1 (y 1) : S1024.Idx) = ix1 _ by blk_ext [e5]) 0

theorem r6 (x : Vec Ideal S8192x1024 .f32) (i : Fin 8192) (z : Fin 1) :
    RmsBwdRefIdeal.Read.val_main_v6 (F := Ideal) x (ix2 i z) = Norm.ms len fun k => x (ix2 i k) := by
  unfold RmsBwdRefIdeal.Read.val_main_v6 RmsBwdRefIdeal.Read.val_main_v5 RmsBwdRefIdeal.Read.val_main_cst_1 RmsBwdRefIdeal.Read.val_main_v4
    RmsBwdRefIdeal.Read.val_main_v3 RmsBwdRefIdeal.Read.val_main_cst_0 RmsBwdRefIdeal.Read.val_main_v2 RmsBwdRefIdeal.Read.val_main_v1
    RmsBwdRefIdeal.Read.val_main_cst RmsBwdRefIdeal.Read.val_main_v0 Norm.ms
  pointwise

theorem r7 (x : Vec Ideal S8192x1024 .f32) (i : Fin 8192) (z : Fin 1) :
    RmsBwdRefIdeal.Read.val_main_v7 (F := Ideal) x (ix2 i z) = Norm.inv len fun k => x (ix2 i k) :=
  congrArg Ideal.rsqrt (r6 x i z)

theorem ref4 (x : Vec Ideal S8192x1024 .f32) (w : Vec Ideal S1024 .f32) (d a : Vec Ideal S8192x1024 .f32) :
    RmsBwdRefIdeal.Read.val_main_v36 (F := Ideal) x w d a = dx x w d a := by
  funext i
  have hi : i = ix2 (i 0) (i 1) := by blk_ext
  rw [hi]
  unfold RmsBwdRefIdeal.Read.val_main_v36 RmsBwdRefIdeal.Read.val_main_v35 RmsBwdRefIdeal.Read.val_main_v34 RmsBwdRefIdeal.Read.val_main_v33
    RmsBwdRefIdeal.Read.val_main_v32 RmsBwdRefIdeal.Read.val_main_v31 RmsBwdRefIdeal.Read.val_main_v30 RmsBwdRefIdeal.Read.val_main_cst_7
    RmsBwdRefIdeal.Read.val_main_v29 RmsBwdRefIdeal.Read.val_main_v28 RmsBwdRefIdeal.Read.val_main_cst_6 RmsBwdRefIdeal.Read.val_main_v27
    RmsBwdRefIdeal.Read.val_main_v26 RmsBwdRefIdeal.Read.val_main_v25 RmsBwdRefIdeal.Read.val_main_v24 RmsBwdRefIdeal.Read.val_main_v23
    RmsBwdRefIdeal.Read.val_main_cst_5 RmsBwdRefIdeal.Read.val_main_v22 RmsBwdRefIdeal.Read.val_main_v20 RmsBwdRefIdeal.Read.val_main_v19
    RmsBwdRefIdeal.Read.val_main_v13 RmsBwdRefIdeal.Read.val_main_v10 RmsBwdRefIdeal.Read.val_main_v9 RmsBwdRefIdeal.Read.val_main_cst_2
    RmsBwdRefIdeal.Read.val_main_v8 dx Norm.grad Norm.slope
  pointwise [r6, r7]
  simp only [Finset.univ_unique, Finset.sum_singleton, r6, r7]
  exact add_comm _ _

theorem ref5 (x d : Vec Ideal S8192x1024 .f32) : RmsBwdRefIdeal.Read.val_main_v37 (F := Ideal) x d = dw x d := by
  funext i
  have hi : i = ix2 0 (i 1) := by blk_ext
  rw [hi]
  unfold RmsBwdRefIdeal.Read.val_main_v37 RmsBwdRefIdeal.Read.val_main_v21 RmsBwdRefIdeal.Read.val_main_cst_4
    RmsBwdRefIdeal.Read.val_main_v18 RmsBwdRefIdeal.Read.val_main_v17 RmsBwdRefIdeal.Read.val_main_cst_3 RmsBwdRefIdeal.Read.val_main_v16
    RmsBwdRefIdeal.Read.val_main_v12 RmsBwdRefIdeal.Read.val_main_v11 dw term
  pointwise [r7]
  simp only [Finset.univ_unique, Finset.sum_singleton, r7]

theorem args_eq (x x' : Vec Ideal S8192x1024 .f32) (w w' : Vec Ideal S1024 .f32) (d d' a a' : Vec Ideal S8192x1024 .f32)
    (hx : x = x') (hw : w = w') (hd : d = d') (ha : a = a') : dx x w d a = dx x' w' d' a' ∧ dw x d = dw x' d' := by
  subst hx hw hd ha; exact ⟨rfl, rfl⟩

/-- The kernel's results are the reference's, from equal arguments. -/
theorem algebraic : Cert.algebraic_RmsBwdIdeal_RmsBwdRefIdeal (hRmsBwdIdeal := Cert.RmsBwdIdeal.Gen.facts)
    (hRmsBwdRefIdeal := Cert.RmsBwdRefIdeal.Gen.facts) := by
  intro m g m' g' _ hargs
  refine ⟨fun c => dx (m ((c : Thread nD τ).loc main_arg0)) (m ((c : Thread nD τ).loc main_arg1)) (m ((c : Thread nD τ).loc main_arg2))
    (m ((c : Thread nD τ).loc main_arg3)), fun c => dw (m ((c : Thread nD τ).loc main_arg0)) (m ((c : Thread nD τ).loc main_arg2)), ?_, ?_⟩
  · refine (θ_run (Cert.RmsBwdIdeal.defs (F := Ideal)) _ _).mono (fun r h c => ?_) (Cert.RmsBwdIdeal.Value.run_blocks (F := Ideal) m g)
    obtain ⟨h4, h5, hk⟩ := h c
    exact ⟨h4.trans (final4 m c), h5.trans (final5 m c), hk⟩
  · refine (θ_run (Cert.RmsBwdRefIdeal.defs (F := Ideal)) _ _).mono (fun r h c => ?_) (Cert.RmsBwdRefIdeal.Value.run (F := Ideal) m' g')
    obtain ⟨h4, h5, hk⟩ := h c
    obtain ⟨a0, a1, a2, a3⟩ := hargs c
    have hd := args_eq _ _ _ _ _ _ _ _ a0 a1 a2 a3
    exact ⟨h4.trans ((Cert.RmsBwdRefIdeal.Read.val_main_v36_eq _ _ _ _).trans ((ref4 _ _ _ _).trans hd.1)),
      h5.trans ((Cert.RmsBwdRefIdeal.Read.val_main_v37_eq _ _).trans ((ref5 _ _).trans hd.2)), hk⟩

end Cert.RmsBwdIdeal.Mm

end
-- ==== Proof.GnFwd.lean ====
/- The gated norm: the scan's output times `z · σ(z)`, each group of a row times the inverse root of its mean square,
   times the weight. -/
module

public import proofs.«01_k».proof.Proof.Gen.GnFwdIdeal.Value
public import proofs.«01_k».proof.Proof.Gen.GnFwdRefIdeal.Read
public import proofs.«01_k».proof.Proof.Gen.GnFwdRefIdeal.Run
public import proofs.«01_k».proof.Proof.Norm
public import proofs.«01_k».proof.Defs
public import Idealize.ShloMosaic.Lib.Pipeline.ValueKit
public import Idealize.ShloMosaic.Lib.Pointwise

@[expose] public section

set_option maxRecDepth 20000

noncomputable section

namespace Cert.GnFwdIdeal.Mm

open Cert.GnFwdIdeal Cert.GnFwdIdeal.Gen Idealize.ShloMosaic Idealize.ShloMosaic.TcCoe Idealize.SL.Sem
open Cert.Norm (col grp colp)

/-- A group's length, as the constant both programs divide by. -/
abbrev len : EReal := Ideal.ofBits .f32 0x44000000#32

/-- The gated row, at one entry. -/
def gated (y : Vec Ideal S8192x1024 .f32) (p : Vec Ideal S8192x3456 .f32) (i : Fin 8192) (j : Fin 1024) : EReal :=
  y (ix2 i j) * ((p (ix2 i (colp j)) : EReal) * Ideal.logistic (p (ix2 i (colp j))))

/-- The normalised rows, entry by entry. -/
def norm (y : Vec Ideal S8192x1024 .f32) (p : Vec Ideal S8192x3456 .f32) (w : Vec Ideal S1024 .f32) : Vec Ideal S8192x1024 .bf16 :=
  fun i => (gated y p (i 0) (i 1) * Norm.inv len fun k => gated y p (i 0) (col (grp (i 1)) k)) * w (ix1 (i 1))

theorem norm_col (y : Vec Ideal S8192x1024 .f32) (p : Vec Ideal S8192x3456 .f32) (w : Vec Ideal S1024 .f32) (r : Fin 8192) (g : Fin 2) (k : Fin 512) :
    norm y p w (ix2 r (col g k)) = (gated y p r (col g k) * Norm.inv len fun k => gated y p r (col g k)) * w (ix1 (col g k)) := by
  show (_ * Norm.inv len fun k' => gated y p r (col (grp (col g k)) k')) * _ = _
  rw [Norm.grp_col]
  rfl

theorem pay (y z : Vec Ideal S512x512 .f32) (w : Vec Ideal S1x512 .f32) (i k : Fin 512) :
    k0_pay1 (F := Ideal) y z w (ix2 i k) = ((y (ix2 i k) * ((z (ix2 i k) : EReal) * Ideal.logistic (z (ix2 i k))))
      * Norm.inv len fun k => y (ix2 i k) * ((z (ix2 i k) : EReal) * Ideal.logistic (z (ix2 i k)))) * w (ix2 0 k) := by
  unfold k0_pay1 Norm.inv Norm.ms
  pointwise

variable (m : (ℓ : Loc nD τ sig) → Buf (Elt Ideal) ℓ)

theorem V_w (c : Dev nD) (j : Fin 1024) : V m c main_v0 (ix2 0 j) = m ((c : Thread nD τ).loc main_arg2) (ix1 j) := by
  have h : V m c main_v0 = shapeCast S1x1024 (m ((c : Thread nD τ).loc main_arg2)) shapeCasts_S1024_S1x1024 := rfl
  rw [h]
  pointwise

theorem e0 : ∀ t : Fin cfg0.N, win0_0.index t = ![t.val % 16, t.val / 16] := (by decide +kernel : ∀ t : Fin grid0.N, _)
theorem e1 : ∀ t : Fin cfg0.N, win0_1.index t = ![t.val % 16, t.val / 16 + 1] := (by decide +kernel : ∀ t : Fin grid0.N, _)
theorem e2 : ∀ t : Fin cfg0.N, win0_2.index t = ![0, t.val / 16] := (by decide +kernel : ∀ t : Fin grid0.N, _)
theorem e3 : ∀ t : Fin cfg0.N, win0_3.index t = ![t.val % 16, t.val / 16] := (by decide +kernel : ∀ t : Fin grid0.N, _)

/-- A grid point's group, and its rows. -/
def gt (t : Fin cfg0.N) : Fin 2 := ⟨t.val / 16, by have := lt_of_lt_of_eq t.isLt (show cfg0.N = 32 from N_0); omega⟩
def row (t : Fin cfg0.N) (i : Fin 512) : Fin 8192 := ⟨512 * (t.val % 16) + i.val, by have := i.isLt; omega⟩

theorem b0 (c : Dev nD) (t : Fin cfg0.N) (i k : Fin 512) :
    iblk m c 0 t (ix2 i k) = m ((c : Thread nD τ).loc main_arg0) (ix2 (row t i) (col (gt t) k)) := by
  rw [← V_main_arg0 m c]
  blk_ext [iblk, e0, row, col, gt]

theorem b1 (c : Dev nD) (t : Fin cfg0.N) (i k : Fin 512) :
    X0_1 m c t (ix2 i k) = m ((c : Thread nD τ).loc main_arg1) (ix2 (row t i) (colp (col (gt t) k))) := by
  rw [← V_main_arg1 m c]
  unfold X0_1 Pipeline.Window.fill
  rw [dif_pos (moved0_1 t _)]
  blk_ext [iblk, e1, row, col, colp, gt]

theorem b2 (c : Dev nD) (t : Fin cfg0.N) (k : Fin 512) :
    iblk m c 2 t (ix2 0 k) = m ((c : Thread nD τ).loc main_arg2) (ix1 (col (gt t) k)) :=
  (show iblk m c 2 t (ix2 0 k) = V m c main_v0 (ix2 0 (col (gt t) k)) by blk_ext [iblk, e2, col, gt]).trans (V_w m c _)

/-- A grid point's block is its block of the result. -/
theorem out_eq (c : Dev nD) (t : Fin cfg0.N) (i k : Fin 512) :
    k0_pay1 (F := Ideal) (iblk m c 0 t) (X0_1 m c t) (iblk m c 2 t) (ix2 i k)
      = norm (m ((c : Thread nD τ).loc main_arg0)) (m ((c : Thread nD τ).loc main_arg1)) (m ((c : Thread nD τ).loc main_arg2))
        (ix2 (row t i) (col (gt t) k)) := by
  rw [norm_col]
  refine (pay _ _ _ i k).trans ?_
  simp only [b0, b1, b2, gated]

theorem final (c : Dev nD) : (dats m 0 c).arrAt 3 cfg0.N = norm (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]; unfold outsAt0; frame_out
  have hy : y = ix2 (y 0) (y 1) := by blk_ext
  refine (congrArg _ hy).trans ((out_eq m c t (y 0) (y 1)).trans (congrArg (norm _ _ _) ?_))
  blk_ext [e3, row, col, gt]

theorem ref_sig (p : Vec Ideal S8192x3456 .f32) (i : Fin 8192) (j : Fin 1024) :
    GnFwdRefIdeal.Read.val_main_call0_v5 (F := Ideal) p (ix2 i j) = Ideal.logistic (p (ix2 i (colp j))) := by
  unfold GnFwdRefIdeal.Read.val_main_call0_v5 GnFwdRefIdeal.Read.val_main_call0_v4 GnFwdRefIdeal.Read.val_main_call0_cst_0
    GnFwdRefIdeal.Read.val_main_call0_v3 GnFwdRefIdeal.Read.val_main_call0_v2 GnFwdRefIdeal.Read.val_main_call0_cst
    GnFwdRefIdeal.Read.val_main_call0_v1 GnFwdRefIdeal.Read.val_main_call0_v0 GnFwdRefIdeal.Read.val_main_v0 Ideal.logistic
  pointwise [colp]

theorem ref2 (y : Vec Ideal S8192x1024 .f32) (p : Vec Ideal S8192x3456 .f32) (i : Fin 8192) (j : Fin 1024) :
    GnFwdRefIdeal.Read.val_main_v2 (F := Ideal) y p (ix2 i j) = gated y p i j := by
  show (y (ix2 i j) : EReal) * (GnFwdRefIdeal.Read.val_main_v0 (F := Ideal) p (ix2 i j) * GnFwdRefIdeal.Read.val_main_call0_v5 (F := Ideal) p (ix2 i j)) = _
  rw [ref_sig, GnFwdRefIdeal.Read.val_main_v0_apply]
  unfold gated
  congr 2
  blk_ext [colp]

theorem ref3 (y : Vec Ideal S8192x1024 .f32) (p : Vec Ideal S8192x3456 .f32) (i : Fin 8192) (g : Fin 2) (k : Fin 512) :
    GnFwdRefIdeal.Read.val_main_v3 (F := Ideal) y p (ix3 i g k) = gated y p i (col g k) := by
  have hi := i.isLt
  have hg := g.isLt
  have hk := k.isLt
  rw [← ref2]
  unfold GnFwdRefIdeal.Read.val_main_v3
  pointwise [col]

theorem ref12 (y : Vec Ideal S8192x1024 .f32) (p : Vec Ideal S8192x3456 .f32) (i : Fin 8192) (g : Fin 2) (z : Fin 1) :
    GnFwdRefIdeal.Read.val_main_v12 (F := Ideal) y p (ix3 i g z) = Norm.inv len fun k => gated y p i (col g k) := by
  unfold GnFwdRefIdeal.Read.val_main_v12 GnFwdRefIdeal.Read.val_main_v11 GnFwdRefIdeal.Read.val_main_v10 GnFwdRefIdeal.Read.val_main_cst_1
    GnFwdRefIdeal.Read.val_main_v9 GnFwdRefIdeal.Read.val_main_v8 GnFwdRefIdeal.Read.val_main_cst_0 GnFwdRefIdeal.Read.val_main_v7
    GnFwdRefIdeal.Read.val_main_v6 GnFwdRefIdeal.Read.val_main_cst GnFwdRefIdeal.Read.val_main_v5 Norm.inv Norm.ms
  pointwise [ref3]

theorem ref17 (y : Vec Ideal S8192x1024 .f32) (p : Vec Ideal S8192x3456 .f32) (w : Vec Ideal S1024 .f32) (i : Fin 8192) (g : Fin 2) (k : Fin 512) :
    GnFwdRefIdeal.Read.val_main_v17 (F := Ideal) y p w (ix3 i g k)
      = (gated y p i (col g k) * Norm.inv len fun k => gated y p i (col g k)) * w (ix1 (col g k)) := by
  unfold GnFwdRefIdeal.Read.val_main_v17 GnFwdRefIdeal.Read.val_main_v16 GnFwdRefIdeal.Read.val_main_v15 GnFwdRefIdeal.Read.val_main_v14
    GnFwdRefIdeal.Read.val_main_v13 GnFwdRefIdeal.Read.val_main_v4
  pointwise [ref3, ref12, col]

theorem ref (y : Vec Ideal S8192x1024 .f32) (p : Vec Ideal S8192x3456 .f32) (w : Vec Ideal S1024 .f32) :
    GnFwdRefIdeal.Read.val_main_v19 (F := Ideal) y p w = norm y p w := by
  funext i
  obtain ⟨r, g, k, rfl⟩ := Norm.ix_col i
  rw [norm_col, ← ref17]
  have hg := g.isLt
  have hk := k.isLt
  unfold GnFwdRefIdeal.Read.val_main_v19 GnFwdRefIdeal.Read.val_main_v18
  pointwise [col]

theorem args_eq (y y' : Vec Ideal S8192x1024 .f32) (p p' : Vec Ideal S8192x3456 .f32) (w w' : Vec Ideal S1024 .f32)
    (hy : y = y') (hp : p = p') (hw : w = w') : norm y p w = norm y' p' w' := by
  subst hy hp hw; rfl

/-- The kernel's result is the reference's, from equal arguments. -/
theorem algebraic : Cert.algebraic_GnFwdIdeal_GnFwdRefIdeal (hGnFwdIdeal := Cert.GnFwdIdeal.Gen.facts)
    (hGnFwdRefIdeal := Cert.GnFwdRefIdeal.Gen.facts) := by
  intro m g m' g' _ hargs
  refine ⟨fun c => norm (m ((c : Thread nD τ).loc main_arg0)) (m ((c : Thread nD τ).loc main_arg1)) (m ((c : Thread nD τ).loc main_arg2)), ?_, ?_⟩
  · refine (θ_run (Cert.GnFwdIdeal.defs (F := Ideal)) _ _).mono (fun r h c => ?_) (Cert.GnFwdIdeal.Value.run_blocks (F := Ideal) m g)
    obtain ⟨h3, hk⟩ := h c
    exact ⟨h3.trans (final m c), hk⟩
  · refine (θ_run (Cert.GnFwdRefIdeal.defs (F := Ideal)) _ _).mono (fun r h c => ?_) (Cert.GnFwdRefIdeal.Value.run (F := Ideal) m' g')
    obtain ⟨hv, hk⟩ := h c
    obtain ⟨h0, h1, h2⟩ := hargs c
    exact ⟨hv.trans ((Cert.GnFwdRefIdeal.Read.val_main_v19_eq _ _ _).trans ((ref _ _ _).trans (args_eq _ _ _ _ _ _ h0 h1 h2))), hk⟩

end Cert.GnFwdIdeal.Mm

end
-- ==== Proof.GnBwd.lean ====
/- The gradients of the gated norm: the scan output's and the gate's from the gated row, the weight and the incoming
   gradient; the weight's accumulated over the rows sixteen parts at a time, for each group. -/
module

public import proofs.«01_k».proof.Proof.Gen.GnBwdIdeal.Value
public import proofs.«01_k».proof.Proof.Gen.GnBwdRefIdeal.Read
public import proofs.«01_k».proof.Proof.Gen.GnBwdRefIdeal.Run
public import proofs.«01_k».proof.Proof.Norm
public import proofs.«01_k».proof.Defs
public import Idealize.ShloMosaic.Lib.Pipeline.ValueKit
public import Idealize.ShloMosaic.Lib.Pointwise

@[expose] public section

set_option maxRecDepth 20000

noncomputable section

namespace Cert.GnBwdIdeal.Mm

open Cert.GnBwdIdeal Cert.GnBwdIdeal.Gen Idealize.ShloMosaic Idealize.ShloMosaic.TcCoe Idealize.SL.Sem
open Cert.Norm (col grp plc colp cold)

/-- A group's length, as the constant both programs divide by. -/
abbrev len : EReal := Ideal.ofBits .f32 0x44000000#32

/-- `z · σ(z)`. -/
def silu (z : EReal) : EReal := z * Ideal.logistic z

/-- The gate's gradient from the gated product's gradient `t`. -/
def siluBwd (z t : EReal) : EReal :=
  t * Ideal.logistic z + (z * t) * (Ideal.logistic z * (1 - Ideal.logistic z))

/-- A group's gated row from the two parts of a row. -/
def gated (y z : Fin 512 → EReal) (k : Fin 512) : EReal := y k * silu (z k)

/-- The gated row's gradient. -/
def dgated (y z w d : Fin 512 → EReal) (k : Fin 512) : EReal := Norm.grad len (gated y z) (fun k => d k * w k) k

/-- One row's part of the weight's gradient. -/
def term (y z d : Fin 512 → EReal) (k : Fin 512) : EReal := (gated y z k * Norm.inv len (gated y z)) * d k

variable (y : Vec Ideal S8192x1024 .f32) (p : Vec Ideal S8192x3456 .f32) (w : Vec Ideal S1024 .f32) (d : Vec Ideal S8192x1536 .f32)

/-- Row `r`, group `g` of each argument. -/
abbrev yr (r : Fin 8192) (g : Fin 2) : Fin 512 → EReal := fun k => y (ix2 r (col g k))
abbrev zr (r : Fin 8192) (g : Fin 2) : Fin 512 → EReal := fun k => p (ix2 r (colp (col g k)))
abbrev wr (g : Fin 2) : Fin 512 → EReal := fun k => w (ix1 (col g k))
abbrev dr (r : Fin 8192) (g : Fin 2) : Fin 512 → EReal := fun k => d (ix2 r (cold (col g k)))

/-- The gated product's gradient at a row, a group and a place in it. -/
def dv (r : Fin 8192) (g : Fin 2) (k : Fin 512) : EReal := dgated (yr y r g) (zr p r g) (wr w g) (dr d r g) k

/-- The three gradients, by row, group and place. -/
def dyAt (r : Fin 8192) (g : Fin 2) (k : Fin 512) : EReal := dv y p w d r g k * silu (zr p r g k)
def dzAt (r : Fin 8192) (g : Fin 2) (k : Fin 512) : EReal := siluBwd (zr p r g k) (yr y r g k * dv y p w d r g k)
def dwAt (g : Fin 2) (k : Fin 512) : EReal := ∑ r : Fin 8192, term (yr y r g) (zr p r g) (dr d r g) k

/-- The three gradients as arrays. -/
def dy : Vec Ideal S8192x1024 .f32 := fun i => dyAt y p w d (i 0) (grp (i 1)) (plc (i 1))
def dz : Vec Ideal S8192x1024 .bf16 := fun i => dzAt y p w d (i 0) (grp (i 1)) (plc (i 1))
def dw : Vec Ideal S1x1024 .f32 := fun i => dwAt y p d (grp (i 1)) (plc (i 1))

theorem dy_col (r : Fin 8192) (g : Fin 2) (k : Fin 512) : dy y p w d (ix2 r (col g k)) = dyAt y p w d r g k :=
  congrArg₂ (dyAt y p w d r) (Norm.grp_col g k) (Norm.plc_col g k)
theorem dz_col (r : Fin 8192) (g : Fin 2) (k : Fin 512) : dz y p w d (ix2 r (col g k)) = dzAt y p w d r g k :=
  congrArg₂ (dzAt y p w d r) (Norm.grp_col g k) (Norm.plc_col g k)
theorem dw_col (g : Fin 2) (k : Fin 512) : dw y p d (ix2 0 (col g k)) = dwAt y p d g k :=
  congrArg₂ (dwAt y p d) (Norm.grp_col g k) (Norm.plc_col g k)

/-! What a grid point computes of its blocks. -/

section Block

variable (a z : Vec Ideal S512x512 .f32) (v : Vec Ideal S1x512 .f32) (e : Vec Ideal S512x512 .f32)

/-- Row `i` of a block, as values. -/
abbrev br (x : Vec Ideal S512x512 .f32) (i : Fin 512) : Fin 512 → EReal := fun k => x (ix2 i k)

theorem pay9 (i k : Fin 512) : k0_pay9 (F := Ideal) a z (ix2 i k) = gated (br a i) (br z i) k := rfl

theorem pay10 (i : Fin 512) (o : Fin 1) : k0_pay10 (F := Ideal) a z (ix2 i o) = Norm.ms len (gated (br a i) (br z i)) := by
  unfold k0_pay10 Norm.ms
  pointwise [pay9]

theorem pay11 (i : Fin 512) (o : Fin 1) : k0_pay11 (F := Ideal) a z (ix2 i o) = Norm.inv len (gated (br a i) (br z i)) :=
  congrArg Ideal.rsqrt (pay10 a z i o)

theorem pay12 (k : Fin 512) : k0_pay12 (F := Ideal) a z e (ix2 0 k) = ∑ i : Fin 512, term (br a i) (br z i) (br e i) k := by
  unfold k0_pay12 term
  pointwise [pay9, pay11]

theorem pay13 (i k : Fin 512) : k0_pay13 (F := Ideal) v e (ix2 i k) = (e (ix2 i k) : EReal) * v (ix2 0 k) := by
  unfold k0_pay13
  pointwise

theorem pay15 (i k : Fin 512) : k0_pay15 (F := Ideal) a z v e (ix2 i k)
    = Norm.slope len (gated (br a i) (br z i)) (fun k => (e (ix2 i k) : EReal) * v (ix2 0 k)) := by
  unfold k0_pay15 Norm.slope
  pointwise [pay9, pay10, pay11, pay13]
  try simp only [Finset.univ_unique, Finset.sum_singleton, pay9, pay10, pay11, pay13]

theorem pay14 (i k : Fin 512) : k0_pay14 (F := Ideal) a z v e (ix2 i k)
    = ((e (ix2 i k) : EReal) * v (ix2 0 k)) * Norm.inv len (gated (br a i) (br z i)) := by
  unfold k0_pay14
  pointwise [pay11, pay13]

/-- The gated product's gradient in a block. -/
theorem pay1 (i k : Fin 512) : k0_pay1 (F := Ideal) (k0_pay9 a z) (k0_pay14 a z v e) (k0_pay15 a z v e) (k0_pay16 a z v e) (ix2 i k)
    = dgated (br a i) (br z i) (fun k => v (ix2 0 k)) (br e i) k := by
  show (k0_pay14 (F := Ideal) a z v e (ix2 i k) + k0_pay9 (F := Ideal) a z (ix2 i k) * k0_pay15 (F := Ideal) a z v e (ix2 i k) : EReal)
    + k0_pay15 (F := Ideal) a z v e (ix2 i k) * k0_pay9 (F := Ideal) a z (ix2 i k) = _
  rw [pay9, pay14, pay15]
  rfl

theorem pay2 (i k : Fin 512) :
    k0_pay2 (F := Ideal) (k0_pay8 z) (k0_pay9 a z) (k0_pay14 a z v e) (k0_pay15 a z v e) (k0_pay16 a z v e) (ix2 i k)
      = dgated (br a i) (br z i) (fun k => v (ix2 0 k)) (br e i) k * silu (z (ix2 i k)) :=
  congrArg (fun t : EReal => t * silu (z (ix2 i k))) (pay1 a z v e i k)

theorem pay7 (i k : Fin 512) : k0_pay7 (F := Ideal) z (ix2 i k) = Ideal.logistic (z (ix2 i k)) * (1 - Ideal.logistic (z (ix2 i k))) := by
  unfold k0_pay7 k0_pay6
  pointwise

theorem pay3 (i k : Fin 512) :
    k0_pay3 (F := Ideal) a z (k0_pay6 z) (k0_pay7 z) (k0_pay9 a z) (k0_pay14 a z v e) (k0_pay15 a z v e) (k0_pay16 a z v e) (ix2 i k)
      = siluBwd (z (ix2 i k)) (a (ix2 i k) * dgated (br a i) (br z i) (fun k => v (ix2 0 k)) (br e i) k) := by
  rw [← pay1]
  unfold siluBwd
  rw [← pay7]
  rfl

end Block

theorem pay5 (u x : Vec Ideal S1x512 .f32) (j : S1x512.Idx) : k0_pay5 (F := Ideal) u x j = (x j : EReal) + u j := by
  unfold k0_pay5
  rw [shapeCast_self]
  rfl

theorem pay4 (j : S1x512.Idx) : k0_pay4 (F := Ideal) j = (0 : EReal) := by
  unfold k0_pay4
  pointwise

variable (m : (ℓ : Loc nD τ sig) → Buf (Elt Ideal) ℓ)

theorem V_w (c : Dev nD) (j : Fin 1024) : V m c main_v0 (ix2 0 j) = m ((c : Thread nD τ).loc main_arg2) (ix1 j) := by
  have h : V m c main_v0 = shapeCast S1x1024 (m ((c : Thread nD τ).loc main_arg2)) shapeCasts_S1024_S1x1024 := rfl
  rw [h]
  pointwise

theorem e0 : ∀ t : Fin cfg0.N, win0_0.index t = ![t.val % 16, t.val / 16] := (by decide +kernel : ∀ t : Fin grid0.N, _)
theorem e1 : ∀ t : Fin cfg0.N, win0_1.index t = ![t.val % 16, t.val / 16 + 1] := (by decide +kernel : ∀ t : Fin grid0.N, _)
theorem e2 : ∀ t : Fin cfg0.N, win0_2.index t = ![0, t.val / 16] := (by decide +kernel : ∀ t : Fin grid0.N, _)
theorem e3 : ∀ t : Fin cfg0.N, win0_3.index t = ![t.val % 16, t.val / 16 + 1] := (by decide +kernel : ∀ t : Fin grid0.N, _)
theorem e4 : ∀ t : Fin cfg0.N, win0_4.index t = ![t.val % 16, t.val / 16] := (by decide +kernel : ∀ t : Fin grid0.N, _)
theorem e5 : ∀ t : Fin cfg0.N, win0_5.index t = ![t.val % 16, t.val / 16] := (by decide +kernel : ∀ t : Fin grid0.N, _)
theorem e6 : ∀ t : Fin cfg0.N, win0_6.index t = ![0, t.val / 16] := (by decide +kernel : ∀ t : Fin grid0.N, _)

/-- A grid point's group, and its rows. -/
def gt (t : Fin cfg0.N) : Fin 2 := ⟨t.val / 16, by have := lt_of_lt_of_eq t.isLt (show cfg0.N = 32 from N_0); omega⟩
def row (t : Fin cfg0.N) (i : Fin 512) : Fin 8192 := ⟨512 * (t.val % 16) + i.val, by have := i.isLt; omega⟩

theorem b0 (c : Dev nD) (t : Fin cfg0.N) (i k : Fin 512) :
    iblk m c 0 t (ix2 i k) = m ((c : Thread nD τ).loc main_arg0) (ix2 (row t i) (col (gt t) k)) := by
  rw [← V_main_arg0 m c]
  blk_ext [iblk, e0, row, col, gt]

theorem b1 (c : Dev nD) (t : Fin cfg0.N) (i k : Fin 512) :
    X0_1 m c t (ix2 i k) = m ((c : Thread nD τ).loc main_arg1) (ix2 (row t i) (colp (col (gt t) k))) := by
  rw [← V_main_arg1 m c]
  unfold X0_1 Pipeline.Window.fill
  rw [dif_pos (moved0_1 t _)]
  blk_ext [iblk, e1, row, col, colp, gt]

theorem b2 (c : Dev nD) (t : Fin cfg0.N) (k : Fin 512) :
    iblk m c 2 t (ix2 0 k) = m ((c : Thread nD τ).loc main_arg2) (ix1 (col (gt t) k)) :=
  (show iblk m c 2 t (ix2 0 k) = V m c main_v0 (ix2 0 (col (gt t) k)) by blk_ext [iblk, e2, col, gt]).trans (V_w m c _)

theorem b3 (c : Dev nD) (t : Fin cfg0.N) (i k : Fin 512) :
    iblk m c 3 t (ix2 i k) = m ((c : Thread nD τ).loc main_arg3) (ix2 (row t i) (cold (col (gt t) k))) := by
  rw [← V_main_arg3 m c]
  blk_ext [iblk, e3, row, col, cold, gt]

/-- The two row blocks after a step. -/
theorem out4 (c : Dev nD) (t : Fin cfg0.N) (j : S512x512.Idx) :
    (outsAt0 m c t.val t.isLt).1 j = k0_pay2 (F := Ideal) (k0_pay8 (X0_1 m c t)) (k0_pay9 (iblk m c 0 t) (X0_1 m c t))
      (k0_pay14 (iblk m c 0 t) (X0_1 m c t) (iblk m c 2 t) (iblk m c 3 t)) (k0_pay15 (iblk m c 0 t) (X0_1 m c t) (iblk m c 2 t) (iblk m c 3 t))
      (k0_pay16 (iblk m c 0 t) (X0_1 m c t) (iblk m c 2 t) (iblk m c 3 t)) j := by
  by_cases h : t.val % 16 = 0
  · rw [outsAt0_A m c t h]; frame_out
  · rw [outsAt0_B m c t h]; frame_out

theorem out5 (c : Dev nD) (t : Fin cfg0.N) (j : S512x512.Idx) :
    (outsAt0 m c t.val t.isLt).2.1 j = k0_pay3 (F := Ideal) (iblk m c 0 t) (X0_1 m c t) (k0_pay6 (X0_1 m c t)) (k0_pay7 (X0_1 m c t))
      (k0_pay9 (iblk m c 0 t) (X0_1 m c t)) (k0_pay14 (iblk m c 0 t) (X0_1 m c t) (iblk m c 2 t) (iblk m c 3 t))
      (k0_pay15 (iblk m c 0 t) (X0_1 m c t) (iblk m c 2 t) (iblk m c 3 t)) (k0_pay16 (iblk m c 0 t) (X0_1 m c t) (iblk m c 2 t) (iblk m c 3 t)) j := by
  by_cases h : t.val % 16 = 0
  · rw [outsAt0_A m c t h]; frame_out
  · rw [outsAt0_B m c t h]; frame_out

/-- The arguments at launch. -/
abbrev Y (c : Dev nD) : Vec Ideal S8192x1024 .f32 := m ((c : Thread nD τ).loc main_arg0)
abbrev P (c : Dev nD) : Vec Ideal S8192x3456 .f32 := m ((c : Thread nD τ).loc main_arg1)
abbrev W (c : Dev nD) : Vec Ideal S1024 .f32 := m ((c : Thread nD τ).loc main_arg2)
abbrev D (c : Dev nD) : Vec Ideal S8192x1536 .f32 := m ((c : Thread nD τ).loc main_arg3)

/-- A block's rows are the arguments' rows. -/
theorem br0 (c : Dev nD) (t : Fin cfg0.N) (i : Fin 512) : br (iblk m c 0 t) i = yr (Y m c) (row t i) (gt t) := funext (b0 m c t i)
theorem br1 (c : Dev nD) (t : Fin cfg0.N) (i : Fin 512) : br (X0_1 m c t) i = zr (P m c) (row t i) (gt t) := funext (b1 m c t i)
theorem br2 (c : Dev nD) (t : Fin cfg0.N) : (fun k : Fin 512 => iblk m c 2 t (ix2 0 k)) = wr (W m c) (gt t) := funext (b2 m c t)
theorem br3 (c : Dev nD) (t : Fin cfg0.N) (i : Fin 512) : br (iblk m c 3 t) i = dr (D m c) (row t i) (gt t) := funext (b3 m c t i)

theorem out4_eq (c : Dev nD) (t : Fin cfg0.N) (i k : Fin 512) :
    (outsAt0 m c t.val t.isLt).1 (ix2 i k) = dy (Y m c) (P m c) (W m c) (D m c) (ix2 (row t i) (col (gt t) k)) := by
  rw [dy_col]
  refine (out4 m c t _).trans ((pay2 _ _ _ _ i k).trans ?_)
  rw [br0, br1, br2, br3, b1]
  rfl

theorem out5_eq (c : Dev nD) (t : Fin cfg0.N) (i k : Fin 512) :
    (outsAt0 m c t.val t.isLt).2.1 (ix2 i k) = dz (Y m c) (P m c) (W m c) (D m c) (ix2 (row t i) (col (gt t) k)) := by
  rw [dz_col]
  refine (out5 m c t _).trans ((pay3 _ _ _ _ i k).trans ?_)
  rw [br0, br1, br2, br3, b0, b1]
  rfl

theorem final4 (c : Dev nD) : (dats m 0 c).arrAt 4 cfg0.N = dy (Y m c) (P m c) (W m c) (D m c) := by
  refine (dats m 0 c).arrAt_eq_of_covers 4 _ (by decide +kernel) fun t hf j => ?_
  blk_simp
  rw [after0_4]
  have hj : j = ix2 (j 0) (j 1) := by blk_ext
  refine (congrArg _ hj).trans ((out4_eq m c t (j 0) (j 1)).trans (congrArg (dy _ _ _ _) ?_))
  blk_ext [e4, row, col, gt]

theorem final5 (c : Dev nD) : (dats m 0 c).arrAt 5 cfg0.N = dz (Y m c) (P m c) (W m c) (D m c) := by
  refine (dats m 0 c).arrAt_eq_of_covers 5 _ (by decide +kernel) fun t hf j => ?_
  blk_simp
  rw [after0_5]
  have hj : j = ix2 (j 0) (j 1) := by blk_ext
  refine (congrArg _ hj).trans ((out5_eq m c t (j 0) (j 1)).trans (congrArg (dz _ _ _ _) ?_))
  blk_ext [e5, row, col, gt]

/-- A step's part of the weight's gradient. -/
def part (c : Dev nD) (t : Fin cfg0.N) (k : Fin 512) : EReal :=
  ∑ i : Fin 512, term (yr (Y m c) (row t i) (gt t)) (zr (P m c) (row t i) (gt t)) (dr (D m c) (row t i) (gt t)) k

theorem step (c : Dev nD) (t : Fin cfg0.N) (j : S1x512.Idx) :
    k0_pay12 (F := Ideal) (iblk m c 0 t) (X0_1 m c t) (iblk m c 3 t) j = part m c t (j 1) := by
  have hj : j = ix2 0 (j 1) := by blk_ext
  refine (congrArg _ hj).trans ((pay12 _ _ _ (j 1)).trans ?_)
  exact Finset.sum_congr rfl fun i _ => by rw [br0, br1, br3]

/-- The weight block after a group's last step. -/
theorem acc_eq (c : Dev nD) (t : Fin cfg0.N) (ht : t.val % 16 = 15) (j : S1x512.Idx) :
    (outsAt0 m c t.val t.isLt).2.2 j
      = ∑ s : Fin 16, part m c ⟨16 * (t.val / 16) + s.val, Idealize.ShloMosaic.Pipeline.run_point_lt_of_flush t ht s⟩ (j 1) := by
  rw [Idealize.ShloMosaic.Pipeline.eq_sum_fin_of_reset_step_apply_of_flush (fun n h => (outsAt0 m c n h).2.2) 16 (fun _ => (0 : EReal))
    (fun t j => part m c t (j 1))
    (fun t h j => by
      rw [outsAt0_A m c t h]; frame_out; rw [pay5]
      exact congrArg₂ (fun a b : EReal => a + b) (pay4 j) (step m c t j))
    (fun t h j => by
      rw [outsAt0_B m c t h]; frame_out; rw [pay5]
      exact congrArg (fun b : EReal => _ + b) (step m c t j)) t ht j, zero_add]

theorem out6_eq (c : Dev nD) (t : Fin cfg0.N) (ht : t.val % 16 = 15) (k : Fin 512) :
    (outsAt0 m c t.val t.isLt).2.2 (ix2 0 k) = dw (Y m c) (P m c) (D m c) (ix2 0 (col (gt t) k)) := by
  rw [dw_col]
  refine (acc_eq m c t ht _).trans ?_
  have hN : t.val < 32 := lt_of_lt_of_eq t.isLt (show cfg0.N = 32 from N_0)
  unfold dwAt part
  refine Fin.sum_mul_add_congr (S := 16) (n := 512) (L := 8192) fun s i hi => ?_
  have hg : gt ⟨16 * (t.val / 16) + s.val, Idealize.ShloMosaic.Pipeline.run_point_lt_of_flush t ht s⟩ = gt t :=
    Fin.ext (by have := s.isLt; show (16 * (t.val / 16) + s.val) / 16 = t.val / 16; omega)
  have hr : row ⟨16 * (t.val / 16) + s.val, Idealize.ShloMosaic.Pipeline.run_point_lt_of_flush t ht s⟩ i = ⟨s.val * 512 + i.val, hi⟩ :=
    Fin.ext (by have := s.isLt; show 512 * ((16 * (t.val / 16) + s.val) % 16) + i.val = s.val * 512 + i.val; omega)
  rw [hg, hr]
  rfl

theorem final6 (c : Dev nD) : (dats m 0 c).arrAt 6 cfg0.N = dw (Y m c) (P m c) (D m c) := by
  refine (dats m 0 c).arrAt_eq_of_covers 6 _ (by decide +kernel) fun t hf j => ?_
  blk_simp
  rw [after0_6]
  have hj : j = ix2 0 (j 1) := by blk_ext
  refine (congrArg _ hj).trans ((out6_eq m c t ((flush0_6 t).mp hf) (j 1)).trans (congrArg (dw _ _ _) ?_))
  blk_ext [e6, col, gt]

/-! The reference. -/

theorem r_sig (i : Fin 8192) (j : Fin 1024) : GnBwdRefIdeal.Read.val_main_v1_2 (F := Ideal) p (ix2 i j) = Ideal.logistic (p (ix2 i (colp j))) := by
  unfold GnBwdRefIdeal.Read.val_main_v1_2 GnBwdRefIdeal.Read.val_main_call0_v4 GnBwdRefIdeal.Read.val_main_call0_cst_0
    GnBwdRefIdeal.Read.val_main_call0_v3 GnBwdRefIdeal.Read.val_main_call0_v2 GnBwdRefIdeal.Read.val_main_call0_cst
    GnBwdRefIdeal.Read.val_main_call0_v1 GnBwdRefIdeal.Read.val_main_call0_v0 GnBwdRefIdeal.Read.val_main_v0 Ideal.logistic
  pointwise [colp]

theorem r_dsig (i : Fin 8192) (j : Fin 1024) : GnBwdRefIdeal.Read.val_main_v1_1 (F := Ideal) p (ix2 i j)
    = Ideal.logistic (p (ix2 i (colp j))) * (1 - Ideal.logistic (p (ix2 i (colp j)))) := by
  unfold GnBwdRefIdeal.Read.val_main_v1_1 GnBwdRefIdeal.Read.val_main_call0_v7 GnBwdRefIdeal.Read.val_main_call0_v6
    GnBwdRefIdeal.Read.val_main_call0_cst_1
  pointwise [r_sig]

theorem r0 (i : Fin 8192) (j : Fin 1024) : GnBwdRefIdeal.Read.val_main_v0 (F := Ideal) p (ix2 i j) = p (ix2 i (colp j)) := by
  unfold GnBwdRefIdeal.Read.val_main_v0
  pointwise [colp]

theorem r_silu (i : Fin 8192) (j : Fin 1024) : GnBwdRefIdeal.Read.val_main_v1_0 (F := Ideal) p (ix2 i j) = silu (p (ix2 i (colp j))) := by
  unfold GnBwdRefIdeal.Read.val_main_v1_0 silu
  pointwise [r0, r_sig]

theorem r3 (i : Fin 8192) (g : Fin 2) (k : Fin 512) : GnBwdRefIdeal.Read.val_main_v3 (F := Ideal) y p (ix3 i g k) = gated (yr y i g) (zr p i g) k := by
  have hi := i.isLt
  have hg := g.isLt
  have hk := k.isLt
  have h2 : GnBwdRefIdeal.Read.val_main_v2 (F := Ideal) y p (ix2 i (col g k)) = gated (yr y i g) (zr p i g) k :=
    congrArg (fun t : EReal => y (ix2 i (col g k)) * t) (r_silu p i (col g k))
  rw [← h2]
  unfold GnBwdRefIdeal.Read.val_main_v3
  pointwise [col]

theorem r11 (i : Fin 8192) (g : Fin 2) (o : Fin 1) : GnBwdRefIdeal.Read.val_main_v11 (F := Ideal) y p (ix3 i g o) = Norm.ms len (gated (yr y i g) (zr p i g)) := by
  unfold GnBwdRefIdeal.Read.val_main_v11 GnBwdRefIdeal.Read.val_main_v10 GnBwdRefIdeal.Read.val_main_cst_1 GnBwdRefIdeal.Read.val_main_v9
    GnBwdRefIdeal.Read.val_main_v8 GnBwdRefIdeal.Read.val_main_cst_0 GnBwdRefIdeal.Read.val_main_v7 GnBwdRefIdeal.Read.val_main_v6
    GnBwdRefIdeal.Read.val_main_cst GnBwdRefIdeal.Read.val_main_v5 Norm.ms
  pointwise [r3]

theorem r12 (i : Fin 8192) (g : Fin 2) (o : Fin 1) : GnBwdRefIdeal.Read.val_main_v12 (F := Ideal) y p (ix3 i g o) = Norm.inv len (gated (yr y i g) (zr p i g)) :=
  congrArg Ideal.rsqrt (r11 y p i g o)

theorem r23 (i : Fin 8192) (g : Fin 2) (k : Fin 512) : GnBwdRefIdeal.Read.val_main_v23 (F := Ideal) d (ix3 i g k) = d (ix2 i (cold (col g k))) := by
  have hi := i.isLt
  have hg := g.isLt
  have hk := k.isLt
  unfold GnBwdRefIdeal.Read.val_main_v23 GnBwdRefIdeal.Read.val_main_v22
  pointwise [col, cold]

theorem r28 (i : Fin 8192) (g : Fin 2) (k : Fin 512) : GnBwdRefIdeal.Read.val_main_v28 (F := Ideal) w d (ix3 i g k) = dr d i g k * wr w g k := by
  unfold GnBwdRefIdeal.Read.val_main_v28 GnBwdRefIdeal.Read.val_main_v27 GnBwdRefIdeal.Read.val_main_v18 GnBwdRefIdeal.Read.val_main_v4
  pointwise [r23, dr, wr, col]

theorem r37 (i : Fin 8192) (g : Fin 2) (o : Fin 1) : GnBwdRefIdeal.Read.val_main_v37 (F := Ideal) y p w d (ix3 i g o)
    = Norm.slope len (gated (yr y i g) (zr p i g)) (fun k => dr d i g k * wr w g k) := by
  unfold GnBwdRefIdeal.Read.val_main_v37 GnBwdRefIdeal.Read.val_main_v36 GnBwdRefIdeal.Read.val_main_cst_6 GnBwdRefIdeal.Read.val_main_v35
    GnBwdRefIdeal.Read.val_main_v32 GnBwdRefIdeal.Read.val_main_v31 GnBwdRefIdeal.Read.val_main_cst_5 GnBwdRefIdeal.Read.val_main_v30
    GnBwdRefIdeal.Read.val_main_v15 GnBwdRefIdeal.Read.val_main_v14 GnBwdRefIdeal.Read.val_main_cst_2 GnBwdRefIdeal.Read.val_main_v13
    Norm.slope
  pointwise [r3, r11, r12, r28]

theorem r43 (i : Fin 8192) (g : Fin 2) (k : Fin 512) : GnBwdRefIdeal.Read.val_main_v43 (F := Ideal) y p w d (ix3 i g k) = dv y p w d i g k := by
  unfold GnBwdRefIdeal.Read.val_main_v43 GnBwdRefIdeal.Read.val_main_v42 GnBwdRefIdeal.Read.val_main_v41 GnBwdRefIdeal.Read.val_main_v40
    GnBwdRefIdeal.Read.val_main_v39 GnBwdRefIdeal.Read.val_main_v38 GnBwdRefIdeal.Read.val_main_cst_7 GnBwdRefIdeal.Read.val_main_v34
    GnBwdRefIdeal.Read.val_main_v33 dv dgated Norm.grad
  pointwise [r3, r12, r28, r37]
  try simp only [Finset.univ_unique, Finset.sum_singleton, r37]

theorem r45 (i : Fin 8192) (g : Fin 2) (k : Fin 512) : GnBwdRefIdeal.Read.val_main_v45 (F := Ideal) y p w d (ix2 i (col g k)) = dv y p w d i g k := by
  have hg := g.isLt
  have hk := k.isLt
  rw [← r43]
  unfold GnBwdRefIdeal.Read.val_main_v45
  pointwise [col]

theorem ref4 : GnBwdRefIdeal.Read.val_main_v47 (F := Ideal) y p w d = dy y p w d := by
  funext i
  obtain ⟨r, g, k, rfl⟩ := Norm.ix_col i
  rw [dy_col]
  exact congrArg₂ (fun a b : EReal => a * b) (r45 y p w d r g k) (r_silu p r (col g k))

theorem ref5 : GnBwdRefIdeal.Read.val_main_v49 (F := Ideal) y p w d = dz y p w d := by
  funext i
  obtain ⟨r, g, k, rfl⟩ := Norm.ix_col i
  rw [dz_col]
  have h : GnBwdRefIdeal.Read.val_main_v46 (F := Ideal) y p w d (ix2 r (col g k)) = yr y r g k * dv y p w d r g k :=
    congrArg (fun t : EReal => y (ix2 r (col g k)) * t) (r45 y p w d r g k)
  show (GnBwdRefIdeal.Read.val_main_v46 (F := Ideal) y p w d (ix2 r (col g k)) * GnBwdRefIdeal.Read.val_main_v1_2 (F := Ideal) p (ix2 r (col g k)) : EReal)
    + (GnBwdRefIdeal.Read.val_main_v0 (F := Ideal) p (ix2 r (col g k)) * GnBwdRefIdeal.Read.val_main_v46 (F := Ideal) y p w d (ix2 r (col g k))) * GnBwdRefIdeal.Read.val_main_v1_1 (F := Ideal) p (ix2 r (col g k)) = _
  rw [h, r_sig, r_dsig, r0]
  rfl

theorem r25 (g : Fin 2) (k : Fin 512) : GnBwdRefIdeal.Read.val_main_v25 (F := Ideal) y p d (ix2 g k) = dwAt y p d g k := by
  unfold GnBwdRefIdeal.Read.val_main_v25 GnBwdRefIdeal.Read.val_main_cst_3 GnBwdRefIdeal.Read.val_main_v24 GnBwdRefIdeal.Read.val_main_v17
    GnBwdRefIdeal.Read.val_main_v16 dwAt term
  pointwise [r3, r12, r23]

theorem ref6 : GnBwdRefIdeal.Read.val_main_v50 (F := Ideal) y p d = dw y p d := by
  funext i
  have hi : i = ix2 0 (col (grp (i 1)) (plc (i 1))) := by
    funext a
    match a with
    | ⟨0, _⟩ => exact Fin.ext (by have : (i 0).val < 1 := (i 0).isLt; show (i 0).val = 0; omega)
    | ⟨1, _⟩ => exact Fin.ext (by show (i 1).val = (i 1).val / 512 * 512 + (i 1).val % 512; omega)
  rw [hi, dw_col, ← r25]
  generalize grp (i 1) = g
  generalize plc (i 1) = k
  have hg := g.isLt
  have hk := k.isLt
  unfold GnBwdRefIdeal.Read.val_main_v50 GnBwdRefIdeal.Read.val_main_v44 GnBwdRefIdeal.Read.val_main_v29 GnBwdRefIdeal.Read.val_main_cst_4
    GnBwdRefIdeal.Read.val_main_v26
  pointwise [col]
  try simp only [Finset.univ_unique, Finset.sum_singleton]

theorem args_eq (y' : Vec Ideal S8192x1024 .f32) (p' : Vec Ideal S8192x3456 .f32) (w' : Vec Ideal S1024 .f32) (d' : Vec Ideal S8192x1536 .f32)
    (hy : y = y') (hp : p = p') (hw : w = w') (hd : d = d') :
    dy y p w d = dy y' p' w' d' ∧ dz y p w d = dz y' p' w' d' ∧ dw y p d = dw y' p' d' := by
  subst hy hp hw hd; exact ⟨rfl, rfl, rfl⟩

/-- The kernel's results are the reference's, from equal arguments. -/
theorem algebraic : Cert.algebraic_GnBwdIdeal_GnBwdRefIdeal (hGnBwdIdeal := Cert.GnBwdIdeal.Gen.facts)
    (hGnBwdRefIdeal := Cert.GnBwdRefIdeal.Gen.facts) := by
  intro m g m' g' _ hargs
  refine ⟨fun c => dy (Y m c) (P m c) (W m c) (D m c), fun c => dz (Y m c) (P m c) (W m c) (D m c), fun c => dw (Y m c) (P m c) (D m c), ?_, ?_⟩
  · refine (θ_run (Cert.GnBwdIdeal.defs (F := Ideal)) _ _).mono (fun r h c => ?_) (Cert.GnBwdIdeal.Value.run_blocks (F := Ideal) m g)
    obtain ⟨h4, h5, h6, hk⟩ := h c
    exact ⟨h4.trans (final4 m c), h5.trans (final5 m c), h6.trans (final6 m c), hk⟩
  · refine (θ_run (Cert.GnBwdRefIdeal.defs (F := Ideal)) _ _).mono (fun r h c => ?_) (Cert.GnBwdRefIdeal.Value.run (F := Ideal) m' g')
    obtain ⟨h4, h5, h6, hk⟩ := h c
    obtain ⟨a0, a1, a2, a3⟩ := hargs c
    obtain ⟨d4, d5, d6⟩ := args_eq _ _ _ _ _ _ _ _ a0 a1 a2 a3
    exact ⟨h4.trans ((Cert.GnBwdRefIdeal.Read.val_main_v47_eq _ _).trans ((ref4 _ _ _ _).trans d4)),
      h5.trans ((Cert.GnBwdRefIdeal.Read.val_main_v49_eq _ _).trans ((ref5 _ _ _ _).trans d5)),
      h6.trans ((Cert.GnBwdRefIdeal.Read.val_main_v50_eq _ _ _).trans ((ref6 _ _ _).trans d6)), hk⟩

end Cert.GnBwdIdeal.Mm

end
-- ==== Proof.Loss.lean ====
/- The loss head: the last norm, the squared error's mean per row halved and added up over the rows, and what it sends
   back to the rows and to the norm's weight; the loss and the weight's gradient are accumulated over the rows sixteen
   parts at a time. -/
module

public import proofs.«01_k».proof.Proof.Gen.LossIdeal.Value
public import proofs.«01_k».proof.Proof.Gen.LossRefIdeal.Read
public import proofs.«01_k».proof.Proof.Gen.LossRefIdeal.Run
public import proofs.«01_k».proof.Proof.Norm
public import proofs.«01_k».proof.Defs
public import Idealize.ShloMosaic.Lib.Pipeline.ValueKit
public import Idealize.ShloMosaic.Lib.Pointwise

@[expose] public section

set_option maxRecDepth 20000

noncomputable section

namespace Cert.LossIdeal.Mm

open Cert.LossIdeal Cert.LossIdeal.Gen Idealize.ShloMosaic Idealize.ShloMosaic.TcCoe Idealize.SL.Sem

/-- The row's length, as the constant both programs divide by. -/
abbrev len : EReal := Ideal.ofBits .f32 0x44800000#32
/-- One half and two. -/
abbrev half : EReal := Ideal.ofBits .f32 0x3F000000#32
abbrev two : EReal := Ideal.ofBits .f32 0x40000000#32

/-- Entry `k` of a row's error: the norm of the row, weighted, less the target. -/
def err (h w t : Fin 1024 → EReal) (k : Fin 1024) : EReal := (h k * Norm.inv len h) * w k - t k

/-- The loss's gradient at entry `k` of a row's error. -/
def derr (h w t : Fin 1024 → EReal) (k : Fin 1024) : EReal := Ideal.div half len * (two * err h w t k)

/-- A row's mean squared error, halved. -/
def mse (h w t : Fin 1024 → EReal) : EReal := half * Ideal.div (∑ k, err h w t k * err h w t k) len

/-- A row's gradient at its entry `j`. -/
def drow (h w t : Fin 1024 → EReal) (j : Fin 1024) : EReal := Norm.grad len h (fun k => derr h w t k * w k) j

/-- The rows' gradient. -/
def dh (h : Vec Ideal S8192x1024 .f32) (w : Vec Ideal S1024 .f32) (t : Vec Ideal S8192x1024 .f32) : Vec Ideal S8192x1024 .f32 :=
  fun i => drow (fun k => h (ix2 (i 0) k)) (fun k => w (ix1 k)) (fun k => t (ix2 (i 0) k)) (i 1)

/-- One row's part of the weight's gradient at entry `j`. -/
def term (h w t : Fin 1024 → EReal) (j : Fin 1024) : EReal := (h j * Norm.inv len h) * derr h w t j

/-- The weight's gradient. -/
def dw (h : Vec Ideal S8192x1024 .f32) (w : Vec Ideal S1024 .f32) (t : Vec Ideal S8192x1024 .f32) : Vec Ideal S1x1024 .f32 :=
  fun i => ∑ r : Fin 8192, term (fun k => h (ix2 r k)) (fun k => w (ix1 k)) (fun k => t (ix2 r k)) (i 1)

/-- The loss, in every lane of its row. -/
def loss (h : Vec Ideal S8192x1024 .f32) (w : Vec Ideal S1024 .f32) (t : Vec Ideal S8192x1024 .f32) : Vec Ideal S1x128 .f32 :=
  fun _ => ∑ r : Fin 8192, mse (fun k => h (ix2 r k)) (fun k => w (ix1 k)) (fun k => t (ix2 r k))

theorem half_eq : half = ((1 / 2 : ℝ) : EReal) := by
  simp [half, Ideal.ofBits, Ideal.ieee, -EReal.coe_mul]; norm_num

theorem two_eq : two = ((2 : ℝ) : EReal) := by
  simp [two, Ideal.ofBits, Ideal.ieee, -EReal.coe_mul]; norm_num

/-- Twice a number is its sum with itself. -/
theorem two_mul' (x : EReal) : two * x = x + x := by
  rw [two_eq]
  induction x using EReal.rec with
  | bot => exact EReal.coe_mul_bot_of_pos (by norm_num)
  | top => exact EReal.coe_mul_top_of_pos (by norm_num)
  | coe r => rw [← EReal.coe_mul, ← EReal.coe_add, _root_.two_mul]

/-- The square's gradient, as a sum of two products or as a product by two. -/
theorem square_bwd (e c : EReal) : e * c + c * e = c * (two * e) := by
  rw [mul_comm e c, ← two_mul', mul_left_comm]

/-- One half of a sum is the sum of the halves. -/
theorem half_sum {n : ℕ} (f : Fin n → EReal) : half * ∑ r, f r = ∑ r, half * f r := by
  have h0 : (0 : EReal) ≤ half := by rw [half_eq]; exact_mod_cast (by norm_num : (0 : ℝ) ≤ 1 / 2)
  have ht : half ≠ ⊤ := by rw [half_eq]; exact EReal.coe_ne_top _
  generalize (Finset.univ : Finset (Fin n)) = s
  induction s using Finset.cons_induction with
  | empty => simp
  | cons a s ha ih => rw [Finset.sum_cons, Finset.sum_cons, EReal.left_distrib_of_nonneg_of_ne_top h0 ht, ih]

section Block

variable (t h : Vec Ideal S512x1024 .f32) (w : Vec Ideal S1x1024 .f32)

/-- Row `i` of a block, as values. -/
abbrev br (x : Vec Ideal S512x1024 .f32) (i : Fin 512) : Fin 1024 → EReal := fun k => x (ix2 i k)
/-- The block's weight, as values. -/
abbrev wr (w : Vec Ideal S1x1024 .f32) : Fin 1024 → EReal := fun k => w (ix2 0 k)

theorem pay3 (j : Fin 1024) : k0_pay3 (F := Ideal) w (ix2 0 j) = w (ix2 0 j) := by
  unfold k0_pay3
  rw [shapeCast_self]

theorem pay4 (i : Fin 512) (z : Fin 1) : k0_pay4 (F := Ideal) h (ix2 i z) = Norm.ms len (br h i) := by
  unfold k0_pay4 Norm.ms
  pointwise

theorem pay5 (i : Fin 512) (z : Fin 1) : k0_pay5 (F := Ideal) h (ix2 i z) = Norm.inv len (br h i) :=
  congrArg Ideal.rsqrt (pay4 h i z)

theorem pay6 (i : Fin 512) (z : Fin 1) : k0_pay6 (F := Ideal) h (ix2 i z)
    = Ideal.ofBits .f32 0xBF000000#32 * Ideal.div (Norm.inv len (br h i)) (Norm.ms len (br h i)) := by
  unfold k0_pay6
  pointwise [pay4, pay5]

theorem pay7 (i : Fin 512) (j : Fin 1024) : k0_pay7 (F := Ideal) h (ix2 i j) = h (ix2 i j) * Norm.inv len (br h i) := by
  unfold k0_pay7
  pointwise [pay5]

theorem pay8 (i : Fin 512) (j : Fin 1024) : k0_pay8 (F := Ideal) t h w (ix2 i j) = err (br h i) (wr w) (br t i) j := by
  unfold k0_pay8 err
  pointwise [pay7, pay3]

/-- A part's rows' loss. -/
def part : EReal := ∑ i : Fin 512, mse (br h i) (wr w) (br t i)

theorem pay9 (z z' : Fin 1) : k0_pay9 (F := Ideal) t h w (ix2 z z') = part t h w := by
  unfold k0_pay9 part mse
  rw [← half_sum]
  pointwise [pay8]

theorem pay10 : k0_pay10 (F := Ideal) = half := by
  unfold k0_pay10
  pointwise
  simp

theorem pay11 (i : Fin 512) (j : Fin 1024) :
    k0_pay11 (F := Ideal) (k0_pay8 t h w) (k0_pay10) (ix2 i j) = derr (br h i) (wr w) (br t i) j := by
  unfold k0_pay11 derr
  rw [pay10]
  pointwise [pay8]
  simp only [Finset.univ_unique, Finset.sum_singleton, pay8]
  exact square_bwd _ _

theorem pay12 (i : Fin 512) (j : Fin 1024) :
    k0_pay12 (F := Ideal) h (k0_pay3 w) (k0_pay5 h) (k0_pay6 h) (k0_pay8 t h w) k0_pay10 (ix2 i j)
      = drow (br h i) (wr w) (br t i) j := by
  unfold k0_pay12 drow Norm.grad Norm.slope
  pointwise [pay3, pay5, pay6, pay11]
  simp only [Finset.univ_unique, Finset.sum_singleton, pay3, pay5, pay6, pay11]

/-- A part's rows' part of the weight's gradient. -/
def wpart (j : Fin 1024) : EReal := ∑ i : Fin 512, term (br h i) (wr w) (br t i) j

theorem pay13 (a : Vec Ideal S1x1024 .f32) (j : Fin 1024) :
    k0_pay13 (F := Ideal) (k0_pay7 h) (k0_pay8 t h w) k0_pay10 a (ix2 0 j) = (a (ix2 0 j) : EReal) + wpart t h w j := by
  unfold k0_pay13 wpart term
  rw [shapeCast_self]
  pointwise [pay7, pay11]

theorem pay14 (a : Vec Ideal S1x128 .f32) (j : Fin 128) :
    k0_pay14 (F := Ideal) (k0_pay9 t h w) a (ix2 0 j) = (a (ix2 0 j) : EReal) + part t h w := by
  unfold k0_pay14
  rw [shapeCast_self, shapeCast_self]
  pointwise [pay9]

end Block

theorem pay1 (y : S1x1024.Idx) : k0_pay1 (F := Ideal) y = (0 : EReal) := by
  unfold k0_pay1
  pointwise

theorem pay2 (y : S1x128.Idx) : k0_pay2 (F := Ideal) y = (0 : EReal) := by
  unfold k0_pay2
  pointwise

variable (m : (ℓ : Loc nD τ sig) → Buf (Elt Ideal) ℓ)

theorem V_w (c : Dev nD) (j : Fin 1024) : V m c main_v0 (ix2 0 j) = m ((c : Thread nD τ).loc main_arg1) (ix1 j) := by
  have h : V m c main_v0 = shapeCast S1x1024 (m ((c : Thread nD τ).loc main_arg1)) shapeCasts_S1024_S1x1024 := rfl
  rw [h]
  pointwise

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)

theorem w_blk (c : Dev nD) (t : Fin cfg0.N) (j : Fin 1024) : iblk m c 2 t (ix2 0 j) = m ((c : Thread nD τ).loc main_arg1) (ix1 j) :=
  (show iblk m c 2 t (ix2 0 j) = V m c main_v0 (ix2 0 j) by blk_ext [iblk, e2]).trans (V_w m c j)

/-- The row block after a step. -/
theorem out3 (c : Dev nD) (t : Fin cfg0.N) (y : S512x1024.Idx) :
    (outsAt0 m c t.val t.isLt).1 y = k0_pay12 (F := Ideal) (iblk m c 0 t) (k0_pay3 (iblk m c 2 t)) (k0_pay5 (iblk m c 0 t))
      (k0_pay6 (iblk m c 0 t)) (k0_pay8 (iblk m c 1 t) (iblk m c 0 t) (iblk m c 2 t)) k0_pay10 y := by
  by_cases h : t.val % 16 = 0
  · rw [outsAt0_A m c t h]; frame_out
  · rw [outsAt0_B m c t h]; frame_out

theorem final3 (c : Dev nD) : (dats m 0 c).arrAt 3 cfg0.N = dh (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  have hy : y = ix2 (y 0) (y 1) := by blk_ext
  refine (out3 m c t y).trans ((congrArg _ hy).trans ((pay12 _ _ _ _ _).trans ?_))
  unfold dh wr br
  simp only [w_blk]
  rw [← V_main_arg0 m c, ← V_main_arg2 m c]
  congr 1
  · funext k; blk_ext [iblk, e0, e3]
  · funext k; blk_ext [iblk, e1, e3]
  · exact congrFun (show (ix1 (y 1) : S1024.Idx) = ix1 _ by blk_ext [e3]) 0

/-- The weight block after the last step. -/
theorem acc4 (c : Dev nD) (t : Fin cfg0.N) (ht : t.val % 16 = 15) (y : S1x1024.Idx) :
    (outsAt0 m c t.val t.isLt).2.1 y = ∑ s : Fin 16, wpart (iblk m c 1 ⟨16 * (t.val / 16) + s.val, Idealize.ShloMosaic.Pipeline.run_point_lt_of_flush t ht s⟩)
      (iblk m c 0 ⟨16 * (t.val / 16) + s.val, Idealize.ShloMosaic.Pipeline.run_point_lt_of_flush t ht s⟩)
      (iblk m c 2 ⟨16 * (t.val / 16) + s.val, Idealize.ShloMosaic.Pipeline.run_point_lt_of_flush t ht s⟩) (y 1) := by
  have hy : ∀ y : S1x1024.Idx, y = ix2 0 (y 1) := fun y => by blk_ext
  rw [Idealize.ShloMosaic.Pipeline.eq_sum_fin_of_reset_step_apply_of_flush (fun n h => (outsAt0 m c n h).2.1) 16 (fun _ => (0 : EReal))
    (fun t y => wpart (iblk m c 1 t) (iblk m c 0 t) (iblk m c 2 t) (y 1))
    (fun t h j => by
      rw [outsAt0_A m c t h]; frame_out
      refine (congrArg _ (hy j)).trans ((pay13 _ _ _ _ _).trans ?_)
      exact congrArg (fun a : EReal => a + _) (pay1 _))
    (fun t h j => by
      rw [outsAt0_B m c t h]; frame_out
      refine (congrArg _ (hy j)).trans ((pay13 _ _ _ _ _).trans ?_)
      exact congrArg (fun b : S1x1024.Idx => (outsAt0 m c (t.val - 1) (Nat.lt_of_le_of_lt (Nat.sub_le _ _) t.isLt)).2.1 b + (_ : EReal)) (hy j).symm)
    t ht y, zero_add]

theorem final4 (c : Dev nD) : (dats m 0 c).arrAt 4 cfg0.N = dw (m ((c : Thread nD τ).loc main_arg0)) (m ((c : Thread nD τ).loc main_arg1))
    (m ((c : Thread nD τ).loc main_arg2)) := by
  refine (dats m 0 c).arrAt_eq_of_covers 4 _ (by decide +kernel) fun t hf y => ?_
  blk_simp
  rw [after0_4]
  have ht : t.val % 16 = 15 := (flush0_4 t).mp hf
  have hN : t.val < 16 := lt_of_lt_of_eq t.isLt (show cfg0.N = 16 from N_0)
  refine (acc4 m c t ht y).trans ?_
  unfold dw wpart wr br
  simp only [w_blk]
  refine Fin.sum_mul_add_congr (S := 16) (n := 512) (L := 8192) fun s k hk => ?_
  rw [← V_main_arg0 m c, ← V_main_arg2 m c]
  congr 1
  · funext j; blk_ext [iblk, e0, e4]
  · funext j; blk_ext [iblk, e1, e4]
  · exact congrFun (show (ix1 (y 1) : S1024.Idx) = ix1 _ by blk_ext [e4]) 0

/-- The loss block after the last step. -/
theorem acc5 (c : Dev nD) (t : Fin cfg0.N) (ht : t.val % 16 = 15) (y : S1x128.Idx) :
    (outsAt0 m c t.val t.isLt).2.2 y = ∑ s : Fin 16, part (iblk m c 1 ⟨16 * (t.val / 16) + s.val, Idealize.ShloMosaic.Pipeline.run_point_lt_of_flush t ht s⟩)
      (iblk m c 0 ⟨16 * (t.val / 16) + s.val, Idealize.ShloMosaic.Pipeline.run_point_lt_of_flush t ht s⟩)
      (iblk m c 2 ⟨16 * (t.val / 16) + s.val, Idealize.ShloMosaic.Pipeline.run_point_lt_of_flush t ht s⟩) := by
  have hy : ∀ y : S1x128.Idx, y = ix2 0 (y 1) := fun y => by blk_ext
  rw [Idealize.ShloMosaic.Pipeline.eq_sum_fin_of_reset_step_apply_of_flush (fun n h => (outsAt0 m c n h).2.2) 16 (fun _ => (0 : EReal))
    (fun t _ => part (iblk m c 1 t) (iblk m c 0 t) (iblk m c 2 t))
    (fun t h j => by
      rw [outsAt0_A m c t h]; frame_out
      refine (congrArg _ (hy j)).trans ((pay14 _ _ _ _ _).trans ?_)
      exact congrArg (fun a : EReal => a + _) (pay2 _))
    (fun t h j => by
      rw [outsAt0_B m c t h]; frame_out
      refine (congrArg _ (hy j)).trans ((pay14 _ _ _ _ _).trans ?_)
      exact congrArg (fun b : S1x128.Idx => (outsAt0 m c (t.val - 1) (Nat.lt_of_le_of_lt (Nat.sub_le _ _) t.isLt)).2.2 b + (_ : EReal)) (hy j).symm)
    t ht y, zero_add]

theorem final5 (c : Dev nD) : (dats m 0 c).arrAt 5 cfg0.N = loss (m ((c : Thread nD τ).loc main_arg0)) (m ((c : Thread nD τ).loc main_arg1))
    (m ((c : Thread nD τ).loc main_arg2)) := by
  refine (dats m 0 c).arrAt_eq_of_covers 5 _ (by decide +kernel) fun t hf y => ?_
  blk_simp
  rw [after0_5]
  have ht : t.val % 16 = 15 := (flush0_5 t).mp hf
  have hN : t.val < 16 := lt_of_lt_of_eq t.isLt (show cfg0.N = 16 from N_0)
  refine (acc5 m c t ht y).trans ?_
  unfold loss part wr br
  simp only [w_blk]
  refine Fin.sum_mul_add_congr (S := 16) (n := 512) (L := 8192) fun s k hk => ?_
  rw [← V_main_arg0 m c, ← V_main_arg2 m c]
  congr 1
  · funext j; blk_ext [iblk, e0, e5]
  · funext j; blk_ext [iblk, e1, e5]

section Ref

variable (h : Vec Ideal S8192x1024 .f32) (w : Vec Ideal S1024 .f32) (t : Vec Ideal S8192x1024 .f32)

/-- Row `i` of an array, as values. -/
abbrev ar (x : Vec Ideal S8192x1024 .f32) (i : Fin 8192) : Fin 1024 → EReal := fun k => x (ix2 i k)
/-- The weight, as values. -/
abbrev wv (w : Vec Ideal S1024 .f32) : Fin 1024 → EReal := fun k => w (ix1 k)

theorem r6 (i : Fin 8192) (z : Fin 1) : LossRefIdeal.Read.val_main_v6 (F := Ideal) h (ix2 i z) = Norm.ms len (ar h i) := by
  unfold LossRefIdeal.Read.val_main_v6 LossRefIdeal.Read.val_main_v5 LossRefIdeal.Read.val_main_v4
    LossRefIdeal.Read.val_main_v3 LossRefIdeal.Read.val_main_v2 LossRefIdeal.Read.val_main_v1
    LossRefIdeal.Read.val_main_v0 LossRefIdeal.Read.val_main_cst_1 LossRefIdeal.Read.val_main_cst_0
    LossRefIdeal.Read.val_main_cst Norm.ms
  pointwise

theorem r7 (i : Fin 8192) (z : Fin 1) : LossRefIdeal.Read.val_main_v7 (F := Ideal) h (ix2 i z) = Norm.inv len (ar h i) :=
  congrArg Ideal.rsqrt (r6 h i z)

theorem r12 (i : Fin 8192) (j : Fin 1024) : LossRefIdeal.Read.val_main_v12 (F := Ideal) h (ix2 i j) = h (ix2 i j) * Norm.inv len (ar h i) := by
  unfold LossRefIdeal.Read.val_main_v12 LossRefIdeal.Read.val_main_v11
  pointwise [r7]

theorem r16 (i : Fin 8192) (j : Fin 1024) : LossRefIdeal.Read.val_main_v16 (F := Ideal) h w t (ix2 i j) = err (ar h i) (wv w) (ar t i) j := by
  unfold LossRefIdeal.Read.val_main_v16 LossRefIdeal.Read.val_main_v15 LossRefIdeal.Read.val_main_v14
    LossRefIdeal.Read.val_main_v13 err
  pointwise [r12]

theorem r30 (i : Fin 8192) (j : Fin 1024) : LossRefIdeal.Read.val_main_v30 (F := Ideal) h w t (ix2 i j) = derr (ar h i) (wv w) (ar t i) j := by
  unfold LossRefIdeal.Read.val_main_v30 LossRefIdeal.Read.val_main_v29 LossRefIdeal.Read.val_main_v28
    LossRefIdeal.Read.val_main_v27 LossRefIdeal.Read.val_main_v26 LossRefIdeal.Read.val_main_v25
    LossRefIdeal.Read.val_main_v19 LossRefIdeal.Read.val_main_v18 LossRefIdeal.Read.val_main_cst_10
    LossRefIdeal.Read.val_main_cst_9 LossRefIdeal.Read.val_main_cst_8 LossRefIdeal.Read.val_main_cst_3 derr
  pointwise [r16]

theorem ref3 : LossRefIdeal.Read.val_main_v50 (F := Ideal) h w t = dh h w t := by
  funext i
  obtain ⟨r, j, rfl⟩ : ∃ (r : Fin 8192) (j : Fin 1024), i = ix2 r j := ⟨i 0, i 1, by blk_ext⟩
  unfold LossRefIdeal.Read.val_main_v50 LossRefIdeal.Read.val_main_v49 LossRefIdeal.Read.val_main_v48
    LossRefIdeal.Read.val_main_v47 LossRefIdeal.Read.val_main_v46 LossRefIdeal.Read.val_main_v45
    LossRefIdeal.Read.val_main_v44 LossRefIdeal.Read.val_main_v43 LossRefIdeal.Read.val_main_v42
    LossRefIdeal.Read.val_main_v41 LossRefIdeal.Read.val_main_v40 LossRefIdeal.Read.val_main_v39
    LossRefIdeal.Read.val_main_v38 LossRefIdeal.Read.val_main_v37 LossRefIdeal.Read.val_main_v35
    LossRefIdeal.Read.val_main_v34 LossRefIdeal.Read.val_main_v13 LossRefIdeal.Read.val_main_v10
    LossRefIdeal.Read.val_main_v9 LossRefIdeal.Read.val_main_v8 LossRefIdeal.Read.val_main_cst_15
    LossRefIdeal.Read.val_main_cst_14 LossRefIdeal.Read.val_main_cst_13 LossRefIdeal.Read.val_main_cst_2 dh drow
    Norm.grad Norm.slope
  pointwise [r6, r7, r30]
  simp only [Finset.univ_unique, Finset.sum_singleton, r6, r7, r30]

theorem ref4 : LossRefIdeal.Read.val_main_v51 (F := Ideal) h w t = dw h w t := by
  funext i
  have hi : i = ix2 0 (i 1) := by blk_ext
  rw [hi]
  unfold LossRefIdeal.Read.val_main_v51 LossRefIdeal.Read.val_main_v36 LossRefIdeal.Read.val_main_v33
    LossRefIdeal.Read.val_main_v32 LossRefIdeal.Read.val_main_v31 LossRefIdeal.Read.val_main_cst_12
    LossRefIdeal.Read.val_main_cst_11 dw term
  pointwise [r12, r30]
  simp only [Finset.univ_unique, Finset.sum_singleton, r12, r30]

theorem ref5 : LossRefIdeal.Read.val_main_v52 (F := Ideal) h w t = loss h w t := by
  funext i
  have hi : i = ix2 0 (i 1) := by blk_ext
  rw [hi]
  unfold loss mse
  rw [← half_sum]
  unfold LossRefIdeal.Read.val_main_v52 LossRefIdeal.Read.val_main_v24 LossRefIdeal.Read.val_main_v23
    LossRefIdeal.Read.val_main_v22 LossRefIdeal.Read.val_main_v21 LossRefIdeal.Read.val_main_v20
    LossRefIdeal.Read.val_main_v17 LossRefIdeal.Read.val_main_cst_7 LossRefIdeal.Read.val_main_cst_6
    LossRefIdeal.Read.val_main_cst_5 LossRefIdeal.Read.val_main_cst_4
  pointwise [r16]

end Ref

theorem args_eq (h h' : Vec Ideal S8192x1024 .f32) (w w' : Vec Ideal S1024 .f32) (t t' : Vec Ideal S8192x1024 .f32)
    (hh : h = h') (hw : w = w') (ht : t = t') : dh h w t = dh h' w' t' ∧ dw h w t = dw h' w' t' ∧ loss h w t = loss h' w' t' := by
  subst hh hw ht; exact ⟨rfl, rfl, rfl⟩

/-- The kernel's results are the reference's, from equal arguments. -/
theorem algebraic : Cert.algebraic_LossIdeal_LossRefIdeal (hLossIdeal := Cert.LossIdeal.Gen.facts)
    (hLossRefIdeal := Cert.LossRefIdeal.Gen.facts) := by
  intro m g m' g' _ hargs
  refine ⟨fun c => dh (m ((c : Thread nD τ).loc main_arg0)) (m ((c : Thread nD τ).loc main_arg1)) (m ((c : Thread nD τ).loc main_arg2)),
    fun c => dw (m ((c : Thread nD τ).loc main_arg0)) (m ((c : Thread nD τ).loc main_arg1)) (m ((c : Thread nD τ).loc main_arg2)),
    fun c => loss (m ((c : Thread nD τ).loc main_arg0)) (m ((c : Thread nD τ).loc main_arg1)) (m ((c : Thread nD τ).loc main_arg2)), ?_, ?_⟩
  · refine (θ_run (Cert.LossIdeal.defs (F := Ideal)) _ _).mono (fun r h c => ?_) (Cert.LossIdeal.Value.run_blocks (F := Ideal) m g)
    obtain ⟨h3, h4, h5, hk⟩ := h c
    exact ⟨h3.trans (final3 m c), h4.trans (final4 m c), h5.trans (final5 m c), hk⟩
  · refine (θ_run (Cert.LossRefIdeal.defs (F := Ideal)) _ _).mono (fun r h c => ?_) (Cert.LossRefIdeal.Value.run (F := Ideal) m' g')
    obtain ⟨h3, h4, h5, hk⟩ := h c
    obtain ⟨a0, a1, a2⟩ := hargs c
    have hd := args_eq _ _ _ _ _ _ a0 a1 a2
    exact ⟨h3.trans ((Cert.LossRefIdeal.Read.val_main_v50_eq _ _).trans ((ref3 _ _ _).trans hd.1)),
      h4.trans ((Cert.LossRefIdeal.Read.val_main_v51_eq _ _ _).trans ((ref4 _ _ _).trans hd.2.1)),
      h5.trans ((Cert.LossRefIdeal.Read.val_main_v52_eq _ _ _).trans ((ref5 _ _ _).trans hd.2.2)), hk⟩

end Cert.LossIdeal.Mm

end
-- ==== Proof.Adam.lean ====
/- One AdamW step on one entry, over the extended reals: what the optimiser calls have in common. -/
module

public import Idealize.ShloMosaic.Lib.Pointwise

@[expose] public section

noncomputable section

namespace Cert.Adam

open Idealize.ShloMosaic

/-- The new first moment, from the old one and the gradient. -/
def fst (m g : EReal) : EReal := Ideal.ofBits .f32 0x3F666666#32 * m + Ideal.ofBits .f32 0x3DCCCCCD#32 * g

/-- The new second moment, from the old one and the gradient. -/
def snd (v g : EReal) : EReal := Ideal.ofBits .f32 0x3F7FBE77#32 * v + Ideal.ofBits .f32 0x3A83126F#32 * (g * g)

/-- The step, from the two corrected moments and the weight. -/
def step (m v w : EReal) : EReal :=
  Ideal.ofBits .f32 0xBA83126F#32
    * (Ideal.div m (Ideal.sqrt v + Ideal.ofBits .f32 0x322BCC77#32) + Ideal.ofBits .f32 0x3C23D70A#32 * w)

/-- The weight's change, from the weight, the gradient and the old moments: each new moment is divided by its correction. -/
def delta (w g m v : EReal) : EReal :=
  step (Ideal.div (fst m g) (Ideal.ofBits .f32 0x3F26BD02#32)) (Ideal.div (snd v g) (Ideal.ofBits .f32 0x3C231ACC#32)) w

theorem delta_congr {w w' g g' m m' v v' : EReal} (hw : w = w') (hg : g = g') (hm : m = m') (hv : v = v') :
    delta w g m v = delta w' g' m' v' := by
  subst hw hg hm hv; rfl

/-- Dividing by the first correction is multiplying by its reciprocal. -/
theorem div_fst (x : EReal) : x * ((8388608 / 5463681 : ℝ) : EReal) = Ideal.div x (Ideal.ofBits .f32 0x3F26BD02#32) := by
  have h : Ideal.ofBits .f32 0x3F26BD02#32 = ((5463681 / 8388608 : ℝ) : EReal) := by
    simp [Ideal.ofBits, Ideal.ieee, -EReal.coe_mul]; norm_num
  rw [h, Ideal.div_coe (by norm_num)]
  norm_num

/-- Dividing by the second correction is multiplying by its reciprocal. -/
theorem div_snd (x : EReal) : x * ((268435456 / 2672307 : ℝ) : EReal) = Ideal.div x (Ideal.ofBits .f32 0x3C231ACC#32) := by
  have h : Ideal.ofBits .f32 0x3C231ACC#32 = ((2672307 / 268435456 : ℝ) : EReal) := by
    simp [Ideal.ofBits, Ideal.ieee, -EReal.coe_mul]; norm_num
  rw [h, Ideal.div_coe (by norm_num)]
  norm_num

/-- The gradient's two parts, of the layer asked for. -/
def grad (l : ℕ) (a b c d : EReal) : EReal := if l = 1 then c + d else a + b

end Cert.Adam

end
-- ==== Proof.AdamIn.lean ====
/- AdamW on the input projection's weights, both layers: each layer's gradient is the sum of its two parts. -/
module

public import proofs.«01_k».proof.Proof.Gen.AdamInIdeal.Value
public import proofs.«01_k».proof.Proof.Gen.AdamInRefIdeal.Read
public import proofs.«01_k».proof.Proof.Gen.AdamInRefIdeal.Run
public import proofs.«01_k».proof.Proof.Adam
public import proofs.«01_k».proof.Defs
public import Idealize.ShloMosaic.Lib.Pipeline.ValueKit
public import Idealize.ShloMosaic.Lib.Pointwise

@[expose] public section

set_option maxRecDepth 20000

noncomputable section

namespace Cert.AdamInIdeal.Mm

open Cert.AdamInIdeal Cert.AdamInIdeal.Gen Idealize.ShloMosaic Idealize.ShloMosaic.TcCoe Idealize.SL.Sem

/-- The named constants are the reciprocals of the corrections. -/
theorem preserves : Cert.preserves_AdamIn_AdamInIdeal :=
  ⟨IdealRules.named_const.statement Cert.AdamInIdeal.κ "bc1" .f32 0x3FC48605#32 ((8388608 / 5463681 : ℝ) : EReal) rfl,
    IdealRules.named_const.statement Cert.AdamInIdeal.κ "bc2" .f32 0x42C8E6D3#32 ((268435456 / 2672307 : ℝ) : EReal) rfl⟩

/-- The gradients: per layer, the sum of the two parts. -/
def grad (a b c d : Vec Ideal S1024x836 .f32) : Vec Ideal S2x1024x836 .f32 :=
  fun i => Adam.grad (i 0).val (a (ix2 (i 1) (i 2))) (b (ix2 (i 1) (i 2))) (c (ix2 (i 1) (i 2))) (d (ix2 (i 1) (i 2)))
/-- The new first moments. -/
def fst (g m : Vec Ideal S2x1024x836 .f32) : Vec Ideal S2x1024x836 .f32 := fun i => Adam.fst (m i) (g i)
/-- The new second moments. -/
def snd (g v : Vec Ideal S2x1024x836 .f32) : Vec Ideal S2x1024x836 .f32 := fun i => Adam.snd (v i) (g i)
/-- The weights' changes. -/
def delta (g w m v : Vec Ideal S2x1024x836 .f32) : Vec Ideal S2x1024x836 .f32 := fun i => Adam.delta (w i) (g i) (m i) (v i)

section pay

variable (i : grid0.Coords) (a b c d : Vec Ideal S256x836 .f32) (w x : Vec Ideal S1x256x836 .f32) (r : Fin 256) (j : Fin 836)

theorem pay3 : k0_pay3 (F := Ideal) i a b c d (ix2 r j)
    = Adam.grad (i 0).val (a (ix2 r j)) (b (ix2 r j)) (c (ix2 r j)) (d (ix2 r j)) := by
  have hk : (i 0).val < 2 := (i 0).isLt
  unfold k0_pay3 Adam.grad
  dsimp only
  generalize (i 0).val = k at hk ⊢
  interval_cases k <;> rfl

theorem pay4 : k0_pay4 (F := Ideal) i a b c d x (ix2 r j)
    = Adam.fst (x (ix3 0 r j)) (Adam.grad (i 0).val (a (ix2 r j)) (b (ix2 r j)) (c (ix2 r j)) (d (ix2 r j))) := by
  rw [← pay3]
  unfold k0_pay4 Adam.fst
  pointwise

theorem pay5 : k0_pay5 (F := Ideal) i a b c d x (ix2 r j)
    = Adam.snd (x (ix3 0 r j)) (Adam.grad (i 0).val (a (ix2 r j)) (b (ix2 r j)) (c (ix2 r j)) (d (ix2 r j))) := by
  rw [← pay3]
  unfold k0_pay5 Adam.snd
  pointwise

theorem pay6 : k0_pay6 (F := Ideal) i a b c d (ix3 0 r j)
    = Adam.grad (i 0).val (a (ix2 r j)) (b (ix2 r j)) (c (ix2 r j)) (d (ix2 r j)) := by
  rw [← pay3]
  unfold k0_pay6
  pointwise

theorem pay7 : k0_pay7 (F := Ideal) i a b c d x (ix3 0 r j)
    = Adam.fst (x (ix3 0 r j)) (Adam.grad (i 0).val (a (ix2 r j)) (b (ix2 r j)) (c (ix2 r j)) (d (ix2 r j))) := by
  rw [← pay4]
  unfold k0_pay7
  pointwise

theorem pay1 (v : FVec Ideal S256x836 .f32) : k0_pay1 (F := Ideal) v (ix3 0 r j) = v (ix2 r j) := by
  unfold k0_pay1
  pointwise

theorem bc1 : Named.named (F := Ideal) κ "bc1" (φ := .f32) 0x3FC48605#32 = ((8388608 / 5463681 : ℝ) : EReal) :=
  IdealRules.named_const.ideal_named_scalar _ _ _ _ rfl
theorem bc2 : Named.named (F := Ideal) κ "bc2" (φ := .f32) 0x42C8E6D3#32 = ((268435456 / 2672307 : ℝ) : EReal) :=
  IdealRules.named_const.ideal_named_scalar _ _ _ _ rfl

theorem pay2 (u v : FVec Ideal S256x836 .f32) : k0_pay2 (F := Ideal) u v w (ix3 0 r j)
    = Adam.step (Ideal.div (u (ix2 r j)) (Ideal.ofBits .f32 0x3F26BD02#32)) (Ideal.div (v (ix2 r j)) (Ideal.ofBits .f32 0x3C231ACC#32)) (w (ix3 0 r j)) := by
  rw [← Adam.div_fst, ← Adam.div_snd]
  unfold k0_pay2 Adam.step
  rw [bc1, bc2]
  pointwise

theorem pay8 (x4 x5 x6 : Vec Ideal S1x256x836 .f32) : k0_pay8 (F := Ideal) i a b c d x4 x5 x6 = k0_pay5 i a b c d x6 := by
  unfold k0_pay8
  rw [View.ld_unit_zero (S := S256x836) (by decide) _ a, View.ld_unit_zero (S := S256x836) (by decide) _ b,
    View.ld_unit_zero (S := S256x836) (by decide) _ c, View.ld_unit_zero (S := S256x836) (by decide) _ d,
    View.ld_unit_zero (S := S1x256x836) (by decide) _ x6]

theorem pay1_snd (x4 x5 x6 : Vec Ideal S1x256x836 .f32) : k0_pay1 (F := Ideal) (k0_pay8 i a b c d x4 x5 x6) (ix3 0 r j)
    = Adam.snd (x6 (ix3 0 r j)) (Adam.grad (i 0).val (a (ix2 r j)) (b (ix2 r j)) (c (ix2 r j)) (d (ix2 r j))) := by
  rw [pay1, pay8, pay5]

theorem pay2_delta (x4 x5 x6 : Vec Ideal S1x256x836 .f32) :
    k0_pay2 (F := Ideal) (k0_pay4 i a b c d x5) (k0_pay8 i a b c d x4 x5 x6) x4 (ix3 0 r j)
    = Adam.delta (x4 (ix3 0 r j)) (Adam.grad (i 0).val (a (ix2 r j)) (b (ix2 r j)) (c (ix2 r j)) (d (ix2 r j)))
        (x5 (ix3 0 r j)) (x6 (ix3 0 r j)) := by
  rw [pay2, pay8, pay5, pay4]
  rfl

end pay

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val % 4, 0] := (by decide +kernel : ∀ t : Fin grid0.N, _)
theorem e3 : ∀ t : Fin cfg0.N, win0_3.index t = ![t.val % 4, 0] := (by decide +kernel : ∀ t : Fin grid0.N, _)
theorem e4 : ∀ t : Fin cfg0.N, win0_4.index t = ![t.val / 4, t.val % 4, 0] := (by decide +kernel : ∀ t : Fin grid0.N, _)
theorem e5 : ∀ t : Fin cfg0.N, win0_5.index t = ![t.val / 4, t.val % 4, 0] := (by decide +kernel : ∀ t : Fin grid0.N, _)
theorem e6 : ∀ t : Fin cfg0.N, win0_6.index t = ![t.val / 4, t.val % 4, 0] := (by decide +kernel : ∀ t : Fin grid0.N, _)
theorem e7 : ∀ t : Fin cfg0.N, win0_7.index t = ![t.val / 4, t.val % 4, 0] := (by decide +kernel : ∀ t : Fin grid0.N, _)
theorem e8 : ∀ t : Fin cfg0.N, win0_8.index t = ![t.val / 4, t.val % 4, 0] := (by decide +kernel : ∀ t : Fin grid0.N, _)
theorem e9 : ∀ t : Fin cfg0.N, win0_9.index t = ![t.val / 4, t.val % 4, 0] := (by decide +kernel : ∀ t : Fin grid0.N, _)
theorem e10 : ∀ t : Fin cfg0.N, win0_10.index t = ![t.val / 4, t.val % 4, 0] := (by decide +kernel : ∀ t : Fin grid0.N, _)
theorem lay : ∀ t : Fin cfg0.N, (grid0.coords t 0).val = t.val / 4 := (by decide +kernel : ∀ t : Fin grid0.N, _)

set_option maxHeartbeats 1000000 in
theorem final7 (c : Dev nD) : (dats m 0 c).arrAt 7 cfg0.N = grad (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]; frame_out
  have hy : y = ix3 0 (y 1) (y 2) := by blk_ext
  refine (congrArg _ hy).trans ((pay6 _ _ _ _ _ _ _).trans ?_)
  unfold grad
  rw [← V_main_arg0 m c, ← V_main_arg1 m c, ← V_main_arg2 m c, ← V_main_arg3 m c, lay]
  congr 1 <;> blk_ext [iblk, e0, e1, e2, e3, e7]

set_option maxHeartbeats 1000000 in
theorem final9 (c : Dev nD) : (dats m 0 c).arrAt 9 cfg0.N = fst (grad (m ((c : Thread nD τ).loc main_arg0)) (m ((c : Thread nD τ).loc main_arg1))
    (m ((c : Thread nD τ).loc main_arg2)) (m ((c : Thread nD τ).loc main_arg3))) (m ((c : Thread nD τ).loc main_arg5)) := by
  refine (dats m 0 c).arrAt_eq_of_covers 9 _ (by decide +kernel) fun t hf y => ?_
  blk_simp
  rw [after0_9]; frame_out
  have hy : y = ix3 0 (y 1) (y 2) := by blk_ext
  refine (congrArg _ hy).trans ((pay7 _ _ _ _ _ _ _ _).trans ?_)
  unfold fst grad
  rw [← V_main_arg0 m c, ← V_main_arg1 m c, ← V_main_arg2 m c, ← V_main_arg3 m c, ← V_main_arg5 m c, lay]
  refine congrArg₂ Adam.fst ?_ ?_
  · blk_ext [iblk, e5, e9]
  · congr 1 <;> blk_ext [iblk, e0, e1, e2, e3, e9]

set_option maxHeartbeats 1000000 in
theorem final10 (c : Dev nD) : (dats m 0 c).arrAt 10 cfg0.N = snd (grad (m ((c : Thread nD τ).loc main_arg0)) (m ((c : Thread nD τ).loc main_arg1))
    (m ((c : Thread nD τ).loc main_arg2)) (m ((c : Thread nD τ).loc main_arg3))) (m ((c : Thread nD τ).loc main_arg6)) := by
  refine (dats m 0 c).arrAt_eq_of_covers 10 _ (by decide +kernel) fun t hf y => ?_
  blk_simp
  rw [after0_10]; frame_out
  have hy : y = ix3 0 (y 1) (y 2) := by blk_ext
  refine (congrArg _ hy).trans ((pay1_snd _ _ _ _ _ _ _ _ _ _).trans ?_)
  unfold snd grad
  rw [← V_main_arg0 m c, ← V_main_arg1 m c, ← V_main_arg2 m c, ← V_main_arg3 m c, ← V_main_arg6 m c, lay]
  refine congrArg₂ Adam.snd ?_ ?_
  · blk_ext [iblk, e6, e10]
  · congr 1 <;> blk_ext [iblk, e0, e1, e2, e3, e10]

set_option maxHeartbeats 1000000 in
theorem final8 (c : Dev nD) : (dats m 0 c).arrAt 8 cfg0.N = delta (grad (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]; frame_out
  have hy : y = ix3 0 (y 1) (y 2) := by blk_ext
  refine (congrArg _ hy).trans ((pay2_delta _ _ _ _ _ _ _ _ _ _).trans ?_)
  unfold delta grad
  rw [← V_main_arg0 m c, ← V_main_arg1 m c, ← V_main_arg2 m c, ← V_main_arg3 m c, ← V_main_arg4 m c, ← V_main_arg5 m c, ← V_main_arg6 m c, lay]
  refine Adam.delta_congr ?_ ?_ ?_ ?_
  · blk_ext [iblk, e4, e8]
  · congr 1 <;> blk_ext [iblk, e0, e1, e2, e3, e8]
  · blk_ext [iblk, e5, e8]
  · blk_ext [iblk, e6, e8]

section ref

variable (a b c d : Vec Ideal S1024x836 .f32) (w m v : Vec Ideal S2x1024x836 .f32)

theorem ref4 : AdamInRefIdeal.Read.val_main_v4 (F := Ideal) a b c d = grad a b c d := by
  funext i
  have hi : i = ix3 (i 0) (i 1) (i 2) := by blk_ext
  rw [hi]
  unfold AdamInRefIdeal.Read.val_main_v4 AdamInRefIdeal.Read.val_main_v3 AdamInRefIdeal.Read.val_main_v2 AdamInRefIdeal.Read.val_main_v1 AdamInRefIdeal.Read.val_main_v0 grad Adam.grad
  generalize i 0 = l
  fin_cases l <;> pointwise

theorem ref9 : AdamInRefIdeal.Read.val_main_v9 (F := Ideal) a b c d m = fst (grad a b c d) m := by
  unfold AdamInRefIdeal.Read.val_main_v9 AdamInRefIdeal.Read.val_main_v8 AdamInRefIdeal.Read.val_main_v7 AdamInRefIdeal.Read.val_main_cst_0 AdamInRefIdeal.Read.val_main_v6 AdamInRefIdeal.Read.val_main_v5 AdamInRefIdeal.Read.val_main_cst
  rw [ref4]
  generalize grad a b c d = g
  funext i
  unfold fst Adam.fst
  pointwise

theorem ref15 : AdamInRefIdeal.Read.val_main_v15 (F := Ideal) a b c d v = snd (grad a b c d) v := by
  unfold AdamInRefIdeal.Read.val_main_v15 AdamInRefIdeal.Read.val_main_v14 AdamInRefIdeal.Read.val_main_v13 AdamInRefIdeal.Read.val_main_cst_2
    AdamInRefIdeal.Read.val_main_v12 AdamInRefIdeal.Read.val_main_v11 AdamInRefIdeal.Read.val_main_v10 AdamInRefIdeal.Read.val_main_cst_1
  rw [ref4]
  generalize grad a b c d = g
  funext i
  unfold snd Adam.snd
  pointwise

theorem ref28 : AdamInRefIdeal.Read.val_main_v28 (F := Ideal) a b c d w m v = delta (grad a b c d) w m v := by
  unfold AdamInRefIdeal.Read.val_main_v28 AdamInRefIdeal.Read.val_main_v27 AdamInRefIdeal.Read.val_main_cst_7
    AdamInRefIdeal.Read.val_main_v26 AdamInRefIdeal.Read.val_main_v25 AdamInRefIdeal.Read.val_main_v24 AdamInRefIdeal.Read.val_main_cst_6
    AdamInRefIdeal.Read.val_main_v23 AdamInRefIdeal.Read.val_main_v22 AdamInRefIdeal.Read.val_main_v21 AdamInRefIdeal.Read.val_main_cst_5
    AdamInRefIdeal.Read.val_main_v20 AdamInRefIdeal.Read.val_main_v19 AdamInRefIdeal.Read.val_main_v18 AdamInRefIdeal.Read.val_main_cst_4
    AdamInRefIdeal.Read.val_main_v17 AdamInRefIdeal.Read.val_main_v16 AdamInRefIdeal.Read.val_main_cst_3
  rw [ref9, ref15]
  generalize grad a b c d = g
  funext i
  unfold delta Adam.delta Adam.step fst snd
  pointwise [Ideal.hostUnary_sqrt_def]

end ref

theorem args (a b c d a' b' c' d' : Vec Ideal S1024x836 .f32) (w m v w' m' v' : Vec Ideal S2x1024x836 .f32)
    (ha : a = a') (hb : b = b') (hc : c = c') (hd : d = d') (hw : w = w') (hm : m = m') (hv : v = v') :
    grad a b c d = grad a' b' c' d' ∧ delta (grad a b c d) w m v = delta (grad a' b' c' d') w' m' v'
      ∧ fst (grad a b c d) m = fst (grad a' b' c' d') m' ∧ snd (grad a b c d) v = snd (grad a' b' c' d') v' := by
  subst ha hb hc hd hw hm hv; exact ⟨rfl, rfl, rfl, rfl⟩

/-- The kernel's results are the reference's, from equal arguments. -/
theorem algebraic : Cert.algebraic_AdamInIdeal_AdamInRefIdeal (hAdamInIdeal := Cert.AdamInIdeal.Gen.facts)
    (hAdamInRefIdeal := Cert.AdamInRefIdeal.Gen.facts) := by
  intro m g m' g' _ hargs
  refine ⟨fun c => grad (m ((c : Thread nD τ).loc main_arg0)) (m ((c : Thread nD τ).loc main_arg1))
    (m ((c : Thread nD τ).loc main_arg2)) (m ((c : Thread nD τ).loc main_arg3)),
    fun c => delta (grad (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5)) (m ((c : Thread nD τ).loc main_arg6)),
    fun c => fst (grad (m ((c : Thread nD τ).loc main_arg0)) (m ((c : Thread nD τ).loc main_arg1))
    (m ((c : Thread nD τ).loc main_arg2)) (m ((c : Thread nD τ).loc main_arg3))) (m ((c : Thread nD τ).loc main_arg5)),
    fun c => snd (grad (m ((c : Thread nD τ).loc main_arg0)) (m ((c : Thread nD τ).loc main_arg1))
    (m ((c : Thread nD τ).loc main_arg2)) (m ((c : Thread nD τ).loc main_arg3))) (m ((c : Thread nD τ).loc main_arg6)), ?_, ?_⟩
  · refine (θ_run (Cert.AdamInIdeal.defs (F := Ideal)) _ _).mono (fun r h c => ?_) (Cert.AdamInIdeal.Value.run_blocks (F := Ideal) m g)
    obtain ⟨h7, h8, h9, h10, hk⟩ := h c
    exact ⟨h7.trans (final7 m c), h8.trans (final8 m c), h9.trans (final9 m c), h10.trans (final10 m c), hk⟩
  · refine (θ_run (Cert.AdamInRefIdeal.defs (F := Ideal)) _ _).mono (fun r h c => ?_) (Cert.AdamInRefIdeal.Value.run (F := Ideal) m' g')
    obtain ⟨h4, h28, h9, h15, hk⟩ := h c
    obtain ⟨a0, a1, a2, a3, a4, a5, a6⟩ := hargs c
    obtain ⟨pg, pd, pf, ps⟩ := args _ _ _ _ _ _ _ _ _ _ _ _ _ _ a0 a1 a2 a3 a4 a5 a6
    exact ⟨h4.trans ((Cert.AdamInRefIdeal.Read.val_main_v4_eq _ _ _ _).trans ((ref4 _ _ _ _).trans pg)),
      h28.trans ((Cert.AdamInRefIdeal.Read.val_main_v28_eq _ _ _ _ _ _ _).trans ((ref28 _ _ _ _ _ _ _).trans pd)),
      h9.trans ((Cert.AdamInRefIdeal.Read.val_main_v9_eq _ _ _ _ _).trans ((ref9 _ _ _ _ _).trans pf)),
      h15.trans ((Cert.AdamInRefIdeal.Read.val_main_v15_eq _ _ _ _ _).trans ((ref15 _ _ _ _ _).trans ps)), hk⟩

end Cert.AdamInIdeal.Mm

end
-- ==== Proof.AdamOut.lean ====
/- AdamW on the output projection's weights, both layers: each layer's gradient is the sum of its two parts. -/
module

public import proofs.«01_k».proof.Proof.Gen.AdamOutIdeal.Value
public import proofs.«01_k».proof.Proof.Gen.AdamOutRefIdeal.Read
public import proofs.«01_k».proof.Proof.Gen.AdamOutRefIdeal.Run
public import proofs.«01_k».proof.Proof.Adam
public import proofs.«01_k».proof.Defs
public import Idealize.ShloMosaic.Lib.Pipeline.ValueKit
public import Idealize.ShloMosaic.Lib.Pointwise

@[expose] public section

set_option maxRecDepth 20000

noncomputable section

namespace Cert.AdamOutIdeal.Mm

open Cert.AdamOutIdeal Cert.AdamOutIdeal.Gen Idealize.ShloMosaic Idealize.ShloMosaic.TcCoe Idealize.SL.Sem

/-- The named constants are the reciprocals of the corrections. -/
theorem preserves : Cert.preserves_AdamOut_AdamOutIdeal :=
  ⟨IdealRules.named_const.statement Cert.AdamOutIdeal.κ "bc1" .f32 0x3FC48605#32 ((8388608 / 5463681 : ℝ) : EReal) rfl,
    IdealRules.named_const.statement Cert.AdamOutIdeal.κ "bc2" .f32 0x42C8E6D3#32 ((268435456 / 2672307 : ℝ) : EReal) rfl⟩

/-- The gradients: per layer, the sum of the two parts. -/
def grad (a b c d : Vec Ideal S384x1024 .f32) : Vec Ideal S2x384x1024 .f32 :=
  fun i => Adam.grad (i 0).val (a (ix2 (i 1) (i 2))) (b (ix2 (i 1) (i 2))) (c (ix2 (i 1) (i 2))) (d (ix2 (i 1) (i 2)))
/-- The new first moments. -/
def fst (g m : Vec Ideal S2x384x1024 .f32) : Vec Ideal S2x384x1024 .f32 := fun i => Adam.fst (m i) (g i)
/-- The new second moments. -/
def snd (g v : Vec Ideal S2x384x1024 .f32) : Vec Ideal S2x384x1024 .f32 := fun i => Adam.snd (v i) (g i)
/-- The weights' changes. -/
def delta (g w m v : Vec Ideal S2x384x1024 .f32) : Vec Ideal S2x384x1024 .f32 := fun i => Adam.delta (w i) (g i) (m i) (v i)

section pay

variable (i : grid0.Coords) (a b c d : Vec Ideal S192x1024 .f32) (w x : Vec Ideal S1x192x1024 .f32) (r : Fin 192) (j : Fin 1024)

theorem pay3 : k0_pay3 (F := Ideal) i a b c d (ix2 r j)
    = Adam.grad (i 0).val (a (ix2 r j)) (b (ix2 r j)) (c (ix2 r j)) (d (ix2 r j)) := by
  have hk : (i 0).val < 2 := (i 0).isLt
  unfold k0_pay3 Adam.grad
  dsimp only
  generalize (i 0).val = k at hk ⊢
  interval_cases k <;> rfl

theorem pay4 : k0_pay4 (F := Ideal) i a b c d x (ix2 r j)
    = Adam.fst (x (ix3 0 r j)) (Adam.grad (i 0).val (a (ix2 r j)) (b (ix2 r j)) (c (ix2 r j)) (d (ix2 r j))) := by
  rw [← pay3]
  unfold k0_pay4 Adam.fst
  pointwise

theorem pay5 : k0_pay5 (F := Ideal) i a b c d x (ix2 r j)
    = Adam.snd (x (ix3 0 r j)) (Adam.grad (i 0).val (a (ix2 r j)) (b (ix2 r j)) (c (ix2 r j)) (d (ix2 r j))) := by
  rw [← pay3]
  unfold k0_pay5 Adam.snd
  pointwise

theorem pay6 : k0_pay6 (F := Ideal) i a b c d (ix3 0 r j)
    = Adam.grad (i 0).val (a (ix2 r j)) (b (ix2 r j)) (c (ix2 r j)) (d (ix2 r j)) := by
  rw [← pay3]
  unfold k0_pay6
  pointwise

theorem pay7 : k0_pay7 (F := Ideal) i a b c d x (ix3 0 r j)
    = Adam.fst (x (ix3 0 r j)) (Adam.grad (i 0).val (a (ix2 r j)) (b (ix2 r j)) (c (ix2 r j)) (d (ix2 r j))) := by
  rw [← pay4]
  unfold k0_pay7
  pointwise

theorem pay1 (v : FVec Ideal S192x1024 .f32) : k0_pay1 (F := Ideal) v (ix3 0 r j) = v (ix2 r j) := by
  unfold k0_pay1
  pointwise

theorem bc1 : Named.named (F := Ideal) κ "bc1" (φ := .f32) 0x3FC48605#32 = ((8388608 / 5463681 : ℝ) : EReal) :=
  IdealRules.named_const.ideal_named_scalar _ _ _ _ rfl
theorem bc2 : Named.named (F := Ideal) κ "bc2" (φ := .f32) 0x42C8E6D3#32 = ((268435456 / 2672307 : ℝ) : EReal) :=
  IdealRules.named_const.ideal_named_scalar _ _ _ _ rfl

theorem pay2 (u v : FVec Ideal S192x1024 .f32) : k0_pay2 (F := Ideal) u v w (ix3 0 r j)
    = Adam.step (Ideal.div (u (ix2 r j)) (Ideal.ofBits .f32 0x3F26BD02#32)) (Ideal.div (v (ix2 r j)) (Ideal.ofBits .f32 0x3C231ACC#32)) (w (ix3 0 r j)) := by
  rw [← Adam.div_fst, ← Adam.div_snd]
  unfold k0_pay2 Adam.step
  rw [bc1, bc2]
  pointwise

theorem pay8 (x4 x5 x6 : Vec Ideal S1x192x1024 .f32) : k0_pay8 (F := Ideal) i a b c d x4 x5 x6 = k0_pay5 i a b c d x6 := by
  unfold k0_pay8
  rw [View.ld_unit_zero (S := S192x1024) (by decide) _ a, View.ld_unit_zero (S := S192x1024) (by decide) _ b,
    View.ld_unit_zero (S := S192x1024) (by decide) _ c, View.ld_unit_zero (S := S192x1024) (by decide) _ d,
    View.ld_unit_zero (S := S1x192x1024) (by decide) _ x6]

theorem pay1_snd (x4 x5 x6 : Vec Ideal S1x192x1024 .f32) : k0_pay1 (F := Ideal) (k0_pay8 i a b c d x4 x5 x6) (ix3 0 r j)
    = Adam.snd (x6 (ix3 0 r j)) (Adam.grad (i 0).val (a (ix2 r j)) (b (ix2 r j)) (c (ix2 r j)) (d (ix2 r j))) := by
  rw [pay1, pay8, pay5]

theorem pay2_delta (x4 x5 x6 : Vec Ideal S1x192x1024 .f32) :
    k0_pay2 (F := Ideal) (k0_pay4 i a b c d x5) (k0_pay8 i a b c d x4 x5 x6) x4 (ix3 0 r j)
    = Adam.delta (x4 (ix3 0 r j)) (Adam.grad (i 0).val (a (ix2 r j)) (b (ix2 r j)) (c (ix2 r j)) (d (ix2 r j)))
        (x5 (ix3 0 r j)) (x6 (ix3 0 r j)) := by
  rw [pay2, pay8, pay5, pay4]
  rfl

end pay

variable (m : (ℓ : Loc nD τ sig) → Buf (Elt Ideal) ℓ)

theorem e0 : ∀ t : Fin cfg0.N, win0_0.index t = ![t.val % 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val % 2, 0] := (by decide +kernel : ∀ t : Fin grid0.N, _)
theorem e3 : ∀ t : Fin cfg0.N, win0_3.index t = ![t.val % 2, 0] := (by decide +kernel : ∀ t : Fin grid0.N, _)
theorem e4 : ∀ t : Fin cfg0.N, win0_4.index t = ![t.val / 2, t.val % 2, 0] := (by decide +kernel : ∀ t : Fin grid0.N, _)
theorem e5 : ∀ t : Fin cfg0.N, win0_5.index t = ![t.val / 2, t.val % 2, 0] := (by decide +kernel : ∀ t : Fin grid0.N, _)
theorem e6 : ∀ t : Fin cfg0.N, win0_6.index t = ![t.val / 2, t.val % 2, 0] := (by decide +kernel : ∀ t : Fin grid0.N, _)
theorem e7 : ∀ t : Fin cfg0.N, win0_7.index t = ![t.val / 2, t.val % 2, 0] := (by decide +kernel : ∀ t : Fin grid0.N, _)
theorem e8 : ∀ t : Fin cfg0.N, win0_8.index t = ![t.val / 2, t.val % 2, 0] := (by decide +kernel : ∀ t : Fin grid0.N, _)
theorem e9 : ∀ t : Fin cfg0.N, win0_9.index t = ![t.val / 2, t.val % 2, 0] := (by decide +kernel : ∀ t : Fin grid0.N, _)
theorem e10 : ∀ t : Fin cfg0.N, win0_10.index t = ![t.val / 2, t.val % 2, 0] := (by decide +kernel : ∀ t : Fin grid0.N, _)
theorem lay : ∀ t : Fin cfg0.N, (grid0.coords t 0).val = t.val / 2 := (by decide +kernel : ∀ t : Fin grid0.N, _)

set_option maxHeartbeats 1000000 in
theorem final7 (c : Dev nD) : (dats m 0 c).arrAt 7 cfg0.N = grad (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]; frame_out
  have hy : y = ix3 0 (y 1) (y 2) := by blk_ext
  refine (congrArg _ hy).trans ((pay6 _ _ _ _ _ _ _).trans ?_)
  unfold grad
  rw [← V_main_arg0 m c, ← V_main_arg1 m c, ← V_main_arg2 m c, ← V_main_arg3 m c, lay]
  congr 1 <;> blk_ext [iblk, e0, e1, e2, e3, e7]

set_option maxHeartbeats 1000000 in
theorem final9 (c : Dev nD) : (dats m 0 c).arrAt 9 cfg0.N = fst (grad (m ((c : Thread nD τ).loc main_arg0)) (m ((c : Thread nD τ).loc main_arg1))
    (m ((c : Thread nD τ).loc main_arg2)) (m ((c : Thread nD τ).loc main_arg3))) (m ((c : Thread nD τ).loc main_arg5)) := by
  refine (dats m 0 c).arrAt_eq_of_covers 9 _ (by decide +kernel) fun t hf y => ?_
  blk_simp
  rw [after0_9]; frame_out
  have hy : y = ix3 0 (y 1) (y 2) := by blk_ext
  refine (congrArg _ hy).trans ((pay7 _ _ _ _ _ _ _ _).trans ?_)
  unfold fst grad
  rw [← V_main_arg0 m c, ← V_main_arg1 m c, ← V_main_arg2 m c, ← V_main_arg3 m c, ← V_main_arg5 m c, lay]
  refine congrArg₂ Adam.fst ?_ ?_
  · blk_ext [iblk, e5, e9]
  · congr 1 <;> blk_ext [iblk, e0, e1, e2, e3, e9]

set_option maxHeartbeats 1000000 in
theorem final10 (c : Dev nD) : (dats m 0 c).arrAt 10 cfg0.N = snd (grad (m ((c : Thread nD τ).loc main_arg0)) (m ((c : Thread nD τ).loc main_arg1))
    (m ((c : Thread nD τ).loc main_arg2)) (m ((c : Thread nD τ).loc main_arg3))) (m ((c : Thread nD τ).loc main_arg6)) := by
  refine (dats m 0 c).arrAt_eq_of_covers 10 _ (by decide +kernel) fun t hf y => ?_
  blk_simp
  rw [after0_10]; frame_out
  have hy : y = ix3 0 (y 1) (y 2) := by blk_ext
  refine (congrArg _ hy).trans ((pay1_snd _ _ _ _ _ _ _ _ _ _).trans ?_)
  unfold snd grad
  rw [← V_main_arg0 m c, ← V_main_arg1 m c, ← V_main_arg2 m c, ← V_main_arg3 m c, ← V_main_arg6 m c, lay]
  refine congrArg₂ Adam.snd ?_ ?_
  · blk_ext [iblk, e6, e10]
  · congr 1 <;> blk_ext [iblk, e0, e1, e2, e3, e10]

set_option maxHeartbeats 1000000 in
theorem final8 (c : Dev nD) : (dats m 0 c).arrAt 8 cfg0.N = delta (grad (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]; frame_out
  have hy : y = ix3 0 (y 1) (y 2) := by blk_ext
  refine (congrArg _ hy).trans ((pay2_delta _ _ _ _ _ _ _ _ _ _).trans ?_)
  unfold delta grad
  rw [← V_main_arg0 m c, ← V_main_arg1 m c, ← V_main_arg2 m c, ← V_main_arg3 m c, ← V_main_arg4 m c, ← V_main_arg5 m c, ← V_main_arg6 m c, lay]
  refine Adam.delta_congr ?_ ?_ ?_ ?_
  · blk_ext [iblk, e4, e8]
  · congr 1 <;> blk_ext [iblk, e0, e1, e2, e3, e8]
  · blk_ext [iblk, e5, e8]
  · blk_ext [iblk, e6, e8]

section ref

variable (a b c d : Vec Ideal S384x1024 .f32) (w m v : Vec Ideal S2x384x1024 .f32)

theorem ref4 : AdamOutRefIdeal.Read.val_main_v4 (F := Ideal) a b c d = grad a b c d := by
  funext i
  have hi : i = ix3 (i 0) (i 1) (i 2) := by blk_ext
  rw [hi]
  unfold AdamOutRefIdeal.Read.val_main_v4 AdamOutRefIdeal.Read.val_main_v3 AdamOutRefIdeal.Read.val_main_v2 AdamOutRefIdeal.Read.val_main_v1 AdamOutRefIdeal.Read.val_main_v0 grad Adam.grad
  generalize i 0 = l
  fin_cases l <;> pointwise

theorem ref9 : AdamOutRefIdeal.Read.val_main_v9 (F := Ideal) a b c d m = fst (grad a b c d) m := by
  unfold AdamOutRefIdeal.Read.val_main_v9 AdamOutRefIdeal.Read.val_main_v8 AdamOutRefIdeal.Read.val_main_v7 AdamOutRefIdeal.Read.val_main_cst_0 AdamOutRefIdeal.Read.val_main_v6 AdamOutRefIdeal.Read.val_main_v5 AdamOutRefIdeal.Read.val_main_cst
  rw [ref4]
  generalize grad a b c d = g
  funext i
  unfold fst Adam.fst
  pointwise

theorem ref15 : AdamOutRefIdeal.Read.val_main_v15 (F := Ideal) a b c d v = snd (grad a b c d) v := by
  unfold AdamOutRefIdeal.Read.val_main_v15 AdamOutRefIdeal.Read.val_main_v14 AdamOutRefIdeal.Read.val_main_v13 AdamOutRefIdeal.Read.val_main_cst_2
    AdamOutRefIdeal.Read.val_main_v12 AdamOutRefIdeal.Read.val_main_v11 AdamOutRefIdeal.Read.val_main_v10 AdamOutRefIdeal.Read.val_main_cst_1
  rw [ref4]
  generalize grad a b c d = g
  funext i
  unfold snd Adam.snd
  pointwise

theorem ref28 : AdamOutRefIdeal.Read.val_main_v28 (F := Ideal) a b c d w m v = delta (grad a b c d) w m v := by
  unfold AdamOutRefIdeal.Read.val_main_v28 AdamOutRefIdeal.Read.val_main_v27 AdamOutRefIdeal.Read.val_main_cst_7
    AdamOutRefIdeal.Read.val_main_v26 AdamOutRefIdeal.Read.val_main_v25 AdamOutRefIdeal.Read.val_main_v24 AdamOutRefIdeal.Read.val_main_cst_6
    AdamOutRefIdeal.Read.val_main_v23 AdamOutRefIdeal.Read.val_main_v22 AdamOutRefIdeal.Read.val_main_v21 AdamOutRefIdeal.Read.val_main_cst_5
    AdamOutRefIdeal.Read.val_main_v20 AdamOutRefIdeal.Read.val_main_v19 AdamOutRefIdeal.Read.val_main_v18 AdamOutRefIdeal.Read.val_main_cst_4
    AdamOutRefIdeal.Read.val_main_v17 AdamOutRefIdeal.Read.val_main_v16 AdamOutRefIdeal.Read.val_main_cst_3
  rw [ref9, ref15]
  generalize grad a b c d = g
  funext i
  unfold delta Adam.delta Adam.step fst snd
  pointwise [Ideal.hostUnary_sqrt_def]

end ref

theorem args (a b c d a' b' c' d' : Vec Ideal S384x1024 .f32) (w m v w' m' v' : Vec Ideal S2x384x1024 .f32)
    (ha : a = a') (hb : b = b') (hc : c = c') (hd : d = d') (hw : w = w') (hm : m = m') (hv : v = v') :
    grad a b c d = grad a' b' c' d' ∧ delta (grad a b c d) w m v = delta (grad a' b' c' d') w' m' v'
      ∧ fst (grad a b c d) m = fst (grad a' b' c' d') m' ∧ snd (grad a b c d) v = snd (grad a' b' c' d') v' := by
  subst ha hb hc hd hw hm hv; exact ⟨rfl, rfl, rfl, rfl⟩

/-- The kernel's results are the reference's, from equal arguments. -/
theorem algebraic : Cert.algebraic_AdamOutIdeal_AdamOutRefIdeal (hAdamOutIdeal := Cert.AdamOutIdeal.Gen.facts)
    (hAdamOutRefIdeal := Cert.AdamOutRefIdeal.Gen.facts) := by
  intro m g m' g' _ hargs
  refine ⟨fun c => grad (m ((c : Thread nD τ).loc main_arg0)) (m ((c : Thread nD τ).loc main_arg1))
    (m ((c : Thread nD τ).loc main_arg2)) (m ((c : Thread nD τ).loc main_arg3)),
    fun c => delta (grad (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5)) (m ((c : Thread nD τ).loc main_arg6)),
    fun c => fst (grad (m ((c : Thread nD τ).loc main_arg0)) (m ((c : Thread nD τ).loc main_arg1))
    (m ((c : Thread nD τ).loc main_arg2)) (m ((c : Thread nD τ).loc main_arg3))) (m ((c : Thread nD τ).loc main_arg5)),
    fun c => snd (grad (m ((c : Thread nD τ).loc main_arg0)) (m ((c : Thread nD τ).loc main_arg1))
    (m ((c : Thread nD τ).loc main_arg2)) (m ((c : Thread nD τ).loc main_arg3))) (m ((c : Thread nD τ).loc main_arg6)), ?_, ?_⟩
  · refine (θ_run (Cert.AdamOutIdeal.defs (F := Ideal)) _ _).mono (fun r h c => ?_) (Cert.AdamOutIdeal.Value.run_blocks (F := Ideal) m g)
    obtain ⟨h7, h8, h9, h10, hk⟩ := h c
    exact ⟨h7.trans (final7 m c), h8.trans (final8 m c), h9.trans (final9 m c), h10.trans (final10 m c), hk⟩
  · refine (θ_run (Cert.AdamOutRefIdeal.defs (F := Ideal)) _ _).mono (fun r h c => ?_) (Cert.AdamOutRefIdeal.Value.run (F := Ideal) m' g')
    obtain ⟨h4, h28, h9, h15, hk⟩ := h c
    obtain ⟨a0, a1, a2, a3, a4, a5, a6⟩ := hargs c
    obtain ⟨pg, pd, pf, ps⟩ := args _ _ _ _ _ _ _ _ _ _ _ _ _ _ a0 a1 a2 a3 a4 a5 a6
    exact ⟨h4.trans ((Cert.AdamOutRefIdeal.Read.val_main_v4_eq _ _ _ _).trans ((ref4 _ _ _ _).trans pg)),
      h28.trans ((Cert.AdamOutRefIdeal.Read.val_main_v28_eq _ _ _ _ _ _ _).trans ((ref28 _ _ _ _ _ _ _).trans pd)),
      h9.trans ((Cert.AdamOutRefIdeal.Read.val_main_v9_eq _ _ _ _ _).trans ((ref9 _ _ _ _ _).trans pf)),
      h15.trans ((Cert.AdamOutRefIdeal.Read.val_main_v15_eq _ _ _ _ _).trans ((ref15 _ _ _ _ _).trans ps)), hk⟩

end Cert.AdamOutIdeal.Mm

end
-- ==== Proof.AdamUp.lean ====
/- AdamW on the up projection's weights (and the gate's, of the same shape), both layers: each layer's gradient is the sum of its two parts. -/
module

public import proofs.«01_k».proof.Proof.Gen.AdamUpIdeal.Value
public import proofs.«01_k».proof.Proof.Gen.AdamUpRefIdeal.Read
public import proofs.«01_k».proof.Proof.Gen.AdamUpRefIdeal.Run
public import proofs.«01_k».proof.Proof.Adam
public import proofs.«01_k».proof.Defs
public import Idealize.ShloMosaic.Lib.Pipeline.ValueKit
public import Idealize.ShloMosaic.Lib.Pointwise

@[expose] public section

set_option maxRecDepth 20000

noncomputable section

namespace Cert.AdamUpIdeal.Mm

open Cert.AdamUpIdeal Cert.AdamUpIdeal.Gen Idealize.ShloMosaic Idealize.ShloMosaic.TcCoe Idealize.SL.Sem

/-- The named constants are the reciprocals of the corrections. -/
theorem preserves : Cert.preserves_AdamUp_AdamUpIdeal :=
  ⟨IdealRules.named_const.statement Cert.AdamUpIdeal.κ "bc1" .f32 0x3FC48605#32 ((8388608 / 5463681 : ℝ) : EReal) rfl,
    IdealRules.named_const.statement Cert.AdamUpIdeal.κ "bc2" .f32 0x42C8E6D3#32 ((268435456 / 2672307 : ℝ) : EReal) rfl⟩

/-- The gradients: per layer, the sum of the two parts. -/
def grad (a b c d : Vec Ideal S1024x704 .f32) : Vec Ideal S2x1024x704 .f32 :=
  fun i => Adam.grad (i 0).val (a (ix2 (i 1) (i 2))) (b (ix2 (i 1) (i 2))) (c (ix2 (i 1) (i 2))) (d (ix2 (i 1) (i 2)))
/-- The new first moments. -/
def fst (g m : Vec Ideal S2x1024x704 .f32) : Vec Ideal S2x1024x704 .f32 := fun i => Adam.fst (m i) (g i)
/-- The new second moments. -/
def snd (g v : Vec Ideal S2x1024x704 .f32) : Vec Ideal S2x1024x704 .f32 := fun i => Adam.snd (v i) (g i)
/-- The weights' changes. -/
def delta (g w m v : Vec Ideal S2x1024x704 .f32) : Vec Ideal S2x1024x704 .f32 := fun i => Adam.delta (w i) (g i) (m i) (v i)

section pay

variable (i : grid0.Coords) (a b c d : Vec Ideal S256x704 .f32) (w x : Vec Ideal S1x256x704 .f32) (r : Fin 256) (j : Fin 704)

theorem pay3 : k0_pay3 (F := Ideal) i a b c d (ix2 r j)
    = Adam.grad (i 0).val (a (ix2 r j)) (b (ix2 r j)) (c (ix2 r j)) (d (ix2 r j)) := by
  have hk : (i 0).val < 2 := (i 0).isLt
  unfold k0_pay3 Adam.grad
  dsimp only
  generalize (i 0).val = k at hk ⊢
  interval_cases k <;> rfl

theorem pay4 : k0_pay4 (F := Ideal) i a b c d x (ix2 r j)
    = Adam.fst (x (ix3 0 r j)) (Adam.grad (i 0).val (a (ix2 r j)) (b (ix2 r j)) (c (ix2 r j)) (d (ix2 r j))) := by
  rw [← pay3]
  unfold k0_pay4 Adam.fst
  pointwise

theorem pay5 : k0_pay5 (F := Ideal) i a b c d x (ix2 r j)
    = Adam.snd (x (ix3 0 r j)) (Adam.grad (i 0).val (a (ix2 r j)) (b (ix2 r j)) (c (ix2 r j)) (d (ix2 r j))) := by
  rw [← pay3]
  unfold k0_pay5 Adam.snd
  pointwise

theorem pay6 : k0_pay6 (F := Ideal) i a b c d (ix3 0 r j)
    = Adam.grad (i 0).val (a (ix2 r j)) (b (ix2 r j)) (c (ix2 r j)) (d (ix2 r j)) := by
  rw [← pay3]
  unfold k0_pay6
  pointwise

theorem pay7 : k0_pay7 (F := Ideal) i a b c d x (ix3 0 r j)
    = Adam.fst (x (ix3 0 r j)) (Adam.grad (i 0).val (a (ix2 r j)) (b (ix2 r j)) (c (ix2 r j)) (d (ix2 r j))) := by
  rw [← pay4]
  unfold k0_pay7
  pointwise

theorem pay1 (v : FVec Ideal S256x704 .f32) : k0_pay1 (F := Ideal) v (ix3 0 r j) = v (ix2 r j) := by
  unfold k0_pay1
  pointwise

theorem bc1 : Named.named (F := Ideal) κ "bc1" (φ := .f32) 0x3FC48605#32 = ((8388608 / 5463681 : ℝ) : EReal) :=
  IdealRules.named_const.ideal_named_scalar _ _ _ _ rfl
theorem bc2 : Named.named (F := Ideal) κ "bc2" (φ := .f32) 0x42C8E6D3#32 = ((268435456 / 2672307 : ℝ) : EReal) :=
  IdealRules.named_const.ideal_named_scalar _ _ _ _ rfl

theorem pay2 (u v : FVec Ideal S256x704 .f32) : k0_pay2 (F := Ideal) u v w (ix3 0 r j)
    = Adam.step (Ideal.div (u (ix2 r j)) (Ideal.ofBits .f32 0x3F26BD02#32)) (Ideal.div (v (ix2 r j)) (Ideal.ofBits .f32 0x3C231ACC#32)) (w (ix3 0 r j)) := by
  rw [← Adam.div_fst, ← Adam.div_snd]
  unfold k0_pay2 Adam.step
  rw [bc1, bc2]
  pointwise

theorem pay8 (x4 x5 x6 : Vec Ideal S1x256x704 .f32) : k0_pay8 (F := Ideal) i a b c d x4 x5 x6 = k0_pay5 i a b c d x6 := by
  unfold k0_pay8
  rw [View.ld_unit_zero (S := S256x704) (by decide) _ a, View.ld_unit_zero (S := S256x704) (by decide) _ b,
    View.ld_unit_zero (S := S256x704) (by decide) _ c, View.ld_unit_zero (S := S256x704) (by decide) _ d,
    View.ld_unit_zero (S := S1x256x704) (by decide) _ x6]

theorem pay1_snd (x4 x5 x6 : Vec Ideal S1x256x704 .f32) : k0_pay1 (F := Ideal) (k0_pay8 i a b c d x4 x5 x6) (ix3 0 r j)
    = Adam.snd (x6 (ix3 0 r j)) (Adam.grad (i 0).val (a (ix2 r j)) (b (ix2 r j)) (c (ix2 r j)) (d (ix2 r j))) := by
  rw [pay1, pay8, pay5]

theorem pay2_delta (x4 x5 x6 : Vec Ideal S1x256x704 .f32) :
    k0_pay2 (F := Ideal) (k0_pay4 i a b c d x5) (k0_pay8 i a b c d x4 x5 x6) x4 (ix3 0 r j)
    = Adam.delta (x4 (ix3 0 r j)) (Adam.grad (i 0).val (a (ix2 r j)) (b (ix2 r j)) (c (ix2 r j)) (d (ix2 r j)))
        (x5 (ix3 0 r j)) (x6 (ix3 0 r j)) := by
  rw [pay2, pay8, pay5, pay4]
  rfl

end pay

variable (m : (ℓ : Loc nD τ sig) → Buf (Elt Ideal) ℓ)

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val % 4, 0] := (by decide +kernel : ∀ t : Fin grid0.N, _)
theorem e3 : ∀ t : Fin cfg0.N, win0_3.index t = ![t.val % 4, 0] := (by decide +kernel : ∀ t : Fin grid0.N, _)
theorem e4 : ∀ t : Fin cfg0.N, win0_4.index t = ![t.val / 4, t.val % 4, 0] := (by decide +kernel : ∀ t : Fin grid0.N, _)
theorem e5 : ∀ t : Fin cfg0.N, win0_5.index t = ![t.val / 4, t.val % 4, 0] := (by decide +kernel : ∀ t : Fin grid0.N, _)
theorem e6 : ∀ t : Fin cfg0.N, win0_6.index t = ![t.val / 4, t.val % 4, 0] := (by decide +kernel : ∀ t : Fin grid0.N, _)
theorem e7 : ∀ t : Fin cfg0.N, win0_7.index t = ![t.val / 4, t.val % 4, 0] := (by decide +kernel : ∀ t : Fin grid0.N, _)
theorem e8 : ∀ t : Fin cfg0.N, win0_8.index t = ![t.val / 4, t.val % 4, 0] := (by decide +kernel : ∀ t : Fin grid0.N, _)
theorem e9 : ∀ t : Fin cfg0.N, win0_9.index t = ![t.val / 4, t.val % 4, 0] := (by decide +kernel : ∀ t : Fin grid0.N, _)
theorem e10 : ∀ t : Fin cfg0.N, win0_10.index t = ![t.val / 4, t.val % 4, 0] := (by decide +kernel : ∀ t : Fin grid0.N, _)
theorem lay : ∀ t : Fin cfg0.N, (grid0.coords t 0).val = t.val / 4 := (by decide +kernel : ∀ t : Fin grid0.N, _)

set_option maxHeartbeats 1000000 in
theorem final7 (c : Dev nD) : (dats m 0 c).arrAt 7 cfg0.N = grad (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]; frame_out
  have hy : y = ix3 0 (y 1) (y 2) := by blk_ext
  refine (congrArg _ hy).trans ((pay6 _ _ _ _ _ _ _).trans ?_)
  unfold grad
  rw [← V_main_arg0 m c, ← V_main_arg1 m c, ← V_main_arg2 m c, ← V_main_arg3 m c, lay]
  congr 1 <;> blk_ext [iblk, e0, e1, e2, e3, e7]

set_option maxHeartbeats 1000000 in
theorem final9 (c : Dev nD) : (dats m 0 c).arrAt 9 cfg0.N = fst (grad (m ((c : Thread nD τ).loc main_arg0)) (m ((c : Thread nD τ).loc main_arg1))
    (m ((c : Thread nD τ).loc main_arg2)) (m ((c : Thread nD τ).loc main_arg3))) (m ((c : Thread nD τ).loc main_arg5)) := by
  refine (dats m 0 c).arrAt_eq_of_covers 9 _ (by decide +kernel) fun t hf y => ?_
  blk_simp
  rw [after0_9]; frame_out
  have hy : y = ix3 0 (y 1) (y 2) := by blk_ext
  refine (congrArg _ hy).trans ((pay7 _ _ _ _ _ _ _ _).trans ?_)
  unfold fst grad
  rw [← V_main_arg0 m c, ← V_main_arg1 m c, ← V_main_arg2 m c, ← V_main_arg3 m c, ← V_main_arg5 m c, lay]
  refine congrArg₂ Adam.fst ?_ ?_
  · blk_ext [iblk, e5, e9]
  · congr 1 <;> blk_ext [iblk, e0, e1, e2, e3, e9]

set_option maxHeartbeats 1000000 in
theorem final10 (c : Dev nD) : (dats m 0 c).arrAt 10 cfg0.N = snd (grad (m ((c : Thread nD τ).loc main_arg0)) (m ((c : Thread nD τ).loc main_arg1))
    (m ((c : Thread nD τ).loc main_arg2)) (m ((c : Thread nD τ).loc main_arg3))) (m ((c : Thread nD τ).loc main_arg6)) := by
  refine (dats m 0 c).arrAt_eq_of_covers 10 _ (by decide +kernel) fun t hf y => ?_
  blk_simp
  rw [after0_10]; frame_out
  have hy : y = ix3 0 (y 1) (y 2) := by blk_ext
  refine (congrArg _ hy).trans ((pay1_snd _ _ _ _ _ _ _ _ _ _).trans ?_)
  unfold snd grad
  rw [← V_main_arg0 m c, ← V_main_arg1 m c, ← V_main_arg2 m c, ← V_main_arg3 m c, ← V_main_arg6 m c, lay]
  refine congrArg₂ Adam.snd ?_ ?_
  · blk_ext [iblk, e6, e10]
  · congr 1 <;> blk_ext [iblk, e0, e1, e2, e3, e10]

set_option maxHeartbeats 1000000 in
theorem final8 (c : Dev nD) : (dats m 0 c).arrAt 8 cfg0.N = delta (grad (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]; frame_out
  have hy : y = ix3 0 (y 1) (y 2) := by blk_ext
  refine (congrArg _ hy).trans ((pay2_delta _ _ _ _ _ _ _ _ _ _).trans ?_)
  unfold delta grad
  rw [← V_main_arg0 m c, ← V_main_arg1 m c, ← V_main_arg2 m c, ← V_main_arg3 m c, ← V_main_arg4 m c, ← V_main_arg5 m c, ← V_main_arg6 m c, lay]
  refine Adam.delta_congr ?_ ?_ ?_ ?_
  · blk_ext [iblk, e4, e8]
  · congr 1 <;> blk_ext [iblk, e0, e1, e2, e3, e8]
  · blk_ext [iblk, e5, e8]
  · blk_ext [iblk, e6, e8]

section ref

variable (a b c d : Vec Ideal S1024x704 .f32) (w m v : Vec Ideal S2x1024x704 .f32)

theorem ref4 : AdamUpRefIdeal.Read.val_main_v4 (F := Ideal) a b c d = grad a b c d := by
  funext i
  have hi : i = ix3 (i 0) (i 1) (i 2) := by blk_ext
  rw [hi]
  unfold AdamUpRefIdeal.Read.val_main_v4 AdamUpRefIdeal.Read.val_main_v3 AdamUpRefIdeal.Read.val_main_v2 AdamUpRefIdeal.Read.val_main_v1 AdamUpRefIdeal.Read.val_main_v0 grad Adam.grad
  generalize i 0 = l
  fin_cases l <;> pointwise

theorem ref9 : AdamUpRefIdeal.Read.val_main_v9 (F := Ideal) a b c d m = fst (grad a b c d) m := by
  unfold AdamUpRefIdeal.Read.val_main_v9 AdamUpRefIdeal.Read.val_main_v8 AdamUpRefIdeal.Read.val_main_v7 AdamUpRefIdeal.Read.val_main_cst_0 AdamUpRefIdeal.Read.val_main_v6 AdamUpRefIdeal.Read.val_main_v5 AdamUpRefIdeal.Read.val_main_cst
  rw [ref4]
  generalize grad a b c d = g
  funext i
  unfold fst Adam.fst
  pointwise

theorem ref15 : AdamUpRefIdeal.Read.val_main_v15 (F := Ideal) a b c d v = snd (grad a b c d) v := by
  unfold AdamUpRefIdeal.Read.val_main_v15 AdamUpRefIdeal.Read.val_main_v14 AdamUpRefIdeal.Read.val_main_v13 AdamUpRefIdeal.Read.val_main_cst_2
    AdamUpRefIdeal.Read.val_main_v12 AdamUpRefIdeal.Read.val_main_v11 AdamUpRefIdeal.Read.val_main_v10 AdamUpRefIdeal.Read.val_main_cst_1
  rw [ref4]
  generalize grad a b c d = g
  funext i
  unfold snd Adam.snd
  pointwise

theorem ref28 : AdamUpRefIdeal.Read.val_main_v28 (F := Ideal) a b c d w m v = delta (grad a b c d) w m v := by
  unfold AdamUpRefIdeal.Read.val_main_v28 AdamUpRefIdeal.Read.val_main_v27 AdamUpRefIdeal.Read.val_main_cst_7
    AdamUpRefIdeal.Read.val_main_v26 AdamUpRefIdeal.Read.val_main_v25 AdamUpRefIdeal.Read.val_main_v24 AdamUpRefIdeal.Read.val_main_cst_6
    AdamUpRefIdeal.Read.val_main_v23 AdamUpRefIdeal.Read.val_main_v22 AdamUpRefIdeal.Read.val_main_v21 AdamUpRefIdeal.Read.val_main_cst_5
    AdamUpRefIdeal.Read.val_main_v20 AdamUpRefIdeal.Read.val_main_v19 AdamUpRefIdeal.Read.val_main_v18 AdamUpRefIdeal.Read.val_main_cst_4
    AdamUpRefIdeal.Read.val_main_v17 AdamUpRefIdeal.Read.val_main_v16 AdamUpRefIdeal.Read.val_main_cst_3
  rw [ref9, ref15]
  generalize grad a b c d = g
  funext i
  unfold delta Adam.delta Adam.step fst snd
  pointwise [Ideal.hostUnary_sqrt_def]

end ref

theorem args (a b c d a' b' c' d' : Vec Ideal S1024x704 .f32) (w m v w' m' v' : Vec Ideal S2x1024x704 .f32)
    (ha : a = a') (hb : b = b') (hc : c = c') (hd : d = d') (hw : w = w') (hm : m = m') (hv : v = v') :
    grad a b c d = grad a' b' c' d' ∧ delta (grad a b c d) w m v = delta (grad a' b' c' d') w' m' v'
      ∧ fst (grad a b c d) m = fst (grad a' b' c' d') m' ∧ snd (grad a b c d) v = snd (grad a' b' c' d') v' := by
  subst ha hb hc hd hw hm hv; exact ⟨rfl, rfl, rfl, rfl⟩

/-- The kernel's results are the reference's, from equal arguments. -/
theorem algebraic : Cert.algebraic_AdamUpIdeal_AdamUpRefIdeal (hAdamUpIdeal := Cert.AdamUpIdeal.Gen.facts)
    (hAdamUpRefIdeal := Cert.AdamUpRefIdeal.Gen.facts) := by
  intro m g m' g' _ hargs
  refine ⟨fun c => grad (m ((c : Thread nD τ).loc main_arg0)) (m ((c : Thread nD τ).loc main_arg1))
    (m ((c : Thread nD τ).loc main_arg2)) (m ((c : Thread nD τ).loc main_arg3)),
    fun c => delta (grad (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5)) (m ((c : Thread nD τ).loc main_arg6)),
    fun c => fst (grad (m ((c : Thread nD τ).loc main_arg0)) (m ((c : Thread nD τ).loc main_arg1))
    (m ((c : Thread nD τ).loc main_arg2)) (m ((c : Thread nD τ).loc main_arg3))) (m ((c : Thread nD τ).loc main_arg5)),
    fun c => snd (grad (m ((c : Thread nD τ).loc main_arg0)) (m ((c : Thread nD τ).loc main_arg1))
    (m ((c : Thread nD τ).loc main_arg2)) (m ((c : Thread nD τ).loc main_arg3))) (m ((c : Thread nD τ).loc main_arg6)), ?_, ?_⟩
  · refine (θ_run (Cert.AdamUpIdeal.defs (F := Ideal)) _ _).mono (fun r h c => ?_) (Cert.AdamUpIdeal.Value.run_blocks (F := Ideal) m g)
    obtain ⟨h7, h8, h9, h10, hk⟩ := h c
    exact ⟨h7.trans (final7 m c), h8.trans (final8 m c), h9.trans (final9 m c), h10.trans (final10 m c), hk⟩
  · refine (θ_run (Cert.AdamUpRefIdeal.defs (F := Ideal)) _ _).mono (fun r h c => ?_) (Cert.AdamUpRefIdeal.Value.run (F := Ideal) m' g')
    obtain ⟨h4, h28, h9, h15, hk⟩ := h c
    obtain ⟨a0, a1, a2, a3, a4, a5, a6⟩ := hargs c
    obtain ⟨pg, pd, pf, ps⟩ := args _ _ _ _ _ _ _ _ _ _ _ _ _ _ a0 a1 a2 a3 a4 a5 a6
    exact ⟨h4.trans ((Cert.AdamUpRefIdeal.Read.val_main_v4_eq _ _ _ _).trans ((ref4 _ _ _ _).trans pg)),
      h28.trans ((Cert.AdamUpRefIdeal.Read.val_main_v28_eq _ _ _ _ _ _ _).trans ((ref28 _ _ _ _ _ _ _).trans pd)),
      h9.trans ((Cert.AdamUpRefIdeal.Read.val_main_v9_eq _ _ _ _ _).trans ((ref9 _ _ _ _ _).trans pf)),
      h15.trans ((Cert.AdamUpRefIdeal.Read.val_main_v15_eq _ _ _ _ _).trans ((ref15 _ _ _ _ _).trans ps)), hk⟩

end Cert.AdamUpIdeal.Mm

end
-- ==== Proof.AdamDown.lean ====
/- AdamW on the down projection's weights, both layers: each layer's gradient is the sum of its two parts. -/
module

public import proofs.«01_k».proof.Proof.Gen.AdamDownIdeal.Value
public import proofs.«01_k».proof.Proof.Gen.AdamDownRefIdeal.Read
public import proofs.«01_k».proof.Proof.Gen.AdamDownRefIdeal.Run
public import proofs.«01_k».proof.Proof.Adam
public import proofs.«01_k».proof.Defs
public import Idealize.ShloMosaic.Lib.Pipeline.ValueKit
public import Idealize.ShloMosaic.Lib.Pointwise

@[expose] public section

set_option maxRecDepth 20000

noncomputable section

namespace Cert.AdamDownIdeal.Mm

open Cert.AdamDownIdeal Cert.AdamDownIdeal.Gen Idealize.ShloMosaic Idealize.ShloMosaic.TcCoe Idealize.SL.Sem

/-- The named constants are the reciprocals of the corrections. -/
theorem preserves : Cert.preserves_AdamDown_AdamDownIdeal :=
  ⟨IdealRules.named_const.statement Cert.AdamDownIdeal.κ "bc1" .f32 0x3FC48605#32 ((8388608 / 5463681 : ℝ) : EReal) rfl,
    IdealRules.named_const.statement Cert.AdamDownIdeal.κ "bc2" .f32 0x42C8E6D3#32 ((268435456 / 2672307 : ℝ) : EReal) rfl⟩

/-- The gradients: per layer, the sum of the two parts. -/
def grad (a b c d : Vec Ideal S704x1024 .f32) : Vec Ideal S2x704x1024 .f32 :=
  fun i => Adam.grad (i 0).val (a (ix2 (i 1) (i 2))) (b (ix2 (i 1) (i 2))) (c (ix2 (i 1) (i 2))) (d (ix2 (i 1) (i 2)))
/-- The new first moments. -/
def fst (g m : Vec Ideal S2x704x1024 .f32) : Vec Ideal S2x704x1024 .f32 := fun i => Adam.fst (m i) (g i)
/-- The new second moments. -/
def snd (g v : Vec Ideal S2x704x1024 .f32) : Vec Ideal S2x704x1024 .f32 := fun i => Adam.snd (v i) (g i)
/-- The weights' changes. -/
def delta (g w m v : Vec Ideal S2x704x1024 .f32) : Vec Ideal S2x704x1024 .f32 := fun i => Adam.delta (w i) (g i) (m i) (v i)

section pay

variable (i : grid0.Coords) (a b c d : Vec Ideal S352x1024 .f32) (w x : Vec Ideal S1x352x1024 .f32) (r : Fin 352) (j : Fin 1024)

theorem pay3 : k0_pay3 (F := Ideal) i a b c d (ix2 r j)
    = Adam.grad (i 0).val (a (ix2 r j)) (b (ix2 r j)) (c (ix2 r j)) (d (ix2 r j)) := by
  have hk : (i 0).val < 2 := (i 0).isLt
  unfold k0_pay3 Adam.grad
  dsimp only
  generalize (i 0).val = k at hk ⊢
  interval_cases k <;> rfl

theorem pay4 : k0_pay4 (F := Ideal) i a b c d x (ix2 r j)
    = Adam.fst (x (ix3 0 r j)) (Adam.grad (i 0).val (a (ix2 r j)) (b (ix2 r j)) (c (ix2 r j)) (d (ix2 r j))) := by
  rw [← pay3]
  unfold k0_pay4 Adam.fst
  pointwise

theorem pay5 : k0_pay5 (F := Ideal) i a b c d x (ix2 r j)
    = Adam.snd (x (ix3 0 r j)) (Adam.grad (i 0).val (a (ix2 r j)) (b (ix2 r j)) (c (ix2 r j)) (d (ix2 r j))) := by
  rw [← pay3]
  unfold k0_pay5 Adam.snd
  pointwise

theorem pay6 : k0_pay6 (F := Ideal) i a b c d (ix3 0 r j)
    = Adam.grad (i 0).val (a (ix2 r j)) (b (ix2 r j)) (c (ix2 r j)) (d (ix2 r j)) := by
  rw [← pay3]
  unfold k0_pay6
  pointwise

theorem pay7 : k0_pay7 (F := Ideal) i a b c d x (ix3 0 r j)
    = Adam.fst (x (ix3 0 r j)) (Adam.grad (i 0).val (a (ix2 r j)) (b (ix2 r j)) (c (ix2 r j)) (d (ix2 r j))) := by
  rw [← pay4]
  unfold k0_pay7
  pointwise

theorem pay1 (v : FVec Ideal S352x1024 .f32) : k0_pay1 (F := Ideal) v (ix3 0 r j) = v (ix2 r j) := by
  unfold k0_pay1
  pointwise

theorem bc1 : Named.named (F := Ideal) κ "bc1" (φ := .f32) 0x3FC48605#32 = ((8388608 / 5463681 : ℝ) : EReal) :=
  IdealRules.named_const.ideal_named_scalar _ _ _ _ rfl
theorem bc2 : Named.named (F := Ideal) κ "bc2" (φ := .f32) 0x42C8E6D3#32 = ((268435456 / 2672307 : ℝ) : EReal) :=
  IdealRules.named_const.ideal_named_scalar _ _ _ _ rfl

theorem pay2 (u v : FVec Ideal S352x1024 .f32) : k0_pay2 (F := Ideal) u v w (ix3 0 r j)
    = Adam.step (Ideal.div (u (ix2 r j)) (Ideal.ofBits .f32 0x3F26BD02#32)) (Ideal.div (v (ix2 r j)) (Ideal.ofBits .f32 0x3C231ACC#32)) (w (ix3 0 r j)) := by
  rw [← Adam.div_fst, ← Adam.div_snd]
  unfold k0_pay2 Adam.step
  rw [bc1, bc2]
  pointwise

theorem pay8 (x4 x5 x6 : Vec Ideal S1x352x1024 .f32) : k0_pay8 (F := Ideal) i a b c d x4 x5 x6 = k0_pay5 i a b c d x6 := by
  unfold k0_pay8
  rw [View.ld_unit_zero (S := S352x1024) (by decide) _ a, View.ld_unit_zero (S := S352x1024) (by decide) _ b,
    View.ld_unit_zero (S := S352x1024) (by decide) _ c, View.ld_unit_zero (S := S352x1024) (by decide) _ d,
    View.ld_unit_zero (S := S1x352x1024) (by decide) _ x6]

theorem pay1_snd (x4 x5 x6 : Vec Ideal S1x352x1024 .f32) : k0_pay1 (F := Ideal) (k0_pay8 i a b c d x4 x5 x6) (ix3 0 r j)
    = Adam.snd (x6 (ix3 0 r j)) (Adam.grad (i 0).val (a (ix2 r j)) (b (ix2 r j)) (c (ix2 r j)) (d (ix2 r j))) := by
  rw [pay1, pay8, pay5]

theorem pay2_delta (x4 x5 x6 : Vec Ideal S1x352x1024 .f32) :
    k0_pay2 (F := Ideal) (k0_pay4 i a b c d x5) (k0_pay8 i a b c d x4 x5 x6) x4 (ix3 0 r j)
    = Adam.delta (x4 (ix3 0 r j)) (Adam.grad (i 0).val (a (ix2 r j)) (b (ix2 r j)) (c (ix2 r j)) (d (ix2 r j)))
        (x5 (ix3 0 r j)) (x6 (ix3 0 r j)) := by
  rw [pay2, pay8, pay5, pay4]
  rfl

end pay

variable (m : (ℓ : Loc nD τ sig) → Buf (Elt Ideal) ℓ)

theorem e0 : ∀ t : Fin cfg0.N, win0_0.index t = ![t.val % 2, 0] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val % 2, 0] := (by decide +kernel : ∀ t : Fin grid0.N, _)
theorem e3 : ∀ t : Fin cfg0.N, win0_3.index t = ![t.val % 2, 0] := (by decide +kernel : ∀ t : Fin grid0.N, _)
theorem e4 : ∀ t : Fin cfg0.N, win0_4.index t = ![t.val / 2, t.val % 2, 0] := (by decide +kernel : ∀ t : Fin grid0.N, _)
theorem e5 : ∀ t : Fin cfg0.N, win0_5.index t = ![t.val / 2, t.val % 2, 0] := (by decide +kernel : ∀ t : Fin grid0.N, _)
theorem e6 : ∀ t : Fin cfg0.N, win0_6.index t = ![t.val / 2, t.val % 2, 0] := (by decide +kernel : ∀ t : Fin grid0.N, _)
theorem e7 : ∀ t : Fin cfg0.N, win0_7.index t = ![t.val / 2, t.val % 2, 0] := (by decide +kernel : ∀ t : Fin grid0.N, _)
theorem e8 : ∀ t : Fin cfg0.N, win0_8.index t = ![t.val / 2, t.val % 2, 0] := (by decide +kernel : ∀ t : Fin grid0.N, _)
theorem e9 : ∀ t : Fin cfg0.N, win0_9.index t = ![t.val / 2, t.val % 2, 0] := (by decide +kernel : ∀ t : Fin grid0.N, _)
theorem e10 : ∀ t : Fin cfg0.N, win0_10.index t = ![t.val / 2, t.val % 2, 0] := (by decide +kernel : ∀ t : Fin grid0.N, _)
theorem lay : ∀ t : Fin cfg0.N, (grid0.coords t 0).val = t.val / 2 := (by decide +kernel : ∀ t : Fin grid0.N, _)

set_option maxHeartbeats 1000000 in
theorem final7 (c : Dev nD) : (dats m 0 c).arrAt 7 cfg0.N = grad (m ((c : Thread nD τ).loc main_arg0)) (m ((c : Thread nD τ).loc main_arg1))
    (m ((c : Thread nD τ).loc main_arg2)) (m ((c : Thread nD τ).loc main_arg3)) := by
  refine (dats m 0 c).arrAt_eq_of_covers 7 _ (by decide +kernel) fun t hf y => ?_
  blk_simp
  rw [after0_7]; frame_out
  have hy : y = ix3 0 (y 1) (y 2) := by blk_ext
  refine (congrArg _ hy).trans ((pay6 _ _ _ _ _ _ _).trans ?_)
  unfold grad
  rw [← V_main_arg0 m c, ← V_main_arg1 m c, ← V_main_arg2 m c, ← V_main_arg3 m c, lay]
  congr 1 <;> blk_ext [iblk, e0, e1, e2, e3, e7]

set_option maxHeartbeats 1000000 in
theorem final9 (c : Dev nD) : (dats m 0 c).arrAt 9 cfg0.N = fst (grad (m ((c : Thread nD τ).loc main_arg0)) (m ((c : Thread nD τ).loc main_arg1))
    (m ((c : Thread nD τ).loc main_arg2)) (m ((c : Thread nD τ).loc main_arg3))) (m ((c : Thread nD τ).loc main_arg5)) := by
  refine (dats m 0 c).arrAt_eq_of_covers 9 _ (by decide +kernel) fun t hf y => ?_
  blk_simp
  rw [after0_9]; frame_out
  have hy : y = ix3 0 (y 1) (y 2) := by blk_ext
  refine (congrArg _ hy).trans ((pay7 _ _ _ _ _ _ _ _).trans ?_)
  unfold fst grad
  rw [← V_main_arg0 m c, ← V_main_arg1 m c, ← V_main_arg2 m c, ← V_main_arg3 m c, ← V_main_arg5 m c, lay]
  refine congrArg₂ Adam.fst ?_ ?_
  · blk_ext [iblk, e5, e9]
  · congr 1 <;> blk_ext [iblk, e0, e1, e2, e3, e9]

set_option maxHeartbeats 1000000 in
theorem final10 (c : Dev nD) : (dats m 0 c).arrAt 10 cfg0.N = snd (grad (m ((c : Thread nD τ).loc main_arg0)) (m ((c : Thread nD τ).loc main_arg1))
    (m ((c : Thread nD τ).loc main_arg2)) (m ((c : Thread nD τ).loc main_arg3))) (m ((c : Thread nD τ).loc main_arg6)) := by
  refine (dats m 0 c).arrAt_eq_of_covers 10 _ (by decide +kernel) fun t hf y => ?_
  blk_simp
  rw [after0_10]; frame_out
  have hy : y = ix3 0 (y 1) (y 2) := by blk_ext
  refine (congrArg _ hy).trans ((pay1_snd _ _ _ _ _ _ _ _ _ _).trans ?_)
  unfold snd grad
  rw [← V_main_arg0 m c, ← V_main_arg1 m c, ← V_main_arg2 m c, ← V_main_arg3 m c, ← V_main_arg6 m c, lay]
  refine congrArg₂ Adam.snd ?_ ?_
  · blk_ext [iblk, e6, e10]
  · congr 1 <;> blk_ext [iblk, e0, e1, e2, e3, e10]

set_option maxHeartbeats 1000000 in
theorem final8 (c : Dev nD) : (dats m 0 c).arrAt 8 cfg0.N = delta (grad (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]; frame_out
  have hy : y = ix3 0 (y 1) (y 2) := by blk_ext
  refine (congrArg _ hy).trans ((pay2_delta _ _ _ _ _ _ _ _ _ _).trans ?_)
  unfold delta grad
  rw [← V_main_arg0 m c, ← V_main_arg1 m c, ← V_main_arg2 m c, ← V_main_arg3 m c, ← V_main_arg4 m c, ← V_main_arg5 m c, ← V_main_arg6 m c, lay]
  refine Adam.delta_congr ?_ ?_ ?_ ?_
  · blk_ext [iblk, e4, e8]
  · congr 1 <;> blk_ext [iblk, e0, e1, e2, e3, e8]
  · blk_ext [iblk, e5, e8]
  · blk_ext [iblk, e6, e8]

section ref

variable (a b c d : Vec Ideal S704x1024 .f32) (w m v : Vec Ideal S2x704x1024 .f32)

theorem ref4 : AdamDownRefIdeal.Read.val_main_v4 (F := Ideal) a b c d = grad a b c d := by
  funext i
  have hi : i = ix3 (i 0) (i 1) (i 2) := by blk_ext
  rw [hi]
  unfold AdamDownRefIdeal.Read.val_main_v4 AdamDownRefIdeal.Read.val_main_v3 AdamDownRefIdeal.Read.val_main_v2 AdamDownRefIdeal.Read.val_main_v1 AdamDownRefIdeal.Read.val_main_v0 grad Adam.grad
  generalize i 0 = l
  fin_cases l <;> pointwise

theorem ref9 : AdamDownRefIdeal.Read.val_main_v9 (F := Ideal) a b c d m = fst (grad a b c d) m := by
  unfold AdamDownRefIdeal.Read.val_main_v9 AdamDownRefIdeal.Read.val_main_v8 AdamDownRefIdeal.Read.val_main_v7 AdamDownRefIdeal.Read.val_main_cst_0 AdamDownRefIdeal.Read.val_main_v6 AdamDownRefIdeal.Read.val_main_v5 AdamDownRefIdeal.Read.val_main_cst
  rw [ref4]
  generalize grad a b c d = g
  funext i
  unfold fst Adam.fst
  pointwise

theorem ref15 : AdamDownRefIdeal.Read.val_main_v15 (F := Ideal) a b c d v = snd (grad a b c d) v := by
  unfold AdamDownRefIdeal.Read.val_main_v15 AdamDownRefIdeal.Read.val_main_v14 AdamDownRefIdeal.Read.val_main_v13 AdamDownRefIdeal.Read.val_main_cst_2
    AdamDownRefIdeal.Read.val_main_v12 AdamDownRefIdeal.Read.val_main_v11 AdamDownRefIdeal.Read.val_main_v10 AdamDownRefIdeal.Read.val_main_cst_1
  rw [ref4]
  generalize grad a b c d = g
  funext i
  unfold snd Adam.snd
  pointwise

theorem ref28 : AdamDownRefIdeal.Read.val_main_v28 (F := Ideal) a b c d w m v = delta (grad a b c d) w m v := by
  unfold AdamDownRefIdeal.Read.val_main_v28 AdamDownRefIdeal.Read.val_main_v27 AdamDownRefIdeal.Read.val_main_cst_7
    AdamDownRefIdeal.Read.val_main_v26 AdamDownRefIdeal.Read.val_main_v25 AdamDownRefIdeal.Read.val_main_v24 AdamDownRefIdeal.Read.val_main_cst_6
    AdamDownRefIdeal.Read.val_main_v23 AdamDownRefIdeal.Read.val_main_v22 AdamDownRefIdeal.Read.val_main_v21 AdamDownRefIdeal.Read.val_main_cst_5
    AdamDownRefIdeal.Read.val_main_v20 AdamDownRefIdeal.Read.val_main_v19 AdamDownRefIdeal.Read.val_main_v18 AdamDownRefIdeal.Read.val_main_cst_4
    AdamDownRefIdeal.Read.val_main_v17 AdamDownRefIdeal.Read.val_main_v16 AdamDownRefIdeal.Read.val_main_cst_3
  rw [ref9, ref15]
  generalize grad a b c d = g
  funext i
  unfold delta Adam.delta Adam.step fst snd
  pointwise [Ideal.hostUnary_sqrt_def]

end ref

theorem args (a b c d a' b' c' d' : Vec Ideal S704x1024 .f32) (w m v w' m' v' : Vec Ideal S2x704x1024 .f32)
    (ha : a = a') (hb : b = b') (hc : c = c') (hd : d = d') (hw : w = w') (hm : m = m') (hv : v = v') :
    grad a b c d = grad a' b' c' d' ∧ delta (grad a b c d) w m v = delta (grad a' b' c' d') w' m' v'
      ∧ fst (grad a b c d) m = fst (grad a' b' c' d') m' ∧ snd (grad a b c d) v = snd (grad a' b' c' d') v' := by
  subst ha hb hc hd hw hm hv; exact ⟨rfl, rfl, rfl, rfl⟩

/-- The kernel's results are the reference's, from equal arguments. -/
theorem algebraic : Cert.algebraic_AdamDownIdeal_AdamDownRefIdeal (hAdamDownIdeal := Cert.AdamDownIdeal.Gen.facts)
    (hAdamDownRefIdeal := Cert.AdamDownRefIdeal.Gen.facts) := by
  intro m g m' g' _ hargs
  refine ⟨fun c => grad (m ((c : Thread nD τ).loc main_arg0)) (m ((c : Thread nD τ).loc main_arg1))
    (m ((c : Thread nD τ).loc main_arg2)) (m ((c : Thread nD τ).loc main_arg3)),
    fun c => delta (grad (m ((c : Thread nD τ).loc main_arg0)) (m ((c : Thread nD τ).loc main_arg1))
    (m ((c : Thread nD τ).loc main_arg2)) (m ((c : Thread nD τ).loc main_arg3))) (m ((c : Thread nD τ).loc main_arg4)) (m ((c : Thread nD τ).loc main_arg5)) (m ((c : Thread nD τ).loc main_arg6)),
    fun c => fst (grad (m ((c : Thread nD τ).loc main_arg0)) (m ((c : Thread nD τ).loc main_arg1))
    (m ((c : Thread nD τ).loc main_arg2)) (m ((c : Thread nD τ).loc main_arg3))) (m ((c : Thread nD τ).loc main_arg5)),
    fun c => snd (grad (m ((c : Thread nD τ).loc main_arg0)) (m ((c : Thread nD τ).loc main_arg1))
    (m ((c : Thread nD τ).loc main_arg2)) (m ((c : Thread nD τ).loc main_arg3))) (m ((c : Thread nD τ).loc main_arg6)), ?_, ?_⟩
  · refine (θ_run (Cert.AdamDownIdeal.defs (F := Ideal)) _ _).mono (fun r h c => ?_) (Cert.AdamDownIdeal.Value.run_blocks (F := Ideal) m g)
    obtain ⟨h7, h8, h9, h10, hk⟩ := h c
    exact ⟨h7.trans (final7 m c), h8.trans (final8 m c), h9.trans (final9 m c), h10.trans (final10 m c), hk⟩
  · refine (θ_run (Cert.AdamDownRefIdeal.defs (F := Ideal)) _ _).mono (fun r h c => ?_) (Cert.AdamDownRefIdeal.Value.run (F := Ideal) m' g')
    obtain ⟨h4, h28, h9, h15, hk⟩ := h c
    obtain ⟨a0, a1, a2, a3, a4, a5, a6⟩ := hargs c
    obtain ⟨pg, pd, pf, ps⟩ := args _ _ _ _ _ _ _ _ _ _ _ _ _ _ a0 a1 a2 a3 a4 a5 a6
    exact ⟨h4.trans ((Cert.AdamDownRefIdeal.Read.val_main_v4_eq _ _ _ _).trans ((ref4 _ _ _ _).trans pg)),
      h28.trans ((Cert.AdamDownRefIdeal.Read.val_main_v28_eq _ _ _ _ _ _ _).trans ((ref28 _ _ _ _ _ _ _).trans pd)),
      h9.trans ((Cert.AdamDownRefIdeal.Read.val_main_v9_eq _ _ _ _ _).trans ((ref9 _ _ _ _ _).trans pf)),
      h15.trans ((Cert.AdamDownRefIdeal.Read.val_main_v15_eq _ _ _ _ _).trans ((ref15 _ _ _ _ _).trans ps)), hk⟩

end Cert.AdamDownIdeal.Mm

end
-- ==== Proof.AdamSmall.lean ====
/- AdamW on the small weights, packed one after another into the rows of one array. -/
module

public import proofs.«01_k».proof.Proof.Gen.AdamSmallIdeal.Value
public import proofs.«01_k».proof.Proof.Gen.AdamSmallRefIdeal.Read
public import proofs.«01_k».proof.Proof.Gen.AdamSmallRefIdeal.Run
public import proofs.«01_k».proof.Proof.Adam
public import proofs.«01_k».proof.Defs
public import Idealize.ShloMosaic.Lib.Pipeline.ValueKit
public import Idealize.ShloMosaic.Lib.Pointwise

@[expose] public section

set_option maxRecDepth 20000

noncomputable section

namespace Cert.AdamSmallIdeal.Mm

open Cert.AdamSmallIdeal Cert.AdamSmallIdeal.Gen Idealize.ShloMosaic Idealize.ShloMosaic.TcCoe Idealize.SL.Sem

/-- The named constants are the reciprocals of the corrections. -/
theorem preserves : Cert.preserves_AdamSmall_AdamSmallIdeal :=
  ⟨IdealRules.named_const.statement Cert.AdamSmallIdeal.κ "bc1" .f32 0x3FC48605#32 ((8388608 / 5463681 : ℝ) : EReal) rfl,
    IdealRules.named_const.statement Cert.AdamSmallIdeal.κ "bc2" .f32 0x42C8E6D3#32 ((268435456 / 2672307 : ℝ) : EReal) rfl⟩

/-- The new first moments. -/
def fst (g m : Vec Ideal S112x128 .f32) : Vec Ideal S112x128 .f32 := fun i => Adam.fst (m i) (g i)
/-- The new second moments. -/
def snd (g v : Vec Ideal S112x128 .f32) : Vec Ideal S112x128 .f32 := fun i => Adam.snd (v i) (g i)
/-- The weights' changes. -/
def delta (g w m v : Vec Ideal S112x128 .f32) : Vec Ideal S112x128 .f32 := fun i => Adam.delta (w i) (g i) (m i) (v i)

theorem pay1 (g m : Vec Ideal S112x128 .f32) : k0_pay1 (F := Ideal) g m = fst g m := by
  funext i
  unfold k0_pay1 fst Adam.fst
  pointwise

theorem pay2 (g v : Vec Ideal S112x128 .f32) : k0_pay2 (F := Ideal) g v = snd g v := by
  funext i
  unfold k0_pay2 snd Adam.snd
  pointwise

theorem bc1 : Named.named (F := Ideal) κ "bc1" (φ := .f32) 0x3FC48605#32 = ((8388608 / 5463681 : ℝ) : EReal) :=
  IdealRules.named_const.ideal_named_scalar _ _ _ _ rfl
theorem bc2 : Named.named (F := Ideal) κ "bc2" (φ := .f32) 0x42C8E6D3#32 = ((268435456 / 2672307 : ℝ) : EReal) :=
  IdealRules.named_const.ideal_named_scalar _ _ _ _ rfl

theorem pay3 (g m v w : Vec Ideal S112x128 .f32) : k0_pay3 (F := Ideal) g m v w = delta g w m v := by
  funext i
  unfold k0_pay3 delta Adam.delta
  rw [← Adam.div_fst, ← Adam.div_snd, bc1, bc2, pay1, pay2]
  unfold Adam.step fst snd
  pointwise

theorem ref4 (g m : Vec Ideal S112x128 .f32) : AdamSmallRefIdeal.Read.val_main_v4 (F := Ideal) g m = fst g m := by
  funext i
  unfold AdamSmallRefIdeal.Read.val_main_v4 AdamSmallRefIdeal.Read.val_main_v3 AdamSmallRefIdeal.Read.val_main_v2
    AdamSmallRefIdeal.Read.val_main_cst_0 AdamSmallRefIdeal.Read.val_main_v1 AdamSmallRefIdeal.Read.val_main_v0 AdamSmallRefIdeal.Read.val_main_cst fst Adam.fst
  pointwise

theorem ref10 (g v : Vec Ideal S112x128 .f32) : AdamSmallRefIdeal.Read.val_main_v10 (F := Ideal) g v = snd g v := by
  funext i
  unfold AdamSmallRefIdeal.Read.val_main_v10 AdamSmallRefIdeal.Read.val_main_v9 AdamSmallRefIdeal.Read.val_main_v8
    AdamSmallRefIdeal.Read.val_main_cst_2 AdamSmallRefIdeal.Read.val_main_v7 AdamSmallRefIdeal.Read.val_main_v6 AdamSmallRefIdeal.Read.val_main_v5
    AdamSmallRefIdeal.Read.val_main_cst_1 snd Adam.snd
  pointwise

theorem ref23 (g w m v : Vec Ideal S112x128 .f32) : AdamSmallRefIdeal.Read.val_main_v23 (F := Ideal) g w m v = delta g w m v := by
  funext i
  unfold AdamSmallRefIdeal.Read.val_main_v23 AdamSmallRefIdeal.Read.val_main_v22 AdamSmallRefIdeal.Read.val_main_cst_7
    AdamSmallRefIdeal.Read.val_main_v21 AdamSmallRefIdeal.Read.val_main_v20 AdamSmallRefIdeal.Read.val_main_v19 AdamSmallRefIdeal.Read.val_main_cst_6
    AdamSmallRefIdeal.Read.val_main_v18 AdamSmallRefIdeal.Read.val_main_v17 AdamSmallRefIdeal.Read.val_main_v16 AdamSmallRefIdeal.Read.val_main_cst_5
    AdamSmallRefIdeal.Read.val_main_v15 AdamSmallRefIdeal.Read.val_main_v14 AdamSmallRefIdeal.Read.val_main_v13 AdamSmallRefIdeal.Read.val_main_cst_4
    AdamSmallRefIdeal.Read.val_main_v12 AdamSmallRefIdeal.Read.val_main_v11 AdamSmallRefIdeal.Read.val_main_cst_3
  rw [ref4, ref10]
  unfold delta Adam.delta Adam.step fst snd
  pointwise [Ideal.hostUnary_sqrt_def]

theorem args (g w m v g' w' m' v' : Vec Ideal S112x128 .f32) (hg : g = g') (hw : w = w') (hm : m = m') (hv : v = v') :
    delta g w m v = delta g' w' m' v' ∧ fst g m = fst g' m' ∧ snd g v = snd g' v' := by
  subst hg hw hm hv; exact ⟨rfl, rfl, rfl⟩

/-- The kernel's results are the reference's, from equal arguments. -/
theorem algebraic : Cert.algebraic_AdamSmallIdeal_AdamSmallRefIdeal (hAdamSmallIdeal := Cert.AdamSmallIdeal.Gen.facts)
    (hAdamSmallRefIdeal := Cert.AdamSmallRefIdeal.Gen.facts) := by
  intro m g m' g' _ hargs
  refine ⟨fun c => m ((c : Thread nD τ).loc main_arg0),
    fun c => delta (m ((c : Thread nD τ).loc main_arg0)) (m ((c : Thread nD τ).loc main_arg1)) (m ((c : Thread nD τ).loc main_arg2)) (m ((c : Thread nD τ).loc main_arg3)),
    fun c => fst (m ((c : Thread nD τ).loc main_arg0)) (m ((c : Thread nD τ).loc main_arg2)),
    fun c => snd (m ((c : Thread nD τ).loc main_arg0)) (m ((c : Thread nD τ).loc main_arg3)), ?_, ?_⟩
  · refine (θ_run (Cert.AdamSmallIdeal.defs (F := Ideal)) _ _).mono (fun r h c => ?_) (Cert.AdamSmallIdeal.Value.run (F := Ideal) m g)
    obtain ⟨h4, h5, h6, h7, hk⟩ := h c
    exact ⟨h4, h5.trans (pay3 _ _ _ _), h6.trans (pay1 _ _), h7.trans (pay2 _ _), hk⟩
  · refine (θ_run (Cert.AdamSmallRefIdeal.defs (F := Ideal)) _ _).mono (fun r h c => ?_) (Cert.AdamSmallRefIdeal.Value.run (F := Ideal) m' g')
    obtain ⟨h0, h23, h4, h10, hk⟩ := h c
    obtain ⟨a0, a1, a2, a3⟩ := hargs c
    obtain ⟨hd, hf, hs⟩ := args _ _ _ _ _ _ _ _ a0 a1 a2 a3
    exact ⟨h0.trans a0, h23.trans ((Cert.AdamSmallRefIdeal.Read.val_main_v23_eq _ _ _ _).trans ((ref23 _ _ _ _).trans hd)),
      h4.trans ((Cert.AdamSmallRefIdeal.Read.val_main_v4_eq _ _).trans ((ref4 _ _).trans hf)),
      h10.trans ((Cert.AdamSmallRefIdeal.Read.val_main_v10_eq _ _).trans ((ref10 _ _).trans hs)), hk⟩

end Cert.AdamSmallIdeal.Mm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Ref2
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.GateDx
public import proofs.«01_k».proof.Proof.Gen.GateDx.Skeleton
public import proofs.«01_k».proof.Proof.Gen.GateDx.Launch
public import proofs.«01_k».proof.Proof.Gen.GateDx.Points
public import proofs.«01_k».proof.Proof.Gen.GateDx.Frame
public import proofs.«01_k».proof.Proof.Gen.GateDxIdeal
public import proofs.«01_k».proof.Proof.Gen.GateDxIdeal.Skeleton
public import proofs.«01_k».proof.Proof.Gen.GateDxIdeal.Launch
public import proofs.«01_k».proof.Proof.Gen.GateDxIdeal.Points
public import proofs.«01_k».proof.Proof.Gen.GateDxIdeal.Frame
public import proofs.«01_k».proof.Proof.Gen.GateDxIdeal.Value
public import proofs.«01_k».proof.Proof.Gen.GateDxRefIdeal
public import proofs.«01_k».proof.Proof.Gen.GateDxRefIdeal.Run
public import proofs.«01_k».proof.Proof.Gen.GateDxRefIdeal.Read
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDwAttn
public import proofs.«01_k».proof.Proof.Gen.OutDwAttn.Skeleton
public import proofs.«01_k».proof.Proof.Gen.OutDwAttn.Launch
public import proofs.«01_k».proof.Proof.Gen.OutDwAttn.Points
public import proofs.«01_k».proof.Proof.Gen.OutDwAttn.Frame
public import proofs.«01_k».proof.Proof.Gen.OutDwAttnIdeal
public import proofs.«01_k».proof.Proof.Gen.OutDwAttnIdeal.Skeleton
public import proofs.«01_k».proof.Proof.Gen.OutDwAttnIdeal.Launch
public import proofs.«01_k».proof.Proof.Gen.OutDwAttnIdeal.Points
public import proofs.«01_k».proof.Proof.Gen.OutDwAttnIdeal.Frame
public import proofs.«01_k».proof.Proof.Gen.OutDwAttnIdeal.Value
public import proofs.«01_k».proof.Proof.Gen.OutDwAttnRefIdeal
public import proofs.«01_k».proof.Proof.Gen.OutDwAttnRefIdeal.Run
public import proofs.«01_k».proof.Proof.Gen.OutDwAttnRefIdeal.Read
public import proofs.«01_k».proof.Proof.Gen.OutDwSsd
public import proofs.«01_k».proof.Proof.Gen.OutDwSsd.Skeleton
public import proofs.«01_k».proof.Proof.Gen.OutDwSsd.Launch
public import proofs.«01_k».proof.Proof.Gen.OutDwSsd.Points
public import proofs.«01_k».proof.Proof.Gen.OutDwSsd.Frame
public import proofs.«01_k».proof.Proof.Gen.OutDwSsdIdeal
public import proofs.«01_k».proof.Proof.Gen.OutDwSsdIdeal.Skeleton
public import proofs.«01_k».proof.Proof.Gen.OutDwSsdIdeal.Launch
public import proofs.«01_k».proof.Proof.Gen.OutDwSsdIdeal.Points
public import proofs.«01_k».proof.Proof.Gen.OutDwSsdIdeal.Frame
public import proofs.«01_k».proof.Proof.Gen.OutDwSsdIdeal.Value
public import proofs.«01_k».proof.Proof.Gen.OutDwSsdRefIdeal
public import proofs.«01_k».proof.Proof.Gen.OutDwSsdRefIdeal.Run
public import proofs.«01_k».proof.Proof.Gen.OutDwSsdRefIdeal.Read
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.InDwQ
public import proofs.«01_k».proof.Proof.Gen.InDwQ.Skeleton
public import proofs.«01_k».proof.Proof.Gen.InDwQ.Launch
public import proofs.«01_k».proof.Proof.Gen.InDwQ.Points
public import proofs.«01_k».proof.Proof.Gen.InDwQ.Frame
public import proofs.«01_k».proof.Proof.Gen.InDwQIdeal
public import proofs.«01_k».proof.Proof.Gen.InDwQIdeal.Skeleton
public import proofs.«01_k».proof.Proof.Gen.InDwQIdeal.Launch
public import proofs.«01_k».proof.Proof.Gen.InDwQIdeal.Points
public import proofs.«01_k».proof.Proof.Gen.InDwQIdeal.Frame
public import proofs.«01_k».proof.Proof.Gen.InDwQIdeal.Value
public import proofs.«01_k».proof.Proof.Gen.InDwQRefIdeal
public import proofs.«01_k».proof.Proof.Gen.InDwQRefIdeal.Run
public import proofs.«01_k».proof.Proof.Gen.InDwQRefIdeal.Read
public import proofs.«01_k».proof.Proof.Gen.InDwZ
public import proofs.«01_k».proof.Proof.Gen.InDwZ.Skeleton
public import proofs.«01_k».proof.Proof.Gen.InDwZ.Launch
public import proofs.«01_k».proof.Proof.Gen.InDwZ.Points
public import proofs.«01_k».proof.Proof.Gen.InDwZ.Frame
public import proofs.«01_k».proof.Proof.Gen.InDwZIdeal
public import proofs.«01_k».proof.Proof.Gen.InDwZIdeal.Skeleton
public import proofs.«01_k».proof.Proof.Gen.InDwZIdeal.Launch
public import proofs.«01_k».proof.Proof.Gen.InDwZIdeal.Points
public import proofs.«01_k».proof.Proof.Gen.InDwZIdeal.Frame
public import proofs.«01_k».proof.Proof.Gen.InDwZIdeal.Value
public import proofs.«01_k».proof.Proof.Gen.InDwZRefIdeal
public import proofs.«01_k».proof.Proof.Gen.InDwZRefIdeal.Run
public import proofs.«01_k».proof.Proof.Gen.InDwZRefIdeal.Read
public import proofs.«01_k».proof.Proof.Gen.InDwXbc
public import proofs.«01_k».proof.Proof.Gen.InDwXbc.Skeleton
public import proofs.«01_k».proof.Proof.Gen.InDwXbc.Launch
public import proofs.«01_k».proof.Proof.Gen.InDwXbc.Points
public import proofs.«01_k».proof.Proof.Gen.InDwXbc.Frame
public import proofs.«01_k».proof.Proof.Gen.InDwXbcIdeal
public import proofs.«01_k».proof.Proof.Gen.InDwXbcIdeal.Skeleton
public import proofs.«01_k».proof.Proof.Gen.InDwXbcIdeal.Launch
public import proofs.«01_k».proof.Proof.Gen.InDwXbcIdeal.Points
public import proofs.«01_k».proof.Proof.Gen.InDwXbcIdeal.Frame
public import proofs.«01_k».proof.Proof.Gen.InDwXbcIdeal.Value
public import proofs.«01_k».proof.Proof.Gen.InDwXbcRefIdeal
public import proofs.«01_k».proof.Proof.Gen.InDwXbcRefIdeal.Run
public import proofs.«01_k».proof.Proof.Gen.InDwXbcRefIdeal.Read
public import proofs.«01_k».proof.Proof.Gen.InDwKv
public import proofs.«01_k».proof.Proof.Gen.InDwKv.Skeleton
public import proofs.«01_k».proof.Proof.Gen.InDwKv.Launch
public import proofs.«01_k».proof.Proof.Gen.InDwKv.Points
public import proofs.«01_k».proof.Proof.Gen.InDwKv.Frame
public import proofs.«01_k».proof.Proof.Gen.InDwKvIdeal
public import proofs.«01_k».proof.Proof.Gen.InDwKvIdeal.Skeleton
public import proofs.«01_k».proof.Proof.Gen.InDwKvIdeal.Launch
public import proofs.«01_k».proof.Proof.Gen.InDwKvIdeal.Points
public import proofs.«01_k».proof.Proof.Gen.InDwKvIdeal.Frame
public import proofs.«01_k».proof.Proof.Gen.InDwKvIdeal.Value
public import proofs.«01_k».proof.Proof.Gen.InDwKvRefIdeal
public import proofs.«01_k».proof.Proof.Gen.InDwKvRefIdeal.Run
public import proofs.«01_k».proof.Proof.Gen.InDwKvRefIdeal.Read
public import proofs.«01_k».proof.Proof.Gen.InDwDt
public import proofs.«01_k».proof.Proof.Gen.InDwDt.Skeleton
public import proofs.«01_k».proof.Proof.Gen.InDwDt.Launch
public import proofs.«01_k».proof.Proof.Gen.InDwDt.Points
public import proofs.«01_k».proof.Proof.Gen.InDwDt.Frame
public import proofs.«01_k».proof.Proof.Gen.InDwDtIdeal
public import proofs.«01_k».proof.Proof.Gen.InDwDtIdeal.Skeleton
public import proofs.«01_k».proof.Proof.Gen.InDwDtIdeal.Launch
public import proofs.«01_k».proof.Proof.Gen.InDwDtIdeal.Points
public import proofs.«01_k».proof.Proof.Gen.InDwDtIdeal.Frame
public import proofs.«01_k».proof.Proof.Gen.InDwDtIdeal.Value
public import proofs.«01_k».proof.Proof.Gen.InDwDtRefIdeal
public import proofs.«01_k».proof.Proof.Gen.InDwDtRefIdeal.Run
public import proofs.«01_k».proof.Proof.Gen.InDwDtRefIdeal.Read
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal
public import proofs.«01_k».proof.Proof.Gen.InFwdRefIdeal.Run
public import proofs.«01_k».proof.Proof.Gen.InFwdRefIdeal.Read
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal
public import proofs.«01_k».proof.Proof.Gen.OutFwdRefIdeal.Run
public import proofs.«01_k».proof.Proof.Gen.OutFwdRefIdeal.Read
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal
public import proofs.«01_k».proof.Proof.Gen.GateFwdRefIdeal.Run
public import proofs.«01_k».proof.Proof.Gen.GateFwdRefIdeal.Read
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluBwdIdeal.Value
public import proofs.«01_k».proof.Proof.Gen.SwigluBwdRefIdeal
public import proofs.«01_k».proof.Proof.Gen.SwigluBwdRefIdeal.Run
public import proofs.«01_k».proof.Proof.Gen.SwigluBwdRefIdeal.Read
public import proofs.«01_k».proof.Proof.Gen.SwigluFwd
public import proofs.«01_k».proof.Proof.Gen.SwigluFwd.Skeleton
public import proofs.«01_k».proof.Proof.Gen.SwigluFwd.Launch
public import proofs.«01_k».proof.Proof.Gen.SwigluFwd.Points
public import proofs.«01_k».proof.Proof.Gen.SwigluFwd.Frame
public import proofs.«01_k».proof.Proof.Gen.SwigluFwdIdeal
public import proofs.«01_k».proof.Proof.Gen.SwigluFwdIdeal.Skeleton
public import proofs.«01_k».proof.Proof.Gen.SwigluFwdIdeal.Launch
public import proofs.«01_k».proof.Proof.Gen.SwigluFwdIdeal.Points
public import proofs.«01_k».proof.Proof.Gen.SwigluFwdIdeal.Frame
public import proofs.«01_k».proof.Proof.Gen.SwigluFwdIdeal.Value
public import proofs.«01_k».proof.Proof.Gen.SwigluFwdRefIdeal
public import proofs.«01_k».proof.Proof.Gen.SwigluFwdRefIdeal.Run
public import proofs.«01_k».proof.Proof.Gen.SwigluFwdRefIdeal.Read
public import proofs.«01_k».proof.Proof.Gen.RmsFwd
public import proofs.«01_k».proof.Proof.Gen.RmsFwd.Skeleton
public import proofs.«01_k».proof.Proof.Gen.RmsFwd.Launch
public import proofs.«01_k».proof.Proof.Gen.RmsFwd.Points
public import proofs.«01_k».proof.Proof.Gen.RmsFwd.Frame
public import proofs.«01_k».proof.Proof.Gen.RmsFwdIdeal
public import proofs.«01_k».proof.Proof.Gen.RmsFwdIdeal.Skeleton
public import proofs.«01_k».proof.Proof.Gen.RmsFwdIdeal.Launch
public import proofs.«01_k».proof.Proof.Gen.RmsFwdIdeal.Points
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Gen.RmsBwd
public import proofs.«01_k».proof.Proof.Gen.RmsBwd.Skeleton
public import proofs.«01_k».proof.Proof.Gen.RmsBwd.Launch
public import proofs.«01_k».proof.Proof.Gen.RmsBwd.Points
public import proofs.«01_k».proof.Proof.Gen.RmsBwd.Frame
public import proofs.«01_k».proof.Proof.Gen.RmsBwdIdeal
public import proofs.«01_k».proof.Proof.Gen.RmsBwdIdeal.Skeleton
public import proofs.«01_k».proof.Proof.Gen.RmsBwdIdeal.Launch
public import proofs.«01_k».proof.Proof.Gen.RmsBwdIdeal.Points
public import proofs.«01_k».proof.Proof.Gen.RmsBwdIdeal.Frame
public import proofs.«01_k».proof.Proof.Gen.RmsBwdIdeal.Value
public import proofs.«01_k».proof.Proof.Gen.RmsBwdRefIdeal
public import proofs.«01_k».proof.Proof.Gen.RmsBwdRefIdeal.Run
public import proofs.«01_k».proof.Proof.Gen.RmsBwdRefIdeal.Read
public import proofs.«01_k».proof.Proof.Gen.GnFwd
public import proofs.«01_k».proof.Proof.Gen.GnFwd.Skeleton
public import proofs.«01_k».proof.Proof.Gen.GnFwd.Launch
public import proofs.«01_k».proof.Proof.Gen.GnFwd.Points
public import proofs.«01_k».proof.Proof.Gen.GnFwd.Frame
public import proofs.«01_k».proof.Proof.Gen.GnFwdIdeal
public import proofs.«01_k».proof.Proof.Gen.GnFwdIdeal.Skeleton
public import proofs.«01_k».proof.Proof.Gen.GnFwdIdeal.Launch
public import proofs.«01_k».proof.Proof.Gen.GnFwdIdeal.Points
public import proofs.«01_k».proof.Proof.Gen.GnFwdIdeal.Frame
public import proofs.«01_k».proof.Proof.Gen.GnFwdIdeal.Value
public import proofs.«01_k».proof.Proof.Gen.GnFwdRefIdeal
public import proofs.«01_k».proof.Proof.Gen.GnFwdRefIdeal.Run
public import proofs.«01_k».proof.Proof.Gen.GnFwdRefIdeal.Read
public import proofs.«01_k».proof.Proof.Gen.GnBwd
public import proofs.«01_k».proof.Proof.Gen.GnBwd.Skeleton
public import proofs.«01_k».proof.Proof.Gen.GnBwd.Launch
public import proofs.«01_k».proof.Proof.Gen.GnBwd.Points
public import proofs.«01_k».proof.Proof.Gen.GnBwd.Frame
public import proofs.«01_k».proof.Proof.Gen.GnBwdIdeal
public import proofs.«01_k».proof.Proof.Gen.GnBwdIdeal.Skeleton
public import proofs.«01_k».proof.Proof.Gen.GnBwdIdeal.Launch
public import proofs.«01_k».proof.Proof.Gen.GnBwdIdeal.Points
public import proofs.«01_k».proof.Proof.Gen.GnBwdIdeal.Frame
public import proofs.«01_k».proof.Proof.Gen.GnBwdIdeal.Value
public import proofs.«01_k».proof.Proof.Gen.GnBwdRefIdeal
public import proofs.«01_k».proof.Proof.Gen.GnBwdRefIdeal.Run
public import proofs.«01_k».proof.Proof.Gen.GnBwdRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.DownDx
public import proofs.«01_k».proof.Proof.DownDw
public import proofs.«01_k».proof.Proof.UpDw
public import proofs.«01_k».proof.Proof.GateDx
public import proofs.«01_k».proof.Proof.UpDx
public import proofs.«01_k».proof.Proof.OutDx
public import proofs.«01_k».proof.Proof.OutDwAttn
public import proofs.«01_k».proof.Proof.OutDwSsd
public import proofs.«01_k».proof.Proof.InDx
public import proofs.«01_k».proof.Proof.InDwQ
public import proofs.«01_k».proof.Proof.InDwZ
public import proofs.«01_k».proof.Proof.InDwXbc
public import proofs.«01_k».proof.Proof.InDwKv
public import proofs.«01_k».proof.Proof.InDwDt
public import proofs.«01_k».proof.Proof.InFwd
public import proofs.«01_k».proof.Proof.OutFwd
public import proofs.«01_k».proof.Proof.GateFwd
public import proofs.«01_k».proof.Proof.DownFwd
public import proofs.«01_k».proof.Proof.SwigluBwd
public import proofs.«01_k».proof.Proof.SwigluFwd
public import proofs.«01_k».proof.Proof.RmsFwd
public import proofs.«01_k».proof.Proof.RmsBwd
public import proofs.«01_k».proof.Proof.GnFwd
public import proofs.«01_k».proof.Proof.GnBwd
public import proofs.«01_k».proof.Proof.Loss
public import proofs.«01_k».proof.Proof.AdamIn
public import proofs.«01_k».proof.Proof.AdamOut
public import proofs.«01_k».proof.Proof.AdamUp
public import proofs.«01_k».proof.Proof.AdamDown
public import proofs.«01_k».proof.Proof.AdamSmall
public import Idealize.ShloMosaic.Adequacy
public import Idealize.ShloMosaic.Init

@[expose] public section

noncomputable section

namespace Cert.Proof

open Idealize.ShloMosaic Idealize.SL.Sem Cert.Kernel

/-- Equal arguments give equal chunks. -/
theorem args_eq (x0 y0 : Vec Ideal Cert.KernelIdeal.S4x2048x1536 .f32) (x1 y1 : Vec Ideal Cert.KernelIdeal.S4x2048x3456 .f32)
    (x2 y2 x3 y3 x4 y4 : Vec Ideal Cert.KernelIdeal.S16 .f32) (x5 y5 : Vec Ideal Cert.KernelIdeal.S4x2048x1024 .f32)
    (e0 : x0 = y0) (e1 : x1 = y1) (e2 : x2 = y2) (e3 : x3 = y3) (e4 : x4 = y4) (e5 : x5 = y5) :
    Cert.full (Cert.Ref.kk x0 x1 x2 x3 x4 x5) = Cert.full (Cert.chunk y0 y1 y2 y3 y4 y5 (Cert.KernelIdeal.Arr.PV y0 y1 y2 y3)) := by
  subst e0 e1 e2 e3 e4 e5
  rfl

/-- The kernel's result is the reference's, from equal arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.full (Cert.KernelIdeal.Arr.K m c), ?_, ?_⟩
  · refine (θ_run (Cert.KernelIdeal.defs (F := Ideal)) _ _).mono (fun r h c => ?_) (Cert.KernelIdeal.Value.run_blocks (F := Ideal) m g)
    obtain ⟨h7, -, -, h0, h1, h2, h3, h4, h5⟩ := h c
    exact ⟨h7.trans (Cert.KernelIdeal.Arr.final m c), h0, h1, h2, h3, h4, h5⟩
  · refine (θ_run (Cert.ReferenceIdeal.defs (F := Ideal)) _ _).mono (fun r h c => ?_) (Cert.ReferenceIdeal.Value.run (F := Ideal) m' g')
    obtain ⟨hv, hk⟩ := h c
    refine ⟨hv.trans ((Cert.ReferenceIdeal.Read.val_main_v224_eq _).trans ?_), hk⟩
    obtain ⟨e0, e1, e2, e3, e4, e5⟩ := hargs c
    refine (Cert.Ref.ref_eq _ _ _ _ _ _).trans ?_
    exact args_eq _ _ _ _ _ _ _ _ _ _ _ _ e0 e1 e2 e3 e4 e5

theorem claim : Cert.Claim := ⟨Cert.Kernel.Gen.facts, Cert.KernelIdeal.Gen.facts, Cert.ReferenceIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.UpDw.Gen.facts, Cert.UpDwIdeal.Gen.facts, Cert.UpDwRefIdeal.Gen.facts,
  Cert.GateDx.Gen.facts, Cert.GateDxIdeal.Gen.facts, Cert.GateDxRefIdeal.Gen.facts,
  Cert.UpDx.Gen.facts, Cert.UpDxIdeal.Gen.facts, Cert.UpDxRefIdeal.Gen.facts,
  Cert.OutDx.Gen.facts, Cert.OutDxIdeal.Gen.facts, Cert.OutDxRefIdeal.Gen.facts,
  Cert.OutDwAttn.Gen.facts, Cert.OutDwAttnIdeal.Gen.facts, Cert.OutDwAttnRefIdeal.Gen.facts,
  Cert.OutDwSsd.Gen.facts, Cert.OutDwSsdIdeal.Gen.facts, Cert.OutDwSsdRefIdeal.Gen.facts,
  Cert.InDx.Gen.facts, Cert.InDxIdeal.Gen.facts, Cert.InDxRefIdeal.Gen.facts,
  Cert.InDwQ.Gen.facts, Cert.InDwQIdeal.Gen.facts, Cert.InDwQRefIdeal.Gen.facts,
  Cert.InDwZ.Gen.facts, Cert.InDwZIdeal.Gen.facts, Cert.InDwZRefIdeal.Gen.facts,
  Cert.InDwXbc.Gen.facts, Cert.InDwXbcIdeal.Gen.facts, Cert.InDwXbcRefIdeal.Gen.facts,
  Cert.InDwKv.Gen.facts, Cert.InDwKvIdeal.Gen.facts, Cert.InDwKvRefIdeal.Gen.facts,
  Cert.InDwDt.Gen.facts, Cert.InDwDtIdeal.Gen.facts, Cert.InDwDtRefIdeal.Gen.facts,
  Cert.InFwd.Gen.facts, Cert.InFwdIdeal.Gen.facts, Cert.InFwdRefIdeal.Gen.facts,
  Cert.OutFwd.Gen.facts, Cert.OutFwdIdeal.Gen.facts, Cert.OutFwdRefIdeal.Gen.facts,
  Cert.GateFwd.Gen.facts, Cert.GateFwdIdeal.Gen.facts, Cert.GateFwdRefIdeal.Gen.facts,
  Cert.DownFwd.Gen.facts, Cert.DownFwdIdeal.Gen.facts, Cert.DownFwdRefIdeal.Gen.facts,
  Cert.SwigluBwd.Gen.facts, Cert.SwigluBwdIdeal.Gen.facts, Cert.SwigluBwdRefIdeal.Gen.facts,
  Cert.SwigluFwd.Gen.facts, Cert.SwigluFwdIdeal.Gen.facts, Cert.SwigluFwdRefIdeal.Gen.facts,
  Cert.RmsFwd.Gen.facts, Cert.RmsFwdIdeal.Gen.facts, Cert.RmsFwdRefIdeal.Gen.facts,
  Cert.RmsBwd.Gen.facts, Cert.RmsBwdIdeal.Gen.facts, Cert.RmsBwdRefIdeal.Gen.facts,
  Cert.GnFwd.Gen.facts, Cert.GnFwdIdeal.Gen.facts, Cert.GnFwdRefIdeal.Gen.facts,
  Cert.GnBwd.Gen.facts, Cert.GnBwdIdeal.Gen.facts, Cert.GnBwdRefIdeal.Gen.facts,
  Cert.Loss.Gen.facts, Cert.LossIdeal.Gen.facts, Cert.LossRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  fun m g _ => Cert.Kernel.Gen.frame m g,
  fun m g _ => Cert.KernelIdeal.Gen.frame m g,
  fun m g _ => (θ_run (Cert.ReferenceIdeal.defs (F := Ideal)) _ _).mono
    (fun r h => ⟨fun c => (h c).2, sem_eq_zero_of_no_sems (by decide) r.2⟩) (Cert.ReferenceIdeal.Value.run (F := Ideal) m g),
  fun m g _ => Cert.DownDx.Gen.frame m g,
  fun m g _ => Cert.DownDxIdeal.Gen.frame m g,
  fun m g _ => (θ_run (Cert.DownDxRefIdeal.defs (F := Ideal)) _ _).mono
    (fun r h => ⟨fun c => (h c).2, sem_eq_zero_of_no_sems (by decide) r.2⟩) (Cert.DownDxRefIdeal.Value.run (F := Ideal) m g),
  fun m g _ => Cert.DownDw.Gen.frame m g,
  fun m g _ => Cert.DownDwIdeal.Gen.frame m g,
  fun m g _ => (θ_run (Cert.DownDwRefIdeal.defs (F := Ideal)) _ _).mono
    (fun r h => ⟨fun c => (h c).2, sem_eq_zero_of_no_sems (by decide) r.2⟩) (Cert.DownDwRefIdeal.Value.run (F := Ideal) m g),
  fun m g _ => Cert.UpDw.Gen.frame m g,
  fun m g _ => Cert.UpDwIdeal.Gen.frame m g,
  fun m g _ => (θ_run (Cert.UpDwRefIdeal.defs (F := Ideal)) _ _).mono
    (fun r h => ⟨fun c => (h c).2, sem_eq_zero_of_no_sems (by decide) r.2⟩) (Cert.UpDwRefIdeal.Value.run (F := Ideal) m g),
  fun m g _ => Cert.GateDx.Gen.frame m g,
  fun m g _ => Cert.GateDxIdeal.Gen.frame m g,
  fun m g _ => (θ_run (Cert.GateDxRefIdeal.defs (F := Ideal)) _ _).mono
    (fun r h => ⟨fun c => (h c).2, sem_eq_zero_of_no_sems (by decide) r.2⟩) (Cert.GateDxRefIdeal.Value.run (F := Ideal) m g),
  fun m g _ => Cert.UpDx.Gen.frame m g,
  fun m g _ => Cert.UpDxIdeal.Gen.frame m g,
  fun m g _ => (θ_run (Cert.UpDxRefIdeal.defs (F := Ideal)) _ _).mono
    (fun r h => ⟨fun c => (h c).2, sem_eq_zero_of_no_sems (by decide) r.2⟩) (Cert.UpDxRefIdeal.Value.run (F := Ideal) m g),
  fun m g _ => Cert.OutDx.Gen.frame m g,
  fun m g _ => Cert.OutDxIdeal.Gen.frame m g,
  fun m g _ => (θ_run (Cert.OutDxRefIdeal.defs (F := Ideal)) _ _).mono
    (fun r h => ⟨fun c => (h c).2, sem_eq_zero_of_no_sems (by decide) r.2⟩) (Cert.OutDxRefIdeal.Value.run (F := Ideal) m g),
  fun m g _ => Cert.OutDwAttn.Gen.frame m g,
  fun m g _ => Cert.OutDwAttnIdeal.Gen.frame m g,
  fun m g _ => (θ_run (Cert.OutDwAttnRefIdeal.defs (F := Ideal)) _ _).mono
    (fun r h => ⟨fun c => (h c).2, sem_eq_zero_of_no_sems (by decide) r.2⟩) (Cert.OutDwAttnRefIdeal.Value.run (F := Ideal) m g),
  fun m g _ => Cert.OutDwSsd.Gen.frame m g,
  fun m g _ => Cert.OutDwSsdIdeal.Gen.frame m g,
  fun m g _ => (θ_run (Cert.OutDwSsdRefIdeal.defs (F := Ideal)) _ _).mono
    (fun r h => ⟨fun c => (h c).2, sem_eq_zero_of_no_sems (by decide) r.2⟩) (Cert.OutDwSsdRefIdeal.Value.run (F := Ideal) m g),
  fun m g _ => Cert.InDx.Gen.frame m g,
  fun m g _ => Cert.InDxIdeal.Gen.frame m g,
  fun m g _ => (θ_run (Cert.InDxRefIdeal.defs (F := Ideal)) _ _).mono
    (fun r h => ⟨fun c => (h c).2, sem_eq_zero_of_no_sems (by decide) r.2⟩) (Cert.InDxRefIdeal.Value.run (F := Ideal) m g),
  fun m g _ => Cert.InDwQ.Gen.frame m g,
  fun m g _ => Cert.InDwQIdeal.Gen.frame m g,
  fun m g _ => (θ_run (Cert.InDwQRefIdeal.defs (F := Ideal)) _ _).mono
    (fun r h => ⟨fun c => (h c).2, sem_eq_zero_of_no_sems (by decide) r.2⟩) (Cert.InDwQRefIdeal.Value.run (F := Ideal) m g),
  fun m g _ => Cert.InDwZ.Gen.frame m g,
  fun m g _ => Cert.InDwZIdeal.Gen.frame m g,
  fun m g _ => (θ_run (Cert.InDwZRefIdeal.defs (F := Ideal)) _ _).mono
    (fun r h => ⟨fun c => (h c).2, sem_eq_zero_of_no_sems (by decide) r.2⟩) (Cert.InDwZRefIdeal.Value.run (F := Ideal) m g),
  fun m g _ => Cert.InDwXbc.Gen.frame m g,
  fun m g _ => Cert.InDwXbcIdeal.Gen.frame m g,
  fun m g _ => (θ_run (Cert.InDwXbcRefIdeal.defs (F := Ideal)) _ _).mono
    (fun r h => ⟨fun c => (h c).2, sem_eq_zero_of_no_sems (by decide) r.2⟩) (Cert.InDwXbcRefIdeal.Value.run (F := Ideal) m g),
  fun m g _ => Cert.InDwKv.Gen.frame m g,
  fun m g _ => Cert.InDwKvIdeal.Gen.frame m g,
  fun m g _ => (θ_run (Cert.InDwKvRefIdeal.defs (F := Ideal)) _ _).mono
    (fun r h => ⟨fun c => (h c).2, sem_eq_zero_of_no_sems (by decide) r.2⟩) (Cert.InDwKvRefIdeal.Value.run (F := Ideal) m g),
  fun m g _ => Cert.InDwDt.Gen.frame m g,
  fun m g _ => Cert.InDwDtIdeal.Gen.frame m g,
  fun m g _ => (θ_run (Cert.InDwDtRefIdeal.defs (F := Ideal)) _ _).mono
    (fun r h => ⟨fun c => (h c).2, sem_eq_zero_of_no_sems (by decide) r.2⟩) (Cert.InDwDtRefIdeal.Value.run (F := Ideal) m g),
  fun m g _ => Cert.InFwd.Gen.frame m g,
  fun m g _ => Cert.InFwdIdeal.Gen.frame m g,
  fun m g _ => (θ_run (Cert.InFwdRefIdeal.defs (F := Ideal)) _ _).mono
    (fun r h => ⟨fun c => (h c).2, sem_eq_zero_of_no_sems (by decide) r.2⟩) (Cert.InFwdRefIdeal.Value.run (F := Ideal) m g),
  fun m g _ => Cert.OutFwd.Gen.frame m g,
  fun m g _ => Cert.OutFwdIdeal.Gen.frame m g,
  fun m g _ => (θ_run (Cert.OutFwdRefIdeal.defs (F := Ideal)) _ _).mono
    (fun r h => ⟨fun c => (h c).2, sem_eq_zero_of_no_sems (by decide) r.2⟩) (Cert.OutFwdRefIdeal.Value.run (F := Ideal) m g),
  fun m g _ => Cert.GateFwd.Gen.frame m g,
  fun m g _ => Cert.GateFwdIdeal.Gen.frame m g,
  fun m g _ => (θ_run (Cert.GateFwdRefIdeal.defs (F := Ideal)) _ _).mono
    (fun r h => ⟨fun c => (h c).2, sem_eq_zero_of_no_sems (by decide) r.2⟩) (Cert.GateFwdRefIdeal.Value.run (F := Ideal) m g),
  fun m g _ => Cert.DownFwd.Gen.frame m g,
  fun m g _ => Cert.DownFwdIdeal.Gen.frame m g,
  fun m g _ => (θ_run (Cert.DownFwdRefIdeal.defs (F := Ideal)) _ _).mono
    (fun r h => ⟨fun c => (h c).2, sem_eq_zero_of_no_sems (by decide) r.2⟩) (Cert.DownFwdRefIdeal.Value.run (F := Ideal) m g),
  fun m g _ => Cert.SwigluBwd.Gen.frame m g,
  fun m g _ => Cert.SwigluBwdIdeal.Gen.frame m g,
  fun m g _ => (θ_run (Cert.SwigluBwdRefIdeal.defs (F := Ideal)) _ _).mono
    (fun r h => ⟨fun c => (h c).2.2, sem_eq_zero_of_no_sems (by decide) r.2⟩) (Cert.SwigluBwdRefIdeal.Value.run (F := Ideal) m g),
  fun m g _ => Cert.SwigluFwd.Gen.frame m g,
  fun m g _ => Cert.SwigluFwdIdeal.Gen.frame m g,
  fun m g _ => (θ_run (Cert.SwigluFwdRefIdeal.defs (F := Ideal)) _ _).mono
    (fun r h => ⟨fun c => (h c).2, sem_eq_zero_of_no_sems (by decide) r.2⟩) (Cert.SwigluFwdRefIdeal.Value.run (F := Ideal) m g),
  fun m g _ => Cert.RmsFwd.Gen.frame m g,
  fun m g _ => Cert.RmsFwdIdeal.Gen.frame m g,
  fun m g _ => (θ_run (Cert.RmsFwdRefIdeal.defs (F := Ideal)) _ _).mono
    (fun r h => ⟨fun c => (h c).2, sem_eq_zero_of_no_sems (by decide) r.2⟩) (Cert.RmsFwdRefIdeal.Value.run (F := Ideal) m g),
  fun m g _ => Cert.RmsBwd.Gen.frame m g,
  fun m g _ => Cert.RmsBwdIdeal.Gen.frame m g,
  fun m g _ => (θ_run (Cert.RmsBwdRefIdeal.defs (F := Ideal)) _ _).mono
    (fun r h => ⟨fun c => (h c).2.2, sem_eq_zero_of_no_sems (by decide) r.2⟩) (Cert.RmsBwdRefIdeal.Value.run (F := Ideal) m g),
  fun m g _ => Cert.GnFwd.Gen.frame m g,
  fun m g _ => Cert.GnFwdIdeal.Gen.frame m g,
  fun m g _ => (θ_run (Cert.GnFwdRefIdeal.defs (F := Ideal)) _ _).mono
    (fun r h => ⟨fun c => (h c).2, sem_eq_zero_of_no_sems (by decide) r.2⟩) (Cert.GnFwdRefIdeal.Value.run (F := Ideal) m g),
  fun m g _ => Cert.GnBwd.Gen.frame m g,
  fun m g _ => Cert.GnBwdIdeal.Gen.frame m g,
  fun m g _ => (θ_run (Cert.GnBwdRefIdeal.defs (F := Ideal)) _ _).mono
    (fun r h => ⟨fun c => (h c).2.2.2, sem_eq_zero_of_no_sems (by decide) r.2⟩) (Cert.GnBwdRefIdeal.Value.run (F := Ideal) m g),
  fun m g _ => Cert.Loss.Gen.frame m g,
  fun m g _ => Cert.LossIdeal.Gen.frame m g,
  fun m g _ => (θ_run (Cert.LossRefIdeal.defs (F := Ideal)) _ _).mono
    (fun r h => ⟨fun c => (h c).2.2.2, sem_eq_zero_of_no_sems (by decide) r.2⟩) (Cert.LossRefIdeal.Value.run (F := Ideal) m g),
  fun m g _ => Cert.AdamIn.Gen.frame m g,
  fun m g _ => Cert.AdamInIdeal.Gen.frame m g,
  fun m g _ => (θ_run (Cert.AdamInRefIdeal.defs (F := Ideal)) _ _).mono
    (fun r h => ⟨fun c => (h c).2.2.2.2, sem_eq_zero_of_no_sems (by decide) r.2⟩) (Cert.AdamInRefIdeal.Value.run (F := Ideal) m g),
  fun m g _ => Cert.AdamOut.Gen.frame m g,
  fun m g _ => Cert.AdamOutIdeal.Gen.frame m g,
  fun m g _ => (θ_run (Cert.AdamOutRefIdeal.defs (F := Ideal)) _ _).mono
    (fun r h => ⟨fun c => (h c).2.2.2.2, sem_eq_zero_of_no_sems (by decide) r.2⟩) (Cert.AdamOutRefIdeal.Value.run (F := Ideal) m g),
  fun m g _ => Cert.AdamUp.Gen.frame m g,
  fun m g _ => Cert.AdamUpIdeal.Gen.frame m g,
  fun m g _ => (θ_run (Cert.AdamUpRefIdeal.defs (F := Ideal)) _ _).mono
    (fun r h => ⟨fun c => (h c).2.2.2.2, sem_eq_zero_of_no_sems (by decide) r.2⟩) (Cert.AdamUpRefIdeal.Value.run (F := Ideal) m g),
  fun m g _ => Cert.AdamDown.Gen.frame m g,
  fun m g _ => Cert.AdamDownIdeal.Gen.frame m g,
  fun m g _ => (θ_run (Cert.AdamDownRefIdeal.defs (F := Ideal)) _ _).mono
    (fun r h => ⟨fun c => (h c).2.2.2.2, sem_eq_zero_of_no_sems (by decide) r.2⟩) (Cert.AdamDownRefIdeal.Value.run (F := Ideal) m g),
  fun m g _ => Cert.AdamSmall.Gen.frame m g,
  fun m g _ => Cert.AdamSmallIdeal.Gen.frame m g,
  fun m g _ => (θ_run (Cert.AdamSmallRefIdeal.defs (F := Ideal)) _ _).mono
    (fun r h => ⟨fun c => (h c).2.2.2.2, sem_eq_zero_of_no_sems (by decide) r.2⟩) (Cert.AdamSmallRefIdeal.Value.run (F := Ideal) m g),
  trivial, algebraic,
  trivial, Cert.DownDxIdeal.Mm.algebraic,
  trivial, Cert.DownDwIdeal.Mm.algebraic,
  trivial, Cert.UpDwIdeal.Mm.algebraic,
  trivial, Cert.GateDxIdeal.Mm.algebraic,
  trivial, Cert.UpDxIdeal.Mm.algebraic,
  trivial, Cert.OutDxIdeal.Mm.algebraic,
  trivial, Cert.OutDwAttnIdeal.Mm.algebraic,
  trivial, Cert.OutDwSsdIdeal.Mm.algebraic,
  trivial, Cert.InDxIdeal.Mm.algebraic,
  trivial, Cert.InDwQIdeal.Mm.algebraic,
  trivial, Cert.InDwZIdeal.Mm.algebraic,
  trivial, Cert.InDwXbcIdeal.Mm.algebraic,
  trivial, Cert.InDwKvIdeal.Mm.algebraic,
  trivial, Cert.InDwDtIdeal.Mm.algebraic,
  trivial, Cert.InFwdIdeal.Mm.algebraic,
  trivial, Cert.OutFwdIdeal.Mm.algebraic,
  trivial, Cert.GateFwdIdeal.Mm.algebraic,
  trivial, Cert.DownFwdIdeal.Mm.algebraic,
  trivial, Cert.SwigluBwdIdeal.Mm.algebraic,
  trivial, Cert.SwigluFwdIdeal.Mm.algebraic,
  trivial, Cert.RmsFwdIdeal.Mm.algebraic,
  trivial, Cert.RmsBwdIdeal.Mm.algebraic,
  trivial, Cert.GnFwdIdeal.Mm.algebraic,
  trivial, Cert.GnBwdIdeal.Mm.algebraic,
  trivial, Cert.LossIdeal.Mm.algebraic,
  Cert.AdamInIdeal.Mm.preserves, Cert.AdamInIdeal.Mm.algebraic,
  Cert.AdamOutIdeal.Mm.preserves, Cert.AdamOutIdeal.Mm.algebraic,
  Cert.AdamUpIdeal.Mm.preserves, Cert.AdamUpIdeal.Mm.algebraic,
  Cert.AdamDownIdeal.Mm.preserves, Cert.AdamDownIdeal.Mm.algebraic,
  Cert.AdamSmallIdeal.Mm.preserves, Cert.AdamSmallIdeal.Mm.algebraic⟩

end Cert.Proof

end
